-- ==== Defs.lean ====
def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Xatt (m : (ℓ : Loc Cert.Xatt.nD Cert.Xatt.τ Cert.Xatt.sig) → Buf (Elt Bits) ℓ) : Prop :=
  True

def Pre_XattIdeal (m : (ℓ : Loc Cert.XattIdeal.nD Cert.XattIdeal.τ Cert.XattIdeal.sig) → Buf (Elt Ideal) ℓ) : Prop :=
  True

def Pre_XattIdeal_mem_finite [hPre_mem_finite : Cert.Pre_mem_finite.Facts] (m : (ℓ : Loc Cert.XattIdeal.nD Cert.XattIdeal.τ Cert.XattIdeal.sig) → Buf (Elt Ideal) ℓ) : Prop :=
  ∀ c : Dev Cert.XattIdeal.nD,
    (Cert.Pre_mem_finite.fn (F := Ideal) (m ((c.tc : Thread Cert.XattIdeal.nD Cert.XattIdeal.τ).loc Cert.XattIdeal.main_arg0)) (m ((c.tc : Thread Cert.XattIdeal.nD Cert.XattIdeal.τ).loc Cert.XattIdeal.main_arg1)) (m ((c.tc : Thread Cert.XattIdeal.nD Cert.XattIdeal.τ).loc Cert.XattIdeal.main_arg2)) (m ((c.tc : Thread Cert.XattIdeal.nD Cert.XattIdeal.τ).loc Cert.XattIdeal.main_arg3))).1 = (fun _ => 1#1)
    ∧ (Cert.Pre_mem_finite.fn (F := Ideal) (m ((c.tc : Thread Cert.XattIdeal.nD Cert.XattIdeal.τ).loc Cert.XattIdeal.main_arg0)) (m ((c.tc : Thread Cert.XattIdeal.nD Cert.XattIdeal.τ).loc Cert.XattIdeal.main_arg1)) (m ((c.tc : Thread Cert.XattIdeal.nD Cert.XattIdeal.τ).loc Cert.XattIdeal.main_arg2)) (m ((c.tc : Thread Cert.XattIdeal.nD Cert.XattIdeal.τ).loc Cert.XattIdeal.main_arg3))).2.1 = (fun _ => 1#1)
    ∧ (Cert.Pre_mem_finite.fn (F := Ideal) (m ((c.tc : Thread Cert.XattIdeal.nD Cert.XattIdeal.τ).loc Cert.XattIdeal.main_arg0)) (m ((c.tc : Thread Cert.XattIdeal.nD Cert.XattIdeal.τ).loc Cert.XattIdeal.main_arg1)) (m ((c.tc : Thread Cert.XattIdeal.nD Cert.XattIdeal.τ).loc Cert.XattIdeal.main_arg2)) (m ((c.tc : Thread Cert.XattIdeal.nD Cert.XattIdeal.τ).loc Cert.XattIdeal.main_arg3))).2.2 = (fun _ => 1#1)

def Pre_XattRefIdeal (m : (ℓ : Loc Cert.XattRefIdeal.nD Cert.XattRefIdeal.τ Cert.XattRefIdeal.sig) → Buf (Elt Ideal) ℓ) : Prop :=
  True

def Pre_XattRefIdeal_mem_finite [hPre_mem_finite : Cert.Pre_mem_finite.Facts] (m : (ℓ : Loc Cert.XattRefIdeal.nD Cert.XattRefIdeal.τ Cert.XattRefIdeal.sig) → Buf (Elt Ideal) ℓ) : Prop :=
  ∀ c : Dev Cert.XattRefIdeal.nD,
    (Cert.Pre_mem_finite.fn (F := Ideal) (m ((c.tc : Thread Cert.XattRefIdeal.nD Cert.XattRefIdeal.τ).loc Cert.XattRefIdeal.main_arg0)) (m ((c.tc : Thread Cert.XattRefIdeal.nD Cert.XattRefIdeal.τ).loc Cert.XattRefIdeal.main_arg1)) (m ((c.tc : Thread Cert.XattRefIdeal.nD Cert.XattRefIdeal.τ).loc Cert.XattRefIdeal.main_arg2)) (m ((c.tc : Thread Cert.XattRefIdeal.nD Cert.XattRefIdeal.τ).loc Cert.XattRefIdeal.main_arg3))).1 = (fun _ => 1#1)
    ∧ (Cert.Pre_mem_finite.fn (F := Ideal) (m ((c.tc : Thread Cert.XattRefIdeal.nD Cert.XattRefIdeal.τ).loc Cert.XattRefIdeal.main_arg0)) (m ((c.tc : Thread Cert.XattRefIdeal.nD Cert.XattRefIdeal.τ).loc Cert.XattRefIdeal.main_arg1)) (m ((c.tc : Thread Cert.XattRefIdeal.nD Cert.XattRefIdeal.τ).loc Cert.XattRefIdeal.main_arg2)) (m ((c.tc : Thread Cert.XattRefIdeal.nD Cert.XattRefIdeal.τ).loc Cert.XattRefIdeal.main_arg3))).2.1 = (fun _ => 1#1)
    ∧ (Cert.Pre_mem_finite.fn (F := Ideal) (m ((c.tc : Thread Cert.XattRefIdeal.nD Cert.XattRefIdeal.τ).loc Cert.XattRefIdeal.main_arg0)) (m ((c.tc : Thread Cert.XattRefIdeal.nD Cert.XattRefIdeal.τ).loc Cert.XattRefIdeal.main_arg1)) (m ((c.tc : Thread Cert.XattRefIdeal.nD Cert.XattRefIdeal.τ).loc Cert.XattRefIdeal.main_arg2)) (m ((c.tc : Thread Cert.XattRefIdeal.nD Cert.XattRefIdeal.τ).loc Cert.XattRefIdeal.main_arg3))).2.2 = (fun _ => 1#1)

def Pre_Dffn (m : (ℓ : Loc Cert.Dffn.nD Cert.Dffn.τ Cert.Dffn.sig) → Buf (Elt Bits) ℓ) : Prop :=
  True

def Pre_DffnIdeal (m : (ℓ : Loc Cert.DffnIdeal.nD Cert.DffnIdeal.τ Cert.DffnIdeal.sig) → Buf (Elt Ideal) ℓ) : Prop :=
  True

def Pre_DffnIdeal_dffn_finite [hPre_dffn_finite : Cert.Pre_dffn_finite.Facts] (m : (ℓ : Loc Cert.DffnIdeal.nD Cert.DffnIdeal.τ Cert.DffnIdeal.sig) → Buf (Elt Ideal) ℓ) : Prop :=
  ∀ c : Dev Cert.DffnIdeal.nD,
    (Cert.Pre_dffn_finite.fn (F := Ideal) (m ((c.tc : Thread Cert.DffnIdeal.nD Cert.DffnIdeal.τ).loc Cert.DffnIdeal.main_arg0)) (m ((c.tc : Thread Cert.DffnIdeal.nD Cert.DffnIdeal.τ).loc Cert.DffnIdeal.main_arg1)) (m ((c.tc : Thread Cert.DffnIdeal.nD Cert.DffnIdeal.τ).loc Cert.DffnIdeal.main_arg2)) (m ((c.tc : Thread Cert.DffnIdeal.nD Cert.DffnIdeal.τ).loc Cert.DffnIdeal.main_arg3)) (m ((c.tc : Thread Cert.DffnIdeal.nD Cert.DffnIdeal.τ).loc Cert.DffnIdeal.main_arg4))).1 = (fun _ => 1#1)
    ∧ (Cert.Pre_dffn_finite.fn (F := Ideal) (m ((c.tc : Thread Cert.DffnIdeal.nD Cert.DffnIdeal.τ).loc Cert.DffnIdeal.main_arg0)) (m ((c.tc : Thread Cert.DffnIdeal.nD Cert.DffnIdeal.τ).loc Cert.DffnIdeal.main_arg1)) (m ((c.tc : Thread Cert.DffnIdeal.nD Cert.DffnIdeal.τ).loc Cert.DffnIdeal.main_arg2)) (m ((c.tc : Thread Cert.DffnIdeal.nD Cert.DffnIdeal.τ).loc Cert.DffnIdeal.main_arg3)) (m ((c.tc : Thread Cert.DffnIdeal.nD Cert.DffnIdeal.τ).loc Cert.DffnIdeal.main_arg4))).2.1 = (fun _ => 1#1)
    ∧ (Cert.Pre_dffn_finite.fn (F := Ideal) (m ((c.tc : Thread Cert.DffnIdeal.nD Cert.DffnIdeal.τ).loc Cert.DffnIdeal.main_arg0)) (m ((c.tc : Thread Cert.DffnIdeal.nD Cert.DffnIdeal.τ).loc Cert.DffnIdeal.main_arg1)) (m ((c.tc : Thread Cert.DffnIdeal.nD Cert.DffnIdeal.τ).loc Cert.DffnIdeal.main_arg2)) (m ((c.tc : Thread Cert.DffnIdeal.nD Cert.DffnIdeal.τ).loc Cert.DffnIdeal.main_arg3)) (m ((c.tc : Thread Cert.DffnIdeal.nD Cert.DffnIdeal.τ).loc Cert.DffnIdeal.main_arg4))).2.2.1 = (fun _ => 1#1)
    ∧ (Cert.Pre_dffn_finite.fn (F := Ideal) (m ((c.tc : Thread Cert.DffnIdeal.nD Cert.DffnIdeal.τ).loc Cert.DffnIdeal.main_arg0)) (m ((c.tc : Thread Cert.DffnIdeal.nD Cert.DffnIdeal.τ).loc Cert.DffnIdeal.main_arg1)) (m ((c.tc : Thread Cert.DffnIdeal.nD Cert.DffnIdeal.τ).loc Cert.DffnIdeal.main_arg2)) (m ((c.tc : Thread Cert.DffnIdeal.nD Cert.DffnIdeal.τ).loc Cert.DffnIdeal.main_arg3)) (m ((c.tc : Thread Cert.DffnIdeal.nD Cert.DffnIdeal.τ).loc Cert.DffnIdeal.main_arg4))).2.2.2 = (fun _ => 1#1)

def Pre_DffnRefIdeal (m : (ℓ : Loc Cert.DffnRefIdeal.nD Cert.DffnRefIdeal.τ Cert.DffnRefIdeal.sig) → Buf (Elt Ideal) ℓ) : Prop :=
  True

def Pre_DffnRefIdeal_dffn_finite [hPre_dffn_finite : Cert.Pre_dffn_finite.Facts] (m : (ℓ : Loc Cert.DffnRefIdeal.nD Cert.DffnRefIdeal.τ Cert.DffnRefIdeal.sig) → Buf (Elt Ideal) ℓ) : Prop :=
  ∀ c : Dev Cert.DffnRefIdeal.nD,
    (Cert.Pre_dffn_finite.fn (F := Ideal) (m ((c.tc : Thread Cert.DffnRefIdeal.nD Cert.DffnRefIdeal.τ).loc Cert.DffnRefIdeal.main_arg0)) (m ((c.tc : Thread Cert.DffnRefIdeal.nD Cert.DffnRefIdeal.τ).loc Cert.DffnRefIdeal.main_arg1)) (m ((c.tc : Thread Cert.DffnRefIdeal.nD Cert.DffnRefIdeal.τ).loc Cert.DffnRefIdeal.main_arg2)) (m ((c.tc : Thread Cert.DffnRefIdeal.nD Cert.DffnRefIdeal.τ).loc Cert.DffnRefIdeal.main_arg3)) (m ((c.tc : Thread Cert.DffnRefIdeal.nD Cert.DffnRefIdeal.τ).loc Cert.DffnRefIdeal.main_arg4))).1 = (fun _ => 1#1)
    ∧ (Cert.Pre_dffn_finite.fn (F := Ideal) (m ((c.tc : Thread Cert.DffnRefIdeal.nD Cert.DffnRefIdeal.τ).loc Cert.DffnRefIdeal.main_arg0)) (m ((c.tc : Thread Cert.DffnRefIdeal.nD Cert.DffnRefIdeal.τ).loc Cert.DffnRefIdeal.main_arg1)) (m ((c.tc : Thread Cert.DffnRefIdeal.nD Cert.DffnRefIdeal.τ).loc Cert.DffnRefIdeal.main_arg2)) (m ((c.tc : Thread Cert.DffnRefIdeal.nD Cert.DffnRefIdeal.τ).loc Cert.DffnRefIdeal.main_arg3)) (m ((c.tc : Thread Cert.DffnRefIdeal.nD Cert.DffnRefIdeal.τ).loc Cert.DffnRefIdeal.main_arg4))).2.1 = (fun _ => 1#1)
    ∧ (Cert.Pre_dffn_finite.fn (F := Ideal) (m ((c.tc : Thread Cert.DffnRefIdeal.nD Cert.DffnRefIdeal.τ).loc Cert.DffnRefIdeal.main_arg0)) (m ((c.tc : Thread Cert.DffnRefIdeal.nD Cert.DffnRefIdeal.τ).loc Cert.DffnRefIdeal.main_arg1)) (m ((c.tc : Thread Cert.DffnRefIdeal.nD Cert.DffnRefIdeal.τ).loc Cert.DffnRefIdeal.main_arg2)) (m ((c.tc : Thread Cert.DffnRefIdeal.nD Cert.DffnRefIdeal.τ).loc Cert.DffnRefIdeal.main_arg3)) (m ((c.tc : Thread Cert.DffnRefIdeal.nD Cert.DffnRefIdeal.τ).loc Cert.DffnRefIdeal.main_arg4))).2.2.1 = (fun _ => 1#1)
    ∧ (Cert.Pre_dffn_finite.fn (F := Ideal) (m ((c.tc : Thread Cert.DffnRefIdeal.nD Cert.DffnRefIdeal.τ).loc Cert.DffnRefIdeal.main_arg0)) (m ((c.tc : Thread Cert.DffnRefIdeal.nD Cert.DffnRefIdeal.τ).loc Cert.DffnRefIdeal.main_arg1)) (m ((c.tc : Thread Cert.DffnRefIdeal.nD Cert.DffnRefIdeal.τ).loc Cert.DffnRefIdeal.main_arg2)) (m ((c.tc : Thread Cert.DffnRefIdeal.nD Cert.DffnRefIdeal.τ).loc Cert.DffnRefIdeal.main_arg3)) (m ((c.tc : Thread Cert.DffnRefIdeal.nD Cert.DffnRefIdeal.τ).loc Cert.DffnRefIdeal.main_arg4))).2.2.2 = (fun _ => 1#1)

def Pre_Foxb (m : (ℓ : Loc Cert.Foxb.nD Cert.Foxb.τ Cert.Foxb.sig) → Buf (Elt Bits) ℓ) : Prop :=
  True

def Pre_FoxbIdeal (m : (ℓ : Loc Cert.FoxbIdeal.nD Cert.FoxbIdeal.τ Cert.FoxbIdeal.sig) → Buf (Elt Ideal) ℓ) : Prop :=
  True

def Pre_FoxbIdeal_fox_finite [hPre_fox_finite : Cert.Pre_fox_finite.Facts] (m : (ℓ : Loc Cert.FoxbIdeal.nD Cert.FoxbIdeal.τ Cert.FoxbIdeal.sig) → Buf (Elt Ideal) ℓ) : Prop :=
  ∀ c : Dev Cert.FoxbIdeal.nD,
    (Cert.Pre_fox_finite.fn (F := Ideal) (m ((c.tc : Thread Cert.FoxbIdeal.nD Cert.FoxbIdeal.τ).loc Cert.FoxbIdeal.main_arg0)) (m ((c.tc : Thread Cert.FoxbIdeal.nD Cert.FoxbIdeal.τ).loc Cert.FoxbIdeal.main_arg1)) (m ((c.tc : Thread Cert.FoxbIdeal.nD Cert.FoxbIdeal.τ).loc Cert.FoxbIdeal.main_arg2)) (m ((c.tc : Thread Cert.FoxbIdeal.nD Cert.FoxbIdeal.τ).loc Cert.FoxbIdeal.main_arg3)) (m ((c.tc : Thread Cert.FoxbIdeal.nD Cert.FoxbIdeal.τ).loc Cert.FoxbIdeal.main_arg4))).1 = (fun _ => 1#1)
    ∧ (Cert.Pre_fox_finite.fn (F := Ideal) (m ((c.tc : Thread Cert.FoxbIdeal.nD Cert.FoxbIdeal.τ).loc Cert.FoxbIdeal.main_arg0)) (m ((c.tc : Thread Cert.FoxbIdeal.nD Cert.FoxbIdeal.τ).loc Cert.FoxbIdeal.main_arg1)) (m ((c.tc : Thread Cert.FoxbIdeal.nD Cert.FoxbIdeal.τ).loc Cert.FoxbIdeal.main_arg2)) (m ((c.tc : Thread Cert.FoxbIdeal.nD Cert.FoxbIdeal.τ).loc Cert.FoxbIdeal.main_arg3)) (m ((c.tc : Thread Cert.FoxbIdeal.nD Cert.FoxbIdeal.τ).loc Cert.FoxbIdeal.main_arg4))).2.1 = (fun _ => 1#1)
    ∧ (Cert.Pre_fox_finite.fn (F := Ideal) (m ((c.tc : Thread Cert.FoxbIdeal.nD Cert.FoxbIdeal.τ).loc Cert.FoxbIdeal.main_arg0)) (m ((c.tc : Thread Cert.FoxbIdeal.nD Cert.FoxbIdeal.τ).loc Cert.FoxbIdeal.main_arg1)) (m ((c.tc : Thread Cert.FoxbIdeal.nD Cert.FoxbIdeal.τ).loc Cert.FoxbIdeal.main_arg2)) (m ((c.tc : Thread Cert.FoxbIdeal.nD Cert.FoxbIdeal.τ).loc Cert.FoxbIdeal.main_arg3)) (m ((c.tc : Thread Cert.FoxbIdeal.nD Cert.FoxbIdeal.τ).loc Cert.FoxbIdeal.main_arg4))).2.2.1 = (fun _ => 1#1)
    ∧ (Cert.Pre_fox_finite.fn (F := Ideal) (m ((c.tc : Thread Cert.FoxbIdeal.nD Cert.FoxbIdeal.τ).loc Cert.FoxbIdeal.main_arg0)) (m ((c.tc : Thread Cert.FoxbIdeal.nD Cert.FoxbIdeal.τ).loc Cert.FoxbIdeal.main_arg1)) (m ((c.tc : Thread Cert.FoxbIdeal.nD Cert.FoxbIdeal.τ).loc Cert.FoxbIdeal.main_arg2)) (m ((c.tc : Thread Cert.FoxbIdeal.nD Cert.FoxbIdeal.τ).loc Cert.FoxbIdeal.main_arg3)) (m ((c.tc : Thread Cert.FoxbIdeal.nD Cert.FoxbIdeal.τ).loc Cert.FoxbIdeal.main_arg4))).2.2.2.1 = (fun _ => 1#1)
    ∧ (Cert.Pre_fox_finite.fn (F := Ideal) (m ((c.tc : Thread Cert.FoxbIdeal.nD Cert.FoxbIdeal.τ).loc Cert.FoxbIdeal.main_arg0)) (m ((c.tc : Thread Cert.FoxbIdeal.nD Cert.FoxbIdeal.τ).loc Cert.FoxbIdeal.main_arg1)) (m ((c.tc : Thread Cert.FoxbIdeal.nD Cert.FoxbIdeal.τ).loc Cert.FoxbIdeal.main_arg2)) (m ((c.tc : Thread Cert.FoxbIdeal.nD Cert.FoxbIdeal.τ).loc Cert.FoxbIdeal.main_arg3)) (m ((c.tc : Thread Cert.FoxbIdeal.nD Cert.FoxbIdeal.τ).loc Cert.FoxbIdeal.main_arg4))).2.2.2.2 = (fun _ => 1#1)

def Pre_FoxbRefIdeal (m : (ℓ : Loc Cert.FoxbRefIdeal.nD Cert.FoxbRefIdeal.τ Cert.FoxbRefIdeal.sig) → Buf (Elt Ideal) ℓ) : Prop :=
  True

def Pre_FoxbRefIdeal_fox_finite [hPre_fox_finite : Cert.Pre_fox_finite.Facts] (m : (ℓ : Loc Cert.FoxbRefIdeal.nD Cert.FoxbRefIdeal.τ Cert.FoxbRefIdeal.sig) → Buf (Elt Ideal) ℓ) : Prop :=
  ∀ c : Dev Cert.FoxbRefIdeal.nD,
    (Cert.Pre_fox_finite.fn (F := Ideal) (m ((c.tc : Thread Cert.FoxbRefIdeal.nD Cert.FoxbRefIdeal.τ).loc Cert.FoxbRefIdeal.main_arg0)) (m ((c.tc : Thread Cert.FoxbRefIdeal.nD Cert.FoxbRefIdeal.τ).loc Cert.FoxbRefIdeal.main_arg1)) (m ((c.tc : Thread Cert.FoxbRefIdeal.nD Cert.FoxbRefIdeal.τ).loc Cert.FoxbRefIdeal.main_arg2)) (m ((c.tc : Thread Cert.FoxbRefIdeal.nD Cert.FoxbRefIdeal.τ).loc Cert.FoxbRefIdeal.main_arg3)) (m ((c.tc : Thread Cert.FoxbRefIdeal.nD Cert.FoxbRefIdeal.τ).loc Cert.FoxbRefIdeal.main_arg4))).1 = (fun _ => 1#1)
    ∧ (Cert.Pre_fox_finite.fn (F := Ideal) (m ((c.tc : Thread Cert.FoxbRefIdeal.nD Cert.FoxbRefIdeal.τ).loc Cert.FoxbRefIdeal.main_arg0)) (m ((c.tc : Thread Cert.FoxbRefIdeal.nD Cert.FoxbRefIdeal.τ).loc Cert.FoxbRefIdeal.main_arg1)) (m ((c.tc : Thread Cert.FoxbRefIdeal.nD Cert.FoxbRefIdeal.τ).loc Cert.FoxbRefIdeal.main_arg2)) (m ((c.tc : Thread Cert.FoxbRefIdeal.nD Cert.FoxbRefIdeal.τ).loc Cert.FoxbRefIdeal.main_arg3)) (m ((c.tc : Thread Cert.FoxbRefIdeal.nD Cert.FoxbRefIdeal.τ).loc Cert.FoxbRefIdeal.main_arg4))).2.1 = (fun _ => 1#1)
    ∧ (Cert.Pre_fox_finite.fn (F := Ideal) (m ((c.tc : Thread Cert.FoxbRefIdeal.nD Cert.FoxbRefIdeal.τ).loc Cert.FoxbRefIdeal.main_arg0)) (m ((c.tc : Thread Cert.FoxbRefIdeal.nD Cert.FoxbRefIdeal.τ).loc Cert.FoxbRefIdeal.main_arg1)) (m ((c.tc : Thread Cert.FoxbRefIdeal.nD Cert.FoxbRefIdeal.τ).loc Cert.FoxbRefIdeal.main_arg2)) (m ((c.tc : Thread Cert.FoxbRefIdeal.nD Cert.FoxbRefIdeal.τ).loc Cert.FoxbRefIdeal.main_arg3)) (m ((c.tc : Thread Cert.FoxbRefIdeal.nD Cert.FoxbRefIdeal.τ).loc Cert.FoxbRefIdeal.main_arg4))).2.2.1 = (fun _ => 1#1)
    ∧ (Cert.Pre_fox_finite.fn (F := Ideal) (m ((c.tc : Thread Cert.FoxbRefIdeal.nD Cert.FoxbRefIdeal.τ).loc Cert.FoxbRefIdeal.main_arg0)) (m ((c.tc : Thread Cert.FoxbRefIdeal.nD Cert.FoxbRefIdeal.τ).loc Cert.FoxbRefIdeal.main_arg1)) (m ((c.tc : Thread Cert.FoxbRefIdeal.nD Cert.FoxbRefIdeal.τ).loc Cert.FoxbRefIdeal.main_arg2)) (m ((c.tc : Thread Cert.FoxbRefIdeal.nD Cert.FoxbRefIdeal.τ).loc Cert.FoxbRefIdeal.main_arg3)) (m ((c.tc : Thread Cert.FoxbRefIdeal.nD Cert.FoxbRefIdeal.τ).loc Cert.FoxbRefIdeal.main_arg4))).2.2.2.1 = (fun _ => 1#1)
    ∧ (Cert.Pre_fox_finite.fn (F := Ideal) (m ((c.tc : Thread Cert.FoxbRefIdeal.nD Cert.FoxbRefIdeal.τ).loc Cert.FoxbRefIdeal.main_arg0)) (m ((c.tc : Thread Cert.FoxbRefIdeal.nD Cert.FoxbRefIdeal.τ).loc Cert.FoxbRefIdeal.main_arg1)) (m ((c.tc : Thread Cert.FoxbRefIdeal.nD Cert.FoxbRefIdeal.τ).loc Cert.FoxbRefIdeal.main_arg2)) (m ((c.tc : Thread Cert.FoxbRefIdeal.nD Cert.FoxbRefIdeal.τ).loc Cert.FoxbRefIdeal.main_arg3)) (m ((c.tc : Thread Cert.FoxbRefIdeal.nD Cert.FoxbRefIdeal.τ).loc Cert.FoxbRefIdeal.main_arg4))).2.2.2.2 = (fun _ => 1#1)

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixIdeal_dmix_finite [hPre_dmix_finite : Cert.Pre_dmix_finite.Facts] (m : (ℓ : Loc Cert.DmixIdeal.nD Cert.DmixIdeal.τ Cert.DmixIdeal.sig) → Buf (Elt Ideal) ℓ) : Prop :=
  ∀ c : Dev Cert.DmixIdeal.nD,
    (Cert.Pre_dmix_finite.fn (F := Ideal) (m ((c.tc : Thread Cert.DmixIdeal.nD Cert.DmixIdeal.τ).loc Cert.DmixIdeal.main_arg0)) (m ((c.tc : Thread Cert.DmixIdeal.nD Cert.DmixIdeal.τ).loc Cert.DmixIdeal.main_arg1)) (m ((c.tc : Thread Cert.DmixIdeal.nD Cert.DmixIdeal.τ).loc Cert.DmixIdeal.main_arg2)) (m ((c.tc : Thread Cert.DmixIdeal.nD Cert.DmixIdeal.τ).loc Cert.DmixIdeal.main_arg3)) (m ((c.tc : Thread Cert.DmixIdeal.nD Cert.DmixIdeal.τ).loc Cert.DmixIdeal.main_arg4))).1 = (fun _ => 1#1)
    ∧ (Cert.Pre_dmix_finite.fn (F := Ideal) (m ((c.tc : Thread Cert.DmixIdeal.nD Cert.DmixIdeal.τ).loc Cert.DmixIdeal.main_arg0)) (m ((c.tc : Thread Cert.DmixIdeal.nD Cert.DmixIdeal.τ).loc Cert.DmixIdeal.main_arg1)) (m ((c.tc : Thread Cert.DmixIdeal.nD Cert.DmixIdeal.τ).loc Cert.DmixIdeal.main_arg2)) (m ((c.tc : Thread Cert.DmixIdeal.nD Cert.DmixIdeal.τ).loc Cert.DmixIdeal.main_arg3)) (m ((c.tc : Thread Cert.DmixIdeal.nD Cert.DmixIdeal.τ).loc Cert.DmixIdeal.main_arg4))).2.1 = (fun _ => 1#1)
    ∧ (Cert.Pre_dmix_finite.fn (F := Ideal) (m ((c.tc : Thread Cert.DmixIdeal.nD Cert.DmixIdeal.τ).loc Cert.DmixIdeal.main_arg0)) (m ((c.tc : Thread Cert.DmixIdeal.nD Cert.DmixIdeal.τ).loc Cert.DmixIdeal.main_arg1)) (m ((c.tc : Thread Cert.DmixIdeal.nD Cert.DmixIdeal.τ).loc Cert.DmixIdeal.main_arg2)) (m ((c.tc : Thread Cert.DmixIdeal.nD Cert.DmixIdeal.τ).loc Cert.DmixIdeal.main_arg3)) (m ((c.tc : Thread Cert.DmixIdeal.nD Cert.DmixIdeal.τ).loc Cert.DmixIdeal.main_arg4))).2.2.1 = (fun _ => 1#1)
    ∧ (Cert.Pre_dmix_finite.fn (F := Ideal) (m ((c.tc : Thread Cert.DmixIdeal.nD Cert.DmixIdeal.τ).loc Cert.DmixIdeal.main_arg0)) (m ((c.tc : Thread Cert.DmixIdeal.nD Cert.DmixIdeal.τ).loc Cert.DmixIdeal.main_arg1)) (m ((c.tc : Thread Cert.DmixIdeal.nD Cert.DmixIdeal.τ).loc Cert.DmixIdeal.main_arg2)) (m ((c.tc : Thread Cert.DmixIdeal.nD Cert.DmixIdeal.τ).loc Cert.DmixIdeal.main_arg3)) (m ((c.tc : Thread Cert.DmixIdeal.nD Cert.DmixIdeal.τ).loc Cert.DmixIdeal.main_arg4))).2.2.2 = (fun _ => 1#1)

def Pre_DmixRefIdeal (m : (ℓ : Loc Cert.DmixRefIdeal.nD Cert.DmixRefIdeal.τ Cert.DmixRefIdeal.sig) → Buf (Elt Ideal) ℓ) : Prop :=
  True

def Pre_DmixRefIdeal_dmix_finite [hPre_dmix_finite : Cert.Pre_dmix_finite.Facts] (m : (ℓ : Loc Cert.DmixRefIdeal.nD Cert.DmixRefIdeal.τ Cert.DmixRefIdeal.sig) → Buf (Elt Ideal) ℓ) : Prop :=
  ∀ c : Dev Cert.DmixRefIdeal.nD,
    (Cert.Pre_dmix_finite.fn (F := Ideal) (m ((c.tc : Thread Cert.DmixRefIdeal.nD Cert.DmixRefIdeal.τ).loc Cert.DmixRefIdeal.main_arg0)) (m ((c.tc : Thread Cert.DmixRefIdeal.nD Cert.DmixRefIdeal.τ).loc Cert.DmixRefIdeal.main_arg1)) (m ((c.tc : Thread Cert.DmixRefIdeal.nD Cert.DmixRefIdeal.τ).loc Cert.DmixRefIdeal.main_arg2)) (m ((c.tc : Thread Cert.DmixRefIdeal.nD Cert.DmixRefIdeal.τ).loc Cert.DmixRefIdeal.main_arg3)) (m ((c.tc : Thread Cert.DmixRefIdeal.nD Cert.DmixRefIdeal.τ).loc Cert.DmixRefIdeal.main_arg4))).1 = (fun _ => 1#1)
    ∧ (Cert.Pre_dmix_finite.fn (F := Ideal) (m ((c.tc : Thread Cert.DmixRefIdeal.nD Cert.DmixRefIdeal.τ).loc Cert.DmixRefIdeal.main_arg0)) (m ((c.tc : Thread Cert.DmixRefIdeal.nD Cert.DmixRefIdeal.τ).loc Cert.DmixRefIdeal.main_arg1)) (m ((c.tc : Thread Cert.DmixRefIdeal.nD Cert.DmixRefIdeal.τ).loc Cert.DmixRefIdeal.main_arg2)) (m ((c.tc : Thread Cert.DmixRefIdeal.nD Cert.DmixRefIdeal.τ).loc Cert.DmixRefIdeal.main_arg3)) (m ((c.tc : Thread Cert.DmixRefIdeal.nD Cert.DmixRefIdeal.τ).loc Cert.DmixRefIdeal.main_arg4))).2.1 = (fun _ => 1#1)
    ∧ (Cert.Pre_dmix_finite.fn (F := Ideal) (m ((c.tc : Thread Cert.DmixRefIdeal.nD Cert.DmixRefIdeal.τ).loc Cert.DmixRefIdeal.main_arg0)) (m ((c.tc : Thread Cert.DmixRefIdeal.nD Cert.DmixRefIdeal.τ).loc Cert.DmixRefIdeal.main_arg1)) (m ((c.tc : Thread Cert.DmixRefIdeal.nD Cert.DmixRefIdeal.τ).loc Cert.DmixRefIdeal.main_arg2)) (m ((c.tc : Thread Cert.DmixRefIdeal.nD Cert.DmixRefIdeal.τ).loc Cert.DmixRefIdeal.main_arg3)) (m ((c.tc : Thread Cert.DmixRefIdeal.nD Cert.DmixRefIdeal.τ).loc Cert.DmixRefIdeal.main_arg4))).2.2.1 = (fun _ => 1#1)
    ∧ (Cert.Pre_dmix_finite.fn (F := Ideal) (m ((c.tc : Thread Cert.DmixRefIdeal.nD Cert.DmixRefIdeal.τ).loc Cert.DmixRefIdeal.main_arg0)) (m ((c.tc : Thread Cert.DmixRefIdeal.nD Cert.DmixRefIdeal.τ).loc Cert.DmixRefIdeal.main_arg1)) (m ((c.tc : Thread Cert.DmixRefIdeal.nD Cert.DmixRefIdeal.τ).loc Cert.DmixRefIdeal.main_arg2)) (m ((c.tc : Thread Cert.DmixRefIdeal.nD Cert.DmixRefIdeal.τ).loc Cert.DmixRefIdeal.main_arg3)) (m ((c.tc : Thread Cert.DmixRefIdeal.nD Cert.DmixRefIdeal.τ).loc Cert.DmixRefIdeal.main_arg4))).2.2.2 = (fun _ => 1#1)

def Pre_Fdel (m : (ℓ : Loc Cert.Fdel.nD Cert.Fdel.τ Cert.Fdel.sig) → Buf (Elt Bits) ℓ) : Prop :=
  True

def Pre_FdelIdeal (m : (ℓ : Loc Cert.FdelIdeal.nD Cert.FdelIdeal.τ Cert.FdelIdeal.sig) → Buf (Elt Ideal) ℓ) : Prop :=
  True

def Pre_FdelRefIdeal (m : (ℓ : Loc Cert.FdelRefIdeal.nD Cert.FdelRefIdeal.τ Cert.FdelRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.1 = (fun _ => 1#1)
    ∧ (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))).2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))).2.2.2.2 = (fun _ => 1#1)

def Pre_Foxg (m : (ℓ : Loc Cert.Foxg.nD Cert.Foxg.τ Cert.Foxg.sig) → Buf (Elt Bits) ℓ) : Prop :=
  True

def Pre_FoxgIdeal (m : (ℓ : Loc Cert.FoxgIdeal.nD Cert.FoxgIdeal.τ Cert.FoxgIdeal.sig) → Buf (Elt Ideal) ℓ) : Prop :=
  True

def Pre_FoxgIdeal_foxg_finite [hPre_foxg_finite : Cert.Pre_foxg_finite.Facts] (m : (ℓ : Loc Cert.FoxgIdeal.nD Cert.FoxgIdeal.τ Cert.FoxgIdeal.sig) → Buf (Elt Ideal) ℓ) : Prop :=
  ∀ c : Dev Cert.FoxgIdeal.nD,
    (Cert.Pre_foxg_finite.fn (F := Ideal) (m ((c.tc : Thread Cert.FoxgIdeal.nD Cert.FoxgIdeal.τ).loc Cert.FoxgIdeal.main_arg0)) (m ((c.tc : Thread Cert.FoxgIdeal.nD Cert.FoxgIdeal.τ).loc Cert.FoxgIdeal.main_arg1)) (m ((c.tc : Thread Cert.FoxgIdeal.nD Cert.FoxgIdeal.τ).loc Cert.FoxgIdeal.main_arg2)) (m ((c.tc : Thread Cert.FoxgIdeal.nD Cert.FoxgIdeal.τ).loc Cert.FoxgIdeal.main_arg3)) (m ((c.tc : Thread Cert.FoxgIdeal.nD Cert.FoxgIdeal.τ).loc Cert.FoxgIdeal.main_arg4)) (m ((c.tc : Thread Cert.FoxgIdeal.nD Cert.FoxgIdeal.τ).loc Cert.FoxgIdeal.main_arg5)) (m ((c.tc : Thread Cert.FoxgIdeal.nD Cert.FoxgIdeal.τ).loc Cert.FoxgIdeal.main_arg6)) (m ((c.tc : Thread Cert.FoxgIdeal.nD Cert.FoxgIdeal.τ).loc Cert.FoxgIdeal.main_arg7)) (m ((c.tc : Thread Cert.FoxgIdeal.nD Cert.FoxgIdeal.τ).loc Cert.FoxgIdeal.main_arg8)) (m ((c.tc : Thread Cert.FoxgIdeal.nD Cert.FoxgIdeal.τ).loc Cert.FoxgIdeal.main_arg9))).1 = (fun _ => 1#1)
    ∧ (Cert.Pre_foxg_finite.fn (F := Ideal) (m ((c.tc : Thread Cert.FoxgIdeal.nD Cert.FoxgIdeal.τ).loc Cert.FoxgIdeal.main_arg0)) (m ((c.tc : Thread Cert.FoxgIdeal.nD Cert.FoxgIdeal.τ).loc Cert.FoxgIdeal.main_arg1)) (m ((c.tc : Thread Cert.FoxgIdeal.nD Cert.FoxgIdeal.τ).loc Cert.FoxgIdeal.main_arg2)) (m ((c.tc : Thread Cert.FoxgIdeal.nD Cert.FoxgIdeal.τ).loc Cert.FoxgIdeal.main_arg3)) (m ((c.tc : Thread Cert.FoxgIdeal.nD Cert.FoxgIdeal.τ).loc Cert.FoxgIdeal.main_arg4)) (m ((c.tc : Thread Cert.FoxgIdeal.nD Cert.FoxgIdeal.τ).loc Cert.FoxgIdeal.main_arg5)) (m ((c.tc : Thread Cert.FoxgIdeal.nD Cert.FoxgIdeal.τ).loc Cert.FoxgIdeal.main_arg6)) (m ((c.tc : Thread Cert.FoxgIdeal.nD Cert.FoxgIdeal.τ).loc Cert.FoxgIdeal.main_arg7)) (m ((c.tc : Thread Cert.FoxgIdeal.nD Cert.FoxgIdeal.τ).loc Cert.FoxgIdeal.main_arg8)) (m ((c.tc : Thread Cert.FoxgIdeal.nD Cert.FoxgIdeal.τ).loc Cert.FoxgIdeal.main_arg9))).2.1 = (fun _ => 1#1)
    ∧ (Cert.Pre_foxg_finite.fn (F := Ideal) (m ((c.tc : Thread Cert.FoxgIdeal.nD Cert.FoxgIdeal.τ).loc Cert.FoxgIdeal.main_arg0)) (m ((c.tc : Thread Cert.FoxgIdeal.nD Cert.FoxgIdeal.τ).loc Cert.FoxgIdeal.main_arg1)) (m ((c.tc : Thread Cert.FoxgIdeal.nD Cert.FoxgIdeal.τ).loc Cert.FoxgIdeal.main_arg2)) (m ((c.tc : Thread Cert.FoxgIdeal.nD Cert.FoxgIdeal.τ).loc Cert.FoxgIdeal.main_arg3)) (m ((c.tc : Thread Cert.FoxgIdeal.nD Cert.FoxgIdeal.τ).loc Cert.FoxgIdeal.main_arg4)) (m ((c.tc : Thread Cert.FoxgIdeal.nD Cert.FoxgIdeal.τ).loc Cert.FoxgIdeal.main_arg5)) (m ((c.tc : Thread Cert.FoxgIdeal.nD Cert.FoxgIdeal.τ).loc Cert.FoxgIdeal.main_arg6)) (m ((c.tc : Thread Cert.FoxgIdeal.nD Cert.FoxgIdeal.τ).loc Cert.FoxgIdeal.main_arg7)) (m ((c.tc : Thread Cert.FoxgIdeal.nD Cert.FoxgIdeal.τ).loc Cert.FoxgIdeal.main_arg8)) (m ((c.tc : Thread Cert.FoxgIdeal.nD Cert.FoxgIdeal.τ).loc Cert.FoxgIdeal.main_arg9))).2.2.1 = (fun _ => 1#1)
    ∧ (Cert.Pre_foxg_finite.fn (F := Ideal) (m ((c.tc : Thread Cert.FoxgIdeal.nD Cert.FoxgIdeal.τ).loc Cert.FoxgIdeal.main_arg0)) (m ((c.tc : Thread Cert.FoxgIdeal.nD Cert.FoxgIdeal.τ).loc Cert.FoxgIdeal.main_arg1)) (m ((c.tc : Thread Cert.FoxgIdeal.nD Cert.FoxgIdeal.τ).loc Cert.FoxgIdeal.main_arg2)) (m ((c.tc : Thread Cert.FoxgIdeal.nD Cert.FoxgIdeal.τ).loc Cert.FoxgIdeal.main_arg3)) (m ((c.tc : Thread Cert.FoxgIdeal.nD Cert.FoxgIdeal.τ).loc Cert.FoxgIdeal.main_arg4)) (m ((c.tc : Thread Cert.FoxgIdeal.nD Cert.FoxgIdeal.τ).loc Cert.FoxgIdeal.main_arg5)) (m ((c.tc : Thread Cert.FoxgIdeal.nD Cert.FoxgIdeal.τ).loc Cert.FoxgIdeal.main_arg6)) (m ((c.tc : Thread Cert.FoxgIdeal.nD Cert.FoxgIdeal.τ).loc Cert.FoxgIdeal.main_arg7)) (m ((c.tc : Thread Cert.FoxgIdeal.nD Cert.FoxgIdeal.τ).loc Cert.FoxgIdeal.main_arg8)) (m ((c.tc : Thread Cert.FoxgIdeal.nD Cert.FoxgIdeal.τ).loc Cert.FoxgIdeal.main_arg9))).2.2.2 = (fun _ => 1#1)

def Pre_FoxgRefIdeal (m : (ℓ : Loc Cert.FoxgRefIdeal.nD Cert.FoxgRefIdeal.τ Cert.FoxgRefIdeal.sig) → Buf (Elt Ideal) ℓ) : Prop :=
  True

def Pre_FoxgRefIdeal_foxg_finite [hPre_foxg_finite : Cert.Pre_foxg_finite.Facts] (m : (ℓ : Loc Cert.FoxgRefIdeal.nD Cert.FoxgRefIdeal.τ Cert.FoxgRefIdeal.sig) → Buf (Elt Ideal) ℓ) : Prop :=
  ∀ c : Dev Cert.FoxgRefIdeal.nD,
    (Cert.Pre_foxg_finite.fn (F := Ideal) (m ((c.tc : Thread Cert.FoxgRefIdeal.nD Cert.FoxgRefIdeal.τ).loc Cert.FoxgRefIdeal.main_arg0)) (m ((c.tc : Thread Cert.FoxgRefIdeal.nD Cert.FoxgRefIdeal.τ).loc Cert.FoxgRefIdeal.main_arg1)) (m ((c.tc : Thread Cert.FoxgRefIdeal.nD Cert.FoxgRefIdeal.τ).loc Cert.FoxgRefIdeal.main_arg2)) (m ((c.tc : Thread Cert.FoxgRefIdeal.nD Cert.FoxgRefIdeal.τ).loc Cert.FoxgRefIdeal.main_arg3)) (m ((c.tc : Thread Cert.FoxgRefIdeal.nD Cert.FoxgRefIdeal.τ).loc Cert.FoxgRefIdeal.main_arg4)) (m ((c.tc : Thread Cert.FoxgRefIdeal.nD Cert.FoxgRefIdeal.τ).loc Cert.FoxgRefIdeal.main_arg5)) (m ((c.tc : Thread Cert.FoxgRefIdeal.nD Cert.FoxgRefIdeal.τ).loc Cert.FoxgRefIdeal.main_arg6)) (m ((c.tc : Thread Cert.FoxgRefIdeal.nD Cert.FoxgRefIdeal.τ).loc Cert.FoxgRefIdeal.main_arg7)) (m ((c.tc : Thread Cert.FoxgRefIdeal.nD Cert.FoxgRefIdeal.τ).loc Cert.FoxgRefIdeal.main_arg8)) (m ((c.tc : Thread Cert.FoxgRefIdeal.nD Cert.FoxgRefIdeal.τ).loc Cert.FoxgRefIdeal.main_arg9))).1 = (fun _ => 1#1)
    ∧ (Cert.Pre_foxg_finite.fn (F := Ideal) (m ((c.tc : Thread Cert.FoxgRefIdeal.nD Cert.FoxgRefIdeal.τ).loc Cert.FoxgRefIdeal.main_arg0)) (m ((c.tc : Thread Cert.FoxgRefIdeal.nD Cert.FoxgRefIdeal.τ).loc Cert.FoxgRefIdeal.main_arg1)) (m ((c.tc : Thread Cert.FoxgRefIdeal.nD Cert.FoxgRefIdeal.τ).loc Cert.FoxgRefIdeal.main_arg2)) (m ((c.tc : Thread Cert.FoxgRefIdeal.nD Cert.FoxgRefIdeal.τ).loc Cert.FoxgRefIdeal.main_arg3)) (m ((c.tc : Thread Cert.FoxgRefIdeal.nD Cert.FoxgRefIdeal.τ).loc Cert.FoxgRefIdeal.main_arg4)) (m ((c.tc : Thread Cert.FoxgRefIdeal.nD Cert.FoxgRefIdeal.τ).loc Cert.FoxgRefIdeal.main_arg5)) (m ((c.tc : Thread Cert.FoxgRefIdeal.nD Cert.FoxgRefIdeal.τ).loc Cert.FoxgRefIdeal.main_arg6)) (m ((c.tc : Thread Cert.FoxgRefIdeal.nD Cert.FoxgRefIdeal.τ).loc Cert.FoxgRefIdeal.main_arg7)) (m ((c.tc : Thread Cert.FoxgRefIdeal.nD Cert.FoxgRefIdeal.τ).loc Cert.FoxgRefIdeal.main_arg8)) (m ((c.tc : Thread Cert.FoxgRefIdeal.nD Cert.FoxgRefIdeal.τ).loc Cert.FoxgRefIdeal.main_arg9))).2.1 = (fun _ => 1#1)
    ∧ (Cert.Pre_foxg_finite.fn (F := Ideal) (m ((c.tc : Thread Cert.FoxgRefIdeal.nD Cert.FoxgRefIdeal.τ).loc Cert.FoxgRefIdeal.main_arg0)) (m ((c.tc : Thread Cert.FoxgRefIdeal.nD Cert.FoxgRefIdeal.τ).loc Cert.FoxgRefIdeal.main_arg1)) (m ((c.tc : Thread Cert.FoxgRefIdeal.nD Cert.FoxgRefIdeal.τ).loc Cert.FoxgRefIdeal.main_arg2)) (m ((c.tc : Thread Cert.FoxgRefIdeal.nD Cert.FoxgRefIdeal.τ).loc Cert.FoxgRefIdeal.main_arg3)) (m ((c.tc : Thread Cert.FoxgRefIdeal.nD Cert.FoxgRefIdeal.τ).loc Cert.FoxgRefIdeal.main_arg4)) (m ((c.tc : Thread Cert.FoxgRefIdeal.nD Cert.FoxgRefIdeal.τ).loc Cert.FoxgRefIdeal.main_arg5)) (m ((c.tc : Thread Cert.FoxgRefIdeal.nD Cert.FoxgRefIdeal.τ).loc Cert.FoxgRefIdeal.main_arg6)) (m ((c.tc : Thread Cert.FoxgRefIdeal.nD Cert.FoxgRefIdeal.τ).loc Cert.FoxgRefIdeal.main_arg7)) (m ((c.tc : Thread Cert.FoxgRefIdeal.nD Cert.FoxgRefIdeal.τ).loc Cert.FoxgRefIdeal.main_arg8)) (m ((c.tc : Thread Cert.FoxgRefIdeal.nD Cert.FoxgRefIdeal.τ).loc Cert.FoxgRefIdeal.main_arg9))).2.2.1 = (fun _ => 1#1)
    ∧ (Cert.Pre_foxg_finite.fn (F := Ideal) (m ((c.tc : Thread Cert.FoxgRefIdeal.nD Cert.FoxgRefIdeal.τ).loc Cert.FoxgRefIdeal.main_arg0)) (m ((c.tc : Thread Cert.FoxgRefIdeal.nD Cert.FoxgRefIdeal.τ).loc Cert.FoxgRefIdeal.main_arg1)) (m ((c.tc : Thread Cert.FoxgRefIdeal.nD Cert.FoxgRefIdeal.τ).loc Cert.FoxgRefIdeal.main_arg2)) (m ((c.tc : Thread Cert.FoxgRefIdeal.nD Cert.FoxgRefIdeal.τ).loc Cert.FoxgRefIdeal.main_arg3)) (m ((c.tc : Thread Cert.FoxgRefIdeal.nD Cert.FoxgRefIdeal.τ).loc Cert.FoxgRefIdeal.main_arg4)) (m ((c.tc : Thread Cert.FoxgRefIdeal.nD Cert.FoxgRefIdeal.τ).loc Cert.FoxgRefIdeal.main_arg5)) (m ((c.tc : Thread Cert.FoxgRefIdeal.nD Cert.FoxgRefIdeal.τ).loc Cert.FoxgRefIdeal.main_arg6)) (m ((c.tc : Thread Cert.FoxgRefIdeal.nD Cert.FoxgRefIdeal.τ).loc Cert.FoxgRefIdeal.main_arg7)) (m ((c.tc : Thread Cert.FoxgRefIdeal.nD Cert.FoxgRefIdeal.τ).loc Cert.FoxgRefIdeal.main_arg8)) (m ((c.tc : Thread Cert.FoxgRefIdeal.nD Cert.FoxgRefIdeal.τ).loc Cert.FoxgRefIdeal.main_arg9))).2.2.2 = (fun _ => 1#1)

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Xatt [hXatt : Cert.Xatt.Facts] : Prop :=
  ∀ (m : (ℓ : Loc Cert.Xatt.nD Cert.Xatt.τ Cert.Xatt.sig) → Buf (Elt Bits) ℓ) (g : Dev Cert.Xatt.nD → PrngReg), Pre_Xatt m →
    θ_run (Cert.Xatt.defs (F := Bits)) (onTc (τ := Cert.Xatt.τ) (Cert.Xatt.main (F := Bits))) ⟨m, fun _ => 0, g⟩ (fun r => (∀ c : Dev Cert.Xatt.nD,
      r.2.mem ((c.tc : Thread Cert.Xatt.nD Cert.Xatt.τ).loc Cert.Xatt.main_arg0) = m ((c.tc : Thread Cert.Xatt.nD Cert.Xatt.τ).loc Cert.Xatt.main_arg0)
      ∧ r.2.mem ((c.tc : Thread Cert.Xatt.nD Cert.Xatt.τ).loc Cert.Xatt.main_arg1) = m ((c.tc : Thread Cert.Xatt.nD Cert.Xatt.τ).loc Cert.Xatt.main_arg1)
      ∧ r.2.mem ((c.tc : Thread Cert.Xatt.nD Cert.Xatt.τ).loc Cert.Xatt.main_arg2) = m ((c.tc : Thread Cert.Xatt.nD Cert.Xatt.τ).loc Cert.Xatt.main_arg2)
      ∧ r.2.mem ((c.tc : Thread Cert.Xatt.nD Cert.Xatt.τ).loc Cert.Xatt.main_arg3) = m ((c.tc : Thread Cert.Xatt.nD Cert.Xatt.τ).loc Cert.Xatt.main_arg3))
      ∧ r.2.sem = fun _ => 0)

def quiescent_XattIdeal [hXattIdeal : Cert.XattIdeal.Facts] : Prop :=
  ∀ (m : (ℓ : Loc Cert.XattIdeal.nD Cert.XattIdeal.τ Cert.XattIdeal.sig) → Buf (Elt Ideal) ℓ) (g : Dev Cert.XattIdeal.nD → PrngReg), Pre_XattIdeal m →
    θ_run (Cert.XattIdeal.defs (F := Ideal)) (onTc (τ := Cert.XattIdeal.τ) (Cert.XattIdeal.main (F := Ideal))) ⟨m, fun _ => 0, g⟩ (fun r => (∀ c : Dev Cert.XattIdeal.nD,
      r.2.mem ((c.tc : Thread Cert.XattIdeal.nD Cert.XattIdeal.τ).loc Cert.XattIdeal.main_arg0) = m ((c.tc : Thread Cert.XattIdeal.nD Cert.XattIdeal.τ).loc Cert.XattIdeal.main_arg0)
      ∧ r.2.mem ((c.tc : Thread Cert.XattIdeal.nD Cert.XattIdeal.τ).loc Cert.XattIdeal.main_arg1) = m ((c.tc : Thread Cert.XattIdeal.nD Cert.XattIdeal.τ).loc Cert.XattIdeal.main_arg1)
      ∧ r.2.mem ((c.tc : Thread Cert.XattIdeal.nD Cert.XattIdeal.τ).loc Cert.XattIdeal.main_arg2) = m ((c.tc : Thread Cert.XattIdeal.nD Cert.XattIdeal.τ).loc Cert.XattIdeal.main_arg2)
      ∧ r.2.mem ((c.tc : Thread Cert.XattIdeal.nD Cert.XattIdeal.τ).loc Cert.XattIdeal.main_arg3) = m ((c.tc : Thread Cert.XattIdeal.nD Cert.XattIdeal.τ).loc Cert.XattIdeal.main_arg3))
      ∧ r.2.sem = fun _ => 0)

def quiescent_XattIdeal_pre_mem_finite [hXattIdeal : Cert.XattIdeal.Facts] [hPre_mem_finite : Cert.Pre_mem_finite.Facts] : Prop :=
  ∀ (m : (ℓ : Loc Cert.XattIdeal.nD Cert.XattIdeal.τ Cert.XattIdeal.sig) → Buf (Elt Ideal) ℓ) (g : Dev Cert.XattIdeal.nD → PrngReg), Pre_XattIdeal_mem_finite m →
    θ_run (Cert.XattIdeal.defs (F := Ideal)) (onTc (τ := Cert.XattIdeal.τ) (Cert.XattIdeal.main (F := Ideal))) ⟨m, fun _ => 0, g⟩ (fun r => (∀ c : Dev Cert.XattIdeal.nD,
      r.2.mem ((c.tc : Thread Cert.XattIdeal.nD Cert.XattIdeal.τ).loc Cert.XattIdeal.main_arg0) = m ((c.tc : Thread Cert.XattIdeal.nD Cert.XattIdeal.τ).loc Cert.XattIdeal.main_arg0)
      ∧ r.2.mem ((c.tc : Thread Cert.XattIdeal.nD Cert.XattIdeal.τ).loc Cert.XattIdeal.main_arg1) = m ((c.tc : Thread Cert.XattIdeal.nD Cert.XattIdeal.τ).loc Cert.XattIdeal.main_arg1)
      ∧ r.2.mem ((c.tc : Thread Cert.XattIdeal.nD Cert.XattIdeal.τ).loc Cert.XattIdeal.main_arg2) = m ((c.tc : Thread Cert.XattIdeal.nD Cert.XattIdeal.τ).loc Cert.XattIdeal.main_arg2)
      ∧ r.2.mem ((c.tc : Thread Cert.XattIdeal.nD Cert.XattIdeal.τ).loc Cert.XattIdeal.main_arg3) = m ((c.tc : Thread Cert.XattIdeal.nD Cert.XattIdeal.τ).loc Cert.XattIdeal.main_arg3))
      ∧ r.2.sem = fun _ => 0)

def quiescent_XattRefIdeal [hXattRefIdeal : Cert.XattRefIdeal.Facts] : Prop :=
  ∀ (m : (ℓ : Loc Cert.XattRefIdeal.nD Cert.XattRefIdeal.τ Cert.XattRefIdeal.sig) → Buf (Elt Ideal) ℓ) (g : Dev Cert.XattRefIdeal.nD → PrngReg), Pre_XattRefIdeal m →
    θ_run (Cert.XattRefIdeal.defs (F := Ideal)) (onTc (τ := Cert.XattRefIdeal.τ) (Cert.XattRefIdeal.main (F := Ideal))) ⟨m, fun _ => 0, g⟩ (fun r => (∀ c : Dev Cert.XattRefIdeal.nD,
      r.2.mem ((c.tc : Thread Cert.XattRefIdeal.nD Cert.XattRefIdeal.τ).loc Cert.XattRefIdeal.main_arg0) = m ((c.tc : Thread Cert.XattRefIdeal.nD Cert.XattRefIdeal.τ).loc Cert.XattRefIdeal.main_arg0)
      ∧ r.2.mem ((c.tc : Thread Cert.XattRefIdeal.nD Cert.XattRefIdeal.τ).loc Cert.XattRefIdeal.main_arg1) = m ((c.tc : Thread Cert.XattRefIdeal.nD Cert.XattRefIdeal.τ).loc Cert.XattRefIdeal.main_arg1)
      ∧ r.2.mem ((c.tc : Thread Cert.XattRefIdeal.nD Cert.XattRefIdeal.τ).loc Cert.XattRefIdeal.main_arg2) = m ((c.tc : Thread Cert.XattRefIdeal.nD Cert.XattRefIdeal.τ).loc Cert.XattRefIdeal.main_arg2)
      ∧ r.2.mem ((c.tc : Thread Cert.XattRefIdeal.nD Cert.XattRefIdeal.τ).loc Cert.XattRefIdeal.main_arg3) = m ((c.tc : Thread Cert.XattRefIdeal.nD Cert.XattRefIdeal.τ).loc Cert.XattRefIdeal.main_arg3))
      ∧ r.2.sem = fun _ => 0)

def quiescent_XattRefIdeal_pre_mem_finite [hXattRefIdeal : Cert.XattRefIdeal.Facts] [hPre_mem_finite : Cert.Pre_mem_finite.Facts] : Prop :=
  ∀ (m : (ℓ : Loc Cert.XattRefIdeal.nD Cert.XattRefIdeal.τ Cert.XattRefIdeal.sig) → Buf (Elt Ideal) ℓ) (g : Dev Cert.XattRefIdeal.nD → PrngReg), Pre_XattRefIdeal_mem_finite m →
    θ_run (Cert.XattRefIdeal.defs (F := Ideal)) (onTc (τ := Cert.XattRefIdeal.τ) (Cert.XattRefIdeal.main (F := Ideal))) ⟨m, fun _ => 0, g⟩ (fun r => (∀ c : Dev Cert.XattRefIdeal.nD,
      r.2.mem ((c.tc : Thread Cert.XattRefIdeal.nD Cert.XattRefIdeal.τ).loc Cert.XattRefIdeal.main_arg0) = m ((c.tc : Thread Cert.XattRefIdeal.nD Cert.XattRefIdeal.τ).loc Cert.XattRefIdeal.main_arg0)
      ∧ r.2.mem ((c.tc : Thread Cert.XattRefIdeal.nD Cert.XattRefIdeal.τ).loc Cert.XattRefIdeal.main_arg1) = m ((c.tc : Thread Cert.XattRefIdeal.nD Cert.XattRefIdeal.τ).loc Cert.XattRefIdeal.main_arg1)
      ∧ r.2.mem ((c.tc : Thread Cert.XattRefIdeal.nD Cert.XattRefIdeal.τ).loc Cert.XattRefIdeal.main_arg2) = m ((c.tc : Thread Cert.XattRefIdeal.nD Cert.XattRefIdeal.τ).loc Cert.XattRefIdeal.main_arg2)
      ∧ r.2.mem ((c.tc : Thread Cert.XattRefIdeal.nD Cert.XattRefIdeal.τ).loc Cert.XattRefIdeal.main_arg3) = m ((c.tc : Thread Cert.XattRefIdeal.nD Cert.XattRefIdeal.τ).loc Cert.XattRefIdeal.main_arg3))
      ∧ r.2.sem = fun _ => 0)

def quiescent_Dffn [hDffn : Cert.Dffn.Facts] : Prop :=
  ∀ (m : (ℓ : Loc Cert.Dffn.nD Cert.Dffn.τ Cert.Dffn.sig) → Buf (Elt Bits) ℓ) (g : Dev Cert.Dffn.nD → PrngReg), Pre_Dffn m →
    θ_run (Cert.Dffn.defs (F := Bits)) (onTc (τ := Cert.Dffn.τ) (Cert.Dffn.main (F := Bits))) ⟨m, fun _ => 0, g⟩ (fun r => (∀ c : Dev Cert.Dffn.nD,
      r.2.mem ((c.tc : Thread Cert.Dffn.nD Cert.Dffn.τ).loc Cert.Dffn.main_arg0) = m ((c.tc : Thread Cert.Dffn.nD Cert.Dffn.τ).loc Cert.Dffn.main_arg0)
      ∧ r.2.mem ((c.tc : Thread Cert.Dffn.nD Cert.Dffn.τ).loc Cert.Dffn.main_arg1) = m ((c.tc : Thread Cert.Dffn.nD Cert.Dffn.τ).loc Cert.Dffn.main_arg1)
      ∧ r.2.mem ((c.tc : Thread Cert.Dffn.nD Cert.Dffn.τ).loc Cert.Dffn.main_arg2) = m ((c.tc : Thread Cert.Dffn.nD Cert.Dffn.τ).loc Cert.Dffn.main_arg2)
      ∧ r.2.mem ((c.tc : Thread Cert.Dffn.nD Cert.Dffn.τ).loc Cert.Dffn.main_arg3) = m ((c.tc : Thread Cert.Dffn.nD Cert.Dffn.τ).loc Cert.Dffn.main_arg3)
      ∧ r.2.mem ((c.tc : Thread Cert.Dffn.nD Cert.Dffn.τ).loc Cert.Dffn.main_arg4) = m ((c.tc : Thread Cert.Dffn.nD Cert.Dffn.τ).loc Cert.Dffn.main_arg4))
      ∧ r.2.sem = fun _ => 0)

def quiescent_DffnIdeal [hDffnIdeal : Cert.DffnIdeal.Facts] : Prop :=
  ∀ (m : (ℓ : Loc Cert.DffnIdeal.nD Cert.DffnIdeal.τ Cert.DffnIdeal.sig) → Buf (Elt Ideal) ℓ) (g : Dev Cert.DffnIdeal.nD → PrngReg), Pre_DffnIdeal m →
    θ_run (Cert.DffnIdeal.defs (F := Ideal)) (onTc (τ := Cert.DffnIdeal.τ) (Cert.DffnIdeal.main (F := Ideal))) ⟨m, fun _ => 0, g⟩ (fun r => (∀ c : Dev Cert.DffnIdeal.nD,
      r.2.mem ((c.tc : Thread Cert.DffnIdeal.nD Cert.DffnIdeal.τ).loc Cert.DffnIdeal.main_arg0) = m ((c.tc : Thread Cert.DffnIdeal.nD Cert.DffnIdeal.τ).loc Cert.DffnIdeal.main_arg0)
      ∧ r.2.mem ((c.tc : Thread Cert.DffnIdeal.nD Cert.DffnIdeal.τ).loc Cert.DffnIdeal.main_arg1) = m ((c.tc : Thread Cert.DffnIdeal.nD Cert.DffnIdeal.τ).loc Cert.DffnIdeal.main_arg1)
      ∧ r.2.mem ((c.tc : Thread Cert.DffnIdeal.nD Cert.DffnIdeal.τ).loc Cert.DffnIdeal.main_arg2) = m ((c.tc : Thread Cert.DffnIdeal.nD Cert.DffnIdeal.τ).loc Cert.DffnIdeal.main_arg2)
      ∧ r.2.mem ((c.tc : Thread Cert.DffnIdeal.nD Cert.DffnIdeal.τ).loc Cert.DffnIdeal.main_arg3) = m ((c.tc : Thread Cert.DffnIdeal.nD Cert.DffnIdeal.τ).loc Cert.DffnIdeal.main_arg3)
      ∧ r.2.mem ((c.tc : Thread Cert.DffnIdeal.nD Cert.DffnIdeal.τ).loc Cert.DffnIdeal.main_arg4) = m ((c.tc : Thread Cert.DffnIdeal.nD Cert.DffnIdeal.τ).loc Cert.DffnIdeal.main_arg4))
      ∧ r.2.sem = fun _ => 0)

def quiescent_DffnIdeal_pre_dffn_finite [hDffnIdeal : Cert.DffnIdeal.Facts] [hPre_dffn_finite : Cert.Pre_dffn_finite.Facts] : Prop :=
  ∀ (m : (ℓ : Loc Cert.DffnIdeal.nD Cert.DffnIdeal.τ Cert.DffnIdeal.sig) → Buf (Elt Ideal) ℓ) (g : Dev Cert.DffnIdeal.nD → PrngReg), Pre_DffnIdeal_dffn_finite m →
    θ_run (Cert.DffnIdeal.defs (F := Ideal)) (onTc (τ := Cert.DffnIdeal.τ) (Cert.DffnIdeal.main (F := Ideal))) ⟨m, fun _ => 0, g⟩ (fun r => (∀ c : Dev Cert.DffnIdeal.nD,
      r.2.mem ((c.tc : Thread Cert.DffnIdeal.nD Cert.DffnIdeal.τ).loc Cert.DffnIdeal.main_arg0) = m ((c.tc : Thread Cert.DffnIdeal.nD Cert.DffnIdeal.τ).loc Cert.DffnIdeal.main_arg0)
      ∧ r.2.mem ((c.tc : Thread Cert.DffnIdeal.nD Cert.DffnIdeal.τ).loc Cert.DffnIdeal.main_arg1) = m ((c.tc : Thread Cert.DffnIdeal.nD Cert.DffnIdeal.τ).loc Cert.DffnIdeal.main_arg1)
      ∧ r.2.mem ((c.tc : Thread Cert.DffnIdeal.nD Cert.DffnIdeal.τ).loc Cert.DffnIdeal.main_arg2) = m ((c.tc : Thread Cert.DffnIdeal.nD Cert.DffnIdeal.τ).loc Cert.DffnIdeal.main_arg2)
      ∧ r.2.mem ((c.tc : Thread Cert.DffnIdeal.nD Cert.DffnIdeal.τ).loc Cert.DffnIdeal.main_arg3) = m ((c.tc : Thread Cert.DffnIdeal.nD Cert.DffnIdeal.τ).loc Cert.DffnIdeal.main_arg3)
      ∧ r.2.mem ((c.tc : Thread Cert.DffnIdeal.nD Cert.DffnIdeal.τ).loc Cert.DffnIdeal.main_arg4) = m ((c.tc : Thread Cert.DffnIdeal.nD Cert.DffnIdeal.τ).loc Cert.DffnIdeal.main_arg4))
      ∧ r.2.sem = fun _ => 0)

def quiescent_DffnRefIdeal [hDffnRefIdeal : Cert.DffnRefIdeal.Facts] : Prop :=
  ∀ (m : (ℓ : Loc Cert.DffnRefIdeal.nD Cert.DffnRefIdeal.τ Cert.DffnRefIdeal.sig) → Buf (Elt Ideal) ℓ) (g : Dev Cert.DffnRefIdeal.nD → PrngReg), Pre_DffnRefIdeal m →
    θ_run (Cert.DffnRefIdeal.defs (F := Ideal)) (onTc (τ := Cert.DffnRefIdeal.τ) (Cert.DffnRefIdeal.main (F := Ideal))) ⟨m, fun _ => 0, g⟩ (fun r => (∀ c : Dev Cert.DffnRefIdeal.nD,
      r.2.mem ((c.tc : Thread Cert.DffnRefIdeal.nD Cert.DffnRefIdeal.τ).loc Cert.DffnRefIdeal.main_arg0) = m ((c.tc : Thread Cert.DffnRefIdeal.nD Cert.DffnRefIdeal.τ).loc Cert.DffnRefIdeal.main_arg0)
      ∧ r.2.mem ((c.tc : Thread Cert.DffnRefIdeal.nD Cert.DffnRefIdeal.τ).loc Cert.DffnRefIdeal.main_arg1) = m ((c.tc : Thread Cert.DffnRefIdeal.nD Cert.DffnRefIdeal.τ).loc Cert.DffnRefIdeal.main_arg1)
      ∧ r.2.mem ((c.tc : Thread Cert.DffnRefIdeal.nD Cert.DffnRefIdeal.τ).loc Cert.DffnRefIdeal.main_arg2) = m ((c.tc : Thread Cert.DffnRefIdeal.nD Cert.DffnRefIdeal.τ).loc Cert.DffnRefIdeal.main_arg2)
      ∧ r.2.mem ((c.tc : Thread Cert.DffnRefIdeal.nD Cert.DffnRefIdeal.τ).loc Cert.DffnRefIdeal.main_arg3) = m ((c.tc : Thread Cert.DffnRefIdeal.nD Cert.DffnRefIdeal.τ).loc Cert.DffnRefIdeal.main_arg3)
      ∧ r.2.mem ((c.tc : Thread Cert.DffnRefIdeal.nD Cert.DffnRefIdeal.τ).loc Cert.DffnRefIdeal.main_arg4) = m ((c.tc : Thread Cert.DffnRefIdeal.nD Cert.DffnRefIdeal.τ).loc Cert.DffnRefIdeal.main_arg4))
      ∧ r.2.sem = fun _ => 0)

def quiescent_DffnRefIdeal_pre_dffn_finite [hDffnRefIdeal : Cert.DffnRefIdeal.Facts] [hPre_dffn_finite : Cert.Pre_dffn_finite.Facts] : Prop :=
  ∀ (m : (ℓ : Loc Cert.DffnRefIdeal.nD Cert.DffnRefIdeal.τ Cert.DffnRefIdeal.sig) → Buf (Elt Ideal) ℓ) (g : Dev Cert.DffnRefIdeal.nD → PrngReg), Pre_DffnRefIdeal_dffn_finite m →
    θ_run (Cert.DffnRefIdeal.defs (F := Ideal)) (onTc (τ := Cert.DffnRefIdeal.τ) (Cert.DffnRefIdeal.main (F := Ideal))) ⟨m, fun _ => 0, g⟩ (fun r => (∀ c : Dev Cert.DffnRefIdeal.nD,
      r.2.mem ((c.tc : Thread Cert.DffnRefIdeal.nD Cert.DffnRefIdeal.τ).loc Cert.DffnRefIdeal.main_arg0) = m ((c.tc : Thread Cert.DffnRefIdeal.nD Cert.DffnRefIdeal.τ).loc Cert.DffnRefIdeal.main_arg0)
      ∧ r.2.mem ((c.tc : Thread Cert.DffnRefIdeal.nD Cert.DffnRefIdeal.τ).loc Cert.DffnRefIdeal.main_arg1) = m ((c.tc : Thread Cert.DffnRefIdeal.nD Cert.DffnRefIdeal.τ).loc Cert.DffnRefIdeal.main_arg1)
      ∧ r.2.mem ((c.tc : Thread Cert.DffnRefIdeal.nD Cert.DffnRefIdeal.τ).loc Cert.DffnRefIdeal.main_arg2) = m ((c.tc : Thread Cert.DffnRefIdeal.nD Cert.DffnRefIdeal.τ).loc Cert.DffnRefIdeal.main_arg2)
      ∧ r.2.mem ((c.tc : Thread Cert.DffnRefIdeal.nD Cert.DffnRefIdeal.τ).loc Cert.DffnRefIdeal.main_arg3) = m ((c.tc : Thread Cert.DffnRefIdeal.nD Cert.DffnRefIdeal.τ).loc Cert.DffnRefIdeal.main_arg3)
      ∧ r.2.mem ((c.tc : Thread Cert.DffnRefIdeal.nD Cert.DffnRefIdeal.τ).loc Cert.DffnRefIdeal.main_arg4) = m ((c.tc : Thread Cert.DffnRefIdeal.nD Cert.DffnRefIdeal.τ).loc Cert.DffnRefIdeal.main_arg4))
      ∧ r.2.sem = fun _ => 0)

def quiescent_Foxb [hFoxb : Cert.Foxb.Facts] : Prop :=
  ∀ (m : (ℓ : Loc Cert.Foxb.nD Cert.Foxb.τ Cert.Foxb.sig) → Buf (Elt Bits) ℓ) (g : Dev Cert.Foxb.nD → PrngReg), Pre_Foxb m →
    θ_run (Cert.Foxb.defs (F := Bits)) (onTc (τ := Cert.Foxb.τ) (Cert.Foxb.main (F := Bits))) ⟨m, fun _ => 0, g⟩ (fun r => (∀ c : Dev Cert.Foxb.nD,
      r.2.mem ((c.tc : Thread Cert.Foxb.nD Cert.Foxb.τ).loc Cert.Foxb.main_arg0) = m ((c.tc : Thread Cert.Foxb.nD Cert.Foxb.τ).loc Cert.Foxb.main_arg0)
      ∧ r.2.mem ((c.tc : Thread Cert.Foxb.nD Cert.Foxb.τ).loc Cert.Foxb.main_arg1) = m ((c.tc : Thread Cert.Foxb.nD Cert.Foxb.τ).loc Cert.Foxb.main_arg1)
      ∧ r.2.mem ((c.tc : Thread Cert.Foxb.nD Cert.Foxb.τ).loc Cert.Foxb.main_arg2) = m ((c.tc : Thread Cert.Foxb.nD Cert.Foxb.τ).loc Cert.Foxb.main_arg2)
      ∧ r.2.mem ((c.tc : Thread Cert.Foxb.nD Cert.Foxb.τ).loc Cert.Foxb.main_arg3) = m ((c.tc : Thread Cert.Foxb.nD Cert.Foxb.τ).loc Cert.Foxb.main_arg3)
      ∧ r.2.mem ((c.tc : Thread Cert.Foxb.nD Cert.Foxb.τ).loc Cert.Foxb.main_arg4) = m ((c.tc : Thread Cert.Foxb.nD Cert.Foxb.τ).loc Cert.Foxb.main_arg4))
      ∧ r.2.sem = fun _ => 0)

def quiescent_FoxbIdeal [hFoxbIdeal : Cert.FoxbIdeal.Facts] : Prop :=
  ∀ (m : (ℓ : Loc Cert.FoxbIdeal.nD Cert.FoxbIdeal.τ Cert.FoxbIdeal.sig) → Buf (Elt Ideal) ℓ) (g : Dev Cert.FoxbIdeal.nD → PrngReg), Pre_FoxbIdeal m →
    θ_run (Cert.FoxbIdeal.defs (F := Ideal)) (onTc (τ := Cert.FoxbIdeal.τ) (Cert.FoxbIdeal.main (F := Ideal))) ⟨m, fun _ => 0, g⟩ (fun r => (∀ c : Dev Cert.FoxbIdeal.nD,
      r.2.mem ((c.tc : Thread Cert.FoxbIdeal.nD Cert.FoxbIdeal.τ).loc Cert.FoxbIdeal.main_arg0) = m ((c.tc : Thread Cert.FoxbIdeal.nD Cert.FoxbIdeal.τ).loc Cert.FoxbIdeal.main_arg0)
      ∧ r.2.mem ((c.tc : Thread Cert.FoxbIdeal.nD Cert.FoxbIdeal.τ).loc Cert.FoxbIdeal.main_arg1) = m ((c.tc : Thread Cert.FoxbIdeal.nD Cert.FoxbIdeal.τ).loc Cert.FoxbIdeal.main_arg1)
      ∧ r.2.mem ((c.tc : Thread Cert.FoxbIdeal.nD Cert.FoxbIdeal.τ).loc Cert.FoxbIdeal.main_arg2) = m ((c.tc : Thread Cert.FoxbIdeal.nD Cert.FoxbIdeal.τ).loc Cert.FoxbIdeal.main_arg2)
      ∧ r.2.mem ((c.tc : Thread Cert.FoxbIdeal.nD Cert.FoxbIdeal.τ).loc Cert.FoxbIdeal.main_arg3) = m ((c.tc : Thread Cert.FoxbIdeal.nD Cert.FoxbIdeal.τ).loc Cert.FoxbIdeal.main_arg3)
      ∧ r.2.mem ((c.tc : Thread Cert.FoxbIdeal.nD Cert.FoxbIdeal.τ).loc Cert.FoxbIdeal.main_arg4) = m ((c.tc : Thread Cert.FoxbIdeal.nD Cert.FoxbIdeal.τ).loc Cert.FoxbIdeal.main_arg4))
      ∧ r.2.sem = fun _ => 0)

def quiescent_FoxbIdeal_pre_fox_finite [hFoxbIdeal : Cert.FoxbIdeal.Facts] [hPre_fox_finite : Cert.Pre_fox_finite.Facts] : Prop :=
  ∀ (m : (ℓ : Loc Cert.FoxbIdeal.nD Cert.FoxbIdeal.τ Cert.FoxbIdeal.sig) → Buf (Elt Ideal) ℓ) (g : Dev Cert.FoxbIdeal.nD → PrngReg), Pre_FoxbIdeal_fox_finite m →
    θ_run (Cert.FoxbIdeal.defs (F := Ideal)) (onTc (τ := Cert.FoxbIdeal.τ) (Cert.FoxbIdeal.main (F := Ideal))) ⟨m, fun _ => 0, g⟩ (fun r => (∀ c : Dev Cert.FoxbIdeal.nD,
      r.2.mem ((c.tc : Thread Cert.FoxbIdeal.nD Cert.FoxbIdeal.τ).loc Cert.FoxbIdeal.main_arg0) = m ((c.tc : Thread Cert.FoxbIdeal.nD Cert.FoxbIdeal.τ).loc Cert.FoxbIdeal.main_arg0)
      ∧ r.2.mem ((c.tc : Thread Cert.FoxbIdeal.nD Cert.FoxbIdeal.τ).loc Cert.FoxbIdeal.main_arg1) = m ((c.tc : Thread Cert.FoxbIdeal.nD Cert.FoxbIdeal.τ).loc Cert.FoxbIdeal.main_arg1)
      ∧ r.2.mem ((c.tc : Thread Cert.FoxbIdeal.nD Cert.FoxbIdeal.τ).loc Cert.FoxbIdeal.main_arg2) = m ((c.tc : Thread Cert.FoxbIdeal.nD Cert.FoxbIdeal.τ).loc Cert.FoxbIdeal.main_arg2)
      ∧ r.2.mem ((c.tc : Thread Cert.FoxbIdeal.nD Cert.FoxbIdeal.τ).loc Cert.FoxbIdeal.main_arg3) = m ((c.tc : Thread Cert.FoxbIdeal.nD Cert.FoxbIdeal.τ).loc Cert.FoxbIdeal.main_arg3)
      ∧ r.2.mem ((c.tc : Thread Cert.FoxbIdeal.nD Cert.FoxbIdeal.τ).loc Cert.FoxbIdeal.main_arg4) = m ((c.tc : Thread Cert.FoxbIdeal.nD Cert.FoxbIdeal.τ).loc Cert.FoxbIdeal.main_arg4))
      ∧ r.2.sem = fun _ => 0)

def quiescent_FoxbRefIdeal [hFoxbRefIdeal : Cert.FoxbRefIdeal.Facts] : Prop :=
  ∀ (m : (ℓ : Loc Cert.FoxbRefIdeal.nD Cert.FoxbRefIdeal.τ Cert.FoxbRefIdeal.sig) → Buf (Elt Ideal) ℓ) (g : Dev Cert.FoxbRefIdeal.nD → PrngReg), Pre_FoxbRefIdeal m →
    θ_run (Cert.FoxbRefIdeal.defs (F := Ideal)) (onTc (τ := Cert.FoxbRefIdeal.τ) (Cert.FoxbRefIdeal.main (F := Ideal))) ⟨m, fun _ => 0, g⟩ (fun r => (∀ c : Dev Cert.FoxbRefIdeal.nD,
      r.2.mem ((c.tc : Thread Cert.FoxbRefIdeal.nD Cert.FoxbRefIdeal.τ).loc Cert.FoxbRefIdeal.main_arg0) = m ((c.tc : Thread Cert.FoxbRefIdeal.nD Cert.FoxbRefIdeal.τ).loc Cert.FoxbRefIdeal.main_arg0)
      ∧ r.2.mem ((c.tc : Thread Cert.FoxbRefIdeal.nD Cert.FoxbRefIdeal.τ).loc Cert.FoxbRefIdeal.main_arg1) = m ((c.tc : Thread Cert.FoxbRefIdeal.nD Cert.FoxbRefIdeal.τ).loc Cert.FoxbRefIdeal.main_arg1)
      ∧ r.2.mem ((c.tc : Thread Cert.FoxbRefIdeal.nD Cert.FoxbRefIdeal.τ).loc Cert.FoxbRefIdeal.main_arg2) = m ((c.tc : Thread Cert.FoxbRefIdeal.nD Cert.FoxbRefIdeal.τ).loc Cert.FoxbRefIdeal.main_arg2)
      ∧ r.2.mem ((c.tc : Thread Cert.FoxbRefIdeal.nD Cert.FoxbRefIdeal.τ).loc Cert.FoxbRefIdeal.main_arg3) = m ((c.tc : Thread Cert.FoxbRefIdeal.nD Cert.FoxbRefIdeal.τ).loc Cert.FoxbRefIdeal.main_arg3)
      ∧ r.2.mem ((c.tc : Thread Cert.FoxbRefIdeal.nD Cert.FoxbRefIdeal.τ).loc Cert.FoxbRefIdeal.main_arg4) = m ((c.tc : Thread Cert.FoxbRefIdeal.nD Cert.FoxbRefIdeal.τ).loc Cert.FoxbRefIdeal.main_arg4))
      ∧ r.2.sem = fun _ => 0)

def quiescent_FoxbRefIdeal_pre_fox_finite [hFoxbRefIdeal : Cert.FoxbRefIdeal.Facts] [hPre_fox_finite : Cert.Pre_fox_finite.Facts] : Prop :=
  ∀ (m : (ℓ : Loc Cert.FoxbRefIdeal.nD Cert.FoxbRefIdeal.τ Cert.FoxbRefIdeal.sig) → Buf (Elt Ideal) ℓ) (g : Dev Cert.FoxbRefIdeal.nD → PrngReg), Pre_FoxbRefIdeal_fox_finite m →
    θ_run (Cert.FoxbRefIdeal.defs (F := Ideal)) (onTc (τ := Cert.FoxbRefIdeal.τ) (Cert.FoxbRefIdeal.main (F := Ideal))) ⟨m, fun _ => 0, g⟩ (fun r => (∀ c : Dev Cert.FoxbRefIdeal.nD,
      r.2.mem ((c.tc : Thread Cert.FoxbRefIdeal.nD Cert.FoxbRefIdeal.τ).loc Cert.FoxbRefIdeal.main_arg0) = m ((c.tc : Thread Cert.FoxbRefIdeal.nD Cert.FoxbRefIdeal.τ).loc Cert.FoxbRefIdeal.main_arg0)
      ∧ r.2.mem ((c.tc : Thread Cert.FoxbRefIdeal.nD Cert.FoxbRefIdeal.τ).loc Cert.FoxbRefIdeal.main_arg1) = m ((c.tc : Thread Cert.FoxbRefIdeal.nD Cert.FoxbRefIdeal.τ).loc Cert.FoxbRefIdeal.main_arg1)
      ∧ r.2.mem ((c.tc : Thread Cert.FoxbRefIdeal.nD Cert.FoxbRefIdeal.τ).loc Cert.FoxbRefIdeal.main_arg2) = m ((c.tc : Thread Cert.FoxbRefIdeal.nD Cert.FoxbRefIdeal.τ).loc Cert.FoxbRefIdeal.main_arg2)
      ∧ r.2.mem ((c.tc : Thread Cert.FoxbRefIdeal.nD Cert.FoxbRefIdeal.τ).loc Cert.FoxbRefIdeal.main_arg3) = m ((c.tc : Thread Cert.FoxbRefIdeal.nD Cert.FoxbRefIdeal.τ).loc Cert.FoxbRefIdeal.main_arg3)
      ∧ r.2.mem ((c.tc : Thread Cert.FoxbRefIdeal.nD Cert.FoxbRefIdeal.τ).loc Cert.FoxbRefIdeal.main_arg4) = m ((c.tc : Thread Cert.FoxbRefIdeal.nD Cert.FoxbRefIdeal.τ).loc Cert.FoxbRefIdeal.main_arg4))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1)
      ∧ r.2.mem ((c.tc : Thread Cert.Dmix.nD Cert.Dmix.τ).loc Cert.Dmix.main_arg2) = m ((c.tc : Thread Cert.Dmix.nD Cert.Dmix.τ).loc Cert.Dmix.main_arg2)
      ∧ r.2.mem ((c.tc : Thread Cert.Dmix.nD Cert.Dmix.τ).loc Cert.Dmix.main_arg3) = m ((c.tc : Thread Cert.Dmix.nD Cert.Dmix.τ).loc Cert.Dmix.main_arg3)
      ∧ r.2.mem ((c.tc : Thread Cert.Dmix.nD Cert.Dmix.τ).loc Cert.Dmix.main_arg4) = m ((c.tc : Thread Cert.Dmix.nD Cert.Dmix.τ).loc Cert.Dmix.main_arg4))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
      ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
      ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3)
      ∧ r.2.mem ((c.tc : Thread Cert.DmixIdeal.nD Cert.DmixIdeal.τ).loc Cert.DmixIdeal.main_arg4) = m ((c.tc : Thread Cert.DmixIdeal.nD Cert.DmixIdeal.τ).loc Cert.DmixIdeal.main_arg4))
      ∧ r.2.sem = fun _ => 0)

def quiescent_DmixIdeal_pre_dmix_finite [hDmixIdeal : Cert.DmixIdeal.Facts] [hPre_dmix_finite : Cert.Pre_dmix_finite.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal_dmix_finite m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
      ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
      ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3)
      ∧ r.2.mem ((c.tc : Thread Cert.DmixIdeal.nD Cert.DmixIdeal.τ).loc Cert.DmixIdeal.main_arg4) = m ((c.tc : Thread Cert.DmixIdeal.nD Cert.DmixIdeal.τ).loc Cert.DmixIdeal.main_arg4))
      ∧ r.2.sem = fun _ => 0)

def quiescent_DmixRefIdeal [hDmixRefIdeal : Cert.DmixRefIdeal.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1)
      ∧ r.2.mem ((c.tc : Thread Cert.DmixRefIdeal.nD Cert.DmixRefIdeal.τ).loc Cert.DmixRefIdeal.main_arg2) = m ((c.tc : Thread Cert.DmixRefIdeal.nD Cert.DmixRefIdeal.τ).loc Cert.DmixRefIdeal.main_arg2)
      ∧ r.2.mem ((c.tc : Thread Cert.DmixRefIdeal.nD Cert.DmixRefIdeal.τ).loc Cert.DmixRefIdeal.main_arg3) = m ((c.tc : Thread Cert.DmixRefIdeal.nD Cert.DmixRefIdeal.τ).loc Cert.DmixRefIdeal.main_arg3)
      ∧ r.2.mem ((c.tc : Thread Cert.DmixRefIdeal.nD Cert.DmixRefIdeal.τ).loc Cert.DmixRefIdeal.main_arg4) = m ((c.tc : Thread Cert.DmixRefIdeal.nD Cert.DmixRefIdeal.τ).loc Cert.DmixRefIdeal.main_arg4))
      ∧ r.2.sem = fun _ => 0)

def quiescent_DmixRefIdeal_pre_dmix_finite [hDmixRefIdeal : Cert.DmixRefIdeal.Facts] [hPre_dmix_finite : Cert.Pre_dmix_finite.Facts] : Prop :=
  ∀ (m : (ℓ : Loc Cert.DmixRefIdeal.nD Cert.DmixRefIdeal.τ Cert.DmixRefIdeal.sig) → Buf (Elt Ideal) ℓ) (g : Dev Cert.DmixRefIdeal.nD → PrngReg), Pre_DmixRefIdeal_dmix_finite m →
    θ_run (Cert.DmixRefIdeal.defs (F := Ideal)) (onTc (τ := Cert.DmixRefIdeal.τ) (Cert.DmixRefIdeal.main (F := Ideal))) ⟨m, fun _ => 0, g⟩ (fun r => (∀ c : Dev Cert.DmixRefIdeal.nD,
      r.2.mem ((c.tc : Thread Cert.DmixRefIdeal.nD Cert.DmixRefIdeal.τ).loc Cert.DmixRefIdeal.main_arg0) = m ((c.tc : Thread Cert.DmixRefIdeal.nD Cert.DmixRefIdeal.τ).loc Cert.DmixRefIdeal.main_arg0)
      ∧ r.2.mem ((c.tc : Thread Cert.DmixRefIdeal.nD Cert.DmixRefIdeal.τ).loc Cert.DmixRefIdeal.main_arg1) = m ((c.tc : Thread Cert.DmixRefIdeal.nD Cert.DmixRefIdeal.τ).loc Cert.DmixRefIdeal.main_arg1)
      ∧ r.2.mem ((c.tc : Thread Cert.DmixRefIdeal.nD Cert.DmixRefIdeal.τ).loc Cert.DmixRefIdeal.main_arg2) = m ((c.tc : Thread Cert.DmixRefIdeal.nD Cert.DmixRefIdeal.τ).loc Cert.DmixRefIdeal.main_arg2)
      ∧ r.2.mem ((c.tc : Thread Cert.DmixRefIdeal.nD Cert.DmixRefIdeal.τ).loc Cert.DmixRefIdeal.main_arg3) = m ((c.tc : Thread Cert.DmixRefIdeal.nD Cert.DmixRefIdeal.τ).loc Cert.DmixRefIdeal.main_arg3)
      ∧ r.2.mem ((c.tc : Thread Cert.DmixRefIdeal.nD Cert.DmixRefIdeal.τ).loc Cert.DmixRefIdeal.main_arg4) = m ((c.tc : Thread Cert.DmixRefIdeal.nD Cert.DmixRefIdeal.τ).loc Cert.DmixRefIdeal.main_arg4))
      ∧ r.2.sem = fun _ => 0)

def quiescent_Fdel [hFdel : Cert.Fdel.Facts] : Prop :=
  ∀ (m : (ℓ : Loc Cert.Fdel.nD Cert.Fdel.τ Cert.Fdel.sig) → Buf (Elt Bits) ℓ) (g : Dev Cert.Fdel.nD → PrngReg), Pre_Fdel m →
    θ_run (Cert.Fdel.defs (F := Bits)) (onTc (τ := Cert.Fdel.τ) (Cert.Fdel.main (F := Bits))) ⟨m, fun _ => 0, g⟩ (fun r => (∀ c : Dev Cert.Fdel.nD,
      r.2.mem ((c.tc : Thread Cert.Fdel.nD Cert.Fdel.τ).loc Cert.Fdel.main_arg0) = m ((c.tc : Thread Cert.Fdel.nD Cert.Fdel.τ).loc Cert.Fdel.main_arg0)
      ∧ r.2.mem ((c.tc : Thread Cert.Fdel.nD Cert.Fdel.τ).loc Cert.Fdel.main_arg1) = m ((c.tc : Thread Cert.Fdel.nD Cert.Fdel.τ).loc Cert.Fdel.main_arg1))
      ∧ r.2.sem = fun _ => 0)

def quiescent_FdelIdeal [hFdelIdeal : Cert.FdelIdeal.Facts] : Prop :=
  ∀ (m : (ℓ : Loc Cert.FdelIdeal.nD Cert.FdelIdeal.τ Cert.FdelIdeal.sig) → Buf (Elt Ideal) ℓ) (g : Dev Cert.FdelIdeal.nD → PrngReg), Pre_FdelIdeal m →
    θ_run (Cert.FdelIdeal.defs (F := Ideal)) (onTc (τ := Cert.FdelIdeal.τ) (Cert.FdelIdeal.main (F := Ideal))) ⟨m, fun _ => 0, g⟩ (fun r => (∀ c : Dev Cert.FdelIdeal.nD,
      r.2.mem ((c.tc : Thread Cert.FdelIdeal.nD Cert.FdelIdeal.τ).loc Cert.FdelIdeal.main_arg0) = m ((c.tc : Thread Cert.FdelIdeal.nD Cert.FdelIdeal.τ).loc Cert.FdelIdeal.main_arg0)
      ∧ r.2.mem ((c.tc : Thread Cert.FdelIdeal.nD Cert.FdelIdeal.τ).loc Cert.FdelIdeal.main_arg1) = m ((c.tc : Thread Cert.FdelIdeal.nD Cert.FdelIdeal.τ).loc Cert.FdelIdeal.main_arg1))
      ∧ r.2.sem = fun _ => 0)

def quiescent_FdelRefIdeal [hFdelRefIdeal : Cert.FdelRefIdeal.Facts] : Prop :=
  ∀ (m : (ℓ : Loc Cert.FdelRefIdeal.nD Cert.FdelRefIdeal.τ Cert.FdelRefIdeal.sig) → Buf (Elt Ideal) ℓ) (g : Dev Cert.FdelRefIdeal.nD → PrngReg), Pre_FdelRefIdeal m →
    θ_run (Cert.FdelRefIdeal.defs (F := Ideal)) (onTc (τ := Cert.FdelRefIdeal.τ) (Cert.FdelRefIdeal.main (F := Ideal))) ⟨m, fun _ => 0, g⟩ (fun r => (∀ c : Dev Cert.FdelRefIdeal.nD,
      r.2.mem ((c.tc : Thread Cert.FdelRefIdeal.nD Cert.FdelRefIdeal.τ).loc Cert.FdelRefIdeal.main_arg0) = m ((c.tc : Thread Cert.FdelRefIdeal.nD Cert.FdelRefIdeal.τ).loc Cert.FdelRefIdeal.main_arg0)
      ∧ r.2.mem ((c.tc : Thread Cert.FdelRefIdeal.nD Cert.FdelRefIdeal.τ).loc Cert.FdelRefIdeal.main_arg1) = m ((c.tc : Thread Cert.FdelRefIdeal.nD Cert.FdelRefIdeal.τ).loc Cert.FdelRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Foxg [hFoxg : Cert.Foxg.Facts] : Prop :=
  ∀ (m : (ℓ : Loc Cert.Foxg.nD Cert.Foxg.τ Cert.Foxg.sig) → Buf (Elt Bits) ℓ) (g : Dev Cert.Foxg.nD → PrngReg), Pre_Foxg m →
    θ_run (Cert.Foxg.defs (F := Bits)) (onTc (τ := Cert.Foxg.τ) (Cert.Foxg.main (F := Bits))) ⟨m, fun _ => 0, g⟩ (fun r => (∀ c : Dev Cert.Foxg.nD,
      r.2.mem ((c.tc : Thread Cert.Foxg.nD Cert.Foxg.τ).loc Cert.Foxg.main_arg0) = m ((c.tc : Thread Cert.Foxg.nD Cert.Foxg.τ).loc Cert.Foxg.main_arg0)
      ∧ r.2.mem ((c.tc : Thread Cert.Foxg.nD Cert.Foxg.τ).loc Cert.Foxg.main_arg1) = m ((c.tc : Thread Cert.Foxg.nD Cert.Foxg.τ).loc Cert.Foxg.main_arg1)
      ∧ r.2.mem ((c.tc : Thread Cert.Foxg.nD Cert.Foxg.τ).loc Cert.Foxg.main_arg2) = m ((c.tc : Thread Cert.Foxg.nD Cert.Foxg.τ).loc Cert.Foxg.main_arg2)
      ∧ r.2.mem ((c.tc : Thread Cert.Foxg.nD Cert.Foxg.τ).loc Cert.Foxg.main_arg3) = m ((c.tc : Thread Cert.Foxg.nD Cert.Foxg.τ).loc Cert.Foxg.main_arg3)
      ∧ r.2.mem ((c.tc : Thread Cert.Foxg.nD Cert.Foxg.τ).loc Cert.Foxg.main_arg4) = m ((c.tc : Thread Cert.Foxg.nD Cert.Foxg.τ).loc Cert.Foxg.main_arg4)
      ∧ r.2.mem ((c.tc : Thread Cert.Foxg.nD Cert.Foxg.τ).loc Cert.Foxg.main_arg5) = m ((c.tc : Thread Cert.Foxg.nD Cert.Foxg.τ).loc Cert.Foxg.main_arg5)
      ∧ r.2.mem ((c.tc : Thread Cert.Foxg.nD Cert.Foxg.τ).loc Cert.Foxg.main_arg6) = m ((c.tc : Thread Cert.Foxg.nD Cert.Foxg.τ).loc Cert.Foxg.main_arg6)
      ∧ r.2.mem ((c.tc : Thread Cert.Foxg.nD Cert.Foxg.τ).loc Cert.Foxg.main_arg7) = m ((c.tc : Thread Cert.Foxg.nD Cert.Foxg.τ).loc Cert.Foxg.main_arg7)
      ∧ r.2.mem ((c.tc : Thread Cert.Foxg.nD Cert.Foxg.τ).loc Cert.Foxg.main_arg8) = m ((c.tc : Thread Cert.Foxg.nD Cert.Foxg.τ).loc Cert.Foxg.main_arg8)
      ∧ r.2.mem ((c.tc : Thread Cert.Foxg.nD Cert.Foxg.τ).loc Cert.Foxg.main_arg9) = m ((c.tc : Thread Cert.Foxg.nD Cert.Foxg.τ).loc Cert.Foxg.main_arg9))
      ∧ r.2.sem = fun _ => 0)

def quiescent_FoxgIdeal [hFoxgIdeal : Cert.FoxgIdeal.Facts] : Prop :=
  ∀ (m : (ℓ : Loc Cert.FoxgIdeal.nD Cert.FoxgIdeal.τ Cert.FoxgIdeal.sig) → Buf (Elt Ideal) ℓ) (g : Dev Cert.FoxgIdeal.nD → PrngReg), Pre_FoxgIdeal m →
    θ_run (Cert.FoxgIdeal.defs (F := Ideal)) (onTc (τ := Cert.FoxgIdeal.τ) (Cert.FoxgIdeal.main (F := Ideal))) ⟨m, fun _ => 0, g⟩ (fun r => (∀ c : Dev Cert.FoxgIdeal.nD,
      r.2.mem ((c.tc : Thread Cert.FoxgIdeal.nD Cert.FoxgIdeal.τ).loc Cert.FoxgIdeal.main_arg0) = m ((c.tc : Thread Cert.FoxgIdeal.nD Cert.FoxgIdeal.τ).loc Cert.FoxgIdeal.main_arg0)
      ∧ r.2.mem ((c.tc : Thread Cert.FoxgIdeal.nD Cert.FoxgIdeal.τ).loc Cert.FoxgIdeal.main_arg1) = m ((c.tc : Thread Cert.FoxgIdeal.nD Cert.FoxgIdeal.τ).loc Cert.FoxgIdeal.main_arg1)
      ∧ r.2.mem ((c.tc : Thread Cert.FoxgIdeal.nD Cert.FoxgIdeal.τ).loc Cert.FoxgIdeal.main_arg2) = m ((c.tc : Thread Cert.FoxgIdeal.nD Cert.FoxgIdeal.τ).loc Cert.FoxgIdeal.main_arg2)
      ∧ r.2.mem ((c.tc : Thread Cert.FoxgIdeal.nD Cert.FoxgIdeal.τ).loc Cert.FoxgIdeal.main_arg3) = m ((c.tc : Thread Cert.FoxgIdeal.nD Cert.FoxgIdeal.τ).loc Cert.FoxgIdeal.main_arg3)
      ∧ r.2.mem ((c.tc : Thread Cert.FoxgIdeal.nD Cert.FoxgIdeal.τ).loc Cert.FoxgIdeal.main_arg4) = m ((c.tc : Thread Cert.FoxgIdeal.nD Cert.FoxgIdeal.τ).loc Cert.FoxgIdeal.main_arg4)
      ∧ r.2.mem ((c.tc : Thread Cert.FoxgIdeal.nD Cert.FoxgIdeal.τ).loc Cert.FoxgIdeal.main_arg5) = m ((c.tc : Thread Cert.FoxgIdeal.nD Cert.FoxgIdeal.τ).loc Cert.FoxgIdeal.main_arg5)
      ∧ r.2.mem ((c.tc : Thread Cert.FoxgIdeal.nD Cert.FoxgIdeal.τ).loc Cert.FoxgIdeal.main_arg6) = m ((c.tc : Thread Cert.FoxgIdeal.nD Cert.FoxgIdeal.τ).loc Cert.FoxgIdeal.main_arg6)
      ∧ r.2.mem ((c.tc : Thread Cert.FoxgIdeal.nD Cert.FoxgIdeal.τ).loc Cert.FoxgIdeal.main_arg7) = m ((c.tc : Thread Cert.FoxgIdeal.nD Cert.FoxgIdeal.τ).loc Cert.FoxgIdeal.main_arg7)
      ∧ r.2.mem ((c.tc : Thread Cert.FoxgIdeal.nD Cert.FoxgIdeal.τ).loc Cert.FoxgIdeal.main_arg8) = m ((c.tc : Thread Cert.FoxgIdeal.nD Cert.FoxgIdeal.τ).loc Cert.FoxgIdeal.main_arg8)
      ∧ r.2.mem ((c.tc : Thread Cert.FoxgIdeal.nD Cert.FoxgIdeal.τ).loc Cert.FoxgIdeal.main_arg9) = m ((c.tc : Thread Cert.FoxgIdeal.nD Cert.FoxgIdeal.τ).loc Cert.FoxgIdeal.main_arg9))
      ∧ r.2.sem = fun _ => 0)

def quiescent_FoxgIdeal_pre_foxg_finite [hFoxgIdeal : Cert.FoxgIdeal.Facts] [hPre_foxg_finite : Cert.Pre_foxg_finite.Facts] : Prop :=
  ∀ (m : (ℓ : Loc Cert.FoxgIdeal.nD Cert.FoxgIdeal.τ Cert.FoxgIdeal.sig) → Buf (Elt Ideal) ℓ) (g : Dev Cert.FoxgIdeal.nD → PrngReg), Pre_FoxgIdeal_foxg_finite m →
    θ_run (Cert.FoxgIdeal.defs (F := Ideal)) (onTc (τ := Cert.FoxgIdeal.τ) (Cert.FoxgIdeal.main (F := Ideal))) ⟨m, fun _ => 0, g⟩ (fun r => (∀ c : Dev Cert.FoxgIdeal.nD,
      r.2.mem ((c.tc : Thread Cert.FoxgIdeal.nD Cert.FoxgIdeal.τ).loc Cert.FoxgIdeal.main_arg0) = m ((c.tc : Thread Cert.FoxgIdeal.nD Cert.FoxgIdeal.τ).loc Cert.FoxgIdeal.main_arg0)
      ∧ r.2.mem ((c.tc : Thread Cert.FoxgIdeal.nD Cert.FoxgIdeal.τ).loc Cert.FoxgIdeal.main_arg1) = m ((c.tc : Thread Cert.FoxgIdeal.nD Cert.FoxgIdeal.τ).loc Cert.FoxgIdeal.main_arg1)
      ∧ r.2.mem ((c.tc : Thread Cert.FoxgIdeal.nD Cert.FoxgIdeal.τ).loc Cert.FoxgIdeal.main_arg2) = m ((c.tc : Thread Cert.FoxgIdeal.nD Cert.FoxgIdeal.τ).loc Cert.FoxgIdeal.main_arg2)
      ∧ r.2.mem ((c.tc : Thread Cert.FoxgIdeal.nD Cert.FoxgIdeal.τ).loc Cert.FoxgIdeal.main_arg3) = m ((c.tc : Thread Cert.FoxgIdeal.nD Cert.FoxgIdeal.τ).loc Cert.FoxgIdeal.main_arg3)
      ∧ r.2.mem ((c.tc : Thread Cert.FoxgIdeal.nD Cert.FoxgIdeal.τ).loc Cert.FoxgIdeal.main_arg4) = m ((c.tc : Thread Cert.FoxgIdeal.nD Cert.FoxgIdeal.τ).loc Cert.FoxgIdeal.main_arg4)
      ∧ r.2.mem ((c.tc : Thread Cert.FoxgIdeal.nD Cert.FoxgIdeal.τ).loc Cert.FoxgIdeal.main_arg5) = m ((c.tc : Thread Cert.FoxgIdeal.nD Cert.FoxgIdeal.τ).loc Cert.FoxgIdeal.main_arg5)
      ∧ r.2.mem ((c.tc : Thread Cert.FoxgIdeal.nD Cert.FoxgIdeal.τ).loc Cert.FoxgIdeal.main_arg6) = m ((c.tc : Thread Cert.FoxgIdeal.nD Cert.FoxgIdeal.τ).loc Cert.FoxgIdeal.main_arg6)
      ∧ r.2.mem ((c.tc : Thread Cert.FoxgIdeal.nD Cert.FoxgIdeal.τ).loc Cert.FoxgIdeal.main_arg7) = m ((c.tc : Thread Cert.FoxgIdeal.nD Cert.FoxgIdeal.τ).loc Cert.FoxgIdeal.main_arg7)
      ∧ r.2.mem ((c.tc : Thread Cert.FoxgIdeal.nD Cert.FoxgIdeal.τ).loc Cert.FoxgIdeal.main_arg8) = m ((c.tc : Thread Cert.FoxgIdeal.nD Cert.FoxgIdeal.τ).loc Cert.FoxgIdeal.main_arg8)
      ∧ r.2.mem ((c.tc : Thread Cert.FoxgIdeal.nD Cert.FoxgIdeal.τ).loc Cert.FoxgIdeal.main_arg9) = m ((c.tc : Thread Cert.FoxgIdeal.nD Cert.FoxgIdeal.τ).loc Cert.FoxgIdeal.main_arg9))
      ∧ r.2.sem = fun _ => 0)

def quiescent_FoxgRefIdeal [hFoxgRefIdeal : Cert.FoxgRefIdeal.Facts] : Prop :=
  ∀ (m : (ℓ : Loc Cert.FoxgRefIdeal.nD Cert.FoxgRefIdeal.τ Cert.FoxgRefIdeal.sig) → Buf (Elt Ideal) ℓ) (g : Dev Cert.FoxgRefIdeal.nD → PrngReg), Pre_FoxgRefIdeal m →
    θ_run (Cert.FoxgRefIdeal.defs (F := Ideal)) (onTc (τ := Cert.FoxgRefIdeal.τ) (Cert.FoxgRefIdeal.main (F := Ideal))) ⟨m, fun _ => 0, g⟩ (fun r => (∀ c : Dev Cert.FoxgRefIdeal.nD,
      r.2.mem ((c.tc : Thread Cert.FoxgRefIdeal.nD Cert.FoxgRefIdeal.τ).loc Cert.FoxgRefIdeal.main_arg0) = m ((c.tc : Thread Cert.FoxgRefIdeal.nD Cert.FoxgRefIdeal.τ).loc Cert.FoxgRefIdeal.main_arg0)
      ∧ r.2.mem ((c.tc : Thread Cert.FoxgRefIdeal.nD Cert.FoxgRefIdeal.τ).loc Cert.FoxgRefIdeal.main_arg1) = m ((c.tc : Thread Cert.FoxgRefIdeal.nD Cert.FoxgRefIdeal.τ).loc Cert.FoxgRefIdeal.main_arg1)
      ∧ r.2.mem ((c.tc : Thread Cert.FoxgRefIdeal.nD Cert.FoxgRefIdeal.τ).loc Cert.FoxgRefIdeal.main_arg2) = m ((c.tc : Thread Cert.FoxgRefIdeal.nD Cert.FoxgRefIdeal.τ).loc Cert.FoxgRefIdeal.main_arg2)
      ∧ r.2.mem ((c.tc : Thread Cert.FoxgRefIdeal.nD Cert.FoxgRefIdeal.τ).loc Cert.FoxgRefIdeal.main_arg3) = m ((c.tc : Thread Cert.FoxgRefIdeal.nD Cert.FoxgRefIdeal.τ).loc Cert.FoxgRefIdeal.main_arg3)
      ∧ r.2.mem ((c.tc : Thread Cert.FoxgRefIdeal.nD Cert.FoxgRefIdeal.τ).loc Cert.FoxgRefIdeal.main_arg4) = m ((c.tc : Thread Cert.FoxgRefIdeal.nD Cert.FoxgRefIdeal.τ).loc Cert.FoxgRefIdeal.main_arg4)
      ∧ r.2.mem ((c.tc : Thread Cert.FoxgRefIdeal.nD Cert.FoxgRefIdeal.τ).loc Cert.FoxgRefIdeal.main_arg5) = m ((c.tc : Thread Cert.FoxgRefIdeal.nD Cert.FoxgRefIdeal.τ).loc Cert.FoxgRefIdeal.main_arg5)
      ∧ r.2.mem ((c.tc : Thread Cert.FoxgRefIdeal.nD Cert.FoxgRefIdeal.τ).loc Cert.FoxgRefIdeal.main_arg6) = m ((c.tc : Thread Cert.FoxgRefIdeal.nD Cert.FoxgRefIdeal.τ).loc Cert.FoxgRefIdeal.main_arg6)
      ∧ r.2.mem ((c.tc : Thread Cert.FoxgRefIdeal.nD Cert.FoxgRefIdeal.τ).loc Cert.FoxgRefIdeal.main_arg7) = m ((c.tc : Thread Cert.FoxgRefIdeal.nD Cert.FoxgRefIdeal.τ).loc Cert.FoxgRefIdeal.main_arg7)
      ∧ r.2.mem ((c.tc : Thread Cert.FoxgRefIdeal.nD Cert.FoxgRefIdeal.τ).loc Cert.FoxgRefIdeal.main_arg8) = m ((c.tc : Thread Cert.FoxgRefIdeal.nD Cert.FoxgRefIdeal.τ).loc Cert.FoxgRefIdeal.main_arg8)
      ∧ r.2.mem ((c.tc : Thread Cert.FoxgRefIdeal.nD Cert.FoxgRefIdeal.τ).loc Cert.FoxgRefIdeal.main_arg9) = m ((c.tc : Thread Cert.FoxgRefIdeal.nD Cert.FoxgRefIdeal.τ).loc Cert.FoxgRefIdeal.main_arg9))
      ∧ r.2.sem = fun _ => 0)

def quiescent_FoxgRefIdeal_pre_foxg_finite [hFoxgRefIdeal : Cert.FoxgRefIdeal.Facts] [hPre_foxg_finite : Cert.Pre_foxg_finite.Facts] : Prop :=
  ∀ (m : (ℓ : Loc Cert.FoxgRefIdeal.nD Cert.FoxgRefIdeal.τ Cert.FoxgRefIdeal.sig) → Buf (Elt Ideal) ℓ) (g : Dev Cert.FoxgRefIdeal.nD → PrngReg), Pre_FoxgRefIdeal_foxg_finite m →
    θ_run (Cert.FoxgRefIdeal.defs (F := Ideal)) (onTc (τ := Cert.FoxgRefIdeal.τ) (Cert.FoxgRefIdeal.main (F := Ideal))) ⟨m, fun _ => 0, g⟩ (fun r => (∀ c : Dev Cert.FoxgRefIdeal.nD,
      r.2.mem ((c.tc : Thread Cert.FoxgRefIdeal.nD Cert.FoxgRefIdeal.τ).loc Cert.FoxgRefIdeal.main_arg0) = m ((c.tc : Thread Cert.FoxgRefIdeal.nD Cert.FoxgRefIdeal.τ).loc Cert.FoxgRefIdeal.main_arg0)
      ∧ r.2.mem ((c.tc : Thread Cert.FoxgRefIdeal.nD Cert.FoxgRefIdeal.τ).loc Cert.FoxgRefIdeal.main_arg1) = m ((c.tc : Thread Cert.FoxgRefIdeal.nD Cert.FoxgRefIdeal.τ).loc Cert.FoxgRefIdeal.main_arg1)
      ∧ r.2.mem ((c.tc : Thread Cert.FoxgRefIdeal.nD Cert.FoxgRefIdeal.τ).loc Cert.FoxgRefIdeal.main_arg2) = m ((c.tc : Thread Cert.FoxgRefIdeal.nD Cert.FoxgRefIdeal.τ).loc Cert.FoxgRefIdeal.main_arg2)
      ∧ r.2.mem ((c.tc : Thread Cert.FoxgRefIdeal.nD Cert.FoxgRefIdeal.τ).loc Cert.FoxgRefIdeal.main_arg3) = m ((c.tc : Thread Cert.FoxgRefIdeal.nD Cert.FoxgRefIdeal.τ).loc Cert.FoxgRefIdeal.main_arg3)
      ∧ r.2.mem ((c.tc : Thread Cert.FoxgRefIdeal.nD Cert.FoxgRefIdeal.τ).loc Cert.FoxgRefIdeal.main_arg4) = m ((c.tc : Thread Cert.FoxgRefIdeal.nD Cert.FoxgRefIdeal.τ).loc Cert.FoxgRefIdeal.main_arg4)
      ∧ r.2.mem ((c.tc : Thread Cert.FoxgRefIdeal.nD Cert.FoxgRefIdeal.τ).loc Cert.FoxgRefIdeal.main_arg5) = m ((c.tc : Thread Cert.FoxgRefIdeal.nD Cert.FoxgRefIdeal.τ).loc Cert.FoxgRefIdeal.main_arg5)
      ∧ r.2.mem ((c.tc : Thread Cert.FoxgRefIdeal.nD Cert.FoxgRefIdeal.τ).loc Cert.FoxgRefIdeal.main_arg6) = m ((c.tc : Thread Cert.FoxgRefIdeal.nD Cert.FoxgRefIdeal.τ).loc Cert.FoxgRefIdeal.main_arg6)
      ∧ r.2.mem ((c.tc : Thread Cert.FoxgRefIdeal.nD Cert.FoxgRefIdeal.τ).loc Cert.FoxgRefIdeal.main_arg7) = m ((c.tc : Thread Cert.FoxgRefIdeal.nD Cert.FoxgRefIdeal.τ).loc Cert.FoxgRefIdeal.main_arg7)
      ∧ r.2.mem ((c.tc : Thread Cert.FoxgRefIdeal.nD Cert.FoxgRefIdeal.τ).loc Cert.FoxgRefIdeal.main_arg8) = m ((c.tc : Thread Cert.FoxgRefIdeal.nD Cert.FoxgRefIdeal.τ).loc Cert.FoxgRefIdeal.main_arg8)
      ∧ r.2.mem ((c.tc : Thread Cert.FoxgRefIdeal.nD Cert.FoxgRefIdeal.τ).loc Cert.FoxgRefIdeal.main_arg9) = m ((c.tc : Thread Cert.FoxgRefIdeal.nD Cert.FoxgRefIdeal.τ).loc Cert.FoxgRefIdeal.main_arg9))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v2)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v2) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v15) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Xatt_XattIdeal : Prop :=
  True

def algebraic_XattIdeal_XattRefIdeal_pre_mem_finite [hXattIdeal : Cert.XattIdeal.Facts] [hXattRefIdeal : Cert.XattRefIdeal.Facts] [hPre_mem_finite : Cert.Pre_mem_finite.Facts] : Prop :=
  ∀ (m : (ℓ : Loc Cert.XattIdeal.nD Cert.XattIdeal.τ Cert.XattIdeal.sig) → Buf (Elt Ideal) ℓ) (g : Dev Cert.XattIdeal.nD → PrngReg)
    (m' : (ℓ : Loc Cert.XattRefIdeal.nD Cert.XattRefIdeal.τ Cert.XattRefIdeal.sig) → Buf (Elt Ideal) ℓ) (g' : Dev Cert.XattRefIdeal.nD → PrngReg), Pre_XattIdeal_mem_finite m →
    (∀ c : Dev Cert.XattIdeal.nD,
      m' ((c.tc : Thread Cert.XattRefIdeal.nD Cert.XattRefIdeal.τ).loc Cert.XattRefIdeal.main_arg0) = m ((c.tc : Thread Cert.XattIdeal.nD Cert.XattIdeal.τ).loc Cert.XattIdeal.main_arg0)
      ∧ m' ((c.tc : Thread Cert.XattRefIdeal.nD Cert.XattRefIdeal.τ).loc Cert.XattRefIdeal.main_arg1) = m ((c.tc : Thread Cert.XattIdeal.nD Cert.XattIdeal.τ).loc Cert.XattIdeal.main_arg1)
      ∧ m' ((c.tc : Thread Cert.XattRefIdeal.nD Cert.XattRefIdeal.τ).loc Cert.XattRefIdeal.main_arg2) = m ((c.tc : Thread Cert.XattIdeal.nD Cert.XattIdeal.τ).loc Cert.XattIdeal.main_arg2)
      ∧ m' ((c.tc : Thread Cert.XattRefIdeal.nD Cert.XattRefIdeal.τ).loc Cert.XattRefIdeal.main_arg3) = m ((c.tc : Thread Cert.XattIdeal.nD Cert.XattIdeal.τ).loc Cert.XattIdeal.main_arg3)) →
    ∃ (v0 : (c : Dev Cert.XattIdeal.nD) → Buf (Elt Ideal) ((c.tc : Thread Cert.XattIdeal.nD Cert.XattIdeal.τ).loc Cert.XattIdeal.main_v17_0)) (v1 : (c : Dev Cert.XattIdeal.nD) → Buf (Elt Ideal) ((c.tc : Thread Cert.XattIdeal.nD Cert.XattIdeal.τ).loc Cert.XattIdeal.main_v17_1)),
      θ_run (Cert.XattIdeal.defs (F := Ideal)) (onTc (τ := Cert.XattIdeal.τ) (Cert.XattIdeal.main (F := Ideal))) ⟨m, fun _ => 0, g⟩ (fun r => ∀ c : Dev Cert.XattIdeal.nD,
          r.2.mem ((c.tc : Thread Cert.XattIdeal.nD Cert.XattIdeal.τ).loc Cert.XattIdeal.main_v17_0) = v0 c
          ∧ r.2.mem ((c.tc : Thread Cert.XattIdeal.nD Cert.XattIdeal.τ).loc Cert.XattIdeal.main_v17_1) = v1 c
          ∧ r.2.mem ((c.tc : Thread Cert.XattIdeal.nD Cert.XattIdeal.τ).loc Cert.XattIdeal.main_arg0) = m ((c.tc : Thread Cert.XattIdeal.nD Cert.XattIdeal.τ).loc Cert.XattIdeal.main_arg0)
          ∧ r.2.mem ((c.tc : Thread Cert.XattIdeal.nD Cert.XattIdeal.τ).loc Cert.XattIdeal.main_arg1) = m ((c.tc : Thread Cert.XattIdeal.nD Cert.XattIdeal.τ).loc Cert.XattIdeal.main_arg1)
          ∧ r.2.mem ((c.tc : Thread Cert.XattIdeal.nD Cert.XattIdeal.τ).loc Cert.XattIdeal.main_arg2) = m ((c.tc : Thread Cert.XattIdeal.nD Cert.XattIdeal.τ).loc Cert.XattIdeal.main_arg2)
          ∧ r.2.mem ((c.tc : Thread Cert.XattIdeal.nD Cert.XattIdeal.τ).loc Cert.XattIdeal.main_arg3) = m ((c.tc : Thread Cert.XattIdeal.nD Cert.XattIdeal.τ).loc Cert.XattIdeal.main_arg3))
      ∧ θ_run (Cert.XattRefIdeal.defs (F := Ideal)) (onTc (τ := Cert.XattRefIdeal.τ) (Cert.XattRefIdeal.main (F := Ideal))) ⟨m', fun _ => 0, g'⟩ (fun r => ∀ c : Dev Cert.XattRefIdeal.nD,
          r.2.mem ((c.tc : Thread Cert.XattRefIdeal.nD Cert.XattRefIdeal.τ).loc Cert.XattRefIdeal.main_v72) = v0 c
          ∧ r.2.mem ((c.tc : Thread Cert.XattRefIdeal.nD Cert.XattRefIdeal.τ).loc Cert.XattRefIdeal.main_v73) = v1 c
          ∧ r.2.mem ((c.tc : Thread Cert.XattRefIdeal.nD Cert.XattRefIdeal.τ).loc Cert.XattRefIdeal.main_arg0) = m' ((c.tc : Thread Cert.XattRefIdeal.nD Cert.XattRefIdeal.τ).loc Cert.XattRefIdeal.main_arg0)
          ∧ r.2.mem ((c.tc : Thread Cert.XattRefIdeal.nD Cert.XattRefIdeal.τ).loc Cert.XattRefIdeal.main_arg1) = m' ((c.tc : Thread Cert.XattRefIdeal.nD Cert.XattRefIdeal.τ).loc Cert.XattRefIdeal.main_arg1)
          ∧ r.2.mem ((c.tc : Thread Cert.XattRefIdeal.nD Cert.XattRefIdeal.τ).loc Cert.XattRefIdeal.main_arg2) = m' ((c.tc : Thread Cert.XattRefIdeal.nD Cert.XattRefIdeal.τ).loc Cert.XattRefIdeal.main_arg2)
          ∧ r.2.mem ((c.tc : Thread Cert.XattRefIdeal.nD Cert.XattRefIdeal.τ).loc Cert.XattRefIdeal.main_arg3) = m' ((c.tc : Thread Cert.XattRefIdeal.nD Cert.XattRefIdeal.τ).loc Cert.XattRefIdeal.main_arg3))

def preserves_Dffn_DffnIdeal : Prop :=
  True

def algebraic_DffnIdeal_DffnRefIdeal_pre_dffn_finite [hDffnIdeal : Cert.DffnIdeal.Facts] [hDffnRefIdeal : Cert.DffnRefIdeal.Facts] [hPre_dffn_finite : Cert.Pre_dffn_finite.Facts] : Prop :=
  ∀ (m : (ℓ : Loc Cert.DffnIdeal.nD Cert.DffnIdeal.τ Cert.DffnIdeal.sig) → Buf (Elt Ideal) ℓ) (g : Dev Cert.DffnIdeal.nD → PrngReg)
    (m' : (ℓ : Loc Cert.DffnRefIdeal.nD Cert.DffnRefIdeal.τ Cert.DffnRefIdeal.sig) → Buf (Elt Ideal) ℓ) (g' : Dev Cert.DffnRefIdeal.nD → PrngReg), Pre_DffnIdeal_dffn_finite m →
    (∀ c : Dev Cert.DffnIdeal.nD,
      m' ((c.tc : Thread Cert.DffnRefIdeal.nD Cert.DffnRefIdeal.τ).loc Cert.DffnRefIdeal.main_arg0) = m ((c.tc : Thread Cert.DffnIdeal.nD Cert.DffnIdeal.τ).loc Cert.DffnIdeal.main_arg0)
      ∧ m' ((c.tc : Thread Cert.DffnRefIdeal.nD Cert.DffnRefIdeal.τ).loc Cert.DffnRefIdeal.main_arg1) = m ((c.tc : Thread Cert.DffnIdeal.nD Cert.DffnIdeal.τ).loc Cert.DffnIdeal.main_arg1)
      ∧ m' ((c.tc : Thread Cert.DffnRefIdeal.nD Cert.DffnRefIdeal.τ).loc Cert.DffnRefIdeal.main_arg2) = m ((c.tc : Thread Cert.DffnIdeal.nD Cert.DffnIdeal.τ).loc Cert.DffnIdeal.main_arg2)
      ∧ m' ((c.tc : Thread Cert.DffnRefIdeal.nD Cert.DffnRefIdeal.τ).loc Cert.DffnRefIdeal.main_arg3) = m ((c.tc : Thread Cert.DffnIdeal.nD Cert.DffnIdeal.τ).loc Cert.DffnIdeal.main_arg3)
      ∧ m' ((c.tc : Thread Cert.DffnRefIdeal.nD Cert.DffnRefIdeal.τ).loc Cert.DffnRefIdeal.main_arg4) = m ((c.tc : Thread Cert.DffnIdeal.nD Cert.DffnIdeal.τ).loc Cert.DffnIdeal.main_arg4)) →
    ∃ (v0 : (c : Dev Cert.DffnIdeal.nD) → Buf (Elt Ideal) ((c.tc : Thread Cert.DffnIdeal.nD Cert.DffnIdeal.τ).loc Cert.DffnIdeal.main_v3_0)) (v1 : (c : Dev Cert.DffnIdeal.nD) → Buf (Elt Ideal) ((c.tc : Thread Cert.DffnIdeal.nD Cert.DffnIdeal.τ).loc Cert.DffnIdeal.main_v3_1)) (v2 : (c : Dev Cert.DffnIdeal.nD) → Buf (Elt Ideal) ((c.tc : Thread Cert.DffnIdeal.nD Cert.DffnIdeal.τ).loc Cert.DffnIdeal.main_v3_2)),
      θ_run (Cert.DffnIdeal.defs (F := Ideal)) (onTc (τ := Cert.DffnIdeal.τ) (Cert.DffnIdeal.main (F := Ideal))) ⟨m, fun _ => 0, g⟩ (fun r => ∀ c : Dev Cert.DffnIdeal.nD,
          r.2.mem ((c.tc : Thread Cert.DffnIdeal.nD Cert.DffnIdeal.τ).loc Cert.DffnIdeal.main_v3_0) = v0 c
          ∧ r.2.mem ((c.tc : Thread Cert.DffnIdeal.nD Cert.DffnIdeal.τ).loc Cert.DffnIdeal.main_v3_1) = v1 c
          ∧ r.2.mem ((c.tc : Thread Cert.DffnIdeal.nD Cert.DffnIdeal.τ).loc Cert.DffnIdeal.main_v3_2) = v2 c
          ∧ r.2.mem ((c.tc : Thread Cert.DffnIdeal.nD Cert.DffnIdeal.τ).loc Cert.DffnIdeal.main_arg0) = m ((c.tc : Thread Cert.DffnIdeal.nD Cert.DffnIdeal.τ).loc Cert.DffnIdeal.main_arg0)
          ∧ r.2.mem ((c.tc : Thread Cert.DffnIdeal.nD Cert.DffnIdeal.τ).loc Cert.DffnIdeal.main_arg1) = m ((c.tc : Thread Cert.DffnIdeal.nD Cert.DffnIdeal.τ).loc Cert.DffnIdeal.main_arg1)
          ∧ r.2.mem ((c.tc : Thread Cert.DffnIdeal.nD Cert.DffnIdeal.τ).loc Cert.DffnIdeal.main_arg2) = m ((c.tc : Thread Cert.DffnIdeal.nD Cert.DffnIdeal.τ).loc Cert.DffnIdeal.main_arg2)
          ∧ r.2.mem ((c.tc : Thread Cert.DffnIdeal.nD Cert.DffnIdeal.τ).loc Cert.DffnIdeal.main_arg3) = m ((c.tc : Thread Cert.DffnIdeal.nD Cert.DffnIdeal.τ).loc Cert.DffnIdeal.main_arg3)
          ∧ r.2.mem ((c.tc : Thread Cert.DffnIdeal.nD Cert.DffnIdeal.τ).loc Cert.DffnIdeal.main_arg4) = m ((c.tc : Thread Cert.DffnIdeal.nD Cert.DffnIdeal.τ).loc Cert.DffnIdeal.main_arg4))
      ∧ θ_run (Cert.DffnRefIdeal.defs (F := Ideal)) (onTc (τ := Cert.DffnRefIdeal.τ) (Cert.DffnRefIdeal.main (F := Ideal))) ⟨m', fun _ => 0, g'⟩ (fun r => ∀ c : Dev Cert.DffnRefIdeal.nD,
          r.2.mem ((c.tc : Thread Cert.DffnRefIdeal.nD Cert.DffnRefIdeal.τ).loc Cert.DffnRefIdeal.main_v36) = v0 c
          ∧ r.2.mem ((c.tc : Thread Cert.DffnRefIdeal.nD Cert.DffnRefIdeal.τ).loc Cert.DffnRefIdeal.main_v37) = v1 c
          ∧ r.2.mem ((c.tc : Thread Cert.DffnRefIdeal.nD Cert.DffnRefIdeal.τ).loc Cert.DffnRefIdeal.main_v39) = v2 c
          ∧ r.2.mem ((c.tc : Thread Cert.DffnRefIdeal.nD Cert.DffnRefIdeal.τ).loc Cert.DffnRefIdeal.main_arg0) = m' ((c.tc : Thread Cert.DffnRefIdeal.nD Cert.DffnRefIdeal.τ).loc Cert.DffnRefIdeal.main_arg0)
          ∧ r.2.mem ((c.tc : Thread Cert.DffnRefIdeal.nD Cert.DffnRefIdeal.τ).loc Cert.DffnRefIdeal.main_arg1) = m' ((c.tc : Thread Cert.DffnRefIdeal.nD Cert.DffnRefIdeal.τ).loc Cert.DffnRefIdeal.main_arg1)
          ∧ r.2.mem ((c.tc : Thread Cert.DffnRefIdeal.nD Cert.DffnRefIdeal.τ).loc Cert.DffnRefIdeal.main_arg2) = m' ((c.tc : Thread Cert.DffnRefIdeal.nD Cert.DffnRefIdeal.τ).loc Cert.DffnRefIdeal.main_arg2)
          ∧ r.2.mem ((c.tc : Thread Cert.DffnRefIdeal.nD Cert.DffnRefIdeal.τ).loc Cert.DffnRefIdeal.main_arg3) = m' ((c.tc : Thread Cert.DffnRefIdeal.nD Cert.DffnRefIdeal.τ).loc Cert.DffnRefIdeal.main_arg3)
          ∧ r.2.mem ((c.tc : Thread Cert.DffnRefIdeal.nD Cert.DffnRefIdeal.τ).loc Cert.DffnRefIdeal.main_arg4) = m' ((c.tc : Thread Cert.DffnRefIdeal.nD Cert.DffnRefIdeal.τ).loc Cert.DffnRefIdeal.main_arg4))

def preserves_Foxb_FoxbIdeal : Prop :=
  True

def algebraic_FoxbIdeal_FoxbRefIdeal_pre_fox_finite [hFoxbIdeal : Cert.FoxbIdeal.Facts] [hFoxbRefIdeal : Cert.FoxbRefIdeal.Facts] [hPre_fox_finite : Cert.Pre_fox_finite.Facts] : Prop :=
  ∀ (m : (ℓ : Loc Cert.FoxbIdeal.nD Cert.FoxbIdeal.τ Cert.FoxbIdeal.sig) → Buf (Elt Ideal) ℓ) (g : Dev Cert.FoxbIdeal.nD → PrngReg)
    (m' : (ℓ : Loc Cert.FoxbRefIdeal.nD Cert.FoxbRefIdeal.τ Cert.FoxbRefIdeal.sig) → Buf (Elt Ideal) ℓ) (g' : Dev Cert.FoxbRefIdeal.nD → PrngReg), Pre_FoxbIdeal_fox_finite m →
    (∀ c : Dev Cert.FoxbIdeal.nD,
      m' ((c.tc : Thread Cert.FoxbRefIdeal.nD Cert.FoxbRefIdeal.τ).loc Cert.FoxbRefIdeal.main_arg0) = m ((c.tc : Thread Cert.FoxbIdeal.nD Cert.FoxbIdeal.τ).loc Cert.FoxbIdeal.main_arg0)
      ∧ m' ((c.tc : Thread Cert.FoxbRefIdeal.nD Cert.FoxbRefIdeal.τ).loc Cert.FoxbRefIdeal.main_arg1) = m ((c.tc : Thread Cert.FoxbIdeal.nD Cert.FoxbIdeal.τ).loc Cert.FoxbIdeal.main_arg1)
      ∧ m' ((c.tc : Thread Cert.FoxbRefIdeal.nD Cert.FoxbRefIdeal.τ).loc Cert.FoxbRefIdeal.main_arg2) = m ((c.tc : Thread Cert.FoxbIdeal.nD Cert.FoxbIdeal.τ).loc Cert.FoxbIdeal.main_arg2)
      ∧ m' ((c.tc : Thread Cert.FoxbRefIdeal.nD Cert.FoxbRefIdeal.τ).loc Cert.FoxbRefIdeal.main_arg3) = m ((c.tc : Thread Cert.FoxbIdeal.nD Cert.FoxbIdeal.τ).loc Cert.FoxbIdeal.main_arg3)
      ∧ m' ((c.tc : Thread Cert.FoxbRefIdeal.nD Cert.FoxbRefIdeal.τ).loc Cert.FoxbRefIdeal.main_arg4) = m ((c.tc : Thread Cert.FoxbIdeal.nD Cert.FoxbIdeal.τ).loc Cert.FoxbIdeal.main_arg4)) →
    ∃ (v0 : (c : Dev Cert.FoxbIdeal.nD) → Buf (Elt Ideal) ((c.tc : Thread Cert.FoxbIdeal.nD Cert.FoxbIdeal.τ).loc Cert.FoxbIdeal.main_v98)) (v1 : (c : Dev Cert.FoxbIdeal.nD) → Buf (Elt Ideal) ((c.tc : Thread Cert.FoxbIdeal.nD Cert.FoxbIdeal.τ).loc Cert.FoxbIdeal.main_v99)) (v2 : (c : Dev Cert.FoxbIdeal.nD) → Buf (Elt Ideal) ((c.tc : Thread Cert.FoxbIdeal.nD Cert.FoxbIdeal.τ).loc Cert.FoxbIdeal.main_v95_2)) (v3 : (c : Dev Cert.FoxbIdeal.nD) → Buf (Elt Ideal) ((c.tc : Thread Cert.FoxbIdeal.nD Cert.FoxbIdeal.τ).loc Cert.FoxbIdeal.main_v101)) (v4 : (c : Dev Cert.FoxbIdeal.nD) → Buf (Elt Ideal) ((c.tc : Thread Cert.FoxbIdeal.nD Cert.FoxbIdeal.τ).loc Cert.FoxbIdeal.main_v103)),
      θ_run (Cert.FoxbIdeal.defs (F := Ideal)) (onTc (τ := Cert.FoxbIdeal.τ) (Cert.FoxbIdeal.main (F := Ideal))) ⟨m, fun _ => 0, g⟩ (fun r => ∀ c : Dev Cert.FoxbIdeal.nD,
          r.2.mem ((c.tc : Thread Cert.FoxbIdeal.nD Cert.FoxbIdeal.τ).loc Cert.FoxbIdeal.main_v98) = v0 c
          ∧ r.2.mem ((c.tc : Thread Cert.FoxbIdeal.nD Cert.FoxbIdeal.τ).loc Cert.FoxbIdeal.main_v99) = v1 c
          ∧ r.2.mem ((c.tc : Thread Cert.FoxbIdeal.nD Cert.FoxbIdeal.τ).loc Cert.FoxbIdeal.main_v95_2) = v2 c
          ∧ r.2.mem ((c.tc : Thread Cert.FoxbIdeal.nD Cert.FoxbIdeal.τ).loc Cert.FoxbIdeal.main_v101) = v3 c
          ∧ r.2.mem ((c.tc : Thread Cert.FoxbIdeal.nD Cert.FoxbIdeal.τ).loc Cert.FoxbIdeal.main_v103) = v4 c
          ∧ r.2.mem ((c.tc : Thread Cert.FoxbIdeal.nD Cert.FoxbIdeal.τ).loc Cert.FoxbIdeal.main_arg0) = m ((c.tc : Thread Cert.FoxbIdeal.nD Cert.FoxbIdeal.τ).loc Cert.FoxbIdeal.main_arg0)
          ∧ r.2.mem ((c.tc : Thread Cert.FoxbIdeal.nD Cert.FoxbIdeal.τ).loc Cert.FoxbIdeal.main_arg1) = m ((c.tc : Thread Cert.FoxbIdeal.nD Cert.FoxbIdeal.τ).loc Cert.FoxbIdeal.main_arg1)
          ∧ r.2.mem ((c.tc : Thread Cert.FoxbIdeal.nD Cert.FoxbIdeal.τ).loc Cert.FoxbIdeal.main_arg2) = m ((c.tc : Thread Cert.FoxbIdeal.nD Cert.FoxbIdeal.τ).loc Cert.FoxbIdeal.main_arg2)
          ∧ r.2.mem ((c.tc : Thread Cert.FoxbIdeal.nD Cert.FoxbIdeal.τ).loc Cert.FoxbIdeal.main_arg3) = m ((c.tc : Thread Cert.FoxbIdeal.nD Cert.FoxbIdeal.τ).loc Cert.FoxbIdeal.main_arg3)
          ∧ r.2.mem ((c.tc : Thread Cert.FoxbIdeal.nD Cert.FoxbIdeal.τ).loc Cert.FoxbIdeal.main_arg4) = m ((c.tc : Thread Cert.FoxbIdeal.nD Cert.FoxbIdeal.τ).loc Cert.FoxbIdeal.main_arg4))
      ∧ θ_run (Cert.FoxbRefIdeal.defs (F := Ideal)) (onTc (τ := Cert.FoxbRefIdeal.τ) (Cert.FoxbRefIdeal.main (F := Ideal))) ⟨m', fun _ => 0, g'⟩ (fun r => ∀ c : Dev Cert.FoxbRefIdeal.nD,
          r.2.mem ((c.tc : Thread Cert.FoxbRefIdeal.nD Cert.FoxbRefIdeal.τ).loc Cert.FoxbRefIdeal.main_v86) = v0 c
          ∧ r.2.mem ((c.tc : Thread Cert.FoxbRefIdeal.nD Cert.FoxbRefIdeal.τ).loc Cert.FoxbRefIdeal.main_v88) = v1 c
          ∧ r.2.mem ((c.tc : Thread Cert.FoxbRefIdeal.nD Cert.FoxbRefIdeal.τ).loc Cert.FoxbRefIdeal.main_v91) = v2 c
          ∧ r.2.mem ((c.tc : Thread Cert.FoxbRefIdeal.nD Cert.FoxbRefIdeal.τ).loc Cert.FoxbRefIdeal.main_v92) = v3 c
          ∧ r.2.mem ((c.tc : Thread Cert.FoxbRefIdeal.nD Cert.FoxbRefIdeal.τ).loc Cert.FoxbRefIdeal.main_v93) = v4 c
          ∧ r.2.mem ((c.tc : Thread Cert.FoxbRefIdeal.nD Cert.FoxbRefIdeal.τ).loc Cert.FoxbRefIdeal.main_arg0) = m' ((c.tc : Thread Cert.FoxbRefIdeal.nD Cert.FoxbRefIdeal.τ).loc Cert.FoxbRefIdeal.main_arg0)
          ∧ r.2.mem ((c.tc : Thread Cert.FoxbRefIdeal.nD Cert.FoxbRefIdeal.τ).loc Cert.FoxbRefIdeal.main_arg1) = m' ((c.tc : Thread Cert.FoxbRefIdeal.nD Cert.FoxbRefIdeal.τ).loc Cert.FoxbRefIdeal.main_arg1)
          ∧ r.2.mem ((c.tc : Thread Cert.FoxbRefIdeal.nD Cert.FoxbRefIdeal.τ).loc Cert.FoxbRefIdeal.main_arg2) = m' ((c.tc : Thread Cert.FoxbRefIdeal.nD Cert.FoxbRefIdeal.τ).loc Cert.FoxbRefIdeal.main_arg2)
          ∧ r.2.mem ((c.tc : Thread Cert.FoxbRefIdeal.nD Cert.FoxbRefIdeal.τ).loc Cert.FoxbRefIdeal.main_arg3) = m' ((c.tc : Thread Cert.FoxbRefIdeal.nD Cert.FoxbRefIdeal.τ).loc Cert.FoxbRefIdeal.main_arg3)
          ∧ r.2.mem ((c.tc : Thread Cert.FoxbRefIdeal.nD Cert.FoxbRefIdeal.τ).loc Cert.FoxbRefIdeal.main_arg4) = m' ((c.tc : Thread Cert.FoxbRefIdeal.nD Cert.FoxbRefIdeal.τ).loc Cert.FoxbRefIdeal.main_arg4))

def preserves_Dmix_DmixIdeal : Prop :=
  True

def algebraic_DmixIdeal_DmixRefIdeal_pre_dmix_finite [hDmixIdeal : Cert.DmixIdeal.Facts] [hDmixRefIdeal : Cert.DmixRefIdeal.Facts] [hPre_dmix_finite : Cert.Pre_dmix_finite.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixRefIdeal.nD Cert.DmixRefIdeal.τ Cert.DmixRefIdeal.sig) → Buf (Elt Ideal) ℓ) (g' : Dev Cert.DmixRefIdeal.nD → PrngReg), Pre_DmixIdeal_dmix_finite m →
    (∀ c : Dev Cert.DmixIdeal.nD,
      m' ((c.tc : Thread Cert.DmixRefIdeal.nD Cert.DmixRefIdeal.τ).loc Cert.DmixRefIdeal.main_arg0) = m ((c.tc : Thread Cert.DmixIdeal.nD Cert.DmixIdeal.τ).loc Cert.DmixIdeal.main_arg0)
      ∧ m' ((c.tc : Thread Cert.DmixRefIdeal.nD Cert.DmixRefIdeal.τ).loc Cert.DmixRefIdeal.main_arg1) = m ((c.tc : Thread Cert.DmixIdeal.nD Cert.DmixIdeal.τ).loc Cert.DmixIdeal.main_arg1)
      ∧ m' ((c.tc : Thread Cert.DmixRefIdeal.nD Cert.DmixRefIdeal.τ).loc Cert.DmixRefIdeal.main_arg2) = m ((c.tc : Thread Cert.DmixIdeal.nD Cert.DmixIdeal.τ).loc Cert.DmixIdeal.main_arg2)
      ∧ m' ((c.tc : Thread Cert.DmixRefIdeal.nD Cert.DmixRefIdeal.τ).loc Cert.DmixRefIdeal.main_arg3) = m ((c.tc : Thread Cert.DmixIdeal.nD Cert.DmixIdeal.τ).loc Cert.DmixIdeal.main_arg3)
      ∧ m' ((c.tc : Thread Cert.DmixRefIdeal.nD Cert.DmixRefIdeal.τ).loc Cert.DmixRefIdeal.main_arg4) = m ((c.tc : Thread Cert.DmixIdeal.nD Cert.DmixIdeal.τ).loc Cert.DmixIdeal.main_arg4)) →
    ∃ (v0 : (c : Dev Cert.DmixIdeal.nD) → Buf (Elt Ideal) ((c.tc : Thread Cert.DmixIdeal.nD Cert.DmixIdeal.τ).loc Cert.DmixIdeal.main_v48_0)) (v1 : (c : Dev Cert.DmixIdeal.nD) → Buf (Elt Ideal) ((c.tc : Thread Cert.DmixIdeal.nD Cert.DmixIdeal.τ).loc Cert.DmixIdeal.main_v48_1)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v48_0) = v0 c
          ∧ r.2.mem ((c.tc : Thread Cert.DmixIdeal.nD Cert.DmixIdeal.τ).loc Cert.DmixIdeal.main_v48_1) = v1 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
          ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2)
          ∧ r.2.mem ((c.tc : Thread Cert.DmixIdeal.nD Cert.DmixIdeal.τ).loc Cert.DmixIdeal.main_arg3) = m ((c.tc : Thread Cert.DmixIdeal.nD Cert.DmixIdeal.τ).loc Cert.DmixIdeal.main_arg3)
          ∧ r.2.mem ((c.tc : Thread Cert.DmixIdeal.nD Cert.DmixIdeal.τ).loc Cert.DmixIdeal.main_arg4) = m ((c.tc : Thread Cert.DmixIdeal.nD Cert.DmixIdeal.τ).loc Cert.DmixIdeal.main_arg4))
      ∧ θ_run (Cert.DmixRefIdeal.defs (F := Ideal)) (onTc (τ := Cert.DmixRefIdeal.τ) (Cert.DmixRefIdeal.main (F := Ideal))) ⟨m', fun _ => 0, g'⟩ (fun r => ∀ c : Dev Cert.DmixRefIdeal.nD,
          r.2.mem ((c.tc : Thread Cert.DmixRefIdeal.nD Cert.DmixRefIdeal.τ).loc Cert.DmixRefIdeal.main_v37) = v0 c
          ∧ r.2.mem ((c.tc : Thread Cert.DmixRefIdeal.nD Cert.DmixRefIdeal.τ).loc Cert.DmixRefIdeal.main_v39) = v1 c
          ∧ r.2.mem ((c.tc : Thread Cert.DmixRefIdeal.nD Cert.DmixRefIdeal.τ).loc Cert.DmixRefIdeal.main_arg0) = m' ((c.tc : Thread Cert.DmixRefIdeal.nD Cert.DmixRefIdeal.τ).loc Cert.DmixRefIdeal.main_arg0)
          ∧ r.2.mem ((c.tc : Thread Cert.DmixRefIdeal.nD Cert.DmixRefIdeal.τ).loc Cert.DmixRefIdeal.main_arg1) = m' ((c.tc : Thread Cert.DmixRefIdeal.nD Cert.DmixRefIdeal.τ).loc Cert.DmixRefIdeal.main_arg1)
          ∧ r.2.mem ((c.tc : Thread Cert.DmixRefIdeal.nD Cert.DmixRefIdeal.τ).loc Cert.DmixRefIdeal.main_arg2) = m' ((c.tc : Thread Cert.DmixRefIdeal.nD Cert.DmixRefIdeal.τ).loc Cert.DmixRefIdeal.main_arg2)
          ∧ r.2.mem ((c.tc : Thread Cert.DmixRefIdeal.nD Cert.DmixRefIdeal.τ).loc Cert.DmixRefIdeal.main_arg3) = m' ((c.tc : Thread Cert.DmixRefIdeal.nD Cert.DmixRefIdeal.τ).loc Cert.DmixRefIdeal.main_arg3)
          ∧ r.2.mem ((c.tc : Thread Cert.DmixRefIdeal.nD Cert.DmixRefIdeal.τ).loc Cert.DmixRefIdeal.main_arg4) = m' ((c.tc : Thread Cert.DmixRefIdeal.nD Cert.DmixRefIdeal.τ).loc Cert.DmixRefIdeal.main_arg4))

def preserves_Fdel_FdelIdeal : Prop :=
  True

def algebraic_FdelIdeal_FdelRefIdeal [hFdelIdeal : Cert.FdelIdeal.Facts] [hFdelRefIdeal : Cert.FdelRefIdeal.Facts] : Prop :=
  ∀ (m : (ℓ : Loc Cert.FdelIdeal.nD Cert.FdelIdeal.τ Cert.FdelIdeal.sig) → Buf (Elt Ideal) ℓ) (g : Dev Cert.FdelIdeal.nD → PrngReg)
    (m' : (ℓ : Loc Cert.FdelRefIdeal.nD Cert.FdelRefIdeal.τ Cert.FdelRefIdeal.sig) → Buf (Elt Ideal) ℓ) (g' : Dev Cert.FdelRefIdeal.nD → PrngReg), Pre_FdelIdeal m →
    (∀ c : Dev Cert.FdelIdeal.nD,
      m' ((c.tc : Thread Cert.FdelRefIdeal.nD Cert.FdelRefIdeal.τ).loc Cert.FdelRefIdeal.main_arg0) = m ((c.tc : Thread Cert.FdelIdeal.nD Cert.FdelIdeal.τ).loc Cert.FdelIdeal.main_arg0)
      ∧ m' ((c.tc : Thread Cert.FdelRefIdeal.nD Cert.FdelRefIdeal.τ).loc Cert.FdelRefIdeal.main_arg1) = m ((c.tc : Thread Cert.FdelIdeal.nD Cert.FdelIdeal.τ).loc Cert.FdelIdeal.main_arg1)) →
    ∃ (v0 : (c : Dev Cert.FdelIdeal.nD) → Buf (Elt Ideal) ((c.tc : Thread Cert.FdelIdeal.nD Cert.FdelIdeal.τ).loc Cert.FdelIdeal.main_v2_0)) (v1 : (c : Dev Cert.FdelIdeal.nD) → Buf (Elt Ideal) ((c.tc : Thread Cert.FdelIdeal.nD Cert.FdelIdeal.τ).loc Cert.FdelIdeal.main_v2_1)) (v2 : (c : Dev Cert.FdelIdeal.nD) → Buf (Elt Ideal) ((c.tc : Thread Cert.FdelIdeal.nD Cert.FdelIdeal.τ).loc Cert.FdelIdeal.main_v2_2)),
      θ_run (Cert.FdelIdeal.defs (F := Ideal)) (onTc (τ := Cert.FdelIdeal.τ) (Cert.FdelIdeal.main (F := Ideal))) ⟨m, fun _ => 0, g⟩ (fun r => ∀ c : Dev Cert.FdelIdeal.nD,
          r.2.mem ((c.tc : Thread Cert.FdelIdeal.nD Cert.FdelIdeal.τ).loc Cert.FdelIdeal.main_v2_0) = v0 c
          ∧ r.2.mem ((c.tc : Thread Cert.FdelIdeal.nD Cert.FdelIdeal.τ).loc Cert.FdelIdeal.main_v2_1) = v1 c
          ∧ r.2.mem ((c.tc : Thread Cert.FdelIdeal.nD Cert.FdelIdeal.τ).loc Cert.FdelIdeal.main_v2_2) = v2 c
          ∧ r.2.mem ((c.tc : Thread Cert.FdelIdeal.nD Cert.FdelIdeal.τ).loc Cert.FdelIdeal.main_arg0) = m ((c.tc : Thread Cert.FdelIdeal.nD Cert.FdelIdeal.τ).loc Cert.FdelIdeal.main_arg0)
          ∧ r.2.mem ((c.tc : Thread Cert.FdelIdeal.nD Cert.FdelIdeal.τ).loc Cert.FdelIdeal.main_arg1) = m ((c.tc : Thread Cert.FdelIdeal.nD Cert.FdelIdeal.τ).loc Cert.FdelIdeal.main_arg1))
      ∧ θ_run (Cert.FdelRefIdeal.defs (F := Ideal)) (onTc (τ := Cert.FdelRefIdeal.τ) (Cert.FdelRefIdeal.main (F := Ideal))) ⟨m', fun _ => 0, g'⟩ (fun r => ∀ c : Dev Cert.FdelRefIdeal.nD,
          r.2.mem ((c.tc : Thread Cert.FdelRefIdeal.nD Cert.FdelRefIdeal.τ).loc Cert.FdelRefIdeal.main_v1) = v0 c
          ∧ r.2.mem ((c.tc : Thread Cert.FdelRefIdeal.nD Cert.FdelRefIdeal.τ).loc Cert.FdelRefIdeal.main_v5) = v1 c
          ∧ r.2.mem ((c.tc : Thread Cert.FdelRefIdeal.nD Cert.FdelRefIdeal.τ).loc Cert.FdelRefIdeal.main_v8) = v2 c
          ∧ r.2.mem ((c.tc : Thread Cert.FdelRefIdeal.nD Cert.FdelRefIdeal.τ).loc Cert.FdelRefIdeal.main_arg0) = m' ((c.tc : Thread Cert.FdelRefIdeal.nD Cert.FdelRefIdeal.τ).loc Cert.FdelRefIdeal.main_arg0)
          ∧ r.2.mem ((c.tc : Thread Cert.FdelRefIdeal.nD Cert.FdelRefIdeal.τ).loc Cert.FdelRefIdeal.main_arg1) = m' ((c.tc : Thread Cert.FdelRefIdeal.nD Cert.FdelRefIdeal.τ).loc Cert.FdelRefIdeal.main_arg1))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v5_0)) (v1 : (c : Dev Cert.LossIdeal.nD) → Buf (Elt Ideal) ((c.tc : Thread Cert.LossIdeal.nD Cert.LossIdeal.τ).loc Cert.LossIdeal.main_v5_1)) (v2 : (c : Dev Cert.LossIdeal.nD) → Buf (Elt Ideal) ((c.tc : Thread Cert.LossIdeal.nD Cert.LossIdeal.τ).loc Cert.LossIdeal.main_v5_2)) (v3 : (c : Dev Cert.LossIdeal.nD) → Buf (Elt Ideal) ((c.tc : Thread Cert.LossIdeal.nD Cert.LossIdeal.τ).loc Cert.LossIdeal.main_v5_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v5_0) = v0 c
          ∧ r.2.mem ((c.tc : Thread Cert.LossIdeal.nD Cert.LossIdeal.τ).loc Cert.LossIdeal.main_v5_1) = v1 c
          ∧ r.2.mem ((c.tc : Thread Cert.LossIdeal.nD Cert.LossIdeal.τ).loc Cert.LossIdeal.main_v5_2) = v2 c
          ∧ r.2.mem ((c.tc : Thread Cert.LossIdeal.nD Cert.LossIdeal.τ).loc Cert.LossIdeal.main_v5_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v73) = v1 c
          ∧ r.2.mem ((c.tc : Thread Cert.LossRefIdeal.nD Cert.LossRefIdeal.τ).loc Cert.LossRefIdeal.main_v75) = v2 c
          ∧ r.2.mem ((c.tc : Thread Cert.LossRefIdeal.nD Cert.LossRefIdeal.τ).loc Cert.LossRefIdeal.main_v77) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Foxg_FoxgIdeal : Prop :=
  True

def algebraic_FoxgIdeal_FoxgRefIdeal_pre_foxg_finite [hFoxgIdeal : Cert.FoxgIdeal.Facts] [hFoxgRefIdeal : Cert.FoxgRefIdeal.Facts] [hPre_foxg_finite : Cert.Pre_foxg_finite.Facts] : Prop :=
  ∀ (m : (ℓ : Loc Cert.FoxgIdeal.nD Cert.FoxgIdeal.τ Cert.FoxgIdeal.sig) → Buf (Elt Ideal) ℓ) (g : Dev Cert.FoxgIdeal.nD → PrngReg)
    (m' : (ℓ : Loc Cert.FoxgRefIdeal.nD Cert.FoxgRefIdeal.τ Cert.FoxgRefIdeal.sig) → Buf (Elt Ideal) ℓ) (g' : Dev Cert.FoxgRefIdeal.nD → PrngReg), Pre_FoxgIdeal_foxg_finite m →
    (∀ c : Dev Cert.FoxgIdeal.nD,
      m' ((c.tc : Thread Cert.FoxgRefIdeal.nD Cert.FoxgRefIdeal.τ).loc Cert.FoxgRefIdeal.main_arg0) = m ((c.tc : Thread Cert.FoxgIdeal.nD Cert.FoxgIdeal.τ).loc Cert.FoxgIdeal.main_arg0)
      ∧ m' ((c.tc : Thread Cert.FoxgRefIdeal.nD Cert.FoxgRefIdeal.τ).loc Cert.FoxgRefIdeal.main_arg1) = m ((c.tc : Thread Cert.FoxgIdeal.nD Cert.FoxgIdeal.τ).loc Cert.FoxgIdeal.main_arg1)
      ∧ m' ((c.tc : Thread Cert.FoxgRefIdeal.nD Cert.FoxgRefIdeal.τ).loc Cert.FoxgRefIdeal.main_arg2) = m ((c.tc : Thread Cert.FoxgIdeal.nD Cert.FoxgIdeal.τ).loc Cert.FoxgIdeal.main_arg2)
      ∧ m' ((c.tc : Thread Cert.FoxgRefIdeal.nD Cert.FoxgRefIdeal.τ).loc Cert.FoxgRefIdeal.main_arg3) = m ((c.tc : Thread Cert.FoxgIdeal.nD Cert.FoxgIdeal.τ).loc Cert.FoxgIdeal.main_arg3)
      ∧ m' ((c.tc : Thread Cert.FoxgRefIdeal.nD Cert.FoxgRefIdeal.τ).loc Cert.FoxgRefIdeal.main_arg4) = m ((c.tc : Thread Cert.FoxgIdeal.nD Cert.FoxgIdeal.τ).loc Cert.FoxgIdeal.main_arg4)
      ∧ m' ((c.tc : Thread Cert.FoxgRefIdeal.nD Cert.FoxgRefIdeal.τ).loc Cert.FoxgRefIdeal.main_arg5) = m ((c.tc : Thread Cert.FoxgIdeal.nD Cert.FoxgIdeal.τ).loc Cert.FoxgIdeal.main_arg5)
      ∧ m' ((c.tc : Thread Cert.FoxgRefIdeal.nD Cert.FoxgRefIdeal.τ).loc Cert.FoxgRefIdeal.main_arg6) = m ((c.tc : Thread Cert.FoxgIdeal.nD Cert.FoxgIdeal.τ).loc Cert.FoxgIdeal.main_arg6)
      ∧ m' ((c.tc : Thread Cert.FoxgRefIdeal.nD Cert.FoxgRefIdeal.τ).loc Cert.FoxgRefIdeal.main_arg7) = m ((c.tc : Thread Cert.FoxgIdeal.nD Cert.FoxgIdeal.τ).loc Cert.FoxgIdeal.main_arg7)
      ∧ m' ((c.tc : Thread Cert.FoxgRefIdeal.nD Cert.FoxgRefIdeal.τ).loc Cert.FoxgRefIdeal.main_arg8) = m ((c.tc : Thread Cert.FoxgIdeal.nD Cert.FoxgIdeal.τ).loc Cert.FoxgIdeal.main_arg8)
      ∧ m' ((c.tc : Thread Cert.FoxgRefIdeal.nD Cert.FoxgRefIdeal.τ).loc Cert.FoxgRefIdeal.main_arg9) = m ((c.tc : Thread Cert.FoxgIdeal.nD Cert.FoxgIdeal.τ).loc Cert.FoxgIdeal.main_arg9)) →
    ∃ (v0 : (c : Dev Cert.FoxgIdeal.nD) → Buf (Elt Ideal) ((c.tc : Thread Cert.FoxgIdeal.nD Cert.FoxgIdeal.τ).loc Cert.FoxgIdeal.main_v25_0)) (v1 : (c : Dev Cert.FoxgIdeal.nD) → Buf (Elt Ideal) ((c.tc : Thread Cert.FoxgIdeal.nD Cert.FoxgIdeal.τ).loc Cert.FoxgIdeal.main_v25_1)) (v2 : (c : Dev Cert.FoxgIdeal.nD) → Buf (Elt Ideal) ((c.tc : Thread Cert.FoxgIdeal.nD Cert.FoxgIdeal.τ).loc Cert.FoxgIdeal.main_v25_2)),
      θ_run (Cert.FoxgIdeal.defs (F := Ideal)) (onTc (τ := Cert.FoxgIdeal.τ) (Cert.FoxgIdeal.main (F := Ideal))) ⟨m, fun _ => 0, g⟩ (fun r => ∀ c : Dev Cert.FoxgIdeal.nD,
          r.2.mem ((c.tc : Thread Cert.FoxgIdeal.nD Cert.FoxgIdeal.τ).loc Cert.FoxgIdeal.main_v25_0) = v0 c
          ∧ r.2.mem ((c.tc : Thread Cert.FoxgIdeal.nD Cert.FoxgIdeal.τ).loc Cert.FoxgIdeal.main_v25_1) = v1 c
          ∧ r.2.mem ((c.tc : Thread Cert.FoxgIdeal.nD Cert.FoxgIdeal.τ).loc Cert.FoxgIdeal.main_v25_2) = v2 c
          ∧ r.2.mem ((c.tc : Thread Cert.FoxgIdeal.nD Cert.FoxgIdeal.τ).loc Cert.FoxgIdeal.main_arg0) = m ((c.tc : Thread Cert.FoxgIdeal.nD Cert.FoxgIdeal.τ).loc Cert.FoxgIdeal.main_arg0)
          ∧ r.2.mem ((c.tc : Thread Cert.FoxgIdeal.nD Cert.FoxgIdeal.τ).loc Cert.FoxgIdeal.main_arg1) = m ((c.tc : Thread Cert.FoxgIdeal.nD Cert.FoxgIdeal.τ).loc Cert.FoxgIdeal.main_arg1)
          ∧ r.2.mem ((c.tc : Thread Cert.FoxgIdeal.nD Cert.FoxgIdeal.τ).loc Cert.FoxgIdeal.main_arg2) = m ((c.tc : Thread Cert.FoxgIdeal.nD Cert.FoxgIdeal.τ).loc Cert.FoxgIdeal.main_arg2)
          ∧ r.2.mem ((c.tc : Thread Cert.FoxgIdeal.nD Cert.FoxgIdeal.τ).loc Cert.FoxgIdeal.main_arg3) = m ((c.tc : Thread Cert.FoxgIdeal.nD Cert.FoxgIdeal.τ).loc Cert.FoxgIdeal.main_arg3)
          ∧ r.2.mem ((c.tc : Thread Cert.FoxgIdeal.nD Cert.FoxgIdeal.τ).loc Cert.FoxgIdeal.main_arg4) = m ((c.tc : Thread Cert.FoxgIdeal.nD Cert.FoxgIdeal.τ).loc Cert.FoxgIdeal.main_arg4)
          ∧ r.2.mem ((c.tc : Thread Cert.FoxgIdeal.nD Cert.FoxgIdeal.τ).loc Cert.FoxgIdeal.main_arg5) = m ((c.tc : Thread Cert.FoxgIdeal.nD Cert.FoxgIdeal.τ).loc Cert.FoxgIdeal.main_arg5)
          ∧ r.2.mem ((c.tc : Thread Cert.FoxgIdeal.nD Cert.FoxgIdeal.τ).loc Cert.FoxgIdeal.main_arg6) = m ((c.tc : Thread Cert.FoxgIdeal.nD Cert.FoxgIdeal.τ).loc Cert.FoxgIdeal.main_arg6)
          ∧ r.2.mem ((c.tc : Thread Cert.FoxgIdeal.nD Cert.FoxgIdeal.τ).loc Cert.FoxgIdeal.main_arg7) = m ((c.tc : Thread Cert.FoxgIdeal.nD Cert.FoxgIdeal.τ).loc Cert.FoxgIdeal.main_arg7)
          ∧ r.2.mem ((c.tc : Thread Cert.FoxgIdeal.nD Cert.FoxgIdeal.τ).loc Cert.FoxgIdeal.main_arg8) = m ((c.tc : Thread Cert.FoxgIdeal.nD Cert.FoxgIdeal.τ).loc Cert.FoxgIdeal.main_arg8)
          ∧ r.2.mem ((c.tc : Thread Cert.FoxgIdeal.nD Cert.FoxgIdeal.τ).loc Cert.FoxgIdeal.main_arg9) = m ((c.tc : Thread Cert.FoxgIdeal.nD Cert.FoxgIdeal.τ).loc Cert.FoxgIdeal.main_arg9))
      ∧ θ_run (Cert.FoxgRefIdeal.defs (F := Ideal)) (onTc (τ := Cert.FoxgRefIdeal.τ) (Cert.FoxgRefIdeal.main (F := Ideal))) ⟨m', fun _ => 0, g'⟩ (fun r => ∀ c : Dev Cert.FoxgRefIdeal.nD,
          r.2.mem ((c.tc : Thread Cert.FoxgRefIdeal.nD Cert.FoxgRefIdeal.τ).loc Cert.FoxgRefIdeal.main_v27) = v0 c
          ∧ r.2.mem ((c.tc : Thread Cert.FoxgRefIdeal.nD Cert.FoxgRefIdeal.τ).loc Cert.FoxgRefIdeal.main_v29) = v1 c
          ∧ r.2.mem ((c.tc : Thread Cert.FoxgRefIdeal.nD Cert.FoxgRefIdeal.τ).loc Cert.FoxgRefIdeal.main_v33) = v2 c
          ∧ r.2.mem ((c.tc : Thread Cert.FoxgRefIdeal.nD Cert.FoxgRefIdeal.τ).loc Cert.FoxgRefIdeal.main_arg0) = m' ((c.tc : Thread Cert.FoxgRefIdeal.nD Cert.FoxgRefIdeal.τ).loc Cert.FoxgRefIdeal.main_arg0)
          ∧ r.2.mem ((c.tc : Thread Cert.FoxgRefIdeal.nD Cert.FoxgRefIdeal.τ).loc Cert.FoxgRefIdeal.main_arg1) = m' ((c.tc : Thread Cert.FoxgRefIdeal.nD Cert.FoxgRefIdeal.τ).loc Cert.FoxgRefIdeal.main_arg1)
          ∧ r.2.mem ((c.tc : Thread Cert.FoxgRefIdeal.nD Cert.FoxgRefIdeal.τ).loc Cert.FoxgRefIdeal.main_arg2) = m' ((c.tc : Thread Cert.FoxgRefIdeal.nD Cert.FoxgRefIdeal.τ).loc Cert.FoxgRefIdeal.main_arg2)
          ∧ r.2.mem ((c.tc : Thread Cert.FoxgRefIdeal.nD Cert.FoxgRefIdeal.τ).loc Cert.FoxgRefIdeal.main_arg3) = m' ((c.tc : Thread Cert.FoxgRefIdeal.nD Cert.FoxgRefIdeal.τ).loc Cert.FoxgRefIdeal.main_arg3)
          ∧ r.2.mem ((c.tc : Thread Cert.FoxgRefIdeal.nD Cert.FoxgRefIdeal.τ).loc Cert.FoxgRefIdeal.main_arg4) = m' ((c.tc : Thread Cert.FoxgRefIdeal.nD Cert.FoxgRefIdeal.τ).loc Cert.FoxgRefIdeal.main_arg4)
          ∧ r.2.mem ((c.tc : Thread Cert.FoxgRefIdeal.nD Cert.FoxgRefIdeal.τ).loc Cert.FoxgRefIdeal.main_arg5) = m' ((c.tc : Thread Cert.FoxgRefIdeal.nD Cert.FoxgRefIdeal.τ).loc Cert.FoxgRefIdeal.main_arg5)
          ∧ r.2.mem ((c.tc : Thread Cert.FoxgRefIdeal.nD Cert.FoxgRefIdeal.τ).loc Cert.FoxgRefIdeal.main_arg6) = m' ((c.tc : Thread Cert.FoxgRefIdeal.nD Cert.FoxgRefIdeal.τ).loc Cert.FoxgRefIdeal.main_arg6)
          ∧ r.2.mem ((c.tc : Thread Cert.FoxgRefIdeal.nD Cert.FoxgRefIdeal.τ).loc Cert.FoxgRefIdeal.main_arg7) = m' ((c.tc : Thread Cert.FoxgRefIdeal.nD Cert.FoxgRefIdeal.τ).loc Cert.FoxgRefIdeal.main_arg7)
          ∧ r.2.mem ((c.tc : Thread Cert.FoxgRefIdeal.nD Cert.FoxgRefIdeal.τ).loc Cert.FoxgRefIdeal.main_arg8) = m' ((c.tc : Thread Cert.FoxgRefIdeal.nD Cert.FoxgRefIdeal.τ).loc Cert.FoxgRefIdeal.main_arg8)
          ∧ r.2.mem ((c.tc : Thread Cert.FoxgRefIdeal.nD Cert.FoxgRefIdeal.τ).loc Cert.FoxgRefIdeal.main_arg9) = m' ((c.tc : Thread Cert.FoxgRefIdeal.nD Cert.FoxgRefIdeal.τ).loc Cert.FoxgRefIdeal.main_arg9))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v17_0)) (v1 : (c : Dev Cert.MemkvIdeal.nD) → Buf (Elt Ideal) ((c.tc : Thread Cert.MemkvIdeal.nD Cert.MemkvIdeal.τ).loc Cert.MemkvIdeal.main_v17_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v17_0) = v0 c
          ∧ r.2.mem ((c.tc : Thread Cert.MemkvIdeal.nD Cert.MemkvIdeal.τ).loc Cert.MemkvIdeal.main_v17_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v19) = v0 c
          ∧ r.2.mem ((c.tc : Thread Cert.MemkvRefIdeal.nD Cert.MemkvRefIdeal.τ).loc Cert.MemkvRefIdeal.main_v21) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_Merge_MergeIdeal : Prop :=
  True

def algebraic_MergeIdeal_MergeRefIdeal_on_gate_columns [hMergeIdeal : Cert.MergeIdeal.Facts] [hMergeRefIdeal : Cert.MergeRefIdeal.Facts] [hOn_gate_columns : Cert.On_gate_columns.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v26_0)) (v1 : (c : Dev Cert.MergeIdeal.nD) → Buf (Elt Ideal) ((c.tc : Thread Cert.MergeIdeal.nD Cert.MergeIdeal.τ).loc Cert.MergeIdeal.main_v26_1)) (v2 : (c : Dev Cert.MergeIdeal.nD) → Buf (Elt Ideal) ((c.tc : Thread Cert.MergeIdeal.nD Cert.MergeIdeal.τ).loc Cert.MergeIdeal.main_v26_2)) (v3 : (c : Dev Cert.MergeIdeal.nD) → Buf (Elt Ideal) ((c.tc : Thread Cert.MergeIdeal.nD Cert.MergeIdeal.τ).loc Cert.MergeIdeal.main_v26_3)) (v4 : (c : Dev Cert.MergeIdeal.nD) → Buf (Elt Ideal) ((c.tc : Thread Cert.MergeIdeal.nD Cert.MergeIdeal.τ).loc Cert.MergeIdeal.main_v26_4)) (v5 : (c : Dev Cert.MergeIdeal.nD) → Buf (Elt Ideal) ((c.tc : Thread Cert.MergeIdeal.nD Cert.MergeIdeal.τ).loc Cert.MergeIdeal.main_v26_5)) (v6 : (c : Dev Cert.MergeIdeal.nD) → Buf (Elt Ideal) ((c.tc : Thread Cert.MergeIdeal.nD Cert.MergeIdeal.τ).loc Cert.MergeIdeal.main_v26_6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![16384, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).1 i = 1#1 → r.2.mem ((c.tc : Thread Cert.MergeIdeal.nD Cert.MergeIdeal.τ).loc Cert.MergeIdeal.main_v26_0) i = v0 c i)
          ∧ (∀ i : (⟨2, ![16384, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.1 i = 1#1 → r.2.mem ((c.tc : Thread Cert.MergeIdeal.nD Cert.MergeIdeal.τ).loc Cert.MergeIdeal.main_v26_1) i = v1 c i)
          ∧ (∀ i : (⟨2, ![16384, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.1 i = 1#1 → r.2.mem ((c.tc : Thread Cert.MergeIdeal.nD Cert.MergeIdeal.τ).loc Cert.MergeIdeal.main_v26_2) i = v2 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.1 i = 1#1 → r.2.mem ((c.tc : Thread Cert.MergeIdeal.nD Cert.MergeIdeal.τ).loc Cert.MergeIdeal.main_v26_3) i = v3 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.1 i = 1#1 → r.2.mem ((c.tc : Thread Cert.MergeIdeal.nD Cert.MergeIdeal.τ).loc Cert.MergeIdeal.main_v26_4) i = v4 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2.1 i = 1#1 → r.2.mem ((c.tc : Thread Cert.MergeIdeal.nD Cert.MergeIdeal.τ).loc Cert.MergeIdeal.main_v26_5) i = v5 c i)
          ∧ (∀ i : (⟨2, ![16384, 8192]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2.2 i = 1#1 → r.2.mem ((c.tc : Thread Cert.MergeIdeal.nD Cert.MergeIdeal.τ).loc Cert.MergeIdeal.main_v26_6) i = v6 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![16384, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).1 i = 1#1 → r.2.mem ((c.tc : Thread Cert.MergeRefIdeal.nD Cert.MergeRefIdeal.τ).loc Cert.MergeRefIdeal.main_v53) i = v0 c i)
          ∧ (∀ i : (⟨2, ![16384, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.1 i = 1#1 → r.2.mem ((c.tc : Thread Cert.MergeRefIdeal.nD Cert.MergeRefIdeal.τ).loc Cert.MergeRefIdeal.main_v55) i = v1 c i)
          ∧ (∀ i : (⟨2, ![16384, 1024]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.1 i = 1#1 → r.2.mem ((c.tc : Thread Cert.MergeRefIdeal.nD Cert.MergeRefIdeal.τ).loc Cert.MergeRefIdeal.main_v57) i = v2 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.1 i = 1#1 → r.2.mem ((c.tc : Thread Cert.MergeRefIdeal.nD Cert.MergeRefIdeal.τ).loc Cert.MergeRefIdeal.main_v58) i = v3 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.1 i = 1#1 → r.2.mem ((c.tc : Thread Cert.MergeRefIdeal.nD Cert.MergeRefIdeal.τ).loc Cert.MergeRefIdeal.main_v59) i = v4 c i)
          ∧ (∀ i : (⟨2, ![16384, 512]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2.1 i = 1#1 → r.2.mem ((c.tc : Thread Cert.MergeRefIdeal.nD Cert.MergeRefIdeal.τ).loc Cert.MergeRefIdeal.main_v60) i = v5 c i)
          ∧ (∀ i : (⟨2, ![16384, 8192]⟩ : Shape).Idx, (Cert.On_gate_columns.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8))).2.2.2.2.2.2 i = 1#1 → r.2.mem ((c.tc : Thread Cert.MergeRefIdeal.nD Cert.MergeRefIdeal.τ).loc Cert.MergeRefIdeal.main_v51) i = v6 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def Claim : Prop :=
  ∃ (hDact : Cert.Dact.Facts) (hDactIdeal : Cert.DactIdeal.Facts) (hDactRefIdeal : Cert.DactRefIdeal.Facts) (hXatt : Cert.Xatt.Facts) (hXattIdeal : Cert.XattIdeal.Facts) (hXattRefIdeal : Cert.XattRefIdeal.Facts) (hDffn : Cert.Dffn.Facts) (hDffnIdeal : Cert.DffnIdeal.Facts) (hDffnRefIdeal : Cert.DffnRefIdeal.Facts) (hFoxb : Cert.Foxb.Facts) (hFoxbIdeal : Cert.FoxbIdeal.Facts) (hFoxbRefIdeal : Cert.FoxbRefIdeal.Facts) (hDmix : Cert.Dmix.Facts) (hDmixIdeal : Cert.DmixIdeal.Facts) (hDmixRefIdeal : Cert.DmixRefIdeal.Facts) (hFdel : Cert.Fdel.Facts) (hFdelIdeal : Cert.FdelIdeal.Facts) (hFdelRefIdeal : Cert.FdelRefIdeal.Facts) (hLoss : Cert.Loss.Facts) (hLossIdeal : Cert.LossIdeal.Facts) (hLossRefIdeal : Cert.LossRefIdeal.Facts) (hFoxg : Cert.Foxg.Facts) (hFoxgIdeal : Cert.FoxgIdeal.Facts) (hFoxgRefIdeal : Cert.FoxgRefIdeal.Facts) (hMemkv : Cert.Memkv.Facts) (hMemkvIdeal : Cert.MemkvIdeal.Facts) (hMemkvRefIdeal : Cert.MemkvRefIdeal.Facts) (hMerge : Cert.Merge.Facts) (hMergeIdeal : Cert.MergeIdeal.Facts) (hMergeRefIdeal : Cert.MergeRefIdeal.Facts) (hPre_mem_finite : Cert.Pre_mem_finite.Facts) (hPre_dffn_finite : Cert.Pre_dffn_finite.Facts) (hPre_fox_finite : Cert.Pre_fox_finite.Facts) (hPre_dmix_finite : Cert.Pre_dmix_finite.Facts) (hPre_loss_finite : Cert.Pre_loss_finite.Facts) (hPre_foxg_finite : Cert.Pre_foxg_finite.Facts) (hOn_gate_columns : Cert.On_gate_columns.Facts),
    quiescent_Dact (hDact := hDact)
    ∧ quiescent_DactIdeal (hDactIdeal := hDactIdeal)
    ∧ quiescent_DactRefIdeal (hDactRefIdeal := hDactRefIdeal)
    ∧ quiescent_Xatt (hXatt := hXatt)
    ∧ quiescent_XattIdeal (hXattIdeal := hXattIdeal)
    ∧ quiescent_XattIdeal_pre_mem_finite (hXattIdeal := hXattIdeal) (hPre_mem_finite := hPre_mem_finite)
    ∧ quiescent_XattRefIdeal (hXattRefIdeal := hXattRefIdeal)
    ∧ quiescent_XattRefIdeal_pre_mem_finite (hXattRefIdeal := hXattRefIdeal) (hPre_mem_finite := hPre_mem_finite)
    ∧ quiescent_Dffn (hDffn := hDffn)
    ∧ quiescent_DffnIdeal (hDffnIdeal := hDffnIdeal)
    ∧ quiescent_DffnIdeal_pre_dffn_finite (hDffnIdeal := hDffnIdeal) (hPre_dffn_finite := hPre_dffn_finite)
    ∧ quiescent_DffnRefIdeal (hDffnRefIdeal := hDffnRefIdeal)
    ∧ quiescent_DffnRefIdeal_pre_dffn_finite (hDffnRefIdeal := hDffnRefIdeal) (hPre_dffn_finite := hPre_dffn_finite)
    ∧ quiescent_Foxb (hFoxb := hFoxb)
    ∧ quiescent_FoxbIdeal (hFoxbIdeal := hFoxbIdeal)
    ∧ quiescent_FoxbIdeal_pre_fox_finite (hFoxbIdeal := hFoxbIdeal) (hPre_fox_finite := hPre_fox_finite)
    ∧ quiescent_FoxbRefIdeal (hFoxbRefIdeal := hFoxbRefIdeal)
    ∧ quiescent_FoxbRefIdeal_pre_fox_finite (hFoxbRefIdeal := hFoxbRefIdeal) (hPre_fox_finite := hPre_fox_finite)
    ∧ quiescent_Dmix (hDmix := hDmix)
    ∧ quiescent_DmixIdeal (hDmixIdeal := hDmixIdeal)
    ∧ quiescent_DmixIdeal_pre_dmix_finite (hDmixIdeal := hDmixIdeal) (hPre_dmix_finite := hPre_dmix_finite)
    ∧ quiescent_DmixRefIdeal (hDmixRefIdeal := hDmixRefIdeal)
    ∧ quiescent_DmixRefIdeal_pre_dmix_finite (hDmixRefIdeal := hDmixRefIdeal) (hPre_dmix_finite := hPre_dmix_finite)
    ∧ quiescent_Fdel (hFdel := hFdel)
    ∧ quiescent_FdelIdeal (hFdelIdeal := hFdelIdeal)
    ∧ quiescent_FdelRefIdeal (hFdelRefIdeal := hFdelRefIdeal)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Foxg (hFoxg := hFoxg)
    ∧ quiescent_FoxgIdeal (hFoxgIdeal := hFoxgIdeal)
    ∧ quiescent_FoxgIdeal_pre_foxg_finite (hFoxgIdeal := hFoxgIdeal) (hPre_foxg_finite := hPre_foxg_finite)
    ∧ quiescent_FoxgRefIdeal (hFoxgRefIdeal := hFoxgRefIdeal)
    ∧ quiescent_FoxgRefIdeal_pre_foxg_finite (hFoxgRefIdeal := hFoxgRefIdeal) (hPre_foxg_finite := hPre_foxg_finite)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Merge (hMerge := hMerge)
    ∧ quiescent_MergeIdeal (hMergeIdeal := hMergeIdeal)
    ∧ quiescent_MergeRefIdeal (hMergeRefIdeal := hMergeRefIdeal)
    ∧ preserves_Dact_DactIdeal
    ∧ algebraic_DactIdeal_DactRefIdeal (hDactIdeal := hDactIdeal) (hDactRefIdeal := hDactRefIdeal)
    ∧ preserves_Xatt_XattIdeal
    ∧ algebraic_XattIdeal_XattRefIdeal_pre_mem_finite (hXattIdeal := hXattIdeal) (hXattRefIdeal := hXattRefIdeal) (hPre_mem_finite := hPre_mem_finite)
    ∧ preserves_Dffn_DffnIdeal
    ∧ algebraic_DffnIdeal_DffnRefIdeal_pre_dffn_finite (hDffnIdeal := hDffnIdeal) (hDffnRefIdeal := hDffnRefIdeal) (hPre_dffn_finite := hPre_dffn_finite)
    ∧ preserves_Foxb_FoxbIdeal
    ∧ algebraic_FoxbIdeal_FoxbRefIdeal_pre_fox_finite (hFoxbIdeal := hFoxbIdeal) (hFoxbRefIdeal := hFoxbRefIdeal) (hPre_fox_finite := hPre_fox_finite)
    ∧ preserves_Dmix_DmixIdeal
    ∧ algebraic_DmixIdeal_DmixRefIdeal_pre_dmix_finite (hDmixIdeal := hDmixIdeal) (hDmixRefIdeal := hDmixRefIdeal) (hPre_dmix_finite := hPre_dmix_finite)
    ∧ preserves_Fdel_FdelIdeal
    ∧ algebraic_FdelIdeal_FdelRefIdeal (hFdelIdeal := hFdelIdeal) (hFdelRefIdeal := hFdelRefIdeal)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Foxg_FoxgIdeal
    ∧ algebraic_FoxgIdeal_FoxgRefIdeal_pre_foxg_finite (hFoxgIdeal := hFoxgIdeal) (hFoxgRefIdeal := hFoxgRefIdeal) (hPre_foxg_finite := hPre_foxg_finite)
    ∧ preserves_Memkv_MemkvIdeal
    ∧ algebraic_MemkvIdeal_MemkvRefIdeal (hMemkvIdeal := hMemkvIdeal) (hMemkvRefIdeal := hMemkvRefIdeal)
    ∧ preserves_Merge_MergeIdeal
    ∧ algebraic_MergeIdeal_MergeRefIdeal_on_gate_columns (hMergeIdeal := hMergeIdeal) (hMergeRefIdeal := hMergeRefIdeal) (hOn_gate_columns := hOn_gate_columns)
-- ==== On_gate_columns.lean ====
abbrev S1x16384x512 : Shape := ⟨3, ![1, 16384, 512]⟩
abbrev S1x512x1024 : Shape := ⟨3, ![1, 512, 1024]⟩
abbrev S1x16384x3072 : Shape := ⟨3, ![1, 16384, 3072]⟩
abbrev S1x1024x1024 : Shape := ⟨3, ![1, 1024, 1024]⟩
abbrev S1x16384x1024 : Shape := ⟨3, ![1, 16384, 1024]⟩
abbrev S_ : Shape := ⟨0, ![]⟩
abbrev S16384x1024 : Shape := ⟨2, ![16384, 1024]⟩
abbrev S16384x512 : Shape := ⟨2, ![16384, 512]⟩
abbrev S16384x8192 : Shape := ⟨2, ![16384, 8192]⟩

class Facts : Prop where
  bcast_S_S16384x1024 : S_.BroadcastsInDim S16384x1024 (![] : Fin 0 → Fin S16384x1024.rank)
  bcast_S_S16384x512 : S_.BroadcastsInDim S16384x512 (![] : Fin 0 → Fin S16384x512.rank)
  bcast_S_S16384x8192 : S_.BroadcastsInDim S16384x8192 (![] : Fin 0 → Fin S16384x8192.rank)

variable [Facts]

def fn {F : FTy → Type} [FloatOps F] (main_arg0 : FVec F S1x16384x512 .f32) (main_arg1 : FVec F S1x16384x512 .f32) (main_arg2 : FVec F S1x16384x512 .f32) (main_arg3 : FVec F S1x512x1024 .f32) (main_arg4 : FVec F S1x512x1024 .f32) (main_arg5 : FVec F S1x512x1024 .f32) (main_arg6 : FVec F S1x16384x3072 .f32) (main_arg7 : FVec F S1x1024x1024 .f32) (main_arg8 : FVec F S1x16384x1024 .f32) : IVec S16384x1024 1 × IVec S16384x1024 1 × IVec S16384x1024 1 × IVec S16384x512 1 × IVec S16384x512 1 × IVec S16384x512 1 × IVec S16384x8192 1 :=
  let main_c : IVec S_ 1 := constantI S_ 1 1#1
  let main_v0 : IVec S16384x1024 1 := broadcastInDim S16384x1024 ![] bcast_S_S16384x1024 main_c
  let main_c_0 : IVec S_ 1 := constantI S_ 1 1#1
  let main_v1 : IVec S16384x512 1 := broadcastInDim S16384x512 ![] bcast_S_S16384x512 main_c_0
  let main_v2 : IVec S16384x8192 32 := iotaInDim S16384x8192 32 1
  let main_c_1 : IVec S_ 32 := constantI S_ 32 3072#32
  let main_v3 : IVec S16384x8192 32 := broadcastInDim S16384x8192 ![] bcast_S_S16384x8192 main_c_1
  let main_v4 : IVec S16384x8192 1 := cmpi .sge main_v2 main_v3
  let main_c_2 : IVec S_ 32 := constantI S_ 32 6144#32
  let main_v5 : IVec S16384x8192 32 := broadcastInDim S16384x8192 ![] bcast_S_S16384x8192 main_c_2
  let main_v6 : IVec S16384x8192 1 := cmpi .slt main_v2 main_v5
  let main_v7 : IVec S16384x8192 1 := andi main_v4 main_v6
  (main_v0, main_v0, main_v0, main_v1, main_v1, main_v1, main_v7)
-- ==== Pre_dffn_finite.lean ====
abbrev S16384x4096 : Shape := ⟨2, ![16384, 4096]⟩
abbrev S1x1024x4096 : Shape := ⟨3, ![1, 1024, 4096]⟩
abbrev S1x16384x1024 : Shape := ⟨3, ![1, 16384, 1024]⟩
abbrev S1x1024 : Shape := ⟨2, ![1, 1024]⟩
abbrev S16384x1024 : Shape := ⟨2, ![16384, 1024]⟩
abbrev S_ : Shape := ⟨0, ![]⟩

class Facts : Prop where
  bcast_S_S16384x4096 : S_.BroadcastsInDim S16384x4096 (![] : Fin 0 → Fin S16384x4096.rank)
  bcast_S_S1x1024x4096 : S_.BroadcastsInDim S1x1024x4096 (![] : Fin 0 → Fin S1x1024x4096.rank)
  bcast_S_S1x16384x1024 : S_.BroadcastsInDim S1x16384x1024 (![] : Fin 0 → Fin S1x16384x1024.rank)
  bcast_S_S1x1024 : S_.BroadcastsInDim S1x1024 (![] : Fin 0 → Fin S1x1024.rank)

variable [Facts]

def fn_part1 {F : FTy → Type} [FloatOps F] (main_arg3 : FVec F S1x1024 .f32) (main_v4 : IVec S16384x4096 1) (main_v9 : IVec S1x1024x4096 1) (main_v14 : IVec S1x16384x1024 1) (main_v16 : IVec S1x1024 1) : IVec S16384x4096 1 × IVec S1x1024x4096 1 × IVec S1x16384x1024 1 × IVec S1x1024 1 :=
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_arg3 main_v17
  let main_v19 : IVec S1x1024 1 := andi main_v16 main_v18
  (main_v4, main_v9, main_v14, main_v19)

def fn {F : FTy → Type} [FloatOps F] (main_arg0 : FVec F S16384x4096 .bf16) (main_arg1 : FVec F S1x1024x4096 .f32) (main_arg2 : FVec F S1x16384x1024 .f32) (main_arg3 : FVec F S1x1024 .f32) (main_arg4 : FVec F S16384x1024 .f32) : IVec S16384x4096 1 × IVec S1x1024x4096 1 × IVec S1x16384x1024 1 × IVec S1x1024 1 :=
  let main_cst : FVec F S_ .bf16 := constant S_ .bf16 0xFF80#16
  let main_v0 : FVec F S16384x4096 .bf16 := broadcastInDim S16384x4096 ![] bcast_S_S16384x4096 main_cst
  let main_v1 : IVec S16384x4096 1 := cmpf .ogt main_arg0 main_v0
  let main_cst_0 : FVec F S_ .bf16 := constant S_ .bf16 0x7F80#16
  let main_v2 : FVec F S16384x4096 .bf16 := broadcastInDim S16384x4096 ![] bcast_S_S16384x4096 main_cst_0
  let main_v3 : IVec S16384x4096 1 := cmpf .olt main_arg0 main_v2
  let main_v4 : IVec S16384x4096 1 := andi main_v1 main_v3
  let main_cst_1 : FVec F S_ .f32 := constant S_ .f32 0xFF800000#32
  let main_v5 : FVec F S1x1024x4096 .f32 := broadcastInDim S1x1024x4096 ![] bcast_S_S1x1024x4096 main_cst_1
  let main_v6 : IVec S1x1024x4096 1 := cmpf .ogt main_arg1 main_v5
  let main_cst_2 : FVec F S_ .f32 := constant S_ .f32 0x7F800000#32
  let main_v7 : FVec F S1x1024x4096 .f32 := broadcastInDim S1x1024x4096 ![] bcast_S_S1x1024x4096 main_cst_2
  let main_v8 : IVec S1x1024x4096 1 := cmpf .olt main_arg1 main_v7
  let main_v9 : IVec S1x1024x4096 1 := andi main_v6 main_v8
  let main_cst_3 : FVec F S_ .f32 := constant S_ .f32 0xFF800000#32
  let main_v10 : FVec F S1x16384x1024 .f32 := broadcastInDim S1x16384x1024 ![] bcast_S_S1x16384x1024 main_cst_3
  let main_v11 : IVec S1x16384x1024 1 := cmpf .ogt main_arg2 main_v10
  let main_cst_4 : FVec F S_ .f32 := constant S_ .f32 0x7F800000#32
  let main_v12 : FVec F S1x16384x1024 .f32 := broadcastInDim S1x16384x1024 ![] bcast_S_S1x16384x1024 main_cst_4
  let main_v13 : IVec S1x16384x1024 1 := cmpf .olt main_arg2 main_v12
  let main_v14 : IVec S1x16384x1024 1 := andi main_v11 main_v13
  let main_cst_5 : FVec F S_ .f32 := constant S_ .f32 0xFF800000#32
  let main_v15 : FVec F S1x1024 .f32 := broadcastInDim S1x1024 ![] bcast_S_S1x1024 main_cst_5
  let main_v16 : IVec S1x1024 1 := cmpf .ogt main_arg3 main_v15
  fn_part1 (F := F) main_arg3 main_v4 main_v9 main_v14 main_v16
-- ==== Pre_dmix_finite.lean ====
abbrev S1x16384x6680 : Shape := ⟨3, ![1, 16384, 6680]⟩
abbrev S1x1024x6680 : Shape := ⟨3, ![1, 1024, 6680]⟩
abbrev S1x16384x1024 : Shape := ⟨3, ![1, 16384, 1024]⟩
abbrev S1x1024 : Shape := ⟨2, ![1, 1024]⟩
abbrev S_ : Shape := ⟨0, ![]⟩

class Facts : Prop where
  bcast_S_S1x16384x6680 : S_.BroadcastsInDim S1x16384x6680 (![] : Fin 0 → Fin S1x16384x6680.rank)
  bcast_S_S1x1024x6680 : S_.BroadcastsInDim S1x1024x6680 (![] : Fin 0 → Fin S1x1024x6680.rank)
  bcast_S_S1x16384x1024 : S_.BroadcastsInDim S1x16384x1024 (![] : Fin 0 → Fin S1x16384x1024.rank)
  bcast_S_S1x1024 : S_.BroadcastsInDim S1x1024 (![] : Fin 0 → Fin S1x1024.rank)

variable [Facts]

def fn_part1 {F : FTy → Type} [FloatOps F] (main_arg3 : FVec F S1x1024 .f32) (main_v4 : IVec S1x16384x6680 1) (main_v9 : IVec S1x1024x6680 1) (main_v14 : IVec S1x16384x1024 1) (main_v16 : IVec S1x1024 1) : IVec S1x16384x6680 1 × IVec S1x1024x6680 1 × IVec S1x16384x1024 1 × IVec S1x1024 1 :=
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_arg3 main_v17
  let main_v19 : IVec S1x1024 1 := andi main_v16 main_v18
  (main_v4, main_v9, main_v14, main_v19)

def fn {F : FTy → Type} [FloatOps F] (main_arg0 : FVec F S1x16384x6680 .f32) (main_arg1 : FVec F S1x1024x6680 .f32) (main_arg2 : FVec F S1x16384x1024 .f32) (main_arg3 : FVec F S1x1024 .f32) (main_arg4 : FVec F S1x16384x1024 .f32) : IVec S1x16384x6680 1 × IVec S1x1024x6680 1 × IVec S1x16384x1024 1 × IVec S1x1024 1 :=
  let main_cst : FVec F S_ .f32 := constant S_ .f32 0xFF800000#32
  let main_v0 : FVec F S1x16384x6680 .f32 := broadcastInDim S1x16384x6680 ![] bcast_S_S1x16384x6680 main_cst
  let main_v1 : IVec S1x16384x6680 1 := cmpf .ogt main_arg0 main_v0
  let main_cst_0 : FVec F S_ .f32 := constant S_ .f32 0x7F800000#32
  let main_v2 : FVec F S1x16384x6680 .f32 := broadcastInDim S1x16384x6680 ![] bcast_S_S1x16384x6680 main_cst_0
  let main_v3 : IVec S1x16384x6680 1 := cmpf .olt main_arg0 main_v2
  let main_v4 : IVec S1x16384x6680 1 := andi main_v1 main_v3
  let main_cst_1 : FVec F S_ .f32 := constant S_ .f32 0xFF800000#32
  let main_v5 : FVec F S1x1024x6680 .f32 := broadcastInDim S1x1024x6680 ![] bcast_S_S1x1024x6680 main_cst_1
  let main_v6 : IVec S1x1024x6680 1 := cmpf .ogt main_arg1 main_v5
  let main_cst_2 : FVec F S_ .f32 := constant S_ .f32 0x7F800000#32
  let main_v7 : FVec F S1x1024x6680 .f32 := broadcastInDim S1x1024x6680 ![] bcast_S_S1x1024x6680 main_cst_2
  let main_v8 : IVec S1x1024x6680 1 := cmpf .olt main_arg1 main_v7
  let main_v9 : IVec S1x1024x6680 1 := andi main_v6 main_v8
  let main_cst_3 : FVec F S_ .f32 := constant S_ .f32 0xFF800000#32
  let main_v10 : FVec F S1x16384x1024 .f32 := broadcastInDim S1x16384x1024 ![] bcast_S_S1x16384x1024 main_cst_3
  let main_v11 : IVec S1x16384x1024 1 := cmpf .ogt main_arg2 main_v10
  let main_cst_4 : FVec F S_ .f32 := constant S_ .f32 0x7F800000#32
  let main_v12 : FVec F S1x16384x1024 .f32 := broadcastInDim S1x16384x1024 ![] bcast_S_S1x16384x1024 main_cst_4
  let main_v13 : IVec S1x16384x1024 1 := cmpf .olt main_arg2 main_v12
  let main_v14 : IVec S1x16384x1024 1 := andi main_v11 main_v13
  let main_cst_5 : FVec F S_ .f32 := constant S_ .f32 0xFF800000#32
  let main_v15 : FVec F S1x1024 .f32 := broadcastInDim S1x1024 ![] bcast_S_S1x1024 main_cst_5
  let main_v16 : IVec S1x1024 1 := cmpf .ogt main_arg3 main_v15
  fn_part1 (F := F) main_arg3 main_v4 main_v9 main_v14 main_v16
-- ==== Pre_fox_finite.lean ====
abbrev S1x16384x512 : Shape := ⟨3, ![1, 16384, 512]⟩
abbrev S1x8x16384 : Shape := ⟨3, ![1, 8, 16384]⟩
abbrev S_ : Shape := ⟨0, ![]⟩

class Facts : Prop where
  bcast_S_S1x16384x512 : S_.BroadcastsInDim S1x16384x512 (![] : Fin 0 → Fin S1x16384x512.rank)
  bcast_S_S1x8x16384 : S_.BroadcastsInDim S1x8x16384 (![] : Fin 0 → Fin S1x8x16384.rank)

variable [Facts]

def fn_part1 {F : FTy → Type} [FloatOps F] (main_arg3 : FVec F S1x8x16384 .f32) (main_arg4 : FVec F S1x16384x512 .f32) (main_v4 : IVec S1x16384x512 1) (main_v9 : IVec S1x16384x512 1) (main_v14 : IVec S1x16384x512 1) (main_v16 : IVec S1x8x16384 1) : IVec S1x16384x512 1 × IVec S1x16384x512 1 × IVec S1x16384x512 1 × IVec S1x8x16384 1 × IVec S1x16384x512 1 :=
  let main_cst_6 : FVec F S_ .f32 := constant S_ .f32 0x7F800000#32
  let main_v17 : FVec F S1x8x16384 .f32 := broadcastInDim S1x8x16384 ![] bcast_S_S1x8x16384 main_cst_6
  let main_v18 : IVec S1x8x16384 1 := cmpf .olt main_arg3 main_v17
  let main_v19 : IVec S1x8x16384 1 := andi main_v16 main_v18
  let main_cst_7 : FVec F S_ .f32 := constant S_ .f32 0xFF800000#32
  let main_v20 : FVec F S1x16384x512 .f32 := broadcastInDim S1x16384x512 ![] bcast_S_S1x16384x512 main_cst_7
  let main_v21 : IVec S1x16384x512 1 := cmpf .ogt main_arg4 main_v20
  let main_cst_8 : FVec F S_ .f32 := constant S_ .f32 0x7F800000#32
  let main_v22 : FVec F S1x16384x512 .f32 := broadcastInDim S1x16384x512 ![] bcast_S_S1x16384x512 main_cst_8
  let main_v23 : IVec S1x16384x512 1 := cmpf .olt main_arg4 main_v22
  let main_v24 : IVec S1x16384x512 1 := andi main_v21 main_v23
  (main_v4, main_v9, main_v14, main_v19, main_v24)

def fn {F : FTy → Type} [FloatOps F] (main_arg0 : FVec F S1x16384x512 .f32) (main_arg1 : FVec F S1x16384x512 .f32) (main_arg2 : FVec F S1x16384x512 .f32) (main_arg3 : FVec F S1x8x16384 .f32) (main_arg4 : FVec F S1x16384x512 .f32) : IVec S1x16384x512 1 × IVec S1x16384x512 1 × IVec S1x16384x512 1 × IVec S1x8x16384 1 × IVec S1x16384x512 1 :=
  let main_cst : FVec F S_ .f32 := constant S_ .f32 0xFF800000#32
  let main_v0 : FVec F S1x16384x512 .f32 := broadcastInDim S1x16384x512 ![] bcast_S_S1x16384x512 main_cst
  let main_v1 : IVec S1x16384x512 1 := cmpf .ogt main_arg0 main_v0
  let main_cst_0 : FVec F S_ .f32 := constant S_ .f32 0x7F800000#32
  let main_v2 : FVec F S1x16384x512 .f32 := broadcastInDim S1x16384x512 ![] bcast_S_S1x16384x512 main_cst_0
  let main_v3 : IVec S1x16384x512 1 := cmpf .olt main_arg0 main_v2
  let main_v4 : IVec S1x16384x512 1 := andi main_v1 main_v3
  let main_cst_1 : FVec F S_ .f32 := constant S_ .f32 0xFF800000#32
  let main_v5 : FVec F S1x16384x512 .f32 := broadcastInDim S1x16384x512 ![] bcast_S_S1x16384x512 main_cst_1
  let main_v6 : IVec S1x16384x512 1 := cmpf .ogt main_arg1 main_v5
  let main_cst_2 : FVec F S_ .f32 := constant S_ .f32 0x7F800000#32
  let main_v7 : FVec F S1x16384x512 .f32 := broadcastInDim S1x16384x512 ![] bcast_S_S1x16384x512 main_cst_2
  let main_v8 : IVec S1x16384x512 1 := cmpf .olt main_arg1 main_v7
  let main_v9 : IVec S1x16384x512 1 := andi main_v6 main_v8
  let main_cst_3 : FVec F S_ .f32 := constant S_ .f32 0xFF800000#32
  let main_v10 : FVec F S1x16384x512 .f32 := broadcastInDim S1x16384x512 ![] bcast_S_S1x16384x512 main_cst_3
  let main_v11 : IVec S1x16384x512 1 := cmpf .ogt main_arg2 main_v10
  let main_cst_4 : FVec F S_ .f32 := constant S_ .f32 0x7F800000#32
  let main_v12 : FVec F S1x16384x512 .f32 := broadcastInDim S1x16384x512 ![] bcast_S_S1x16384x512 main_cst_4
  let main_v13 : IVec S1x16384x512 1 := cmpf .olt main_arg2 main_v12
  let main_v14 : IVec S1x16384x512 1 := andi main_v11 main_v13
  let main_cst_5 : FVec F S_ .f32 := constant S_ .f32 0xFF800000#32
  let main_v15 : FVec F S1x8x16384 .f32 := broadcastInDim S1x8x16384 ![] bcast_S_S1x8x16384 main_cst_5
  let main_v16 : IVec S1x8x16384 1 := cmpf .ogt main_arg3 main_v15
  fn_part1 (F := F) main_arg3 main_arg4 main_v4 main_v9 main_v14 main_v16
-- ==== Pre_foxg_finite.lean ====
abbrev S1x16384x8x64 : Shape := ⟨4, ![1, 16384, 8, 64]⟩
abbrev S1x8x16384 : Shape := ⟨3, ![1, 8, 16384]⟩
abbrev S1x16384x512 : Shape := ⟨3, ![1, 16384, 512]⟩
abbrev S1x16384x16 : Shape := ⟨3, ![1, 16384, 16]⟩
abbrev S1x16384x8 : Shape := ⟨3, ![1, 16384, 8]⟩
abbrev S1x8 : Shape := ⟨2, ![1, 8]⟩
abbrev S16384x8192 : Shape := ⟨2, ![16384, 8192]⟩
abbrev S_ : Shape := ⟨0, ![]⟩

class Facts : Prop where
  bcast_S_S1x8x16384 : S_.BroadcastsInDim S1x8x16384 (![] : Fin 0 → Fin S1x8x16384.rank)
  bcast_S_S1x16384x8 : S_.BroadcastsInDim S1x16384x8 (![] : Fin 0 → Fin S1x16384x8.rank)
  bcast_S_S1x8 : S_.BroadcastsInDim S1x8 (![] : Fin 0 → Fin S1x8.rank)

variable [Facts]

def fn_part1 {F : FTy → Type} [FloatOps F] (main_arg8 : FVec F S1x8 .f32) (main_v4 : IVec S1x8x16384 1) (main_v9 : IVec S1x8x16384 1) (main_v14 : IVec S1x16384x8 1) (main_v16 : IVec S1x8 1) : IVec S1x8x16384 1 × IVec S1x8x16384 1 × IVec S1x16384x8 1 × IVec S1x8 1 :=
  let main_cst_6 : FVec F S_ .f32 := constant S_ .f32 0x7F800000#32
  let main_v17 : FVec F S1x8 .f32 := broadcastInDim S1x8 ![] bcast_S_S1x8 main_cst_6
  let main_v18 : IVec S1x8 1 := cmpf .olt main_arg8 main_v17
  let main_v19 : IVec S1x8 1 := andi main_v16 main_v18
  (main_v4, main_v9, main_v14, main_v19)

def fn {F : FTy → Type} [FloatOps F] (main_arg0 : FVec F S1x16384x8x64 .f32) (main_arg1 : FVec F S1x16384x8x64 .f32) (main_arg2 : FVec F S1x16384x8x64 .f32) (main_arg3 : FVec F S1x8x16384 .f32) (main_arg4 : FVec F S1x8x16384 .f32) (main_arg5 : FVec F S1x16384x512 .f32) (main_arg6 : FVec F S1x16384x16 .f32) (main_arg7 : FVec F S1x16384x8 .f32) (main_arg8 : FVec F S1x8 .f32) (main_arg9 : FVec F S16384x8192 .bf16) : IVec S1x8x16384 1 × IVec S1x8x16384 1 × IVec S1x16384x8 1 × IVec S1x8 1 :=
  let main_cst : FVec F S_ .f32 := constant S_ .f32 0xFF800000#32
  let main_v0 : FVec F S1x8x16384 .f32 := broadcastInDim S1x8x16384 ![] bcast_S_S1x8x16384 main_cst
  let main_v1 : IVec S1x8x16384 1 := cmpf .ogt main_arg3 main_v0
  let main_cst_0 : FVec F S_ .f32 := constant S_ .f32 0x7F800000#32
  let main_v2 : FVec F S1x8x16384 .f32 := broadcastInDim S1x8x16384 ![] bcast_S_S1x8x16384 main_cst_0
  let main_v3 : IVec S1x8x16384 1 := cmpf .olt main_arg3 main_v2
  let main_v4 : IVec S1x8x16384 1 := andi main_v1 main_v3
  let main_cst_1 : FVec F S_ .f32 := constant S_ .f32 0xFF800000#32
  let main_v5 : FVec F S1x8x16384 .f32 := broadcastInDim S1x8x16384 ![] bcast_S_S1x8x16384 main_cst_1
  let main_v6 : IVec S1x8x16384 1 := cmpf .ogt main_arg4 main_v5
  let main_cst_2 : FVec F S_ .f32 := constant S_ .f32 0x7F800000#32
  let main_v7 : FVec F S1x8x16384 .f32 := broadcastInDim S1x8x16384 ![] bcast_S_S1x8x16384 main_cst_2
  let main_v8 : IVec S1x8x16384 1 := cmpf .olt main_arg4 main_v7
  let main_v9 : IVec S1x8x16384 1 := andi main_v6 main_v8
  let main_cst_3 : FVec F S_ .f32 := constant S_ .f32 0xFF800000#32
  let main_v10 : FVec F S1x16384x8 .f32 := broadcastInDim S1x16384x8 ![] bcast_S_S1x16384x8 main_cst_3
  let main_v11 : IVec S1x16384x8 1 := cmpf .ogt main_arg7 main_v10
  let main_cst_4 : FVec F S_ .f32 := constant S_ .f32 0x7F800000#32
  let main_v12 : FVec F S1x16384x8 .f32 := broadcastInDim S1x16384x8 ![] bcast_S_S1x16384x8 main_cst_4
  let main_v13 : IVec S1x16384x8 1 := cmpf .olt main_arg7 main_v12
  let main_v14 : IVec S1x16384x8 1 := andi main_v11 main_v13
  let main_cst_5 : FVec F S_ .f32 := constant S_ .f32 0xFF800000#32
  let main_v15 : FVec F S1x8 .f32 := broadcastInDim S1x8 ![] bcast_S_S1x8 main_cst_5
  let main_v16 : IVec S1x8 1 := cmpf .ogt main_arg8 main_v15
  fn_part1 (F := F) main_arg8 main_v4 main_v9 main_v14 main_v16
-- ==== Pre_loss_finite.lean ====
abbrev S16384x4096 : Shape := ⟨2, ![16384, 4096]⟩
abbrev S1x4096x1024 : Shape := ⟨3, ![1, 4096, 1024]⟩
abbrev S1x16384x1024 : Shape := ⟨3, ![1, 16384, 1024]⟩
abbrev S1024 : Shape := ⟨1, ![1024]⟩
abbrev S_ : Shape := ⟨0, ![]⟩

class Facts : Prop where
  bcast_S_S16384x4096 : S_.BroadcastsInDim S16384x4096 (![] : Fin 0 → Fin S16384x4096.rank)
  bcast_S_S1x4096x1024 : S_.BroadcastsInDim S1x4096x1024 (![] : Fin 0 → Fin S1x4096x1024.rank)
  bcast_S_S1x16384x1024 : S_.BroadcastsInDim S1x16384x1024 (![] : Fin 0 → Fin S1x16384x1024.rank)
  bcast_S_S1024 : S_.BroadcastsInDim S1024 (![] : Fin 0 → Fin S1024.rank)

variable [Facts]

def fn_part1 {F : FTy → Type} [FloatOps F] (main_arg3 : FVec F S1024 .f32) (main_arg4 : FVec F S1x16384x1024 .f32) (main_v4 : IVec S16384x4096 1) (main_v9 : IVec S1x4096x1024 1) (main_v14 : IVec S1x16384x1024 1) (main_v16 : IVec S1024 1) : IVec S16384x4096 1 × IVec S1x4096x1024 1 × IVec S1x16384x1024 1 × IVec S1024 1 × IVec S1x16384x1024 1 :=
  let main_cst_6 : FVec F S_ .f32 := constant S_ .f32 0x7F800000#32
  let main_v17 : FVec F S1024 .f32 := broadcastInDim S1024 ![] bcast_S_S1024 main_cst_6
  let main_v18 : IVec S1024 1 := cmpf .olt main_arg3 main_v17
  let main_v19 : IVec S1024 1 := andi main_v16 main_v18
  let main_cst_7 : FVec F S_ .f32 := constant S_ .f32 0xFF800000#32
  let main_v20 : FVec F S1x16384x1024 .f32 := broadcastInDim S1x16384x1024 ![] bcast_S_S1x16384x1024 main_cst_7
  let main_v21 : IVec S1x16384x1024 1 := cmpf .ogt main_arg4 main_v20
  let main_cst_8 : FVec F S_ .f32 := constant S_ .f32 0x7F800000#32
  let main_v22 : FVec F S1x16384x1024 .f32 := broadcastInDim S1x16384x1024 ![] bcast_S_S1x16384x1024 main_cst_8
  let main_v23 : IVec S1x16384x1024 1 := cmpf .olt main_arg4 main_v22
  let main_v24 : IVec S1x16384x1024 1 := andi main_v21 main_v23
  (main_v4, main_v9, main_v14, main_v19, main_v24)

def fn {F : FTy → Type} [FloatOps F] (main_arg0 : FVec F S16384x4096 .bf16) (main_arg1 : FVec F S1x4096x1024 .f32) (main_arg2 : FVec F S1x16384x1024 .f32) (main_arg3 : FVec F S1024 .f32) (main_arg4 : FVec F S1x16384x1024 .f32) : IVec S16384x4096 1 × IVec S1x4096x1024 1 × IVec S1x16384x1024 1 × IVec S1024 1 × IVec S1x16384x1024 1 :=
  let main_cst : FVec F S_ .bf16 := constant S_ .bf16 0xFF80#16
  let main_v0 : FVec F S16384x4096 .bf16 := broadcastInDim S16384x4096 ![] bcast_S_S16384x4096 main_cst
  let main_v1 : IVec S16384x4096 1 := cmpf .ogt main_arg0 main_v0
  let main_cst_0 : FVec F S_ .bf16 := constant S_ .bf16 0x7F80#16
  let main_v2 : FVec F S16384x4096 .bf16 := broadcastInDim S16384x4096 ![] bcast_S_S16384x4096 main_cst_0
  let main_v3 : IVec S16384x4096 1 := cmpf .olt main_arg0 main_v2
  let main_v4 : IVec S16384x4096 1 := andi main_v1 main_v3
  let main_cst_1 : FVec F S_ .f32 := constant S_ .f32 0xFF800000#32
  let main_v5 : FVec F S1x4096x1024 .f32 := broadcastInDim S1x4096x1024 ![] bcast_S_S1x4096x1024 main_cst_1
  let main_v6 : IVec S1x4096x1024 1 := cmpf .ogt main_arg1 main_v5
  let main_cst_2 : FVec F S_ .f32 := constant S_ .f32 0x7F800000#32
  let main_v7 : FVec F S1x4096x1024 .f32 := broadcastInDim S1x4096x1024 ![] bcast_S_S1x4096x1024 main_cst_2
  let main_v8 : IVec S1x4096x1024 1 := cmpf .olt main_arg1 main_v7
  let main_v9 : IVec S1x4096x1024 1 := andi main_v6 main_v8
  let main_cst_3 : FVec F S_ .f32 := constant S_ .f32 0xFF800000#32
  let main_v10 : FVec F S1x16384x1024 .f32 := broadcastInDim S1x16384x1024 ![] bcast_S_S1x16384x1024 main_cst_3
  let main_v11 : IVec S1x16384x1024 1 := cmpf .ogt main_arg2 main_v10
  let main_cst_4 : FVec F S_ .f32 := constant S_ .f32 0x7F800000#32
  let main_v12 : FVec F S1x16384x1024 .f32 := broadcastInDim S1x16384x1024 ![] bcast_S_S1x16384x1024 main_cst_4
  let main_v13 : IVec S1x16384x1024 1 := cmpf .olt main_arg2 main_v12
  let main_v14 : IVec S1x16384x1024 1 := andi main_v11 main_v13
  let main_cst_5 : FVec F S_ .f32 := constant S_ .f32 0xFF800000#32
  let main_v15 : FVec F S1024 .f32 := broadcastInDim S1024 ![] bcast_S_S1024 main_cst_5
  let main_v16 : IVec S1024 1 := cmpf .ogt main_arg3 main_v15
  fn_part1 (F := F) main_arg3 main_arg4 main_v4 main_v9 main_v14 main_v16
-- ==== Pre_mem_finite.lean ====
abbrev S1x16384x6680 : Shape := ⟨3, ![1, 16384, 6680]⟩
abbrev S1x256x1024 : Shape := ⟨3, ![1, 256, 1024]⟩
abbrev S1x16384x512 : Shape := ⟨3, ![1, 16384, 512]⟩
abbrev S16384x8192 : Shape := ⟨2, ![16384, 8192]⟩
abbrev S_ : Shape := ⟨0, ![]⟩

class Facts : Prop where
  bcast_S_S1x16384x6680 : S_.BroadcastsInDim S1x16384x6680 (![] : Fin 0 → Fin S1x16384x6680.rank)
  bcast_S_S1x256x1024 : S_.BroadcastsInDim S1x256x1024 (![] : Fin 0 → Fin S1x256x1024.rank)
  bcast_S_S1x16384x512 : S_.BroadcastsInDim S1x16384x512 (![] : Fin 0 → Fin S1x16384x512.rank)

variable [Facts]

def fn {F : FTy → Type} [FloatOps F] (main_arg0 : FVec F S1x16384x6680 .f32) (main_arg1 : FVec F S1x256x1024 .f32) (main_arg2 : FVec F S1x16384x512 .f32) (main_arg3 : FVec F S16384x8192 .bf16) : IVec S1x16384x6680 1 × IVec S1x256x1024 1 × IVec S1x16384x512 1 :=
  let main_cst : FVec F S_ .f32 := constant S_ .f32 0xFF800000#32
  let main_v0 : FVec F S1x16384x6680 .f32 := broadcastInDim S1x16384x6680 ![] bcast_S_S1x16384x6680 main_cst
  let main_v1 : IVec S1x16384x6680 1 := cmpf .ogt main_arg0 main_v0
  let main_cst_0 : FVec F S_ .f32 := constant S_ .f32 0x7F800000#32
  let main_v2 : FVec F S1x16384x6680 .f32 := broadcastInDim S1x16384x6680 ![] bcast_S_S1x16384x6680 main_cst_0
  let main_v3 : IVec S1x16384x6680 1 := cmpf .olt main_arg0 main_v2
  let main_v4 : IVec S1x16384x6680 1 := andi main_v1 main_v3
  let main_cst_1 : FVec F S_ .f32 := constant S_ .f32 0xFF800000#32
  let main_v5 : FVec F S1x256x1024 .f32 := broadcastInDim S1x256x1024 ![] bcast_S_S1x256x1024 main_cst_1
  let main_v6 : IVec S1x256x1024 1 := cmpf .ogt main_arg1 main_v5
  let main_cst_2 : FVec F S_ .f32 := constant S_ .f32 0x7F800000#32
  let main_v7 : FVec F S1x256x1024 .f32 := broadcastInDim S1x256x1024 ![] bcast_S_S1x256x1024 main_cst_2
  let main_v8 : IVec S1x256x1024 1 := cmpf .olt main_arg1 main_v7
  let main_v9 : IVec S1x256x1024 1 := andi main_v6 main_v8
  let main_cst_3 : FVec F S_ .f32 := constant S_ .f32 0xFF800000#32
  let main_v10 : FVec F S1x16384x512 .f32 := broadcastInDim S1x16384x512 ![] bcast_S_S1x16384x512 main_cst_3
  let main_v11 : IVec S1x16384x512 1 := cmpf .ogt main_arg2 main_v10
  let main_cst_4 : FVec F S_ .f32 := constant S_ .f32 0x7F800000#32
  let main_v12 : FVec F S1x16384x512 .f32 := broadcastInDim S1x16384x512 ![] bcast_S_S1x16384x512 main_cst_4
  let main_v13 : IVec S1x16384x512 1 := cmpf .olt main_arg2 main_v12
  let main_v14 : IVec S1x16384x512 1 := andi main_v11 main_v13
  (main_v4, main_v9, main_v14)
-- ==== Dact.lean ====
abbrev S16384x4096 : Shape := ⟨2, ![16384, 4096]⟩
abbrev S1x4096x1024 : Shape := ⟨3, ![1, 4096, 1024]⟩
abbrev S16384x1024 : Shape := ⟨2, ![16384, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .f32⟩
  | .hbm, ⟨2, _⟩ => ⟨S16384x1024, .bf16⟩
  | .hbm, ⟨3, _⟩ => ⟨S4096x1024, .f32⟩
  | .hbm, ⟨4, _⟩ => ⟨S4096x1024, .bf16⟩
  | .hbm, ⟨5, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DactRefIdeal.lean ====
abbrev S16384x4096 : Shape := ⟨2, ![16384, 4096]⟩
abbrev S1x4096x1024 : Shape := ⟨3, ![1, 4096, 1024]⟩
abbrev S16384x1024 : Shape := ⟨2, ![16384, 1024]⟩
abbrev S_ : Shape := ⟨0, ![]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .f32⟩
  | .hbm, ⟨2, _⟩ => ⟨S16384x1024, .bf16⟩
  | .hbm, ⟨3, _⟩ => ⟨S16384x4096, .f32⟩
  | .hbm, ⟨4, _⟩ => ⟨S16384x1024, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S4096x1024, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Xatt.lean ====
abbrev S1x16384x6680 : Shape := ⟨3, ![1, 16384, 6680]⟩
abbrev S1x256x1024 : Shape := ⟨3, ![1, 256, 1024]⟩
abbrev S1x16384x512 : Shape := ⟨3, ![1, 16384, 512]⟩
abbrev S16384x8192 : Shape := ⟨2, ![16384, 8192]⟩
abbrev S16384x6680 : Shape := ⟨2, ![16384, 6680]⟩
abbrev S16384x512 : Shape := ⟨2, ![16384, 512]⟩
abbrev S16384x8x64 : Shape := ⟨3, ![16384, 8, 64]⟩
abbrev S_ : Shape := ⟨0, ![]⟩
abbrev S16384x8x128 : Shape := ⟨3, ![16384, 8, 128]⟩
abbrev S16384x1024 : Shape := ⟨2, ![16384, 1024]⟩
abbrev S16384x4096 : Shape := ⟨2, ![16384, 4096]⟩
abbrev S256x1024 : Shape := ⟨2, ![256, 1024]⟩
abbrev S1024x512 : Shape := ⟨2, ![1024, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 27
  | .vmem => 8
  | .smem => 0
  | _ => 0

abbrev bufTy : (tb : Table) → Fin (tcTables nBuf tb) → BufTy
  | .hbm, ⟨0, _⟩ => ⟨S1x16384x6680, .f32⟩
  | .hbm, ⟨1, _⟩ => ⟨S1x256x1024, .f32⟩
  | .hbm, ⟨2, _⟩ => ⟨S1x16384x512, .f32⟩
  | .hbm, ⟨3, _⟩ => ⟨S16384x8192, .bf16⟩
  | .hbm, ⟨4, _⟩ => ⟨S16384x6680, .f32⟩
  | .hbm, ⟨5, _⟩ => ⟨S16384x512, .f32⟩
  | .hbm, ⟨6, _⟩ => ⟨S16384x8x64, .f32⟩
  | .hbm, ⟨7, _⟩ => ⟨S_, .i32⟩
  | .hbm, ⟨8, _⟩ => ⟨S_, .f32⟩
  | .hbm, ⟨9, _⟩ => ⟨S16384x8x128, .f32⟩
  | .hbm, ⟨10, _⟩ => ⟨S16384x1024, .f32⟩
  | .hbm, ⟨11, _⟩ => ⟨S16384x512, .f32⟩
  | .hbm, ⟨12, _⟩ => ⟨S16384x8x64, .f32⟩
  | .hbm, ⟨13, _⟩ => ⟨S_, .i32⟩
  | .hbm, ⟨14, _⟩ => ⟨S_, .f32⟩
  | .hbm, ⟨15, _⟩ => ⟨S16384x8x128, .f32⟩
  | .hbm, ⟨16, _⟩ => ⟨S16384x1024, .f32⟩
  | .hbm, ⟨17, _⟩ => ⟨S16384x512, .f32⟩
  | .hbm, ⟨18, _⟩ => ⟨S16384x512, .f32⟩
  | .hbm, ⟨19, _⟩ => ⟨S16384x1024, .f32⟩
  | .hbm, ⟨20, _⟩ => ⟨S16384x4096, .f32⟩
  | .hbm, ⟨21, _⟩ => ⟨S16384x4096, .bf16⟩
  | .hbm, ⟨22, _⟩ => ⟨S256x1024, .f32⟩
  | .hbm, ⟨23, _⟩ => ⟨S256x1024, .bf16⟩
  | .hbm, ⟨24, _⟩ => ⟨S16384x512, .f32⟩
  | .hbm, ⟨25, _⟩ => ⟨S16384x8192, .bf16⟩
  | .hbm, ⟨26, _⟩ => ⟨S256x1024, .f32⟩
  | .local _ .vmem, ⟨0, _⟩ => ⟨S1024x512, .bf16⟩
  | .local _ .vmem, ⟨1, _⟩ => ⟨S1024x512, .bf16⟩
  | .local _ .vmem, ⟨2, _⟩ => ⟨S256x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S256x1024, .f32⟩
  | _, _ => ⟨S1x16384x6680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v149 : BitVec 32 := Scalar.extui v0
  let c0_i32_71 : BitVec 32 := 0#32
  let v150 : BitVec 1 := Scalar.cmpi .ne v149 c0_i32_71
  v150

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v151 : BitVec 1 := Scalar.xori v0 v_true
  let v152 : BitVec 32 := Scalar.extui v151
  let c0_i32_72 : BitVec 32 := 0#32
  let v153 : BitVec 1 := Scalar.cmpi .ne v152 c0_i32_72
  v153

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== XattRefIdeal.lean ====
abbrev S1x16384x6680 : Shape := ⟨3, ![1, 16384, 6680]⟩
abbrev S1x256x1024 : Shape := ⟨3, ![1, 256, 1024]⟩
abbrev S1x16384x512 : Shape := ⟨3, ![1, 16384, 512]⟩
abbrev S16384x8192 : Shape := ⟨2, ![16384, 8192]⟩
abbrev S1x256x512 : Shape := ⟨3, ![1, 256, 512]⟩
abbrev S1x16384x4x128 : Shape := ⟨4, ![1, 16384, 4, 128]⟩
abbrev S1x256x4x128 : Shape := ⟨4, ![1, 256, 4, 128]⟩
abbrev S1x4x16384x256 : Shape := ⟨4, ![1, 4, 16384, 256]⟩
abbrev S_ : Shape := ⟨0, ![]⟩
abbrev S1x4x16384 : Shape := ⟨3, ![1, 4, 16384]⟩
abbrev S1x4x16384x1 : Shape := ⟨4, ![1, 4, 16384, 1]⟩
abbrev S1x4x128x16384 : Shape := ⟨4, ![1, 4, 128, 16384]⟩
abbrev S1x4x128x256 : Shape := ⟨4, ![1, 4, 128, 256]⟩
abbrev S4x16384 : Shape := ⟨2, ![4, 16384]⟩
abbrev S1x4x256x128 : Shape := ⟨4, ![1, 4, 256, 128]⟩
abbrev S1x4x16384x128 : Shape := ⟨4, ![1, 4, 16384, 128]⟩
abbrev S16384x2560 : Shape := ⟨2, ![16384, 2560]⟩
abbrev S16384x512 : Shape := ⟨2, ![16384, 512]⟩
abbrev S16384x5120 : Shape := ⟨2, ![16384, 5120]⟩
abbrev S256x1024 : Shape := ⟨2, ![256, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1x16384x6680, .f32⟩
  | .hbm, ⟨1, _⟩ => ⟨S1x256x1024, .f32⟩
  | .hbm, ⟨2, _⟩ => ⟨S1x16384x512, .f32⟩
  | .hbm, ⟨3, _⟩ => ⟨S16384x8192, .bf16⟩
  | .hbm, ⟨4, _⟩ => ⟨S1x16384x512, .f32⟩
  | .hbm, ⟨5, _⟩ => ⟨S1x256x512, .f32⟩
  | .hbm, ⟨6, _⟩ => ⟨S1x256x512, .f32⟩
  | .hbm, ⟨7, _⟩ => ⟨S1x16384x4x128, .f32⟩
  | .hbm, ⟨8, _⟩ => ⟨S1x256x4x128, .f32⟩
  | .hbm, ⟨9, _⟩ => ⟨S1x256x4x128, .f32⟩
  | .hbm, ⟨10, _⟩ => ⟨S1x4x16384x256, .f32⟩
  | .hbm, ⟨11, _⟩ => ⟨S_, .f32⟩
  | .hbm, ⟨12, _⟩ => ⟨S1x4x16384x256, .f32⟩
  | .hbm, ⟨13, _⟩ => ⟨S1x4x16384x256, .f32⟩
  | .hbm, ⟨14, _⟩ => ⟨S_, .f32⟩
  | .hbm, ⟨15, _⟩ => ⟨S1x4x16384, .f32⟩
  | .hbm, ⟨16, _⟩ => ⟨S1x4x16384x1, .f32⟩
  | .hbm, ⟨17, _⟩ => ⟨S1x4x16384x256, .f32⟩
  | .hbm, ⟨18, _⟩ => ⟨S1x4x16384x256, .i1⟩
  | .hbm, ⟨19, _⟩ => ⟨S1x4x16384x256, .f32⟩
  | .hbm, ⟨20, _⟩ => ⟨S_, .f32⟩
  | .hbm, ⟨21, _⟩ => ⟨S1x4x16384, .f32⟩
  | .hbm, ⟨22, _⟩ => ⟨S_, .f32⟩
  | .hbm, ⟨23, _⟩ => ⟨S1x4x16384, .f32⟩
  | .hbm, ⟨24, _⟩ => ⟨S1x4x16384, .f32⟩
  | .hbm, ⟨25, _⟩ => ⟨S_, .f32⟩
  | .hbm, ⟨26, _⟩ => ⟨S1x4x16384, .f32⟩
  | .hbm, ⟨27, _⟩ => ⟨S1x4x16384, .i1⟩
  | .hbm, ⟨28, _⟩ => ⟨S_, .f32⟩
  | .hbm, ⟨29, _⟩ => ⟨S1x4x16384, .f32⟩
  | .hbm, ⟨30, _⟩ => ⟨S1x4x16384, .i1⟩
  | .hbm, ⟨31, _⟩ => ⟨S_, .f32⟩
  | .hbm, ⟨32, _⟩ => ⟨S1x4x16384, .f32⟩
  | .hbm, ⟨33, _⟩ => ⟨S_, .f32⟩
  | .hbm, ⟨34, _⟩ => ⟨S1x4x16384, .f32⟩
  | .hbm, ⟨35, _⟩ => ⟨S_, .f32⟩
  | .hbm, ⟨36, _⟩ => ⟨S1x4x16384, .f32⟩
  | .hbm, ⟨37, _⟩ => ⟨S1x4x16384, .f32⟩
  | .hbm, ⟨38, _⟩ => ⟨S1x4x16384, .f32⟩
  | .hbm, ⟨39, _⟩ => ⟨S1x4x16384x1, .f32⟩
  | .hbm, ⟨40, _⟩ => ⟨S1x4x16384x256, .f32⟩
  | .hbm, ⟨41, _⟩ => ⟨S1x4x16384x256, .f32⟩
  | .hbm, ⟨42, _⟩ => ⟨S1x4x16384x256, .f32⟩
  | .hbm, ⟨43, _⟩ => ⟨S_, .f32⟩
  | .hbm, ⟨44, _⟩ => ⟨S1x4x16384, .f32⟩
  | .hbm, ⟨45, _⟩ => ⟨S1x4x16384x1, .f32⟩
  | .hbm, ⟨46, _⟩ => ⟨S1x4x16384x256, .f32⟩
  | .hbm, ⟨47, _⟩ => ⟨S1x4x16384x256, .f32⟩
  | .hbm, ⟨48, _⟩ => ⟨S1x4x16384x1, .f32⟩
  | .hbm, ⟨49, _⟩ => ⟨S_, .f32⟩
  | .hbm, ⟨50, _⟩ => ⟨S1x4x16384x1, .f32⟩
  | .hbm, ⟨51, _⟩ => ⟨S1x4x16384x1, .f32⟩
  | .hbm, ⟨52, _⟩ => ⟨S1x4x128x16384, .f32⟩
  | .hbm, ⟨53, _⟩ => ⟨S1x16384x4x128, .f32⟩
  | .hbm, ⟨54, _⟩ => ⟨S1x16384x512, .f32⟩
  | .hbm, ⟨55, _⟩ => ⟨S1x16384x4x128, .f32⟩
  | .hbm, ⟨56, _⟩ => ⟨S1x4x128x16384, .f32⟩
  | .hbm, ⟨57, _⟩ => ⟨S1x4x16384x256, .f32⟩
  | .hbm, ⟨58, _⟩ => ⟨S1x4x128x256, .f32⟩
  | .hbm, ⟨59, _⟩ => ⟨S1x256x4x128, .f32⟩
  | .hbm, ⟨60, _⟩ => ⟨S1x4x16384x256, .f32⟩
  | .hbm, ⟨61, _⟩ => ⟨S1x4x16384x256, .f32⟩
  | .hbm, ⟨62, _⟩ => ⟨S1x4x16384x256, .f32⟩
  | .hbm, ⟨63, _⟩ => ⟨S_, .f32⟩
  | .hbm, ⟨64, _⟩ => ⟨S1x4x16384, .f32⟩
  | .hbm, ⟨65, _⟩ => ⟨S1x4x16384x1, .f32⟩
  | .hbm, ⟨66, _⟩ => ⟨S1x4x16384x1, .f32⟩
  | .hbm, ⟨67, _⟩ => ⟨S1x4x16384x256, .f32⟩
  | .hbm, ⟨68, _⟩ => ⟨S1x4x16384x256, .f32⟩
  | .hbm, ⟨69, _⟩ => ⟨S_, .f32⟩
  | .hbm, ⟨70, _⟩ => ⟨S4x16384, .f32⟩
  | .hbm, ⟨71, _⟩ => ⟨S1x4x16384, .f32⟩
  | .hbm, ⟨72, _⟩ => ⟨S1x4x16384x256, .f32⟩
  | .hbm, ⟨73, _⟩ => ⟨S1x4x16384x256, .f32⟩
  | .hbm, ⟨74, _⟩ => ⟨S1x4x16384x256, .f32⟩
  | .hbm, ⟨75, _⟩ => ⟨S_, .f32⟩
  | .hbm, ⟨76, _⟩ => ⟨S1x4x16384x256, .f32⟩
  | .hbm, ⟨77, _⟩ => ⟨S1x4x16384x256, .f32⟩
  | .hbm, ⟨78, _⟩ => ⟨S1x4x256x128, .f32⟩
  | .hbm, ⟨79, _⟩ => ⟨S1x256x4x128, .f32⟩
  | .hbm, ⟨80, _⟩ => ⟨S1x4x16384x128, .f32⟩
  | .hbm, ⟨81, _⟩ => ⟨S1x16384x4x128, .f32⟩
  | .hbm, ⟨82, _⟩ => ⟨S1x256x512, .f32⟩
  | .hbm, ⟨83, _⟩ => ⟨S1x256x512, .f32⟩
  | .hbm, ⟨84, _⟩ => ⟨S1x16384x512, .f32⟩
  | .hbm, ⟨85, _⟩ => ⟨S1x256x1024, .f32⟩
  | .hbm, ⟨86, _⟩ => ⟨S16384x2560, .bf16⟩
  | .hbm, ⟨87, _⟩ => ⟨S16384x512, .f32⟩
  | .hbm, ⟨88, _⟩ => ⟨S16384x512, .bf16⟩
  | .hbm, ⟨89, _⟩ => ⟨S16384x5120, .bf16⟩
  | .hbm, ⟨90, _⟩ => ⟨S16384x8192, .bf16⟩
  | .hbm, ⟨91, _⟩ => ⟨S256x1024, .f32⟩
  | _, _ => ⟨S1x16384x6680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Dffn.lean ====
abbrev S16384x4096 : Shape := ⟨2, ![16384, 4096]⟩
abbrev S1x1024x4096 : Shape := ⟨3, ![1, 1024, 4096]⟩
abbrev S1x16384x1024 : Shape := ⟨3, ![1, 16384, 1024]⟩
abbrev S1x1024 : Shape := ⟨2, ![1, 1024]⟩
abbrev S16384x1024 : Shape := ⟨2, ![16384, 1024]⟩
abbrev S1024x4096 : Shape := ⟨2, ![1024, 4096]⟩
abbrev S8x1024 : Shape := ⟨2, ![8, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 11
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S1x1024x4096, .f32⟩
  | .hbm, ⟨2, _⟩ => ⟨S1x16384x1024, .f32⟩
  | .hbm, ⟨3, _⟩ => ⟨S1x1024, .f32⟩
  | .hbm, ⟨4, _⟩ => ⟨S16384x1024, .f32⟩
  | .hbm, ⟨5, _⟩ => ⟨S1024x4096, .f32⟩
  | .hbm, ⟨6, _⟩ => ⟨S1024x4096, .bf16⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c0_i32_9 : BitVec 32 := 0#32
  let v15 : BitVec 1 := Scalar.cmpi .eq arg0 c0_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== DffnRefIdeal.lean ====
abbrev S16384x4096 : Shape := ⟨2, ![16384, 4096]⟩
abbrev S1x1024x4096 : Shape := ⟨3, ![1, 1024, 4096]⟩
abbrev S1x16384x1024 : Shape := ⟨3, ![1, 16384, 1024]⟩
abbrev S1x1024 : Shape := ⟨2, ![1, 1024]⟩
abbrev S16384x1024 : Shape := ⟨2, ![16384, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩
abbrev S2048x8x1024 : Shape := ⟨3, ![2048, 8, 1024]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x1024x4096, .f32⟩
  | .hbm, ⟨2, _⟩ => ⟨S1x16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x4096, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x4096, .f32⟩
  | .hbm, ⟨27, _⟩ => ⟨S16384x4096, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .bf16⟩
  | .hbm, ⟨50, _⟩ => ⟨S2048x8x1024, .f32⟩
  | .hbm, ⟨51, _⟩ => ⟨S_, .f32⟩
  | .hbm, ⟨52, _⟩ => ⟨S8x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Foxb.lean ====
abbrev S1x16384x512 : Shape := ⟨3, ![1, 16384, 512]⟩
abbrev S1x8x16384 : Shape := ⟨3, ![1, 8, 16384]⟩
abbrev S1x16384x8x64 : Shape := ⟨4, ![1, 16384, 8, 64]⟩
abbrev S1x8x16384x64 : Shape := ⟨4, ![1, 8, 16384, 64]⟩
abbrev S_ : Shape := ⟨0, ![]⟩
abbrev S16384 : Shape := ⟨1, ![16384]⟩
abbrev S1x8x16384x16384 : Shape := ⟨4, ![1, 8, 16384, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S1x8x16384x3 : Shape := ⟨4, ![1, 8, 16384, 3]⟩
abbrev S1x8x16384x58 : Shape := ⟨4, ![1, 8, 16384, 58]⟩
abbrev S1x8x16384x128 : Shape := ⟨4, ![1, 8, 16384, 128]⟩
abbrev S8x16384x128 : Shape := ⟨3, ![8, 16384, 128]⟩
abbrev S16384x8x128 : Shape := ⟨3, ![16384, 8, 128]⟩
abbrev S16384x1024 : Shape := ⟨2, ![16384, 1024]⟩
abbrev S16384x3072 : Shape := ⟨2, ![16384, 3072]⟩
abbrev S16384x512 : Shape := ⟨2, ![16384, 512]⟩
abbrev S16384x4096 : Shape := ⟨2, ![16384, 4096]⟩
abbrev S32 : Shape := ⟨1, ![32]⟩
abbrev S1024x16384 : Shape := ⟨2, ![1024, 16384]⟩
abbrev S512x16384 : Shape := ⟨2, ![512, 16384]⟩
abbrev S4x2x16384 : Shape := ⟨3, ![4, 2, 16384]⟩
abbrev S4x8x16384 : Shape := ⟨3, ![4, 8, 16384]⟩
abbrev S1x32 : Shape := ⟨2, ![1, 32]⟩
abbrev S8x32 : Shape := ⟨2, ![8, 32]⟩
abbrev S16384x128 : Shape := ⟨2, ![16384, 128]⟩
abbrev S128x16384 : Shape := ⟨2, ![128, 16384]⟩
abbrev S512x128 : Shape := ⟨2, ![512, 128]⟩
abbrev S128x512 : Shape := ⟨2, ![128, 512]⟩
abbrev S64x512 : Shape := ⟨2, ![64, 512]⟩
abbrev S80x512 : Shape := ⟨2, ![80, 512]⟩
abbrev S512x512 : Shape := ⟨2, ![512, 512]⟩
abbrev S1x1x512 : Shape := ⟨3, ![1, 1, 512]⟩
abbrev S1x512 : Shape := ⟨2, ![1, 512]⟩
abbrev S1x1 : Shape := ⟨2, ![1, 1]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S80x1024 : Shape := ⟨2, ![80, 1024]⟩
abbrev S64x1024 : Shape := ⟨2, ![64, 1024]⟩
abbrev S48x512 : Shape := ⟨2, ![48, 512]⟩
abbrev S8x128x16384 : Shape := ⟨3, ![8, 128, 16384]⟩
abbrev S8x64x16384 : Shape := ⟨3, ![8, 64, 16384]⟩
abbrev S8x1x16384 : Shape := ⟨3, ![8, 1, 16384]⟩
abbrev S8x16384 : Shape := ⟨2, ![8, 16384]⟩

abbrev nBuf : Space → Nat
  | .hbm => 128
  | .vmem => 23
  | .smem => 2
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x8x16384, .f32⟩
  | .hbm, ⟨4, _⟩ => ⟨S1x16384x512, .f32⟩
  | .hbm, ⟨5, _⟩ => ⟨S1x16384x8x64, .f32⟩
  | .hbm, ⟨6, _⟩ => ⟨S1x8x16384x64, .f32⟩
  | .hbm, ⟨7, _⟩ => ⟨S_, .f32⟩
  | .hbm, ⟨8, _⟩ => ⟨S1x8x16384x64, .f32⟩
  | .hbm, ⟨9, _⟩ => ⟨S1x8x16384x64, .f32⟩
  | .hbm, ⟨10, _⟩ => ⟨S1x16384x8x64, .f32⟩
  | .hbm, ⟨11, _⟩ => ⟨S1x8x16384x64, .f32⟩
  | .hbm, ⟨12, _⟩ => ⟨S1x16384x8x64, .f32⟩
  | .hbm, ⟨13, _⟩ => ⟨S1x8x16384x64, .f32⟩
  | .hbm, ⟨14, _⟩ => ⟨S1x16384x8x64, .f32⟩
  | .hbm, ⟨15, _⟩ => ⟨S1x8x16384x64, .f32⟩
  | .hbm, ⟨16, _⟩ => ⟨S16384, .i32⟩
  | .hbm, ⟨17, _⟩ => ⟨S1x8x16384x16384, .f32⟩
  | .hbm, ⟨18, _⟩ => ⟨S1x8x16384x1, .f32⟩
  | .hbm, ⟨19, _⟩ => ⟨S1x8x16384x16384, .f32⟩
  | .hbm, ⟨20, _⟩ => ⟨S1x8x16384x16384, .f32⟩
  | .hbm, ⟨21, _⟩ => ⟨S1x8x1x16384, .f32⟩
  | .hbm, ⟨22, _⟩ => ⟨S1x8x16384x16384, .f32⟩
  | .hbm, ⟨23, _⟩ => ⟨S1x8x16384x16384, .f32⟩
  | .hbm, ⟨24, _⟩ => ⟨S1x16384, .i32⟩
  | .hbm, ⟨25, _⟩ => ⟨S16384x1, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S1x8x16384x16384, .i1⟩
  | .hbm, ⟨30, _⟩ => ⟨S_, .f32⟩
  | .hbm, ⟨31, _⟩ => ⟨S1x8x16384x16384, .f32⟩
  | .hbm, ⟨32, _⟩ => ⟨S1x8x16384x16384, .f32⟩
  | .hbm, ⟨33, _⟩ => ⟨S_, .f32⟩
  | .hbm, ⟨34, _⟩ => ⟨S1x8x16384, .f32⟩
  | .hbm, ⟨35, _⟩ => ⟨S1x8x16384x1, .f32⟩
  | .hbm, ⟨36, _⟩ => ⟨S1x8x16384x16384, .f32⟩
  | .hbm, ⟨37, _⟩ => ⟨S1x8x16384x16384, .f32⟩
  | .hbm, ⟨38, _⟩ => ⟨S1x8x16384x16384, .f32⟩
  | .hbm, ⟨39, _⟩ => ⟨S_, .f32⟩
  | .hbm, ⟨40, _⟩ => ⟨S1x8x16384, .f32⟩
  | .hbm, ⟨41, _⟩ => ⟨S1x8x16384x1, .f32⟩
  | .hbm, ⟨42, _⟩ => ⟨S1x8x16384x1, .f32⟩
  | .hbm, ⟨43, _⟩ => ⟨S1x8x16384x1, .f32⟩
  | .hbm, ⟨44, _⟩ => ⟨S1x8x16384x16384, .f32⟩
  | .hbm, ⟨45, _⟩ => ⟨S1x8x16384x16384, .f32⟩
  | .hbm, ⟨46, _⟩ => ⟨S1x8x16384x16384, .f32⟩
  | .hbm, ⟨47, _⟩ => ⟨S1x8x16384x64, .f32⟩
  | .hbm, ⟨48, _⟩ => ⟨S1x8x16384, .f32⟩
  | .hbm, ⟨49, _⟩ => ⟨S1x8x16384x64, .f32⟩
  | .hbm, ⟨50, _⟩ => ⟨S_, .f32⟩
  | .hbm, ⟨51, _⟩ => ⟨S1x8x16384, .f32⟩
  | .hbm, ⟨52, _⟩ => ⟨S1x8x16384, .bf16⟩
  | .hbm, ⟨53, _⟩ => ⟨S1x8x16384, .f32⟩
  | .hbm, ⟨54, _⟩ => ⟨S1x8x16384, .f32⟩
  | .hbm, ⟨55, _⟩ => ⟨S1x8x16384, .bf16⟩
  | .hbm, ⟨56, _⟩ => ⟨S1x8x16384, .f32⟩
  | .hbm, ⟨57, _⟩ => ⟨S1x8x16384, .f32⟩
  | .hbm, ⟨58, _⟩ => ⟨S1x8x16384, .f32⟩
  | .hbm, ⟨59, _⟩ => ⟨S1x8x16384, .bf16⟩
  | .hbm, ⟨60, _⟩ => ⟨S1x8x16384, .f32⟩
  | .hbm, ⟨61, _⟩ => ⟨S1x8x16384x1, .f32⟩
  | .hbm, ⟨62, _⟩ => ⟨S1x8x16384x1, .f32⟩
  | .hbm, ⟨63, _⟩ => ⟨S1x8x16384x1, .f32⟩
  | .hbm, ⟨64, _⟩ => ⟨S_, .f32⟩
  | .hbm, ⟨65, _⟩ => ⟨S1x8x16384x3, .f32⟩
  | .hbm, ⟨66, _⟩ => ⟨S_, .f32⟩
  | .hbm, ⟨67, _⟩ => ⟨S1x8x16384x58, .f32⟩
  | .hbm, ⟨68, _⟩ => ⟨S1x8x16384x128, .f32⟩
  | .hbm, ⟨69, _⟩ => ⟨S8x16384x128, .f32⟩
  | .hbm, ⟨70, _⟩ => ⟨S16384x8x128, .f32⟩
  | .hbm, ⟨71, _⟩ => ⟨S16384x1024, .f32⟩
  | .hbm, ⟨72, _⟩ => ⟨S16384x1024, .bf16⟩
  | .hbm, ⟨73, _⟩ => ⟨S1x8x16384x1, .f32⟩
  | .hbm, ⟨74, _⟩ => ⟨S1x8x16384x1, .f32⟩
  | .hbm, ⟨75, _⟩ => ⟨S1x8x16384x1, .f32⟩
  | .hbm, ⟨76, _⟩ => ⟨S1x8x16384x128, .f32⟩
  | .hbm, ⟨77, _⟩ => ⟨S8x16384x128, .f32⟩
  | .hbm, ⟨78, _⟩ => ⟨S16384x8x128, .f32⟩
  | .hbm, ⟨79, _⟩ => ⟨S16384x1024, .f32⟩
  | .hbm, ⟨80, _⟩ => ⟨S16384x1024, .bf16⟩
  | .hbm, ⟨81, _⟩ => ⟨S_, .f32⟩
  | .hbm, ⟨82, _⟩ => ⟨S16384x3072, .f32⟩
  | .hbm, ⟨83, _⟩ => ⟨S16384x512, .f32⟩
  | .hbm, ⟨84, _⟩ => ⟨S_, .f32⟩
  | .hbm, ⟨85, _⟩ => ⟨S16384x512, .f32⟩
  | .hbm, ⟨86, _⟩ => ⟨S16384x4096, .f32⟩
  | .hbm, ⟨87, _⟩ => ⟨S16384x4096, .bf16⟩
  | .hbm, ⟨88, _⟩ => ⟨S16384x512, .f32⟩
  | .hbm, ⟨89, _⟩ => ⟨S16384x512, .bf16⟩
  | .hbm, ⟨90, _⟩ => ⟨S32, .i32⟩
  | .hbm, ⟨91, _⟩ => ⟨S1024x16384, .bf16⟩
  | .hbm, ⟨92, _⟩ => ⟨S1024x16384, .bf16⟩
  | .hbm, ⟨93, _⟩ => ⟨S512x16384, .bf16⟩
  | .hbm, ⟨94, _⟩ => ⟨S4x2x16384, .f32⟩
  | .hbm, ⟨95, _⟩ => ⟨S_, .i32⟩
  | .hbm, ⟨96, _⟩ => ⟨S_, .f32⟩
  | .hbm, ⟨97, _⟩ => ⟨S4x8x16384, .f32⟩
  | .hbm, ⟨98, _⟩ => ⟨S4x2x16384, .f32⟩
  | .hbm, ⟨99, _⟩ => ⟨S_, .i32⟩
  | .hbm, ⟨100, _⟩ => ⟨S_, .f32⟩
  | .hbm, ⟨101, _⟩ => ⟨S4x8x16384, .f32⟩
  | .hbm, ⟨102, _⟩ => ⟨S_, .i32⟩
  | .hbm, ⟨103, _⟩ => ⟨S32, .i32⟩
  | .hbm, ⟨104, _⟩ => ⟨S32, .i32⟩
  | .hbm, ⟨105, _⟩ => ⟨S_, .i32⟩
  | .hbm, ⟨106, _⟩ => ⟨S32, .i32⟩
  | .hbm, ⟨107, _⟩ => ⟨S32, .i32⟩
  | .hbm, ⟨108, _⟩ => ⟨S_, .i32⟩
  | .hbm, ⟨109, _⟩ => ⟨S32, .i32⟩
  | .hbm, ⟨110, _⟩ => ⟨S32, .i32⟩
  | .hbm, ⟨111, _⟩ => ⟨S1x32, .i32⟩
  | .hbm, ⟨112, _⟩ => ⟨S8x32, .i32⟩
  | .hbm, ⟨113, _⟩ => ⟨S_, .i32⟩
  | .hbm, ⟨114, _⟩ => ⟨S32, .i32⟩
  | .hbm, ⟨115, _⟩ => ⟨S1x32, .i32⟩
  | .hbm, ⟨116, _⟩ => ⟨S8x32, .i32⟩
  | .hbm, ⟨117, _⟩ => ⟨S1024x16384, .f32⟩
  | .hbm, ⟨118, _⟩ => ⟨S1024x16384, .f32⟩
  | .hbm, ⟨119, _⟩ => ⟨S512x16384, .f32⟩
  | .hbm, ⟨120, _⟩ => ⟨S8x128x16384, .f32⟩
  | .hbm, ⟨121, _⟩ => ⟨S8x128x16384, .f32⟩
  | .hbm, ⟨122, _⟩ => ⟨S8x64x16384, .f32⟩
  | .hbm, ⟨123, _⟩ => ⟨S8x64x16384, .f32⟩
  | .hbm, ⟨124, _⟩ => ⟨S8x1x16384, .f32⟩
  | .hbm, ⟨125, _⟩ => ⟨S8x16384, .f32⟩
  | .hbm, ⟨126, _⟩ => ⟨S8x1x16384, .f32⟩
  | .hbm, ⟨127, _⟩ => ⟨S8x16384, .f32⟩
  | .local _ .vmem, ⟨0, _⟩ => ⟨S16384x128, .bf16⟩
  | .local _ .vmem, ⟨1, _⟩ => ⟨S16384x128, .bf16⟩
  | .local _ .vmem, ⟨2, _⟩ => ⟨S128x16384, .bf16⟩
  | .local _ .vmem, ⟨3, _⟩ => ⟨S128x16384, .bf16⟩
  | .local _ .vmem, ⟨4, _⟩ => ⟨S512x128, .bf16⟩
  | .local _ .vmem, ⟨5, _⟩ => ⟨S512x128, .bf16⟩
  | .local _ .vmem, ⟨6, _⟩ => ⟨S128x512, .bf16⟩
  | .local _ .vmem, ⟨7, _⟩ => ⟨S128x512, .bf16⟩
  | .local _ .vmem, ⟨8, _⟩ => ⟨S512x128, .bf16⟩
  | .local _ .vmem, ⟨9, _⟩ => ⟨S512x128, .bf16⟩
  | .local _ .vmem, ⟨10, _⟩ => ⟨S16384x128, .bf16⟩
  | .local _ .vmem, ⟨11, _⟩ => ⟨S16384x128, .bf16⟩
  | .local _ .vmem, ⟨12, _⟩ => ⟨S128x16384, .bf16⟩
  | .local _ .vmem, ⟨13, _⟩ => ⟨S128x16384, .bf16⟩
  | .local _ .vmem, ⟨14, _⟩ => ⟨S1x8x16384, .f32⟩
  | .local _ .vmem, ⟨15, _⟩ => ⟨S1x8x16384, .f32⟩
  | .local _ .vmem, ⟨16, _⟩ => ⟨S1x8x16384, .f32⟩
  | .local _ .vmem, ⟨17, _⟩ => ⟨S1x8x16384, .f32⟩
  | .local _ .vmem, ⟨18, _⟩ => ⟨S128x16384, .f32⟩
  | .local _ .vmem, ⟨19, _⟩ => ⟨S128x512, .f32⟩
  | .local _ .vmem, ⟨20, _⟩ => ⟨S128x512, .f32⟩
  | .local _ .vmem, ⟨21, _⟩ => ⟨S64x512, .f32⟩
  | .local _ .vmem, ⟨22, _⟩ => ⟨S64x512, .f32⟩
  | .local _ .smem, ⟨0, _⟩ => ⟨S8x32, .i32⟩
  | .local _ .smem, ⟨1, _⟩ => ⟨S8x32, .i32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_4 : Ref sig .tc := ⟨.hbm, 64, rfl⟩
abbrev main_v54 : Ref sig .tc := ⟨.hbm, 65, rfl⟩
abbrev main_cst_5 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_6 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_c : Ref sig .tc := ⟨.hbm, 95, rfl⟩
abbrev main_call0_v0 : Ref sig .tc := ⟨.hbm, 96, rfl⟩
abbrev main_v81 : Ref sig .tc := ⟨.hbm, 97, rfl⟩
abbrev main_v82 : Ref sig .tc := ⟨.hbm, 98, rfl⟩
abbrev main_c_8 : Ref sig .tc := ⟨.hbm, 99, rfl⟩
abbrev main_call1_v0 : Ref sig .tc := ⟨.hbm, 100, rfl⟩
abbrev main_v83 : Ref sig .tc := ⟨.hbm, 101, rfl⟩
abbrev main_c_9 : Ref sig .tc := ⟨.hbm, 102, rfl⟩
abbrev main_v84 : Ref sig .tc := ⟨.hbm, 103, rfl⟩
abbrev main_v85 : Ref sig .tc := ⟨.hbm, 104, rfl⟩
abbrev main_c_10 : Ref sig .tc := ⟨.hbm, 105, rfl⟩
abbrev main_v86 : Ref sig .tc := ⟨.hbm, 106, rfl⟩
abbrev main_v87 : Ref sig .tc := ⟨.hbm, 107, rfl⟩
abbrev main_c_11 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_c_12 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95_0 : Ref sig .tc := ⟨.hbm, 117, rfl⟩
abbrev main_v95_1 : Ref sig .tc := ⟨.hbm, 118, rfl⟩
abbrev main_v95_2 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  v26
def k0_mult2 (i : grid0.Coords) : BitVec 32 :=
  let arg1 : BitVec 32 := BitVec.ofNat 32 (i 1).val
  let c512_i32 : BitVec 32 := 512#32
  let v30 : BitVec 32 := Scalar.muli arg1 c512_i32
  v30
def k0_off1 (i : grid0.Coords) : Fin 2 → Nat :=
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_12 : Index := 0#32
  ![v32.toNat, 0]
def k0_off2 (i : grid0.Coords) : Fin 3 → Nat :=
  let c0_14 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : Index := Scalar.indexCast v9
  let arg1 : BitVec 32 := BitVec.ofNat 32 (i 1).val
  let c512_i32 : BitVec 32 := 512#32
  let v30 : BitVec 32 := Scalar.muli arg1 c512_i32
  let v31 : BitVec 32 := v30
  let v37 : Index := Scalar.indexCast v31
  ![0, v36.toNat, v37.toNat]
def k0_off3 (i : grid0.Coords) : Fin 2 → Nat :=
  let c0_19 : Index := 0#32
  let arg1 : BitVec 32 := BitVec.ofNat 32 (i 1).val
  let c512_i32 : BitVec 32 := 512#32
  let v30 : BitVec 32 := Scalar.muli arg1 c512_i32
  let v31 : BitVec 32 := v30
  let v60 : Index := Scalar.indexCast v31
  ![0, v60.toNat]
def k0_off4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v72 : Index := Scalar.indexCast v27
  let arg1 : BitVec 32 := BitVec.ofNat 32 (i 1).val
  let c512_i32 : BitVec 32 := 512#32
  let v30 : BitVec 32 := Scalar.muli arg1 c512_i32
  let v31 : BitVec 32 := v30
  let v73 : Index := Scalar.indexCast v31
  ![v72.toNat, v73.toNat]
def k0_off5 (i : grid0.Coords) : Fin 2 → Nat :=
  let arg0 : BitVec 32 := BitVec.ofNat 32 (i 0).val
  let v98 : Index := Scalar.indexCast arg0
  let arg1 : BitVec 32 := BitVec.ofNat 32 (i 1).val
  let v99 : Index := Scalar.indexCast arg1
  ![v98.toNat, v99.toNat]
@[reducible] def k0_t1_loop (i : grid0.Coords) (v100 : BitVec 32) : Scf.Loop 32 :=
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_35 : BitVec 32 := 1#32
  ⟨v97, v105, c1_i32_35⟩

def k0_mult3 (i : grid0.Coords) (v100 : BitVec 32) (k0_t1 : Fin (k0_t1_loop i v100).trips) : BitVec 32 :=
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  v155
def k0_off6 (i : grid0.Coords) (v100 : BitVec 32) (k0_t1 : Fin (k0_t1_loop i v100).trips) : Fin 2 → Nat :=
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  let v156 : BitVec 32 := v155
  let v157 : Index := Scalar.indexCast v156
  let c0_64 : Index := 0#32
  ![v157.toNat, 0]
def k0_off7 (i : grid0.Coords) (v100 : BitVec 32) (k0_t1 : Fin (k0_t1_loop i v100).trips) : Fin 3 → Nat :=
  let c0_66 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v161 : Index := Scalar.indexCast v9
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  let v156 : BitVec 32 := v155
  let v162 : Index := Scalar.indexCast v156
  ![0, v161.toNat, v162.toNat]
def k0_off8 (i : grid0.Coords) (v100 : BitVec 32) (k0_t1 : Fin (k0_t1_loop i v100).trips) : Fin 2 → Nat :=
  let c0_70 : Index := 0#32
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  let v156 : BitVec 32 := v155
  let v180 : Index := Scalar.indexCast v156
  ![0, v180.toNat]
def k0_off9 (i : grid0.Coords) (v100 : BitVec 32) (k0_t1 : Fin (k0_t1_loop i v100).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v192 : Index := Scalar.indexCast v27
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  let v156 : BitVec 32 := v155
  let v193 : Index := Scalar.indexCast v156
  ![v192.toNat, v193.toNat]
@[reducible] def k0_t2_loop (i : grid0.Coords) (v100 : BitVec 32) : Scf.Loop 32 :=
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let v102 : BitVec 32 := Scalar.addi v97 v101
  let c1_i32_36 : BitVec 32 := 1#32
  ⟨v105, v102, c1_i32_36⟩
def k0_mult4 (i : grid0.Coords) (v100 : BitVec 32) (k0_t2 : Fin (k0_t2_loop i v100).trips) : BitVec 32 :=
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  v155
def k0_off10 (i : grid0.Coords) (v100 : BitVec 32) (k0_t2 : Fin (k0_t2_loop i v100).trips) : Fin 2 → Nat :=
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  let v156 : BitVec 32 := v155
  let v157 : Index := Scalar.indexCast v156
  let c0_64 : Index := 0#32
  ![v157.toNat, 0]
def k0_off11 (i : grid0.Coords) (v100 : BitVec 32) (k0_t2 : Fin (k0_t2_loop i v100).trips) : Fin 3 → Nat :=
  let c0_66 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v161 : Index := Scalar.indexCast v9
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  let v156 : BitVec 32 := v155
  let v162 : Index := Scalar.indexCast v156
  ![0, v161.toNat, v162.toNat]
def k0_off12 (i : grid0.Coords) (v100 : BitVec 32) (k0_t2 : Fin (k0_t2_loop i v100).trips) : Fin 2 → Nat :=
  let c0_70 : Index := 0#32
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  let v156 : BitVec 32 := v155
  let v180 : Index := Scalar.indexCast v156
  ![0, v180.toNat]
def k0_off13 (i : grid0.Coords) (v100 : BitVec 32) (k0_t2 : Fin (k0_t2_loop i v100).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v192 : Index := Scalar.indexCast v27
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  let v156 : BitVec 32 := v155
  let v193 : Index := Scalar.indexCast v156
  ![v192.toNat, v193.toNat]

def k0_chk1 (i : grid0.Coords) (v100 : BitVec 32) : Prop :=
  ((k0_t1_loop i v100).OK) ∧
  (∀ k0_t1 : Fin (k0_t1_loop i v100).trips, 512 ∣ (k0_mult3 i v100 k0_t1).toNat) ∧
  (∀ k0_t1 : Fin (k0_t1_loop i v100).trips, ∀ a, (k0_off6 i v100 k0_t1) a + S512x128.size a ≤ S16384x128.size a) ∧
  (∀ k0_t1 : Fin (k0_t1_loop i v100).trips, ∀ a, (k0_off7 i v100 k0_t1) a + S1x1x512.size a ≤ S1x8x16384.size a) ∧
  (∀ k0_t1 : Fin (k0_t1_loop i v100).trips, ∀ a, (k0_off8 i v100 k0_t1) a + S80x512.size a ≤ S128x16384.size a) ∧
  (∀ k0_t1 : Fin (k0_t1_loop i v100).trips, ∀ a, (k0_off9 i v100 k0_t1) a + S64x512.size a ≤ S128x16384.size a) ∧
  ((k0_t2_loop i v100).OK) ∧
  (∀ k0_t2 : Fin (k0_t2_loop i v100).trips, 512 ∣ (k0_mult4 i v100 k0_t2).toNat) ∧
  (∀ k0_t2 : Fin (k0_t2_loop i v100).trips, ∀ a, (k0_off10 i v100 k0_t2) a + S512x128.size a ≤ S16384x128.size a) ∧
  (∀ k0_t2 : Fin (k0_t2_loop i v100).trips, ∀ a, (k0_off11 i v100 k0_t2) a + S1x1x512.size a ≤ S1x8x16384.size a) ∧
  (∀ k0_t2 : Fin (k0_t2_loop i v100).trips, ∀ a, (k0_off12 i v100 k0_t2) a + S80x512.size a ≤ S128x16384.size a) ∧
  (∀ k0_t2 : Fin (k0_t2_loop i v100).trips, ∀ a, (k0_off13 i v100 k0_t2) a + S64x512.size a ≤ S128x16384.size a)
theorem k0_t1_ok : ∀ (i : grid0.Coords) (v100 : BitVec 32) (k0_hw1 : k0_chk1 i v100), (k0_t1_loop i v100).OK := fun i v100 k0_hw1 => k0_hw1.1
theorem k0_mult3_dvd : ∀ (i : grid0.Coords) (v100 : BitVec 32) (k0_hw1 : k0_chk1 i v100) (k0_t1 : Fin (k0_t1_loop i v100).trips), 512 ∣ (k0_mult3 i v100 k0_t1).toNat := fun i v100 k0_hw1 k0_t1 => k0_hw1.2.1 k0_t1
theorem k0_off6_inb : ∀ (i : grid0.Coords) (v100 : BitVec 32) (k0_hw1 : k0_chk1 i v100) (k0_t1 : Fin (k0_t1_loop i v100).trips), ∀ a, (k0_off6 i v100 k0_t1) a + S512x128.size a ≤ S16384x128.size a := fun i v100 k0_hw1 k0_t1 => k0_hw1.2.2.1 k0_t1
theorem k0_off7_inb : ∀ (i : grid0.Coords) (v100 : BitVec 32) (k0_hw1 : k0_chk1 i v100) (k0_t1 : Fin (k0_t1_loop i v100).trips), ∀ a, (k0_off7 i v100 k0_t1) a + S1x1x512.size a ≤ S1x8x16384.size a := fun i v100 k0_hw1 k0_t1 => k0_hw1.2.2.2.1 k0_t1
theorem k0_off8_inb : ∀ (i : grid0.Coords) (v100 : BitVec 32) (k0_hw1 : k0_chk1 i v100) (k0_t1 : Fin (k0_t1_loop i v100).trips), ∀ a, (k0_off8 i v100 k0_t1) a + S80x512.size a ≤ S128x16384.size a := fun i v100 k0_hw1 k0_t1 => k0_hw1.2.2.2.2.1 k0_t1
theorem k0_off9_inb : ∀ (i : grid0.Coords) (v100 : BitVec 32) (k0_hw1 : k0_chk1 i v100) (k0_t1 : Fin (k0_t1_loop i v100).trips), ∀ a, (k0_off9 i v100 k0_t1) a + S64x512.size a ≤ S128x16384.size a := fun i v100 k0_hw1 k0_t1 => k0_hw1.2.2.2.2.2.1 k0_t1
theorem k0_t2_ok : ∀ (i : grid0.Coords) (v100 : BitVec 32) (k0_hw1 : k0_chk1 i v100), (k0_t2_loop i v100).OK := fun i v100 k0_hw1 => k0_hw1.2.2.2.2.2.2.1
theorem k0_mult4_dvd : ∀ (i : grid0.Coords) (v100 : BitVec 32) (k0_hw1 : k0_chk1 i v100) (k0_t2 : Fin (k0_t2_loop i v100).trips), 512 ∣ (k0_mult4 i v100 k0_t2).toNat := fun i v100 k0_hw1 k0_t2 => k0_hw1.2.2.2.2.2.2.2.1 k0_t2
theorem k0_off10_inb : ∀ (i : grid0.Coords) (v100 : BitVec 32) (k0_hw1 : k0_chk1 i v100) (k0_t2 : Fin (k0_t2_loop i v100).trips), ∀ a, (k0_off10 i v100 k0_t2) a + S512x128.size a ≤ S16384x128.size a := fun i v100 k0_hw1 k0_t2 => k0_hw1.2.2.2.2.2.2.2.2.1 k0_t2
theorem k0_off11_inb : ∀ (i : grid0.Coords) (v100 : BitVec 32) (k0_hw1 : k0_chk1 i v100) (k0_t2 : Fin (k0_t2_loop i v100).trips), ∀ a, (k0_off11 i v100 k0_t2) a + S1x1x512.size a ≤ S1x8x16384.size a := fun i v100 k0_hw1 k0_t2 => k0_hw1.2.2.2.2.2.2.2.2.2.1 k0_t2
theorem k0_off12_inb : ∀ (i : grid0.Coords) (v100 : BitVec 32) (k0_hw1 : k0_chk1 i v100) (k0_t2 : Fin (k0_t2_loop i v100).trips), ∀ a, (k0_off12 i v100 k0_t2) a + S80x512.size a ≤ S128x16384.size a := fun i v100 k0_hw1 k0_t2 => k0_hw1.2.2.2.2.2.2.2.2.2.2.1 k0_t2
theorem k0_off13_inb : ∀ (i : grid0.Coords) (v100 : BitVec 32) (k0_hw1 : k0_chk1 i v100) (k0_t2 : Fin (k0_t2_loop i v100).trips), ∀ a, (k0_off13 i v100 k0_t2) a + S64x512.size a ≤ S128x16384.size a := fun i v100 k0_hw1 k0_t2 => k0_hw1.2.2.2.2.2.2.2.2.2.2.2 k0_t2

def k0_off14 (i : grid0.Coords) : Fin 2 → Nat :=
  let arg0 : BitVec 32 := BitVec.ofNat 32 (i 0).val
  let v108 : Index := Scalar.indexCast arg0
  let arg1 : BitVec 32 := BitVec.ofNat 32 (i 1).val
  let v109 : Index := Scalar.indexCast arg1
  ![v108.toNat, v109.toNat]
@[reducible] def k0_t3_loop (i : grid0.Coords) (v110 : BitVec 32) : Scf.Loop 32 :=
  let c0_i32_45 : BitVec 32 := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_47 : BitVec 32 := 1#32
  ⟨c0_i32_45, v134, c1_i32_47⟩

def k0_mult5 (i : grid0.Coords) (v110 : BitVec 32) (k0_t3 : Fin (k0_t3_loop i v110).trips) : BitVec 32 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  v160
def k0_off15 (i : grid0.Coords) (v110 : BitVec 32) (k0_t3 : Fin (k0_t3_loop i v110).trips) : Fin 2 → Nat :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v162 : Index := Scalar.indexCast v161
  let c0_66 : Index := 0#32
  ![v162.toNat, 0]
def k0_off16 (i : grid0.Coords) (v110 : BitVec 32) (k0_t3 : Fin (k0_t3_loop i v110).trips) : Fin 3 → Nat :=
  let c0_68 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v166 : Index := Scalar.indexCast v9
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v167 : Index := Scalar.indexCast v161
  ![0, v166.toNat, v167.toNat]
def k0_off17 (i : grid0.Coords) (v110 : BitVec 32) (k0_t3 : Fin (k0_t3_loop i v110).trips) : Fin 2 → Nat :=
  let c0_72 : Index := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v185 : Index := Scalar.indexCast v161
  ![0, v185.toNat]
def k0_off18 (i : grid0.Coords) (v110 : BitVec 32) (k0_t3 : Fin (k0_t3_loop i v110).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v197 : Index := Scalar.indexCast v27
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v198 : Index := Scalar.indexCast v161
  ![v197.toNat, v198.toNat]
def k0_mult6 (i : grid0.Coords) (v110 : BitVec 32) (k0_t3 : Fin (k0_t3_loop i v110).trips) : BitVec 32 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  v204
def k0_off19 (i : grid0.Coords) (v110 : BitVec 32) (k0_t3 : Fin (k0_t3_loop i v110).trips) : Fin 2 → Nat :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v206 : Index := Scalar.indexCast v205
  let c0_79 : Index := 0#32
  ![v206.toNat, 0]
def k0_off20 (i : grid0.Coords) (v110 : BitVec 32) (k0_t3 : Fin (k0_t3_loop i v110).trips) : Fin 3 → Nat :=
  let c0_81 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v210 : Index := Scalar.indexCast v9
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v211 : Index := Scalar.indexCast v205
  ![0, v210.toNat, v211.toNat]
def k0_off21 (i : grid0.Coords) (v110 : BitVec 32) (k0_t3 : Fin (k0_t3_loop i v110).trips) : Fin 2 → Nat :=
  let c0_85 : Index := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v229 : Index := Scalar.indexCast v205
  ![0, v229.toNat]
def k0_off22 (i : grid0.Coords) (v110 : BitVec 32) (k0_t3 : Fin (k0_t3_loop i v110).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v241 : Index := Scalar.indexCast v27
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v242 : Index := Scalar.indexCast v205
  ![v241.toNat, v242.toNat]
@[reducible] def k0_t4_loop (i : grid0.Coords) (v110 : BitVec 32) : Scf.Loop 32 :=
  let c0_i32_45 : BitVec 32 := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let v131 : BitVec 32 := Scalar.addi c0_i32_45 v130
  let c1_i32_48 : BitVec 32 := 1#32
  ⟨v134, v131, c1_i32_48⟩
def k0_mult7 (i : grid0.Coords) (v110 : BitVec 32) (k0_t4 : Fin (k0_t4_loop i v110).trips) : BitVec 32 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  v160
def k0_off23 (i : grid0.Coords) (v110 : BitVec 32) (k0_t4 : Fin (k0_t4_loop i v110).trips) : Fin 2 → Nat :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v162 : Index := Scalar.indexCast v161
  let c0_66 : Index := 0#32
  ![v162.toNat, 0]
def k0_off24 (i : grid0.Coords) (v110 : BitVec 32) (k0_t4 : Fin (k0_t4_loop i v110).trips) : Fin 3 → Nat :=
  let c0_68 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v166 : Index := Scalar.indexCast v9
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v167 : Index := Scalar.indexCast v161
  ![0, v166.toNat, v167.toNat]
def k0_off25 (i : grid0.Coords) (v110 : BitVec 32) (k0_t4 : Fin (k0_t4_loop i v110).trips) : Fin 2 → Nat :=
  let c0_72 : Index := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v185 : Index := Scalar.indexCast v161
  ![0, v185.toNat]
def k0_off26 (i : grid0.Coords) (v110 : BitVec 32) (k0_t4 : Fin (k0_t4_loop i v110).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v197 : Index := Scalar.indexCast v27
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v198 : Index := Scalar.indexCast v161
  ![v197.toNat, v198.toNat]
def k0_mult8 (i : grid0.Coords) (v110 : BitVec 32) (k0_t4 : Fin (k0_t4_loop i v110).trips) : BitVec 32 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  v204
def k0_off27 (i : grid0.Coords) (v110 : BitVec 32) (k0_t4 : Fin (k0_t4_loop i v110).trips) : Fin 2 → Nat :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v206 : Index := Scalar.indexCast v205
  let c0_79 : Index := 0#32
  ![v206.toNat, 0]
def k0_off28 (i : grid0.Coords) (v110 : BitVec 32) (k0_t4 : Fin (k0_t4_loop i v110).trips) : Fin 3 → Nat :=
  let c0_81 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v210 : Index := Scalar.indexCast v9
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v211 : Index := Scalar.indexCast v205
  ![0, v210.toNat, v211.toNat]
def k0_off29 (i : grid0.Coords) (v110 : BitVec 32) (k0_t4 : Fin (k0_t4_loop i v110).trips) : Fin 2 → Nat :=
  let c0_85 : Index := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v229 : Index := Scalar.indexCast v205
  ![0, v229.toNat]
def k0_off30 (i : grid0.Coords) (v110 : BitVec 32) (k0_t4 : Fin (k0_t4_loop i v110).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v241 : Index := Scalar.indexCast v27
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v242 : Index := Scalar.indexCast v205
  ![v241.toNat, v242.toNat]
def k0_mult9 (v110 : BitVec 32) : BitVec 32 :=
  let c1_i32_63 : BitVec 32 := 1#32
  let v155 : BitVec 32 := Scalar.subi v110 c1_i32_63
  let c1024_i32 : BitVec 32 := 1024#32
  let v156 : BitVec 32 := Scalar.muli v155 c1024_i32
  v156
def k0_cond2 (i : grid0.Coords) (v110 : BitVec 32) : BitVec 1 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let v111 : BitVec 32 := Scalar.subi v110 v96
  let c0_i32_37 : BitVec 32 := 0#32
  let v112 : BitVec 32 := Scalar.maxsi v111 c0_i32_37
  let c2_i32_49 : BitVec 32 := 2#32
  let c0_i32_50 : BitVec 32 := 0#32
  let v137 : BitVec 1 := Scalar.cmpi .eq c2_i32_49 c0_i32_50
  let c1_i32_51 : BitVec 32 := 1#32
  let v138 : BitVec 32 := Scalar.select v137 c1_i32_51 c2_i32_49
  let v139 : BitVec 32 := Scalar.remsi v112 v138
  let c0_i32_53 : BitVec 32 := 0#32
  let v141 : BitVec 1 := Scalar.cmpi .slt v139 c0_i32_53
  let c0_i32_54 : BitVec 32 := 0#32
  let v142 : BitVec 1 := Scalar.cmpi .slt v138 c0_i32_54
  let v143 : BitVec 1 := Scalar.xori v141 v142
  let c0_i32_52 : BitVec 32 := 0#32
  let v140 : BitVec 1 := Scalar.cmpi .ne v139 c0_i32_52
  let v144 : BitVec 1 := Scalar.andi v143 v140
  let v145 : BitVec 32 := Scalar.addi v139 v138
  let v146 : BitVec 32 := Scalar.select v144 v145 v139
  let c1_i32_55 : BitVec 32 := 1#32
  let v147 : BitVec 1 := Scalar.cmpi .eq v146 c1_i32_55
  let v148 : BitVec 32 := Scalar.extui v147
  let c0_i32_56 : BitVec 32 := 0#32
  let v149 : BitVec 1 := Scalar.cmpi .ne v148 c0_i32_56
  v149

def k0_off31 (v110 : BitVec 32) : Fin 2 → Nat :=
  let c1_i32_63 : BitVec 32 := 1#32
  let v155 : BitVec 32 := Scalar.subi v110 c1_i32_63
  let c1024_i32 : BitVec 32 := 1024#32
  let v156 : BitVec 32 := Scalar.muli v155 c1024_i32
  let v157 : BitVec 32 := v156
  let v158 : Index := Scalar.indexCast v157
  let c0_64 : Index := 0#32
  ![v158.toNat, 0]
def k0_off32 (i : grid0.Coords) (v110 : BitVec 32) : Fin 3 → Nat :=
  let c0_66 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v162 : Index := Scalar.indexCast v9
  let c1_i32_63 : BitVec 32 := 1#32
  let v155 : BitVec 32 := Scalar.subi v110 c1_i32_63
  let c1024_i32 : BitVec 32 := 1024#32
  let v156 : BitVec 32 := Scalar.muli v155 c1024_i32
  let v157 : BitVec 32 := v156
  let v163 : Index := Scalar.indexCast v157
  ![0, v162.toNat, v163.toNat]
def k0_off33 (v110 : BitVec 32) : Fin 2 → Nat :=
  let c0_70 : Index := 0#32
  let c1_i32_63 : BitVec 32 := 1#32
  let v155 : BitVec 32 := Scalar.subi v110 c1_i32_63
  let c1024_i32 : BitVec 32 := 1024#32
  let v156 : BitVec 32 := Scalar.muli v155 c1024_i32
  let v157 : BitVec 32 := v156
  let v181 : Index := Scalar.indexCast v157
  ![0, v181.toNat]
def k0_off34 (i : grid0.Coords) (v110 : BitVec 32) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v193 : Index := Scalar.indexCast v27
  let c1_i32_63 : BitVec 32 := 1#32
  let v155 : BitVec 32 := Scalar.subi v110 c1_i32_63
  let c1024_i32 : BitVec 32 := 1024#32
  let v156 : BitVec 32 := Scalar.muli v155 c1024_i32
  let v157 : BitVec 32 := v156
  let v194 : Index := Scalar.indexCast v157
  ![v193.toNat, v194.toNat]

def k0_chk2 (i : grid0.Coords) (v110 : BitVec 32) : Prop :=
  ((k0_t3_loop i v110).OK) ∧
  (∀ k0_t3 : Fin (k0_t3_loop i v110).trips, 1024 ∣ (k0_mult5 i v110 k0_t3).toNat) ∧
  (∀ k0_t3 : Fin (k0_t3_loop i v110).trips, ∀ a, (k0_off15 i v110 k0_t3) a + S1024x128.size a ≤ S16384x128.size a) ∧
  (∀ k0_t3 : Fin (k0_t3_loop i v110).trips, ∀ a, (k0_off16 i v110 k0_t3) a + S1x1x1024.size a ≤ S1x8x16384.size a) ∧
  (∀ k0_t3 : Fin (k0_t3_loop i v110).trips, ∀ a, (k0_off17 i v110 k0_t3) a + S80x1024.size a ≤ S128x16384.size a) ∧
  (∀ k0_t3 : Fin (k0_t3_loop i v110).trips, ∀ a, (k0_off18 i v110 k0_t3) a + S64x1024.size a ≤ S128x16384.size a) ∧
  (∀ k0_t3 : Fin (k0_t3_loop i v110).trips, 1024 ∣ (k0_mult6 i v110 k0_t3).toNat) ∧
  (∀ k0_t3 : Fin (k0_t3_loop i v110).trips, ∀ a, (k0_off19 i v110 k0_t3) a + S1024x128.size a ≤ S16384x128.size a) ∧
  (∀ k0_t3 : Fin (k0_t3_loop i v110).trips, ∀ a, (k0_off20 i v110 k0_t3) a + S1x1x1024.size a ≤ S1x8x16384.size a) ∧
  (∀ k0_t3 : Fin (k0_t3_loop i v110).trips, ∀ a, (k0_off21 i v110 k0_t3) a + S80x1024.size a ≤ S128x16384.size a) ∧
  (∀ k0_t3 : Fin (k0_t3_loop i v110).trips, ∀ a, (k0_off22 i v110 k0_t3) a + S64x1024.size a ≤ S128x16384.size a) ∧
  ((k0_t4_loop i v110).OK) ∧
  (∀ k0_t4 : Fin (k0_t4_loop i v110).trips, 1024 ∣ (k0_mult7 i v110 k0_t4).toNat) ∧
  (∀ k0_t4 : Fin (k0_t4_loop i v110).trips, ∀ a, (k0_off23 i v110 k0_t4) a + S1024x128.size a ≤ S16384x128.size a) ∧
  (∀ k0_t4 : Fin (k0_t4_loop i v110).trips, ∀ a, (k0_off24 i v110 k0_t4) a + S1x1x1024.size a ≤ S1x8x16384.size a) ∧
  (∀ k0_t4 : Fin (k0_t4_loop i v110).trips, ∀ a, (k0_off25 i v110 k0_t4) a + S80x1024.size a ≤ S128x16384.size a) ∧
  (∀ k0_t4 : Fin (k0_t4_loop i v110).trips, ∀ a, (k0_off26 i v110 k0_t4) a + S64x1024.size a ≤ S128x16384.size a) ∧
  (∀ k0_t4 : Fin (k0_t4_loop i v110).trips, 1024 ∣ (k0_mult8 i v110 k0_t4).toNat) ∧
  (∀ k0_t4 : Fin (k0_t4_loop i v110).trips, ∀ a, (k0_off27 i v110 k0_t4) a + S1024x128.size a ≤ S16384x128.size a) ∧
  (∀ k0_t4 : Fin (k0_t4_loop i v110).trips, ∀ a, (k0_off28 i v110 k0_t4) a + S1x1x1024.size a ≤ S1x8x16384.size a) ∧
  (∀ k0_t4 : Fin (k0_t4_loop i v110).trips, ∀ a, (k0_off29 i v110 k0_t4) a + S80x1024.size a ≤ S128x16384.size a) ∧
  (∀ k0_t4 : Fin (k0_t4_loop i v110).trips, ∀ a, (k0_off30 i v110 k0_t4) a + S64x1024.size a ≤ S128x16384.size a) ∧
  (∀ (k0_h2 : k0_cond2 i v110 = 1#1), 1024 ∣ (k0_mult9 v110).toNat) ∧
  (∀ (k0_h2 : k0_cond2 i v110 = 1#1), ∀ a, (k0_off31 v110) a + S1024x128.size a ≤ S16384x128.size a) ∧
  (∀ (k0_h2 : k0_cond2 i v110 = 1#1), ∀ a, (k0_off32 i v110) a + S1x1x1024.size a ≤ S1x8x16384.size a) ∧
  (∀ (k0_h2 : k0_cond2 i v110 = 1#1), ∀ a, (k0_off33 v110) a + S80x1024.size a ≤ S128x16384.size a) ∧
  (∀ (k0_h2 : k0_cond2 i v110 = 1#1), ∀ a, (k0_off34 i v110) a + S64x1024.size a ≤ S128x16384.size a)
theorem k0_t3_ok : ∀ (i : grid0.Coords) (v110 : BitVec 32) (k0_hw2 : k0_chk2 i v110), (k0_t3_loop i v110).OK := fun i v110 k0_hw2 => k0_hw2.1
theorem k0_mult5_dvd : ∀ (i : grid0.Coords) (v110 : BitVec 32) (k0_hw2 : k0_chk2 i v110) (k0_t3 : Fin (k0_t3_loop i v110).trips), 1024 ∣ (k0_mult5 i v110 k0_t3).toNat := fun i v110 k0_hw2 k0_t3 => k0_hw2.2.1 k0_t3
theorem k0_off15_inb : ∀ (i : grid0.Coords) (v110 : BitVec 32) (k0_hw2 : k0_chk2 i v110) (k0_t3 : Fin (k0_t3_loop i v110).trips), ∀ a, (k0_off15 i v110 k0_t3) a + S1024x128.size a ≤ S16384x128.size a := fun i v110 k0_hw2 k0_t3 => k0_hw2.2.2.1 k0_t3
theorem k0_off16_inb : ∀ (i : grid0.Coords) (v110 : BitVec 32) (k0_hw2 : k0_chk2 i v110) (k0_t3 : Fin (k0_t3_loop i v110).trips), ∀ a, (k0_off16 i v110 k0_t3) a + S1x1x1024.size a ≤ S1x8x16384.size a := fun i v110 k0_hw2 k0_t3 => k0_hw2.2.2.2.1 k0_t3
theorem k0_off17_inb : ∀ (i : grid0.Coords) (v110 : BitVec 32) (k0_hw2 : k0_chk2 i v110) (k0_t3 : Fin (k0_t3_loop i v110).trips), ∀ a, (k0_off17 i v110 k0_t3) a + S80x1024.size a ≤ S128x16384.size a := fun i v110 k0_hw2 k0_t3 => k0_hw2.2.2.2.2.1 k0_t3
theorem k0_off18_inb : ∀ (i : grid0.Coords) (v110 : BitVec 32) (k0_hw2 : k0_chk2 i v110) (k0_t3 : Fin (k0_t3_loop i v110).trips), ∀ a, (k0_off18 i v110 k0_t3) a + S64x1024.size a ≤ S128x16384.size a := fun i v110 k0_hw2 k0_t3 => k0_hw2.2.2.2.2.2.1 k0_t3
theorem k0_mult6_dvd : ∀ (i : grid0.Coords) (v110 : BitVec 32) (k0_hw2 : k0_chk2 i v110) (k0_t3 : Fin (k0_t3_loop i v110).trips), 1024 ∣ (k0_mult6 i v110 k0_t3).toNat := fun i v110 k0_hw2 k0_t3 => k0_hw2.2.2.2.2.2.2.1 k0_t3
theorem k0_off19_inb : ∀ (i : grid0.Coords) (v110 : BitVec 32) (k0_hw2 : k0_chk2 i v110) (k0_t3 : Fin (k0_t3_loop i v110).trips), ∀ a, (k0_off19 i v110 k0_t3) a + S1024x128.size a ≤ S16384x128.size a := fun i v110 k0_hw2 k0_t3 => k0_hw2.2.2.2.2.2.2.2.1 k0_t3
theorem k0_off20_inb : ∀ (i : grid0.Coords) (v110 : BitVec 32) (k0_hw2 : k0_chk2 i v110) (k0_t3 : Fin (k0_t3_loop i v110).trips), ∀ a, (k0_off20 i v110 k0_t3) a + S1x1x1024.size a ≤ S1x8x16384.size a := fun i v110 k0_hw2 k0_t3 => k0_hw2.2.2.2.2.2.2.2.2.1 k0_t3
theorem k0_off21_inb : ∀ (i : grid0.Coords) (v110 : BitVec 32) (k0_hw2 : k0_chk2 i v110) (k0_t3 : Fin (k0_t3_loop i v110).trips), ∀ a, (k0_off21 i v110 k0_t3) a + S80x1024.size a ≤ S128x16384.size a := fun i v110 k0_hw2 k0_t3 => k0_hw2.2.2.2.2.2.2.2.2.2.1 k0_t3
theorem k0_off22_inb : ∀ (i : grid0.Coords) (v110 : BitVec 32) (k0_hw2 : k0_chk2 i v110) (k0_t3 : Fin (k0_t3_loop i v110).trips), ∀ a, (k0_off22 i v110 k0_t3) a + S64x1024.size a ≤ S128x16384.size a := fun i v110 k0_hw2 k0_t3 => k0_hw2.2.2.2.2.2.2.2.2.2.2.1 k0_t3
theorem k0_t4_ok : ∀ (i : grid0.Coords) (v110 : BitVec 32) (k0_hw2 : k0_chk2 i v110), (k0_t4_loop i v110).OK := fun i v110 k0_hw2 => k0_hw2.2.2.2.2.2.2.2.2.2.2.2.1
theorem k0_mult7_dvd : ∀ (i : grid0.Coords) (v110 : BitVec 32) (k0_hw2 : k0_chk2 i v110) (k0_t4 : Fin (k0_t4_loop i v110).trips), 1024 ∣ (k0_mult7 i v110 k0_t4).toNat := fun i v110 k0_hw2 k0_t4 => k0_hw2.2.2.2.2.2.2.2.2.2.2.2.2.1 k0_t4
theorem k0_off23_inb : ∀ (i : grid0.Coords) (v110 : BitVec 32) (k0_hw2 : k0_chk2 i v110) (k0_t4 : Fin (k0_t4_loop i v110).trips), ∀ a, (k0_off23 i v110 k0_t4) a + S1024x128.size a ≤ S16384x128.size a := fun i v110 k0_hw2 k0_t4 => k0_hw2.2.2.2.2.2.2.2.2.2.2.2.2.2.1 k0_t4
theorem k0_off24_inb : ∀ (i : grid0.Coords) (v110 : BitVec 32) (k0_hw2 : k0_chk2 i v110) (k0_t4 : Fin (k0_t4_loop i v110).trips), ∀ a, (k0_off24 i v110 k0_t4) a + S1x1x1024.size a ≤ S1x8x16384.size a := fun i v110 k0_hw2 k0_t4 => k0_hw2.2.2.2.2.2.2.2.2.2.2.2.2.2.2.1 k0_t4
theorem k0_off25_inb : ∀ (i : grid0.Coords) (v110 : BitVec 32) (k0_hw2 : k0_chk2 i v110) (k0_t4 : Fin (k0_t4_loop i v110).trips), ∀ a, (k0_off25 i v110 k0_t4) a + S80x1024.size a ≤ S128x16384.size a := fun i v110 k0_hw2 k0_t4 => k0_hw2.2.2.2.2.2.2.2.2.2.2.2.2.2.2.2.1 k0_t4
theorem k0_off26_inb : ∀ (i : grid0.Coords) (v110 : BitVec 32) (k0_hw2 : k0_chk2 i v110) (k0_t4 : Fin (k0_t4_loop i v110).trips), ∀ a, (k0_off26 i v110 k0_t4) a + S64x1024.size a ≤ S128x16384.size a := fun i v110 k0_hw2 k0_t4 => k0_hw2.2.2.2.2.2.2.2.2.2.2.2.2.2.2.2.2.1 k0_t4
theorem k0_mult8_dvd : ∀ (i : grid0.Coords) (v110 : BitVec 32) (k0_hw2 : k0_chk2 i v110) (k0_t4 : Fin (k0_t4_loop i v110).trips), 1024 ∣ (k0_mult8 i v110 k0_t4).toNat := fun i v110 k0_hw2 k0_t4 => k0_hw2.2.2.2.2.2.2.2.2.2.2.2.2.2.2.2.2.2.1 k0_t4
theorem k0_off27_inb : ∀ (i : grid0.Coords) (v110 : BitVec 32) (k0_hw2 : k0_chk2 i v110) (k0_t4 : Fin (k0_t4_loop i v110).trips), ∀ a, (k0_off27 i v110 k0_t4) a + S1024x128.size a ≤ S16384x128.size a := fun i v110 k0_hw2 k0_t4 => k0_hw2.2.2.2.2.2.2.2.2.2.2.2.2.2.2.2.2.2.2.1 k0_t4
theorem k0_off28_inb : ∀ (i : grid0.Coords) (v110 : BitVec 32) (k0_hw2 : k0_chk2 i v110) (k0_t4 : Fin (k0_t4_loop i v110).trips), ∀ a, (k0_off28 i v110 k0_t4) a + S1x1x1024.size a ≤ S1x8x16384.size a := fun i v110 k0_hw2 k0_t4 => k0_hw2.2.2.2.2.2.2.2.2.2.2.2.2.2.2.2.2.2.2.2.1 k0_t4
theorem k0_off29_inb : ∀ (i : grid0.Coords) (v110 : BitVec 32) (k0_hw2 : k0_chk2 i v110) (k0_t4 : Fin (k0_t4_loop i v110).trips), ∀ a, (k0_off29 i v110 k0_t4) a + S80x1024.size a ≤ S128x16384.size a := fun i v110 k0_hw2 k0_t4 => k0_hw2.2.2.2.2.2.2.2.2.2.2.2.2.2.2.2.2.2.2.2.2.1 k0_t4
theorem k0_off30_inb : ∀ (i : grid0.Coords) (v110 : BitVec 32) (k0_hw2 : k0_chk2 i v110) (k0_t4 : Fin (k0_t4_loop i v110).trips), ∀ a, (k0_off30 i v110 k0_t4) a + S64x1024.size a ≤ S128x16384.size a := fun i v110 k0_hw2 k0_t4 => k0_hw2.2.2.2.2.2.2.2.2.2.2.2.2.2.2.2.2.2.2.2.2.2.1 k0_t4
theorem k0_mult9_dvd : ∀ (i : grid0.Coords) (v110 : BitVec 32) (k0_hw2 : k0_chk2 i v110), ∀ (k0_h2 : k0_cond2 i v110 = 1#1), 1024 ∣ (k0_mult9 v110).toNat := fun i v110 k0_hw2 k0_h2 => k0_hw2.2.2.2.2.2.2.2.2.2.2.2.2.2.2.2.2.2.2.2.2.2.2.1 k0_h2
theorem k0_off31_inb : ∀ (i : grid0.Coords) (v110 : BitVec 32) (k0_hw2 : k0_chk2 i v110), ∀ (k0_h2 : k0_cond2 i v110 = 1#1), ∀ a, (k0_off31 v110) a + S1024x128.size a ≤ S16384x128.size a := fun i v110 k0_hw2 k0_h2 => k0_hw2.2.2.2.2.2.2.2.2.2.2.2.2.2.2.2.2.2.2.2.2.2.2.2.1 k0_h2
theorem k0_off32_inb : ∀ (i : grid0.Coords) (v110 : BitVec 32) (k0_hw2 : k0_chk2 i v110), ∀ (k0_h2 : k0_cond2 i v110 = 1#1), ∀ a, (k0_off32 i v110) a + S1x1x1024.size a ≤ S1x8x16384.size a := fun i v110 k0_hw2 k0_h2 => k0_hw2.2.2.2.2.2.2.2.2.2.2.2.2.2.2.2.2.2.2.2.2.2.2.2.2.1 k0_h2
theorem k0_off33_inb : ∀ (i : grid0.Coords) (v110 : BitVec 32) (k0_hw2 : k0_chk2 i v110), ∀ (k0_h2 : k0_cond2 i v110 = 1#1), ∀ a, (k0_off33 v110) a + S80x1024.size a ≤ S128x16384.size a := fun i v110 k0_hw2 k0_h2 => k0_hw2.2.2.2.2.2.2.2.2.2.2.2.2.2.2.2.2.2.2.2.2.2.2.2.2.2.1 k0_h2
theorem k0_off34_inb : ∀ (i : grid0.Coords) (v110 : BitVec 32) (k0_hw2 : k0_chk2 i v110), ∀ (k0_h2 : k0_cond2 i v110 = 1#1), ∀ a, (k0_off34 i v110) a + S64x1024.size a ≤ S128x16384.size a := fun i v110 k0_hw2 k0_h2 => k0_hw2.2.2.2.2.2.2.2.2.2.2.2.2.2.2.2.2.2.2.2.2.2.2.2.2.2.2 k0_h2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.addi c24_i32 v16
  let c0_i32_4 : BitVec 32 := 0#32
  ![arg1.toNat, v17.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x16384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x16384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== FoxbRefIdeal.lean ====
abbrev S1x16384x512 : Shape := ⟨3, ![1, 16384, 512]⟩
abbrev S1x8x16384 : Shape := ⟨3, ![1, 8, 16384]⟩
abbrev S1x16384x8x64 : Shape := ⟨4, ![1, 16384, 8, 64]⟩
abbrev S1x8x16384x64 : Shape := ⟨4, ![1, 8, 16384, 64]⟩
abbrev S_ : Shape := ⟨0, ![]⟩
abbrev S16384 : Shape := ⟨1, ![16384]⟩
abbrev S1x8x16384x16384 : Shape := ⟨4, ![1, 8, 16384, 16384]⟩
abbrev S1x8x16384x1 : Shape := ⟨4, ![1, 8, 16384, 1]⟩
abbrev S1x8x1x16384 : Shape := ⟨4, ![1, 8, 1, 16384]⟩
abbrev S1x16384 : Shape := ⟨2, ![1, 16384]⟩
abbrev S16384x1 : Shape := ⟨2, ![16384, 1]⟩
abbrev S16384x16384 : Shape := ⟨2, ![16384, 16384]⟩
abbrev S1x8x64x16384 : Shape := ⟨4, ![1, 8, 64, 16384]⟩
abbrev S8x16384 : Shape := ⟨2, ![8, 16384]⟩
abbrev S8x16384x64 : Shape := ⟨3, ![8, 16384, 64]⟩
abbrev S8x64x16384 : Shape := ⟨3, ![8, 64, 16384]⟩
abbrev S512x16384 : Shape := ⟨2, ![512, 16384]⟩

abbrev nBuf : Space → Nat
  | .hbm => 119
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x8x16384, .f32⟩
  | .hbm, ⟨4, _⟩ => ⟨S1x16384x512, .f32⟩
  | .hbm, ⟨5, _⟩ => ⟨S1x16384x8x64, .f32⟩
  | .hbm, ⟨6, _⟩ => ⟨S1x8x16384x64, .f32⟩
  | .hbm, ⟨7, _⟩ => ⟨S_, .f32⟩
  | .hbm, ⟨8, _⟩ => ⟨S1x8x16384x64, .f32⟩
  | .hbm, ⟨9, _⟩ => ⟨S1x8x16384x64, .f32⟩
  | .hbm, ⟨10, _⟩ => ⟨S1x16384x8x64, .f32⟩
  | .hbm, ⟨11, _⟩ => ⟨S1x8x16384x64, .f32⟩
  | .hbm, ⟨12, _⟩ => ⟨S1x16384x8x64, .f32⟩
  | .hbm, ⟨13, _⟩ => ⟨S1x8x16384x64, .f32⟩
  | .hbm, ⟨14, _⟩ => ⟨S1x16384x8x64, .f32⟩
  | .hbm, ⟨15, _⟩ => ⟨S1x8x16384x64, .f32⟩
  | .hbm, ⟨16, _⟩ => ⟨S1x8x16384, .f32⟩
  | .hbm, ⟨17, _⟩ => ⟨S16384, .i32⟩
  | .hbm, ⟨18, _⟩ => ⟨S1x8x16384x16384, .f32⟩
  | .hbm, ⟨19, _⟩ => ⟨S1x8x16384x1, .f32⟩
  | .hbm, ⟨20, _⟩ => ⟨S1x8x16384x16384, .f32⟩
  | .hbm, ⟨21, _⟩ => ⟨S1x8x16384x16384, .f32⟩
  | .hbm, ⟨22, _⟩ => ⟨S1x8x1x16384, .f32⟩
  | .hbm, ⟨23, _⟩ => ⟨S1x8x16384x16384, .f32⟩
  | .hbm, ⟨24, _⟩ => ⟨S1x8x16384x16384, .f32⟩
  | .hbm, ⟨25, _⟩ => ⟨S1x16384, .i32⟩
  | .hbm, ⟨26, _⟩ => ⟨S16384x1, .i32⟩
  | .hbm, ⟨27, _⟩ => ⟨S16384x16384, .i32⟩
  | .hbm, ⟨28, _⟩ => ⟨S16384x16384, .i32⟩
  | .hbm, ⟨29, _⟩ => ⟨S16384x16384, .i1⟩
  | .hbm, ⟨30, _⟩ => ⟨S1x8x16384x16384, .i1⟩
  | .hbm, ⟨31, _⟩ => ⟨S_, .f32⟩
  | .hbm, ⟨32, _⟩ => ⟨S1x8x16384x16384, .f32⟩
  | .hbm, ⟨33, _⟩ => ⟨S1x8x16384x16384, .f32⟩
  | .hbm, ⟨34, _⟩ => ⟨S_, .f32⟩
  | .hbm, ⟨35, _⟩ => ⟨S1x8x16384x16384, .f32⟩
  | .hbm, ⟨36, _⟩ => ⟨S_, .f32⟩
  | .hbm, ⟨37, _⟩ => ⟨S1x8x16384, .f32⟩
  | .hbm, ⟨38, _⟩ => ⟨S1x8x16384x1, .f32⟩
  | .hbm, ⟨39, _⟩ => ⟨S1x8x16384x16384, .f32⟩
  | .hbm, ⟨40, _⟩ => ⟨S1x8x16384x16384, .i1⟩
  | .hbm, ⟨41, _⟩ => ⟨S1x8x16384x16384, .f32⟩
  | .hbm, ⟨42, _⟩ => ⟨S_, .f32⟩
  | .hbm, ⟨43, _⟩ => ⟨S1x8x16384, .f32⟩
  | .hbm, ⟨44, _⟩ => ⟨S_, .f32⟩
  | .hbm, ⟨45, _⟩ => ⟨S1x8x16384, .f32⟩
  | .hbm, ⟨46, _⟩ => ⟨S1x8x16384, .f32⟩
  | .hbm, ⟨47, _⟩ => ⟨S_, .f32⟩
  | .hbm, ⟨48, _⟩ => ⟨S1x8x16384, .f32⟩
  | .hbm, ⟨49, _⟩ => ⟨S1x8x16384, .i1⟩
  | .hbm, ⟨50, _⟩ => ⟨S_, .f32⟩
  | .hbm, ⟨51, _⟩ => ⟨S1x8x16384, .f32⟩
  | .hbm, ⟨52, _⟩ => ⟨S1x8x16384, .i1⟩
  | .hbm, ⟨53, _⟩ => ⟨S_, .f32⟩
  | .hbm, ⟨54, _⟩ => ⟨S1x8x16384, .f32⟩
  | .hbm, ⟨55, _⟩ => ⟨S_, .f32⟩
  | .hbm, ⟨56, _⟩ => ⟨S1x8x16384, .f32⟩
  | .hbm, ⟨57, _⟩ => ⟨S_, .f32⟩
  | .hbm, ⟨58, _⟩ => ⟨S1x8x16384, .f32⟩
  | .hbm, ⟨59, _⟩ => ⟨S1x8x16384, .f32⟩
  | .hbm, ⟨60, _⟩ => ⟨S1x8x16384, .f32⟩
  | .hbm, ⟨61, _⟩ => ⟨S1x8x16384x1, .f32⟩
  | .hbm, ⟨62, _⟩ => ⟨S1x8x16384x16384, .f32⟩
  | .hbm, ⟨63, _⟩ => ⟨S1x8x16384x16384, .f32⟩
  | .hbm, ⟨64, _⟩ => ⟨S1x8x16384x16384, .f32⟩
  | .hbm, ⟨65, _⟩ => ⟨S_, .f32⟩
  | .hbm, ⟨66, _⟩ => ⟨S1x8x16384, .f32⟩
  | .hbm, ⟨67, _⟩ => ⟨S1x8x16384x1, .f32⟩
  | .hbm, ⟨68, _⟩ => ⟨S1x8x16384x16384, .f32⟩
  | .hbm, ⟨69, _⟩ => ⟨S1x8x16384x16384, .f32⟩
  | .hbm, ⟨70, _⟩ => ⟨S1x8x16384x1, .f32⟩
  | .hbm, ⟨71, _⟩ => ⟨S_, .f32⟩
  | .hbm, ⟨72, _⟩ => ⟨S1x8x16384x1, .f32⟩
  | .hbm, ⟨73, _⟩ => ⟨S1x8x16384x1, .f32⟩
  | .hbm, ⟨74, _⟩ => ⟨S1x8x16384x64, .f32⟩
  | .hbm, ⟨75, _⟩ => ⟨S1x8x64x16384, .f32⟩
  | .hbm, ⟨76, _⟩ => ⟨S1x8x16384x64, .f32⟩
  | .hbm, ⟨77, _⟩ => ⟨S1x8x16384x16384, .f32⟩
  | .hbm, ⟨78, _⟩ => ⟨S1x8x16384x16384, .f32⟩
  | .hbm, ⟨79, _⟩ => ⟨S1x8x16384x16384, .f32⟩
  | .hbm, ⟨80, _⟩ => ⟨S1x8x16384x16384, .f32⟩
  | .hbm, ⟨81, _⟩ => ⟨S_, .f32⟩
  | .hbm, ⟨82, _⟩ => ⟨S1x8x16384, .f32⟩
  | .hbm, ⟨83, _⟩ => ⟨S1x8x16384x1, .f32⟩
  | .hbm, ⟨84, _⟩ => ⟨S1x8x16384x1, .f32⟩
  | .hbm, ⟨85, _⟩ => ⟨S1x8x16384x16384, .f32⟩
  | .hbm, ⟨86, _⟩ => ⟨S1x8x16384x16384, .f32⟩
  | .hbm, ⟨87, _⟩ => ⟨S_, .f32⟩
  | .hbm, ⟨88, _⟩ => ⟨S8x16384, .f32⟩
  | .hbm, ⟨89, _⟩ => ⟨S1x8x16384, .f32⟩
  | .hbm, ⟨90, _⟩ => ⟨S1x8x16384x16384, .f32⟩
  | .hbm, ⟨91, _⟩ => ⟨S1x8x16384x16384, .f32⟩
  | .hbm, ⟨92, _⟩ => ⟨S1x8x16384x16384, .f32⟩
  | .hbm, ⟨93, _⟩ => ⟨S_, .f32⟩
  | .hbm, ⟨94, _⟩ => ⟨S1x8x16384x16384, .f32⟩
  | .hbm, ⟨95, _⟩ => ⟨S1x8x16384x16384, .f32⟩
  | .hbm, ⟨96, _⟩ => ⟨S_, .f32⟩
  | .hbm, ⟨97, _⟩ => ⟨S1x8x16384, .f32⟩
  | .hbm, ⟨98, _⟩ => ⟨S1x8x1x16384, .f32⟩
  | .hbm, ⟨99, _⟩ => ⟨S_, .f32⟩
  | .hbm, ⟨100, _⟩ => ⟨S8x16384, .f32⟩
  | .hbm, ⟨101, _⟩ => ⟨S1x8x16384, .f32⟩
  | .hbm, ⟨102, _⟩ => ⟨S_, .f32⟩
  | .hbm, ⟨103, _⟩ => ⟨S1x8x16384, .f32⟩
  | .hbm, ⟨104, _⟩ => ⟨S1x8x16384x1, .f32⟩
  | .hbm, ⟨105, _⟩ => ⟨S_, .f32⟩
  | .hbm, ⟨106, _⟩ => ⟨S8x16384, .f32⟩
  | .hbm, ⟨107, _⟩ => ⟨S1x8x16384, .f32⟩
  | .hbm, ⟨108, _⟩ => ⟨S1x8x16384x64, .f32⟩
  | .hbm, ⟨109, _⟩ => ⟨S1x8x16384x64, .f32⟩
  | .hbm, ⟨110, _⟩ => ⟨S8x16384x64, .f32⟩
  | .hbm, ⟨111, _⟩ => ⟨S8x64x16384, .f32⟩
  | .hbm, ⟨112, _⟩ => ⟨S8x16384x64, .f32⟩
  | .hbm, ⟨113, _⟩ => ⟨S8x64x16384, .f32⟩
  | .hbm, ⟨114, _⟩ => ⟨S8x16384x64, .f32⟩
  | .hbm, ⟨115, _⟩ => ⟨S8x64x16384, .f32⟩
  | .hbm, ⟨116, _⟩ => ⟨S512x16384, .f32⟩
  | .hbm, ⟨117, _⟩ => ⟨S8x16384, .f32⟩
  | .hbm, ⟨118, _⟩ => ⟨S8x16384, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_12 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_14 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_v78 : Ref sig .tc := ⟨.hbm, 101, rfl⟩
abbrev main_cst_17 : Ref sig .tc := ⟨.hbm, 102, rfl⟩
abbrev main_v79 : Ref sig .tc := ⟨.hbm, 103, rfl⟩
abbrev main_v80 : Ref sig .tc := ⟨.hbm, 104, rfl⟩
abbrev main_cst_18 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩

abbrev nD : Nat := 1
abbrev τ : Topo := Topo.v7x

variable {F : FTy → Type} [FloatOps F]
-- ==== Dmix.lean ====
abbrev S1x16384x6680 : Shape := ⟨3, ![1, 16384, 6680]⟩
abbrev S1x1024x6680 : Shape := ⟨3, ![1, 1024, 6680]⟩
abbrev S1x16384x1024 : Shape := ⟨3, ![1, 16384, 1024]⟩
abbrev S1x1024 : Shape := ⟨2, ![1, 1024]⟩
abbrev S1024x6680 : Shape := ⟨2, ![1024, 6680]⟩
abbrev S1024x512 : Shape := ⟨2, ![1024, 512]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x3072 : Shape := ⟨2, ![1024, 3072]⟩
abbrev S1024x16 : Shape := ⟨2, ![1024, 16]⟩
abbrev S1024x8 : Shape := ⟨2, ![1024, 8]⟩
abbrev S1024x104 : Shape := ⟨2, ![1024, 104]⟩
abbrev S1024x128 : Shape := ⟨2, ![1024, 128]⟩
abbrev S1024x4096 : Shape := ⟨2, ![1024, 4096]⟩
abbrev S1024x640 : Shape := ⟨2, ![1024, 640]⟩
abbrev S1024x384 : Shape := ⟨2, ![1024, 384]⟩
abbrev S1024x8192 : Shape := ⟨2, ![1024, 8192]⟩
abbrev S16384x6680 : Shape := ⟨2, ![16384, 6680]⟩
abbrev S16384x512 : Shape := ⟨2, ![16384, 512]⟩
abbrev S16384x8x64 : Shape := ⟨3, ![16384, 8, 64]⟩
abbrev S16384x8x128 : Shape := ⟨3, ![16384, 8, 128]⟩
abbrev S16384x1024 : Shape := ⟨2, ![16384, 1024]⟩
abbrev S16384x3072 : Shape := ⟨2, ![16384, 3072]⟩
abbrev S16384x16 : Shape := ⟨2, ![16384, 16]⟩
abbrev S16384x8 : Shape := ⟨2, ![16384, 8]⟩
abbrev S16384x104 : Shape := ⟨2, ![16384, 104]⟩
abbrev S16384x128 : Shape := ⟨2, ![16384, 128]⟩
abbrev S16384x640 : Shape := ⟨2, ![16384, 640]⟩
abbrev S16384x384 : Shape := ⟨2, ![16384, 384]⟩
abbrev S16384x8192 : Shape := ⟨2, ![16384, 8192]⟩
abbrev S8x1024 : Shape := ⟨2, ![8, 1024]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 67
  | .vmem => 13
  | .smem => 0
  | _ => 0

abbrev bufTy : (tb : Table) → Fin (tcTables nBuf tb) → BufTy
  | .hbm, ⟨0, _⟩ => ⟨S1x16384x6680, .f32⟩
  | .hbm, ⟨1, _⟩ => ⟨S1x1024x6680, .f32⟩
  | .hbm, ⟨2, _⟩ => ⟨S1x16384x1024, .f32⟩
  | .hbm, ⟨3, _⟩ => ⟨S1x1024, .f32⟩
  | .hbm, ⟨4, _⟩ => ⟨S1x16384x1024, .f32⟩
  | .hbm, ⟨5, _⟩ => ⟨S1024x6680, .f32⟩
  | .hbm, ⟨6, _⟩ => ⟨S1024x6680, .bf16⟩
  | .hbm, ⟨7, _⟩ => ⟨S1024x512, .bf16⟩
  | .hbm, ⟨8, _⟩ => ⟨S1024x8x64, .bf16⟩
  | .hbm, ⟨9, _⟩ => ⟨S_, .i32⟩
  | .hbm, ⟨10, _⟩ => ⟨S_, .bf16⟩
  | .hbm, ⟨11, _⟩ => ⟨S1024x8x128, .bf16⟩
  | .hbm, ⟨12, _⟩ => ⟨S1024x1024, .bf16⟩
  | .hbm, ⟨13, _⟩ => ⟨S1024x512, .bf16⟩
  | .hbm, ⟨14, _⟩ => ⟨S1024x8x64, .bf16⟩
  | .hbm, ⟨15, _⟩ => ⟨S_, .i32⟩
  | .hbm, ⟨16, _⟩ => ⟨S_, .bf16⟩
  | .hbm, ⟨17, _⟩ => ⟨S1024x8x128, .bf16⟩
  | .hbm, ⟨18, _⟩ => ⟨S1024x1024, .bf16⟩
  | .hbm, ⟨19, _⟩ => ⟨S1024x512, .bf16⟩
  | .hbm, ⟨20, _⟩ => ⟨S1024x512, .bf16⟩
  | .hbm, ⟨21, _⟩ => ⟨S1024x3072, .bf16⟩
  | .hbm, ⟨22, _⟩ => ⟨S1024x16, .bf16⟩
  | .hbm, ⟨23, _⟩ => ⟨S1024x8, .bf16⟩
  | .hbm, ⟨24, _⟩ => ⟨S_, .bf16⟩
  | .hbm, ⟨25, _⟩ => ⟨S1024x104, .bf16⟩
  | .hbm, ⟨26, _⟩ => ⟨S1024x128, .bf16⟩
  | .hbm, ⟨27, _⟩ => ⟨S1024x1024, .bf16⟩
  | .hbm, ⟨28, _⟩ => ⟨S1024x4096, .bf16⟩
  | .hbm, ⟨29, _⟩ => ⟨S1024x512, .bf16⟩
  | .hbm, ⟨30, _⟩ => ⟨S1024x640, .bf16⟩
  | .hbm, ⟨31, _⟩ => ⟨S1024x1024, .bf16⟩
  | .hbm, ⟨32, _⟩ => ⟨S_, .bf16⟩
  | .hbm, ⟨33, _⟩ => ⟨S1024x384, .bf16⟩
  | .hbm, ⟨34, _⟩ => ⟨S1024x8192, .bf16⟩
  | .hbm, ⟨35, _⟩ => ⟨S16384x6680, .f32⟩
  | .hbm, ⟨36, _⟩ => ⟨S16384x512, .f32⟩
  | .hbm, ⟨37, _⟩ => ⟨S16384x8x64, .f32⟩
  | .hbm, ⟨38, _⟩ => ⟨S_, .i32⟩
  | .hbm, ⟨39, _⟩ => ⟨S_, .f32⟩
  | .hbm, ⟨40, _⟩ => ⟨S16384x8x128, .f32⟩
  | .hbm, ⟨41, _⟩ => ⟨S16384x1024, .f32⟩
  | .hbm, ⟨42, _⟩ => ⟨S16384x512, .f32⟩
  | .hbm, ⟨43, _⟩ => ⟨S16384x8x64, .f32⟩
  | .hbm, ⟨44, _⟩ => ⟨S_, .i32⟩
  | .hbm, ⟨45, _⟩ => ⟨S_, .f32⟩
  | .hbm, ⟨46, _⟩ => ⟨S16384x8x128, .f32⟩
  | .hbm, ⟨47, _⟩ => ⟨S16384x1024, .f32⟩
  | .hbm, ⟨48, _⟩ => ⟨S16384x512, .f32⟩
  | .hbm, ⟨49, _⟩ => ⟨S16384x512, .f32⟩
  | .hbm, ⟨50, _⟩ => ⟨S16384x3072, .f32⟩
  | .hbm, ⟨51, _⟩ => ⟨S16384x16, .f32⟩
  | .hbm, ⟨52, _⟩ => ⟨S16384x8, .f32⟩
  | .hbm, ⟨53, _⟩ => ⟨S_, .f32⟩
  | .hbm, ⟨54, _⟩ => ⟨S16384x104, .f32⟩
  | .hbm, ⟨55, _⟩ => ⟨S16384x128, .f32⟩
  | .hbm, ⟨56, _⟩ => ⟨S16384x512, .f32⟩
  | .hbm, ⟨57, _⟩ => ⟨S16384x640, .f32⟩
  | .hbm, ⟨58, _⟩ => ⟨S16384x1024, .f32⟩
  | .hbm, ⟨59, _⟩ => ⟨S_, .f32⟩
  | .hbm, ⟨60, _⟩ => ⟨S16384x384, .f32⟩
  | .hbm, ⟨61, _⟩ => ⟨S16384x8192, .f32⟩
  | .hbm, ⟨62, _⟩ => ⟨S16384x8192, .bf16⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S8x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S1x16384x6680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_call2_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_call3_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48_0 : Ref sig .tc := ⟨.hbm, 65, rfl⟩
abbrev main_v48_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_9 : BitVec 32 := 0#32
  let v16 : BitVec 1 := Scalar.cmpi .eq arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== DmixRefIdeal.lean ====
abbrev S1x16384x6680 : Shape := ⟨3, ![1, 16384, 6680]⟩
abbrev S1x1024x6680 : Shape := ⟨3, ![1, 1024, 6680]⟩
abbrev S1x16384x1024 : Shape := ⟨3, ![1, 16384, 1024]⟩
abbrev S1x1024 : Shape := ⟨2, ![1, 1024]⟩
abbrev S16384x1024 : Shape := ⟨2, ![16384, 1024]⟩
abbrev S1024x6680 : Shape := ⟨2, ![1024, 6680]⟩
abbrev S_ : Shape := ⟨0, ![]⟩
abbrev S16384 : Shape := ⟨1, ![16384]⟩
abbrev S16384x1 : Shape := ⟨2, ![16384, 1]⟩
abbrev S16384x6680 : Shape := ⟨2, ![16384, 6680]⟩
abbrev S2048x8x1024 : Shape := ⟨3, ![2048, 8, 1024]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x16384x6680, .f32⟩
  | .hbm, ⟨1, _⟩ => ⟨S1x1024x6680, .f32⟩
  | .hbm, ⟨2, _⟩ => ⟨S1x16384x1024, .f32⟩
  | .hbm, ⟨3, _⟩ => ⟨S1x1024, .f32⟩
  | .hbm, ⟨4, _⟩ => ⟨S1x16384x1024, .f32⟩
  | .hbm, ⟨5, _⟩ => ⟨S16384x1024, .f32⟩
  | .hbm, ⟨6, _⟩ => ⟨S16384x1024, .f32⟩
  | .hbm, ⟨7, _⟩ => ⟨S1024x6680, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x6680, .f32⟩
  | .hbm, ⟨27, _⟩ => ⟨S16384x1024, .f32⟩
  | .hbm, ⟨28, _⟩ => ⟨S16384x6680, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S2048x8x1024, .f32⟩
  | .hbm, ⟨51, _⟩ => ⟨S_, .f32⟩
  | .hbm, ⟨52, _⟩ => ⟨S8x1024, .f32⟩
  | _, _ => ⟨S1x16384x6680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Fdel.lean ====
abbrev S1x16384x512 : Shape := ⟨3, ![1, 16384, 512]⟩
abbrev S16384x512 : Shape := ⟨2, ![16384, 512]⟩
abbrev S512x16384 : Shape := ⟨2, ![512, 16384]⟩
abbrev S4x8x16384 : Shape := ⟨3, ![4, 8, 16384]⟩
abbrev S512x512 : Shape := ⟨2, ![512, 512]⟩
abbrev S4x8x512 : Shape := ⟨3, ![4, 8, 512]⟩
abbrev S8x128 : Shape := ⟨2, ![8, 128]⟩
abbrev S512x128 : Shape := ⟨2, ![512, 128]⟩
abbrev S8x512 : Shape := ⟨2, ![8, 512]⟩
abbrev S1x8x512 : Shape := ⟨3, ![1, 8, 512]⟩

abbrev nBuf : Space → Nat
  | .hbm => 7
  | .vmem => 10
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S16384x512, .f32⟩
  | .hbm, ⟨3, _⟩ => ⟨S16384x512, .f32⟩
  | .hbm, ⟨4, _⟩ => ⟨S16384x512, .bf16⟩
  | .hbm, ⟨5, _⟩ => ⟨S512x16384, .bf16⟩
  | .hbm, ⟨6, _⟩ => ⟨S4x8x16384, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x8x512, .f32⟩
  | .local _ .vmem, ⟨9, _⟩ => ⟨S4x8x512, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FdelRefIdeal.lean ====
abbrev S1x16384x512 : Shape := ⟨3, ![1, 16384, 512]⟩
abbrev S16384x512 : Shape := ⟨2, ![16384, 512]⟩
abbrev S16384x8x64 : Shape := ⟨3, ![16384, 8, 64]⟩
abbrev S_ : Shape := ⟨0, ![]⟩
abbrev S16384x8 : Shape := ⟨2, ![16384, 8]⟩
abbrev S512x16384 : Shape := ⟨2, ![512, 16384]⟩
abbrev S8x16384 : Shape := ⟨2, ![8, 16384]⟩
abbrev S4x2x16384 : Shape := ⟨3, ![4, 2, 16384]⟩
abbrev S4x8x16384 : Shape := ⟨3, ![4, 8, 16384]⟩

abbrev nBuf : Space → Nat
  | .hbm => 14
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S16384x512, .f32⟩
  | .hbm, ⟨3, _⟩ => ⟨S16384x512, .bf16⟩
  | .hbm, ⟨4, _⟩ => ⟨S1x16384x512, .f32⟩
  | .hbm, ⟨5, _⟩ => ⟨S16384x8x64, .f32⟩
  | .hbm, ⟨6, _⟩ => ⟨S_, .f32⟩
  | .hbm, ⟨7, _⟩ => ⟨S16384x8, .f32⟩
  | .hbm, ⟨8, _⟩ => ⟨S512x16384, .bf16⟩
  | .hbm, ⟨9, _⟩ => ⟨S8x16384, .f32⟩
  | .hbm, ⟨10, _⟩ => ⟨S4x2x16384, .f32⟩
  | .hbm, ⟨11, _⟩ => ⟨S_, .i32⟩
  | .hbm, ⟨12, _⟩ => ⟨S_, .f32⟩
  | .hbm, ⟨13, _⟩ => ⟨S4x8x16384, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Loss.lean ====
abbrev S16384x4096 : Shape := ⟨2, ![16384, 4096]⟩
abbrev S1x4096x1024 : Shape := ⟨3, ![1, 4096, 1024]⟩
abbrev S1x16384x1024 : Shape := ⟨3, ![1, 16384, 1024]⟩
abbrev S1024 : Shape := ⟨1, ![1024]⟩
abbrev S4096x1024 : Shape := ⟨2, ![4096, 1024]⟩
abbrev S16384x1024 : Shape := ⟨2, ![16384, 1024]⟩
abbrev S1x1024 : Shape := ⟨2, ![1, 1024]⟩
abbrev S8x1024 : Shape := ⟨2, ![8, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 14
  | .vmem => 16
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .f32⟩
  | .hbm, ⟨2, _⟩ => ⟨S1x16384x1024, .f32⟩
  | .hbm, ⟨3, _⟩ => ⟨S1024, .f32⟩
  | .hbm, ⟨4, _⟩ => ⟨S1x16384x1024, .f32⟩
  | .hbm, ⟨5, _⟩ => ⟨S4096x1024, .f32⟩
  | .hbm, ⟨6, _⟩ => ⟨S4096x1024, .bf16⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .bf16⟩
  | .hbm, ⟨12, _⟩ => ⟨S8x1024, .f32⟩
  | .hbm, ⟨13, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S8x1024, .f32⟩
  | .local _ .vmem, ⟨14, _⟩ => ⟨S8x1024, .f32⟩
  | .local _ .vmem, ⟨15, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def k0_cond3 (i : grid0.Coords) : BitVec 1 :=
  let arg0 : BitVec 32 := BitVec.ofNat 32 (i 0).val
  let c0_i32_9 : BitVec 32 := 0#32
  let v15 : BitVec 1 := Scalar.cmpi .eq arg0 c0_i32_9
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LossRefIdeal.lean ====
abbrev S16384x4096 : Shape := ⟨2, ![16384, 4096]⟩
abbrev S1x4096x1024 : Shape := ⟨3, ![1, 4096, 1024]⟩
abbrev S1x16384x1024 : Shape := ⟨3, ![1, 16384, 1024]⟩
abbrev S1024 : Shape := ⟨1, ![1024]⟩
abbrev S16384x1024 : Shape := ⟨2, ![16384, 1024]⟩
abbrev S_ : Shape := ⟨0, ![]⟩
abbrev S16384 : Shape := ⟨1, ![16384]⟩
abbrev S4096x1024 : Shape := ⟨2, ![4096, 1024]⟩
abbrev S16384x1 : Shape := ⟨2, ![16384, 1]⟩
abbrev S1x1024 : Shape := ⟨2, ![1, 1024]⟩
abbrev S2048x8x1024 : Shape := ⟨3, ![2048, 8, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x1024, .f32⟩
  | .hbm, ⟨2, _⟩ => ⟨S1x16384x1024, .f32⟩
  | .hbm, ⟨3, _⟩ => ⟨S1024, .f32⟩
  | .hbm, ⟨4, _⟩ => ⟨S1x16384x1024, .f32⟩
  | .hbm, ⟨5, _⟩ => ⟨S16384x4096, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1024, .f32⟩
  | .hbm, ⟨10, _⟩ => ⟨S4096x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S_, .f32⟩
  | .hbm, ⟨46, _⟩ => ⟨S16384, .f32⟩
  | .hbm, ⟨47, _⟩ => ⟨S16384, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S4096x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S16384, .f32⟩
  | .hbm, ⟨79, _⟩ => ⟨S16384x1, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1024, .f32⟩
  | .hbm, ⟨88, _⟩ => ⟨S16384x1024, .f32⟩
  | .hbm, ⟨89, _⟩ => ⟨S1x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .bf16⟩
  | .hbm, ⟨96, _⟩ => ⟨S2048x8x1024, .f32⟩
  | .hbm, ⟨97, _⟩ => ⟨S_, .f32⟩
  | .hbm, ⟨98, _⟩ => ⟨S8x1024, .f32⟩
  | .hbm, ⟨99, _⟩ => ⟨S2048x8x1024, .f32⟩
  | .hbm, ⟨100, _⟩ => ⟨S_, .f32⟩
  | .hbm, ⟨101, _⟩ => ⟨S8x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_13 : Ref sig .tc := ⟨.hbm, 77, rfl⟩
abbrev main_v58 : Ref sig .tc := ⟨.hbm, 78, rfl⟩
abbrev main_v59 : Ref sig .tc := ⟨.hbm, 79, rfl⟩
abbrev main_cst_14 : Ref sig .tc := ⟨.hbm, 80, rfl⟩
abbrev main_v60 : Ref sig .tc := ⟨.hbm, 81, rfl⟩
abbrev main_v61 : Ref sig .tc := ⟨.hbm, 82, rfl⟩
abbrev main_cst_15 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_16 : Ref sig .tc := ⟨.hbm, 97, rfl⟩
abbrev main_v75 : Ref sig .tc := ⟨.hbm, 98, rfl⟩
abbrev main_v76 : Ref sig .tc := ⟨.hbm, 99, rfl⟩
abbrev main_cst_17 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Foxg.lean ====
abbrev S1x16384x8x64 : Shape := ⟨4, ![1, 16384, 8, 64]⟩
abbrev S1x8x16384 : Shape := ⟨3, ![1, 8, 16384]⟩
abbrev S1x16384x512 : Shape := ⟨3, ![1, 16384, 512]⟩
abbrev S1x16384x16 : Shape := ⟨3, ![1, 16384, 16]⟩
abbrev S1x16384x8 : Shape := ⟨3, ![1, 16384, 8]⟩
abbrev S1x8 : Shape := ⟨2, ![1, 8]⟩
abbrev S16384x8192 : Shape := ⟨2, ![16384, 8192]⟩
abbrev S16384x512 : Shape := ⟨2, ![16384, 512]⟩
abbrev S16384x16 : Shape := ⟨2, ![16384, 16]⟩
abbrev S16384x8 : Shape := ⟨2, ![16384, 8]⟩
abbrev S_ : Shape := ⟨0, ![]⟩
abbrev S16384x104 : Shape := ⟨2, ![16384, 104]⟩
abbrev S16384x640 : Shape := ⟨2, ![16384, 640]⟩
abbrev S1x128 : Shape := ⟨2, ![1, 128]⟩
abbrev S16384x8x64 : Shape := ⟨3, ![16384, 8, 64]⟩
abbrev S8x64x16384 : Shape := ⟨3, ![8, 64, 16384]⟩
abbrev S8x0x16384 : Shape := ⟨3, ![8, 0, 16384]⟩
abbrev S8x16384 : Shape := ⟨2, ![8, 16384]⟩
abbrev S8x1x16384 : Shape := ⟨3, ![8, 1, 16384]⟩
abbrev S8x63x16384 : Shape := ⟨3, ![8, 63, 16384]⟩
abbrev S8x128x16384 : Shape := ⟨3, ![8, 128, 16384]⟩
abbrev S1024x16384 : Shape := ⟨2, ![1024, 16384]⟩
abbrev S8x3x16384 : Shape := ⟨3, ![8, 3, 16384]⟩
abbrev S8x60x16384 : Shape := ⟨3, ![8, 60, 16384]⟩
abbrev S512x16384 : Shape := ⟨2, ![512, 16384]⟩
abbrev S16384x128 : Shape := ⟨2, ![16384, 128]⟩
abbrev S8x128 : Shape := ⟨2, ![8, 128]⟩
abbrev S1024x512 : Shape := ⟨2, ![1024, 512]⟩
abbrev S512x512 : Shape := ⟨2, ![512, 512]⟩
abbrev S512x128 : Shape := ⟨2, ![512, 128]⟩
abbrev S512x2560 : Shape := ⟨2, ![512, 2560]⟩
abbrev S128x512 : Shape := ⟨2, ![128, 512]⟩
abbrev S8x1024 : Shape := ⟨2, ![8, 1024]⟩
abbrev S8x512 : Shape := ⟨2, ![8, 512]⟩
abbrev S8x1 : Shape := ⟨2, ![8, 1]⟩
abbrev S16x512 : Shape := ⟨2, ![16, 512]⟩
abbrev S104x512 : Shape := ⟨2, ![104, 512]⟩
abbrev S64x8x128 : Shape := ⟨3, ![64, 8, 128]⟩

abbrev nBuf : Space → Nat
  | .hbm => 45
  | .vmem => 15
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S1x8x16384, .f32⟩
  | .hbm, ⟨4, _⟩ => ⟨S1x8x16384, .f32⟩
  | .hbm, ⟨5, _⟩ => ⟨S1x16384x512, .f32⟩
  | .hbm, ⟨6, _⟩ => ⟨S1x16384x16, .f32⟩
  | .hbm, ⟨7, _⟩ => ⟨S1x16384x8, .f32⟩
  | .hbm, ⟨8, _⟩ => ⟨S1x8, .f32⟩
  | .hbm, ⟨9, _⟩ => ⟨S16384x8192, .bf16⟩
  | .hbm, ⟨10, _⟩ => ⟨S16384x512, .f32⟩
  | .hbm, ⟨11, _⟩ => ⟨S16384x16, .f32⟩
  | .hbm, ⟨12, _⟩ => ⟨S16384x8, .f32⟩
  | .hbm, ⟨13, _⟩ => ⟨S_, .f32⟩
  | .hbm, ⟨14, _⟩ => ⟨S16384x104, .f32⟩
  | .hbm, ⟨15, _⟩ => ⟨S16384x640, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S16384x8x64, .f32⟩
  | .hbm, ⟨20, _⟩ => ⟨S8x64x16384, .f32⟩
  | .hbm, ⟨21, _⟩ => ⟨S_, .f32⟩
  | .hbm, ⟨22, _⟩ => ⟨S8x0x16384, .f32⟩
  | .hbm, ⟨23, _⟩ => ⟨S8x16384, .f32⟩
  | .hbm, ⟨24, _⟩ => ⟨S8x1x16384, .f32⟩
  | .hbm, ⟨25, _⟩ => ⟨S_, .f32⟩
  | .hbm, ⟨26, _⟩ => ⟨S8x63x16384, .f32⟩
  | .hbm, ⟨27, _⟩ => ⟨S8x128x16384, .f32⟩
  | .hbm, ⟨28, _⟩ => ⟨S1024x16384, .f32⟩
  | .hbm, ⟨29, _⟩ => ⟨S16384x8x64, .f32⟩
  | .hbm, ⟨30, _⟩ => ⟨S8x64x16384, .f32⟩
  | .hbm, ⟨31, _⟩ => ⟨S_, .f32⟩
  | .hbm, ⟨32, _⟩ => ⟨S8x3x16384, .f32⟩
  | .hbm, ⟨33, _⟩ => ⟨S8x16384, .f32⟩
  | .hbm, ⟨34, _⟩ => ⟨S8x1x16384, .f32⟩
  | .hbm, ⟨35, _⟩ => ⟨S_, .f32⟩
  | .hbm, ⟨36, _⟩ => ⟨S8x60x16384, .f32⟩
  | .hbm, ⟨37, _⟩ => ⟨S8x128x16384, .f32⟩
  | .hbm, ⟨38, _⟩ => ⟨S1024x16384, .f32⟩
  | .hbm, ⟨39, _⟩ => ⟨S16384x8x64, .f32⟩
  | .hbm, ⟨40, _⟩ => ⟨S8x64x16384, .f32⟩
  | .hbm, ⟨41, _⟩ => ⟨S512x16384, .f32⟩
  | .hbm, ⟨42, _⟩ => ⟨S16384x8192, .bf16⟩
  | .hbm, ⟨43, _⟩ => ⟨S16384x128, .f32⟩
  | .hbm, ⟨44, _⟩ => ⟨S8x128, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S1x128, .f32⟩
  | .local _ .vmem, ⟨9, _⟩ => ⟨S512x2560, .bf16⟩
  | .local _ .vmem, ⟨10, _⟩ => ⟨S512x2560, .bf16⟩
  | .local _ .vmem, ⟨11, _⟩ => ⟨S512x128, .f32⟩
  | .local _ .vmem, ⟨12, _⟩ => ⟨S512x128, .f32⟩
  | .local _ .vmem, ⟨13, _⟩ => ⟨S8x128, .f32⟩
  | .local _ .vmem, ⟨14, _⟩ => ⟨S8x128, .f32⟩
  | _, _ => ⟨S1x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v201 : BitVec 32 := Scalar.extui v0
  let c0_i32_106 : BitVec 32 := 0#32
  let v202 : BitVec 1 := Scalar.cmpi .ne v201 c0_i32_106
  v202

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v203 : BitVec 1 := Scalar.xori v0 v_true
  let v204 : BitVec 32 := Scalar.extui v203
  let c0_i32_107 : BitVec 32 := 0#32
  let v205 : BitVec 1 := Scalar.cmpi .ne v204 c0_i32_107
  v205

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FoxgRefIdeal.lean ====
abbrev S1x16384x8x64 : Shape := ⟨4, ![1, 16384, 8, 64]⟩
abbrev S1x8x16384 : Shape := ⟨3, ![1, 8, 16384]⟩
abbrev S1x16384x512 : Shape := ⟨3, ![1, 16384, 512]⟩
abbrev S1x16384x16 : Shape := ⟨3, ![1, 16384, 16]⟩
abbrev S1x16384x8 : Shape := ⟨3, ![1, 16384, 8]⟩
abbrev S1x8 : Shape := ⟨2, ![1, 8]⟩
abbrev S16384x8192 : Shape := ⟨2, ![16384, 8192]⟩
abbrev S_ : Shape := ⟨0, ![]⟩
abbrev S16384x8x64 : Shape := ⟨3, ![16384, 8, 64]⟩
abbrev S16384x8x128 : Shape := ⟨3, ![16384, 8, 128]⟩
abbrev S16384x1024 : Shape := ⟨2, ![16384, 1024]⟩
abbrev S16384x512 : Shape := ⟨2, ![16384, 512]⟩
abbrev S16384x2560 : Shape := ⟨2, ![16384, 2560]⟩
abbrev S16384x5632 : Shape := ⟨2, ![16384, 5632]⟩
abbrev S16384x8 : Shape := ⟨2, ![16384, 8]⟩
abbrev S16384x128 : Shape := ⟨2, ![16384, 128]⟩
abbrev S2048x8x8 : Shape := ⟨3, ![2048, 8, 8]⟩
abbrev S8x8 : Shape := ⟨2, ![8, 8]⟩
abbrev S8x128 : Shape := ⟨2, ![8, 128]⟩

abbrev nBuf : Space → Nat
  | .hbm => 109
  | .vmem => 0
  | .smem => 0
  | _ => 0

abbrev bufTy : (tb : Table) → Fin (tcTables nBuf tb) → BufTy
  | .hbm, ⟨0, _⟩ => ⟨S1x16384x8x64, .f32⟩
  | .hbm, ⟨1, _⟩ => ⟨S1x16384x8x64, .f32⟩
  | .hbm, ⟨2, _⟩ => ⟨S1x16384x8x64, .f32⟩
  | .hbm, ⟨3, _⟩ => ⟨S1x8x16384, .f32⟩
  | .hbm, ⟨4, _⟩ => ⟨S1x8x16384, .f32⟩
  | .hbm, ⟨5, _⟩ => ⟨S1x16384x512, .f32⟩
  | .hbm, ⟨6, _⟩ => ⟨S1x16384x16, .f32⟩
  | .hbm, ⟨7, _⟩ => ⟨S1x16384x8, .f32⟩
  | .hbm, ⟨8, _⟩ => ⟨S1x8, .f32⟩
  | .hbm, ⟨9, _⟩ => ⟨S16384x8192, .bf16⟩
  | .hbm, ⟨10, _⟩ => ⟨S_, .f32⟩
  | .hbm, ⟨11, _⟩ => ⟨S1x16384x8x64, .f32⟩
  | .hbm, ⟨12, _⟩ => ⟨S1x16384x8, .f32⟩
  | .hbm, ⟨13, _⟩ => ⟨S1x16384x8, .f32⟩
  | .hbm, ⟨14, _⟩ => ⟨S1x16384x8, .f32⟩
  | .hbm, ⟨15, _⟩ => ⟨S_, .f32⟩
  | .hbm, ⟨16, _⟩ => ⟨S1x16384x8, .f32⟩
  | .hbm, ⟨17, _⟩ => ⟨S1x16384x8, .f32⟩
  | .hbm, ⟨18, _⟩ => ⟨S1x16384x8, .f32⟩
  | .hbm, ⟨19, _⟩ => ⟨S1x16384x8, .f32⟩
  | .hbm, ⟨20, _⟩ => ⟨S1x16384x8, .i1⟩
  | .hbm, ⟨21, _⟩ => ⟨S1x16384x8, .f32⟩
  | .hbm, ⟨22, _⟩ => ⟨S1x16384x8, .f32⟩
  | .hbm, ⟨23, _⟩ => ⟨S1x16384x8, .f32⟩
  | .hbm, ⟨24, _⟩ => ⟨S1x16384x8, .f32⟩
  | .hbm, ⟨25, _⟩ => ⟨S1x16384x8, .f32⟩
  | .hbm, ⟨26, _⟩ => ⟨S1x16384x8, .f32⟩
  | .hbm, ⟨27, _⟩ => ⟨S1x16384x8, .f32⟩
  | .hbm, ⟨28, _⟩ => ⟨S1x16384x8, .f32⟩
  | .hbm, ⟨29, _⟩ => ⟨S_, .f32⟩
  | .hbm, ⟨30, _⟩ => ⟨S1x16384x8, .f32⟩
  | .hbm, ⟨31, _⟩ => ⟨S1x16384x8, .i1⟩
  | .hbm, ⟨32, _⟩ => ⟨S_, .f32⟩
  | .hbm, ⟨33, _⟩ => ⟨S1x16384x8, .f32⟩
  | .hbm, ⟨34, _⟩ => ⟨S1x16384x8, .f32⟩
  | .hbm, ⟨35, _⟩ => ⟨S_, .f32⟩
  | .hbm, ⟨36, _⟩ => ⟨S1x16384x8, .f32⟩
  | .hbm, ⟨37, _⟩ => ⟨S1x16384x8, .i1⟩
  | .hbm, ⟨38, _⟩ => ⟨S_, .f32⟩
  | .hbm, ⟨39, _⟩ => ⟨S1x16384x8, .f32⟩
  | .hbm, ⟨40, _⟩ => ⟨S1x16384x8, .f32⟩
  | .hbm, ⟨41, _⟩ => ⟨S1x16384x8, .f32⟩
  | .hbm, ⟨42, _⟩ => ⟨S1x16384x8, .f32⟩
  | .hbm, ⟨43, _⟩ => ⟨S_, .f32⟩
  | .hbm, ⟨44, _⟩ => ⟨S_, .f32⟩
  | .hbm, ⟨45, _⟩ => ⟨S_, .i1⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x16384x8, .f32⟩
  | .hbm, ⟨51, _⟩ => ⟨S1x16384x8, .i1⟩
  | .hbm, ⟨52, _⟩ => ⟨S_, .f32⟩
  | .hbm, ⟨53, _⟩ => ⟨S1x16384x8, .f32⟩
  | .hbm, ⟨54, _⟩ => ⟨S1x16384x8, .f32⟩
  | .hbm, ⟨55, _⟩ => ⟨S1x16384x8, .f32⟩
  | .hbm, ⟨56, _⟩ => ⟨S1x16384x8, .f32⟩
  | .hbm, ⟨57, _⟩ => ⟨S1x16384x8, .f32⟩
  | .hbm, ⟨58, _⟩ => ⟨S_, .f32⟩
  | .hbm, ⟨59, _⟩ => ⟨S1x16384x8, .f32⟩
  | .hbm, ⟨60, _⟩ => ⟨S1x16384x8, .f32⟩
  | .hbm, ⟨61, _⟩ => ⟨S1x16384x8, .f32⟩
  | .hbm, ⟨62, _⟩ => ⟨S_, .f32⟩
  | .hbm, ⟨63, _⟩ => ⟨S_, .f32⟩
  | .hbm, ⟨64, _⟩ => ⟨S1x16384x8, .f32⟩
  | .hbm, ⟨65, _⟩ => ⟨S1x8x16384, .f32⟩
  | .hbm, ⟨66, _⟩ => ⟨S_, .f32⟩
  | .hbm, ⟨67, _⟩ => ⟨S1x16384x8x64, .f32⟩
  | .hbm, ⟨68, _⟩ => ⟨S1x16384x8x64, .f32⟩
  | .hbm, ⟨69, _⟩ => ⟨S1x8x16384, .f32⟩
  | .hbm, ⟨70, _⟩ => ⟨S1x8x16384, .f32⟩
  | .hbm, ⟨71, _⟩ => ⟨S1x8x16384, .f32⟩
  | .hbm, ⟨72, _⟩ => ⟨S_, .f32⟩
  | .hbm, ⟨73, _⟩ => ⟨S1x16384x8x64, .f32⟩
  | .hbm, ⟨74, _⟩ => ⟨S1x16384x8x64, .f32⟩
  | .hbm, ⟨75, _⟩ => ⟨S1x16384x8, .f32⟩
  | .hbm, ⟨76, _⟩ => ⟨S_, .f32⟩
  | .hbm, ⟨77, _⟩ => ⟨S_, .f32⟩
  | .hbm, ⟨78, _⟩ => ⟨S1x16384x8, .f32⟩
  | .hbm, ⟨79, _⟩ => ⟨S1x16384x8, .f32⟩
  | .hbm, ⟨80, _⟩ => ⟨S1x16384x8, .f32⟩
  | .hbm, ⟨81, _⟩ => ⟨S1x16384x8, .f32⟩
  | .hbm, ⟨82, _⟩ => ⟨S16384x8x64, .f32⟩
  | .hbm, ⟨83, _⟩ => ⟨S_, .i32⟩
  | .hbm, ⟨84, _⟩ => ⟨S_, .f32⟩
  | .hbm, ⟨85, _⟩ => ⟨S16384x8x128, .f32⟩
  | .hbm, ⟨86, _⟩ => ⟨S16384x1024, .f32⟩
  | .hbm, ⟨87, _⟩ => ⟨S16384x8x64, .f32⟩
  | .hbm, ⟨88, _⟩ => ⟨S_, .i32⟩
  | .hbm, ⟨89, _⟩ => ⟨S_, .f32⟩
  | .hbm, ⟨90, _⟩ => ⟨S16384x8x128, .f32⟩
  | .hbm, ⟨91, _⟩ => ⟨S16384x1024, .f32⟩
  | .hbm, ⟨92, _⟩ => ⟨S16384x8x64, .f32⟩
  | .hbm, ⟨93, _⟩ => ⟨S16384x512, .f32⟩
  | .hbm, ⟨94, _⟩ => ⟨S16384x2560, .f32⟩
  | .hbm, ⟨95, _⟩ => ⟨S16384x2560, .bf16⟩
  | .hbm, ⟨96, _⟩ => ⟨S16384x5632, .bf16⟩
  | .hbm, ⟨97, _⟩ => ⟨S16384x8192, .bf16⟩
  | .hbm, ⟨98, _⟩ => ⟨S16384x8, .f32⟩
  | .hbm, ⟨99, _⟩ => ⟨S_, .i32⟩
  | .hbm, ⟨100, _⟩ => ⟨S_, .f32⟩
  | .hbm, ⟨101, _⟩ => ⟨S16384x128, .f32⟩
  | .hbm, ⟨102, _⟩ => ⟨S16384x8, .f32⟩
  | .hbm, ⟨103, _⟩ => ⟨S2048x8x8, .f32⟩
  | .hbm, ⟨104, _⟩ => ⟨S_, .f32⟩
  | .hbm, ⟨105, _⟩ => ⟨S8x8, .f32⟩
  | .hbm, ⟨106, _⟩ => ⟨S_, .i32⟩
  | .hbm, ⟨107, _⟩ => ⟨S_, .f32⟩
  | .hbm, ⟨108, _⟩ => ⟨S8x128, .f32⟩
  | _, _ => ⟨S1x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1_0 : Ref sig .tc := ⟨.hbm, 28, rfl⟩
abbrev main_call0_call0_cst_0 : Ref sig .tc := ⟨.hbm, 29, rfl⟩
abbrev main_call0_call0_v13 : Ref sig .tc := ⟨.hbm, 30, rfl⟩
abbrev main_call0_call0_v14 : Ref sig .tc := ⟨.hbm, 31, rfl⟩
abbrev main_call0_call0_cst_1 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_cst_2 : Ref sig .tc := ⟨.hbm, 35, rfl⟩
abbrev main_call0_call0_v17 : Ref sig .tc := ⟨.hbm, 36, rfl⟩
abbrev main_call0_call0_v18 : Ref sig .tc := ⟨.hbm, 37, rfl⟩
abbrev main_call0_call0_cst_3 : Ref sig .tc := ⟨.hbm, 38, rfl⟩
abbrev main_call0_call0_v19 : Ref sig .tc := ⟨.hbm, 39, rfl⟩
abbrev main_call0_call0_v20 : Ref sig .tc := ⟨.hbm, 40, rfl⟩
abbrev main_call0_call0_v21 : Ref sig .tc := ⟨.hbm, 41, rfl⟩
abbrev main_v3_1 : Ref sig .tc := ⟨.hbm, 42, rfl⟩
abbrev main_call0_call0_cst_4 : Ref sig .tc := ⟨.hbm, 43, rfl⟩
abbrev main_call0_call0_cst_5 : Ref sig .tc := ⟨.hbm, 44, rfl⟩
abbrev main_call0_call0_v23 : Ref sig .tc := ⟨.hbm, 45, rfl⟩
abbrev main_call0_call0_cst_6 : Ref sig .tc := ⟨.hbm, 46, rfl⟩
abbrev main_call0_call0_cst_7 : Ref sig .tc := ⟨.hbm, 47, rfl⟩
abbrev main_call0_call0_v24 : Ref sig .tc := ⟨.hbm, 48, rfl⟩
abbrev main_call0_call0_cst_8 : Ref sig .tc := ⟨.hbm, 49, rfl⟩
abbrev main_call0_call0_v25 : Ref sig .tc := ⟨.hbm, 50, rfl⟩
abbrev main_call0_call0_v26 : Ref sig .tc := ⟨.hbm, 51, rfl⟩
abbrev main_call0_call0_cst_9 : Ref sig .tc := ⟨.hbm, 52, rfl⟩
abbrev main_call0_call0_v27 : Ref sig .tc := ⟨.hbm, 53, rfl⟩
abbrev main_call0_call0_v28 : Ref sig .tc := ⟨.hbm, 54, rfl⟩
abbrev main_call0_call0_v29 : Ref sig .tc := ⟨.hbm, 55, rfl⟩
abbrev main_call0_call0_v30 : Ref sig .tc := ⟨.hbm, 56, rfl⟩
abbrev main_call0_call0_v31 : Ref sig .tc := ⟨.hbm, 57, rfl⟩
abbrev main_call0_call0_cst_10 : Ref sig .tc := ⟨.hbm, 58, rfl⟩
abbrev main_call0_call0_v32 : Ref sig .tc := ⟨.hbm, 59, rfl⟩
abbrev main_v3_2 : Ref sig .tc := ⟨.hbm, 60, rfl⟩
abbrev main_v3_0 : Ref sig .tc := ⟨.hbm, 61, rfl⟩
abbrev main_call1_call0_cst : Ref sig .tc := ⟨.hbm, 62, rfl⟩
abbrev main_call1_call0_v0 : Ref sig .tc := ⟨.hbm, 63, rfl⟩
abbrev main_v4 : Ref sig .tc := ⟨.hbm, 64, rfl⟩
abbrev main_v5 : Ref sig .tc := ⟨.hbm, 65, rfl⟩
abbrev main_cst_0 : Ref sig .tc := ⟨.hbm, 66, rfl⟩
abbrev main_v6 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_cst_1 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_call2_call0_cst : Ref sig .tc := ⟨.hbm, 76, rfl⟩
abbrev main_call2_call0_v0 : Ref sig .tc := ⟨.hbm, 77, rfl⟩
abbrev main_v14 : Ref sig .tc := ⟨.hbm, 78, rfl⟩
abbrev main_call3_v0 : Ref sig .tc := ⟨.hbm, 79, rfl⟩
abbrev main_call3_v1 : Ref sig .tc := ⟨.hbm, 80, rfl⟩
abbrev main_v15 : Ref sig .tc := ⟨.hbm, 81, rfl⟩
abbrev main_v16 : Ref sig .tc := ⟨.hbm, 82, rfl⟩
abbrev main_c : Ref sig .tc := ⟨.hbm, 83, rfl⟩
abbrev main_call4_v0 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_c_2 : Ref sig .tc := ⟨.hbm, 88, rfl⟩
abbrev main_call5_v0 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_c_3 : Ref sig .tc := ⟨.hbm, 99, rfl⟩
abbrev main_call6_v0 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_cst_4 : Ref sig .tc := ⟨.hbm, 104, rfl⟩
abbrev main_v32 : Ref sig .tc := ⟨.hbm, 105, rfl⟩
abbrev main_c_5 : Ref sig .tc := ⟨.hbm, 106, rfl⟩
abbrev main_call7_v0 : Ref sig .tc := ⟨.hbm, 107, rfl⟩
abbrev main_v33 : Ref sig .tc := ⟨.hbm, 108, rfl⟩

abbrev nD : Nat := 1
abbrev τ : Topo := Topo.v7x

variable {F : FTy → Type} [FloatOps F]
-- ==== Memkv.lean ====
abbrev S1x256x1024 : Shape := ⟨3, ![1, 256, 1024]⟩
abbrev S1x1024 : Shape := ⟨2, ![1, 1024]⟩
abbrev S1x1024x1024 : Shape := ⟨3, ![1, 1024, 1024]⟩
abbrev S256x1024 : Shape := ⟨2, ![256, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S8x1024 : Shape := ⟨2, ![8, 1024]⟩
abbrev S32x8x1024 : Shape := ⟨3, ![32, 8, 1024]⟩

abbrev nBuf : Space → Nat
  | .hbm => 26
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S256x1024, .f32⟩
  | .hbm, ⟨4, _⟩ => ⟨S1024x1024, .f32⟩
  | .hbm, ⟨5, _⟩ => ⟨S1024x1024, .bf16⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S256x1024, .f32⟩
  | .hbm, ⟨24, _⟩ => ⟨S1024x1024, .bf16⟩
  | .hbm, ⟨25, _⟩ => ⟨S8x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S1024x1024, .bf16⟩
  | .local _ .vmem, ⟨4, _⟩ => ⟨S256x1024, .f32⟩
  | .local _ .vmem, ⟨5, _⟩ => ⟨S1024x1024, .bf16⟩
  | .local _ .vmem, ⟨6, _⟩ => ⟨S8x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MemkvRefIdeal.lean ====
abbrev S1x256x1024 : Shape := ⟨3, ![1, 256, 1024]⟩
abbrev S1x1024 : Shape := ⟨2, ![1, 1024]⟩
abbrev S1x1024x1024 : Shape := ⟨3, ![1, 1024, 1024]⟩
abbrev S256x1024 : Shape := ⟨2, ![256, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S32x8x1024 : Shape := ⟨3, ![32, 8, 1024]⟩
abbrev S8x1024 : Shape := ⟨2, ![8, 1024]⟩

abbrev nBuf : Space → Nat
  | .hbm => 30
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x1024, .f32⟩
  | .hbm, ⟨3, _⟩ => ⟨S256x1024, .f32⟩
  | .hbm, ⟨4, _⟩ => ⟨S256x1024, .f32⟩
  | .hbm, ⟨5, _⟩ => ⟨S1024x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S1024x1024, .f32⟩
  | .hbm, ⟨23, _⟩ => ⟨S1024x1024, .f32⟩
  | .hbm, ⟨24, _⟩ => ⟨S256x1024, .f32⟩
  | .hbm, ⟨25, _⟩ => ⟨S256x1024, .f32⟩
  | .hbm, ⟨26, _⟩ => ⟨S1024x1024, .bf16⟩
  | .hbm, ⟨27, _⟩ => ⟨S32x8x1024, .f32⟩
  | .hbm, ⟨28, _⟩ => ⟨S_, .f32⟩
  | .hbm, ⟨29, _⟩ => ⟨S8x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Merge.lean ====
abbrev S1x16384x512 : Shape := ⟨3, ![1, 16384, 512]⟩
abbrev S1x512x1024 : Shape := ⟨3, ![1, 512, 1024]⟩
abbrev S1x16384x3072 : Shape := ⟨3, ![1, 16384, 3072]⟩
abbrev S1x1024x1024 : Shape := ⟨3, ![1, 1024, 1024]⟩
abbrev S1x16384x1024 : Shape := ⟨3, ![1, 16384, 1024]⟩
abbrev S16384x3072 : Shape := ⟨2, ![16384, 3072]⟩
abbrev S512x1024 : Shape := ⟨2, ![512, 1024]⟩
abbrev S16384x512 : Shape := ⟨2, ![16384, 512]⟩
abbrev S16384x1024 : Shape := ⟨2, ![16384, 1024]⟩
abbrev S3x16384x1024 : Shape := ⟨3, ![3, 16384, 1024]⟩
abbrev S1024x1024 : Shape := ⟨2, ![1024, 1024]⟩
abbrev S16384x8192 : Shape := ⟨2, ![16384, 8192]⟩
abbrev S512x3072 : Shape := ⟨2, ![512, 3072]⟩
abbrev S3x512x1024 : Shape := ⟨3, ![3, 512, 1024]⟩
abbrev S512x512 : Shape := ⟨2, ![512, 512]⟩

abbrev nBuf : Space → Nat
  | .hbm => 42
  | .vmem => 24
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x16384x3072, .f32⟩
  | .hbm, ⟨7, _⟩ => ⟨S1x1024x1024, .f32⟩
  | .hbm, ⟨8, _⟩ => ⟨S1x16384x1024, .f32⟩
  | .hbm, ⟨9, _⟩ => ⟨S16384x3072, .f32⟩
  | .hbm, ⟨10, _⟩ => ⟨S16384x3072, .bf16⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S16384x512, .f32⟩
  | .hbm, ⟨18, _⟩ => ⟨S512x1024, .f32⟩
  | .hbm, ⟨19, _⟩ => ⟨S16384x1024, .f32⟩
  | .hbm, ⟨20, _⟩ => ⟨S16384x512, .f32⟩
  | .hbm, ⟨21, _⟩ => ⟨S512x1024, .f32⟩
  | .hbm, ⟨22, _⟩ => ⟨S16384x1024, .f32⟩
  | .hbm, ⟨23, _⟩ => ⟨S16384x512, .f32⟩
  | .hbm, ⟨24, _⟩ => ⟨S512x1024, .f32⟩
  | .hbm, ⟨25, _⟩ => ⟨S16384x1024, .f32⟩
  | .hbm, ⟨26, _⟩ => ⟨S1x16384x1024, .f32⟩
  | .hbm, ⟨27, _⟩ => ⟨S1x16384x1024, .f32⟩
  | .hbm, ⟨28, _⟩ => ⟨S1x16384x1024, .f32⟩
  | .hbm, ⟨29, _⟩ => ⟨S3x16384x1024, .f32⟩
  | .hbm, ⟨30, _⟩ => ⟨S3x16384x1024, .bf16⟩
  | .hbm, ⟨31, _⟩ => ⟨S16384x1024, .f32⟩
  | .hbm, ⟨32, _⟩ => ⟨S16384x1024, .bf16⟩
  | .hbm, ⟨33, _⟩ => ⟨S1024x1024, .f32⟩
  | .hbm, ⟨34, _⟩ => ⟨S1024x1024, .bf16⟩
  | .hbm, ⟨35, _⟩ => ⟨S16384x1024, .bf16⟩
  | .hbm, ⟨36, _⟩ => ⟨S16384x1024, .bf16⟩
  | .hbm, ⟨37, _⟩ => ⟨S16384x1024, .bf16⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x8192, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x3072, .bf16⟩
  | .local _ .vmem, ⟨4, _⟩ => ⟨S512x3072, .bf16⟩
  | .local _ .vmem, ⟨5, _⟩ => ⟨S3x512x1024, .bf16⟩
  | .local _ .vmem, ⟨6, _⟩ => ⟨S3x512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x3072, .bf16⟩
  | .local _ .vmem, ⟨23, _⟩ => ⟨S512x3072, .bf16⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev main_v26_4 : Ref sig .tc := ⟨.hbm, 39, rfl⟩
abbrev main_v26_5 : Ref sig .tc := ⟨.hbm, 40, rfl⟩
abbrev main_v26_6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S1x16384x512 : Shape := ⟨3, ![1, 16384, 512]⟩
abbrev S1x512x1024 : Shape := ⟨3, ![1, 512, 1024]⟩
abbrev S1x16384x3072 : Shape := ⟨3, ![1, 16384, 3072]⟩
abbrev S1x1024x1024 : Shape := ⟨3, ![1, 1024, 1024]⟩
abbrev S1x16384x1024 : Shape := ⟨3, ![1, 16384, 1024]⟩
abbrev S512x1024 : Shape := ⟨2, ![512, 1024]⟩
abbrev S1024x1024 : Shape := ⟨2, ![1024, 1024]⟩
abbrev S1x16384x3x1024 : Shape := ⟨4, ![1, 16384, 3, 1024]⟩
abbrev S_ : Shape := ⟨0, ![]⟩
abbrev S1x16384x1x1024 : Shape := ⟨4, ![1, 16384, 1, 1024]⟩
abbrev S16384x3072 : Shape := ⟨2, ![16384, 3072]⟩
abbrev S16384x8192 : Shape := ⟨2, ![16384, 8192]⟩
abbrev S16384x1024 : Shape := ⟨2, ![16384, 1024]⟩
abbrev S16384x512 : Shape := ⟨2, ![16384, 512]⟩

abbrev nBuf : Space → Nat
  | .hbm => 78
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x16384x512, .f32⟩
  | .hbm, ⟨2, _⟩ => ⟨S1x16384x512, .f32⟩
  | .hbm, ⟨3, _⟩ => ⟨S1x512x1024, .f32⟩
  | .hbm, ⟨4, _⟩ => ⟨S1x512x1024, .f32⟩
  | .hbm, ⟨5, _⟩ => ⟨S1x512x1024, .f32⟩
  | .hbm, ⟨6, _⟩ => ⟨S1x16384x3072, .f32⟩
  | .hbm, ⟨7, _⟩ => ⟨S1x1024x1024, .f32⟩
  | .hbm, ⟨8, _⟩ => ⟨S1x16384x1024, .f32⟩
  | .hbm, ⟨9, _⟩ => ⟨S512x1024, .f32⟩
  | .hbm, ⟨10, _⟩ => ⟨S1x16384x1024, .f32⟩
  | .hbm, ⟨11, _⟩ => ⟨S512x1024, .f32⟩
  | .hbm, ⟨12, _⟩ => ⟨S1x16384x1024, .f32⟩
  | .hbm, ⟨13, _⟩ => ⟨S512x1024, .f32⟩
  | .hbm, ⟨14, _⟩ => ⟨S1x16384x1024, .f32⟩
  | .hbm, ⟨15, _⟩ => ⟨S1024x1024, .f32⟩
  | .hbm, ⟨16, _⟩ => ⟨S1x16384x3x1024, .f32⟩
  | .hbm, ⟨17, _⟩ => ⟨S1x16384x3x1024, .f32⟩
  | .hbm, ⟨18, _⟩ => ⟨S1x16384x3x1024, .f32⟩
  | .hbm, ⟨19, _⟩ => ⟨S_, .f32⟩
  | .hbm, ⟨20, _⟩ => ⟨S1x16384x3x1024, .f32⟩
  | .hbm, ⟨21, _⟩ => ⟨S1x16384x3x1024, .f32⟩
  | .hbm, ⟨22, _⟩ => ⟨S_, .f32⟩
  | .hbm, ⟨23, _⟩ => ⟨S1x16384x3x1024, .f32⟩
  | .hbm, ⟨24, _⟩ => ⟨S1x16384x3x1024, .f32⟩
  | .hbm, ⟨25, _⟩ => ⟨S_, .f32⟩
  | .hbm, ⟨26, _⟩ => ⟨S1x16384x3x1024, .f32⟩
  | .hbm, ⟨27, _⟩ => ⟨S1x16384x3x1024, .f32⟩
  | .hbm, ⟨28, _⟩ => ⟨S1x16384x3x1024, .f32⟩
  | .hbm, ⟨29, _⟩ => ⟨S1x16384x1x1024, .f32⟩
  | .hbm, ⟨30, _⟩ => ⟨S1x16384x1024, .f32⟩
  | .hbm, ⟨31, _⟩ => ⟨S1x16384x1024, .f32⟩
  | .hbm, ⟨32, _⟩ => ⟨S1x16384x1x1024, .f32⟩
  | .hbm, ⟨33, _⟩ => ⟨S1x16384x1024, .f32⟩
  | .hbm, ⟨34, _⟩ => ⟨S1x16384x1024, .f32⟩
  | .hbm, ⟨35, _⟩ => ⟨S1x16384x1024, .f32⟩
  | .hbm, ⟨36, _⟩ => ⟨S1x16384x1x1024, .f32⟩
  | .hbm, ⟨37, _⟩ => ⟨S1x16384x1024, .f32⟩
  | .hbm, ⟨38, _⟩ => ⟨S1x16384x1024, .f32⟩
  | .hbm, ⟨39, _⟩ => ⟨S1x16384x1024, .f32⟩
  | .hbm, ⟨40, _⟩ => ⟨S1x16384x1024, .f32⟩
  | .hbm, ⟨41, _⟩ => ⟨S1x16384x1024, .f32⟩
  | .hbm, ⟨42, _⟩ => ⟨S1x16384x1024, .f32⟩
  | .hbm, ⟨43, _⟩ => ⟨S1x16384x1024, .f32⟩
  | .hbm, ⟨44, _⟩ => ⟨S1x16384x1x1024, .f32⟩
  | .hbm, ⟨45, _⟩ => ⟨S_, .f32⟩
  | .hbm, ⟨46, _⟩ => ⟨S1x16384x3x1024, .f32⟩
  | .hbm, ⟨47, _⟩ => ⟨S1x16384x1024, .f32⟩
  | .hbm, ⟨48, _⟩ => ⟨S1x16384x1024, .f32⟩
  | .hbm, ⟨49, _⟩ => ⟨S1x16384x1x1024, .f32⟩
  | .hbm, ⟨50, _⟩ => ⟨S_, .f32⟩
  | .hbm, ⟨51, _⟩ => ⟨S1x16384x3x1024, .f32⟩
  | .hbm, ⟨52, _⟩ => ⟨S1x16384x3x1024, .f32⟩
  | .hbm, ⟨53, _⟩ => ⟨S1x16384x1024, .f32⟩
  | .hbm, ⟨54, _⟩ => ⟨S1x16384x1024, .f32⟩
  | .hbm, ⟨55, _⟩ => ⟨S1x16384x1x1024, .f32⟩
  | .hbm, ⟨56, _⟩ => ⟨S_, .f32⟩
  | .hbm, ⟨57, _⟩ => ⟨S1x16384x3x1024, .f32⟩
  | .hbm, ⟨58, _⟩ => ⟨S1x16384x3x1024, .f32⟩
  | .hbm, ⟨59, _⟩ => ⟨S1x16384x3x1024, .f32⟩
  | .hbm, ⟨60, _⟩ => ⟨S1x16384x3072, .f32⟩
  | .hbm, ⟨61, _⟩ => ⟨S1x16384x512, .f32⟩
  | .hbm, ⟨62, _⟩ => ⟨S1x16384x512, .f32⟩
  | .hbm, ⟨63, _⟩ => ⟨S1x16384x512, .f32⟩
  | .hbm, ⟨64, _⟩ => ⟨S16384x3072, .f32⟩
  | .hbm, ⟨65, _⟩ => ⟨S16384x3072, .bf16⟩
  | .hbm, ⟨66, _⟩ => ⟨S_, .i32⟩
  | .hbm, ⟨67, _⟩ => ⟨S_, .bf16⟩
  | .hbm, ⟨68, _⟩ => ⟨S16384x8192, .bf16⟩
  | .hbm, ⟨69, _⟩ => ⟨S16384x1024, .f32⟩
  | .hbm, ⟨70, _⟩ => ⟨S16384x1024, .bf16⟩
  | .hbm, ⟨71, _⟩ => ⟨S16384x1024, .f32⟩
  | .hbm, ⟨72, _⟩ => ⟨S16384x1024, .bf16⟩
  | .hbm, ⟨73, _⟩ => ⟨S16384x1024, .f32⟩
  | .hbm, ⟨74, _⟩ => ⟨S16384x1024, .bf16⟩
  | .hbm, ⟨75, _⟩ => ⟨S16384x512, .f32⟩
  | .hbm, ⟨76, _⟩ => ⟨S16384x512, .f32⟩
  | .hbm, ⟨77, _⟩ => ⟨S16384x512, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c : Ref sig .tc := ⟨.hbm, 66, rfl⟩
abbrev main_call0_v0 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Proof.DactVal.lean ====
/-
  The gradient of the squared-ReLU mixer at its pre-activation: the kernel's result array, element by element, is the
  `jax.vjp` reference's. Every element is a sum over the 1024 output columns times `2 * relu(a)`; the reference also
  selects zero where `a` is not positive, where `2 * relu(a)` is zero already.
-/
module

public import proofs.«01_k».proof.Proof.Gen.DactIdeal.Value
public import proofs.«01_k».proof.Proof.Gen.DactRefIdeal.Read
public import Idealize.ShloMosaic.Lib.Pointwise
public import Idealize.ShloMosaic.Lib.Claim

@[expose] public section

set_option maxRecDepth 16384

noncomputable section

namespace Cert.DactIdeal.Hand

open Cert.DactIdeal Cert.DactIdeal.Gen Idealize.ShloMosaic Idealize.ShloMosaic.TcCoe Idealize.SL.Sem
open Idealize.ShloMosaic.Pipeline (Dat)

variable (m : (ℓ : Loc nD τ sig) → Buf (Elt Ideal) ℓ)

/-- One element of the gradient, from the pre-activation `a` and the sum `s` of the cotangent's row with the weight's. -/
def elem (a s : EReal) : EReal := s * (Ideal.ofBits .f32 0x40000000#32 * max a 0)

theorem hz : (![0, 0] : Fin 2 → Nat) = fun _ => 0 := funext fun a => by fin_cases a <;> rfl

/-- What the body computes, at an index. -/
theorem pay_apply (d : Vec Ideal S2048x1024 .bf16) (w : Vec Ideal S1024x1024 .bf16) (a : Vec Ideal S2048x1024 .bf16)
    (r : Fin 2048) (l : Fin 1024) :
    k0_pay1 d w a (ix2 r l) = elem (a (ix2 r l)) (∑ k : Fin 1024, d (ix2 r k) * w (ix2 l k)) := by
  pointwise [k0_pay1, elem]

/-- The reference at an index. -/
theorem ref_apply (x0 : FVec Ideal S16384x4096 .bf16) (x1 : FVec Ideal S1x4096x1024 .f32) (x2 : FVec Ideal S16384x1024 .bf16)
    (r : Fin 16384) (l : Fin 4096) :
    Cert.DactRefIdeal.Read.val_main_v15 (F := Ideal) x0 x1 x2 (ix2 r l)
      = elem (x0 (ix2 r l)) (∑ k : Fin 1024, x2 (ix2 r k) * x1 (ix3 0 l k)) := by
  rw [← Cert.DactRefIdeal.Read.val_main_v15_eq]
  pointwise [elem]
  split
  · rfl
  · rename_i h
    rw [max_eq_right (not_lt.mp h), mul_zero, mul_zero]

/-- Where the output window's block sits. -/
theorem idx_out : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem idx_in : ∀ t : Fin cfg0.N, (win0_0.index t 0 = t.val / 4 ∧ win0_0.index t 1 = 0)
    ∧ (win0_1.index t 0 = t.val % 4 ∧ win0_1.index t 1 = 0) ∧ (win0_2.index t 0 = t.val / 4 ∧ win0_2.index t 1 = t.val % 4) :=
  (by decide +kernel : ∀ t : Fin grid0.N, (win0_0.index t 0 = t.val / 4 ∧ win0_0.index t 1 = 0)
    ∧ (win0_1.index t 0 = t.val % 4 ∧ win0_1.index t 1 = 0) ∧ (win0_2.index t 0 = t.val / 4 ∧ win0_2.index t 1 = t.val % 4))

theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 32 := N_0
  obtain ⟨t, ht⟩ : ∃ t : Fin cfg0.N, t.val = 4 * ((i 0).val / 2048) + (i 1).val / 1024 := ⟨⟨_, by omega⟩, rfl⟩
  refine ⟨t, flush0_3 t, ?_⟩
  show i ∈ ((View.whole main_v2).slice (win0_3.rect t)).set
  rw [View.set_slice_whole, Rect.mem_set_unit]
  obtain ⟨e0, e1⟩ := idx_out t
  intro a
  match a with
  | ⟨0, _⟩ => show win0_3.index t 0 * 2048 ≤ (i 0 : Nat) ∧ (i 0 : Nat) < win0_3.index t 0 * 2048 + 2048; rw [e0]; omega
  | ⟨1, _⟩ => show win0_3.index t 1 * 1024 ≤ (i 1 : Nat) ∧ (i 1 : Nat) < win0_3.index t 1 * 1024 + 1024; rw [e1]; omega

/-- Dropping the weight's unit axis, at an index. -/
theorem drop_apply (x : FVec Ideal S1x4096x1024 .f32) (q : Fin 4096) (k : Fin 1024) :
    shapeCast S4096x1024 x shapeCasts_S1x4096x1024_S4096x1024 (ix2 q k) = x (ix3 0 q k) := by
  pointwise []

/-- The weight as the region finds it: the argument, its unit axis dropped. -/
theorem V_w (c : Dev nD) (q : Fin 4096) (k : Fin 1024) : V m c main_v1 (ix2 q k) = m ((c : Thread nD τ).loc main_arg1) (ix3 0 q k) := by
  have e : V m c main_v1 = (truncf .bf16 (shapeCast S4096x1024 (m ((c : Thread nD τ).loc main_arg1)) shapeCasts_S1x4096x1024_S4096x1024) bitsLt_bf16_f32 : FVec Ideal S4096x1024 .bf16) := by
    dsimp only [V, hostOps0]
    after_results
    rfl
  rw [e]
  exact drop_apply _ q k

/-- The three input blocks at a point. -/
theorem blk0 (c : Dev nD) (t : Fin cfg0.N) (r : Fin 2048) (k : Fin 1024) (R : Fin 16384) (h : R.val = 2048 * (t.val / 4) + r.val) :
    iblk m c 0 t (ix2 r k) = m ((c : Thread nD τ).loc main_arg2) (ix2 R k) := by
  rw [← V_main_arg2 m c]
  obtain ⟨⟨e0, e1⟩, -, -⟩ := idx_in t
  show V m c main_arg2 _ = V m c main_arg2 _
  congr 1
  funext a
  apply Fin.ext
  match a with
  | ⟨0, _⟩ => show win0_0.index t 0 * 2048 + 1 * r.val = R.val; rw [e0]; omega
  | ⟨1, _⟩ => show win0_0.index t 1 * 1024 + 1 * k.val = k.val; rw [e1]; omega

theorem blk1 (c : Dev nD) (t : Fin cfg0.N) (r : Fin 1024) (k : Fin 1024) (R : Fin 4096) (h : R.val = 1024 * (t.val % 4) + r.val) :
    iblk m c 1 t (ix2 r k) = m ((c : Thread nD τ).loc main_arg1) (ix3 0 R k) := by
  rw [← V_w m c]
  obtain ⟨-, ⟨e0, e1⟩, -⟩ := idx_in t
  show V m c main_v1 _ = V m c main_v1 _
  congr 1
  funext a
  apply Fin.ext
  match a with
  | ⟨0, _⟩ => show win0_1.index t 0 * 1024 + 1 * r.val = R.val; rw [e0]; omega
  | ⟨1, _⟩ => show win0_1.index t 1 * 1024 + 1 * k.val = k.val; rw [e1]; omega

theorem blk2 (c : Dev nD) (t : Fin cfg0.N) (r : Fin 2048) (l : Fin 1024) (R : Fin 16384) (L : Fin 4096)
    (h : R.val = 2048 * (t.val / 4) + r.val) (h' : L.val = 1024 * (t.val % 4) + l.val) :
    iblk m c 2 t (ix2 r l) = m ((c : Thread nD τ).loc main_arg0) (ix2 R L) := by
  rw [← V_main_arg0 m c]
  obtain ⟨-, -, e0, e1⟩ := idx_in t
  show V m c main_arg0 _ = V m c main_arg0 _
  congr 1
  funext a
  apply Fin.ext
  match a with
  | ⟨0, _⟩ => show win0_2.index t 0 * 2048 + 1 * r.val = R.val; rw [e0]; omega
  | ⟨1, _⟩ => show win0_2.index t 1 * 1024 + 1 * l.val = L.val; rw [e1]; omega

theorem final (c : Dev nD) : (dats m 0 c).arrAt 3 cfg0.N = Cert.DactRefIdeal.Read.val_main_v15 (F := Ideal)
    (m ((c : Thread nD τ).loc main_arg0)) (m ((c : Thread nD τ).loc main_arg1)) (m ((c : Thread nD τ).loc main_arg2)) := by
  funext i
  refine (dats m 0 c).arrAt_forall_of_cover 3 (fun i v => v = Cert.DactRefIdeal.Read.val_main_v15 (F := Ideal)
    (m ((c : Thread nD τ).loc main_arg0)) (m ((c : Thread nD τ).loc main_arg1)) (m ((c : Thread nD τ).loc main_arg2)) i) ?_ cover i
  intro t _ y
  have ht : t.val < 32 := lt_of_lt_of_eq t.isLt N_0
  obtain ⟨r, l, rfl⟩ : ∃ (r : Fin 2048) (l : Fin 1024), y = ix2 r l := ⟨y 0, y 1, (ix2_eta y).symm⟩
  obtain ⟨e0, e1⟩ := idx_out t
  obtain ⟨R, hR⟩ : ∃ R : Fin 16384, R.val = 2048 * (t.val / 4) + r.val := ⟨⟨_, by omega⟩, rfl⟩
  obtain ⟨L, hL⟩ : ∃ L : Fin 4096, L.val = 1024 * (t.val % 4) + l.val := ⟨⟨_, by omega⟩, rfl⟩
  have he : (((cfg0.win 3).blk t).view.emb (ix2 r l : S2048x1024.Idx) : S16384x4096.Idx) = ix2 R L := by
    funext a
    apply Fin.ext
    match a with
    | ⟨0, _⟩ => show win0_3.index t 0 * 2048 + 1 * r.val = R.val; rw [e0]; omega
    | ⟨1, _⟩ => show win0_3.index t 1 * 1024 + 1 * l.val = L.val; rw [e1]; omega
  show (dats m 0 c).flushed 3 t (ix2 r l : S2048x1024.Idx) = Cert.DactRefIdeal.Read.val_main_v15 (F := Ideal) _ _ _ (((cfg0.win 3).blk t).view.emb (ix2 r l : S2048x1024.Idx))
  rw [he, ref_apply, Value.flushed3]
  show out0_3 (iblk m c 0 t) (iblk m c 1 t) (iblk m c 2 t) (ix2 r l) = _
  unfold out0_3
  rw [View.canon_unit_zero hz]
  simp only [View.ld_unit_zero (S := S2048x1024) hz, View.ld_unit_zero (S := S1024x1024) hz]
  rw [pay_apply, blk2 m c t r l R L hR hL]
  refine congrArg _ (Finset.sum_congr rfl fun k _ => ?_)
  rw [blk0 m c t r k R hR, blk1 m c t l k L hL]

end Cert.DactIdeal.Hand
-- ==== Proof.DactClaims.lean ====
/-
  The five claims about the gradient of the squared-ReLU mixer: the frames, and the kernel's value against the reference.
-/
module

public import proofs.«01_k».proof.Defs
public import proofs.«01_k».proof.Proof.DactVal
public import proofs.«01_k».proof.Proof.Gen.Dact.Frame
public import Idealize.ShloMosaic.Lib.Quiescent

@[expose] public section

noncomputable section

namespace Cert.DactClaims

open Idealize.ShloMosaic Idealize.ShloMosaic.TcCoe Idealize.SL.Sem

local instance : Cert.Dact.Facts := Cert.Dact.Gen.facts
local instance : Cert.DactIdeal.Facts := Cert.DactIdeal.Gen.facts
local instance : Cert.DactRefIdeal.Facts := Cert.DactRefIdeal.Gen.facts

theorem frame : Cert.quiescent_Dact := fun m g _ => Cert.Dact.Gen.frame m g

theorem frameIdeal : Cert.quiescent_DactIdeal := fun m g _ => Cert.DactIdeal.Gen.frame m g

theorem frameRef : Cert.quiescent_DactRefIdeal := fun m g _ =>
  (θ_run Cert.DactRefIdeal.defs _ _).mono (fun r h => ⟨fun c => (h c).2, sem_eq_zero_of_no_sems (by decide) r.2⟩)
    (Cert.DactRefIdeal.Value.run m g)

theorem value : Cert.algebraic_DactIdeal_DactRefIdeal := fun m g m' g' _ hagree =>
  ⟨fun c => Cert.DactRefIdeal.Read.val_main_v15 (F := Ideal) (m ((c.tc : Thread Cert.DactIdeal.nD Cert.DactIdeal.τ).loc Cert.DactIdeal.main_arg0))
      (m ((c.tc : Thread Cert.DactIdeal.nD Cert.DactIdeal.τ).loc Cert.DactIdeal.main_arg1)) (m ((c.tc : Thread Cert.DactIdeal.nD Cert.DactIdeal.τ).loc Cert.DactIdeal.main_arg2)),
    (θ_run Cert.DactIdeal.defs _ _).mono (fun _ h c => ⟨(h c).1.trans (Cert.DactIdeal.Hand.final m c), (h c).2⟩)
      (Cert.DactIdeal.Value.run_blocks m g),
    (θ_run Cert.DactRefIdeal.defs _ _).mono (fun _ h c => ⟨(h c).1.trans (by
        rw [(hagree c).1, (hagree c).2.1, (hagree c).2.2]
        exact Cert.DactRefIdeal.Read.val_main_v15_eq _ _ _), (h c).2⟩)
      (Cert.DactRefIdeal.Value.run m' g')⟩

end Cert.DactClaims
-- ==== Proof.RealMath.lean ====
/-
  Real-number facts shared by the value claims. Where every input is a real number, so is every intermediate value, and an
  identity between two ways of writing a gradient is an identity of real numbers.
-/
module

public import Idealize.ShloMosaic.Lib.Pointwise
public import Idealize.ShloMosaic.Lib.IdealHost
public import Mathlib.Tactic.FieldSimp

@[expose] public section

noncomputable section

namespace Cert.RealMath

open Idealize.ShloMosaic

/-- An extended real that is a real number. -/
def Rl (x : EReal) : Prop := ∃ r : ℝ, x = (r : EReal)

theorem Rl.coe (r : ℝ) : Rl (r : EReal) := ⟨r, rfl⟩
theorem Rl.zero : Rl 0 := ⟨0, rfl⟩
theorem Rl.one : Rl 1 := ⟨1, rfl⟩
theorem Rl.mul {x y : EReal} : Rl x → Rl y → Rl (x * y) := by rintro ⟨a, rfl⟩ ⟨b, rfl⟩; exact ⟨a * b, by push_cast; rfl⟩
theorem Rl.add {x y : EReal} : Rl x → Rl y → Rl (x + y) := by rintro ⟨a, rfl⟩ ⟨b, rfl⟩; exact ⟨a + b, by push_cast; rfl⟩
theorem Rl.sub {x y : EReal} : Rl x → Rl y → Rl (x - y) := by rintro ⟨a, rfl⟩ ⟨b, rfl⟩; exact ⟨a - b, by push_cast; rfl⟩
theorem Rl.neg {x : EReal} : Rl x → Rl (-x) := by rintro ⟨a, rfl⟩; exact ⟨-a, by push_cast; rfl⟩

theorem coe_sum {ι : Type*} (s : Finset ι) (f : ι → ℝ) : ∑ i ∈ s, (f i : EReal) = ((∑ i ∈ s, f i : ℝ) : EReal) :=
  (map_sum (⟨⟨fun r : ℝ => (r : EReal), EReal.coe_zero⟩, EReal.coe_add⟩ : ℝ →+ EReal) f s).symm

theorem Rl.sum {ι : Type*} {s : Finset ι} {f : ι → EReal} (h : ∀ i, Rl (f i)) : Rl (∑ i ∈ s, f i) := by
  choose g hg using h
  exact ⟨∑ i ∈ s, g i, by simp only [hg, coe_sum]⟩

theorem Rl.of_lt {x : EReal} (h : ⊥ < x) (h' : x < ⊤) : Rl x := by
  induction x with
  | bot => exact absurd h (lt_irrefl _)
  | top => exact absurd h' (lt_irrefl _)
  | coe r => exact ⟨r, rfl⟩

theorem Rl.max {x y : EReal} : Rl x → Rl y → Rl (max x y) := by
  intro hx hy
  rcases max_choice x y with h | h <;> rw [h] <;> assumption

theorem Rl.exp {x : EReal} : Rl x → Rl (Ideal.exp x) := by rintro ⟨a, rfl⟩; exact ⟨Real.exp a, rfl⟩

theorem div_coe_coe (a b : ℝ) (hb : b ≠ 0) : Ideal.div (a : EReal) (b : EReal) = ((a / b : ℝ) : EReal) := by
  rw [Ideal.div_coe hb, ← EReal.coe_mul, mul_one_div]

theorem neg_inf : Ideal.ofBits .f32 0xFF800000#32 = ⊥ := by
  simp [Ideal.ofBits, Ideal.ieee]

theorem pos_inf : Ideal.ofBits .f32 0x7F800000#32 = ⊤ := by
  simp [Ideal.ofBits, Ideal.ieee]

/-- An f32 pattern whose exponent is not all ones denotes a real number. -/
theorem Rl.ofBits_f32 {b : BitVec 32} (h : (b.extractLsb' 23 8).toNat ≠ 255) : Rl (Ideal.ofBits .f32 b) := by
  show Rl (Ideal.ieee 8 23 b)
  unfold Ideal.ieee
  dsimp only
  rw [if_neg (by simpa using h)]
  split_ifs <;> exact ⟨_, rfl⟩

/-- The largest of finitely many real numbers, from minus infinity up, is a real number. -/
theorem Rl.fold_max {ι : Type*} [DecidableEq ι] {s : Finset ι} (hs : s.Nonempty) {f : ι → EReal} (h : ∀ i, Rl (f i)) :
    Rl (s.fold Max.max ⊥ f) := by
  obtain ⟨k, hk⟩ := hs
  refine Rl.of_lt ?_ ?_
  · obtain ⟨r, hr⟩ := h k
    exact lt_of_lt_of_le (EReal.bot_lt_coe r) ((Finset.le_fold_max _).mpr (Or.inr ⟨k, hk, hr.ge⟩))
  · refine (Finset.fold_max_lt _).mpr ⟨bot_lt_top, fun i _ => ?_⟩
    obtain ⟨r, hr⟩ := h i
    rw [hr]; exact EReal.coe_lt_top r

/-- The host's maximum along some axes of an array of real numbers is real, where the fibre has an element. -/
theorem Rl.reduce_max {s t u : Shape} {axes : List (Fin s.rank)} (x : FVec Ideal s .f32) (init : FVec Ideal u .f32)
    (h : s.ReducesTo axes t) (hu : 0 < u.numel) (hinit : ∀ i, init i = ⊥) (hx : ∀ i, Rl (x i)) (j : t.Idx) (i : s.Idx)
    (hi : h.drop i = j) : Rl (Host.reduce (FloatOps.maximumf : Ideal .f32 → Ideal .f32 → Ideal .f32) x init h hu j) := by
  have e : Host.reduce (FloatOps.maximumf : Ideal .f32 → Ideal .f32 → Ideal .f32) x init h hu j = Host.reduce (Max.max : EReal → EReal → EReal) x init h hu j := rfl
  rw [e, Host.reduce_eq_fold, hinit]
  exact Rl.fold_max ⟨i, by simp [hi]⟩ hx

section softmax
variable {n : Nat} (s : Fin n → EReal) (M M' : EReal)

/-- A row of the softmax, shifted by `M`. -/
def sm (j : Fin n) : EReal := Ideal.div (Ideal.exp (s j - M)) (∑ k, Ideal.exp (s k - M))

theorem sm_real {s : Fin n → EReal} {M : EReal} (hs : ∀ j, Rl (s j)) (hM : Rl M) (j : Fin n) : Rl (sm s M j) := by
  choose s' hs' using hs
  obtain ⟨μ, rfl⟩ := hM
  have hZ : (∑ k, Real.exp (s' k - μ)) ≠ 0 :=
    (Finset.sum_pos (fun k _ => Real.exp_pos _) ⟨j, Finset.mem_univ j⟩).ne'
  unfold sm
  simp only [hs', ← EReal.coe_sub, Ideal.exp_coe, coe_sum, div_coe_coe _ _ hZ]
  exact ⟨_, rfl⟩

/-- The softmax does not depend on the shift. -/
theorem sm_shift {s : Fin n → EReal} {M M' : EReal} (hs : ∀ j, Rl (s j)) (hM : Rl M) (hM' : Rl M') (j : Fin n) :
    sm s M j = sm s M' j := by
  choose s' hs' using hs
  obtain ⟨μ, rfl⟩ := hM
  obtain ⟨ν, rfl⟩ := hM'
  have hZ : ∀ μ : ℝ, (∑ k, Real.exp (s' k - μ)) ≠ 0 := fun μ =>
    (Finset.sum_pos (fun k _ => Real.exp_pos _) ⟨j, Finset.mem_univ j⟩).ne'
  unfold sm
  simp only [hs', ← EReal.coe_sub, Ideal.exp_coe, coe_sum, div_coe_coe _ _ (hZ _)]
  congr 1
  have e : ∀ k, Real.exp (s' k - μ) = Real.exp (s' k - ν) * Real.exp (ν - μ) := fun k => by
    rw [← Real.exp_add]; congr 1; ring
  simp only [e, ← Finset.sum_mul]
  rw [mul_div_mul_right _ _ (Real.exp_pos _).ne']

/-- The softmax's gradient as the kernel writes it, from the cotangent `d` of the softmax. -/
def smGrad (d : Fin n → EReal) (j : Fin n) : EReal := sm s M j * (d j - ∑ k, sm s M k * d k)

/-- The derivative of the softmax as the quotient rule writes it. -/
theorem smGrad_eq {s d : Fin n → EReal} {M M' : EReal} (hs : ∀ j, Rl (s j)) (hd : ∀ j, Rl (d j)) (hM : Rl M) (hM' : Rl M')
    (j : Fin n) :
    smGrad s M d j = (Ideal.div (d j) (∑ k, Ideal.exp (s k - M'))
      + -(∑ k, d k * Ideal.div 1 ((∑ i, Ideal.exp (s i - M')) * (∑ i, Ideal.exp (s i - M'))) * Ideal.exp (s k - M')))
      * Ideal.exp (s j - M') := by
  have e : ∀ k, sm s M k = sm s M' k := sm_shift hs hM hM'
  unfold smGrad
  simp only [e]
  choose s' hs' using hs
  choose d' hd' using hd
  obtain ⟨ν, rfl⟩ := hM'
  have hZ : (∑ k, Real.exp (s' k - ν)) ≠ 0 :=
    (Finset.sum_pos (fun k _ => Real.exp_pos _) ⟨j, Finset.mem_univ j⟩).ne'
  unfold sm
  simp only [hs', hd', ← EReal.coe_sub, Ideal.exp_coe, coe_sum, div_coe_coe _ _ hZ, ← EReal.coe_mul, ← EReal.coe_one,
    div_coe_coe _ _ (mul_ne_zero hZ hZ), ← EReal.coe_neg, ← EReal.coe_add]
  congr 1
  generalize (∑ k, Real.exp (s' k - ν)) = Z at hZ
  have e1 : ∑ k, Real.exp (s' k - ν) / Z * d' k = (∑ k, d' k * Real.exp (s' k - ν)) / Z := by
    rw [Finset.sum_div]; exact Finset.sum_congr rfl fun k _ => by ring
  have e2 : ∑ k, d' k * (1 / (Z * Z)) * Real.exp (s' k - ν) = (∑ k, d' k * Real.exp (s' k - ν)) / (Z * Z) := by
    rw [Finset.sum_div]; exact Finset.sum_congr rfl fun k _ => by ring
  rw [e1, e2]
  field_simp
  ring

end softmax

section unit_axes
variable {n1 n2 : Nat}

/-- The host's sum along the first and last of four axes, both of one element: the one element. -/
@[pointwise] theorem hostReduceAdd_r4_a03 (h : (⟨4, ![1, n1, n2, 1]⟩ : Shape).ReducesTo [0, 3] ⟨2, ![n1, n2]⟩)
    (v : (⟨4, ![1, n1, n2, 1]⟩ : Shape).Idx → EReal) (init : EReal) (a : Fin n1) (b : Fin n2) :
    Ideal.hostReduceAdd h v init (ix2 a b) = init + v (ix4 0 a b 0) := by
  refine congrArg (init + ·) ?_
  rw [Finset.sum_eq_single (ix4 0 a b 0)]
  · intro i hi hne
    refine absurd ?_ hne
    have e := (Finset.mem_filter.mp hi).2
    funext x; apply Fin.ext
    match x with
    | ⟨0, _⟩ => exact congrArg Fin.val (Subsingleton.elim (α := Fin 1) (i 0) 0)
    | ⟨1, _⟩ => exact congrArg Fin.val (congrFun e 0)
    | ⟨2, _⟩ => exact congrArg Fin.val (congrFun e 1)
    | ⟨3, _⟩ => exact congrArg Fin.val (Subsingleton.elim (α := Fin 1) (i 3) 0)
  · intro hn
    refine absurd (Finset.mem_filter.mpr ⟨Finset.mem_univ _, ?_⟩) hn
    funext x; apply Fin.ext
    match x with
    | ⟨0, _⟩ => rfl
    | ⟨1, _⟩ => rfl

end unit_axes

theorem Rl.of_words {x a b : EReal} (ha : a = ⊥) (hb : b = ⊤)
    (h : Ideal.cmp .ogt x a &&& Ideal.cmp .olt x b = 1#1) : Rl x := by
  rw [ha, hb] at h
  have e' : BitVec.ofBool (decide (⊥ < x)) &&& BitVec.ofBool (decide (x < ⊤)) = 1#1 := h
  refine Rl.of_lt ?_ ?_
  · by_contra hc
    rw [decide_eq_false hc] at e'
    revert e'
    cases decide (x < ⊤) <;> decide
  · by_contra hc
    rw [decide_eq_false hc] at e'
    revert e'
    cases decide (⊥ < x) <;> decide

/-- The words of a precondition that an array's elements lie strictly between the infinities: each is a real number. -/
theorem finite_of {s : Shape} (x : FVec Ideal s .f32) (hb : (⟨0, ![]⟩ : Shape).BroadcastsInDim s (![] : Fin 0 → Fin s.rank))
    (h : andi (cmpf .ogt x (broadcastInDim s ![] hb (constant ⟨0, ![]⟩ .f32 0xFF800000#32 : FVec Ideal ⟨0, ![]⟩ .f32)))
      (cmpf .olt x (broadcastInDim s ![] hb (constant ⟨0, ![]⟩ .f32 0x7F800000#32 : FVec Ideal ⟨0, ![]⟩ .f32))) = fun _ => 1#1) (i : s.Idx) : Rl (x i) :=
  Rl.of_words neg_inf pos_inf (congrFun h i)

theorem finite_of_bf16 {s : Shape} (x : FVec Ideal s .bf16) (hb : (⟨0, ![]⟩ : Shape).BroadcastsInDim s (![] : Fin 0 → Fin s.rank))
    (h : andi (cmpf .ogt x (broadcastInDim s ![] hb (constant ⟨0, ![]⟩ .bf16 0xFF80#16 : FVec Ideal ⟨0, ![]⟩ .bf16)))
      (cmpf .olt x (broadcastInDim s ![] hb (constant ⟨0, ![]⟩ .bf16 0x7F80#16 : FVec Ideal ⟨0, ![]⟩ .bf16))) = fun _ => 1#1) (i : s.Idx) : Rl (x i) :=
  Rl.of_words (a := Ideal.ofBits .bf16 0xFF80#16) (b := Ideal.ofBits .bf16 0x7F80#16)
    (by simp [Ideal.ofBits, Ideal.ieee]) (by simp [Ideal.ofBits, Ideal.ieee]) (congrFun h i)

end Cert.RealMath
-- ==== Proof.XattRow.lean ====
/-
  The attention into the memory tokens, row by row: what the kernel's body and the `jax.vjp` reference compute at an index,
  both read as the softmax of one row of scores and its gradient.
-/
module

public import proofs.«01_k».proof.Proof.Gen.XattIdeal.Value
public import proofs.«01_k».proof.Proof.Gen.XattRefIdeal.Read
public import proofs.«01_k».proof.Proof.RealMath

@[expose] public section

set_option maxRecDepth 16384

noncomputable section

namespace Cert.XattIdeal.Hand

open Cert.XattIdeal Cert.XattIdeal.Gen Idealize.ShloMosaic Idealize.ShloMosaic.TcCoe Cert.RealMath

/-- The scale of the scores. -/
def c : EReal := Ideal.ofBits .f32 0x3DB504F3#32

theorem c_real : Rl c := Rl.ofBits_f32 (by decide)

/-- One row's scores. -/
def sc (q : Fin 128 → EReal) (K : Fin 256 → Fin 128 → EReal) (j : Fin 256) : EReal := (∑ x, q x * K j x) * c

/-- The largest of a row. -/
def mx (s : Fin 256 → EReal) : EReal := Finset.fold max (Ideal.ofBits .f32 0xFF800000#32) s Finset.univ

/-- The cotangent of a row's softmax. -/
def dp (d : Fin 128 → EReal) (V : Fin 256 → Fin 128 → EReal) (j : Fin 256) : EReal := ∑ x, d x * V j x

/-- One row's softmax. -/
def pr (q : Fin 128 → EReal) (K : Fin 256 → Fin 128 → EReal) (j : Fin 256) : EReal := sm (sc q K) (mx (sc q K)) j

/-- The gradient at one row's scores, with the scale. -/
def ds (q : Fin 128 → EReal) (K : Fin 256 → Fin 128 → EReal) (d : Fin 128 → EReal) (V : Fin 256 → Fin 128 → EReal) (j : Fin 256) : EReal :=
  smGrad (sc q K) (mx (sc q K)) (dp d V) j * c

/-- The head of a column, and the column within it. -/
def hd (q : Fin 512) : Fin 4 := ⟨q.val / 128, by omega⟩
def lo (q : Fin 512) : Fin 128 := ⟨q.val % 128, by omega⟩

theorem hd_of {h : Fin 4} {x : Fin 128} {q : Fin 512} (e : q.val = h.val * 128 + x.val) : hd q = h ∧ lo q = x :=
  ⟨Fin.ext (by simp only [hd]; omega), Fin.ext (by simp only [lo]; omega)⟩

/-! ### The kernel's values -/

section kernel
variable (v1 : Vec Ideal S1024x128 .bf16) (v3 : Vec Ideal S256x128 .bf16) (v17 : Vec Ideal S1024x128 .f32) (v20 : Vec Ideal S256x128 .bf16)

theorem pay11_apply (r : Fin 1024) (l : Fin 256) :
    k0_pay11 v1 v3 (ix2 r l) = pr (fun x => v1 (ix2 r x)) (fun j x => v3 (ix2 j x)) l := by
  pointwise [k0_pay11, k0_pay9, k0_pay10, pr, sm, sc, mx, c]

theorem pay13_apply (r : Fin 1024) (l : Fin 256) :
    k0_pay13 v1 v3 v17 v20 (ix2 r l)
      = ds (fun x => v1 (ix2 r x)) (fun j x => v3 (ix2 j x)) (fun x => v17 (ix2 r x)) (fun j x => v20 (ix2 j x)) l := by
  have e : k0_pay13 v1 v3 v17 v20 (ix2 r l) = k0_pay11 v1 v3 (ix2 r l) * (dp (fun x => v17 (ix2 r x)) (fun j x => v20 (ix2 j x)) l
      - ∑ k, k0_pay11 v1 v3 (ix2 r k) * dp (fun x => v17 (ix2 r x)) (fun j x => v20 (ix2 j x)) k) * c := by
    pointwise [k0_pay13, k0_pay12, dp, c]
  rw [e]
  simp only [pay11_apply]
  rfl

theorem pay14_apply (r : Fin 1024) (d : Fin 128) :
    k0_pay14 v1 v3 v17 v20 (ix2 r d) = ∑ l : Fin 256, ds (fun x => v1 (ix2 r x)) (fun j x => v3 (ix2 j x)) (fun x => v17 (ix2 r x)) (fun j x => v20 (ix2 j x)) l * v3 (ix2 l d) := by
  have e : k0_pay14 v1 v3 v17 v20 (ix2 r d) = ∑ l : Fin 256, k0_pay13 v1 v3 v17 v20 (ix2 r l) * v3 (ix2 l d) := by
    pointwise [k0_pay14, k0_pay10]
  rw [e]
  simp only [pay13_apply]

theorem pay15_apply (l : Fin 256) (d : Fin 128) :
    k0_pay15 v1 v3 v17 v20 (ix2 l d) = ∑ r : Fin 1024, ds (fun x => v1 (ix2 r x)) (fun j x => v3 (ix2 j x)) (fun x => v17 (ix2 r x)) (fun j x => v20 (ix2 j x)) l * v1 (ix2 r d) := by
  have e : k0_pay15 v1 v3 v17 v20 (ix2 l d) = ∑ r : Fin 1024, k0_pay13 v1 v3 v17 v20 (ix2 r l) * v1 (ix2 r d) := by
    pointwise [k0_pay15, k0_pay9]
  rw [e]
  simp only [pay13_apply]

theorem pay25_apply (l : Fin 256) (d : Fin 128) :
    k0_pay25 v1 v3 v17 (ix2 l d) = ∑ r : Fin 1024, pr (fun x => v1 (ix2 r x)) (fun j x => v3 (ix2 j x)) l * v17 (ix2 r d) := by
  have e : k0_pay25 v1 v3 v17 (ix2 l d) = ∑ r : Fin 1024, k0_pay20 v1 v3 (ix2 r l) * v17 (ix2 r d) := by
    pointwise [k0_pay25, k0_pay21]
  rw [e]
  have h : @k0_pay20 Ideal _ = @k0_pay11 Ideal _ := rfl
  simp only [h, pay11_apply]

theorem pay17_eq : k0_pay17 (k0_pay12 v17) (k0_pay16 v1 v3) (constant S256x128 .f32 0x00000000#32) = k0_pay25 v1 v3 v17 := rfl
theorem pay23_eq : @k0_pay23 Ideal _ = @k0_pay14 Ideal _ := rfl
theorem pay31_eq : @k0_pay31 Ideal _ = @k0_pay14 Ideal _ := rfl
theorem pay39_eq : @k0_pay39 Ideal _ = @k0_pay14 Ideal _ := rfl
theorem pay24_eq : @k0_pay24 Ideal _ = @k0_pay15 Ideal _ := rfl
theorem pay32_eq : @k0_pay32 Ideal _ = @k0_pay15 Ideal _ := rfl
theorem pay40_eq : @k0_pay40 Ideal _ = @k0_pay15 Ideal _ := rfl
theorem pay33_eq : @k0_pay33 Ideal _ = @k0_pay25 Ideal _ := rfl
theorem pay41_eq : @k0_pay41 Ideal _ = @k0_pay25 Ideal _ := rfl
theorem pay3_eq : @k0_pay3 Ideal _ = @k0_pay2 Ideal _ := rfl
theorem pay4_eq : @k0_pay4 Ideal _ = @k0_pay2 Ideal _ := rfl
theorem pay5_eq : @k0_pay5 Ideal _ = @k0_pay2 Ideal _ := rfl
theorem pay6_eq : @k0_pay6 Ideal _ = @k0_pay2 Ideal _ := rfl
theorem pay7_eq : @k0_pay7 Ideal _ = @k0_pay2 Ideal _ := rfl
theorem pay1_eq (a b : Vec Ideal S256x128 .f32) : k0_pay1 a b = k0_pay2 a b := rfl

theorem pay2_apply (a b : Vec Ideal S256x128 .f32) (l : Fin 256) (d : Fin 128) : k0_pay2 a b (ix2 l d) = b (ix2 l d) + a (ix2 l d) := by
  pointwise [k0_pay2]

end kernel

end Cert.XattIdeal.Hand
-- ==== Proof.XattRefRow.lean ====
/-
  The `jax.vjp` reference of the attention into the memory tokens, read at an index.
-/
module

public import proofs.«01_k».proof.Proof.XattRow

@[expose] public section

set_option maxRecDepth 16384

noncomputable section

namespace Cert.XattIdeal.Hand

open Cert.XattIdeal Cert.XattIdeal.Gen Idealize.ShloMosaic Idealize.ShloMosaic.TcCoe Cert.RealMath
open Cert.XattRefIdeal.Read

variable (x0 : FVec Ideal S1x16384x6680 .f32) (x1 : FVec Ideal S1x256x1024 .f32) (x2 : FVec Ideal S1x16384x512 .f32) (x3 : FVec Ideal S16384x8192 .bf16)

/-- A row's queries, a head's keys and values, a row's cotangent. -/
def rq (h : Fin 4) (R : Fin 16384) (x : Fin 128) : EReal := x0 (ix3 0 R ⟨3096 + (h.val * 128 + x.val), by omega⟩)
def hk (h : Fin 4) (j : Fin 256) (x : Fin 128) : EReal := x1 (ix3 0 j ⟨h.val * 128 + x.val, by omega⟩)
def hv (h : Fin 4) (j : Fin 256) (x : Fin 128) : EReal := x1 (ix3 0 j ⟨512 + (h.val * 128 + x.val), by omega⟩)
def rd (h : Fin 4) (R : Fin 16384) (x : Fin 128) : EReal := x2 (ix3 0 R ⟨h.val * 128 + x.val, by omega⟩)

theorem v3_apply (h : Fin 4) (R : Fin 16384) (x : Fin 128) : val_main_v3 (F := Ideal) x0 (ix4 0 R h x) = rq x0 h R x := by
  pointwise [val_main_v3, val_main_v0, rq]

theorem v4_apply (h : Fin 4) (j : Fin 256) (x : Fin 128) : val_main_v4 (F := Ideal) x1 (ix4 0 j h x) = hk x1 h j x := by
  pointwise [val_main_v4, val_main_v1, hk]

theorem v5_apply (h : Fin 4) (j : Fin 256) (x : Fin 128) : val_main_v5 (F := Ideal) x1 (ix4 0 j h x) = hv x1 h j x := by
  pointwise [val_main_v5, val_main_v2, hv]

theorem v41_apply (h : Fin 4) (R : Fin 16384) (x : Fin 128) : val_main_v41 (F := Ideal) x2 (ix4 0 h x R) = rd x2 h R x := by
  pointwise [val_main_v41, val_main_v40, rd]

theorem v8_apply (h : Fin 4) (R : Fin 16384) (j : Fin 256) : val_main_v8 (F := Ideal) x0 x1 (ix4 0 h R j) = sc (rq x0 h R) (hk x1 h) j := by
  have e : val_main_v8 (F := Ideal) x0 x1 (ix4 0 h R j) = (∑ x : Fin 128, val_main_v3 (F := Ideal) x0 (ix4 0 R h x) * val_main_v4 (F := Ideal) x1 (ix4 0 j h x)) * c := by
    pointwise [val_main_v8, val_main_v7, val_main_cst, val_main_v6, c]
  rw [e]
  simp only [v3_apply, v4_apply]
  rfl

theorem v42_apply (h : Fin 4) (R : Fin 16384) (j : Fin 256) : val_main_v42 (F := Ideal) x1 x2 (ix4 0 h R j) = dp (rd x2 h R) (hv x1 h) j := by
  have e : val_main_v42 (F := Ideal) x1 x2 (ix4 0 h R j) = ∑ x : Fin 128, val_main_v41 (F := Ideal) x2 (ix4 0 h x R) * val_main_v5 (F := Ideal) x1 (ix4 0 j h x) := by
    pointwise [val_main_v42]
  rw [e]
  simp only [v41_apply, v5_apply]
  rfl

/-- The reference's shift of a row. -/
def shift (h : Fin 4) (R : Fin 16384) : EReal := val_main_v16 (F := Ideal) x0 x1 (ix3 0 h R)

theorem v29_apply (h : Fin 4) (R : Fin 16384) (j : Fin 256) :
    val_main_v29 (F := Ideal) x0 x1 (ix4 0 h R j) = Ideal.exp (sc (rq x0 h R) (hk x1 h) j - shift x0 x1 h R) := by
  have e : val_main_v29 (F := Ideal) x0 x1 (ix4 0 h R j) = Ideal.exp (val_main_v8 (F := Ideal) x0 x1 (ix4 0 h R j) - shift x0 x1 h R) := by
    pointwise [val_main_v29, val_main_v28, val_main_v27, val_main_v26, shift]
  rw [e, v8_apply]

theorem v31_apply (h : Fin 4) (R : Fin 16384) :
    val_main_v31 (F := Ideal) x0 x1 (ix4 0 h R 0) = ∑ j, Ideal.exp (sc (rq x0 h R) (hk x1 h) j - shift x0 x1 h R) := by
  have e : val_main_v31 (F := Ideal) x0 x1 (ix4 0 h R 0) = 0 + ∑ j, val_main_v29 (F := Ideal) x0 x1 (ix4 0 h R j) := by
    pointwise [val_main_v31, val_main_v30, val_main_cst_8]
  rw [e, zero_add]
  simp only [v29_apply]

theorem v33_apply (h : Fin 4) (R : Fin 16384) (j : Fin 256) :
    val_main_v33 (F := Ideal) x0 x1 (ix4 0 h R j) = sm (sc (rq x0 h R) (hk x1 h)) (shift x0 x1 h R) j := by
  have e : val_main_v33 (F := Ideal) x0 x1 (ix4 0 h R j) = Ideal.div (val_main_v29 (F := Ideal) x0 x1 (ix4 0 h R j)) (val_main_v31 (F := Ideal) x0 x1 (ix4 0 h R 0)) := by
    pointwise [val_main_v33, val_main_v32]
  rw [e, v29_apply, v31_apply]
  rfl

theorem v36_apply (h : Fin 4) (R : Fin 16384) :
    val_main_v36 (F := Ideal) x0 x1 (ix4 0 h R 0) = Ideal.div 1 (val_main_v31 (F := Ideal) x0 x1 (ix4 0 h R 0) * val_main_v31 (F := Ideal) x0 x1 (ix4 0 h R 0)) := by
  pointwise [val_main_v36, val_main_v35, val_main_v34, val_main_cst_9]

theorem v53_apply (h : Fin 4) (R : Fin 16384) :
    val_main_v53 (F := Ideal) x0 x1 x2 (ix2 h R) = -(∑ j, val_main_v42 (F := Ideal) x1 x2 (ix4 0 h R j) * val_main_v36 (F := Ideal) x0 x1 (ix4 0 h R 0) * val_main_v29 (F := Ideal) x0 x1 (ix4 0 h R j)) := by
  have e1 : val_main_v53 (F := Ideal) x0 x1 x2 (ix2 h R) = 0 + val_main_v50 (F := Ideal) x0 x1 x2 (ix4 0 h R 0) := by
    pointwise [val_main_v53, val_main_cst_11]
  have e2 : val_main_v50 (F := Ideal) x0 x1 x2 (ix4 0 h R 0) = -(0 + ∑ j, val_main_v42 (F := Ideal) x1 x2 (ix4 0 h R j) * val_main_v36 (F := Ideal) x0 x1 (ix4 0 h R 0) * val_main_v29 (F := Ideal) x0 x1 (ix4 0 h R j)) := by
    pointwise [val_main_v50, val_main_v49, val_main_v48, val_main_v47, val_main_v46, val_main_v45, val_main_cst_10]
  rw [e1, e2, zero_add, zero_add]

theorem v59_apply (h : Fin 4) (R : Fin 16384) (j : Fin 256) :
    val_main_v59 (F := Ideal) x0 x1 x2 (ix4 0 h R j) = (Ideal.div (val_main_v42 (F := Ideal) x1 x2 (ix4 0 h R j)) (val_main_v31 (F := Ideal) x0 x1 (ix4 0 h R 0))
      + val_main_v53 (F := Ideal) x0 x1 x2 (ix2 h R)) * val_main_v29 (F := Ideal) x0 x1 (ix4 0 h R j) * c := by
  pointwise [val_main_v59, val_main_v58, val_main_v57, val_main_v56, val_main_v55, val_main_v54, val_main_v52, val_main_v51, val_main_cst_12, c]

section real
variable {x0 x1 x2}
variable (h0 : ∀ i, Rl (x0 i)) (h1 : ∀ i, Rl (x1 i)) (h2 : ∀ i, Rl (x2 i))
include h0 h1

theorem sc_real (h : Fin 4) (R : Fin 16384) (j : Fin 256) : Rl (sc (rq x0 h R) (hk x1 h) j) :=
  (Rl.sum fun x => (h0 _).mul (h1 _)).mul c_real

theorem mx_real (h : Fin 4) (R : Fin 16384) : Rl (mx (sc (rq x0 h R) (hk x1 h))) := by
  unfold mx
  rw [neg_inf]
  exact Rl.fold_max ⟨0, Finset.mem_univ _⟩ (sc_real h0 h1 h R)

theorem shift_real (h : Fin 4) (R : Fin 16384) : Rl (shift x0 x1 h R) := by
  have e : shift x0 x1 h R = max (Ideal.ofBits .f32 0xFF800000#32) (val_main_v9 (F := Ideal) x0 x1 (ix3 0 h R)) := by
    unfold shift
    rw [val_main_v16_apply, val_main_v15_apply, val_main_cst_2_apply]
    rfl
  rw [e, neg_inf, max_eq_right bot_le]
  unfold val_main_v9
  refine Rl.reduce_max _ _ _ _ (fun i => ?_) (fun i => ?_) _ (ix4 0 h R 0) ?_
  · rw [val_main_cst_0_apply]; exact neg_inf
  · obtain ⟨a, b, d, e, rfl⟩ : ∃ (a : Fin 1) (b : Fin 4) (d : Fin 16384) (e : Fin 256), i = ix4 a b d e := ⟨i 0, i 1, i 2, i 3, (ix4_eta i).symm⟩
    rw [Subsingleton.elim a 0, v8_apply]
    exact sc_real h0 h1 b d e
  · funext a; apply Fin.ext
    match a with
    | ⟨0, _⟩ => rfl
    | ⟨1, _⟩ => rfl
    | ⟨2, _⟩ => rfl

theorem v33_eq (h : Fin 4) (R : Fin 16384) (j : Fin 256) : val_main_v33 (F := Ideal) x0 x1 (ix4 0 h R j) = pr (rq x0 h R) (hk x1 h) j := by
  rw [v33_apply]
  exact sm_shift (sc_real h0 h1 h R) (shift_real h0 h1 h R) (mx_real h0 h1 h R) j

include h2

theorem dp_real (h : Fin 4) (R : Fin 16384) (j : Fin 256) : Rl (dp (rd x2 h R) (hv x1 h) j) :=
  Rl.sum fun x => (h2 _).mul (h1 _)

theorem v59_eq (h : Fin 4) (R : Fin 16384) (j : Fin 256) :
    val_main_v59 (F := Ideal) x0 x1 x2 (ix4 0 h R j) = ds (rq x0 h R) (hk x1 h) (rd x2 h R) (hv x1 h) j := by
  rw [v59_apply, v53_apply]
  simp only [v36_apply, v31_apply, v29_apply, v42_apply]
  unfold ds
  rw [smGrad_eq (sc_real h0 h1 h R) (dp_real h0 h1 h2 h R) (mx_real h0 h1 h R) (shift_real h0 h1 h R) j]

end real

theorem v70_apply (R : Fin 16384) (q : Fin 512) : val_main_v70 (F := Ideal) x0 x1 x2 (ix2 R q)
    = ∑ l : Fin 256, val_main_v59 (F := Ideal) x0 x1 x2 (ix4 0 (hd q) R l) * val_main_v4 (F := Ideal) x1 (ix4 0 l (hd q) (lo q)) := by
  pointwise [val_main_v70, val_main_v69, val_main_v66, val_main_v63, val_main_v62, hd, lo]

theorem v73_key (j : Fin 256) (q : Fin 512) : val_main_v73 (F := Ideal) x0 x1 x2 (ix2 j ⟨q.val, by omega⟩)
    = ∑ R : Fin 16384, val_main_v59 (F := Ideal) x0 x1 x2 (ix4 0 (hd q) R j) * val_main_v3 (F := Ideal) x0 (ix4 0 R (hd q) (lo q)) := by
  pointwise [val_main_v73, val_main_v67, val_main_v65, val_main_v61, val_main_v60, hd, lo]

theorem v73_val (j : Fin 256) (q : Fin 512) : val_main_v73 (F := Ideal) x0 x1 x2 (ix2 j ⟨512 + q.val, by omega⟩)
    = ∑ R : Fin 16384, val_main_v41 (F := Ideal) x2 (ix4 0 (hd q) (lo q) R) * val_main_v33 (F := Ideal) x0 x1 (ix4 0 (hd q) R j) := by
  pointwise [val_main_v73, val_main_v67, val_main_v64, val_main_v44, val_main_v43, hd, lo]

theorem v72_apply (R : Fin 16384) (q : Fin 8192) : val_main_v72 (F := Ideal) x0 x1 x2 x3 (ix2 R q)
    = if q.val < 2560 then x3 (ix2 R q) else if h : q.val - 2560 < 512 then val_main_v70 (F := Ideal) x0 x1 x2 (ix2 R ⟨q.val - 2560, h⟩) else x3 (ix2 R q) := by
  have e : val_main_v72 (F := Ideal) x0 x1 x2 x3 (ix2 R q)
      = if h : q.val < 2560 then x3 (ix2 R ⟨q.val, by omega⟩) else if h : q.val - 2560 < 512 then val_main_v70 (F := Ideal) x0 x1 x2 (ix2 R ⟨q.val - 2560, h⟩) else x3 (ix2 R ⟨3072 + (q.val - 2560 - 512), by omega⟩) := by
    pointwise [val_main_v72, val_main_v71, val_main_v68]
  rw [e]
  split
  · rfl
  · split
    · rfl
    · congr 2
      exact Fin.ext (by dsimp only; omega)

theorem v72_out (R : Fin 16384) (q : Fin 8192) (hq : ¬(2560 ≤ q.val ∧ q.val < 3072)) : val_main_v72 (F := Ideal) x0 x1 x2 x3 (ix2 R q) = x3 (ix2 R q) := by
  rw [v72_apply]
  split
  · rfl
  · rw [dif_neg (by omega)]

theorem v72_in (R : Fin 16384) (q : Fin 512) : val_main_v72 (F := Ideal) x0 x1 x2 x3 (ix2 R ⟨2560 + q.val, by omega⟩) = val_main_v70 (F := Ideal) x0 x1 x2 (ix2 R q) := by
  rw [v72_apply, if_neg (by dsimp only; omega), dif_pos (by dsimp only; omega)]
  congr 2
  exact Fin.ext (by dsimp only; omega)

/-- One token's term of the gradient at the keys and values. -/
def term73 (j : Fin 256) (q : Fin 1024) (R : Fin 16384) : EReal :=
  if h : q.val < 512 then
    ds (rq x0 (hd ⟨q.val, h⟩) R) (hk x1 (hd ⟨q.val, h⟩)) (rd x2 (hd ⟨q.val, h⟩) R) (hv x1 (hd ⟨q.val, h⟩)) j * rq x0 (hd ⟨q.val, h⟩) R (lo ⟨q.val, h⟩)
  else pr (rq x0 (hd ⟨q.val - 512, by omega⟩) R) (hk x1 (hd ⟨q.val - 512, by omega⟩)) j * rd x2 (hd ⟨q.val - 512, by omega⟩) R (lo ⟨q.val - 512, by omega⟩)

section real
variable {x0 x1 x2}
variable (h0 : ∀ i, Rl (x0 i)) (h1 : ∀ i, Rl (x1 i)) (h2 : ∀ i, Rl (x2 i))
include h0 h1 h2

theorem v70_eq (R : Fin 16384) (q : Fin 512) : val_main_v70 (F := Ideal) x0 x1 x2 (ix2 R q)
    = ∑ l, ds (rq x0 (hd q) R) (hk x1 (hd q)) (rd x2 (hd q) R) (hv x1 (hd q)) l * hk x1 (hd q) l (lo q) := by
  rw [v70_apply]
  simp only [v59_eq h0 h1 h2, v4_apply]

theorem v73_eq (j : Fin 256) (q : Fin 1024) : val_main_v73 (F := Ideal) x0 x1 x2 (ix2 j q) = ∑ R, term73 x0 x1 x2 j q R := by
  unfold term73
  by_cases hq : q.val < 512
  · simp only [dif_pos hq]
    refine (v73_key x0 x1 x2 j ⟨q.val, hq⟩).trans ?_
    simp only [v59_eq h0 h1 h2, v3_apply]
  · simp only [dif_neg hq]
    have e : q = ⟨512 + (⟨q.val - 512, by omega⟩ : Fin 512).val, by dsimp only; omega⟩ := Fin.ext (by dsimp only; omega)
    refine (congrArg (fun q => val_main_v73 (F := Ideal) x0 x1 x2 (ix2 j q)) e).trans ((v73_val x0 x1 x2 j ⟨q.val - 512, by omega⟩).trans ?_)
    simp only [v33_eq h0 h1, v41_apply, mul_comm]

end real

end Cert.XattIdeal.Hand
-- ==== Proof.XattVal.lean ====
/-
  The attention into the memory tokens: the arrays the kernel leaves, element by element.
-/
module

public import proofs.«01_k».proof.Proof.XattRefRow
public import Idealize.ShloMosaic.Lib.Claim
public import Idealize.ShloMosaic.Lib.Pipeline.ValueKit.Acc

@[expose] public section

set_option maxRecDepth 16384

noncomputable section

namespace Cert.XattIdeal.Hand

open Cert.XattIdeal Cert.XattIdeal.Gen Idealize.ShloMosaic Idealize.ShloMosaic.TcCoe Idealize.SL.Sem Cert.RealMath
open Idealize.ShloMosaic.Pipeline (Dat)

/-! ### The body's stores, head by head -/

section block
variable (x0 : Vec Ideal S1024x512 .bf16) (x1 : Vec Ideal S256x1024 .bf16) (x2 : Vec Ideal S1024x512 .f32)

/-- A block row's queries, a head's keys and values, a block row's cotangent. -/
def bq (h : Fin 4) (r : Fin 1024) (x : Fin 128) : EReal := x0 (ix2 r ⟨h.val * 128 + x.val, by omega⟩)
def bk (h : Fin 4) (j : Fin 256) (x : Fin 128) : EReal := x1 (ix2 j ⟨h.val * 128 + x.val, by omega⟩)
def bv (h : Fin 4) (j : Fin 256) (x : Fin 128) : EReal := x1 (ix2 j ⟨512 + (h.val * 128 + x.val), by omega⟩)
def bd (h : Fin 4) (r : Fin 1024) (x : Fin 128) : EReal := x2 (ix2 r ⟨h.val * 128 + x.val, by omega⟩)

/-- The gradient at the queries, on a block. -/
def Q (r : Fin 1024) (q : Fin 512) : EReal :=
  ∑ l, ds (bq x0 (hd q) r) (bk x1 (hd q)) (bd x2 (hd q) r) (bv x1 (hd q)) l * bk x1 (hd q) l (lo q)

/-- One point's part of the gradient at the keys and at the values. -/
def TK (j : Fin 256) (q : Fin 512) : EReal :=
  ∑ r, ds (bq x0 (hd q) r) (bk x1 (hd q)) (bd x2 (hd q) r) (bv x1 (hd q)) j * bq x0 (hd q) r (lo q)
def TV (j : Fin 256) (q : Fin 512) : EReal :=
  ∑ r, pr (bq x0 (hd q) r) (bk x1 (hd q)) j * bd x2 (hd q) r (lo q)

def T (i : S256x1024.Idx) : EReal :=
  if h : (i 1).val < 512 then TK x0 x1 x2 (i 0) ⟨(i 1).val, h⟩ else TV x0 x1 x2 (i 0) ⟨(i 1).val - 512, by have : (i 1).val < 1024 := (i 1).isLt; omega⟩

variable {o o' : Nat} (h : Fin 4) (ho : o = h.val * 128) (ho' : o' = 512 + h.val * 128)
variable (i0 : ∀ a, (![0, o] : Fin 2 → Nat) a + (![1024, 128] : Fin 2 → Nat) a ≤ S1024x512.size a)
variable (i1 : ∀ a, (![0, o] : Fin 2 → Nat) a + (![256, 128] : Fin 2 → Nat) a ≤ S256x1024.size a)
variable (i1' : ∀ a, (![0, o'] : Fin 2 → Nat) a + (![256, 128] : Fin 2 → Nat) a ≤ S256x1024.size a)
include ho

theorem ldq (r : Fin 1024) (x : Fin 128) : View.ld x0 (Rect.unit ![0, o] ![1024, 128] i0) (ix2 r x) = bq x0 h r x := by
  show x0 _ = x0 _
  congr 1
  funext a
  apply Fin.ext
  match a with
  | ⟨0, _⟩ => show 0 + 1 * r.val = r.val; omega
  | ⟨1, _⟩ => show o + 1 * x.val = h.val * 128 + x.val; omega

theorem ldd (r : Fin 1024) (x : Fin 128) : View.ld x2 (Rect.unit ![0, o] ![1024, 128] i0) (ix2 r x) = bd x2 h r x := ldq x2 h ho i0 r x

theorem ldk (r : Fin 256) (x : Fin 128) : View.ld x1 (Rect.unit ![0, o] ![256, 128] i1) (ix2 r x) = bk x1 h r x := by
  show x1 _ = x1 _
  congr 1
  funext a
  apply Fin.ext
  match a with
  | ⟨0, _⟩ => show 0 + 1 * r.val = r.val; omega
  | ⟨1, _⟩ => show o + 1 * x.val = h.val * 128 + x.val; omega

include ho'
omit ho
theorem ldv (r : Fin 256) (x : Fin 128) : View.ld x1 (Rect.unit ![0, o'] ![256, 128] i1') (ix2 r x) = bv x1 h r x := by
  show x1 _ = x1 _
  congr 1
  funext a
  apply Fin.ext
  match a with
  | ⟨0, _⟩ => show 0 + 1 * r.val = r.val; omega
  | ⟨1, _⟩ => show o' + 1 * x.val = 512 + (h.val * 128 + x.val); omega

include ho
theorem pieceQ (x : S1024x128.Idx) :
    k0_pay14 (View.ld x0 (Rect.unit ![0, o] ![1024, 128] i0)) (View.ld x1 (Rect.unit ![0, o] ![256, 128] i1)) (View.ld x2 (Rect.unit ![0, o] ![1024, 128] i0))
        (View.ld x1 (Rect.unit ![0, o'] ![256, 128] i1')) x
      = (fun i : S1024x512.Idx => Q x0 x1 x2 (i 0) (i 1)) ((Rect.unit (s := S1024x512) ![0, o] ![1024, 128] i0).emb x) := by
  obtain ⟨r, d, rfl⟩ : ∃ (r : Fin 1024) (d : Fin 128), x = ix2 r d := ⟨x 0, x 1, (ix2_eta x).symm⟩
  have er : (Rect.unit (s := S1024x512) ![0, o] ![1024, 128] i0).emb (ix2 r d) 0 = r := Fin.ext (by show 0 + 1 * r.val = r.val; omega)
  obtain ⟨e1, e2⟩ := hd_of (h := h) (x := d) (q := (Rect.unit (s := S1024x512) ![0, o] ![1024, 128] i0).emb (ix2 r d) 1) (by show o + 1 * d.val = _; omega)
  dsimp only
  rw [pay14_apply, er]
  unfold Q
  rw [e1, e2]
  simp only [ldq x0 h ho, ldd x2 h ho, ldk x1 h ho, ldv x1 h ho']

theorem pieceK (x : S256x128.Idx) :
    k0_pay15 (View.ld x0 (Rect.unit ![0, o] ![1024, 128] i0)) (View.ld x1 (Rect.unit ![0, o] ![256, 128] i1)) (View.ld x2 (Rect.unit ![0, o] ![1024, 128] i0))
        (View.ld x1 (Rect.unit ![0, o'] ![256, 128] i1')) x
      = T x0 x1 x2 ((Rect.unit (s := S256x1024) ![0, o] ![256, 128] i1).emb x) := by
  obtain ⟨r, d, rfl⟩ : ∃ (r : Fin 256) (d : Fin 128), x = ix2 r d := ⟨x 0, x 1, (ix2_eta x).symm⟩
  have er : (Rect.unit (s := S256x1024) ![0, o] ![256, 128] i1).emb (ix2 r d) 0 = r := Fin.ext (by show 0 + 1 * r.val = r.val; omega)
  have ec : ((Rect.unit (s := S256x1024) ![0, o] ![256, 128] i1).emb (ix2 r d) 1).val = h.val * 128 + d.val := by show o + 1 * d.val = _; omega
  unfold T
  rw [dif_pos (by rw [ec]; omega), er, pay15_apply]
  obtain ⟨e1, e2⟩ := hd_of (h := h) (x := d) (q := ⟨((Rect.unit (s := S256x1024) ![0, o] ![256, 128] i1).emb (ix2 r d) 1).val, by rw [ec]; omega⟩) ec
  unfold TK
  rw [e1, e2]
  simp only [ldq x0 h ho, ldd x2 h ho, ldk x1 h ho, ldv x1 h ho']

theorem pieceV (x : S256x128.Idx) :
    k0_pay25 (View.ld x0 (Rect.unit ![0, o] ![1024, 128] i0)) (View.ld x1 (Rect.unit ![0, o] ![256, 128] i1)) (View.ld x2 (Rect.unit ![0, o] ![1024, 128] i0)) x
      = T x0 x1 x2 ((Rect.unit (s := S256x1024) ![0, o'] ![256, 128] i1').emb x) := by
  obtain ⟨r, d, rfl⟩ : ∃ (r : Fin 256) (d : Fin 128), x = ix2 r d := ⟨x 0, x 1, (ix2_eta x).symm⟩
  have er : (Rect.unit (s := S256x1024) ![0, o'] ![256, 128] i1').emb (ix2 r d) 0 = r := Fin.ext (by show 0 + 1 * r.val = r.val; omega)
  have ec : ((Rect.unit (s := S256x1024) ![0, o'] ![256, 128] i1').emb (ix2 r d) 1).val = 512 + (h.val * 128 + d.val) := by show o' + 1 * d.val = _; omega
  unfold T
  rw [dif_neg (by rw [ec]; omega), er, pay25_apply]
  obtain ⟨e1, e2⟩ := hd_of (h := h) (x := d) (q := ⟨((Rect.unit (s := S256x1024) ![0, o'] ![256, 128] i1').emb (ix2 r d) 1).val - 512, by rw [ec]; omega⟩) (by dsimp only; omega)
  unfold TV
  rw [e1, e2]
  simp only [ldq x0 h ho, ldd x2 h ho, ldk x1 h ho]

omit ho ho' in
/-- A step of the accumulation adds a piece to what stands. -/
theorem pieceAdd {a : Vec Ideal S256x128 .f32} {X : Vec Ideal S256x1024 .f32} {G : S256x1024.Idx → EReal}
    (ha : ∀ x, a x = G ((Rect.unit (s := S256x1024) ![0, o] ![256, 128] i1).emb x)) (x : S256x128.Idx) :
    k0_pay2 a (View.ld X (Rect.unit ![0, o] ![256, 128] i1)) x
      = (fun i => X i + G i) ((Rect.unit (s := S256x1024) ![0, o] ![256, 128] i1).emb x) := by
  obtain ⟨r, d, rfl⟩ : ∃ (r : Fin 256) (d : Fin 128), x = ix2 r d := ⟨x 0, x 1, (ix2_eta x).symm⟩
  rw [pay2_apply, ha]
  rfl

end block

/-! ### The run's contents -/

variable (m : (ℓ : Loc nD τ sig) → Buf (Elt Ideal) ℓ)

theorem memQ {o : Nat} (i0 : ∀ a, (![0, o] : Fin 2 → Nat) a + (![1024, 128] : Fin 2 → Nat) a ≤ S1024x512.size a) (y : S1024x512.Idx)
    (hy : o ≤ (y 1).val ∧ (y 1).val < o + 128) : y ∈ (Rect.unit (s := S1024x512) ![0, o] ![1024, 128] i0).set := by
  rw [Rect.mem_set_unit]
  intro a
  match a with
  | ⟨0, _⟩ => exact ⟨Nat.zero_le _, lt_of_lt_of_eq (y 0).isLt (by rfl)⟩
  | ⟨1, _⟩ => exact hy

theorem memT {o : Nat} (i0 : ∀ a, (![0, o] : Fin 2 → Nat) a + (![256, 128] : Fin 2 → Nat) a ≤ S256x1024.size a) (y : S256x1024.Idx)
    (hy : o ≤ (y 1).val ∧ (y 1).val < o + 128) : y ∈ (Rect.unit (s := S256x1024) ![0, o] ![256, 128] i0).set := by
  rw [Rect.mem_set_unit]
  intro a
  match a with
  | ⟨0, _⟩ => exact ⟨Nat.zero_le _, lt_of_lt_of_eq (y 0).isLt (by rfl)⟩
  | ⟨1, _⟩ => exact hy

open List.Mem in
theorem outQ (c : Dev nD) (t : Fin cfg0.N) (y : S1024x512.Idx) :
    (outsAt0 m c t.val t.isLt).1 y = Q (iblk m c 0 t) (iblk m c 1 t) (iblk m c 2 t) (y 0) (y 1) := by
  have ht : t.val < 16 := lt_of_lt_of_eq t.isLt N_0
  have hy : (y 1).val < 512 := (y 1).isLt
  have hc : (y 1).val < 128 ∨ (128 ≤ (y 1).val ∧ (y 1).val < 256) ∨ (256 ≤ (y 1).val ∧ (y 1).val < 384) ∨ 384 ≤ (y 1).val := by omega
  by_cases h0 : t.val % 16 = 0
  all_goals
    first
    | rw [outsAt0_A m c t h0 (by omega)]
    | rw [outsAt0_B m c t h0 (by omega)]
    dsimp only
    frame_out
    refine View.canon_apply_of_pieces (Val := Elt Ideal) (S := S1024x512) (e := .bf16) (fun i => Q (iblk m c 0 t) (iblk m c 1 t) (iblk m c 2 t) (i 0) (i 1)) _ ?_ y ?_
    · intro p hp
      simp only [List.mem_cons, List.not_mem_nil, or_false] at hp
      rcases hp with rfl | rfl | rfl | rfl
      · exact pieceQ _ _ _ (o := 384) (o' := 896) 3 rfl rfl inb_S1024x512_S1024x128_0_384 inb_S256x1024_S256x128_0_384 inb_S256x1024_S256x128_0_896
      · exact pieceQ _ _ _ (o := 256) (o' := 768) 2 rfl rfl inb_S1024x512_S1024x128_0_256 inb_S256x1024_S256x128_0_256 inb_S256x1024_S256x128_0_768
      · exact pieceQ _ _ _ (o := 128) (o' := 640) 1 rfl rfl inb_S1024x512_S1024x128_0_128 inb_S256x1024_S256x128_0_128 inb_S256x1024_S256x128_0_640
      · exact pieceQ _ _ _ (o := 0) (o' := 512) 0 rfl rfl inb_S1024x512_S1024x128_0_0 inb_S256x1024_S256x128_0_0 inb_S256x1024_S256x128_0_512
    · rcases hc with h | h | h | h
      · exact ⟨_, tail _ (tail _ (tail _ (head _))), memQ (o := 0) inb_S1024x512_S1024x128_0_0 y (by omega)⟩
      · exact ⟨_, tail _ (tail _ (head _)), memQ (o := 128) inb_S1024x512_S1024x128_0_128 y (by omega)⟩
      · exact ⟨_, tail _ (head _), memQ (o := 256) inb_S1024x512_S1024x128_0_256 y (by omega)⟩
      · exact ⟨_, head _, memQ (o := 384) inb_S1024x512_S1024x128_0_384 y (by omega)⟩

theorem eight (y : S256x1024.Idx) : (y 1).val < 128 ∨ (128 ≤ (y 1).val ∧ (y 1).val < 256) ∨ (256 ≤ (y 1).val ∧ (y 1).val < 384)
    ∨ (384 ≤ (y 1).val ∧ (y 1).val < 512) ∨ (512 ≤ (y 1).val ∧ (y 1).val < 640) ∨ (640 ≤ (y 1).val ∧ (y 1).val < 768)
    ∨ (768 ≤ (y 1).val ∧ (y 1).val < 896) ∨ (896 ≤ (y 1).val ∧ (y 1).val < 1024) := by
  have hy : (y 1).val < 1024 := (y 1).isLt
  omega

open List.Mem in
theorem outT_A (c : Dev nD) (t : Fin cfg0.N) (h0 : t.val % 16 = 0) (y : S256x1024.Idx) :
    (outsAt0 m c t.val t.isLt).2 y = T (iblk m c 0 t) (iblk m c 1 t) (iblk m c 2 t) y := by
  have ht : t.val < 16 := lt_of_lt_of_eq t.isLt N_0
  rw [outsAt0_A m c t h0 (by omega)]
  dsimp only
  frame_out
  refine View.canon_apply_of_pieces (Val := Elt Ideal) (S := S256x1024) (e := .f32) (T (iblk m c 0 t) (iblk m c 1 t) (iblk m c 2 t)) _ ?_ y ?_
  · intro p hp
    simp only [List.mem_cons, List.not_mem_nil, or_false] at hp
    rcases hp with rfl | rfl | rfl | rfl | rfl | rfl | rfl | rfl
    · exact pieceV _ _ _ (o := 384) (o' := 896) 3 rfl rfl inb_S1024x512_S1024x128_0_384 inb_S256x1024_S256x128_0_384 inb_S256x1024_S256x128_0_896
    · exact pieceK _ _ _ (o := 384) (o' := 896) 3 rfl rfl inb_S1024x512_S1024x128_0_384 inb_S256x1024_S256x128_0_384 inb_S256x1024_S256x128_0_896
    · exact pieceV _ _ _ (o := 256) (o' := 768) 2 rfl rfl inb_S1024x512_S1024x128_0_256 inb_S256x1024_S256x128_0_256 inb_S256x1024_S256x128_0_768
    · exact pieceK _ _ _ (o := 256) (o' := 768) 2 rfl rfl inb_S1024x512_S1024x128_0_256 inb_S256x1024_S256x128_0_256 inb_S256x1024_S256x128_0_768
    · exact pieceV _ _ _ (o := 128) (o' := 640) 1 rfl rfl inb_S1024x512_S1024x128_0_128 inb_S256x1024_S256x128_0_128 inb_S256x1024_S256x128_0_640
    · exact pieceK _ _ _ (o := 128) (o' := 640) 1 rfl rfl inb_S1024x512_S1024x128_0_128 inb_S256x1024_S256x128_0_128 inb_S256x1024_S256x128_0_640
    · exact pieceV _ _ _ (o := 0) (o' := 512) 0 rfl rfl inb_S1024x512_S1024x128_0_0 inb_S256x1024_S256x128_0_0 inb_S256x1024_S256x128_0_512
    · exact pieceK _ _ _ (o := 0) (o' := 512) 0 rfl rfl inb_S1024x512_S1024x128_0_0 inb_S256x1024_S256x128_0_0 inb_S256x1024_S256x128_0_512
  · rcases eight y with h | h | h | h | h | h | h | h
    · exact ⟨_, tail _ (tail _ (tail _ (tail _ (tail _ (tail _ (tail _ (head _))))))), memT (o := 0) inb_S256x1024_S256x128_0_0 y (by omega)⟩
    · exact ⟨_, tail _ (tail _ (tail _ (tail _ (tail _ (head _))))), memT (o := 128) inb_S256x1024_S256x128_0_128 y (by omega)⟩
    · exact ⟨_, tail _ (tail _ (tail _ (head _))), memT (o := 256) inb_S256x1024_S256x128_0_256 y (by omega)⟩
    · exact ⟨_, tail _ (head _), memT (o := 384) inb_S256x1024_S256x128_0_384 y (by omega)⟩
    · exact ⟨_, tail _ (tail _ (tail _ (tail _ (tail _ (tail _ (head _)))))), memT (o := 512) inb_S256x1024_S256x128_0_512 y (by omega)⟩
    · exact ⟨_, tail _ (tail _ (tail _ (tail _ (head _)))), memT (o := 640) inb_S256x1024_S256x128_0_640 y (by omega)⟩
    · exact ⟨_, tail _ (tail _ (head _)), memT (o := 768) inb_S256x1024_S256x128_0_768 y (by omega)⟩
    · exact ⟨_, head _, memT (o := 896) inb_S256x1024_S256x128_0_896 y (by omega)⟩

open List.Mem in
theorem outT_B (c : Dev nD) (t : Fin cfg0.N) (h0 : ¬t.val % 16 = 0) (y : S256x1024.Idx) :
    (outsAt0 m c t.val t.isLt).2 y = (outsAt0 m c (t.val - 1) (Nat.lt_of_le_of_lt (Nat.sub_le _ _) t.isLt)).2 y
      + T (iblk m c 0 t) (iblk m c 1 t) (iblk m c 2 t) y := by
  have ht : t.val < 16 := lt_of_lt_of_eq t.isLt N_0
  rw [outsAt0_B m c t h0 (by omega)]
  dsimp only
  frame_out
  generalize (outsAt0 m c (t.val - 1) (Nat.lt_of_le_of_lt (Nat.sub_le _ _) t.isLt)).2 = X
  refine View.canon_apply_of_pieces (Val := Elt Ideal) (S := S256x1024) (e := .f32) (fun i => X i + T (iblk m c 0 t) (iblk m c 1 t) (iblk m c 2 t) i) _ ?_ y ?_
  · intro p hp
    simp only [List.mem_cons, List.not_mem_nil, or_false] at hp
    rcases hp with rfl | rfl | rfl | rfl | rfl | rfl | rfl | rfl
    · exact pieceAdd (o := 896) inb_S256x1024_S256x128_0_896 (pieceV _ _ _ (o := 384) (o' := 896) 3 rfl rfl inb_S1024x512_S1024x128_0_384 inb_S256x1024_S256x128_0_384 inb_S256x1024_S256x128_0_896)
    · exact pieceAdd (o := 384) inb_S256x1024_S256x128_0_384 (pieceK _ _ _ (o := 384) (o' := 896) 3 rfl rfl inb_S1024x512_S1024x128_0_384 inb_S256x1024_S256x128_0_384 inb_S256x1024_S256x128_0_896)
    · exact pieceAdd (o := 768) inb_S256x1024_S256x128_0_768 (pieceV _ _ _ (o := 256) (o' := 768) 2 rfl rfl inb_S1024x512_S1024x128_0_256 inb_S256x1024_S256x128_0_256 inb_S256x1024_S256x128_0_768)
    · exact pieceAdd (o := 256) inb_S256x1024_S256x128_0_256 (pieceK _ _ _ (o := 256) (o' := 768) 2 rfl rfl inb_S1024x512_S1024x128_0_256 inb_S256x1024_S256x128_0_256 inb_S256x1024_S256x128_0_768)
    · exact pieceAdd (o := 640) inb_S256x1024_S256x128_0_640 (pieceV _ _ _ (o := 128) (o' := 640) 1 rfl rfl inb_S1024x512_S1024x128_0_128 inb_S256x1024_S256x128_0_128 inb_S256x1024_S256x128_0_640)
    · exact pieceAdd (o := 128) inb_S256x1024_S256x128_0_128 (pieceK _ _ _ (o := 128) (o' := 640) 1 rfl rfl inb_S1024x512_S1024x128_0_128 inb_S256x1024_S256x128_0_128 inb_S256x1024_S256x128_0_640)
    · exact pieceAdd (o := 512) inb_S256x1024_S256x128_0_512 (pieceV _ _ _ (o := 0) (o' := 512) 0 rfl rfl inb_S1024x512_S1024x128_0_0 inb_S256x1024_S256x128_0_0 inb_S256x1024_S256x128_0_512)
    · exact pieceAdd (o := 0) inb_S256x1024_S256x128_0_0 (pieceK _ _ _ (o := 0) (o' := 512) 0 rfl rfl inb_S1024x512_S1024x128_0_0 inb_S256x1024_S256x128_0_0 inb_S256x1024_S256x128_0_512)
  · rcases eight y with h | h | h | h | h | h | h | h
    · exact ⟨_, tail _ (tail _ (tail _ (tail _ (tail _ (tail _ (tail _ (head _))))))), memT (o := 0) inb_S256x1024_S256x128_0_0 y (by omega)⟩
    · exact ⟨_, tail _ (tail _ (tail _ (tail _ (tail _ (head _))))), memT (o := 128) inb_S256x1024_S256x128_0_128 y (by omega)⟩
    · exact ⟨_, tail _ (tail _ (tail _ (head _))), memT (o := 256) inb_S256x1024_S256x128_0_256 y (by omega)⟩
    · exact ⟨_, tail _ (head _), memT (o := 384) inb_S256x1024_S256x128_0_384 y (by omega)⟩
    · exact ⟨_, tail _ (tail _ (tail _ (tail _ (tail _ (tail _ (head _)))))), memT (o := 512) inb_S256x1024_S256x128_0_512 y (by omega)⟩
    · exact ⟨_, tail _ (tail _ (tail _ (tail _ (head _)))), memT (o := 640) inb_S256x1024_S256x128_0_640 y (by omega)⟩
    · exact ⟨_, tail _ (tail _ (head _)), memT (o := 768) inb_S256x1024_S256x128_0_768 y (by omega)⟩
    · exact ⟨_, head _, memT (o := 896) inb_S256x1024_S256x128_0_896 y (by omega)⟩

/-! ### The blocks the points read -/

theorem idx_in : ∀ t : Fin cfg0.N, (win0_0.index t 0 = t.val ∧ win0_0.index t 1 = 7) ∧ (win0_1.index t 0 = 0 ∧ win0_1.index t 1 = 0)
    ∧ (win0_2.index t 0 = t.val ∧ win0_2.index t 1 = 0) ∧ (win0_3.index t 0 = t.val ∧ win0_3.index t 1 = 5) ∧ (win0_4.index t 0 = 0 ∧ win0_4.index t 1 = 0) :=
  (by decide +kernel : ∀ t : Fin grid0.N, (win0_0.index t 0 = t.val ∧ win0_0.index t 1 = 7) ∧ (win0_1.index t 0 = 0 ∧ win0_1.index t 1 = 0)
    ∧ (win0_2.index t 0 = t.val ∧ win0_2.index t 1 = 0) ∧ (win0_3.index t 0 = t.val ∧ win0_3.index t 1 = 5) ∧ (win0_4.index t 0 = 0 ∧ win0_4.index t 1 = 0))

theorem cat_apply (a b d : FVec Ideal S16384x1024 .f32) (e f : FVec Ideal S16384x512 .f32) (R : Fin 16384) (q : Fin 512) :
    concatenate S16384x4096 1 [⟨S16384x1024, a⟩, ⟨S16384x1024, b⟩, ⟨S16384x1024, d⟩, ⟨S16384x512, e⟩, ⟨S16384x512, f⟩]
      concatenates_S16384x1024_S16384x1024_S16384x1024_S16384x512_S16384x512_S16384x4096_d1 (ix2 R ⟨3584 + q.val, by omega⟩) = f (ix2 R q) := by
  pointwise []
  rw [dif_neg (by omega), dif_neg (by omega), dif_neg (by omega), dif_neg (by omega)]
  congr 2
  exact Fin.ext (by dsimp only; omega)

theorem cut_apply (x : FVec Ideal S1x16384x6680 .f32) (R : Fin 16384) (q : Fin 512) :
    extractStridedSlice S16384x512 ![0, 3096] (shapeCast S16384x6680 x shapeCasts_S1x16384x6680_S16384x6680) slices_S16384x6680_S16384x512_0_3096 (ix2 R q)
      = x (ix3 0 R ⟨3096 + q.val, by omega⟩) := by
  pointwise []

theorem V_pa (c : Dev nD) (R : Fin 16384) (q : Fin 512) :
    V m c main_v13 (ix2 R ⟨3584 + q.val, by omega⟩) = m ((c : Thread nD τ).loc main_arg0) (ix3 0 R ⟨3096 + q.val, by omega⟩) := by
  have e : ∃ a b d e, V m c main_v13 = (truncf .bf16 (concatenate S16384x4096 1 [⟨S16384x1024, a⟩, ⟨S16384x1024, b⟩, ⟨S16384x1024, d⟩, ⟨S16384x512, e⟩,
      ⟨S16384x512, (extractStridedSlice S16384x512 ![0, 3096] (shapeCast S16384x6680 (m ((c : Thread nD τ).loc main_arg0)) shapeCasts_S1x16384x6680_S16384x6680) slices_S16384x6680_S16384x512_0_3096)⟩]
      concatenates_S16384x1024_S16384x1024_S16384x1024_S16384x512_S16384x512_S16384x4096_d1) bitsLt_bf16_f32 : FVec Ideal S16384x4096 .bf16) := by
    dsimp only [V, hostOps0, hostOps0_1, hostOps0_2, hostOps0_3, hostOps0_4, List.flatten_cons, List.flatten_nil, List.cons_append, List.nil_append]
    after_results
    exact ⟨_, _, _, _, rfl⟩
  obtain ⟨a, b, d, e, h⟩ := e
  rw [h]
  exact (cat_apply a b d e _ R q).trans (cut_apply _ R q)

theorem drop1 (x : FVec Ideal S1x256x1024 .f32) (q : Fin 256) (k : Fin 1024) :
    shapeCast S256x1024 x shapeCasts_S1x256x1024_S256x1024 (ix2 q k) = x (ix3 0 q k) := by
  pointwise []

theorem drop2 (x : FVec Ideal S1x16384x512 .f32) (q : Fin 16384) (k : Fin 512) :
    shapeCast S16384x512 x shapeCasts_S1x16384x512_S16384x512 (ix2 q k) = x (ix3 0 q k) := by
  pointwise []

theorem V_kv (c : Dev nD) (q : Fin 256) (k : Fin 1024) : V m c main_v15 (ix2 q k) = m ((c : Thread nD τ).loc main_arg1) (ix3 0 q k) := by
  have e : V m c main_v15 = (truncf .bf16 (shapeCast S256x1024 (m ((c : Thread nD τ).loc main_arg1)) shapeCasts_S1x256x1024_S256x1024) bitsLt_bf16_f32 : FVec Ideal S256x1024 .bf16) := by
    dsimp only [V, hostOps0, hostOps0_1, hostOps0_2, hostOps0_3, hostOps0_4, List.flatten_cons, List.flatten_nil, List.cons_append, List.nil_append]
    after_results
    rfl
  rw [e]
  exact drop1 _ q k

theorem V_ct (c : Dev nD) (q : Fin 16384) (k : Fin 512) : V m c main_v16 (ix2 q k) = m ((c : Thread nD τ).loc main_arg2) (ix3 0 q k) := by
  have e : V m c main_v16 = (shapeCast S16384x512 (m ((c : Thread nD τ).loc main_arg2)) shapeCasts_S1x16384x512_S16384x512 : FVec Ideal S16384x512 .f32) := by
    dsimp only [V, hostOps0, hostOps0_1, hostOps0_2, hostOps0_3, hostOps0_4, List.flatten_cons, List.flatten_nil, List.cons_append, List.nil_append]
    after_results
    rfl
  rw [e]
  exact drop2 _ q k

theorem V_out (c : Dev nD) : V m c main_v17_0 = m ((c : Thread nD τ).loc main_arg3) := by
  dsimp only [V, hostOps0, hostOps0_1, hostOps0_2, hostOps0_3, hostOps0_4, List.flatten_cons, List.flatten_nil, List.cons_append, List.nil_append]
  after_results
  rfl

section blocks
variable (c : Dev nD) (t : Fin cfg0.N) (h : Fin 4)

theorem bq_blk (r : Fin 1024) (R : Fin 16384) (hR : R.val = t.val * 1024 + r.val) :
    bq (iblk m c 0 t) h r = rq (m ((c : Thread nD τ).loc main_arg0)) h R := by
  funext x
  unfold bq rq
  obtain ⟨⟨e0, e1⟩, -⟩ := idx_in t
  refine Eq.trans ?_ ((V_pa m c R ⟨h.val * 128 + x.val, by omega⟩).trans rfl)
  show V m c main_v13 _ = V m c main_v13 _
  congr 1
  funext a
  apply Fin.ext
  match a with
  | ⟨0, _⟩ => show win0_0.index t 0 * 1024 + 1 * r.val = R.val; rw [e0]; omega
  | ⟨1, _⟩ => show win0_0.index t 1 * 512 + 1 * (h.val * 128 + x.val) = 3584 + (h.val * 128 + x.val); rw [e1]; omega

theorem bd_blk (r : Fin 1024) (R : Fin 16384) (hR : R.val = t.val * 1024 + r.val) :
    bd (iblk m c 2 t) h r = rd (m ((c : Thread nD τ).loc main_arg2)) h R := by
  funext x
  unfold bd rd
  obtain ⟨-, -, ⟨e0, e1⟩, -⟩ := idx_in t
  refine Eq.trans ?_ (V_ct m c R ⟨h.val * 128 + x.val, by omega⟩)
  show V m c main_v16 _ = V m c main_v16 _
  congr 1
  funext a
  apply Fin.ext
  match a with
  | ⟨0, _⟩ => show win0_2.index t 0 * 1024 + 1 * r.val = R.val; rw [e0]; omega
  | ⟨1, _⟩ => show win0_2.index t 1 * 512 + 1 * (h.val * 128 + x.val) = h.val * 128 + x.val; rw [e1]; omega

theorem kv_blk (j : Fin 256) (q : Fin 1024) : iblk m c 1 t (ix2 j q) = m ((c : Thread nD τ).loc main_arg1) (ix3 0 j q) := by
  obtain ⟨-, ⟨e0, e1⟩, -⟩ := idx_in t
  refine Eq.trans ?_ (V_kv m c j q)
  show V m c main_v15 _ = V m c main_v15 _
  congr 1
  funext a
  apply Fin.ext
  match a with
  | ⟨0, _⟩ => show win0_1.index t 0 * 256 + 1 * j.val = j.val; rw [e0]; omega
  | ⟨1, _⟩ => show win0_1.index t 1 * 1024 + 1 * q.val = q.val; rw [e1]; omega

theorem bk_blk : bk (iblk m c 1 t) h = hk (m ((c : Thread nD τ).loc main_arg1)) h := by
  funext j x
  exact kv_blk m c t j _

theorem bv_blk : bv (iblk m c 1 t) h = hv (m ((c : Thread nD τ).loc main_arg1)) h := by
  funext j x
  exact kv_blk m c t j _

end blocks

/-! ### The final arrays -/

section final
open Cert.XattRefIdeal.Read
variable (c : Dev nD)

/-- The arguments, as the reference takes them. -/
abbrev A0 : FVec Ideal S1x16384x6680 .f32 := m ((c : Thread nD τ).loc main_arg0)
abbrev A1 : FVec Ideal S1x256x1024 .f32 := m ((c : Thread nD τ).loc main_arg1)
abbrev A2 : FVec Ideal S1x16384x512 .f32 := m ((c : Thread nD τ).loc main_arg2)
abbrev A3 : FVec Ideal S16384x8192 .bf16 := m ((c : Thread nD τ).loc main_arg3)

variable (h0 : ∀ i, Rl (A0 m c i)) (h1 : ∀ i, Rl (A1 m c i)) (h2 : ∀ i, Rl (A2 m c i))

theorem cover3 (R : Fin 16384) (q : Fin 8192) (hq : 2560 ≤ q.val ∧ q.val < 3072) (t : Fin cfg0.N) (ht : t.val = R.val / 1024) :
    (ix2 R q : S16384x8192.Idx) ∈ ((cfg0.win 3).blk t).view.set := by
  show (ix2 R q : S16384x8192.Idx) ∈ ((View.whole main_v17_0).slice (win0_3.rect t)).set
  rw [View.set_slice_whole, Rect.mem_set_unit]
  obtain ⟨-, -, -, ⟨e0, e1⟩, -⟩ := idx_in t
  intro a
  match a with
  | ⟨0, _⟩ => show win0_3.index t 0 * 1024 ≤ R.val ∧ R.val < win0_3.index t 0 * 1024 + 1024; rw [e0]; omega
  | ⟨1, _⟩ => show win0_3.index t 1 * 512 ≤ q.val ∧ q.val < win0_3.index t 1 * 512 + 512; rw [e1]; omega

theorem off3 (R : Fin 16384) (q : Fin 8192) (hq : ¬(2560 ≤ q.val ∧ q.val < 3072)) (t : Fin cfg0.N) :
    (ix2 R q : S16384x8192.Idx) ∉ ((cfg0.win 3).blk t).view.set := by
  show (ix2 R q : S16384x8192.Idx) ∉ ((View.whole main_v17_0).slice (win0_3.rect t)).set
  rw [View.set_slice_whole, Rect.mem_set_unit]
  obtain ⟨-, -, -, ⟨e0, e1⟩, -⟩ := idx_in t
  intro h
  have h' : win0_3.index t 1 * 512 ≤ q.val ∧ q.val < win0_3.index t 1 * 512 + 512 := h 1
  rw [e1] at h'
  omega

include h0 h1 h2

theorem flushed3_eq (t : Fin cfg0.N) (y : S1024x512.Idx) :
    (dats m 0 c).flushed 3 t y = val_main_v72 (F := Ideal) (A0 m c) (A1 m c) (A2 m c) (A3 m c) (((cfg0.win 3).blk t).view.emb y) := by
  have ht : t.val < 16 := lt_of_lt_of_eq t.isLt N_0
  obtain ⟨r, q, rfl⟩ : ∃ (r : Fin 1024) (q : Fin 512), y = ix2 r q := ⟨y 0, y 1, (ix2_eta y).symm⟩
  obtain ⟨-, -, -, ⟨e0, e1⟩, -⟩ := idx_in t
  obtain ⟨R, hR⟩ : ∃ R : Fin 16384, R.val = t.val * 1024 + r.val := ⟨⟨_, by omega⟩, rfl⟩
  have he : (((cfg0.win 3).blk t).view.emb (ix2 r q : S1024x512.Idx) : S16384x8192.Idx) = ix2 R ⟨2560 + q.val, by omega⟩ := by
    funext a
    apply Fin.ext
    match a with
    | ⟨0, _⟩ => show win0_3.index t 0 * 1024 + 1 * r.val = R.val; rw [e0]; omega
    | ⟨1, _⟩ => show win0_3.index t 1 * 512 + 1 * q.val = 2560 + q.val; rw [e1]; omega
  rw [he, v72_in, v70_eq h0 h1 h2, Value.flushed3]
  show (outsAt0 m c t.val t.isLt).1 (ix2 r q) = _
  rw [outQ]
  show Q (iblk m c 0 t) (iblk m c 1 t) (iblk m c 2 t) r q = _
  unfold Q
  rw [bq_blk m c t _ r R hR, bd_blk m c t _ r R hR, bk_blk, bv_blk]

theorem final3 : (dats m 0 c).arrAt 3 cfg0.N = val_main_v72 (F := Ideal) (A0 m c) (A1 m c) (A2 m c) (A3 m c) := by
  funext i
  obtain ⟨R, q, rfl⟩ : ∃ (R : Fin 16384) (q : Fin 8192), i = ix2 R q := ⟨i 0, i 1, (ix2_eta i).symm⟩
  by_cases hq : 2560 ≤ q.val ∧ q.val < 3072
  · obtain ⟨t, ht⟩ : ∃ t : Fin cfg0.N, t.val = R.val / 1024 := ⟨⟨_, by have : cfg0.N = 16 := N_0; omega⟩, rfl⟩
    obtain ⟨y, -, hy⟩ := Finset.mem_map.mp (cover3 R q hq t ht)
    rw [← hy]
    exact (congrFun (Value.blocks3 m c t (flush0_3 t)) y).trans (flushed3_eq m c h0 h1 h2 t y)
  · rw [Value.entry3 m c _ fun t _ => off3 R q hq t, v72_out _ _ _ _ R q hq]
    exact congrFun (V_out m c) _

theorem T_blk (t : Fin cfg0.N) (j : Fin 256) (q : Fin 1024) :
    T (iblk m c 0 t) (iblk m c 1 t) (iblk m c 2 t) (ix2 j q)
      = ∑ r : Fin 1024, term73 (A0 m c) (A1 m c) (A2 m c) j q ⟨t.val * 1024 + r.val, by have := lt_of_lt_of_eq t.isLt N_0; omega⟩ := by
  unfold T term73
  by_cases hq : q.val < 512
  · have hq' : (((ix2 j q : S256x1024.Idx) 1).val : Nat) < 512 := hq
    simp only [dif_pos hq, dif_pos hq']
    show TK _ _ _ j ⟨q.val, hq⟩ = _
    unfold TK
    refine Finset.sum_congr rfl fun r _ => ?_
    rw [bq_blk m c t _ r ⟨t.val * 1024 + r.val, by have := lt_of_lt_of_eq t.isLt N_0; omega⟩ rfl, bd_blk m c t _ r ⟨t.val * 1024 + r.val, by have := lt_of_lt_of_eq t.isLt N_0; omega⟩ rfl, bk_blk, bv_blk]
  · have hq' : ¬(((ix2 j q : S256x1024.Idx) 1).val : Nat) < 512 := hq
    simp only [dif_neg hq, dif_neg hq']
    show TV _ _ _ j ⟨q.val - 512, _⟩ = _
    unfold TV
    refine Finset.sum_congr rfl fun r _ => ?_
    rw [bq_blk m c t _ r ⟨t.val * 1024 + r.val, by have := lt_of_lt_of_eq t.isLt N_0; omega⟩ rfl, bd_blk m c t _ r ⟨t.val * 1024 + r.val, by have := lt_of_lt_of_eq t.isLt N_0; omega⟩ rfl, bk_blk]

theorem out4_last (t : Fin cfg0.N) (ht : t.val + 1 = cfg0.N) (j : Fin 256) (q : Fin 1024) :
    (outsAt0 m c t.val t.isLt).2 (ix2 j q) = val_main_v73 (F := Ideal) (A0 m c) (A1 m c) (A2 m c) (ix2 j q) := by
  rw [Pipeline.eq_sum_fin_of_reset_step_apply_last (fun n h => (outsAt0 m c n h).2) 16 (fun _ => (0 : EReal))
    (fun t i => T (iblk m c 0 t) (iblk m c 1 t) (iblk m c 2 t) i)
    (fun t h i => by rw [outT_A m c t h i, zero_add]) (fun t h i => outT_B m c t h i) (le_of_eq N_0) t ht (ix2 j q), zero_add, v73_eq h0 h1 h2]
  simp only [T_blk m c h0 h1 h2]
  exact Fin.sum_mul_add_fin 16 1024 (term73 (A0 m c) (A1 m c) (A2 m c) j q)

theorem final4 : (dats m 0 c).arrAt 4 cfg0.N = val_main_v73 (F := Ideal) (A0 m c) (A1 m c) (A2 m c) := by
  funext i
  refine (dats m 0 c).arrAt_forall_of_cover 4 (fun i v => v = val_main_v73 (F := Ideal) (A0 m c) (A1 m c) (A2 m c) i) ?_ ?_ i
  · intro t hf y
    have ht : t.val + 1 = cfg0.N := by have := (flush0_4 t).mp hf; have := lt_of_lt_of_eq t.isLt N_0; have e : cfg0.N = 16 := N_0; omega
    obtain ⟨j, q, rfl⟩ : ∃ (j : Fin 256) (q : Fin 1024), y = ix2 j q := ⟨y 0, y 1, (ix2_eta y).symm⟩
    obtain ⟨-, -, -, -, e0, e1⟩ := idx_in t
    have he : (((cfg0.win 4).blk t).view.emb (ix2 j q : S256x1024.Idx) : S256x1024.Idx) = ix2 j q := by
      funext a
      apply Fin.ext
      match a with
      | ⟨0, _⟩ => show win0_4.index t 0 * 256 + 1 * j.val = j.val; rw [e0]; omega
      | ⟨1, _⟩ => show win0_4.index t 1 * 1024 + 1 * q.val = q.val; rw [e1]; omega
    show (dats m 0 c).flushed 4 t (ix2 j q : S256x1024.Idx) = val_main_v73 (F := Ideal) _ _ _ (((cfg0.win 4).blk t).view.emb (ix2 j q : S256x1024.Idx))
    rw [he, Value.flushed4]
    exact out4_last m c h0 h1 h2 t ht j q
  · intro i
    obtain ⟨t, ht⟩ : ∃ t : Fin cfg0.N, t.val = 15 := ⟨⟨15, by have : cfg0.N = 16 := N_0; omega⟩, rfl⟩
    refine ⟨t, (flush0_4 t).mpr (by omega), ?_⟩
    show i ∈ ((View.whole main_v17_1).slice (win0_4.rect t)).set
    rw [View.set_slice_whole, Rect.mem_set_unit]
    obtain ⟨-, -, -, -, e0, e1⟩ := idx_in t
    have i0 : (i 0).val < 256 := (i 0).isLt
    have i1 : (i 1).val < 1024 := (i 1).isLt
    intro a
    match a with
    | ⟨0, _⟩ => show win0_4.index t 0 * 256 ≤ (i 0 : Nat) ∧ (i 0 : Nat) < win0_4.index t 0 * 256 + 256; rw [e0]; omega
    | ⟨1, _⟩ => show win0_4.index t 1 * 1024 ≤ (i 1 : Nat) ∧ (i 1 : Nat) < win0_4.index t 1 * 1024 + 1024; rw [e1]; omega

end final

end Cert.XattIdeal.Hand
-- ==== Proof.XattClaims.lean ====
/-
  The claims about the gradient of the attention into the memory tokens: the frames, and the kernel's two results against the
  reference's, where the arguments are real numbers.
-/
module

public import proofs.«01_k».proof.Defs
public import proofs.«01_k».proof.Proof.XattVal
public import proofs.«01_k».proof.Proof.Gen.Xatt.Frame
public import Idealize.ShloMosaic.Lib.Quiescent

@[expose] public section

noncomputable section

namespace Cert.XattClaims

open Idealize.ShloMosaic Idealize.ShloMosaic.TcCoe Idealize.SL.Sem Cert.RealMath

local instance : Cert.Xatt.Facts := Cert.Xatt.Gen.facts
local instance : Cert.XattIdeal.Facts := Cert.XattIdeal.Gen.facts
local instance : Cert.XattRefIdeal.Facts := Cert.XattRefIdeal.Gen.facts

theorem pre : Cert.Pre_mem_finite.Facts := ⟨by decide, by decide, by decide⟩

local instance : Cert.Pre_mem_finite.Facts := pre

theorem frame : Cert.quiescent_Xatt := fun m g _ => Cert.Xatt.Gen.frame m g

theorem frameIdeal : Cert.quiescent_XattIdeal := fun m g _ => Cert.XattIdeal.Gen.frame m g

theorem frameRef : Cert.quiescent_XattRefIdeal := fun m g _ =>
  (θ_run Cert.XattRefIdeal.defs _ _).mono (fun r h => ⟨fun c => (h c).2.2, sem_eq_zero_of_no_sems (by decide) r.2⟩)
    (Cert.XattRefIdeal.Value.run m g)

theorem value : Cert.algebraic_XattIdeal_XattRefIdeal_pre_mem_finite := fun m g m' g' hpre hagree =>
  have h0 := fun c => finite_of _ _ (hpre c).1
  have h1 := fun c => finite_of _ _ (hpre c).2.1
  have h2 := fun c => finite_of _ _ (hpre c).2.2
  ⟨fun c => Cert.XattRefIdeal.Read.val_main_v72 (F := Ideal) (Cert.XattIdeal.Hand.A0 m c) (Cert.XattIdeal.Hand.A1 m c) (Cert.XattIdeal.Hand.A2 m c) (Cert.XattIdeal.Hand.A3 m c),
    fun c => Cert.XattRefIdeal.Read.val_main_v73 (F := Ideal) (Cert.XattIdeal.Hand.A0 m c) (Cert.XattIdeal.Hand.A1 m c) (Cert.XattIdeal.Hand.A2 m c),
    (θ_run Cert.XattIdeal.defs _ _).mono (fun _ h c => ⟨(h c).1.trans (Cert.XattIdeal.Hand.final3 m c (h0 c) (h1 c) (h2 c)),
        (h c).2.1.trans (Cert.XattIdeal.Hand.final4 m c (h0 c) (h1 c) (h2 c)), (h c).2.2⟩)
      (Cert.XattIdeal.Value.run_blocks m g),
    (θ_run Cert.XattRefIdeal.defs _ _).mono (fun _ h c => ⟨(h c).1.trans (by
          rw [Cert.XattRefIdeal.Read.val_main_v72_eq]
          rw [(hagree c).1, (hagree c).2.1, (hagree c).2.2.1, (hagree c).2.2.2]),
        (h c).2.1.trans (by
          rw [Cert.XattRefIdeal.Read.val_main_v73_eq]
          rw [(hagree c).1, (hagree c).2.1, (hagree c).2.2.1]), (h c).2.2⟩)
      (Cert.XattRefIdeal.Value.run m' g')⟩

end Cert.XattClaims
-- ==== Proof.RmsMath.lean ====
/-
  The gradient of the root-mean-square norm of one row of 1024 numbers: the form the kernels compute and the form
  differentiation of `x * rsqrt (mean (x * x) + eps)` gives, equal where every number is real.
-/
module

public import proofs.«01_k».proof.Proof.RealMath

@[expose] public section

set_option maxRecDepth 16384

noncomputable section

namespace Cert.RealMath

open Idealize.ShloMosaic

/-- The row's length and the small number under the root, as they stand in the programs. -/
def cN : EReal := Ideal.ofBits .f32 0x44800000#32
def cE : EReal := Ideal.ofBits .f32 0x358637BD#32
def cHalf : EReal := Ideal.ofBits .f32 0xBF000000#32

/-- The number of an f32 pattern, from its sign, exponent and fraction. -/
theorem ofBits_f32_eq (b : BitVec 32) (n : Bool) (e f : Nat) (hn : (b.extractLsb' 31 1 == 1#1) = n) (he : (b.extractLsb' 23 8).toNat = e)
    (hf : (b.extractLsb' 0 23).toNat = f) (h1 : e ≠ 255) (h0 : e ≠ 0) :
    Ideal.ofBits .f32 b = (((if n then -1 else 1) * (2 ^ 23 + f : Nat) * (2 : ℝ) ^ ((e : Int) - 127 - 23) : ℝ) : EReal) := by
  show Ideal.ieee 8 23 b = _
  unfold Ideal.ieee
  dsimp only
  rw [show 8 + 23 = 31 from rfl, he, hf, hn, if_neg (by omega), if_neg h0]
  norm_num

theorem cN_eq : cN = ((1024 : ℝ) : EReal) := by
  unfold cN
  rw [ofBits_f32_eq _ false 137 0 (by decide) (by decide) (by decide) (by decide) (by decide)]
  congr 1
  norm_num

theorem cHalf_eq : cHalf = ((-1 / 2 : ℝ) : EReal) := by
  unfold cHalf
  rw [ofBits_f32_eq _ true 126 0 (by decide) (by decide) (by decide) (by decide) (by decide)]
  congr 1
  norm_num

theorem cE_eq : ∃ e : ℝ, 0 < e ∧ cE = (e : EReal) := by
  unfold cE
  rw [ofBits_f32_eq _ false 107 407485 (by decide) (by decide) (by decide) (by decide) (by decide)]
  exact ⟨_, by norm_num, rfl⟩

section rms
variable (x w : Fin 1024 → EReal)

/-- The mean of the squares with the small number, the reciprocal root, the normed row, the gradient at the row. -/
def rmsV : EReal := Ideal.div (∑ k, x k * x k) cN + cE
def rmsR : EReal := Ideal.rsqrt (rmsV x)
def rmsX (j : Fin 1024) : EReal := x j * rmsR x
def rmsG (j : Fin 1024) : EReal := rmsR x * (w j - rmsX x j * Ideal.div (∑ k, w k * rmsX x k) cN)

/-- What differentiation puts at the mean of the squares, for each of the square's two factors. -/
def rmsU : EReal := Ideal.div ((∑ k, x k * w k) * (cHalf * Ideal.div (rmsR x) (rmsV x))) cN

theorem rms_real {x : Fin 1024 → EReal} (hx : ∀ k, Rl (x k)) :
    ∃ (y : Fin 1024 → ℝ) (v : ℝ), (∀ k, x k = (y k : EReal)) ∧ 0 < v ∧ rmsV x = (v : EReal) ∧ rmsR x = (((Real.sqrt v)⁻¹ : ℝ) : EReal) := by
  choose y hy using hx
  obtain ⟨e, he, hE⟩ := cE_eq
  have hs : 0 ≤ ∑ k, y k * y k := Finset.sum_nonneg fun k _ => mul_self_nonneg _
  have hv : rmsV x = (((∑ k, y k * y k) / 1024 + e : ℝ) : EReal) := by
    unfold rmsV
    simp only [hy, hE, cN_eq, ← EReal.coe_mul, coe_sum, div_coe_coe _ _ (by norm_num : (1024 : ℝ) ≠ 0), ← EReal.coe_add]
  have hp : 0 < (∑ k, y k * y k) / 1024 + e := by positivity
  refine ⟨y, _, hy, hp, hv, ?_⟩
  unfold rmsR
  rw [hv, Ideal.rsqrt_coe, if_neg (not_lt.mpr hp.le), if_neg hp.ne']

theorem rmsR_real {x : Fin 1024 → EReal} (hx : ∀ k, Rl (x k)) : Rl (rmsR x) := by
  obtain ⟨y, v, -, -, -, h⟩ := rms_real hx
  exact ⟨_, h⟩

theorem rmsG_eq {x w : Fin 1024 → EReal} (hx : ∀ k, Rl (x k)) (hw : ∀ k, Rl (w k)) (d : EReal) (j : Fin 1024) :
    d + w j * rmsR x + x j * rmsU x w + rmsU x w * x j = d + rmsG x w j := by
  obtain ⟨y, v, hy, hv, hV, hR⟩ := rms_real hx
  choose z hz using hw
  rw [add_assoc, add_assoc]
  congr 1
  have hs : Real.sqrt v ≠ 0 := (Real.sqrt_pos.mpr hv).ne'
  have hq : v = Real.sqrt v * Real.sqrt v := (Real.mul_self_sqrt hv.le).symm
  unfold rmsG rmsU rmsX
  simp only [hV, hR, hy, hz, cN_eq, cHalf_eq, ← EReal.coe_mul, coe_sum, div_coe_coe _ _ hv.ne', div_coe_coe _ _ (by norm_num : (1024 : ℝ) ≠ 0),
    ← EReal.coe_add, ← EReal.coe_sub]
  congr 1
  generalize hr : Real.sqrt v = s at *
  have e1 : ∑ k, z k * (y k * s⁻¹) = (∑ k, y k * z k) * s⁻¹ := by rw [Finset.sum_mul]; exact Finset.sum_congr rfl fun k _ => by ring
  rw [e1, hq]
  field_simp
  ring

end rms

end Cert.RealMath
-- ==== Proof.DffnBody.lean ====
/-
  The gradient of the mixer's norm and first product: what one step of the kernel's body computes, element by element.
-/
module

public import proofs.«01_k».proof.Proof.Gen.DffnIdeal.Value
public import proofs.«01_k».proof.Proof.RmsMath

@[expose] public section

set_option maxRecDepth 16384

noncomputable section

namespace Cert.DffnIdeal.Hand

open Cert.DffnIdeal Cert.DffnIdeal.Gen Idealize.ShloMosaic Idealize.ShloMosaic.TcCoe Cert.RealMath

section pays
variable (u x d : Vec Ideal S256x1024 .f32) (g : Vec Ideal S1x1024 .f32)

theorem pay7_apply (r : Fin 256) : k0_pay7 x (ix2 r 0) = rmsR (fun k => x (ix2 r k)) := by
  pointwise [k0_pay7, k0_pay6, rmsR, rmsV, cN, cE]

theorem pay8_apply (r : Fin 256) (j : Fin 1024) : k0_pay8 x (ix2 r j) = rmsX (fun k => x (ix2 r k)) j := by
  have e : k0_pay8 x (ix2 r j) = x (ix2 r j) * k0_pay7 x (ix2 r 0) := by
    pointwise [k0_pay8, k0_pay6]
  rw [e, pay7_apply]
  rfl

theorem pay9_apply (r : Fin 256) (j : Fin 1024) :
    k0_pay9 u x d g (ix2 r j) = d (ix2 r j) + rmsG (fun k => x (ix2 r k)) (fun k => u (ix2 r k) * g (ix2 0 k)) j := by
  have e : k0_pay9 u x d g (ix2 r j) = d (ix2 r j) + k0_pay7 x (ix2 r 0) * (u (ix2 r j) * g (ix2 0 j)
      - k0_pay8 x (ix2 r j) * Ideal.div (∑ k, u (ix2 r k) * g (ix2 0 k) * k0_pay8 x (ix2 r k)) cN) := by
    pointwise [k0_pay9, cN]
  rw [e, pay7_apply]
  simp only [pay8_apply]
  rfl

theorem pay12_apply (y : Vec Ideal S256x1024 .f32) (a : Vec Ideal S8x1024 .f32) (s : Fin 8) (j : Fin 1024) :
    k0_pay12 u y a (ix2 s j) = a (ix2 s j) + ∑ q : Fin 32, u (ix2 ⟨q.val * 8 + s.val, by omega⟩ j) * y (ix2 ⟨q.val * 8 + s.val, by omega⟩ j) := by
  pointwise [k0_pay12]

theorem pay2_apply (a : Vec Ideal S1024x1024 .f32) (b w : Vec Ideal S1024x1024 .bf16) (r j : Fin 1024) :
    k0_pay2 a b w (ix2 r j) = a (ix2 r j) + ∑ k : Fin 1024, b (ix2 r k) * w (ix2 j k) := by
  pointwise [k0_pay2]

theorem pay1_apply (r j : Fin 1024) : k0_pay1 (F := Ideal) (ix2 r j) = 0 := by
  pointwise [k0_pay1]

theorem pay5_apply (r : Fin 8) (j : Fin 1024) : k0_pay11 (F := Ideal) (k0_pay5 (F := Ideal)) (ix2 r j) = 0 := by
  pointwise [k0_pay5, k0_pay11]

end pays

theorem pay16_eq : k0_pay16 (F := Ideal) = k0_pay9 := rfl
theorem pay22_eq : k0_pay22 (F := Ideal) = k0_pay9 := rfl
theorem pay28_eq : k0_pay28 (F := Ideal) = k0_pay9 := rfl
theorem pay15_eq : k0_pay15 (F := Ideal) = k0_pay8 := rfl
theorem pay21_eq : k0_pay21 (F := Ideal) = k0_pay8 := rfl
theorem pay27_eq : k0_pay27 (F := Ideal) = k0_pay8 := rfl

end Cert.DffnIdeal.Hand
-- ==== Proof.DffnRefRow.lean ====
/-
  The gradient of the mixer's norm and first product: what the `jax.vjp` reference computes, element by element.
-/
module

public import proofs.«01_k».proof.Proof.Gen.DffnRefIdeal.Read
public import proofs.«01_k».proof.Proof.RmsMath
public import Idealize.ShloMosaic.Lib.Claim

@[expose] public section

set_option maxRecDepth 16384

noncomputable section

namespace Cert.DffnRefIdeal.Hand

open Cert.DffnRefIdeal Cert.DffnRefIdeal.Gen Cert.DffnRefIdeal.Read Idealize.ShloMosaic Idealize.ShloMosaic.TcCoe Cert.RealMath

variable (a : FVec Ideal S16384x4096 .bf16) (w : FVec Ideal S1x1024x4096 .f32) (x : FVec Ideal S1x16384x1024 .f32) (g : FVec Ideal S1x1024 .f32)
  (d : FVec Ideal S16384x1024 .f32)

/-- A row of the norm's argument, the cotangent at the normed row, and with the gain. -/
def rx (R : Fin 16384) (k : Fin 1024) : EReal := x (ix3 0 R k)
def du (R : Fin 16384) (j : Fin 1024) : EReal := ∑ k : Fin 4096, a (ix2 R k) * w (ix3 0 j k)
def dw (R : Fin 16384) (j : Fin 1024) : EReal := du a w R j * g (ix2 0 j)

theorem v1_apply (R : Fin 16384) (k : Fin 1024) : val_main_v1 (F := Ideal) x (ix2 R k) = rx x R k := by
  pointwise [val_main_v1, rx]

theorem v19_apply (R : Fin 16384) (j : Fin 1024) : val_main_v19 (F := Ideal) a w (ix2 R j) = du a w R j := by
  pointwise [val_main_v19, val_main_v18, val_main_v2, du]

theorem v21_apply (R : Fin 16384) (j : Fin 1024) : val_main_v21 (F := Ideal) a w g (ix2 R j) = dw a w g R j := by
  have e : val_main_v21 (F := Ideal) a w g (ix2 R j) = val_main_v19 (F := Ideal) a w (ix2 R j) * g (ix2 0 j) := by
    pointwise [val_main_v21, val_main_v0]
  rw [e, v19_apply]
  rfl

theorem v9_apply (R : Fin 16384) : val_main_v9 (F := Ideal) x (ix2 R 0) = rmsV (rx x R) := by
  have e : val_main_v9 (F := Ideal) x (ix2 R 0)
      = Ideal.div (∑ k, val_main_v1 (F := Ideal) x (ix2 R k) * val_main_v1 (F := Ideal) x (ix2 R k)) cN + cE := by
    pointwise [val_main_v9, val_main_v8, val_main_v7, val_main_v6, val_main_v5, val_main_v4, val_main_v3, val_main_cst, val_main_cst_0, val_main_cst_1, cN, cE]
  rw [e]
  simp only [v1_apply]
  rfl

theorem v10_apply (R : Fin 16384) : val_main_v10 (F := Ideal) x (ix2 R 0) = rmsR (rx x R) := by
  have e : val_main_v10 (F := Ideal) x (ix2 R 0) = Ideal.rsqrt (val_main_v9 (F := Ideal) x (ix2 R 0)) := by
    pointwise [val_main_v10]
  rw [e, v9_apply]
  rfl

theorem v15_apply (R : Fin 16384) (j : Fin 1024) : val_main_v15 (F := Ideal) x (ix2 R j) = rmsX (rx x R) j := by
  have e : val_main_v15 (F := Ideal) x (ix2 R j) = val_main_v1 (F := Ideal) x (ix2 R j) * val_main_v10 (F := Ideal) x (ix2 R 0) := by
    pointwise [val_main_v15, val_main_v14]
  rw [e, v10_apply, v1_apply]
  rfl

theorem v32_apply (R : Fin 16384) (j : Fin 1024) : val_main_v32 (F := Ideal) a w x g (ix2 R j) = rmsU (rx x R) (dw a w g R) := by
  have e : val_main_v32 (F := Ideal) a w x g (ix2 R j)
      = Ideal.div ((∑ k, val_main_v1 (F := Ideal) x (ix2 R k) * val_main_v21 (F := Ideal) a w g (ix2 R k))
          * (cHalf * Ideal.div (val_main_v10 (F := Ideal) x (ix2 R 0)) (val_main_v9 (F := Ideal) x (ix2 R 0)))) cN := by
    pointwise [val_main_v32, val_main_v31, val_main_v30, val_main_v29, val_main_v28, val_main_v24, val_main_v23, val_main_v22, val_main_v13, val_main_v12,
      val_main_v11, val_main_cst_2, val_main_cst_3, val_main_cst_4, val_main_cst_5, cN, cHalf]
    exact Fin.sum_univ_one _
  rw [e, v10_apply, v9_apply]
  simp only [v1_apply, v21_apply]
  rfl

variable {a w x g}
variable (ha : ∀ i, Rl (a i)) (hw : ∀ i, Rl (w i)) (hx : ∀ i, Rl (x i)) (hg : ∀ i, Rl (g i))

include ha hw hg in
theorem dw_real (R : Fin 16384) (j : Fin 1024) : Rl (dw a w g R j) := by
  unfold dw du
  exact (Rl.sum fun i => (ha _).mul (hw _)).mul (hg _)

include ha hw hx hg

theorem v36_apply (R : Fin 16384) (j : Fin 1024) :
    val_main_v36 (F := Ideal) a w x g d (ix2 R j) = d (ix2 R j) + rmsG (rx x R) (dw a w g R) j := by
  have e : val_main_v36 (F := Ideal) a w x g d (ix2 R j)
      = d (ix2 R j) + val_main_v21 (F := Ideal) a w g (ix2 R j) * val_main_v10 (F := Ideal) x (ix2 R 0)
        + val_main_v1 (F := Ideal) x (ix2 R j) * val_main_v32 (F := Ideal) a w x g (ix2 R j)
        + val_main_v32 (F := Ideal) a w x g (ix2 R j) * val_main_v1 (F := Ideal) x (ix2 R j) := by
    pointwise [val_main_v36, val_main_v35, val_main_v34, val_main_v33, val_main_v27, val_main_v26, val_main_v25]
  rw [e, v10_apply, v1_apply, v32_apply, v21_apply]
  exact rmsG_eq (x := rx x R) (w := dw a w g R) (fun k => hx (ix3 0 R k)) (fun k => dw_real ha hw hg R k) _ _

omit ha hw hx hg

variable (a w x)

/-- One row's part of the gain's gradient. -/
def tg (s : Fin 8) (j : Fin 1024) (q : Fin 2048) : EReal :=
  rmsX (rx x ⟨q.val * 8 + s.val, by omega⟩) j * du a w ⟨q.val * 8 + s.val, by omega⟩ j

theorem v39_apply (s : Fin 8) (j : Fin 1024) : val_main_v39 (F := Ideal) a w x (ix2 s j) = ∑ q, tg a w x s j q := by
  have e : val_main_v39 (F := Ideal) a w x (ix2 s j)
      = ∑ q : Fin 2048, val_main_v15 (F := Ideal) x (ix2 ⟨q.val * 8 + s.val, by omega⟩ j) * val_main_v19 (F := Ideal) a w (ix2 ⟨q.val * 8 + s.val, by omega⟩ j) := by
    pointwise [val_main_v39, val_main_v38, val_main_v20, val_main_cst_6]
  rw [e]
  simp only [v15_apply, v19_apply]
  rfl

end Cert.DffnRefIdeal.Hand
-- ==== Proof.DffnVal.lean ====
/-
  The gradient of the mixer's norm and first product: the arrays the kernel leaves, element by element.
-/
module

public import proofs.«01_k».proof.Proof.DffnBody
public import proofs.«01_k».proof.Proof.DffnRefRow
public import Idealize.ShloMosaic.Lib.Claim
public import Idealize.ShloMosaic.Lib.Pipeline.ValueKit.Acc

@[expose] public section

set_option maxRecDepth 16384

noncomputable section

namespace Cert.DffnIdeal.Hand

open Cert.DffnIdeal Cert.DffnIdeal.Gen Idealize.ShloMosaic Idealize.ShloMosaic.TcCoe Idealize.SL.Sem Cert.RealMath
open Idealize.ShloMosaic.Pipeline (Dat)
open Cert.DffnRefIdeal.Hand (rx du dw tg)

/-! ### The body's stores, chunk by chunk -/

section block
variable (u x d : Vec Ideal S1024x1024 .f32) (g : Vec Ideal S1x1024 .f32)

/-- A point's part of the product. -/
def TA (a b : Vec Ideal S1024x1024 .bf16) (i : S1024x1024.Idx) : EReal := ∑ k : Fin 1024, a (ix2 (i 0) k) * b (ix2 (i 1) k)

/-- The gradient on a block, and one row's part of the gain's gradient. -/
def OB (i : S1024x1024.Idx) : EReal := d i + rmsG (fun k => x (ix2 (i 0) k)) (fun k => u (ix2 (i 0) k) * g (ix2 0 k)) (i 1)
def GB (s : Fin 8) (j : Fin 1024) (q : Fin 128) : EReal :=
  u (ix2 ⟨q.val * 8 + s.val, by omega⟩ j) * rmsX (fun k => x (ix2 ⟨q.val * 8 + s.val, by omega⟩ k)) j

variable {o : Nat} (i0 : ∀ a, (![o, 0] : Fin 2 → Nat) a + (![256, 1024] : Fin 2 → Nat) a ≤ S1024x1024.size a)

theorem ldr (r : Fin 256) (k : Fin 1024) (R : Fin 1024) (hR : R.val = o + r.val) :
    View.ld x (Rect.unit ![o, 0] ![256, 1024] i0) (ix2 r k) = x (ix2 R k) := by
  show x _ = x _
  congr 1
  funext a
  apply Fin.ext
  match a with
  | ⟨0, _⟩ => show o + 1 * r.val = R.val; omega
  | ⟨1, _⟩ => show 0 + 1 * k.val = k.val; omega

/-- A load of rows from the accumulator just stored whole. -/
theorem readCov_whole (v : View sig .tc .vmem S1024x1024 .f32) (inb : ∀ a, (![0, 0] : Fin 2 → Nat) a + S1024x1024.size a ≤ S1024x1024.size a) (r : Rect S1024x1024) :
    v.readCov (Val := Elt Ideal) [⟨Rect.unit ![0, 0] S1024x1024.size inb, u⟩] r.toLoadRect = View.ld u r := by
  rw [View.readCov_eq_canon', View.canon_cons_unit_lit inb u [] (by intro a; fin_cases a <;> rfl)]

/-- The rows a chunk takes. -/
abbrev lda : Vec Ideal S256x1024 .f32 := View.ld u (Rect.unit ![o, 0] ![256, 1024] i0)

theorem pieceO (y : S256x1024.Idx) :
    k0_pay9 (lda u i0) (View.ld x (Rect.unit ![o, 0] ![256, 1024] i0)) (View.ld d (Rect.unit ![o, 0] ![256, 1024] i0)) g y
      = OB u x d g ((Rect.unit (s := S1024x1024) ![o, 0] ![256, 1024] i0).emb y) := by
  obtain ⟨r, j, rfl⟩ : ∃ (r : Fin 256) (j : Fin 1024), y = ix2 r j := ⟨y 0, y 1, (ix2_eta y).symm⟩
  have h := i0 0
  change o + 256 ≤ 1024 at h
  have e : (Rect.unit (s := S1024x1024) ![o, 0] ![256, 1024] i0).emb (ix2 r j) = ix2 (⟨o + r.val, by omega⟩ : Fin 1024) j := by
    funext a
    apply Fin.ext
    match a with
    | ⟨0, _⟩ => show o + 1 * r.val = o + r.val; omega
    | ⟨1, _⟩ => show 0 + 1 * j.val = j.val; omega
  rw [pay9_apply, e]
  exact congrArg₂ (· + ·) (ldr d i0 r j (⟨o + r.val, by omega⟩ : Fin 1024) rfl)
    (congrArg₂ (fun a b => rmsG a b j) (funext fun k => ldr x i0 r k _ rfl) (funext fun k => congrArg (· * g (ix2 0 k)) (ldr u i0 r k _ rfl)))

theorem pieceG (a : Vec Ideal S8x1024 .f32) (h : Fin 4) (ho : o = h.val * 256) (s : Fin 8) (j : Fin 1024) :
    k0_pay12 (lda u i0) (k0_pay8 (View.ld x (Rect.unit ![o, 0] ![256, 1024] i0))) a (ix2 s j)
      = a (ix2 s j) + ∑ q : Fin 32, GB u x s j ⟨h.val * 32 + q.val, by omega⟩ := by
  rw [pay12_apply]
  congr 1
  refine Finset.sum_congr rfl fun q _ => ?_
  unfold GB
  rw [pay8_apply]
  exact congrArg₂ (· * ·) (ldr u i0 _ j _ (by dsimp only; omega)) (congrArg (fun a => rmsX a j) (funext fun k => ldr x i0 _ k _ (by dsimp only; omega)))

end block

section same
variable (u x d : Vec Ideal S256x1024 .f32) (g : Vec Ideal S1x1024 .f32) (y : S256x1024.Idx)
theorem p9 : k0_pay9 u x d g y = k0_pay9 u x d g y := rfl
theorem p16 : k0_pay16 u x d g y = k0_pay9 u x d g y := rfl
theorem p22 : k0_pay22 u x d g y = k0_pay9 u x d g y := rfl
theorem p28 : k0_pay28 u x d g y = k0_pay9 u x d g y := rfl
theorem q10 : (k0_pay10 u x d g y : EReal) = k0_pay9 u x d g y := rfl
theorem q17 : (k0_pay17 u x d g y : EReal) = k0_pay9 u x d g y := rfl
theorem q23 : (k0_pay23 u x d g y : EReal) = k0_pay9 u x d g y := rfl
theorem q3 : (k0_pay3 (k0_pay28 u x d g) y : EReal) = k0_pay9 u x d g y := rfl
end same

theorem pay11_apply (a : Vec Ideal S8x1024 .f32) (s : Fin 8) (j : Fin 1024) : k0_pay11 a (ix2 s j) = a (ix2 s j) := by
  pointwise [k0_pay11]

theorem pay18_eq (u y : Vec Ideal S256x1024 .f32) (a : Vec Ideal S8x1024 .f32) : k0_pay18 u y a = k0_pay12 u y (k0_pay11 a) := rfl
theorem pay24_eq (u y : Vec Ideal S256x1024 .f32) (a : Vec Ideal S8x1024 .f32) : k0_pay24 u y a = k0_pay12 u y (k0_pay11 a) := rfl
theorem pay4_eq (u y : Vec Ideal S256x1024 .f32) (a : Vec Ideal S8x1024 .f32) : k0_pay4 u y a = k0_pay12 u y (k0_pay11 a) := rfl

/-- The four chunks' additions to the gain's gradient. -/
theorem chainG (u x : Vec Ideal S1024x1024 .f32) (a : Vec Ideal S8x1024 .f32) (s : Fin 8) (j : Fin 1024) :
    k0_pay4 (lda u inb_S1024x1024_S256x1024_768_0) (k0_pay27 (View.ld x (Rect.unit ![768, 0] ![256, 1024] inb_S1024x1024_S256x1024_768_0)))
      (k0_pay24 (lda u inb_S1024x1024_S256x1024_512_0) (k0_pay21 (View.ld x (Rect.unit ![512, 0] ![256, 1024] inb_S1024x1024_S256x1024_512_0)))
        (k0_pay18 (lda u inb_S1024x1024_S256x1024_256_0) (k0_pay15 (View.ld x (Rect.unit ![256, 0] ![256, 1024] inb_S1024x1024_S256x1024_256_0)))
          (k0_pay12 (lda u inb_S1024x1024_S256x1024_0_0) (k0_pay8 (View.ld x (Rect.unit ![0, 0] ![256, 1024] inb_S1024x1024_S256x1024_0_0)))
            (k0_pay11 a)))) (ix2 s j)
      = a (ix2 s j) + ∑ q, GB u x s j q := by
  rw [pay4_eq, pay24_eq, pay18_eq, pay27_eq, pay21_eq, pay15_eq, pieceG u x (o := 768) _ _ 3 rfl, pay11_apply, pieceG u x (o := 512) _ _ 2 rfl, pay11_apply,
    pieceG u x (o := 256) _ _ 1 rfl, pay11_apply, pieceG u x (o := 0) _ _ 0 rfl, pay11_apply,
    ← Fin.sum_mul_add_fin 4 32 (GB u x s j), Fin.sum_univ_four]
  simp only [add_assoc]

/-! ### The run's contents -/

variable (m : (ℓ : Loc nD τ sig) → Buf (Elt Ideal) ℓ)

theorem memO {o : Nat} (i0 : ∀ a, (![o, 0] : Fin 2 → Nat) a + (![256, 1024] : Fin 2 → Nat) a ≤ S1024x1024.size a) (y : S1024x1024.Idx)
    (hy : o ≤ (y 0).val ∧ (y 0).val < o + 256) : y ∈ (Rect.unit (s := S1024x1024) ![o, 0] ![256, 1024] i0).set := by
  rw [Rect.mem_set_unit]
  intro a
  match a with
  | ⟨0, _⟩ => exact hy
  | ⟨1, _⟩ => exact ⟨Nat.zero_le _, lt_of_lt_of_eq (y 1).isLt (by rfl)⟩

theorem unread_eq (X : Vec Ideal S1024x1024 .f32) :
    View.read (Elt Ideal) (View.whole cc0_scratch0) ((Memref.isWhole_whole cc0_scratch0).unread X) = X :=
  (Memref.isWhole_whole cc0_scratch0).read_unread X

section points
variable (c : Dev nD) (t : Fin cfg0.N)

/-- What the point before left. -/
abbrev pv := outsAt0 m c (t.val - 1) (Nat.lt_of_le_of_lt (Nat.sub_le _ _) t.isLt)

theorem acc_A (h0 : t.val % 4 = 0) (y : S1024x1024.Idx) : (outsAt0 m c t.val t.isLt).2.2.2 y = 0 + TA (iblk m c 0 t) (iblk m c 1 t) y := by
  obtain ⟨r, j, rfl⟩ : ∃ (r : Fin 1024) (j : Fin 1024), y = ix2 r j := ⟨y 0, y 1, (ix2_eta y).symm⟩
  rw [outsAt0_A m c t h0 (by omega)]
  dsimp only
  frame_out
  rw [pay2_apply, pay1_apply]
  rfl

theorem acc_S (h0 : ¬t.val % 4 = 0) : (outsAt0 m c t.val t.isLt).2.2.2 = k0_pay2 (pv m c t).2.2.2 (iblk m c 0 t) (iblk m c 1 t) := by
  by_cases h1 : t.val % 4 = 3
  · by_cases h2 : t.val < 4
    · rw [outsAt0_C m c t h0 h1 h2]
      dsimp only
      frame_out
      rw [unread_eq]
    · rw [outsAt0_D m c t h0 h1 h2]
      dsimp only
      frame_out
      rw [unread_eq]
  · rw [outsAt0_B m c t h0 h1]
    dsimp only
    frame_out
    rw [unread_eq]

theorem acc_B (h0 : ¬t.val % 4 = 0) (y : S1024x1024.Idx) : (outsAt0 m c t.val t.isLt).2.2.2 y = (pv m c t).2.2.2 y + TA (iblk m c 0 t) (iblk m c 1 t) y := by
  obtain ⟨r, j, rfl⟩ : ∃ (r : Fin 1024) (j : Fin 1024), y = ix2 r j := ⟨y 0, y 1, (ix2_eta y).symm⟩
  rw [acc_S m c t h0, pay2_apply]
  rfl

open List.Mem in
theorem out_O (h0 : ¬t.val % 4 = 0) (h1 : t.val % 4 = 3) (y : S1024x1024.Idx) :
    (outsAt0 m c t.val t.isLt).1 y = OB (outsAt0 m c t.val t.isLt).2.2.2 (iblk m c 2 t) (iblk m c 4 t) (iblk m c 3 t) y := by
  rw [acc_S m c t h0]
  by_cases h2 : t.val < 4
  all_goals
    first
    | rw [outsAt0_C m c t h0 h1 h2]
    | rw [outsAt0_D m c t h0 h1 h2]
    dsimp only
    frame_out
    dsimp only [pv]
    generalize (outsAt0 m c (t.val - 1) (Nat.lt_of_le_of_lt (Nat.sub_le _ _) t.isLt)) = X
    rw [unread_eq]
    rw [readCov_whole, readCov_whole, readCov_whole, readCov_whole]
    refine View.canon_apply_of_pieces (Val := Elt Ideal) (S := S1024x1024) (e := .f32) (OB (k0_pay2 X.2.2.2 (iblk m c 0 t) (iblk m c 1 t)) (iblk m c 2 t) (iblk m c 4 t) (iblk m c 3 t)) _ ?_ y ?_
    · intro p hp
      simp only [List.mem_cons, List.not_mem_nil, or_false] at hp
      rcases hp with rfl | rfl | rfl | rfl
      · exact fun y => (p28 _ _ _ _ y).trans (pieceO (k0_pay2 X.2.2.2 (iblk m c 0 t) (iblk m c 1 t)) (iblk m c 2 t) (iblk m c 4 t) (iblk m c 3 t) (o := 768) inb_S1024x1024_S256x1024_768_0 y)
      · exact fun y => (p22 _ _ _ _ y).trans (pieceO (k0_pay2 X.2.2.2 (iblk m c 0 t) (iblk m c 1 t)) (iblk m c 2 t) (iblk m c 4 t) (iblk m c 3 t) (o := 512) inb_S1024x1024_S256x1024_512_0 y)
      · exact fun y => (p16 _ _ _ _ y).trans (pieceO (k0_pay2 X.2.2.2 (iblk m c 0 t) (iblk m c 1 t)) (iblk m c 2 t) (iblk m c 4 t) (iblk m c 3 t) (o := 256) inb_S1024x1024_S256x1024_256_0 y)
      · exact fun y => (p9 _ _ _ _ y).trans (pieceO (k0_pay2 X.2.2.2 (iblk m c 0 t) (iblk m c 1 t)) (iblk m c 2 t) (iblk m c 4 t) (iblk m c 3 t) (o := 0) inb_S1024x1024_S256x1024_0_0 y)
    · have hy : (y 0).val < 1024 := (y 0).isLt
      have hc : (y 0).val < 256 ∨ (256 ≤ (y 0).val ∧ (y 0).val < 512) ∨ (512 ≤ (y 0).val ∧ (y 0).val < 768) ∨ 768 ≤ (y 0).val := by omega
      rcases hc with h | h | h | h
      · exact ⟨_, tail _ (tail _ (tail _ (head _))), memO (o := 0) inb_S1024x1024_S256x1024_0_0 y (by omega)⟩
      · exact ⟨_, tail _ (tail _ (head _)), memO (o := 256) inb_S1024x1024_S256x1024_256_0 y (by omega)⟩
      · exact ⟨_, tail _ (head _), memO (o := 512) inb_S1024x1024_S256x1024_512_0 y (by omega)⟩
      · exact ⟨_, head _, memO (o := 768) inb_S1024x1024_S256x1024_768_0 y (by omega)⟩

open List.Mem in
theorem out_P (h0 : ¬t.val % 4 = 0) (h1 : t.val % 4 = 3) (y : S1024x1024.Idx) :
    (outsAt0 m c t.val t.isLt).2.1 y = OB (outsAt0 m c t.val t.isLt).2.2.2 (iblk m c 2 t) (iblk m c 4 t) (iblk m c 3 t) y := by
  rw [acc_S m c t h0]
  by_cases h2 : t.val < 4
  all_goals
    first
    | rw [outsAt0_C m c t h0 h1 h2]
    | rw [outsAt0_D m c t h0 h1 h2]
    dsimp only
    frame_out
    dsimp only [pv]
    generalize (outsAt0 m c (t.val - 1) (Nat.lt_of_le_of_lt (Nat.sub_le _ _) t.isLt)) = X
    rw [unread_eq]
    rw [readCov_whole, readCov_whole, readCov_whole, readCov_whole]
    refine View.canon_apply_of_pieces (Val := Elt Ideal) (S := S1024x1024) (e := .bf16) (OB (k0_pay2 X.2.2.2 (iblk m c 0 t) (iblk m c 1 t)) (iblk m c 2 t) (iblk m c 4 t) (iblk m c 3 t)) _ ?_ y ?_
    · intro p hp
      simp only [List.mem_cons, List.not_mem_nil, or_false] at hp
      rcases hp with rfl | rfl | rfl | rfl
      · exact fun y => (q3 _ _ _ _ y).trans (pieceO (k0_pay2 X.2.2.2 (iblk m c 0 t) (iblk m c 1 t)) (iblk m c 2 t) (iblk m c 4 t) (iblk m c 3 t) (o := 768) inb_S1024x1024_S256x1024_768_0 y)
      · exact fun y => (q23 _ _ _ _ y).trans (pieceO (k0_pay2 X.2.2.2 (iblk m c 0 t) (iblk m c 1 t)) (iblk m c 2 t) (iblk m c 4 t) (iblk m c 3 t) (o := 512) inb_S1024x1024_S256x1024_512_0 y)
      · exact fun y => (q17 _ _ _ _ y).trans (pieceO (k0_pay2 X.2.2.2 (iblk m c 0 t) (iblk m c 1 t)) (iblk m c 2 t) (iblk m c 4 t) (iblk m c 3 t) (o := 256) inb_S1024x1024_S256x1024_256_0 y)
      · exact fun y => (q10 _ _ _ _ y).trans (pieceO (k0_pay2 X.2.2.2 (iblk m c 0 t) (iblk m c 1 t)) (iblk m c 2 t) (iblk m c 4 t) (iblk m c 3 t) (o := 0) inb_S1024x1024_S256x1024_0_0 y)
    · have hy : (y 0).val < 1024 := (y 0).isLt
      have hc : (y 0).val < 256 ∨ (256 ≤ (y 0).val ∧ (y 0).val < 512) ∨ (512 ≤ (y 0).val ∧ (y 0).val < 768) ∨ 768 ≤ (y 0).val := by omega
      rcases hc with h | h | h | h
      · exact ⟨_, tail _ (tail _ (tail _ (head _))), memO (o := 0) inb_S1024x1024_S256x1024_0_0 y (by omega)⟩
      · exact ⟨_, tail _ (tail _ (head _)), memO (o := 256) inb_S1024x1024_S256x1024_256_0 y (by omega)⟩
      · exact ⟨_, tail _ (head _), memO (o := 512) inb_S1024x1024_S256x1024_512_0 y (by omega)⟩
      · exact ⟨_, head _, memO (o := 768) inb_S1024x1024_S256x1024_768_0 y (by omega)⟩

theorem dg_keep (h1 : ¬t.val % 4 = 3) : (outsAt0 m c t.val t.isLt).2.2.1 = (pv m c t).2.2.1 := by
  by_cases h0 : t.val % 4 = 0
  · rw [outsAt0_A m c t h0 h1]
    rfl
  · rw [outsAt0_B m c t h0 h1]
    rfl

theorem dg_C (h1 : t.val % 4 = 3) (h2 : t.val < 4) (s : Fin 8) (j : Fin 1024) :
    (outsAt0 m c t.val t.isLt).2.2.1 (ix2 s j) = 0 + ∑ q, GB (outsAt0 m c t.val t.isLt).2.2.2 (iblk m c 2 t) s j q := by
  rw [acc_S m c t (by omega), outsAt0_C m c t (by omega) h1 h2]
  dsimp only
  frame_out
  dsimp only [pv]
  generalize (outsAt0 m c (t.val - 1) (Nat.lt_of_le_of_lt (Nat.sub_le _ _) t.isLt)) = X
  rw [unread_eq]
  rw [readCov_whole, readCov_whole, readCov_whole, readCov_whole]
  have e : k0_pay5 (F := Ideal) (ix2 s j) = 0 := (pay11_apply (k0_pay5 (F := Ideal)) s j).symm.trans (pay5_apply s j)
  rw [← e]
  exact chainG (k0_pay2 X.2.2.2 (iblk m c 0 t) (iblk m c 1 t)) (iblk m c 2 t) (k0_pay5 (F := Ideal)) s j

theorem dg_D (h1 : t.val % 4 = 3) (h2 : ¬t.val < 4) (s : Fin 8) (j : Fin 1024) :
    (outsAt0 m c t.val t.isLt).2.2.1 (ix2 s j) = (pv m c t).2.2.1 (ix2 s j) + ∑ q, GB (outsAt0 m c t.val t.isLt).2.2.2 (iblk m c 2 t) s j q := by
  rw [acc_S m c t (by omega), outsAt0_D m c t (by omega) h1 h2]
  dsimp only
  frame_out
  dsimp only [pv]
  generalize (outsAt0 m c (t.val - 1) (Nat.lt_of_le_of_lt (Nat.sub_le _ _) t.isLt)) = X
  rw [unread_eq]
  rw [readCov_whole, readCov_whole, readCov_whole, readCov_whole]
  exact chainG (k0_pay2 X.2.2.2 (iblk m c 0 t) (iblk m c 1 t)) (iblk m c 2 t) X.2.2.1 s j

end points

end Cert.DffnIdeal.Hand
-- ==== Proof.DffnFinal.lean ====
/-
  The gradient of the mixer's norm and first product: the blocks the points read, the accumulated product, and the three arrays
  after the run against the reference's.
-/
module

public import proofs.«01_k».proof.Proof.DffnVal
public import proofs.«01_k».proof.Proof.Gen.DffnIdeal.Value

@[expose] public section

set_option maxRecDepth 16384

noncomputable section

namespace Cert.DffnIdeal.Hand

open Cert.DffnIdeal Cert.DffnIdeal.Gen Idealize.ShloMosaic Idealize.ShloMosaic.TcCoe Idealize.SL.Sem Cert.RealMath
open Idealize.ShloMosaic.Pipeline (Dat)
open Cert.DffnRefIdeal.Hand (rx du dw tg)
open Cert.DffnRefIdeal.Read

variable (m : (ℓ : Loc nD τ sig) → Buf (Elt Ideal) ℓ) (c : Dev nD)

/-- The arguments, as the reference takes them. -/
abbrev A0 : FVec Ideal S16384x4096 .bf16 := m ((c : Thread nD τ).loc main_arg0)
abbrev A1 : FVec Ideal S1x1024x4096 .f32 := m ((c : Thread nD τ).loc main_arg1)
abbrev A2 : FVec Ideal S1x16384x1024 .f32 := m ((c : Thread nD τ).loc main_arg2)
abbrev A3 : FVec Ideal S1x1024 .f32 := m ((c : Thread nD τ).loc main_arg3)
abbrev A4 : FVec Ideal S16384x1024 .f32 := m ((c : Thread nD τ).loc main_arg4)

theorem drop1 (x : FVec Ideal S1x1024x4096 .f32) (q : Fin 1024) (k : Fin 4096) :
    shapeCast S1024x4096 x shapeCasts_S1x1024x4096_S1024x4096 (ix2 q k) = x (ix3 0 q k) := by
  pointwise []

theorem drop2 (x : FVec Ideal S1x16384x1024 .f32) (q : Fin 16384) (k : Fin 1024) :
    shapeCast S16384x1024 x shapeCasts_S1x16384x1024_S16384x1024 (ix2 q k) = x (ix3 0 q k) := by
  pointwise []

theorem V_w (q : Fin 1024) (k : Fin 4096) : V m c main_v1 (ix2 q k) = A1 m c (ix3 0 q k) := by
  have e : V m c main_v1 = (truncf .bf16 (shapeCast S1024x4096 (A1 m c) shapeCasts_S1x1024x4096_S1024x4096) bitsLt_bf16_f32 : FVec Ideal S1024x4096 .bf16) := by
    dsimp only [V, hostOps0, List.flatten_cons, List.flatten_nil, List.cons_append, List.nil_append]
    after_results
    rfl
  rw [e]
  exact drop1 _ q k

theorem V_x (q : Fin 16384) (k : Fin 1024) : V m c main_v2 (ix2 q k) = A2 m c (ix3 0 q k) := by
  have e : V m c main_v2 = (shapeCast S16384x1024 (A2 m c) shapeCasts_S1x16384x1024_S16384x1024 : FVec Ideal S16384x1024 .f32) := by
    dsimp only [V, hostOps0, List.flatten_cons, List.flatten_nil, List.cons_append, List.nil_append]
    after_results
    rfl
  rw [e]
  exact drop2 _ q k

theorem idx_in : ∀ t : Fin cfg0.N, (win0_0.index t 0 = t.val / 4 ∧ win0_0.index t 1 = t.val % 4) ∧ (win0_1.index t 0 = 0 ∧ win0_1.index t 1 = t.val % 4)
    ∧ (win0_2.index t 0 = t.val / 4 ∧ win0_2.index t 1 = 0) ∧ (win0_3.index t 0 = 0 ∧ win0_3.index t 1 = 0) ∧ (win0_4.index t 0 = t.val / 4 ∧ win0_4.index t 1 = 0) :=
  (by decide +kernel : ∀ t : Fin grid0.N, (win0_0.index t 0 = t.val / 4 ∧ win0_0.index t 1 = t.val % 4) ∧ (win0_1.index t 0 = 0 ∧ win0_1.index t 1 = t.val % 4)
    ∧ (win0_2.index t 0 = t.val / 4 ∧ win0_2.index t 1 = 0) ∧ (win0_3.index t 0 = 0 ∧ win0_3.index t 1 = 0) ∧ (win0_4.index t 0 = t.val / 4 ∧ win0_4.index t 1 = 0))

theorem idx_out : ∀ t : Fin cfg0.N, (win0_5.index t 0 = t.val / 4 ∧ win0_5.index t 1 = 0) ∧ (win0_6.index t 0 = t.val / 4 ∧ win0_6.index t 1 = 0)
    ∧ (win0_7.index t 0 = 0 ∧ win0_7.index t 1 = 0) :=
  (by decide +kernel : ∀ t : Fin grid0.N, (win0_5.index t 0 = t.val / 4 ∧ win0_5.index t 1 = 0) ∧ (win0_6.index t 0 = t.val / 4 ∧ win0_6.index t 1 = 0)
    ∧ (win0_7.index t 0 = 0 ∧ win0_7.index t 1 = 0))

section blocks
variable (t : Fin cfg0.N)

theorem lt64 : t.val < 64 := lt_of_lt_of_eq t.isLt N_0

theorem a_blk (r k : Fin 1024) (R : Fin 16384) (hR : R.val = t.val / 4 * 1024 + r.val) (K : Fin 4096) (hK : K.val = t.val % 4 * 1024 + k.val) :
    iblk m c 0 t (ix2 r k) = A0 m c (ix2 R K) := by
  obtain ⟨⟨e0, e1⟩, -⟩ := idx_in t
  refine Eq.trans ?_ (congrFun (V_main_arg0 m c) (ix2 R K))
  show V m c main_arg0 _ = V m c main_arg0 _
  congr 1
  funext a
  apply Fin.ext
  match a with
  | ⟨0, _⟩ => show win0_0.index t 0 * 1024 + 1 * r.val = R.val; rw [e0]; omega
  | ⟨1, _⟩ => show win0_0.index t 1 * 1024 + 1 * k.val = K.val; rw [e1]; omega

theorem w_blk (j k : Fin 1024) (K : Fin 4096) (hK : K.val = t.val % 4 * 1024 + k.val) : iblk m c 1 t (ix2 j k) = A1 m c (ix3 0 j K) := by
  obtain ⟨-, ⟨e0, e1⟩, -⟩ := idx_in t
  refine Eq.trans ?_ (V_w m c j K)
  show V m c main_v1 _ = V m c main_v1 _
  congr 1
  funext a
  apply Fin.ext
  match a with
  | ⟨0, _⟩ => show win0_1.index t 0 * 1024 + 1 * j.val = j.val; rw [e0]; omega
  | ⟨1, _⟩ => show win0_1.index t 1 * 1024 + 1 * k.val = K.val; rw [e1]; omega

theorem x_blk (r k : Fin 1024) (R : Fin 16384) (hR : R.val = t.val / 4 * 1024 + r.val) : iblk m c 2 t (ix2 r k) = rx (A2 m c) R k := by
  obtain ⟨-, -, ⟨e0, e1⟩, -⟩ := idx_in t
  refine Eq.trans ?_ (V_x m c R k)
  show V m c main_v2 _ = V m c main_v2 _
  congr 1
  funext a
  apply Fin.ext
  match a with
  | ⟨0, _⟩ => show win0_2.index t 0 * 1024 + 1 * r.val = R.val; rw [e0]; omega
  | ⟨1, _⟩ => show win0_2.index t 1 * 1024 + 1 * k.val = k.val; rw [e1]; omega

theorem g_blk (k : Fin 1024) : iblk m c 3 t (ix2 0 k) = A3 m c (ix2 0 k) := by
  obtain ⟨-, -, -, ⟨e0, e1⟩, -⟩ := idx_in t
  refine Eq.trans ?_ (congrFun (V_main_arg3 m c) (ix2 0 k))
  show V m c main_arg3 _ = V m c main_arg3 _
  congr 1
  funext a
  apply Fin.ext
  match a with
  | ⟨0, _⟩ => show win0_3.index t 0 * 1 + 1 * 0 = 0; rw [e0]
  | ⟨1, _⟩ => show win0_3.index t 1 * 1024 + 1 * k.val = k.val; rw [e1]; omega

theorem d_blk (r k : Fin 1024) (R : Fin 16384) (hR : R.val = t.val / 4 * 1024 + r.val) : iblk m c 4 t (ix2 r k) = A4 m c (ix2 R k) := by
  obtain ⟨-, -, -, -, e0, e1⟩ := idx_in t
  refine Eq.trans ?_ (congrFun (V_main_arg4 m c) (ix2 R k))
  show V m c main_arg4 _ = V m c main_arg4 _
  congr 1
  funext a
  apply Fin.ext
  match a with
  | ⟨0, _⟩ => show win0_4.index t 0 * 1024 + 1 * r.val = R.val; rw [e0]; omega
  | ⟨1, _⟩ => show win0_4.index t 1 * 1024 + 1 * k.val = k.val; rw [e1]; omega

/-- The product accumulated over a row block's four points. -/
theorem acc_last (h1 : t.val % 4 = 3) (r j : Fin 1024) (R : Fin 16384) (hR : R.val = t.val / 4 * 1024 + r.val) :
    (outsAt0 m c t.val t.isLt).2.2.2 (ix2 r j) = du (A0 m c) (A1 m c) R j := by
  rw [Pipeline.eq_sum_fin_of_reset_step_apply_of_flush (fun n h => (outsAt0 m c n h).2.2.2) 4 (fun _ => (0 : EReal))
    (fun t i => TA (iblk m c 0 t) (iblk m c 1 t) i) (fun t h i => acc_A m c t h i) (fun t h i => acc_B m c t h i) t h1 (ix2 r j), zero_add]
  unfold du
  rw [← Fin.sum_mul_add_fin 4 1024 fun k : Fin 4096 => A0 m c (ix2 R k) * A1 m c (ix3 0 j k)]
  refine Finset.sum_congr rfl fun s _ => Finset.sum_congr rfl fun k _ => ?_
  have ht := lt64 t
  exact congrArg₂ (· * ·) (a_blk m c _ r k R (by dsimp only; omega) ⟨s.val * 1024 + k.val, by omega⟩ (by dsimp only; omega))
    (w_blk m c _ j k ⟨s.val * 1024 + k.val, by omega⟩ (by dsimp only; omega))

theorem OB_blk (h1 : t.val % 4 = 3) (r j : Fin 1024) (R : Fin 16384) (hR : R.val = t.val / 4 * 1024 + r.val) :
    OB (outsAt0 m c t.val t.isLt).2.2.2 (iblk m c 2 t) (iblk m c 4 t) (iblk m c 3 t) (ix2 r j)
      = A4 m c (ix2 R j) + rmsG (rx (A2 m c) R) (dw (A0 m c) (A1 m c) (A3 m c) R) j := by
  exact congrArg₂ (· + ·) (d_blk m c t r j R hR) (congrArg₂ (fun a b => rmsG a b j) (funext fun k => x_blk m c t r k R hR)
    (funext fun k => congrArg₂ (· * ·) (acc_last m c t h1 r k R hR) (g_blk m c t k)))

/-- A row's part of the gain's gradient. -/
theorem GB_blk (h1 : t.val % 4 = 3) (s : Fin 8) (j : Fin 1024) (q : Fin 128) (Q : Fin 2048) (hQ : Q.val = t.val / 4 * 128 + q.val) :
    GB (outsAt0 m c t.val t.isLt).2.2.2 (iblk m c 2 t) s j q = tg (A0 m c) (A1 m c) (A2 m c) s j Q := by
  have ht := lt64 t
  unfold GB tg
  rw [mul_comm]
  exact congrArg₂ (· * ·) (congrArg (fun a => rmsX a j) (funext fun k => x_blk m c t _ k ⟨Q.val * 8 + s.val, by omega⟩ (by dsimp only; omega)))
    (acc_last m c t h1 _ j ⟨Q.val * 8 + s.val, by omega⟩ (by dsimp only; omega))

end blocks

theorem outs_congr {n n' : Nat} (e : n = n') (h : n < cfg0.N) (h' : n' < cfg0.N) : outsAt0 m c n h = outsAt0 m c n' h' := by
  subst e
  rfl

/-- The gain's gradient stays as it is until the row block's last point. -/
theorem dg_back (t : Fin cfg0.N) (h1 : t.val % 4 = 3) (h2 : ¬t.val < 4) (h' : t.val - 4 < cfg0.N) :
    (pv m c t).2.2.1 = (outsAt0 m c (t.val - 4) h').2.2.1 := by
  have ht := t.isLt
  rw [dg_keep m c ⟨t.val - 1, by omega⟩ (by dsimp only; omega)]
  dsimp only [pv]
  rw [dg_keep m c ⟨t.val - 1 - 1, by omega⟩ (by dsimp only; omega)]
  dsimp only [pv]
  rw [dg_keep m c ⟨t.val - 1 - 1 - 1, by omega⟩ (by dsimp only; omega)]
  dsimp only [pv]
  rw [outs_congr m c (n := t.val - 1 - 1 - 1 - 1) (n' := t.val - 4) (by omega) (by omega) h']

theorem pt_lt {n : Nat} (h : n < 16) : 4 * n + 3 < cfg0.N := by
  have e : cfg0.N = 64 := N_0
  omega

/-- The gain's gradient after row block `n`. -/
def dgAt (n : Nat) (h : n < 16) : Vec Ideal S8x1024 .f32 := (outsAt0 m c (4 * n + 3) (pt_lt h)).2.2.1

/-- What row block `n` adds to it. -/
def dgTerm (s : Fin 8) (j : Fin 1024) (n : Fin 16) : EReal := ∑ q : Fin 128, tg (A0 m c) (A1 m c) (A2 m c) s j ⟨n.val * 128 + q.val, by omega⟩

theorem dgAt_zero (h : 0 < 16) (s : Fin 8) (j : Fin 1024) : dgAt m c 0 h (ix2 s j) = 0 + dgTerm m c s j ⟨0, h⟩ := by
  refine (dg_C m c ⟨4 * 0 + 3, pt_lt h⟩ (by dsimp only) (by show 4 * 0 + 3 < 4; decide) s j).trans ?_
  exact congrArg (0 + ·) (Finset.sum_congr rfl fun q _ => GB_blk m c ⟨4 * 0 + 3, pt_lt h⟩ (by dsimp only) s j q _ (by dsimp only))

theorem dgAt_succ (n : Nat) (h : n + 1 < 16) (s : Fin 8) (j : Fin 1024) :
    dgAt m c (n + 1) h (ix2 s j) = dgAt m c n (by omega) (ix2 s j) + dgTerm m c s j ⟨n + 1, h⟩ := by
  have h4 : 4 * (n + 1) + 3 - 4 < cfg0.N := lt_of_le_of_lt (Nat.sub_le _ _) (pt_lt h)
  refine (dg_D m c ⟨4 * (n + 1) + 3, pt_lt h⟩ (by dsimp only; omega) (by dsimp only; omega) s j).trans ?_
  rw [dg_back m c ⟨4 * (n + 1) + 3, pt_lt h⟩ (by dsimp only; omega) (by dsimp only; omega) h4]
  refine congrArg₂ (· + ·) ?_ (Finset.sum_congr rfl fun q _ => GB_blk m c ⟨4 * (n + 1) + 3, pt_lt h⟩ (by dsimp only; omega) s j q _ (by dsimp only; omega))
  unfold dgAt
  rw [outs_congr m c (n := 4 * n + 3) (n' := 4 * (n + 1) + 3 - 4) (by omega) _ h4]

theorem dgAt_last (s : Fin 8) (j : Fin 1024) (h : 15 < 16) : dgAt m c 15 h (ix2 s j) = ∑ Q, tg (A0 m c) (A1 m c) (A2 m c) s j Q := by
  rw [← Fin.sum_mul_add_fin 16 128 fun Q : Fin 2048 => tg (A0 m c) (A1 m c) (A2 m c) s j Q]
  have e := Pipeline.eq_sum_fin_of_reset_step_apply_last (N := 16) (fun n h i => dgAt m c n h (ix2 s i)) 16 (fun _ => (0 : EReal))
    (fun n i => dgTerm m c s i n)
    (fun t h0 i => by
      obtain ⟨t, ht⟩ := t
      obtain rfl : t = 0 := by dsimp only at h0; omega
      exact dgAt_zero m c ht s i)
    (fun t h0 i => by
      obtain ⟨t, ht⟩ := t
      obtain ⟨n, rfl⟩ : ∃ n, t = n + 1 := ⟨t - 1, by dsimp only at h0; omega⟩
      exact dgAt_succ m c n ht s i) le_rfl 15 rfl j
  rw [zero_add] at e
  exact e

section final
variable (h0 : ∀ i, Rl (A0 m c i)) (h1 : ∀ i, Rl (A1 m c i)) (h2 : ∀ i, Rl (A2 m c i)) (h3 : ∀ i, Rl (A3 m c i))

theorem out_row (t : Fin cfg0.N) (r : Fin 1024) : ∃ R : Fin 16384, R.val = t.val / 4 * 1024 + r.val :=
  ⟨⟨_, by have := lt64 t; omega⟩, rfl⟩

include h0 h1 h2 h3

theorem final5 : (dats m 0 c).arrAt 5 cfg0.N = val_main_v36 (F := Ideal) (A0 m c) (A1 m c) (A2 m c) (A3 m c) (A4 m c) := by
  funext i
  refine (dats m 0 c).arrAt_forall_of_cover 5 (fun i v => v = val_main_v36 (F := Ideal) (A0 m c) (A1 m c) (A2 m c) (A3 m c) (A4 m c) i) ?_ ?_ i
  · intro t hf y
    have ht : t.val % 4 = 3 := (flush0_5 t).mp hf
    obtain ⟨r, q, rfl⟩ : ∃ (r : Fin 1024) (q : Fin 1024), y = ix2 r q := ⟨y 0, y 1, (ix2_eta y).symm⟩
    obtain ⟨⟨e0, e1⟩, -⟩ := idx_out t
    obtain ⟨R, hR⟩ := out_row t r
    have he : (((cfg0.win 5).blk t).view.emb (ix2 r q : S1024x1024.Idx) : S16384x1024.Idx) = ix2 R q := by
      funext a
      apply Fin.ext
      match a with
      | ⟨0, _⟩ => show win0_5.index t 0 * 1024 + 1 * r.val = R.val; rw [e0]; omega
      | ⟨1, _⟩ => show win0_5.index t 1 * 1024 + 1 * q.val = q.val; rw [e1]; omega
    show (dats m 0 c).flushed 5 t (ix2 r q : S1024x1024.Idx) = val_main_v36 (F := Ideal) _ _ _ _ _ (((cfg0.win 5).blk t).view.emb (ix2 r q : S1024x1024.Idx))
    rw [he, Value.flushed5, Cert.DffnRefIdeal.Hand.v36_apply _ h0 h1 h2 h3]
    exact (out_O m c t (by omega) ht (ix2 r q)).trans (OB_blk m c t ht r q R hR)
  · intro i
    exact (Value.covered_iff5 i).2 (by have a : (i 0).val < 16384 := (i 0).isLt; have b : (i 1).val < 1024 := (i 1).isLt; omega)

theorem final6 : (dats m 0 c).arrAt 6 cfg0.N = val_main_v37 (F := Ideal) (A0 m c) (A1 m c) (A2 m c) (A3 m c) (A4 m c) := by
  funext i
  refine (dats m 0 c).arrAt_forall_of_cover 6 (fun i v => v = val_main_v37 (F := Ideal) (A0 m c) (A1 m c) (A2 m c) (A3 m c) (A4 m c) i) ?_ ?_ i
  · intro t hf y
    have ht : t.val % 4 = 3 := (flush0_6 t).mp hf
    obtain ⟨r, q, rfl⟩ : ∃ (r : Fin 1024) (q : Fin 1024), y = ix2 r q := ⟨y 0, y 1, (ix2_eta y).symm⟩
    obtain ⟨-, ⟨e0, e1⟩, -⟩ := idx_out t
    obtain ⟨R, hR⟩ := out_row t r
    have he : (((cfg0.win 6).blk t).view.emb (ix2 r q : S1024x1024.Idx) : S16384x1024.Idx) = ix2 R q := by
      funext a
      apply Fin.ext
      match a with
      | ⟨0, _⟩ => show win0_6.index t 0 * 1024 + 1 * r.val = R.val; rw [e0]; omega
      | ⟨1, _⟩ => show win0_6.index t 1 * 1024 + 1 * q.val = q.val; rw [e1]; omega
    show (dats m 0 c).flushed 6 t (ix2 r q : S1024x1024.Idx) = val_main_v37 (F := Ideal) _ _ _ _ _ (((cfg0.win 6).blk t).view.emb (ix2 r q : S1024x1024.Idx))
    rw [he, Value.flushed6]
    show _ = val_main_v36 (F := Ideal) (A0 m c) (A1 m c) (A2 m c) (A3 m c) (A4 m c) (ix2 R q)
    rw [Cert.DffnRefIdeal.Hand.v36_apply _ h0 h1 h2 h3]
    exact (out_P m c t (by omega) ht (ix2 r q)).trans (OB_blk m c t ht r q R hR)
  · intro i
    exact (Value.covered_iff6 i).2 (by have a : (i 0).val < 16384 := (i 0).isLt; have b : (i 1).val < 1024 := (i 1).isLt; omega)

omit h0 h1 h2 h3 in
theorem final7 : (dats m 0 c).arrAt 7 cfg0.N = val_main_v39 (F := Ideal) (A0 m c) (A1 m c) (A2 m c) := by
  funext i
  refine (dats m 0 c).arrAt_forall_of_cover 7 (fun i v => v = val_main_v39 (F := Ideal) (A0 m c) (A1 m c) (A2 m c) i) ?_ ?_ i
  · intro t hf y
    have ht : t.val = 63 := by have := (flush0_7 t).mp hf; have := lt64 t; omega
    obtain ⟨s, q, rfl⟩ : ∃ (s : Fin 8) (q : Fin 1024), y = ix2 s q := ⟨y 0, y 1, (ix2_eta y).symm⟩
    obtain ⟨-, -, e0, e1⟩ := idx_out t
    have he : (((cfg0.win 7).blk t).view.emb (ix2 s q : S8x1024.Idx) : S8x1024.Idx) = ix2 s q := by
      funext a
      apply Fin.ext
      match a with
      | ⟨0, _⟩ => show win0_7.index t 0 * 8 + 1 * s.val = s.val; rw [e0]; omega
      | ⟨1, _⟩ => show win0_7.index t 1 * 1024 + 1 * q.val = q.val; rw [e1]; omega
    show (dats m 0 c).flushed 7 t (ix2 s q : S8x1024.Idx) = val_main_v39 (F := Ideal) _ _ _ (((cfg0.win 7).blk t).view.emb (ix2 s q : S8x1024.Idx))
    rw [he, Value.flushed7, Cert.DffnRefIdeal.Hand.v39_apply]
    rw [← dgAt_last m c s q (by decide)]
    unfold dgAt
    rw [outs_congr m c (n := 4 * 15 + 3) (n' := t.val) (by omega) _ t.isLt]
    rfl
  · intro i
    exact (Value.covered_iff7 i).2 (by have a : (i 0).val < 8 := (i 0).isLt; have b : (i 1).val < 1024 := (i 1).isLt; omega)

end final

end Cert.DffnIdeal.Hand
-- ==== Proof.DffnClaims.lean ====
/-
  The claims about the gradient of the mixer's norm and first product: the frames, and the kernel's three results against the
  reference's, where the arguments are real numbers.
-/
module

public import proofs.«01_k».proof.Defs
public import proofs.«01_k».proof.Proof.DffnFinal
public import proofs.«01_k».proof.Proof.Gen.Dffn.Frame
public import Idealize.ShloMosaic.Lib.Quiescent

@[expose] public section

noncomputable section

namespace Cert.DffnClaims

open Idealize.ShloMosaic Idealize.ShloMosaic.TcCoe Idealize.SL.Sem Cert.RealMath
open Cert.DffnIdeal.Hand (A0 A1 A2 A3 A4)
open Cert.DffnRefIdeal.Read

local instance : Cert.Dffn.Facts := Cert.Dffn.Gen.facts
local instance : Cert.DffnIdeal.Facts := Cert.DffnIdeal.Gen.facts
local instance : Cert.DffnRefIdeal.Facts := Cert.DffnRefIdeal.Gen.facts

theorem pre : Cert.Pre_dffn_finite.Facts := ⟨by decide, by decide, by decide, by decide⟩

local instance : Cert.Pre_dffn_finite.Facts := pre

theorem frame : Cert.quiescent_Dffn := fun m g _ => Cert.Dffn.Gen.frame m g

theorem frameIdeal : Cert.quiescent_DffnIdeal := fun m g _ => Cert.DffnIdeal.Gen.frame m g

theorem frameRef : Cert.quiescent_DffnRefIdeal := fun m g _ =>
  (θ_run Cert.DffnRefIdeal.defs _ _).mono (fun r h => ⟨fun c => (h c).2.2.2, sem_eq_zero_of_no_sems (by decide) r.2⟩)
    (Cert.DffnRefIdeal.Value.run m g)

theorem value : Cert.algebraic_DffnIdeal_DffnRefIdeal_pre_dffn_finite := fun m g m' g' hpre hagree =>
  have h0 := fun c => finite_of_bf16 _ _ (hpre c).1
  have h1 := fun c => finite_of _ _ (hpre c).2.1
  have h2 := fun c => finite_of _ _ (hpre c).2.2.1
  have h3 := fun c => finite_of _ _ (hpre c).2.2.2
  ⟨fun c => val_main_v36 (F := Ideal) (A0 m c) (A1 m c) (A2 m c) (A3 m c) (A4 m c),
    fun c => val_main_v37 (F := Ideal) (A0 m c) (A1 m c) (A2 m c) (A3 m c) (A4 m c),
    fun c => val_main_v39 (F := Ideal) (A0 m c) (A1 m c) (A2 m c),
    (θ_run Cert.DffnIdeal.defs _ _).mono (fun _ h c => ⟨(h c).1.trans (Cert.DffnIdeal.Hand.final5 m c (h0 c) (h1 c) (h2 c) (h3 c)),
        (h c).2.1.trans (Cert.DffnIdeal.Hand.final6 m c (h0 c) (h1 c) (h2 c) (h3 c)), (h c).2.2.1.trans (Cert.DffnIdeal.Hand.final7 m c), (h c).2.2.2⟩)
      (Cert.DffnIdeal.Value.run_blocks m g),
    (θ_run Cert.DffnRefIdeal.defs _ _).mono (fun _ h c => ⟨(h c).1.trans (by
          rw [val_main_v36_eq]
          rw [(hagree c).1, (hagree c).2.1, (hagree c).2.2.1, (hagree c).2.2.2.1, (hagree c).2.2.2.2]),
        (h c).2.1.trans (by
          rw [val_main_v37_eq]
          rw [(hagree c).1, (hagree c).2.1, (hagree c).2.2.1, (hagree c).2.2.2.1, (hagree c).2.2.2.2]),
        (h c).2.2.1.trans (by
          rw [val_main_v39_eq]
          rw [(hagree c).1, (hagree c).2.1, (hagree c).2.2.1]), (h c).2.2.2⟩)
      (Cert.DffnRefIdeal.Value.run m' g')⟩

end Cert.DffnClaims
-- ==== Proof.FoxbWords.lean ====
/-
  The words that steer the gradient of the forgetting attention: at grid point (head, block of keys) the loop over
  narrow tiles ends at twice the block's pair plus two, the loop over wide tiles at sixteen; with these every side
  condition the body assumes holds, and every offset it computes has the plain value stated here.
-/
module

public import proofs.«01_k».proof.Proof.Gen.FoxbIdeal.Frame
public import proofs.«01_k».proof.Proof.Gen.FoxbIdeal.Loops
public import Idealize.ShloMosaic.Lib.WholeRead

@[expose] public section

noncomputable section

namespace Cert.Proof.Foxb

open Cert.FoxbIdeal Cert.FoxbIdeal.Gen Idealize.ShloMosaic

/-- Where the narrow tiles of key block `jb` end. -/
def narrowEnd (jb : Nat) : BitVec 32 := BitVec.ofNat 32 (2 * (jb / 2) + 2)

/-- Where the wide tiles end. -/
def wideEnd : BitVec 32 := 16#32

set_option maxRecDepth 100000 in
theorem chk1_all : ∀ i : grid0.Coords, k0_chk1 i (narrowEnd (i 1).val) := by decide +kernel
set_option maxRecDepth 100000 in
theorem chk2_all : ∀ i : grid0.Coords, k0_chk2 i wideEnd := by decide +kernel

set_option maxRecDepth 100000 in
theorem off5_1 : ∀ i : grid0.Coords, k0_off5 i 1 = (i 1).val := by decide +kernel

variable {F : FTy → Type} [FloatOps F]

/-- The word the body reads of the first table. -/
theorem word1 (i : grid0.Coords) (arg2 : Memref sig .tc .smem S8x32 .i32) (harg2 : arg2.IsWhole) (j) :
    View.readAt (Elt F) arg2.view (Rect.unit (s := S8x32) (k0_off5 i) S1x1.size (k0_off5_inb i)).toLoadRect
      (harg2.unread (fun y => narrowEnd (y 1).val)) j = narrowEnd (i 1).val := by
  rw [harg2.readAt_unread]
  congr 1
  have h0 : (j 1).val = 0 := by have := (j 1).isLt; simp only [S1x1] at this; exact Nat.lt_one_iff.mp this
  show k0_off5 i 1 + 1 * (j 1).val = _
  rw [off5_1, h0]; omega

/-- The word the body reads of the second. -/
theorem word2 (i : grid0.Coords) (arg3 : Memref sig .tc .smem S8x32 .i32) (harg3 : arg3.IsWhole) (j) :
    View.readAt (Elt F) arg3.view (Rect.unit (s := S8x32) (k0_off14 i) S1x1.size (k0_off14_inb i)).toLoadRect
      (harg3.unread (fun _ => wideEnd)) j = wideEnd := by
  rw [harg3.readAt_unread]

theorem chk1_of (i : grid0.Coords) (w : BitVec 32) (h : w = narrowEnd (i 1).val) : k0_chk1 i w := h ▸ chk1_all i

theorem chk2_of (i : grid0.Coords) (w : BitVec 32) (h : w = wideEnd) : k0_chk2 i w := h ▸ chk2_all i

/-- The body's test for the first block of keys. -/
def first (i : grid0.Coords) : BitVec 1 :=
  Scalar.cmpi .ne (Scalar.extui (Scalar.cmpi .eq (BitVec.ofNat 32 (i 1).val) 0#32) : BitVec 32) 0#32

theorem first_of (i : grid0.Coords) (w : BitVec 1) (h : w = first i) (hc : first i = 1#1) : w = 1#1 := h ▸ hc

theorem nfirst_of (i : grid0.Coords) (w : BitVec 1) (h : w = first i) (hc : ¬first i = 1#1) : ¬w = 1#1 := h ▸ hc

theorem cond2_of (i : grid0.Coords) (w : BitVec 32) (h : w = wideEnd) (hc : k0_cond2 i wideEnd = 1#1) :
    k0_cond2 i w = 1#1 := h ▸ hc

theorem ncond2_of (i : grid0.Coords) (w : BitVec 32) (h : w = wideEnd) (hc : ¬k0_cond2 i wideEnd = 1#1) :
    ¬k0_cond2 i w = 1#1 := h ▸ hc

end Cert.Proof.Foxb

end
-- ==== Proof.FoxbHead.lean ====
/-
  The body of the gradient of the forgetting attention, run once at any grid point for whole staging buffers.
-/
module

public import proofs.«01_k».proof.Proof.FoxbWords
public import Idealize.ShloMosaic.Lib.VecWindow

@[expose] public section

set_option maxRecDepth 16384

noncomputable section

namespace Cert.Proof.Foxb

open Cert.FoxbIdeal Cert.FoxbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator of the queries' gradients the body goes on from: zero at the first block of keys, else as found. -/
def startAt (i : grid0.Coords) (x13 : Vec F S128x16384 .f32) : Vec F S128x16384 .f32 :=
  if first i = 1#1 then k0_pay27 else x13

theorem whole_zero (arg13 : Memref sig .tc .vmem S128x16384 .f32) (harg13 : arg13.IsWhole) (f : BufTy.Contents (Elt F) arg13.view.ty)
    (inb : ∀ a, (![0, 0] : Fin 2 → Nat) a + S128x16384.size a ≤ S128x16384.size a) (w : Vec F S128x16384 .f32) :
    arg13.view.writes (Elt F) f [⟨Rect.unit (s := S128x16384) ![0, 0] S128x16384.size inb, w⟩] = harg13.unread w :=
  harg13.eq_unread (View.read_writes_full arg13.view f inb w [])

/-- The head's parity, as the body computes it. -/
def parity (i : grid0.Coords) : BitVec 32 :=
  have arg0 : BitVec 32 := BitVec.ofNat 32 (i 0).val
  have v1 : BitVec 32 := Scalar.select (Scalar.cmpi .eq 2#32 0#32) 1#32 2#32
  have v2 : BitVec 32 := Scalar.remsi arg0 v1
  Scalar.select (Scalar.andi (Scalar.xori (Scalar.cmpi .slt v2 0#32) (Scalar.cmpi .slt v1 0#32)) (Scalar.cmpi .ne v2 0#32))
    (Scalar.addi v2 v1) v2

theorem r6_congr (i : grid0.Coords) {v9 v27 v31 : BitVec 32} {a0 a1 : BitVec 32} {p28 p29 : FVec F S512x128 .bf16} {p30 : FVec F S80x512 .bf16} {p31 : FVec F S80x512 .f32} {p32 : FVec F S64x512 .f32} {p33 : FVec F S512x128 .bf16} {cst cst' : FVec F S512x512 .f32}
    (h9 : v9 = parity i) (h27 : v27 = Scalar.muli (parity i) 64#32) (h31 : v31 = Scalar.muli (BitVec.ofNat 32 (i 1).val) 512#32) (hc : cst = cst') :
    (⟨a0, a1, v9, p28, p29, p30, v27, p31, p32, v31, p33, cst⟩ : (Σ' (arg0 : BitVec 32) (arg1 : BitVec 32) (v9 : BitVec 32) (v21 : FVec F S512x128 .bf16) (v23 : FVec F S512x128 .bf16) (v25 : FVec F S80x512 .bf16) (v27 : BitVec 32) (v28 : FVec F S80x512 .f32) (v29 : FVec F S64x512 .f32) (v31 : BitVec 32) (v34 : FVec F S512x128 .bf16), FVec F S512x512 .f32)) = ⟨a0, a1, parity i, p28, p29, p30, Scalar.muli (parity i) 64#32, p31, p32, Scalar.muli (BitVec.ofNat 32 (i 1).val) 512#32, p33, cst'⟩ := by
  subst h9 h27 h31 hc; rfl

/-- What the head of the body hands on. -/
def r6 (i : grid0.Coords) (x4 : Vec F S16384x128 .bf16) (x6 : Vec F S512x128 .bf16) (x7 : Vec F S128x512 .bf16) (x8 : Vec F S512x128 .bf16) :
    (Σ' (arg0 : BitVec 32) (arg1 : BitVec 32) (v9 : BitVec 32) (v21 : FVec F S512x128 .bf16) (v23 : FVec F S512x128 .bf16) (v25 : FVec F S80x512 .bf16) (v27 : BitVec 32) (v28 : FVec F S80x512 .f32) (v29 : FVec F S64x512 .f32) (v31 : BitVec 32) (v34 : FVec F S512x128 .bf16), FVec F S512x512 .f32) :=
  ⟨BitVec.ofNat 32 (i 0).val, BitVec.ofNat 32 (i 1).val, parity i, k0_pay28 i (View.ld (Val := Elt F) x8 (Rect.unit (s := S512x128) ![0, 0] S512x128.size inb_S512x128_S512x128_0_0)),
    k0_pay29 (View.ld (Val := Elt F) x6 (Rect.unit (s := S512x128) ![0, 0] S512x128.size inb_S512x128_S512x128_0_0)),
    k0_pay30 (View.ld (Val := Elt F) x7 (Rect.unit (s := S128x512) ![0, 0] S80x512.size inb_S128x512_S80x512_0_0)),
    Scalar.muli (parity i) 64#32, k0_pay31, k0_pay32, Scalar.muli (BitVec.ofNat 32 (i 1).val) 512#32,
    k0_pay33 (View.ld (Val := Elt F) x4 (Rect.unit (s := S16384x128) (k0_off1 i) S512x128.size (k0_off1_inb i))),
    constant S512x512 .f32 0x00000000#32⟩

set_option maxHeartbeats 4000000 in
/-- The head of the body: the blocks of keys and values loaded, the accumulator zeroed where the test says so. -/
theorem part6_zero (c : Dev nD) (i : grid0.Coords) (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole) (x4 : Vec F S16384x128 .bf16) (x6 : Vec F S512x128 .bf16) (x7 : Vec F S128x512 .bf16) (x8 : Vec F S512x128 .bf16) (x13 : Vec F S128x16384 .f32) (E : Set ℕ) (hc0 : first i = 1#1) :
      (iprop((arg4.view.loc (c : Thread nD τ) ↦[arg4.view.set]{fullShare} harg4.unread x4) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg13.view.loc (c : Thread nD τ) ↦[arg13.view.set]{fullShare} harg13.unread x13)) : sProp 𝕄)
        ⊢ wp frame (wpE (defs₀ (F := F)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15)
          (fun r => (iprop(⌜r = r6 i x4 x6 x7 x8⌝ ∗ (arg4.view.loc (c : Thread nD τ) ↦[arg4.view.set]{fullShare} harg4.unread x4) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg13.view.loc (c : Thread nD τ) ↦[arg13.view.set]{fullShare} harg13.unread (k0_pay27 (F := F)))) : sProp 𝕄)) := by
  have e4 : View.readAt (Elt F) arg4.view (Rect.unit (s := S16384x128) (k0_off1 i) S512x128.size (k0_off1_inb i)).toLoadRect (harg4.unread x4) = View.ld (Val := Elt F) x4 (Rect.unit (s := S16384x128) (k0_off1 i) S512x128.size (k0_off1_inb i)) := funext fun y => harg4.readAt_unread x4 _ y
  have e6 : View.readAt (Elt F) arg6.view (Rect.unit (s := S512x128) ![0, 0] S512x128.size inb_S512x128_S512x128_0_0).toLoadRect (harg6.unread x6) = View.ld (Val := Elt F) x6 (Rect.unit (s := S512x128) ![0, 0] S512x128.size inb_S512x128_S512x128_0_0) := funext fun y => harg6.readAt_unread x6 _ y
  have e7 : View.readAt (Elt F) arg7.view (Rect.unit (s := S128x512) ![0, 0] S80x512.size inb_S128x512_S80x512_0_0).toLoadRect (harg7.unread x7) = View.ld (Val := Elt F) x7 (Rect.unit (s := S128x512) ![0, 0] S80x512.size inb_S128x512_S80x512_0_0) := funext fun y => harg7.readAt_unread x7 _ y
  have e8 : View.readAt (Elt F) arg8.view (Rect.unit (s := S512x128) ![0, 0] S512x128.size inb_S512x128_S512x128_0_0).toLoadRect (harg8.unread x8) = View.ld (Val := Elt F) x8 (Rect.unit (s := S512x128) ![0, 0] S512x128.size inb_S512x128_S512x128_0_0) := funext fun y => harg8.readAt_unread x8 _ y
  simp only [k0_part6_eq_skeleton]; unfold k0_part6_skel
  iintro ⟨H4, H6, H7, H8, H13⟩
  sl_exec (disch := first | ((with_reducible refine first_of i _ ?_ hc0); rfl))
  sl_step
  isplitr; · ipureintro; rfl
  isplitl [H4]; · iexact H4
  isplitl [H6]; · iexact H6
  isplitl [H7]; · iexact H7
  isplitl [H8]; · iexact H8
  rw [← whole_zero arg13 harg13 (harg13.unread x13) inb_S128x16384_S128x16384_0_0 k0_pay27]
  iexact H13

set_option maxHeartbeats 4000000 in
/-- The head of the body: the blocks of keys and values loaded, the accumulator zeroed where the test says so. -/
theorem part6_keep (c : Dev nD) (i : grid0.Coords) (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole) (x4 : Vec F S16384x128 .bf16) (x6 : Vec F S512x128 .bf16) (x7 : Vec F S128x512 .bf16) (x8 : Vec F S512x128 .bf16) (x13 : Vec F S128x16384 .f32) (E : Set ℕ) (hc0 : ¬first i = 1#1) :
      (iprop((arg4.view.loc (c : Thread nD τ) ↦[arg4.view.set]{fullShare} harg4.unread x4) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg13.view.loc (c : Thread nD τ) ↦[arg13.view.set]{fullShare} harg13.unread x13)) : sProp 𝕄)
        ⊢ wp frame (wpE (defs₀ (F := F)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15)
          (fun r => (iprop(⌜r = r6 i x4 x6 x7 x8⌝ ∗ (arg4.view.loc (c : Thread nD τ) ↦[arg4.view.set]{fullShare} harg4.unread x4) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg13.view.loc (c : Thread nD τ) ↦[arg13.view.set]{fullShare} harg13.unread x13)) : sProp 𝕄)) := by
  have e4 : View.readAt (Elt F) arg4.view (Rect.unit (s := S16384x128) (k0_off1 i) S512x128.size (k0_off1_inb i)).toLoadRect (harg4.unread x4) = View.ld (Val := Elt F) x4 (Rect.unit (s := S16384x128) (k0_off1 i) S512x128.size (k0_off1_inb i)) := funext fun y => harg4.readAt_unread x4 _ y
  have e6 : View.readAt (Elt F) arg6.view (Rect.unit (s := S512x128) ![0, 0] S512x128.size inb_S512x128_S512x128_0_0).toLoadRect (harg6.unread x6) = View.ld (Val := Elt F) x6 (Rect.unit (s := S512x128) ![0, 0] S512x128.size inb_S512x128_S512x128_0_0) := funext fun y => harg6.readAt_unread x6 _ y
  have e7 : View.readAt (Elt F) arg7.view (Rect.unit (s := S128x512) ![0, 0] S80x512.size inb_S128x512_S80x512_0_0).toLoadRect (harg7.unread x7) = View.ld (Val := Elt F) x7 (Rect.unit (s := S128x512) ![0, 0] S80x512.size inb_S128x512_S80x512_0_0) := funext fun y => harg7.readAt_unread x7 _ y
  have e8 : View.readAt (Elt F) arg8.view (Rect.unit (s := S512x128) ![0, 0] S512x128.size inb_S512x128_S512x128_0_0).toLoadRect (harg8.unread x8) = View.ld (Val := Elt F) x8 (Rect.unit (s := S512x128) ![0, 0] S512x128.size inb_S512x128_S512x128_0_0) := funext fun y => harg8.readAt_unread x8 _ y
  simp only [k0_part6_eq_skeleton]; unfold k0_part6_skel
  iintro ⟨H4, H6, H7, H8, H13⟩
  sl_exec (disch := first | ((with_reducible refine nfirst_of i _ ?_ hc0); rfl))
  sl_step
  isplitr; · ipureintro; rfl
  isplitl [H4]; · iexact H4
  isplitl [H6]; · iexact H6
  isplitl [H7]; · iexact H7
  isplitl [H8]; · iexact H8
  iexact H13

theorem part6 (c : Dev nD) (i : grid0.Coords) (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole) (x4 : Vec F S16384x128 .bf16) (x6 : Vec F S512x128 .bf16) (x7 : Vec F S128x512 .bf16) (x8 : Vec F S512x128 .bf16) (x13 : Vec F S128x16384 .f32) (E : Set ℕ) :
      (iprop((arg4.view.loc (c : Thread nD τ) ↦[arg4.view.set]{fullShare} harg4.unread x4) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg13.view.loc (c : Thread nD τ) ↦[arg13.view.set]{fullShare} harg13.unread x13)) : sProp 𝕄)
        ⊢ wp frame (wpE (defs₀ (F := F)) Variants.none c none) E (k0_part6 i arg2 harg2 arg3 harg3 arg4 harg4 arg5 harg5 arg6 harg6 arg7 harg7 arg8 harg8 arg9 harg9 arg10 harg10 arg11 harg11 arg12 harg12 arg13 harg13 arg14 harg14 arg15 harg15)
          (fun r => (iprop(⌜r = r6 i x4 x6 x7 x8⌝ ∗ (arg4.view.loc (c : Thread nD τ) ↦[arg4.view.set]{fullShare} harg4.unread x4) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg13.view.loc (c : Thread nD τ) ↦[arg13.view.set]{fullShare} harg13.unread (startAt i x13))) : sProp 𝕄)) := by
  by_cases hc0 : first i = 1#1
  · rw [startAt, if_pos hc0]; exact part6_zero c i arg2 harg2 arg3 harg3 arg4 harg4 arg5 harg5 arg6 harg6 arg7 harg7 arg8 harg8 arg9 harg9 arg10 harg10 arg11 harg11 arg12 harg12 arg13 harg13 arg14 harg14 arg15 harg15 x4 x6 x7 x8 x13 E hc0
  · rw [startAt, if_neg hc0]; exact part6_keep c i arg2 harg2 arg3 harg3 arg4 harg4 arg5 harg5 arg6 harg6 arg7 harg7 arg8 harg8 arg9 harg9 arg10 harg10 arg11 harg11 arg12 harg12 arg13 harg13 arg14 harg14 arg15 harg15 x4 x6 x7 x8 x13 E hc0

end Cert.Proof.Foxb

end
-- ==== Proof.FoxbBody.lean ====
/-
  The body of the gradient of the forgetting attention, run once at any grid point for whole staging buffers.
-/
module

public import proofs.«01_k».proof.Proof.FoxbHead
public import Idealize.ShloMosaic.Lib.VecWindow

@[expose] public section

set_option maxRecDepth 16384

noncomputable section

namespace Cert.Proof.Foxb

open Cert.FoxbIdeal Cert.FoxbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where a last wide tile is left over. -/
noncomputable def runB (c : Dev nD) (i : grid0.Coords) (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole) (hc1 : k0_cond2 i wideEnd = 1#1)
    (x4 : Vec F S16384x128 .bf16) (x5 : Vec F S128x16384 .bf16) (x6 : Vec F S512x128 .bf16) (x7 : Vec F S128x512 .bf16) (x8 : Vec F S512x128 .bf16) (x9 : Vec F S16384x128 .bf16) (x10 : Vec F S128x16384 .bf16) (x11 : Vec F S1x8x16384 .f32) (x12 : Vec F S1x8x16384 .f32) (y13 : Vec F S128x16384 .f32) :
    Σ' (L14 : List (View.Piece (Elt F) S128x512 .f32)) (L15 : List (View.Piece (Elt F) S64x512 .f32)), { L13 : List (View.Piece (Elt F) S128x16384 .f32) //
      ∀ (x13 : Vec F S128x16384 .f32) (_ : startAt i x13 = y13) (E : Set ℕ) (K : PUnit → sProp 𝕄),
        iprop(owns (c : Thread nD τ) arg2 fullShare (fun y => narrowEnd (y 1).val) ∗ owns (c : Thread nD τ) arg3 fullShare (fun _ => wideEnd) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d)
            ∗ (iprop(owns (c : Thread nD τ) arg2 fullShare (fun y => narrowEnd (y 1).val) ∗ owns (c : Thread nD τ) arg3 fullShare (fun _ => wideEnd) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (arg13.view.loc (c : Thread nD τ) ↦[arg13.view.set]{fullShare} arg13.view.writes (Elt F) (harg13.unread y13) L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun x13 hy E K => ?run⟩
  case run =>
    simp only [cc0_fox_bwd_eq_skeleton]; unfold cc0_fox_bwd_skel
    simp only [k0_part5_eq_skeleton, k0_part7_eq_skeleton, k0_part8_eq_skeleton]
    rw [wp_bind]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    iapply (wp_wand_r Idealize.ShloMosaic.frame (wpE (defs₀ (F := F)) Variants.none (c : Thread nD τ) none) E)
    isplitl [H4 H6 H7 H8 H13]
    · iapply (part6 c i arg2 harg2 arg3 harg3 arg4 harg4 arg5 harg5 arg6 harg6 arg7 harg7 arg8 harg8 arg9 harg9 arg10 harg10 arg11 harg11 arg12 harg12 arg13 harg13 arg14 harg14 arg15 harg15 x4 x6 x7 x8 x13 E)
      isplitl [H4]; · iexact H4
      isplitl [H6]; · iexact H6
      isplitl [H7]; · iexact H7
      isplitl [H8]; · iexact H8
      iexact H13
    iintro %r ⟨%hr, H4, H6, H7, H8, H13⟩
    subst hr
    rw [hy]
    unfold r6
    sl_exec (disch := first | ((with_reducible refine chk1_of _ _ ?_); exact word1 _ _ _ _) | ((with_reducible refine chk2_of _ _ ?_); exact word2 _ _ _ _) | ((with_reducible refine cond2_of _ _ ?_ hc1); exact word2 _ _ _ _))
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexists _; iexact H14
    iexists _; iexact H15

set_option maxHeartbeats 4000000 in
/-- The body where none is. -/
noncomputable def runC (c : Dev nD) (i : grid0.Coords) (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole) (hc1 : ¬k0_cond2 i wideEnd = 1#1)
    (x4 : Vec F S16384x128 .bf16) (x5 : Vec F S128x16384 .bf16) (x6 : Vec F S512x128 .bf16) (x7 : Vec F S128x512 .bf16) (x8 : Vec F S512x128 .bf16) (x9 : Vec F S16384x128 .bf16) (x10 : Vec F S128x16384 .bf16) (x11 : Vec F S1x8x16384 .f32) (x12 : Vec F S1x8x16384 .f32) (y13 : Vec F S128x16384 .f32) :
    Σ' (L14 : List (View.Piece (Elt F) S128x512 .f32)) (L15 : List (View.Piece (Elt F) S64x512 .f32)), { L13 : List (View.Piece (Elt F) S128x16384 .f32) //
      ∀ (x13 : Vec F S128x16384 .f32) (_ : startAt i x13 = y13) (E : Set ℕ) (K : PUnit → sProp 𝕄),
        iprop(owns (c : Thread nD τ) arg2 fullShare (fun y => narrowEnd (y 1).val) ∗ owns (c : Thread nD τ) arg3 fullShare (fun _ => wideEnd) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d)
            ∗ (iprop(owns (c : Thread nD τ) arg2 fullShare (fun y => narrowEnd (y 1).val) ∗ owns (c : Thread nD τ) arg3 fullShare (fun _ => wideEnd) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (arg13.view.loc (c : Thread nD τ) ↦[arg13.view.set]{fullShare} arg13.view.writes (Elt F) (harg13.unread y13) L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun x13 hy E K => ?run⟩
  case run =>
    simp only [cc0_fox_bwd_eq_skeleton]; unfold cc0_fox_bwd_skel
    simp only [k0_part5_eq_skeleton, k0_part7_eq_skeleton, k0_part8_eq_skeleton]
    rw [wp_bind]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    iapply (wp_wand_r Idealize.ShloMosaic.frame (wpE (defs₀ (F := F)) Variants.none (c : Thread nD τ) none) E)
    isplitl [H4 H6 H7 H8 H13]
    · iapply (part6 c i arg2 harg2 arg3 harg3 arg4 harg4 arg5 harg5 arg6 harg6 arg7 harg7 arg8 harg8 arg9 harg9 arg10 harg10 arg11 harg11 arg12 harg12 arg13 harg13 arg14 harg14 arg15 harg15 x4 x6 x7 x8 x13 E)
      isplitl [H4]; · iexact H4
      isplitl [H6]; · iexact H6
      isplitl [H7]; · iexact H7
      isplitl [H8]; · iexact H8
      iexact H13
    iintro %r ⟨%hr, H4, H6, H7, H8, H13⟩
    subst hr
    rw [hy]
    unfold r6
    sl_exec (disch := first | ((with_reducible refine chk1_of _ _ ?_); exact word1 _ _ _ _) | ((with_reducible refine chk2_of _ _ ?_); exact word2 _ _ _ _) | ((with_reducible refine ncond2_of _ _ ?_ hc1); exact word2 _ _ _ _))
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexact H13
    isplitl [H14]; · iexists _; iexact H14
    iexists _; iexact H15

/-- The body at any grid point. -/
noncomputable def run (c : Dev nD) (i : grid0.Coords) (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole)
    (x4 : Vec F S16384x128 .bf16) (x5 : Vec F S128x16384 .bf16) (x6 : Vec F S512x128 .bf16) (x7 : Vec F S128x512 .bf16) (x8 : Vec F S512x128 .bf16) (x9 : Vec F S16384x128 .bf16) (x10 : Vec F S128x16384 .bf16) (x11 : Vec F S1x8x16384 .f32) (x12 : Vec F S1x8x16384 .f32) (y13 : Vec F S128x16384 .f32) :
    Σ' (L14 : List (View.Piece (Elt F) S128x512 .f32)) (L15 : List (View.Piece (Elt F) S64x512 .f32)), { L13 : List (View.Piece (Elt F) S128x16384 .f32) //
      ∀ (x13 : Vec F S128x16384 .f32) (_ : startAt i x13 = y13) (E : Set ℕ) (K : PUnit → sProp 𝕄),
        iprop(owns (c : Thread nD τ) arg2 fullShare (fun y => narrowEnd (y 1).val) ∗ owns (c : Thread nD τ) arg3 fullShare (fun _ => wideEnd) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d)
            ∗ (iprop(owns (c : Thread nD τ) arg2 fullShare (fun y => narrowEnd (y 1).val) ∗ owns (c : Thread nD τ) arg3 fullShare (fun _ => wideEnd) ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (arg13.view.loc (c : Thread nD τ) ↦[arg13.view.set]{fullShare} arg13.view.writes (Elt F) (harg13.unread y13) L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15) K } :=
  if hc1 : k0_cond2 i wideEnd = 1#1 then runB c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13 else runC c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13

theorem cover14 (c : Dev nD) (i : grid0.Coords) (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole) (x4 : Vec F S16384x128 .bf16) (x5 : Vec F S128x16384 .bf16) (x6 : Vec F S512x128 .bf16) (x7 : Vec F S128x512 .bf16) (x8 : Vec F S512x128 .bf16) (x9 : Vec F S16384x128 .bf16) (x10 : Vec F S128x16384 .bf16) (x11 : Vec F S1x8x16384 .f32) (x12 : Vec F S1x8x16384 .f32) (y13 : Vec F S128x16384 .f32)
    (y : S128x512.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 x4 x5 x6 x7 x8 x9 x10 x11 x12 y13).1, y ∈ p.1.set := by
  unfold run
  by_cases hc1 : k0_cond2 i wideEnd = 1#1
  · rw [dif_pos hc1]; exact View.cover_of_tiledBy (runB c i arg2 harg2 arg3 harg3 arg4 harg4 arg5 harg5 arg6 harg6 arg7 harg7 arg8 harg8 arg9 harg9 arg10 harg10 arg11 harg11 arg12 harg12 arg13 harg13 arg14 harg14 arg15 harg15 _ x4 x5 x6 x7 x8 x9 x10 x11 x12 y13).1 ![16, 512] (by sl_kernel_rfl) y
  · rw [dif_neg hc1]; exact View.cover_of_tiledBy (runC c i arg2 harg2 arg3 harg3 arg4 harg4 arg5 harg5 arg6 harg6 arg7 harg7 arg8 harg8 arg9 harg9 arg10 harg10 arg11 harg11 arg12 harg12 arg13 harg13 arg14 harg14 arg15 harg15 _ x4 x5 x6 x7 x8 x9 x10 x11 x12 y13).1 ![16, 512] (by sl_kernel_rfl) y

theorem cover15 (c : Dev nD) (i : grid0.Coords) (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole) (x4 : Vec F S16384x128 .bf16) (x5 : Vec F S128x16384 .bf16) (x6 : Vec F S512x128 .bf16) (x7 : Vec F S128x512 .bf16) (x8 : Vec F S512x128 .bf16) (x9 : Vec F S16384x128 .bf16) (x10 : Vec F S128x16384 .bf16) (x11 : Vec F S1x8x16384 .f32) (x12 : Vec F S1x8x16384 .f32) (y13 : Vec F S128x16384 .f32)
    (y : S64x512.Idx) : ∃ p ∈ (run c i arg2 harg2 arg3 harg3 arg4 harg4 arg5 harg5 arg6 harg6 arg7 harg7 arg8 harg8 arg9 harg9 arg10 harg10 arg11 harg11 arg12 harg12 arg13 harg13 arg14 harg14 arg15 harg15 x4 x5 x6 x7 x8 x9 x10 x11 x12 y13).2.1, y ∈ p.1.set := by
  unfold run
  by_cases hc1 : k0_cond2 i wideEnd = 1#1
  · rw [dif_pos hc1]; exact View.cover_of_tiledL (runB c i arg2 harg2 arg3 harg3 arg4 harg4 arg5 harg5 arg6 harg6 arg7 harg7 arg8 harg8 arg9 harg9 arg10 harg10 arg11 harg11 arg12 harg12 arg13 harg13 arg14 harg14 arg15 harg15 _ x4 x5 x6 x7 x8 x9 x10 x11 x12 y13).2.1 ![64, 512] (by sl_kernel_rfl) y
  · rw [dif_neg hc1]; exact View.cover_of_tiledL (runC c i arg2 harg2 arg3 harg3 arg4 harg4 arg5 harg5 arg6 harg6 arg7 harg7 arg8 harg8 arg9 harg9 arg10 harg10 arg11 harg11 arg12 harg12 arg13 harg13 arg14 harg14 arg15 harg15 _ x4 x5 x6 x7 x8 x9 x10 x11 x12 y13).2.1 ![64, 512] (by sl_kernel_rfl) y

end Cert.Proof.Foxb

end
-- ==== Proof.FoxbTile.lean ====
/-
  One tile of the gradient of the forgetting attention, element by element: the probabilities `P` of a block of keys
  against a run of queries, the gradient `D` at the scores, and what a tile adds to the three accumulators.
-/
module

public import proofs.«01_k».proof.Proof.FoxbBody
public import Idealize.ShloMosaic.Lib.Pointwise
public import Idealize.ShloMosaic.Lib.IdealHost
public import Idealize.ShloMosaic.Lib.Claim
public import Idealize.ShloMosaic.Lib.Pipeline.ValueKit.Acc

@[expose] public section

set_option maxRecDepth 16384

noncomputable section

namespace Cert.Proof.Foxb

open Cert.FoxbIdeal Cert.FoxbIdeal.Gen Idealize.ShloMosaic Idealize.ShloMosaic.TcCoe Idealize.SL.Sem

/-- A query's position, as a column. -/
def col (n : ℕ) : Fin 16384 := ⟨n % 16384, Nat.mod_lt _ (by omega)⟩

theorem col_val (n : ℕ) (h : n < 16384) : (col n).val = n := Nat.mod_eq_of_lt h
theorem col_eq (n : Fin 16384) : col n.val = n := Fin.ext (col_val _ n.isLt)

/-- The head's parity as a number. -/
def hh (i : grid0.Coords) : ℕ := (i 0).val % 2
theorem hh_lt (i : grid0.Coords) : hh i < 2 := Nat.mod_lt _ (by omega)

section defs
variable (i : grid0.Coords)
variable (x4 : Vec Ideal S16384x128 .bf16) (x5 : Vec Ideal S128x16384 .bf16) (x6 : Vec Ideal S512x128 .bf16) (x7 : Vec Ideal S128x512 .bf16) (x8 : Vec Ideal S512x128 .bf16)
variable (x9 : Vec Ideal S16384x128 .bf16) (x10 : Vec Ideal S128x16384 .bf16) (x11 x12 : Vec Ideal S1x8x16384 .f32)

/-- The value block with the other head's lanes zero. -/
def vm (j : Fin 512) (l : Fin 128) : EReal := if l.val / 64 = hh i then x8 (ix2 j l) else 0

/-- Key `j` of the block's probability at query `n`: zero where the key lies later. -/
def P (j : Fin 512) (n : ℕ) : EReal :=
  if 512 * (i 1).val + j.val ≤ n then
    Ideal.exp ((∑ l : Fin 128, x6 (ix2 j l) * x4 (ix2 (col n) l)) - x11 (ix3 0 ⟨hh i, by have := hh_lt i; omega⟩ (col n)))
  else 0

/-- The gradient at that score. -/
def D (j : Fin 512) (n : ℕ) : EReal :=
  P i x4 x6 x11 j n * ((∑ l : Fin 128, vm i x8 j l * x9 (ix2 (col n) l)) - x12 (ix3 0 ⟨hh i, by have := hh_lt i; omega⟩ (col n)))

theorem P_before {j : Fin 512} {n : ℕ} (h : n < 512 * (i 1).val) : P i x4 x6 x11 j n = 0 := if_neg (by omega)
theorem D_before {j : Fin 512} {n : ℕ} (h : n < 512 * (i 1).val) : D i x4 x6 x8 x9 x11 x12 j n = 0 := by
  unfold D; rw [P_before i x4 x6 x11 h, zero_mul]

/-- The three accumulators once the queries before `e` are done. -/
structure Good (y13 : Vec Ideal S128x16384 .f32) (Y : Vec Ideal S128x16384 .f32) (A : Vec Ideal S80x512 .f32) (B : Vec Ideal S64x512 .f32) (e : ℕ) : Prop where
  y : ∀ (r : Fin 128) (n : Fin 16384), Y (ix2 r n) = y13 (ix2 r n) + if r.val < 80 ∧ n.val < e then ∑ j, x7 (ix2 r j) * D i x4 x6 x8 x9 x11 x12 j n.val else 0
  a : ∀ (r : Fin 80) (j : Fin 512), A (ix2 r j) = ∑ n ∈ Finset.range e, x5 (ix2 ⟨r.val, by omega⟩ (col n)) * D i x4 x6 x8 x9 x11 x12 j n
  b : ∀ (d : Fin 64) (j : Fin 512), B (ix2 d j) = ∑ n ∈ Finset.range e, x10 (ix2 ⟨64 * hh i + d.val, by have := hh_lt i; omega⟩ (col n)) * P i x4 x6 x11 j n

variable {i x4 x5 x6 x7 x8 x9 x10 x11 x12}

theorem Good.step {y13 Y Y' : Vec Ideal S128x16384 .f32} {A A' : Vec Ideal S80x512 .f32} {B B' : Vec Ideal S64x512 .f32} {o : ℕ} (w : ℕ)
    (g : Good i x4 x5 x6 x7 x8 x9 x10 x11 x12 y13 Y A B o)
    (hy : ∀ (r : Fin 128) (n : Fin 16384), Y' (ix2 r n) = if r.val < 80 ∧ o ≤ n.val ∧ n.val < o + w then Y (ix2 r n) + ∑ j, x7 (ix2 r j) * D i x4 x6 x8 x9 x11 x12 j n.val else Y (ix2 r n))
    (ha : ∀ (r : Fin 80) (j : Fin 512), A' (ix2 r j) = A (ix2 r j) + ∑ x : Fin w, x5 (ix2 ⟨r.val, by omega⟩ (col (o + x.val))) * D i x4 x6 x8 x9 x11 x12 j (o + x.val))
    (hb : ∀ (d : Fin 64) (j : Fin 512), B' (ix2 d j) = B (ix2 d j) + ∑ x : Fin w, x10 (ix2 ⟨64 * hh i + d.val, by have := hh_lt i; omega⟩ (col (o + x.val))) * P i x4 x6 x11 j (o + x.val)) :
    Good i x4 x5 x6 x7 x8 x9 x10 x11 x12 y13 Y' A' B' (o + w) where
  y r n := by
    rw [hy]
    by_cases h : r.val < 80 ∧ o ≤ n.val ∧ n.val < o + w
    · rw [if_pos h, g.y, if_neg (by omega), add_zero, if_pos (by omega)]
    · rw [if_neg h, g.y]
      by_cases h' : r.val < 80 ∧ n.val < o
      · rw [if_pos h', if_pos (by omega)]
      · rw [if_neg h', if_neg (by omega)]
  a r j := by rw [ha, g.a, Finset.sum_range_add, Finset.sum_range (n := w)]
  b d j := by rw [hb, g.b, Finset.sum_range_add, Finset.sum_range (n := w)]

end defs

/-! ### Loads -/

section loads

theorem rd_rows (a : Memref sig .tc .vmem S16384x128 .bf16) (ha : a.IsWhole) (x : Vec Ideal S16384x128 .bf16) {off : Fin 2 → ℕ} {o w : ℕ}
    (inb : ∀ k, off k + (![w, 128] : Fin 2 → ℕ) k ≤ S16384x128.size k) (ho : off = ![o, 0]) (q : Fin w) (l : Fin 128) :
    View.readAt (Elt Ideal) a.view (Rect.unit (s := S16384x128) off ![w, 128] inb).toLoadRect (ha.unread x) (ix2 q l) = x (ix2 (col (o + q.val)) l) := by
  rw [ha.readAt_unread]
  subst ho
  have hb : o + w ≤ 16384 := inb 0
  congr 1
  funext k
  apply Fin.ext
  match k with
  | ⟨0, _⟩ => show o + 1 * q.val = (col (o + q.val)).val; rw [col_val _ (by omega)]; omega
  | ⟨1, _⟩ => show 0 + 1 * l.val = l.val; omega

theorem ld_rows (x : Vec Ideal S16384x128 .bf16) {off : Fin 2 → ℕ} {o w : ℕ}
    (inb : ∀ k, off k + (![w, 128] : Fin 2 → ℕ) k ≤ S16384x128.size k) (ho : off = ![o, 0]) (q : Fin w) (l : Fin 128) :
    View.ld (Val := Elt Ideal) x (Rect.unit (s := S16384x128) off ![w, 128] inb) (ix2 q l) = x (ix2 (col (o + q.val)) l) := by
  subst ho
  have hb : o + w ≤ 16384 := inb 0
  show x _ = x _
  congr 1
  funext k
  apply Fin.ext
  match k with
  | ⟨0, _⟩ => show o + 1 * q.val = (col (o + q.val)).val; rw [col_val _ (by omega)]; omega
  | ⟨1, _⟩ => show 0 + 1 * l.val = l.val; omega

theorem idx_cols {off : Fin 2 → ℕ} {r0 h o w : ℕ} (inb : ∀ k, off k + (![h, w] : Fin 2 → ℕ) k ≤ S128x16384.size k) (ho : off = ![r0, o]) (r : Fin h) (q : Fin w) :
    (Rect.unit (s := S128x16384) off ![h, w] inb).toLoadRect.idx (ix2 r q)
      = (ix2 ⟨r0 + r.val, by subst ho; have hb : r0 + h ≤ 128 := inb 0; omega⟩ (col (o + q.val)) : S128x16384.Idx) := by
  subst ho
  have hb : o + w ≤ 16384 := inb 1
  funext k
  apply Fin.ext
  match k with
  | ⟨0, _⟩ => show r0 + 1 * r.val = r0 + r.val; omega
  | ⟨1, _⟩ => show o + 1 * q.val = (col (o + q.val)).val; rw [col_val _ (by omega)]; omega

theorem rd_cols (a : Memref sig .tc .vmem S128x16384 .bf16) (ha : a.IsWhole) (x : Vec Ideal S128x16384 .bf16) {off : Fin 2 → ℕ} {r0 h o w : ℕ}
    (inb : ∀ k, off k + (![h, w] : Fin 2 → ℕ) k ≤ S128x16384.size k) (ho : off = ![r0, o]) (r : Fin h) (q : Fin w) :
    View.readAt (Elt Ideal) a.view (Rect.unit (s := S128x16384) off ![h, w] inb).toLoadRect (ha.unread x) (ix2 r q)
      = x (ix2 ⟨r0 + r.val, by subst ho; have hb : r0 + h ≤ 128 := inb 0; omega⟩ (col (o + q.val))) := by
  rw [ha.readAt_unread, idx_cols inb ho]

theorem rd_acc (a : Memref sig .tc .vmem S128x16384 .f32) (G : BufTy.Contents (Elt Ideal) a.view.ty) {off : Fin 2 → ℕ} {h o w : ℕ}
    (inb : ∀ k, off k + (![h, w] : Fin 2 → ℕ) k ≤ S128x16384.size k) (ho : off = ![0, o]) (r : Fin h) (q : Fin w) :
    View.readAt (Elt Ideal) a.view (Rect.unit (s := S128x16384) off ![h, w] inb).toLoadRect G (ix2 r q)
      = a.view.read (Elt Ideal) G (ix2 ⟨r.val, by subst ho; have hb : 0 + h ≤ 128 := inb 0; omega⟩ (col (o + q.val))) := by
  rw [View.readAt_apply]
  have e := idx_cols inb ho r q
  refine (congrArg (a.view.read (Elt Ideal) G) e).trans ?_
  congr 1
  exact congrArg (fun z => (ix2 z (col (o + q.val)) : S128x16384.Idx)) (Fin.ext (by show 0 + r.val = r.val; omega))

theorem rd_row (a : Memref sig .tc .vmem S1x8x16384 .f32) (ha : a.IsWhole) (x : Vec Ideal S1x8x16384 .f32) {off : Fin 3 → ℕ} {p o w : ℕ} (hp : p < 8)
    (inb : ∀ k, off k + (![1, 1, w] : Fin 3 → ℕ) k ≤ S1x8x16384.size k) (ho : off = ![0, p, o]) (q : Fin w) :
    View.readAt (Elt Ideal) a.view (Rect.unit (s := S1x8x16384) off ![1, 1, w] inb).toLoadRect (ha.unread x) (ix3 0 0 q) = x (ix3 0 ⟨p, hp⟩ (col (o + q.val))) := by
  rw [ha.readAt_unread]
  subst ho
  have hb : o + w ≤ 16384 := inb 2
  congr 1
  funext k
  apply Fin.ext
  match k with
  | ⟨0, _⟩ => rfl
  | ⟨1, _⟩ => show p + 1 * 0 = p; omega
  | ⟨2, _⟩ => show o + 1 * q.val = (col (o + q.val)).val; rw [col_val _ (by omega)]; omega

/-- A window of the accumulator put over, at an element. -/
theorem put_apply (Y : Vec Ideal S128x16384 .f32) (o w : ℕ) (W : ((a : Fin 2) → Fin ((![80, w] : Fin 2 → ℕ) a)) → EReal) (r : Fin 128) (n : Fin 16384) :
    VecWindow.put (s := S128x16384) (α := EReal) Y ![0, o] ![80, w] W (ix2 r n)
      = if h : r.val < 80 ∧ o ≤ n.val ∧ n.val < o + w then W (ix2 (⟨r.val, h.1⟩ : Fin 80) (⟨n.val - o, by omega⟩ : Fin w)) else Y (ix2 r n) := by
  unfold VecWindow.put
  by_cases h : r.val < 80 ∧ o ≤ n.val ∧ n.val < o + w
  · rw [dif_pos h, dif_pos (by
      intro a
      match a with
      | ⟨0, _⟩ => show 0 ≤ r.val ∧ r.val < 0 + 80; omega
      | ⟨1, _⟩ => show o ≤ n.val ∧ n.val < o + w; omega)]
    congr 1
    funext a
    apply Fin.ext
    match a with
    | ⟨0, _⟩ => show r.val - 0 = r.val; omega
    | ⟨1, _⟩ => rfl
  · rw [dif_neg h, dif_neg (by
      intro hall
      have h0 : 0 ≤ r.val ∧ r.val < 0 + 80 := hall 0
      have h1 : o ≤ n.val ∧ n.val < o + w := hall 1
      exact h (by omega))]

end loads

/-! ### The stores' payloads -/

section pays

theorem pay4_apply (v23 : FVec Ideal S512x128 .bf16) (v163 : Vec Ideal S1024x128 .bf16) (v168 : Vec Ideal S1x1x1024 .f32) (j : Fin 512) (x : Fin 1024) :
    k0_pay4 v23 v163 v168 (ix2 j x) = Ideal.exp ((∑ l : Fin 128, v23 (ix2 j l) * v163 (ix2 x l)) - v168 (ix3 0 0 x)) := by
  pointwise [k0_pay4]

theorem pay5_apply (v21 v23 : FVec Ideal S512x128 .bf16) (v163 : Vec Ideal S1024x128 .bf16) (v168 : Vec Ideal S1x1x1024 .f32) (v174 : Vec Ideal S1024x128 .bf16) (v179 : Vec Ideal S1x1x1024 .f32) (j : Fin 512) (x : Fin 1024) :
    k0_pay5 v21 v23 v163 v168 v174 v179 (ix2 j x) = k0_pay4 v23 v163 v168 (ix2 j x) * ((∑ l : Fin 128, v21 (ix2 j l) * v174 (ix2 x l)) - v179 (ix3 0 0 x)) := by
  pointwise [k0_pay5]

theorem pay6_apply (v21 v23 : FVec Ideal S512x128 .bf16) (v25 : FVec Ideal S80x512 .bf16) (v163 : Vec Ideal S1024x128 .bf16) (v168 : Vec Ideal S1x1x1024 .f32) (v174 : Vec Ideal S1024x128 .bf16) (v179 : Vec Ideal S1x1x1024 .f32) (v186 : Vec Ideal S80x1024 .f32) (r : Fin 80) (x : Fin 1024) :
    k0_pay6 v21 v23 v25 v163 v168 v174 v179 v186 (ix2 r x) = v186 (ix2 r x) + ∑ j : Fin 512, v25 (ix2 r j) * k0_pay5 v21 v23 v163 v168 v174 v179 (ix2 j x) := by
  pointwise [k0_pay6]

theorem pay7_apply (v21 v23 : FVec Ideal S512x128 .bf16) (arg17 : FVec Ideal S80x512 .f32) (v163 : Vec Ideal S1024x128 .bf16) (v168 : Vec Ideal S1x1x1024 .f32) (v174 : Vec Ideal S1024x128 .bf16) (v179 : Vec Ideal S1x1x1024 .f32) (v193 : Vec Ideal S80x1024 .bf16) (r : Fin 80) (j : Fin 512) :
    k0_pay7 v21 v23 arg17 v163 v168 v174 v179 v193 (ix2 r j) = arg17 (ix2 r j) + ∑ x : Fin 1024, v193 (ix2 r x) * k0_pay5 v21 v23 v163 v168 v174 v179 (ix2 j x) := by
  pointwise [k0_pay7]

theorem pay8_apply (arg18 : FVec Ideal S64x512 .f32) (v172 : FVec Ideal S512x1024 .f32) (v199 : Vec Ideal S64x1024 .bf16) (d : Fin 64) (j : Fin 512) :
    k0_pay8 arg18 v172 v199 (ix2 d j) = arg18 (ix2 d j) + ∑ x : Fin 1024, v199 (ix2 d x) * v172 (ix2 j x) := by
  pointwise [k0_pay8]

theorem pay39_apply (v23 : FVec Ideal S512x128 .bf16) (v163 : Vec Ideal S512x128 .bf16) (v168 : Vec Ideal S1x1x512 .f32) (j : Fin 512) (x : Fin 512) :
    k0_pay39 v23 v163 v168 (ix2 j x) = Ideal.exp ((∑ l : Fin 128, v23 (ix2 j l) * v163 (ix2 x l)) - v168 (ix3 0 0 x)) := by
  pointwise [k0_pay39]

theorem pay40_apply (v21 v23 : FVec Ideal S512x128 .bf16) (v163 : Vec Ideal S512x128 .bf16) (v168 : Vec Ideal S1x1x512 .f32) (v174 : Vec Ideal S512x128 .bf16) (v179 : Vec Ideal S1x1x512 .f32) (j : Fin 512) (x : Fin 512) :
    k0_pay40 v21 v23 v163 v168 v174 v179 (ix2 j x) = k0_pay39 v23 v163 v168 (ix2 j x) * ((∑ l : Fin 128, v21 (ix2 j l) * v174 (ix2 x l)) - v179 (ix3 0 0 x)) := by
  pointwise [k0_pay40]

theorem pay41_apply (v21 v23 : FVec Ideal S512x128 .bf16) (v25 : FVec Ideal S80x512 .bf16) (v163 : Vec Ideal S512x128 .bf16) (v168 : Vec Ideal S1x1x512 .f32) (v174 : Vec Ideal S512x128 .bf16) (v179 : Vec Ideal S1x1x512 .f32) (v186 : Vec Ideal S80x512 .f32) (r : Fin 80) (x : Fin 512) :
    k0_pay41 v21 v23 v25 v163 v168 v174 v179 v186 (ix2 r x) = v186 (ix2 r x) + ∑ j : Fin 512, v25 (ix2 r j) * k0_pay40 v21 v23 v163 v168 v174 v179 (ix2 j x) := by
  pointwise [k0_pay41]

theorem pay42_apply (v21 v23 : FVec Ideal S512x128 .bf16) (arg17 : FVec Ideal S80x512 .f32) (v163 : Vec Ideal S512x128 .bf16) (v168 : Vec Ideal S1x1x512 .f32) (v174 : Vec Ideal S512x128 .bf16) (v179 : Vec Ideal S1x1x512 .f32) (v193 : Vec Ideal S80x512 .bf16) (r : Fin 80) (j : Fin 512) :
    k0_pay42 v21 v23 arg17 v163 v168 v174 v179 v193 (ix2 r j) = arg17 (ix2 r j) + ∑ x : Fin 512, v193 (ix2 r x) * k0_pay40 v21 v23 v163 v168 v174 v179 (ix2 j x) := by
  pointwise [k0_pay42]

theorem pay43_apply (v23 : FVec Ideal S512x128 .bf16) (arg18 : FVec Ideal S64x512 .f32) (v163 : Vec Ideal S512x128 .bf16) (v168 : Vec Ideal S1x1x512 .f32) (v199 : Vec Ideal S64x512 .bf16) (d : Fin 64) (j : Fin 512) :
    k0_pay43 v23 arg18 v163 v168 v199 (ix2 d j) = arg18 (ix2 d j) + ∑ x : Fin 512, v199 (ix2 d x) * k0_pay39 v23 v163 v168 (ix2 j x) := by
  pointwise [k0_pay43]

end pays

end Cert.Proof.Foxb

end
-- ==== Proof.FoxbFrame.lean ====
/-
  The frame of the gradient of the forgetting attention: what every staging buffer holds after each grid point, the
  body's triple there, and the run of the whole program.
-/
module

public import proofs.«01_k».proof.Proof.FoxbBody
public import Idealize.ShloMosaic.Lib.Pipeline.FrameBody
public import Idealize.ShloMosaic.Lib.Claim
public import Idealize.ShloMosaic.Lib.Pointwise.Index

@[expose] public section

set_option maxRecDepth 16384

noncomputable section

namespace Cert.Proof.Foxb

open Cert.FoxbIdeal Cert.FoxbIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two tables of ends -/

theorem V_ends (c : Dev nD) : V m c main_v91 = fun y => narrowEnd (y 1).val := by
  dsimp only [V, V0, hostOps0, hostOps0_1, hostOps0_2, hostOps0_3, hostOps0_4, List.flatten_cons, List.flatten_nil, List.cons_append, List.nil_append]
  after_results
  funext y
  have h : ∀ j : Fin 32, addi (muli (fun _ => 2#32) (Host.shrui (iotaInDim S32 32 0) (fun _ => 1#32))) (fun _ => 2#32) (ix1 j) = narrowEnd j.val := by decide +kernel
  refine (congrArg (addi (muli (fun _ => 2#32) (Host.shrui (iotaInDim S32 32 0) (fun _ => 1#32))) (fun _ => 2#32)) (funext fun a => ?_)).trans (h (y 1))
  fin_cases a
  rfl

theorem V_wide (c : Dev nD) : V m c main_v94 = fun _ => wideEnd := by
  dsimp only [V, V0, hostOps0, hostOps0_1, hostOps0_2, hostOps0_3, hostOps0_4, List.flatten_cons, List.flatten_nil, List.cons_append, List.nil_append]
  after_results
  rfl

theorem iblk_ends (c : Dev nD) (t : Fin cfg0.N) : iblk m c 0 t = fun y => narrowEnd (y 1).val := by
  have e := V_ends m c
  unfold iblk
  generalize V m c = v at e ⊢
  funext y
  refine (congrFun e _).trans ?_
  show narrowEnd _ = _
  congr 1
  exact (Pipeline.Window.rect_emb_val_of_index_zero (win0 0) t (1 : Fin 2) rfl y)

theorem iblk_wide (c : Dev nD) (t : Fin cfg0.N) : iblk m c 1 t = fun _ => wideEnd := by
  have e := V_wide m c
  unfold iblk
  generalize V m c = v at e ⊢
  funext y
  exact congrFun e _

/-! ## What the points leave -/

/-- The run of point `t`, the gradient's rows of queries standing at `y13` after the first block's zeroing. -/
def runAt (c : Dev nD) (t : Fin cfg0.N) (y13 : Vec F S128x16384 .f32) :=
  run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (iblk m c 2 t) (iblk m c 3 t) (iblk m c 4 t) (iblk m c 5 t) (iblk m c 6 t) (iblk m c 7 t) (iblk m c 8 t) (iblk m c 9 t) (iblk m c 10 t) y13

/-- The rows of queries after point `t`, before it at `x13`. -/
def dqNext (c : Dev nD) (t : Fin cfg0.N) (x13 : Vec F S128x16384 .f32) : Vec F S128x16384 .f32 :=
  (st0_11 t).view.read (Elt F) ((st0_11 t).view.writes (Elt F)
    ((hstage0_11 ((cfg0.slots t 11).cast nbuf0_11)).unread (startAt (grid0.coords t) x13)) (runAt m c t (startAt (grid0.coords t) x13)).2.2.1)

/-- The rows of queries before point `n` (anything before the first). -/
def dqBefore (c : Dev nD) : (n : ℕ) → n < cfg0.N → Vec F S128x16384 .f32
  | 0, _ => k0_pay27
  | n + 1, h => dqNext m c ⟨n, by omega⟩ (dqBefore c n (by omega))

def dqAfter (c : Dev nD) (t : Fin cfg0.N) : Vec F S128x16384 .f32 := dqNext m c t (dqBefore m c t.val t.isLt)

def dkAfter (c : Dev nD) (t : Fin cfg0.N) : Vec F S128x512 .f32 :=
  View.canon (Val := Elt F) (runAt m c t (startAt (grid0.coords t) (dqBefore m c t.val t.isLt))).1

def dvAfter (c : Dev nD) (t : Fin cfg0.N) : Vec F S64x512 .f32 :=
  View.canon (Val := Elt F) (runAt m c t (startAt (grid0.coords t) (dqBefore m c t.val t.isLt))).2.1

theorem read_dk (c : Dev nD) (t : Fin cfg0.N) {κ : Kind} {sp : Space} (v : View sig κ sp S128x512 .f32) (f) :
    v.read (Elt F) (v.writes (Elt F) f (runAt m c t (startAt (grid0.coords t) (dqBefore m c t.val t.isLt))).1) = dkAfter m c t := by
  funext y
  have h : ∃ p ∈ (runAt m c t (startAt (grid0.coords t) (dqBefore m c t.val t.isLt))).1, y ∈ p.1.set := by
    unfold runAt; exact cover14 c _ _ _ _ _ _ _ _ _ _ _ _ _ _ _ _ _ _ _ _ _ _ _ _ _ _ _ _ _ _ _ _ _ _ _ _ _ _ _ y
  exact View.read_writes_apply_eq_canon v f y _ h

theorem read_dv (c : Dev nD) (t : Fin cfg0.N) {κ : Kind} {sp : Space} (v : View sig κ sp S64x512 .f32) (f) :
    v.read (Elt F) (v.writes (Elt F) f (runAt m c t (startAt (grid0.coords t) (dqBefore m c t.val t.isLt))).2.1) = dvAfter m c t := by
  funext y
  have h : ∃ p ∈ (runAt m c t (startAt (grid0.coords t) (dqBefore m c t.val t.isLt))).2.1, y ∈ p.1.set := by
    unfold runAt; exact cover15 c _ _ _ _ _ _ _ _ _ _ _ _ _ _ _ _ _ _ _ _ _ _ _ _ _ _ _ _ _ _ _ _ _ _ _ _ _ _ _ y
  exact View.read_writes_apply_eq_canon v f y _ h

set_option maxRecDepth 100000 in
theorem first_iff : ∀ t : Fin grid0.N, first (grid0.coords t) = 1#1 ↔ t.val % 32 = 0 := by decide +kernel

/-- The proof data: the arrays as the region finds them, the inputs' blocks left in place, the outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dqAfter m c t
    | ⟨12, _⟩ => dkAfter m c t
    | ⟨13, _⟩ => dvAfter m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = dqAfter m c t := by dsimp only [dats]
theorem after_12 (c : Dev nD) (t : Fin cfg0.N) : (dats m 0 c).after 12 t = dkAfter m c t := by dsimp only [dats]
theorem after_13 (c : Dev nD) (t : Fin cfg0.N) : (dats m 0 c).after 13 t = dvAfter m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

/-- What the rows of queries stand at after the zeroing of a first block: the same whatever stood there. -/
theorem start_before (c : Dev nD) (t : Fin cfg0.N) (d) :
    startAt (grid0.coords t) ((dats m 0 c).before 11 t d) = startAt (grid0.coords t) (dqBefore m c t.val t.isLt) := by
  by_cases h : t.val % 32 = 0
  · rw [startAt, startAt, if_pos ((first_iff t).mpr h), if_pos ((first_iff t).mpr h)]
  · have h0 : t.val ≠ 0 := fun e => h (by rw [e])
    have hf : (cfg0.win 11).flush ⟨t.val - 1, Nat.lt_of_le_of_lt (Nat.sub_le _ _) t.isLt⟩ = false :=
      Bool.eq_false_iff.mpr fun e => h (by have := (flush0_11 _).mp e; dsimp only at this; omega)
    congr 1
    rw [Dat.before_out_kept (dats m 0 c) 11 rfl t h0 hf (fun _ => rfl) (fun _ _ => rfl) d, after_11]
    obtain ⟨n, hn⟩ := t
    cases n with
    | zero => exact absurd rfl h0
    | succ n => rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, iblk_ends, iblk_wide]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((runAt m c t (startAt (grid0.coords t) (dqBefore m c t.val t.isLt))).2.2.2 _ (start_before m c t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, ⟨%e12, H12⟩, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · unfold owns; iexists _; isplitr
    swap; · iexact H11
    ipureintro; rfl
  isplitl [H12]
  · unfold owns; iexists _; isplitr
    swap; · iexact H12
    ipureintro; exact read_dk m c t _ _
  unfold owns; iexists _; isplitr
  swap; · iexact H13
  ipureintro; exact read_dv m c t _ _

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every execution ends, every buffer of the region and of the host lines after it at what the proof data compute, the
    semaphores at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Proof.Foxb

end
-- ==== Proof.FoxbBlk.lean ====
/-
  The gradient of the forgetting attention: the arrays the call is given, the blocks its grid points read, and the
  probabilities of those.
-/
module

public import proofs.«01_k».proof.Proof.FoxbTile
public import proofs.«01_k».proof.Proof.FoxbFrame

@[expose] public section

set_option maxRecDepth 16384

noncomputable section

namespace Cert.Proof.Foxb

open Cert.FoxbIdeal Cert.FoxbIdeal.Gen Idealize.ShloMosaic Idealize.ShloMosaic.TcCoe Idealize.SL.Sem
open Idealize.ShloMosaic.Pipeline (Dat)

/-- Lane `l` of head `h`. -/
def lane (h : Fin 8) (l : Fin 128) : Fin 1024 := ⟨128 * h.val + l.val, by omega⟩
/-- Key `j` of block `b`. -/
def key (b : Fin 32) (j : Fin 512) : Fin 16384 := ⟨512 * b.val + j.val, by omega⟩
/-- Lane `l` of the pair of heads with `h`. -/
def half (h : Fin 8) (l : Fin 128) : Fin 512 := ⟨128 * (h.val / 2) + l.val, by omega⟩
def halfV (h : Fin 8) (l : Fin 128) : Fin 4096 := ⟨3072 + (128 * (h.val / 2) + l.val), by omega⟩
def pairOf (h : Fin 8) : Fin 4 := ⟨h.val / 2, by omega⟩
def parOf (h : Fin 8) : Fin 8 := ⟨h.val % 2, by omega⟩

variable (m : (ℓ : Loc nD τ sig) → Buf (Elt Ideal) ℓ) (c : Dev nD)

/-! The arrays the call is given. -/

def aQ : FVec Ideal S16384x1024 .bf16 := V m c main_v60
def aQt : FVec Ideal S1024x16384 .bf16 := V m c main_v77
def aK : FVec Ideal S16384x1024 .bf16 := V m c main_v68
def aKt : FVec Ideal S1024x16384 .bf16 := V m c main_v78
def aV : FVec Ideal S16384x4096 .bf16 := V m c main_v73
def aO : FVec Ideal S16384x512 .bf16 := V m c main_v75
def aOt : FVec Ideal S512x16384 .bf16 := V m c main_v79
def aL : FVec Ideal S4x8x16384 .f32 := V m c main_v81
def aD : FVec Ideal S4x8x16384 .f32 := V m c main_v83

/-- The probability of key `J` at query `n` in head `h`, of the arrays the call is given. -/
def pG (h : Fin 8) (n J : Fin 16384) : EReal :=
  if J.val ≤ n.val then
    Ideal.exp ((∑ l : Fin 128, aK m c (ix2 J (lane h l)) * aQ m c (ix2 n (lane h l))) - aL m c (ix3 (pairOf h) (parOf h) n))
  else 0

/-- The gradient at that score. -/
def dG (h : Fin 8) (n J : Fin 16384) : EReal :=
  pG m c h n J * ((∑ l : Fin 128, (if l.val / 64 = h.val % 2 then aV m c (ix2 J (halfV h l)) else 0) * aO m c (ix2 n (half h l)))
    - aD m c (ix3 (pairOf h) (parOf h) n))

theorem lt256 (t : Fin cfg0.N) : t.val < 256 := lt_of_lt_of_eq t.isLt N_0
/-- A point's head and block of keys. -/
def hd (t : Fin cfg0.N) : Fin 8 := ⟨t.val / 32, by have := lt256 t; omega⟩
def kb (t : Fin cfg0.N) : Fin 32 := ⟨t.val % 32, by omega⟩

set_option maxRecDepth 100000 in
theorem coords_at : ∀ t : Fin grid0.N, (grid0.coords t 0).val = t.val / 32 ∧ (grid0.coords t 1).val = t.val % 32 := by decide +kernel

set_option maxRecDepth 100000 in
theorem idx2 : ∀ t : Fin cfg0.N, win0_2.index t 0 = 0 ∧ win0_2.index t 1 = t.val / 32 :=
  (by decide +kernel : ∀ t : Fin grid0.N, win0_2.index t 0 = 0 ∧ win0_2.index t 1 = t.val / 32)

set_option maxRecDepth 100000 in
theorem idx3 : ∀ t : Fin cfg0.N, win0_3.index t 0 = t.val / 32 ∧ win0_3.index t 1 = 0 :=
  (by decide +kernel : ∀ t : Fin grid0.N, win0_3.index t 0 = t.val / 32 ∧ win0_3.index t 1 = 0)

set_option maxRecDepth 100000 in
theorem idx4 : ∀ t : Fin cfg0.N, win0_4.index t 0 = t.val % 32 ∧ win0_4.index t 1 = t.val / 32 :=
  (by decide +kernel : ∀ t : Fin grid0.N, win0_4.index t 0 = t.val % 32 ∧ win0_4.index t 1 = t.val / 32)

set_option maxRecDepth 100000 in
theorem idx5 : ∀ t : Fin cfg0.N, win0_5.index t 0 = t.val / 32 ∧ win0_5.index t 1 = t.val % 32 :=
  (by decide +kernel : ∀ t : Fin grid0.N, win0_5.index t 0 = t.val / 32 ∧ win0_5.index t 1 = t.val % 32)

set_option maxRecDepth 100000 in
theorem idx6 : ∀ t : Fin cfg0.N, win0_6.index t 0 = t.val % 32 ∧ win0_6.index t 1 = 24 + t.val / 32 / 2 :=
  (by decide +kernel : ∀ t : Fin grid0.N, win0_6.index t 0 = t.val % 32 ∧ win0_6.index t 1 = 24 + t.val / 32 / 2)

set_option maxRecDepth 100000 in
theorem idx7 : ∀ t : Fin cfg0.N, win0_7.index t 0 = 0 ∧ win0_7.index t 1 = t.val / 32 / 2 :=
  (by decide +kernel : ∀ t : Fin grid0.N, win0_7.index t 0 = 0 ∧ win0_7.index t 1 = t.val / 32 / 2)

set_option maxRecDepth 100000 in
theorem idx8 : ∀ t : Fin cfg0.N, win0_8.index t 0 = t.val / 32 / 2 ∧ win0_8.index t 1 = 0 :=
  (by decide +kernel : ∀ t : Fin grid0.N, win0_8.index t 0 = t.val / 32 / 2 ∧ win0_8.index t 1 = 0)

set_option maxRecDepth 100000 in
theorem idx9 : ∀ t : Fin cfg0.N, win0_9.index t 0 = t.val / 32 / 2 ∧ win0_9.index t 1 = 0 ∧ win0_9.index t 2 = 0 :=
  (by decide +kernel : ∀ t : Fin grid0.N, win0_9.index t 0 = t.val / 32 / 2 ∧ win0_9.index t 1 = 0 ∧ win0_9.index t 2 = 0)

set_option maxRecDepth 100000 in
theorem idx10 : ∀ t : Fin cfg0.N, win0_10.index t 0 = t.val / 32 / 2 ∧ win0_10.index t 1 = 0 ∧ win0_10.index t 2 = 0 :=
  (by decide +kernel : ∀ t : Fin grid0.N, win0_10.index t 0 = t.val / 32 / 2 ∧ win0_10.index t 1 = 0 ∧ win0_10.index t 2 = 0)

set_option maxRecDepth 100000 in
theorem idx11 : ∀ t : Fin cfg0.N, win0_11.index t 0 = t.val / 32 ∧ win0_11.index t 1 = 0 :=
  (by decide +kernel : ∀ t : Fin grid0.N, win0_11.index t 0 = t.val / 32 ∧ win0_11.index t 1 = 0)

set_option maxRecDepth 100000 in
theorem idx12 : ∀ t : Fin cfg0.N, win0_12.index t 0 = t.val / 32 ∧ win0_12.index t 1 = t.val % 32 :=
  (by decide +kernel : ∀ t : Fin grid0.N, win0_12.index t 0 = t.val / 32 ∧ win0_12.index t 1 = t.val % 32)

set_option maxRecDepth 100000 in
theorem idx13 : ∀ t : Fin cfg0.N, win0_13.index t 0 = t.val / 32 ∧ win0_13.index t 1 = t.val % 32 :=
  (by decide +kernel : ∀ t : Fin grid0.N, win0_13.index t 0 = t.val / 32 ∧ win0_13.index t 1 = t.val % 32)

section blocks
variable (t : Fin cfg0.N)

theorem emb2 (y : S16384x128.Idx) (z : S16384x1024.Idx) (h0 : (z 0).val = win0_2.index t 0 * 16384 + 1 * (y 0).val) (h1 : (z 1).val = win0_2.index t 1 * 128 + 1 * (y 1).val) :
    (((cfg0.win 2).blk t).view.emb y : S16384x1024.Idx) = z := by
  funext a
  apply Fin.ext
  match a with
  | ⟨0, _⟩ => exact h0.symm
  | ⟨1, _⟩ => exact h1.symm

theorem rd2 (x : FVec Ideal S16384x1024 .bf16) (y : S16384x128.Idx) (z : S16384x1024.Idx) (h : (((cfg0.win 2).blk t).view.emb y : S16384x1024.Idx) = z) :
    (((cfg0.win 2).blk t).view.read (Elt Ideal) x : Vec Ideal S16384x128 .bf16) y = x z := congrArg x h

theorem blk2 (n : Fin 16384) (l : Fin 128) : (iblk m c 2 t : Vec Ideal S16384x128 .bf16) (ix2 n l) = aQ m c (ix2 n (lane (hd t) l)) := by
  unfold iblk aQ
  obtain ⟨e0, e1⟩ := idx2 t
  refine rd2 t (V m c main_v60) _ _ (emb2 t _ _ ?_ ?_)
  · show n.val = win0_2.index t 0 * 16384 + 1 * n.val; rw [e0]; omega
  · show 128 * (t.val / 32) + l.val = win0_2.index t 1 * 128 + 1 * l.val; rw [e1]; omega

theorem emb3 (y : S128x16384.Idx) (z : S1024x16384.Idx) (h0 : (z 0).val = win0_3.index t 0 * 128 + 1 * (y 0).val) (h1 : (z 1).val = win0_3.index t 1 * 16384 + 1 * (y 1).val) :
    (((cfg0.win 3).blk t).view.emb y : S1024x16384.Idx) = z := by
  funext a
  apply Fin.ext
  match a with
  | ⟨0, _⟩ => exact h0.symm
  | ⟨1, _⟩ => exact h1.symm

theorem rd3 (x : FVec Ideal S1024x16384 .bf16) (y : S128x16384.Idx) (z : S1024x16384.Idx) (h : (((cfg0.win 3).blk t).view.emb y : S1024x16384.Idx) = z) :
    (((cfg0.win 3).blk t).view.read (Elt Ideal) x : Vec Ideal S128x16384 .bf16) y = x z := congrArg x h

theorem blk3 (l : Fin 128) (n : Fin 16384) : (iblk m c 3 t : Vec Ideal S128x16384 .bf16) (ix2 l n) = aQt m c (ix2 (lane (hd t) l) n) := by
  unfold iblk aQt
  obtain ⟨e0, e1⟩ := idx3 t
  refine rd3 t (V m c main_v77) _ _ (emb3 t _ _ ?_ ?_)
  · show 128 * (t.val / 32) + l.val = win0_3.index t 0 * 128 + 1 * l.val; rw [e0]; omega
  · show n.val = win0_3.index t 1 * 16384 + 1 * n.val; rw [e1]; omega

theorem emb4 (y : S512x128.Idx) (z : S16384x1024.Idx) (h0 : (z 0).val = win0_4.index t 0 * 512 + 1 * (y 0).val) (h1 : (z 1).val = win0_4.index t 1 * 128 + 1 * (y 1).val) :
    (((cfg0.win 4).blk t).view.emb y : S16384x1024.Idx) = z := by
  funext a
  apply Fin.ext
  match a with
  | ⟨0, _⟩ => exact h0.symm
  | ⟨1, _⟩ => exact h1.symm

theorem rd4 (x : FVec Ideal S16384x1024 .bf16) (y : S512x128.Idx) (z : S16384x1024.Idx) (h : (((cfg0.win 4).blk t).view.emb y : S16384x1024.Idx) = z) :
    (((cfg0.win 4).blk t).view.read (Elt Ideal) x : Vec Ideal S512x128 .bf16) y = x z := congrArg x h

theorem blk4 (j : Fin 512) (l : Fin 128) : (iblk m c 4 t : Vec Ideal S512x128 .bf16) (ix2 j l) = aK m c (ix2 (key (kb t) j) (lane (hd t) l)) := by
  unfold iblk aK
  obtain ⟨e0, e1⟩ := idx4 t
  refine rd4 t (V m c main_v68) _ _ (emb4 t _ _ ?_ ?_)
  · show 512 * (t.val % 32) + j.val = win0_4.index t 0 * 512 + 1 * j.val; rw [e0]; omega
  · show 128 * (t.val / 32) + l.val = win0_4.index t 1 * 128 + 1 * l.val; rw [e1]; omega

theorem emb5 (y : S128x512.Idx) (z : S1024x16384.Idx) (h0 : (z 0).val = win0_5.index t 0 * 128 + 1 * (y 0).val) (h1 : (z 1).val = win0_5.index t 1 * 512 + 1 * (y 1).val) :
    (((cfg0.win 5).blk t).view.emb y : S1024x16384.Idx) = z := by
  funext a
  apply Fin.ext
  match a with
  | ⟨0, _⟩ => exact h0.symm
  | ⟨1, _⟩ => exact h1.symm

theorem rd5 (x : FVec Ideal S1024x16384 .bf16) (y : S128x512.Idx) (z : S1024x16384.Idx) (h : (((cfg0.win 5).blk t).view.emb y : S1024x16384.Idx) = z) :
    (((cfg0.win 5).blk t).view.read (Elt Ideal) x : Vec Ideal S128x512 .bf16) y = x z := congrArg x h

theorem blk5 (l : Fin 128) (j : Fin 512) : (iblk m c 5 t : Vec Ideal S128x512 .bf16) (ix2 l j) = aKt m c (ix2 (lane (hd t) l) (key (kb t) j)) := by
  unfold iblk aKt
  obtain ⟨e0, e1⟩ := idx5 t
  refine rd5 t (V m c main_v78) _ _ (emb5 t _ _ ?_ ?_)
  · show 128 * (t.val / 32) + l.val = win0_5.index t 0 * 128 + 1 * l.val; rw [e0]; omega
  · show 512 * (t.val % 32) + j.val = win0_5.index t 1 * 512 + 1 * j.val; rw [e1]; omega

theorem emb6 (y : S512x128.Idx) (z : S16384x4096.Idx) (h0 : (z 0).val = win0_6.index t 0 * 512 + 1 * (y 0).val) (h1 : (z 1).val = win0_6.index t 1 * 128 + 1 * (y 1).val) :
    (((cfg0.win 6).blk t).view.emb y : S16384x4096.Idx) = z := by
  funext a
  apply Fin.ext
  match a with
  | ⟨0, _⟩ => exact h0.symm
  | ⟨1, _⟩ => exact h1.symm

theorem rd6 (x : FVec Ideal S16384x4096 .bf16) (y : S512x128.Idx) (z : S16384x4096.Idx) (h : (((cfg0.win 6).blk t).view.emb y : S16384x4096.Idx) = z) :
    (((cfg0.win 6).blk t).view.read (Elt Ideal) x : Vec Ideal S512x128 .bf16) y = x z := congrArg x h

theorem blk6 (j : Fin 512) (l : Fin 128) : (iblk m c 6 t : Vec Ideal S512x128 .bf16) (ix2 j l) = aV m c (ix2 (key (kb t) j) (halfV (hd t) l)) := by
  unfold iblk aV
  obtain ⟨e0, e1⟩ := idx6 t
  refine rd6 t (V m c main_v73) _ _ (emb6 t _ _ ?_ ?_)
  · show 512 * (t.val % 32) + j.val = win0_6.index t 0 * 512 + 1 * j.val; rw [e0]; omega
  · show 3072 + (128 * (t.val / 32 / 2) + l.val) = win0_6.index t 1 * 128 + 1 * l.val; rw [e1]; omega

theorem emb7 (y : S16384x128.Idx) (z : S16384x512.Idx) (h0 : (z 0).val = win0_7.index t 0 * 16384 + 1 * (y 0).val) (h1 : (z 1).val = win0_7.index t 1 * 128 + 1 * (y 1).val) :
    (((cfg0.win 7).blk t).view.emb y : S16384x512.Idx) = z := by
  funext a
  apply Fin.ext
  match a with
  | ⟨0, _⟩ => exact h0.symm
  | ⟨1, _⟩ => exact h1.symm

theorem rd7 (x : FVec Ideal S16384x512 .bf16) (y : S16384x128.Idx) (z : S16384x512.Idx) (h : (((cfg0.win 7).blk t).view.emb y : S16384x512.Idx) = z) :
    (((cfg0.win 7).blk t).view.read (Elt Ideal) x : Vec Ideal S16384x128 .bf16) y = x z := congrArg x h

theorem blk7 (n : Fin 16384) (l : Fin 128) : (iblk m c 7 t : Vec Ideal S16384x128 .bf16) (ix2 n l) = aO m c (ix2 n (half (hd t) l)) := by
  unfold iblk aO
  obtain ⟨e0, e1⟩ := idx7 t
  refine rd7 t (V m c main_v75) _ _ (emb7 t _ _ ?_ ?_)
  · show n.val = win0_7.index t 0 * 16384 + 1 * n.val; rw [e0]; omega
  · show 128 * (t.val / 32 / 2) + l.val = win0_7.index t 1 * 128 + 1 * l.val; rw [e1]; omega

theorem emb8 (y : S128x16384.Idx) (z : S512x16384.Idx) (h0 : (z 0).val = win0_8.index t 0 * 128 + 1 * (y 0).val) (h1 : (z 1).val = win0_8.index t 1 * 16384 + 1 * (y 1).val) :
    (((cfg0.win 8).blk t).view.emb y : S512x16384.Idx) = z := by
  funext a
  apply Fin.ext
  match a with
  | ⟨0, _⟩ => exact h0.symm
  | ⟨1, _⟩ => exact h1.symm

theorem rd8 (x : FVec Ideal S512x16384 .bf16) (y : S128x16384.Idx) (z : S512x16384.Idx) (h : (((cfg0.win 8).blk t).view.emb y : S512x16384.Idx) = z) :
    (((cfg0.win 8).blk t).view.read (Elt Ideal) x : Vec Ideal S128x16384 .bf16) y = x z := congrArg x h

theorem blk8 (l : Fin 128) (n : Fin 16384) : (iblk m c 8 t : Vec Ideal S128x16384 .bf16) (ix2 l n) = aOt m c (ix2 (half (hd t) l) n) := by
  unfold iblk aOt
  obtain ⟨e0, e1⟩ := idx8 t
  refine rd8 t (V m c main_v79) _ _ (emb8 t _ _ ?_ ?_)
  · show 128 * (t.val / 32 / 2) + l.val = win0_8.index t 0 * 128 + 1 * l.val; rw [e0]; omega
  · show n.val = win0_8.index t 1 * 16384 + 1 * n.val; rw [e1]; omega

theorem emb9 (y : S1x8x16384.Idx) (z : S4x8x16384.Idx) (h0 : (z 0).val = win0_9.index t 0 * 1 + 1 * (y 0).val) (h1 : (z 1).val = win0_9.index t 1 * 8 + 1 * (y 1).val) (h2 : (z 2).val = win0_9.index t 2 * 16384 + 1 * (y 2).val) :
    (((cfg0.win 9).blk t).view.emb y : S4x8x16384.Idx) = z := by
  funext a
  apply Fin.ext
  match a with
  | ⟨0, _⟩ => exact h0.symm
  | ⟨1, _⟩ => exact h1.symm
  | ⟨2, _⟩ => exact h2.symm

theorem rd9 (x : FVec Ideal S4x8x16384 .f32) (y : S1x8x16384.Idx) (z : S4x8x16384.Idx) (h : (((cfg0.win 9).blk t).view.emb y : S4x8x16384.Idx) = z) :
    (((cfg0.win 9).blk t).view.read (Elt Ideal) x : Vec Ideal S1x8x16384 .f32) y = x z := congrArg x h

theorem blk9 (p : Fin 8) (n : Fin 16384) : (iblk m c 9 t : Vec Ideal S1x8x16384 .f32) (ix3 0 p n) = aL m c (ix3 (pairOf (hd t)) p n) := by
  unfold iblk aL
  obtain ⟨e0, e1, e2⟩ := idx9 t
  refine rd9 t (V m c main_v81) _ _ (emb9 t _ _ ?_ ?_ ?_)
  · show t.val / 32 / 2 = win0_9.index t 0 * 1 + 1 * 0; rw [e0]; omega
  · show p.val = win0_9.index t 1 * 8 + 1 * p.val; rw [e1]; omega
  · show n.val = win0_9.index t 2 * 16384 + 1 * n.val; rw [e2]; omega

theorem emb10 (y : S1x8x16384.Idx) (z : S4x8x16384.Idx) (h0 : (z 0).val = win0_10.index t 0 * 1 + 1 * (y 0).val) (h1 : (z 1).val = win0_10.index t 1 * 8 + 1 * (y 1).val) (h2 : (z 2).val = win0_10.index t 2 * 16384 + 1 * (y 2).val) :
    (((cfg0.win 10).blk t).view.emb y : S4x8x16384.Idx) = z := by
  funext a
  apply Fin.ext
  match a with
  | ⟨0, _⟩ => exact h0.symm
  | ⟨1, _⟩ => exact h1.symm
  | ⟨2, _⟩ => exact h2.symm

theorem rd10 (x : FVec Ideal S4x8x16384 .f32) (y : S1x8x16384.Idx) (z : S4x8x16384.Idx) (h : (((cfg0.win 10).blk t).view.emb y : S4x8x16384.Idx) = z) :
    (((cfg0.win 10).blk t).view.read (Elt Ideal) x : Vec Ideal S1x8x16384 .f32) y = x z := congrArg x h

theorem blk10 (p : Fin 8) (n : Fin 16384) : (iblk m c 10 t : Vec Ideal S1x8x16384 .f32) (ix3 0 p n) = aD m c (ix3 (pairOf (hd t)) p n) := by
  unfold iblk aD
  obtain ⟨e0, e1, e2⟩ := idx10 t
  refine rd10 t (V m c main_v83) _ _ (emb10 t _ _ ?_ ?_ ?_)
  · show t.val / 32 / 2 = win0_10.index t 0 * 1 + 1 * 0; rw [e0]; omega
  · show p.val = win0_10.index t 1 * 8 + 1 * p.val; rw [e1]; omega
  · show n.val = win0_10.index t 2 * 16384 + 1 * n.val; rw [e2]; omega

attribute [irreducible] aQ aQt aK aKt aV aO aOt aL aD

theorem hh_at : hh (grid0.coords t) = (hd t).val % 2 := by
  unfold hh; rw [(coords_at t).1]; rfl

theorem kb_at : (grid0.coords t 1).val = (kb t).val := (coords_at t).2

theorem par_at : (⟨hh (grid0.coords t), by have := hh_lt (grid0.coords t); omega⟩ : Fin 8) = parOf (hd t) := Fin.ext (hh_at t)

variable {m c t}

theorem P_of {x4 : Vec Ideal S16384x128 .bf16} {x6 : Vec Ideal S512x128 .bf16} {x11 : Vec Ideal S1x8x16384 .f32}
    (h4 : ∀ n l, x4 (ix2 n l) = aQ m c (ix2 n (lane (hd t) l))) (h6 : ∀ j l, x6 (ix2 j l) = aK m c (ix2 (key (kb t) j) (lane (hd t) l)))
    (h11 : ∀ p n, x11 (ix3 0 p n) = aL m c (ix3 (pairOf (hd t)) p n)) (j : Fin 512) (n : Fin 16384) :
    P (grid0.coords t) x4 x6 x11 j n.val = pG m c (hd t) n (key (kb t) j) := by
  unfold P pG
  have e : (∑ l : Fin 128, x6 (ix2 j l) * x4 (ix2 (col n.val) l)) = ∑ l : Fin 128, aK m c (ix2 (key (kb t) j) (lane (hd t) l)) * aQ m c (ix2 n (lane (hd t) l)) :=
    Finset.sum_congr rfl fun l _ => by rw [h6, h4, col_eq]
  have hk : 512 * (grid0.coords t 1).val + j.val = (key (kb t) j).val := congrArg (fun z => 512 * z + j.val) (kb_at t)
  rw [e, h11, par_at, col_eq, hk]

theorem D_of {x4 : Vec Ideal S16384x128 .bf16} {x6 x8 : Vec Ideal S512x128 .bf16} {x9 : Vec Ideal S16384x128 .bf16} {x11 x12 : Vec Ideal S1x8x16384 .f32}
    (h4 : ∀ n l, x4 (ix2 n l) = aQ m c (ix2 n (lane (hd t) l))) (h6 : ∀ j l, x6 (ix2 j l) = aK m c (ix2 (key (kb t) j) (lane (hd t) l)))
    (h8 : ∀ j l, x8 (ix2 j l) = aV m c (ix2 (key (kb t) j) (halfV (hd t) l))) (h9 : ∀ n l, x9 (ix2 n l) = aO m c (ix2 n (half (hd t) l)))
    (h11 : ∀ p n, x11 (ix3 0 p n) = aL m c (ix3 (pairOf (hd t)) p n)) (h12 : ∀ p n, x12 (ix3 0 p n) = aD m c (ix3 (pairOf (hd t)) p n)) (j : Fin 512) (n : Fin 16384) :
    D (grid0.coords t) x4 x6 x8 x9 x11 x12 j n.val = dG m c (hd t) n (key (kb t) j) := by
  unfold D dG
  have e : (∑ l : Fin 128, vm (grid0.coords t) x8 j l * x9 (ix2 (col n.val) l))
      = ∑ l : Fin 128, (if l.val / 64 = (hd t).val % 2 then aV m c (ix2 (key (kb t) j) (halfV (hd t) l)) else 0) * aO m c (ix2 n (half (hd t) l)) :=
    Finset.sum_congr rfl fun l _ => by unfold vm; rw [h8, h9, col_eq, hh_at]
  rw [P_of h4 h6 h11, e, h12, par_at, col_eq]

variable (m c t)

theorem P_at (j : Fin 512) (n : Fin 16384) :
    P (grid0.coords t) (iblk m c 2 t) (iblk m c 4 t) (iblk m c 9 t) j n.val = pG m c (hd t) n (key (kb t) j) :=
  P_of (blk2 m c t) (blk4 m c t) (blk9 m c t) j n

theorem D_at (j : Fin 512) (n : Fin 16384) :
    D (grid0.coords t) (iblk m c 2 t) (iblk m c 4 t) (iblk m c 6 t) (iblk m c 7 t) (iblk m c 9 t) (iblk m c 10 t) j n.val = dG m c (hd t) n (key (kb t) j) :=
  D_of (blk2 m c t) (blk4 m c t) (blk6 m c t) (blk7 m c t) (blk9 m c t) (blk10 m c t) j n

end blocks

end Cert.Proof.Foxb

end
-- ==== Proof.FoxbHost.lean ====
/-
  The gradient of the forgetting attention: the arrays the host lines before the call prepare, as functions of the arguments.
-/
module

public import proofs.«01_k».proof.Proof.FoxbBlk

@[expose] public section

set_option maxRecDepth 16384

noncomputable section

namespace Cert.Proof.Foxb

open Cert.FoxbIdeal Cert.FoxbIdeal.Gen Idealize.ShloMosaic Idealize.ShloMosaic.TcCoe Idealize.SL.Sem

section defs
variable (fq fk fv : FVec Ideal S1x16384x512 .f32) (F : FVec Ideal S1x8x16384 .f32) (ct : FVec Ideal S1x16384x512 .f32)

/-- An array of packed heads, head by head. -/
def heads (x : FVec Ideal S1x16384x512 .f32) : FVec Ideal S1x8x16384x64 .f32 :=
  transpose S1x8x16384x64 [0, 2, 1, 3] (shapeCast S1x16384x8x64 x shapeCasts_S1x16384x512_S1x16384x8x64) transposes_S1x16384x8x64_S1x8x16384x64_0_2_1_3

def scaled : FVec Ideal S1x8x16384x64 .f32 := mulf (heads fq) (broadcastInDim S1x8x16384x64 ![] bcast_S_S1x8x16384x64 (constant S_ .f32 0x3E000000#32 : FVec Ideal S_ .f32))

def mask : S1x8x16384x16384.Idx → BitVec 1 :=
  broadcastInDim S1x8x16384x16384 ![2, 3] bcast_S16384x16384_S1x8x16384x16384_2_3
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))

/-- The scores, those of later keys at minus infinity. -/
def scores : FVec Ideal S1x8x16384x16384 .f32 :=
  select mask
    (subf (addf (Host.dotGeneral dot_S1x8x16384x64_S1x8x16384x64_S1x8x16384x16384_3_3_2_2_01_01 none (scaled fq) (heads fk))
        (broadcastInDim S1x8x16384x16384 ![0, 1, 2, 3] bcast_S1x8x16384x1_S1x8x16384x16384_0_1_2_3 (broadcastInDim S1x8x16384x1 ![0, 1, 2] bcast_S1x8x16384_S1x8x16384x1_0_1_2 F)))
      (broadcastInDim S1x8x16384x16384 ![0, 1, 2, 3] bcast_S1x8x1x16384_S1x8x16384x16384_0_1_2_3 (broadcastInDim S1x8x1x16384 ![0, 1, 3] bcast_S1x8x16384_S1x8x1x16384_0_1_3 F)))
    (broadcastInDim S1x8x16384x16384 ![] bcast_S_S1x8x16384x16384 (constant S_ .f32 0xFF800000#32 : FVec Ideal S_ .f32))

def rowMax : FVec Ideal S1x8x16384 .f32 :=
  Host.reduce FloatOps.maximumf (scores fq fk F) (constant S_ .f32 0xFF800000#32) reducesTo_S1x8x16384x16384_S1x8x16384_d3 h_S_

def wideOf (x : FVec Ideal S1x8x16384x1 .f32) : FVec Ideal S1x8x16384x16384 .f32 :=
  broadcastInDim S1x8x16384x16384 ![0, 1, 2, 3] bcast_S1x8x16384x1_S1x8x16384x16384_0_1_2_3 x

def colOf (x : FVec Ideal S1x8x16384 .f32) : FVec Ideal S1x8x16384x1 .f32 :=
  broadcastInDim S1x8x16384x1 ![0, 1, 2] bcast_S1x8x16384_S1x8x16384x1_0_1_2 x

def rowSum : FVec Ideal S1x8x16384 .f32 :=
  Host.reduceAdd (Host.exp (subf (scores fq fk F) (wideOf (colOf (rowMax fq fk F))))) (constant S_ .f32 0x00000000#32) reducesTo_S1x8x16384x16384_S1x8x16384_d3 h_S_

def lse : FVec Ideal S1x8x16384x1 .f32 := addf (colOf (rowMax fq fk F)) (Host.log (colOf (rowSum fq fk F)))

def out : FVec Ideal S1x8x16384x64 .f32 :=
  Host.dotGeneral dot_S1x8x16384x16384_S1x8x16384x64_S1x8x16384x64_3_2_2_3_01_01 none (Host.exp (subf (scores fq fk F) (wideOf (lse fq fk F)))) (heads fv)

def delta : FVec Ideal S1x8x16384 .f32 :=
  Host.reduceAdd (mulf (heads ct) (out fq fk fv F)) (constant S_ .f32 0x00000000#32) reducesTo_S1x8x16384x64_S1x8x16384_d3 h_S_

/-- The three parts the running sums are split into. -/
def part1 : FVec Ideal S1x8x16384 .f32 := extf .f32 (truncf .bf16 F bitsLt_bf16_f32 : FVec Ideal S1x8x16384 .bf16) bitsLt_bf16_f32
def part2 : FVec Ideal S1x8x16384 .f32 := extf .f32 (truncf .bf16 (subf F (part1 F)) bitsLt_bf16_f32 : FVec Ideal S1x8x16384 .bf16) bitsLt_bf16_f32
def part3 : FVec Ideal S1x8x16384 .f32 := extf .f32 (truncf .bf16 (subf (subf F (part1 F)) (part2 F)) bitsLt_bf16_f32 : FVec Ideal S1x8x16384 .bf16) bitsLt_bf16_f32

def ones3 : FVec Ideal S1x8x16384x3 .f32 := broadcastInDim S1x8x16384x3 ![] bcast_S_S1x8x16384x3 (constant S_ .f32 0x3F800000#32 : FVec Ideal S_ .f32)
def zeros58 : FVec Ideal S1x8x16384x58 .f32 := broadcastInDim S1x8x16384x58 ![] bcast_S_S1x8x16384x58 (constant S_ .f32 0x00000000#32 : FVec Ideal S_ .f32)

def augQ : FVec Ideal S1x8x16384x128 .f32 :=
  concatenate S1x8x16384x128 3 [⟨S1x8x16384x64, scaled fq⟩, ⟨S1x8x16384x1, colOf (part1 F)⟩, ⟨S1x8x16384x1, colOf (part2 F)⟩, ⟨S1x8x16384x1, colOf (part3 F)⟩, ⟨S1x8x16384x3, ones3⟩, ⟨S1x8x16384x58, zeros58⟩] concatenates_S1x8x16384x64_S1x8x16384x1_S1x8x16384x1_S1x8x16384x1_S1x8x16384x3_S1x8x16384x58_S1x8x16384x128_d3

def augK : FVec Ideal S1x8x16384x128 .f32 :=
  concatenate S1x8x16384x128 3 [⟨S1x8x16384x64, heads fk⟩, ⟨S1x8x16384x3, ones3⟩, ⟨S1x8x16384x1, Host.negf (colOf (part1 F))⟩, ⟨S1x8x16384x1, Host.negf (colOf (part2 F))⟩, ⟨S1x8x16384x1, Host.negf (colOf (part3 F))⟩, ⟨S1x8x16384x58, zeros58⟩] concatenates_S1x8x16384x64_S1x8x16384x3_S1x8x16384x1_S1x8x16384x1_S1x8x16384x1_S1x8x16384x58_S1x8x16384x128_d3

/-- The heads side by side again, each with its 128 lanes. -/
def packed (x : FVec Ideal S1x8x16384x128 .f32) : FVec Ideal S16384x1024 .bf16 :=
  truncf .bf16 (shapeCast S16384x1024 (transpose S16384x8x128 [1, 0, 2] (shapeCast S8x16384x128 x shapeCasts_S1x8x16384x128_S8x16384x128) transposes_S8x16384x128_S16384x8x128_1_0_2) shapeCasts_S16384x8x128_S16384x1024 : FVec Ideal S16384x1024 .f32) bitsLt_bf16_f32

def values : FVec Ideal S16384x4096 .bf16 :=
  truncf .bf16 (concatenate S16384x4096 1 [⟨S16384x3072, (broadcastInDim S16384x3072 ![] bcast_S_S16384x3072 (constant S_ .f32 0x00000000#32 : FVec Ideal S_ .f32) : FVec Ideal S16384x3072 .f32)⟩, ⟨S16384x512, shapeCast S16384x512 fv shapeCasts_S1x16384x512_S16384x512⟩, ⟨S16384x512, (broadcastInDim S16384x512 ![] bcast_S_S16384x512 (constant S_ .f32 0x00000000#32 : FVec Ideal S_ .f32) : FVec Ideal S16384x512 .f32)⟩] concatenates_S16384x3072_S16384x512_S16384x512_S16384x4096_d1 : FVec Ideal S16384x4096 .f32) bitsLt_bf16_f32

def outGrad : FVec Ideal S16384x512 .bf16 :=
  truncf .bf16 (shapeCast S16384x512 ct shapeCasts_S1x16384x512_S16384x512 : FVec Ideal S16384x512 .f32) bitsLt_bf16_f32

def rows8 (x : FVec Ideal S1x8x16384 .f32) : FVec Ideal S4x8x16384 .f32 :=
  pad S4x8x16384 ![0, 0, 0] ![0, 6, 0] ![0, 0, 0] (shapeCast S4x2x16384 x shapeCasts_S1x8x16384_S4x2x16384) (sitofp .f32 (constantI S_ 32 0#32) : FVec Ideal S_ .f32) pads_S4x2x16384_S4x8x16384_000_060_000 h_S_

end defs

variable (m : (ℓ : Loc nD τ sig) → Buf (Elt Ideal) ℓ) (c : Dev nD)

abbrev xQ : FVec Ideal S1x16384x512 .f32 := m ((c : Thread nD τ).loc main_arg0)
abbrev xK : FVec Ideal S1x16384x512 .f32 := m ((c : Thread nD τ).loc main_arg1)
abbrev xV : FVec Ideal S1x16384x512 .f32 := m ((c : Thread nD τ).loc main_arg2)
abbrev xF : FVec Ideal S1x8x16384 .f32 := m ((c : Thread nD τ).loc main_arg3)
abbrev xO : FVec Ideal S1x16384x512 .f32 := m ((c : Thread nD τ).loc main_arg4)

theorem host_v60 : V m c main_v60 = packed (augQ (xQ m c) (xF m c)) := by
  dsimp only [V, V0, hostOps0, hostOps0_1, hostOps0_2, hostOps0_3, hostOps0_4, List.flatten_cons, List.flatten_nil, List.cons_append, List.nil_append]
  after_results
  rfl

theorem host_v68 : V m c main_v68 = packed (augK (xK m c) (xF m c)) := by
  dsimp only [V, V0, hostOps0, hostOps0_1, hostOps0_2, hostOps0_3, hostOps0_4, List.flatten_cons, List.flatten_nil, List.cons_append, List.nil_append]
  after_results
  rfl

theorem host_v73 : V m c main_v73 = values (xV m c) := by
  dsimp only [V, V0, hostOps0, hostOps0_1, hostOps0_2, hostOps0_3, hostOps0_4, List.flatten_cons, List.flatten_nil, List.cons_append, List.nil_append]
  after_results
  rfl

theorem host_v75 : V m c main_v75 = outGrad (xO m c) := by
  dsimp only [V, V0, hostOps0, hostOps0_1, hostOps0_2, hostOps0_3, hostOps0_4, List.flatten_cons, List.flatten_nil, List.cons_append, List.nil_append]
  after_results
  rfl

theorem host_v77 : V m c main_v77 = transpose S1024x16384 [1, 0] (packed (augQ (xQ m c) (xF m c))) transposes_S16384x1024_S1024x16384_1_0 := by
  dsimp only [V, V0, hostOps0, hostOps0_1, hostOps0_2, hostOps0_3, hostOps0_4, List.flatten_cons, List.flatten_nil, List.cons_append, List.nil_append]
  after_results
  rfl

theorem host_v78 : V m c main_v78 = transpose S1024x16384 [1, 0] (packed (augK (xK m c) (xF m c))) transposes_S16384x1024_S1024x16384_1_0 := by
  dsimp only [V, V0, hostOps0, hostOps0_1, hostOps0_2, hostOps0_3, hostOps0_4, List.flatten_cons, List.flatten_nil, List.cons_append, List.nil_append]
  after_results
  rfl

theorem host_v79 : V m c main_v79 = transpose S512x16384 [1, 0] (outGrad (xO m c)) transposes_S16384x512_S512x16384_1_0 := by
  dsimp only [V, V0, hostOps0, hostOps0_1, hostOps0_2, hostOps0_3, hostOps0_4, List.flatten_cons, List.flatten_nil, List.cons_append, List.nil_append]
  after_results
  rfl

theorem host_v81 : V m c main_v81 = rows8 (shapeCast S1x8x16384 (lse (xQ m c) (xK m c) (xF m c)) shapeCasts_S1x8x16384x1_S1x8x16384) := by
  dsimp only [V, V0, hostOps0, hostOps0_1, hostOps0_2, hostOps0_3, hostOps0_4, List.flatten_cons, List.flatten_nil, List.cons_append, List.nil_append]
  after_results
  generalize hX : addf (F := Ideal) (s := S1x8x16384x1) (φ := .f32) _ _ = X
  have e : lse (xQ m c) (xK m c) (xF m c) = X := hX
  rw [e]
  clear e hX
  dsimp only [StableHlo.TRef.toBuf, StableHlo.TRef.ofBuf, StableHlo.TRef.of]
  unfold rows8
  refine (cast_eq rfl _).trans ?_
  congr 1

theorem host_v83 : V m c main_v83 = rows8 (delta (xQ m c) (xK m c) (xV m c) (xF m c) (xO m c)) := by
  dsimp only [V, V0, hostOps0, hostOps0_1, hostOps0_2, hostOps0_3, hostOps0_4, List.flatten_cons, List.flatten_nil, List.cons_append, List.nil_append]
  after_results
  rfl

end Cert.Proof.Foxb

end
-- ==== Proof.FoxMath.lean ====
/-
  One row of a masked softmax over the extended reals: the probabilities of a row whose masked scores are minus infinity,
  and its gradient in the two ways it is written.
-/
module

public import proofs.«01_k».proof.Proof.RealMath

@[expose] public section

noncomputable section

namespace Cert.FoxMath

open Idealize.ShloMosaic Cert.RealMath

variable {N : ℕ} (mk : Fin N → Prop) [DecidablePred mk]

/-- The scores of a row, those masked out at minus infinity. -/
def sc (s : Fin N → EReal) (j : Fin N) : EReal := if mk j then s j else ⊥

/-- The exponentials of a row against a number `M`. -/
def ex (s : Fin N → EReal) (M : EReal) (j : Fin N) : EReal := Ideal.exp (sc mk s j - M)

def rs (s : Fin N → EReal) (M : EReal) : EReal := ∑ j, ex mk s M j

/-- The probabilities of a row. -/
def pr (s : Fin N → EReal) (M : EReal) (j : Fin N) : EReal := Ideal.div (ex mk s M j) (rs mk s M)

section real
variable (a : Fin N → ℝ) (μ : ℝ)

def exR (j : Fin N) : ℝ := if mk j then Real.exp (a j - μ) else 0
def rsR : ℝ := ∑ j, exR mk a μ j

theorem ex_coe (j : Fin N) : ex mk (fun j => (a j : EReal)) μ j = (exR mk a μ j : EReal) := by
  unfold ex sc exR
  by_cases h : mk j
  · rw [if_pos h, if_pos h, ← EReal.coe_sub]; rfl
  · rw [if_neg h, if_neg h, EReal.bot_sub]; rfl

theorem rs_coe : rs mk (fun j => (a j : EReal)) μ = (rsR mk a μ : EReal) := by
  unfold rs rsR
  rw [← coe_sum]
  exact Finset.sum_congr rfl fun j _ => ex_coe mk a μ j

variable {mk}
theorem rsR_pos {j₀ : Fin N} (h : mk j₀) : 0 < rsR mk a μ := by
  refine Finset.sum_pos' (fun j _ => ?_) ⟨j₀, Finset.mem_univ _, ?_⟩
  · unfold exR; split
    · exact (Real.exp_pos _).le
    · exact le_rfl
  · unfold exR; rw [if_pos h]; exact Real.exp_pos _

theorem pr_coe {j₀ : Fin N} (h : mk j₀) (j : Fin N) :
    pr mk (fun j => (a j : EReal)) μ j = ((exR mk a μ j / rsR mk a μ : ℝ) : EReal) := by
  unfold pr
  rw [ex_coe, rs_coe, div_coe_coe _ _ (rsR_pos a μ h).ne']

end real

variable {mk}

theorem reals {ι : Type*} {s : ι → EReal} (h : ∀ j, Rl (s j)) : ∃ a : ι → ℝ, s = fun j => (a j : EReal) :=
  ⟨fun j => (h j).choose, funext fun j => (h j).choose_spec⟩

/-- The probability at a score, taken against the logarithm of the row's sum. -/
theorem exp_lse {s : Fin N → EReal} {M : EReal} (hs : ∀ j, Rl (s j)) (hM : Rl M) {j₀ : Fin N} (h₀ : mk j₀) (j : Fin N) :
    Ideal.exp (sc mk s j - (M + Ideal.log (rs mk s M))) = pr mk s M j := by
  obtain ⟨a, rfl⟩ := reals hs
  obtain ⟨μ, rfl⟩ := hM
  rw [pr_coe a μ h₀, rs_coe, Ideal.log_coe]
  have hp := rsR_pos a μ h₀
  rw [if_neg (not_le.mpr hp), ← EReal.coe_add]
  unfold sc exR
  by_cases h : mk j
  · rw [if_pos h, if_pos h, ← EReal.coe_sub]
    show ((Real.exp _ : ℝ) : EReal) = _
    congr 1
    rw [← sub_sub, Real.exp_sub, Real.exp_log hp]
  · rw [if_neg h, if_neg h, EReal.bot_sub, zero_div]; rfl

theorem pr_real {s : Fin N → EReal} {M : EReal} (hs : ∀ j, Rl (s j)) (hM : Rl M) {j₀ : Fin N} (h₀ : mk j₀) (j : Fin N) :
    Rl (pr mk s M j) := by
  obtain ⟨a, rfl⟩ := reals hs
  obtain ⟨μ, rfl⟩ := hM
  rw [pr_coe a μ h₀]; exact ⟨_, rfl⟩

theorem pr_mask {s : Fin N → EReal} {M : EReal} (hs : ∀ j, Rl (s j)) (hM : Rl M) {j₀ : Fin N} (h₀ : mk j₀) {j : Fin N} (h : ¬mk j) :
    pr mk s M j = 0 := by
  obtain ⟨a, rfl⟩ := reals hs
  obtain ⟨μ, rfl⟩ := hM
  rw [pr_coe a μ h₀, exR, if_neg h, zero_div]; rfl

/-- The probabilities do not depend on the number taken off the scores. -/
theorem pr_shift {s : Fin N → EReal} {M M' : EReal} (hs : ∀ j, Rl (s j)) (hM : Rl M) (hM' : Rl M') {j₀ : Fin N} (h₀ : mk j₀) (j : Fin N) :
    pr mk s M j = pr mk s M' j := by
  obtain ⟨a, rfl⟩ := reals hs
  obtain ⟨μ, rfl⟩ := hM
  obtain ⟨ν, rfl⟩ := hM'
  rw [pr_coe a μ h₀, pr_coe a ν h₀]
  have e : ∀ j, exR mk a ν j = Real.exp (μ - ν) * exR mk a μ j := fun j => by
    unfold exR; by_cases h : mk j
    · rw [if_pos h, if_pos h, ← Real.exp_add]; congr 1; ring
    · rw [if_neg h, if_neg h, mul_zero]
  have e' : rsR mk a ν = Real.exp (μ - ν) * rsR mk a μ := by
    unfold rsR; rw [Finset.mul_sum]; exact Finset.sum_congr rfl fun j _ => e j
  rw [e, e', mul_div_mul_left _ _ (Real.exp_pos _).ne']

/-- The gradient at a score as the derivative of the exponentials and the quotient writes it. -/
def dsRef (mk : Fin N → Prop) [DecidablePred mk] (s d : Fin N → EReal) (M : EReal) (j : Fin N) : EReal :=
  if mk j then
    (Ideal.div (d j) (rs mk s M) + -(∑ j', d j' * Ideal.div 1 (rs mk s M * rs mk s M) * ex mk s M j')) * ex mk s M j
  else 0

theorem dsRef_eq {s d : Fin N → EReal} {M : EReal} (hs : ∀ j, Rl (s j)) (hd : ∀ j, Rl (d j)) (hM : Rl M) {j₀ : Fin N} (h₀ : mk j₀) (j : Fin N) :
    dsRef mk s d M j = pr mk s M j * (d j - ∑ j', pr mk s M j' * d j') := by
  by_cases h : mk j
  · obtain ⟨a, rfl⟩ := reals hs
    obtain ⟨b, rfl⟩ := reals hd
    obtain ⟨μ, rfl⟩ := hM
    have hp := rsR_pos a μ h₀
    unfold dsRef
    rw [if_pos h]
    simp only [pr_coe a μ h₀, ex_coe, rs_coe]
    rw [← EReal.coe_mul, ← EReal.coe_one]
    simp only [div_coe_coe _ _ hp.ne', div_coe_coe _ _ (mul_pos hp hp).ne', ← EReal.coe_mul, coe_sum]
    rw [← EReal.coe_neg, ← EReal.coe_add, ← EReal.coe_mul, ← EReal.coe_sub, ← EReal.coe_mul]
    congr 1
    have e : ∑ i, b i * (1 / (rsR mk a μ * rsR mk a μ)) * exR mk a μ i
        = (∑ i, exR mk a μ i / rsR mk a μ * b i) / rsR mk a μ := by
      rw [Finset.sum_div]
      exact Finset.sum_congr rfl fun i _ => by field_simp
    rw [e]
    field_simp
    ring
  · unfold dsRef
    rw [if_neg h, pr_mask hs hM h₀ h, zero_mul]

/-- The row's sum of products of the output with its gradient, as a sum over the keys. -/
theorem delta_eq {D : ℕ} {p : Fin N → EReal} {v : Fin N → Fin D → EReal} {o : Fin D → EReal} (hp : ∀ j, Rl (p j)) (hv : ∀ j d, Rl (v j d))
    (ho : ∀ d, Rl (o d)) : ∑ d, o d * ∑ j, p j * v j d = ∑ j, p j * ∑ d, v j d * o d := by
  obtain ⟨a, rfl⟩ := reals hp
  obtain ⟨b, rfl⟩ := reals ho
  have : ∃ w : Fin N → Fin D → ℝ, v = fun j d => (w j d : EReal) :=
    ⟨fun j d => (hv j d).choose, funext fun j => funext fun d => (hv j d).choose_spec⟩
  obtain ⟨w, rfl⟩ := this
  simp only [← EReal.coe_mul, coe_sum]
  congr 1
  simp only [Finset.mul_sum]
  rw [Finset.sum_comm]
  exact Finset.sum_congr rfl fun j _ => Finset.sum_congr rfl fun d _ => by ring

/-- The host's maximum along some axes is a number where no entry is plus infinity and one entry of the fibre is a number. -/
theorem reduce_max_real {s t u : Shape} {axes : List (Fin s.rank)} (x : FVec Ideal s .f32) (init : FVec Ideal u .f32)
    (h : s.ReducesTo axes t) (hu : 0 < u.numel) (hinit : ∀ i, init i = ⊥) (hx : ∀ i, x i < (⊤ : EReal)) (j : t.Idx) (i : s.Idx)
    (hi : h.drop i = j) (hr : Rl (x i)) : Rl (Host.reduce (FloatOps.maximumf : Ideal .f32 → Ideal .f32 → Ideal .f32) x init h hu j) := by
  have e : Host.reduce (FloatOps.maximumf : Ideal .f32 → Ideal .f32 → Ideal .f32) x init h hu j = Host.reduce (Max.max : EReal → EReal → EReal) x init h hu j := rfl
  rw [e, Host.reduce_eq_fold, hinit]
  obtain ⟨r, hr⟩ := hr
  refine Rl.of_lt ?_ ?_
  · exact lt_of_lt_of_le (EReal.bot_lt_coe r) ((Finset.le_fold_max _).mpr (Or.inr ⟨i, by simp [hi], hr.ge⟩))
  · exact (Finset.fold_max_lt _).mpr ⟨bot_lt_top, fun i _ => hx i⟩

section unit_axes
variable {n1 n2 : Nat}

/-- The host's sum along the first and third of four axes, both of one element: the one element. -/
@[pointwise] theorem hostReduceAdd_r4_a02 (h : (⟨4, ![1, n1, 1, n2]⟩ : Shape).ReducesTo [0, 2] ⟨2, ![n1, n2]⟩)
    (v : (⟨4, ![1, n1, 1, n2]⟩ : Shape).Idx → EReal) (init : EReal) (a : Fin n1) (b : Fin n2) :
    Ideal.hostReduceAdd h v init (ix2 a b) = init + v (ix4 0 a 0 b) := by
  refine congrArg (init + ·) ?_
  refine (Finset.sum_eq_single (ix4 0 a 0 b) (fun i hi hne => absurd ?_ hne) (fun hn => absurd (Finset.mem_filter.mpr ⟨Finset.mem_univ _, ?_⟩) hn))
  · have e := (Finset.mem_filter.mp hi).2
    funext x; apply Fin.ext
    match x with
    | ⟨0, _⟩ => exact congrArg Fin.val (Subsingleton.elim (α := Fin 1) (i 0) 0)
    | ⟨1, _⟩ => exact congrArg Fin.val (congrFun e 0)
    | ⟨2, _⟩ => exact congrArg Fin.val (Subsingleton.elim (α := Fin 1) (i 2) 0)
    | ⟨3, _⟩ => exact congrArg Fin.val (congrFun e 1)
  · funext x; apply Fin.ext
    match x with
    | ⟨0, _⟩ => rfl
    | ⟨1, _⟩ => rfl

end unit_axes

end Cert.FoxMath

end
-- ==== Proof.FoxbRow.lean ====
/-
  The gradient of the forgetting attention: the entries of the arrays the host lines prepare.
-/
module

public import proofs.«01_k».proof.Proof.FoxbHost
public import proofs.«01_k».proof.Proof.FoxMath
public import Idealize.ShloMosaic.Lib.Pointwise
public import Idealize.ShloMosaic.Lib.IdealHost
public import Idealize.ShloMosaic.Lib.WordCmp

@[expose] public section

set_option maxRecDepth 16384

noncomputable section

namespace Cert.Proof.Foxb

open Cert.FoxbIdeal Cert.FoxbIdeal.Gen Idealize.ShloMosaic Idealize.ShloMosaic.TcCoe Idealize.SL.Sem
open Cert.RealMath Cert.FoxMath

/-- Element `d` of head `h` among the packed heads. -/
def hcol (h : Fin 8) (d : Fin 64) : Fin 512 := ⟨h.val * 64 + d.val, by omega⟩

section defs
variable (fq fk fv : FVec Ideal S1x16384x512 .f32) (F : FVec Ideal S1x8x16384 .f32) (ct : FVec Ideal S1x16384x512 .f32)

theorem heads_at (x : FVec Ideal S1x16384x512 .f32) (h : Fin 8) (n : Fin 16384) (d : Fin 64) :
    heads x (ix4 0 h n d) = x (ix3 0 n (hcol h d)) := by
  pointwise [heads]
  rfl

theorem scaled_at (h : Fin 8) (n : Fin 16384) (d : Fin 64) :
    scaled fq (ix4 0 h n d) = fq (ix3 0 n (hcol h d)) * Ideal.ofBits .f32 0x3E000000#32 := by
  show heads fq (ix4 0 h n d) * _ = _
  rw [heads_at]
  pointwise []

theorem mask_at (h : Fin 8) (n j : Fin 16384) : mask (ix4 0 h n j) = if j.val ≤ n.val then 1#1 else 0#1 := by
  pointwise [mask]
  rw [WordCmp.cmpi_sle_ofNat (by omega) (by omega)]
  by_cases h : j.val ≤ n.val <;> simp [h]

/-- Key `j` is not later than query `n`. -/
def mkR (n j : Fin 16384) : Prop := j.val ≤ n.val

instance (n : Fin 16384) : DecidablePred (mkR n) := fun j => inferInstanceAs (Decidable (j.val ≤ n.val))

theorem mkR_self (n : Fin 16384) : mkR n n := le_refl n.val

/-- The score of key `j` at query `n`. -/
def scR (h : Fin 8) (n j : Fin 16384) : EReal :=
  (∑ d : Fin 64, fq (ix3 0 n (hcol h d)) * Ideal.ofBits .f32 0x3E000000#32 * fk (ix3 0 j (hcol h d))) + F (ix3 0 h n) - F (ix3 0 h j)

theorem scores_at (h : Fin 8) (n j : Fin 16384) :
    scores fq fk F (ix4 0 h n j) = sc (mkR n) (scR fq fk F h n) j := by
  have e : scores fq fk F (ix4 0 h n j) = if mask (ix4 0 h n j) = 1#1 then
      (∑ d : Fin 64, scaled fq (ix4 0 h n d) * heads fk (ix4 0 h j d)) + F (ix3 0 h n) - F (ix3 0 h j) else Ideal.ofBits .f32 0xFF800000#32 := by
    pointwise [scores]
    rfl
  rw [e, mask_at, neg_inf]
  simp only [scaled_at, heads_at]
  unfold sc scR mkR
  by_cases hh : j.val ≤ n.val
  · simp [hh]
  · simp [hh]

variable {fq fk fv F ct}

/-- All the arguments are numbers. -/
def Fin5 (fq fk fv : FVec Ideal S1x16384x512 .f32) (F : FVec Ideal S1x8x16384 .f32) (ct : FVec Ideal S1x16384x512 .f32) : Prop :=
  (∀ i, Rl (fq i)) ∧ (∀ i, Rl (fk i)) ∧ (∀ i, Rl (fv i)) ∧ (∀ i, Rl (F i)) ∧ (∀ i, Rl (ct i))

theorem eighth : Rl (Ideal.ofBits .f32 0x3E000000#32) := Rl.ofBits_f32 (by decide)

theorem scR_real (H : Fin5 fq fk fv F ct) (h : Fin 8) (n j : Fin 16384) : Rl (scR fq fk F h n j) :=
  ((Rl.sum fun d => ((H.1 _).mul eighth).mul (H.2.1 _)).add (H.2.2.2.1 _)).sub (H.2.2.2.1 _)

theorem rowMax_real (H : Fin5 fq fk fv F ct) (h : Fin 8) (n : Fin 16384) : Rl (rowMax fq fk F (ix3 0 h n)) := by
  unfold rowMax
  refine reduce_max_real _ _ _ _ (fun _ => neg_inf) (fun i => ?_) _ (ix4 0 h n n) ?_ ?_
  · obtain ⟨a, b, d, e, rfl⟩ : ∃ (a : Fin 1) (b : Fin 8) (d e : Fin 16384), i = ix4 a b d e := ⟨i 0, i 1, i 2, i 3, (ix4_eta i).symm⟩
    rw [Subsingleton.elim a 0, scores_at, sc]
    split_ifs
    · obtain ⟨r, hr⟩ := scR_real H b d e
      rw [hr]; exact EReal.coe_lt_top r
    · exact bot_lt_top
  · funext a; apply Fin.ext
    match a with
    | ⟨0, _⟩ => rfl
    | ⟨1, _⟩ => rfl
    | ⟨2, _⟩ => rfl
  · rw [scores_at, sc, if_pos (mkR_self n)]; exact scR_real H h n n

theorem rowSum_at (h : Fin 8) (n : Fin 16384) :
    rowSum fq fk F (ix3 0 h n) = rs (mkR n) (scR fq fk F h n) (rowMax fq fk F (ix3 0 h n)) := by
  have e : rowSum fq fk F (ix3 0 h n) = ∑ j : Fin 16384, Ideal.exp (scores fq fk F (ix4 0 h n j) - rowMax fq fk F (ix3 0 h n)) := by
    pointwise [rowSum, wideOf, colOf]
  rw [e]
  exact Finset.sum_congr rfl fun j _ => by rw [scores_at]; rfl

theorem colOf_at (x : FVec Ideal S1x8x16384 .f32) (h : Fin 8) (n : Fin 16384) : colOf x (ix4 0 h n 0) = x (ix3 0 h n) := by
  pointwise [colOf]

theorem lse_at (h : Fin 8) (n : Fin 16384) :
    lse fq fk F (ix4 0 h n 0) = rowMax fq fk F (ix3 0 h n) + Ideal.log (rs (mkR n) (scR fq fk F h n) (rowMax fq fk F (ix3 0 h n))) := by
  have e : ∀ x y : FVec Ideal S1x8x16384 .f32, addf (colOf x) (Host.log (colOf y)) (ix4 0 h n 0) = x (ix3 0 h n) + Ideal.log (y (ix3 0 h n)) := fun x y => by
    pointwise [colOf]
  unfold lse
  rw [e, rowSum_at]

/-- The probability of key `j` at query `n`. -/
def prR (fq fk : FVec Ideal S1x16384x512 .f32) (F : FVec Ideal S1x8x16384 .f32) (h : Fin 8) (n j : Fin 16384) : EReal :=
  pr (mkR n) (scR fq fk F h n) (rowMax fq fk F (ix3 0 h n)) j

theorem prR_real (H : Fin5 fq fk fv F ct) (h : Fin 8) (n j : Fin 16384) : Rl (prR fq fk F h n j) :=
  pr_real (scR_real H h n) (rowMax_real H h n) (mkR_self n) j

theorem out_at (H : Fin5 fq fk fv F ct) (h : Fin 8) (n : Fin 16384) (d : Fin 64) :
    out fq fk fv F (ix4 0 h n d) = ∑ j : Fin 16384, prR fq fk F h n j * fv (ix3 0 j (hcol h d)) := by
  have e : out fq fk fv F (ix4 0 h n d) = ∑ j : Fin 16384, Ideal.exp (scores fq fk F (ix4 0 h n j) - lse fq fk F (ix4 0 h n 0)) * heads fv (ix4 0 h j d) := by
    pointwise [out, wideOf]
  rw [e]
  refine Finset.sum_congr rfl fun j _ => ?_
  rw [scores_at, lse_at, heads_at, exp_lse (scR_real H h n) (rowMax_real H h n) (mkR_self n)]
  rfl

/-- The product of value and output gradient at key `j` and query `n`. -/
def dvR (fv ct : FVec Ideal S1x16384x512 .f32) (h : Fin 8) (n j : Fin 16384) : EReal :=
  ∑ d : Fin 64, fv (ix3 0 j (hcol h d)) * ct (ix3 0 n (hcol h d))

theorem dvR_real (H : Fin5 fq fk fv F ct) (h : Fin 8) (n j : Fin 16384) : Rl (dvR fv ct h n j) :=
  Rl.sum fun _ => (H.2.2.1 _).mul (H.2.2.2.2 _)

/-- The gradient at the score of key `J` and query `n`. -/
def dsR (fq fk fv : FVec Ideal S1x16384x512 .f32) (F : FVec Ideal S1x8x16384 .f32) (ct : FVec Ideal S1x16384x512 .f32) (h : Fin 8) (n J : Fin 16384) : EReal :=
  prR fq fk F h n J * (dvR fv ct h n J - ∑ j : Fin 16384, prR fq fk F h n j * dvR fv ct h n j)

theorem delta_at (H : Fin5 fq fk fv F ct) (h : Fin 8) (n : Fin 16384) :
    delta fq fk fv F ct (ix3 0 h n) = ∑ j : Fin 16384, prR fq fk F h n j * dvR fv ct h n j := by
  have e : delta fq fk fv F ct (ix3 0 h n) = ∑ d : Fin 64, heads ct (ix4 0 h n d) * out fq fk fv F (ix4 0 h n d) := by
    pointwise [delta]
  rw [e]
  simp only [heads_at, out_at H]
  exact delta_eq (v := fun j d => fv (ix3 0 j (hcol h d))) (o := fun d => ct (ix3 0 n (hcol h d))) (prR_real H h n) (fun _ _ => H.2.2.1 _) (fun _ => H.2.2.2.2 _)

theorem rows8_at (x : FVec Ideal S1x8x16384 .f32) (h : Fin 8) (n : Fin 16384) : rows8 x (ix3 (pairOf h) (parOf h) n) = x (ix3 0 h n) := by
  pointwise [rows8]
  have hp : (parOf h).val < 2 := by unfold parOf; show h.val % 2 < 2; omega
  rw [dif_pos hp]
  congr 2
  refine Fin.ext ?_
  show h.val / 2 * 2 + h.val % 2 = h.val
  omega

theorem packed_at (x : FVec Ideal S1x8x16384x128 .f32) (n : Fin 16384) (h : Fin 8) (l : Fin 128) : packed x (ix2 n (lane h l)) = x (ix4 0 h n l) := by
  pointwise [packed]
  have h1 : (lane h l).val / 128 = h.val := by show (128 * h.val + l.val) / 128 = h.val; omega
  have h2 : (lane h l).val % 128 = l.val := by show (128 * h.val + l.val) % 128 = l.val; omega
  exact congrArg₂ (fun a b => x (ix4 0 a n b)) (Fin.ext h1) (Fin.ext h2)

theorem values_at (J : Fin 16384) (h : Fin 8) (l : Fin 128) : values fv (ix2 J (halfV h l)) = fv (ix3 0 J (half h l)) := by
  pointwise [values]
  have h1 : (halfV h l).val = 3072 + (half h l).val := rfl
  have h2 := (half h l).isLt
  rw [dif_neg (by omega), dif_pos (by omega)]
  exact congrArg (fun a => fv (ix3 0 J a)) (Fin.ext (by show (halfV h l).val - 3072 = _; omega))

theorem outGrad_at (n : Fin 16384) (R : Fin 512) : outGrad ct (ix2 n R) = ct (ix3 0 n R) := by
  pointwise [outGrad]

theorem colOf_fin (x : FVec Ideal S1x8x16384 .f32) (h : Fin 8) (n : Fin 16384) (i : Fin 1) : colOf x (ix4 0 h n i) = x (ix3 0 h n) := by
  rw [Subsingleton.elim i 0, colOf_at]

theorem ones3_at (h : Fin 8) (n : Fin 16384) (i : Fin 3) : ones3 (ix4 0 h n i) = 1 := by
  pointwise [ones3]

theorem zeros58_at (h : Fin 8) (n : Fin 16384) (i : Fin 58) : zeros58 (ix4 0 h n i) = 0 := by
  pointwise [zeros58]

theorem augQ_at (h : Fin 8) (n : Fin 16384) (l : Fin 128) :
    augQ fq F (ix4 0 h n l) = if hl : l.val < 64 then scaled fq (ix4 0 h n ⟨l.val, hl⟩) else
      if l.val = 64 then part1 F (ix3 0 h n) else if l.val = 65 then part2 F (ix3 0 h n) else if l.val = 66 then part3 F (ix3 0 h n) else
      if l.val < 70 then 1 else 0 := by
  pointwise [augQ]
  simp only [colOf_fin, ones3_at, zeros58_at]
  have hl := l.isLt
  split_ifs <;> first | rfl | (exfalso; omega)

theorem augK_at (h : Fin 8) (n : Fin 16384) (l : Fin 128) :
    augK fk F (ix4 0 h n l) = if hl : l.val < 64 then heads fk (ix4 0 h n ⟨l.val, hl⟩) else
      if l.val < 67 then 1 else if l.val = 67 then -part1 F (ix3 0 h n) else if l.val = 68 then -part2 F (ix3 0 h n) else if l.val = 69 then -part3 F (ix3 0 h n) else
      0 := by
  pointwise [augK]
  simp only [colOf_fin, ones3_at, zeros58_at]
  have hl := l.isLt
  split_ifs <;> first | rfl | (exfalso; omega)

end defs

end Cert.Proof.Foxb

end
-- ==== Proof.FoxbPays.lean ====
/-
  The gradient of the forgetting attention: the payloads of the head and the diagonal tile, the loops' trip counts and
  the places the body reads and writes, at every grid point.
-/
module

public import proofs.«01_k».proof.Proof.FoxbTile
public import Idealize.ShloMosaic.Lib.WordCmp

@[expose] public section

set_option maxRecDepth 16384

noncomputable section

namespace Cert.Proof.Foxb

open Cert.FoxbIdeal Cert.FoxbIdeal.Gen Idealize.ShloMosaic Idealize.ShloMosaic.TcCoe Idealize.SL.Sem

set_option maxRecDepth 100000 in
theorem parity_eq : ∀ i : grid0.Coords, parity i = BitVec.ofNat 32 (hh i) := by decide +kernel

theorem lane_eq : ∀ (l : Fin 128) (h : Fin 2), IntOp.cmpi .eq (IntOp.shrsi ArithUnit.vector (BitVec.ofNat 32 l.val) 6#32) (BitVec.ofNat 32 h.val) = if l.val / 64 = h.val then 1#1 else 0#1 := by
  decide +kernel

theorem pay28_apply (i : grid0.Coords) (v18 : Vec Ideal S512x128 .bf16) (j : Fin 512) (l : Fin 128) :
    k0_pay28 i v18 (ix2 j l) = vm i v18 j l := by
  pointwise [k0_pay28]
  refine (congrArg (fun w => Scalar.select (IntOp.cmpi .eq (IntOp.shrsi ArithUnit.vector (BitVec.ofNat 32 l.val) 6#32) w) (v18 (ix2 j l)) 0) (parity_eq i)).trans ?_
  rw [lane_eq l ⟨hh i, hh_lt i⟩]
  unfold vm
  by_cases h : l.val / 64 = hh i
  · rw [if_pos h, if_pos h]; rfl
  · rw [if_neg h, if_neg h]; rfl

theorem pay34_apply (v23 v34 : FVec Ideal S512x128 .bf16) (v38 : Vec Ideal S1x1x512 .f32) (j x : Fin 512) :
    k0_pay34 v23 v34 (constant S512x512 .f32 0x00000000#32) v38 (ix2 j x)
      = if j.val ≤ x.val then Ideal.exp ((∑ l : Fin 128, v23 (ix2 j l) * v34 (ix2 x l)) - v38 (ix3 0 0 x)) else 0 := by
  pointwise [k0_pay34]
  rw [WordCmp.cmpi_sge_ofNat (by omega) (by omega)]
  by_cases h : j.val ≤ x.val
  · rw [if_pos h, decide_eq_true h]; rfl
  · rw [if_neg h, decide_eq_false h]; rfl

theorem pay35_apply (v21 v23 v34 : FVec Ideal S512x128 .bf16) (cst v38 v49 v54) (j : Fin 512) (x : Fin 512) :
    k0_pay35 v21 v23 v34 cst v38 v49 v54 (ix2 j x) = k0_pay34 v23 v34 cst v38 (ix2 j x) * ((∑ l : Fin 128, v21 (ix2 j l) * v49 (ix2 x l)) - v54 (ix3 0 0 x)) := by
  pointwise [k0_pay35]
theorem pay36_apply (v21 v23 v34 : FVec Ideal S512x128 .bf16) (v25 cst v38 v49 v54 v61) (r : Fin 80) (x : Fin 512) :
    k0_pay36 v21 v23 v25 v34 cst v38 v49 v54 v61 (ix2 r x) = v61 (ix2 r x) + ∑ j : Fin 512, v25 (ix2 r j) * k0_pay35 v21 v23 v34 cst v38 v49 v54 (ix2 j x) := by
  pointwise [k0_pay36]
theorem pay37_apply (v21 v23 v34 : FVec Ideal S512x128 .bf16) (v28 cst v38 v49 v54 v68) (r : Fin 80) (j : Fin 512) :
    k0_pay37 v21 v23 v28 v34 cst v38 v49 v54 v68 (ix2 r j) = v28 (ix2 r j) + ∑ x : Fin 512, v68 (ix2 r x) * k0_pay35 v21 v23 v34 cst v38 v49 v54 (ix2 j x) := by
  pointwise [k0_pay37]
theorem pay38_apply (v23 v34 : FVec Ideal S512x128 .bf16) (v29 cst v38 v74) (d : Fin 64) (j : Fin 512) :
    k0_pay38 v23 v29 v34 cst v38 v74 (ix2 d j) = v29 (ix2 d j) + ∑ x : Fin 512, v74 (ix2 d x) * k0_pay34 v23 v34 cst v38 (ix2 j x) := by
  pointwise [k0_pay38]
theorem pay31_apply (y) : k0_pay31 (F := Ideal) y = 0 := by
  pointwise [k0_pay31]
theorem pay32_apply (y) : k0_pay32 (F := Ideal) y = 0 := by
  pointwise [k0_pay32]
theorem pay27_apply (y) : k0_pay27 (F := Ideal) y = 0 := by
  pointwise [k0_pay27]
theorem pay29_apply (v : Vec Ideal S512x128 .bf16) (y) : k0_pay29 v y = v y := by
  pointwise [k0_pay29]
theorem pay33_apply (v : Vec Ideal S512x128 .bf16) (y) : k0_pay33 v y = v y := by
  pointwise [k0_pay33]
theorem pay30_apply (v : Vec Ideal S80x512 .bf16) (y) : k0_pay30 v y = v y := by
  pointwise [k0_pay30]
theorem pay9_eq : k0_pay9 (F := Ideal) = k0_pay4 := rfl
theorem pay10_eq : k0_pay10 (F := Ideal) = k0_pay5 := rfl
theorem pay11_eq : k0_pay11 (F := Ideal) = k0_pay6 := rfl
theorem pay12_eq : k0_pay12 (F := Ideal) = k0_pay7 := rfl
theorem pay1_eq : k0_pay1 (F := Ideal) = k0_pay8 := rfl
theorem pay22_eq : k0_pay22 (F := Ideal) = k0_pay4 := rfl
theorem pay24_eq : k0_pay24 (F := Ideal) = k0_pay6 := rfl
theorem pay25_eq : k0_pay25 (F := Ideal) = k0_pay7 := rfl
theorem pay26_eq (a b c d e) : k0_pay26 (F := Ideal) a b c d e = k0_pay8 b (k0_pay4 a c d) e := rfl

set_option maxRecDepth 100000 in
theorem off1_eq : ∀ i : grid0.Coords, k0_off1 i = ![512 * (i 1).val, 0] := by decide +kernel
set_option maxRecDepth 100000 in
theorem off2_eq : ∀ i : grid0.Coords, k0_off2 i = ![0, hh i, 512 * (i 1).val] := by decide +kernel
set_option maxRecDepth 100000 in
theorem off3_eq : ∀ i : grid0.Coords, k0_off3 i = ![0, 512 * (i 1).val] := by decide +kernel
set_option maxRecDepth 100000 in
theorem off4_eq : ∀ i : grid0.Coords, k0_off4 i = ![64 * hh i, 512 * (i 1).val] := by decide +kernel
set_option maxRecDepth 100000 in
theorem trips1 : ∀ i : grid0.Coords, (k0_t1_loop i (narrowEnd (i 1).val)).trips = 1 - (i 1).val % 2 := by decide +kernel
set_option maxRecDepth 100000 in
theorem trips2 : ∀ i : grid0.Coords, (k0_t2_loop i (narrowEnd (i 1).val)).trips = 0 := by decide +kernel
set_option maxRecDepth 100000 in
theorem trips3 : ∀ i : grid0.Coords, (k0_t3_loop i wideEnd).trips = (15 - (i 1).val / 2) / 2 := by decide +kernel
set_option maxRecDepth 100000 in
theorem trips4 : ∀ i : grid0.Coords, (k0_t4_loop i wideEnd).trips = 0 := by decide +kernel
set_option maxRecDepth 100000 in
theorem odd_iff : ∀ i : grid0.Coords, k0_cond2 i wideEnd = 1#1 ↔ (i 1).val / 2 % 2 = 0 := by decide +kernel
set_option maxRecDepth 100000 in
theorem off6_eq : ∀ (i : grid0.Coords) (k : Fin (k0_t1_loop i (narrowEnd (i 1).val)).trips), k0_off6 i (narrowEnd (i 1).val) k = ![512 * (i 1).val + 512, 0] := by decide +kernel
set_option maxRecDepth 100000 in
theorem off7_eq : ∀ (i : grid0.Coords) (k : Fin (k0_t1_loop i (narrowEnd (i 1).val)).trips), k0_off7 i (narrowEnd (i 1).val) k = ![0, hh i, 512 * (i 1).val + 512] := by decide +kernel
set_option maxRecDepth 100000 in
theorem off8_eq : ∀ (i : grid0.Coords) (k : Fin (k0_t1_loop i (narrowEnd (i 1).val)).trips), k0_off8 i (narrowEnd (i 1).val) k = ![0, 512 * (i 1).val + 512] := by decide +kernel
set_option maxRecDepth 100000 in
theorem off9_eq : ∀ (i : grid0.Coords) (k : Fin (k0_t1_loop i (narrowEnd (i 1).val)).trips), k0_off9 i (narrowEnd (i 1).val) k = ![64 * hh i, 512 * (i 1).val + 512] := by decide +kernel

/-- Where the wide tiles of trip `k` start. -/
def wideAt (i : grid0.Coords) (k : ℕ) : ℕ := 1024 * ((i 1).val / 2 + 1) + 2048 * k
set_option maxRecDepth 100000 in
theorem off15_eq : ∀ (i : grid0.Coords) (k : Fin (k0_t3_loop i wideEnd).trips), k0_off15 i wideEnd k = ![wideAt i k.val, 0] := by decide +kernel
set_option maxRecDepth 100000 in
theorem off16_eq : ∀ (i : grid0.Coords) (k : Fin (k0_t3_loop i wideEnd).trips), k0_off16 i wideEnd k = ![0, hh i, wideAt i k.val] := by decide +kernel
set_option maxRecDepth 100000 in
theorem off17_eq : ∀ (i : grid0.Coords) (k : Fin (k0_t3_loop i wideEnd).trips), k0_off17 i wideEnd k = ![0, wideAt i k.val] := by decide +kernel
set_option maxRecDepth 100000 in
theorem off18_eq : ∀ (i : grid0.Coords) (k : Fin (k0_t3_loop i wideEnd).trips), k0_off18 i wideEnd k = ![64 * hh i, wideAt i k.val] := by decide +kernel
set_option maxRecDepth 100000 in
theorem off19_eq : ∀ (i : grid0.Coords) (k : Fin (k0_t3_loop i wideEnd).trips), k0_off19 i wideEnd k = ![wideAt i k.val + 1024, 0] := by decide +kernel
set_option maxRecDepth 100000 in
theorem off20_eq : ∀ (i : grid0.Coords) (k : Fin (k0_t3_loop i wideEnd).trips), k0_off20 i wideEnd k = ![0, hh i, wideAt i k.val + 1024] := by decide +kernel
set_option maxRecDepth 100000 in
theorem off21_eq : ∀ (i : grid0.Coords) (k : Fin (k0_t3_loop i wideEnd).trips), k0_off21 i wideEnd k = ![0, wideAt i k.val + 1024] := by decide +kernel
set_option maxRecDepth 100000 in
theorem off22_eq : ∀ (i : grid0.Coords) (k : Fin (k0_t3_loop i wideEnd).trips), k0_off22 i wideEnd k = ![64 * hh i, wideAt i k.val + 1024] := by decide +kernel
theorem off31_eq : k0_off31 wideEnd = ![15360, 0] := by decide +kernel
set_option maxRecDepth 100000 in
theorem off32_eq : ∀ i : grid0.Coords, k0_off32 i wideEnd = ![0, hh i, 15360] := by decide +kernel
theorem off33_eq : k0_off33 wideEnd = ![0, 15360] := by decide +kernel
set_option maxRecDepth 100000 in
theorem off34_eq : ∀ i : grid0.Coords, k0_off34 i wideEnd = ![64 * hh i, 15360] := by decide +kernel

end Cert.Proof.Foxb

end
-- ==== Proof.FoxbStep.lean ====
/-
  The gradient of the forgetting attention: one tile takes the accumulators from the queries before it to those before
  its end, for the diagonal tile, a narrow and a wide one.
-/
module

public import proofs.«01_k».proof.Proof.FoxbPays

@[expose] public section

set_option maxRecDepth 16384

noncomputable section

namespace Cert.Proof.Foxb

open Cert.FoxbIdeal Cert.FoxbIdeal.Gen Idealize.ShloMosaic Idealize.ShloMosaic.TcCoe Idealize.SL.Sem

section tiles
variable {i : grid0.Coords}
variable {x4 : Vec Ideal S16384x128 .bf16} {x5 : Vec Ideal S128x16384 .bf16} {x6 : Vec Ideal S512x128 .bf16} {x7 : Vec Ideal S128x512 .bf16} {x8 : Vec Ideal S512x128 .bf16}
variable {x9 : Vec Ideal S16384x128 .bf16} {x10 : Vec Ideal S128x16384 .bf16} {x11 x12 : Vec Ideal S1x8x16384 .f32}
variable {y13 Y : Vec Ideal S128x16384 .f32} {A : Vec Ideal S80x512 .f32} {B : Vec Ideal S64x512 .f32} {o : ℕ}
variable {v21 v23 : FVec Ideal S512x128 .bf16} {v25 : FVec Ideal S80x512 .bf16}

theorem tileWide (g : Good i x4 x5 x6 x7 x8 x9 x10 x11 x12 y13 Y A B o) (ho : o + 1024 ≤ 16384) (hb : 512 * (i 1).val + 512 ≤ o)
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    {q e : Vec Ideal S1024x128 .bf16} {s t : Vec Ideal S1x1x1024 .f32} {y : Vec Ideal S80x1024 .f32} {qt : Vec Ideal S80x1024 .bf16} {et : Vec Ideal S64x1024 .bf16}
    (hq : ∀ (x : Fin 1024) (l : Fin 128), q (ix2 x l) = x4 (ix2 (col (o + x.val)) l))
    (hs : ∀ x : Fin 1024, s (ix3 0 0 x) = x11 (ix3 0 ⟨hh i, by have := hh_lt i; omega⟩ (col (o + x.val))))
    (he : ∀ (x : Fin 1024) (l : Fin 128), e (ix2 x l) = x9 (ix2 (col (o + x.val)) l))
    (ht : ∀ x : Fin 1024, t (ix3 0 0 x) = x12 (ix3 0 ⟨hh i, by have := hh_lt i; omega⟩ (col (o + x.val))))
    (hy : ∀ (r : Fin 80) (x : Fin 1024), y (ix2 r x) = Y (ix2 ⟨r.val, by omega⟩ (col (o + x.val))))
    (hqt : ∀ (r : Fin 80) (x : Fin 1024), qt (ix2 r x) = x5 (ix2 ⟨r.val, by omega⟩ (col (o + x.val))))
    (het : ∀ (d : Fin 64) (x : Fin 1024), et (ix2 d x) = x10 (ix2 ⟨64 * hh i + d.val, by have := hh_lt i; omega⟩ (col (o + x.val)))) :
    Good i x4 x5 x6 x7 x8 x9 x10 x11 x12 y13 (VecWindow.put (s := S128x16384) (α := EReal) Y ![0, o] ![80, 1024] (k0_pay6 v21 v23 v25 q s e t y))
      (k0_pay7 v21 v23 A q s e t qt) (k0_pay8 B (k0_pay4 v23 q s) et) (o + 1024) := by
  have hP : ∀ (j : Fin 512) (x : Fin 1024), k0_pay4 v23 q s (ix2 j x) = P i x4 x6 x11 j (o + x.val) := by
    intro j x
    rw [pay4_apply]; unfold P
    rw [if_pos (by omega), hs]
    simp only [h23, hq]
  have hD : ∀ (j : Fin 512) (x : Fin 1024), k0_pay5 v21 v23 q s e t (ix2 j x) = D i x4 x6 x8 x9 x11 x12 j (o + x.val) := by
    intro j x
    rw [pay5_apply, hP]; unfold D
    rw [ht]
    simp only [h21, he]
  refine g.step 1024 ?_ ?_ ?_
  · intro r n
    rw [put_apply]
    by_cases h : r.val < 80 ∧ o ≤ n.val ∧ n.val < o + 1024
    · have e1 : o + (n.val - o) = n.val := by omega
      have e2 : col n.val = n := col_eq n
      rw [dif_pos h, if_pos h, pay6_apply, hy]
      simp only [h25, hD, e1, e2]
    · rw [dif_neg h, if_neg h]
  · intro r j
    rw [pay7_apply]
    simp only [hqt, hD]
  · intro d j
    rw [pay8_apply]
    simp only [het, hP]

theorem tileNarrow (g : Good i x4 x5 x6 x7 x8 x9 x10 x11 x12 y13 Y A B o) (ho : o + 512 ≤ 16384) (hb : 512 * (i 1).val + 512 ≤ o)
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    {q e : Vec Ideal S512x128 .bf16} {s t : Vec Ideal S1x1x512 .f32} {y : Vec Ideal S80x512 .f32} {qt : Vec Ideal S80x512 .bf16} {et : Vec Ideal S64x512 .bf16}
    (hq : ∀ (x : Fin 512) (l : Fin 128), q (ix2 x l) = x4 (ix2 (col (o + x.val)) l))
    (hs : ∀ x : Fin 512, s (ix3 0 0 x) = x11 (ix3 0 ⟨hh i, by have := hh_lt i; omega⟩ (col (o + x.val))))
    (he : ∀ (x : Fin 512) (l : Fin 128), e (ix2 x l) = x9 (ix2 (col (o + x.val)) l))
    (ht : ∀ x : Fin 512, t (ix3 0 0 x) = x12 (ix3 0 ⟨hh i, by have := hh_lt i; omega⟩ (col (o + x.val))))
    (hy : ∀ (r : Fin 80) (x : Fin 512), y (ix2 r x) = Y (ix2 ⟨r.val, by omega⟩ (col (o + x.val))))
    (hqt : ∀ (r : Fin 80) (x : Fin 512), qt (ix2 r x) = x5 (ix2 ⟨r.val, by omega⟩ (col (o + x.val))))
    (het : ∀ (d : Fin 64) (x : Fin 512), et (ix2 d x) = x10 (ix2 ⟨64 * hh i + d.val, by have := hh_lt i; omega⟩ (col (o + x.val)))) :
    Good i x4 x5 x6 x7 x8 x9 x10 x11 x12 y13 (VecWindow.put (s := S128x16384) (α := EReal) Y ![0, o] ![80, 512] (k0_pay41 v21 v23 v25 q s e t y))
      (k0_pay42 v21 v23 A q s e t qt) (k0_pay43 v23 B q s et) (o + 512) := by
  have hP : ∀ (j : Fin 512) (x : Fin 512), k0_pay39 v23 q s (ix2 j x) = P i x4 x6 x11 j (o + x.val) := by
    intro j x
    rw [pay39_apply]; unfold P
    rw [if_pos (by omega), hs]
    simp only [h23, hq]
  have hD : ∀ (j : Fin 512) (x : Fin 512), k0_pay40 v21 v23 q s e t (ix2 j x) = D i x4 x6 x8 x9 x11 x12 j (o + x.val) := by
    intro j x
    rw [pay40_apply, hP]; unfold D
    rw [ht]
    simp only [h21, he]
  refine g.step 512 ?_ ?_ ?_
  · intro r n
    rw [put_apply]
    by_cases h : r.val < 80 ∧ o ≤ n.val ∧ n.val < o + 512
    · have e1 : o + (n.val - o) = n.val := by omega
      have e2 : col n.val = n := col_eq n
      rw [dif_pos h, if_pos h, pay41_apply, hy]
      simp only [h25, hD, e1, e2]
    · rw [dif_neg h, if_neg h]
  · intro r j
    rw [pay42_apply]
    simp only [hqt, hD]
  · intro d j
    rw [pay43_apply]
    simp only [het, hP]

/-- Before the diagonal nothing is attended to. -/
theorem good_start (hA : ∀ y, A y = 0) (hB : ∀ y, B y = 0) : Good i x4 x5 x6 x7 x8 x9 x10 x11 x12 y13 y13 A B (512 * (i 1).val) where
  y r n := by
    by_cases h : r.val < 80 ∧ n.val < 512 * (i 1).val
    · rw [if_pos h, Finset.sum_eq_zero (fun j _ => by rw [D_before i x4 x6 x8 x9 x11 x12 h.2, mul_zero]), add_zero]
    · rw [if_neg h, add_zero]
  a r j := by
    rw [hA, Finset.sum_eq_zero (fun n hn => by rw [D_before i x4 x6 x8 x9 x11 x12 (Finset.mem_range.mp hn), mul_zero])]
  b d j := by
    rw [hB, Finset.sum_eq_zero (fun n hn => by rw [P_before i x4 x6 x11 (Finset.mem_range.mp hn), mul_zero])]

theorem tileDiag (hA : ∀ y, A y = 0) (hB : ∀ y, B y = 0) (ho : o = 512 * (i 1).val) (hb : o + 512 ≤ 16384)
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    {q e : Vec Ideal S512x128 .bf16} {s t : Vec Ideal S1x1x512 .f32} {y : Vec Ideal S80x512 .f32} {qt : Vec Ideal S80x512 .bf16} {et : Vec Ideal S64x512 .bf16}
    (hq : ∀ (x : Fin 512) (l : Fin 128), q (ix2 x l) = x4 (ix2 (col (o + x.val)) l))
    (hs : ∀ x : Fin 512, s (ix3 0 0 x) = x11 (ix3 0 ⟨hh i, by have := hh_lt i; omega⟩ (col (o + x.val))))
    (he : ∀ (x : Fin 512) (l : Fin 128), e (ix2 x l) = x9 (ix2 (col (o + x.val)) l))
    (ht : ∀ x : Fin 512, t (ix3 0 0 x) = x12 (ix3 0 ⟨hh i, by have := hh_lt i; omega⟩ (col (o + x.val))))
    (hy : ∀ (r : Fin 80) (x : Fin 512), y (ix2 r x) = y13 (ix2 ⟨r.val, by omega⟩ (col (o + x.val))))
    (hqt : ∀ (r : Fin 80) (x : Fin 512), qt (ix2 r x) = x5 (ix2 ⟨r.val, by omega⟩ (col (o + x.val))))
    (het : ∀ (d : Fin 64) (x : Fin 512), et (ix2 d x) = x10 (ix2 ⟨64 * hh i + d.val, by have := hh_lt i; omega⟩ (col (o + x.val)))) :
    Good i x4 x5 x6 x7 x8 x9 x10 x11 x12 y13
      (VecWindow.put (s := S128x16384) (α := EReal) y13 ![0, o] ![80, 512] (k0_pay36 v21 v23 v25 q (constant S512x512 .f32 0x00000000#32) s e t y))
      (k0_pay37 v21 v23 A q (constant S512x512 .f32 0x00000000#32) s e t qt) (k0_pay38 v23 B q (constant S512x512 .f32 0x00000000#32) s et) (o + 512) := by
  have hP : ∀ (j : Fin 512) (x : Fin 512), k0_pay34 v23 q (constant S512x512 .f32 0x00000000#32) s (ix2 j x) = P i x4 x6 x11 j (o + x.val) := by
    intro j x
    rw [pay34_apply]; unfold P
    by_cases h : j.val ≤ x.val
    · rw [if_pos h, if_pos (by omega), hs]
      simp only [h23, hq]
    · rw [if_neg h, if_neg (by omega)]
  have hD : ∀ (j : Fin 512) (x : Fin 512), k0_pay35 v21 v23 q (constant S512x512 .f32 0x00000000#32) s e t (ix2 j x) = D i x4 x6 x8 x9 x11 x12 j (o + x.val) := by
    intro j x
    rw [pay35_apply, hP]; unfold D
    rw [ht]
    simp only [h21, he]
  subst ho
  refine (good_start hA hB).step 512 ?_ ?_ ?_
  · intro r n
    rw [put_apply]
    by_cases h : r.val < 80 ∧ 512 * (i 1).val ≤ n.val ∧ n.val < 512 * (i 1).val + 512
    · have e1 : 512 * (i 1).val + (n.val - 512 * (i 1).val) = n.val := by omega
      have e2 : col n.val = n := col_eq n
      rw [dif_pos h, if_pos h, pay36_apply, hy]
      simp only [h25, hD, e1, e2]
    · rw [dif_neg h, if_neg h]
  · intro r j
    rw [pay37_apply]
    simp only [hqt, hD]
  · intro d j
    rw [pay38_apply]
    simp only [het, hP]

end tiles

end Cert.Proof.Foxb

end
-- ==== Proof.FoxbLoops.lean ====
/-
  The gradient of the forgetting attention: the loops over narrow and over wide tiles keep the accumulators what the
  queries done so far make them.
-/
module

public import proofs.«01_k».proof.Proof.FoxbStep

@[expose] public section

set_option maxRecDepth 16384

noncomputable section

namespace Cert.Proof.Foxb

open Cert.FoxbIdeal Cert.FoxbIdeal.Gen Idealize.ShloMosaic Idealize.ShloMosaic.TcCoe Idealize.SL.Sem
open Idealize.ShloMosaic.Tactic

section loops
variable {𝒱 : Variants} {c : Dev nD} {bd : Option 𝒱.V} {i : grid0.Coords}
variable {arg2 : Memref sig .tc .smem S8x32 .i32} {harg2 : arg2.IsWhole} {arg3 : Memref sig .tc .smem S8x32 .i32} {harg3 : arg3.IsWhole}
variable {arg4 : Memref sig .tc .vmem S16384x128 .bf16} {harg4 : arg4.IsWhole} {arg5 : Memref sig .tc .vmem S128x16384 .bf16} {harg5 : arg5.IsWhole}
variable {arg6 : Memref sig .tc .vmem S512x128 .bf16} {harg6 : arg6.IsWhole} {arg7 : Memref sig .tc .vmem S128x512 .bf16} {harg7 : arg7.IsWhole}
variable {arg8 : Memref sig .tc .vmem S512x128 .bf16} {harg8 : arg8.IsWhole} {arg9 : Memref sig .tc .vmem S16384x128 .bf16} {harg9 : arg9.IsWhole}
variable {arg10 : Memref sig .tc .vmem S128x16384 .bf16} {harg10 : arg10.IsWhole} {arg11 : Memref sig .tc .vmem S1x8x16384 .f32} {harg11 : arg11.IsWhole}
variable {arg12 : Memref sig .tc .vmem S1x8x16384 .f32} {harg12 : arg12.IsWhole} {arg13 : Memref sig .tc .vmem S128x16384 .f32} {harg13 : arg13.IsWhole}
variable {arg14 : Memref sig .tc .vmem S128x512 .f32} {harg14 : arg14.IsWhole} {arg15 : Memref sig .tc .vmem S64x512 .f32} {harg15 : arg15.IsWhole}
variable {arg0 arg1 v9 v27 c2 v79 v96 : BitVec 32} {v80 : BitVec 1} {v71 : FVec Ideal S80x512 .f32} {v78 : FVec Ideal S64x512 .f32}
variable {v21 v23 : FVec Ideal S512x128 .bf16} {v25 : FVec Ideal S80x512 .bf16}
variable {hw1 : k0_chk1 i (narrowEnd (i 1).val)} {hw2 : k0_chk2 i wideEnd}
variable {x4 : Vec Ideal S16384x128 .bf16} {x5 : Vec Ideal S128x16384 .bf16} {x6 : Vec Ideal S512x128 .bf16} {x7 : Vec Ideal S128x512 .bf16} {x8 : Vec Ideal S512x128 .bf16}
variable {x9 : Vec Ideal S16384x128 .bf16} {x10 : Vec Ideal S128x16384 .bf16} {x11 x12 : Vec Ideal S1x8x16384 .f32}
variable {y13 : Vec Ideal S128x16384 .f32} {G : BufTy.Contents (Elt Ideal) arg13.view.ty} {init : FVec Ideal S80x512 .f32 × FVec Ideal S64x512 .f32}

/-- One wide tile, with what the body loads for it. -/
theorem wideAtView {A : FVec Ideal S80x512 .f32} {B : FVec Ideal S64x512 .f32} {f : BufTy.Contents (Elt Ideal) arg13.view.ty} {o : ℕ}
    (g : Good i x4 x5 x6 x7 x8 x9 x10 x11 x12 y13 (arg13.view.read (Elt Ideal) f) A B o) (ho : o + 1024 ≤ 16384) (hb : 512 * (i 1).val + 512 ≤ o)
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    {oq oc od : Fin 2 → ℕ} {os : Fin 3 → ℕ} {iq ic ic' id is}
    (eq : oq = ![o, 0]) (ec : oc = ![0, o]) (ed : od = ![64 * hh i, o]) (es : os = ![0, hh i, o])
    (L : List (View.Piece (Elt Ideal) S128x16384 .f32)) (G : BufTy.Contents (Elt Ideal) arg13.view.ty) (hf : f = arg13.view.writes (Elt Ideal) G L) :
    Good i x4 x5 x6 x7 x8 x9 x10 x11 x12 y13
      (arg13.view.read (Elt Ideal) (arg13.view.writes (Elt Ideal) G (⟨Rect.unit (s := S128x16384) oc S80x1024.size ic,
        k0_pay6 v21 v23 v25 (View.readAt (Elt Ideal) arg4.view (Rect.unit (s := S16384x128) oq S1024x128.size iq).toLoadRect (harg4.unread x4))
          (View.readAt (Elt Ideal) arg11.view (Rect.unit (s := S1x8x16384) os S1x1x1024.size is).toLoadRect (harg11.unread x11))
          (View.readAt (Elt Ideal) arg9.view (Rect.unit (s := S16384x128) oq S1024x128.size iq).toLoadRect (harg9.unread x9))
          (View.readAt (Elt Ideal) arg12.view (Rect.unit (s := S1x8x16384) os S1x1x1024.size is).toLoadRect (harg12.unread x12))
          (View.readAt (Elt Ideal) arg13.view (Rect.unit (s := S128x16384) oc S80x1024.size ic).toLoadRect f)⟩ :: L)))
      (k0_pay7 v21 v23 A (View.readAt (Elt Ideal) arg4.view (Rect.unit (s := S16384x128) oq S1024x128.size iq).toLoadRect (harg4.unread x4))
          (View.readAt (Elt Ideal) arg11.view (Rect.unit (s := S1x8x16384) os S1x1x1024.size is).toLoadRect (harg11.unread x11))
          (View.readAt (Elt Ideal) arg9.view (Rect.unit (s := S16384x128) oq S1024x128.size iq).toLoadRect (harg9.unread x9))
          (View.readAt (Elt Ideal) arg12.view (Rect.unit (s := S1x8x16384) os S1x1x1024.size is).toLoadRect (harg12.unread x12))
          (View.readAt (Elt Ideal) arg5.view (Rect.unit (s := S128x16384) oc S80x1024.size ic').toLoadRect (harg5.unread x5)))
      (k0_pay8 B (k0_pay4 v23 (View.readAt (Elt Ideal) arg4.view (Rect.unit (s := S16384x128) oq S1024x128.size iq).toLoadRect (harg4.unread x4))
          (View.readAt (Elt Ideal) arg11.view (Rect.unit (s := S1x8x16384) os S1x1x1024.size is).toLoadRect (harg11.unread x11)))
          (View.readAt (Elt Ideal) arg10.view (Rect.unit (s := S128x16384) od S64x1024.size id).toLoadRect (harg10.unread x10)))
      (o + 1024) := by
  rw [View.read_writes_cons_put (Val := Elt Ideal) arg13.view G (off := oc) (off' := ![0, o]) ic _ L ec, ← hf]
  refine tileWide g ho hb h21 h23 h25 ?_ ?_ ?_ ?_ ?_ ?_ ?_
  · exact fun x l => rd_rows arg4 harg4 x4 iq eq x l
  · exact fun x => rd_row arg11 harg11 x11 _ is es x
  · exact fun x l => rd_rows arg9 harg9 x9 iq eq x l
  · exact fun x => rd_row arg12 harg12 x12 _ is es x
  · exact fun r x => rd_acc arg13 f ic ec r x
  · intro r x
    refine (rd_cols arg5 harg5 x5 ic' ec r x).trans ?_
    exact congrArg (fun z => x5 (ix2 z (col (o + x.val)))) (Fin.ext (Nat.zero_add _))
  · exact fun d x => rd_cols arg10 harg10 x10 id ed d x

/-- One narrow tile, with what the body loads for it. -/
theorem narrowAtView {A : FVec Ideal S80x512 .f32} {B : FVec Ideal S64x512 .f32} {f : BufTy.Contents (Elt Ideal) arg13.view.ty} {o : ℕ}
    (g : Good i x4 x5 x6 x7 x8 x9 x10 x11 x12 y13 (arg13.view.read (Elt Ideal) f) A B o) (ho : o + 512 ≤ 16384) (hb : 512 * (i 1).val + 512 ≤ o)
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    {oq oc od : Fin 2 → ℕ} {os : Fin 3 → ℕ} {iq ic ic' id is}
    (eq : oq = ![o, 0]) (ec : oc = ![0, o]) (ed : od = ![64 * hh i, o]) (es : os = ![0, hh i, o])
    (L : List (View.Piece (Elt Ideal) S128x16384 .f32)) (G : BufTy.Contents (Elt Ideal) arg13.view.ty) (hf : f = arg13.view.writes (Elt Ideal) G L) :
    Good i x4 x5 x6 x7 x8 x9 x10 x11 x12 y13
      (arg13.view.read (Elt Ideal) (arg13.view.writes (Elt Ideal) G (⟨Rect.unit (s := S128x16384) oc S80x512.size ic,
        k0_pay41 v21 v23 v25 (View.readAt (Elt Ideal) arg4.view (Rect.unit (s := S16384x128) oq S512x128.size iq).toLoadRect (harg4.unread x4))
          (View.readAt (Elt Ideal) arg11.view (Rect.unit (s := S1x8x16384) os S1x1x512.size is).toLoadRect (harg11.unread x11))
          (View.readAt (Elt Ideal) arg9.view (Rect.unit (s := S16384x128) oq S512x128.size iq).toLoadRect (harg9.unread x9))
          (View.readAt (Elt Ideal) arg12.view (Rect.unit (s := S1x8x16384) os S1x1x512.size is).toLoadRect (harg12.unread x12))
          (View.readAt (Elt Ideal) arg13.view (Rect.unit (s := S128x16384) oc S80x512.size ic).toLoadRect f)⟩ :: L)))
      (k0_pay42 v21 v23 A (View.readAt (Elt Ideal) arg4.view (Rect.unit (s := S16384x128) oq S512x128.size iq).toLoadRect (harg4.unread x4))
          (View.readAt (Elt Ideal) arg11.view (Rect.unit (s := S1x8x16384) os S1x1x512.size is).toLoadRect (harg11.unread x11))
          (View.readAt (Elt Ideal) arg9.view (Rect.unit (s := S16384x128) oq S512x128.size iq).toLoadRect (harg9.unread x9))
          (View.readAt (Elt Ideal) arg12.view (Rect.unit (s := S1x8x16384) os S1x1x512.size is).toLoadRect (harg12.unread x12))
          (View.readAt (Elt Ideal) arg5.view (Rect.unit (s := S128x16384) oc S80x512.size ic').toLoadRect (harg5.unread x5)))
      (k0_pay43 v23 B (View.readAt (Elt Ideal) arg4.view (Rect.unit (s := S16384x128) oq S512x128.size iq).toLoadRect (harg4.unread x4))
          (View.readAt (Elt Ideal) arg11.view (Rect.unit (s := S1x8x16384) os S1x1x512.size is).toLoadRect (harg11.unread x11))
          (View.readAt (Elt Ideal) arg10.view (Rect.unit (s := S128x16384) od S64x512.size id).toLoadRect (harg10.unread x10)))
      (o + 512) := by
  rw [View.read_writes_cons_put (Val := Elt Ideal) arg13.view G (off := oc) (off' := ![0, o]) ic _ L ec, ← hf]
  refine tileNarrow g ho hb h21 h23 h25 ?_ ?_ ?_ ?_ ?_ ?_ ?_
  · exact fun x l => rd_rows arg4 harg4 x4 iq eq x l
  · exact fun x => rd_row arg11 harg11 x11 _ is es x
  · exact fun x l => rd_rows arg9 harg9 x9 iq eq x l
  · exact fun x => rd_row arg12 harg12 x12 _ is es x
  · exact fun r x => rd_acc arg13 f ic ec r x
  · intro r x
    refine (rd_cols arg5 harg5 x5 ic' ec r x).trans ?_
    exact congrArg (fun z => x5 (ix2 z (col (o + x.val)))) (Fin.ext (Nat.zero_add _))
  · exact fun d x => rd_cols arg10 harg10 x10 id ed d x

set_option maxHeartbeats 2000000 in
/-- Two wide tiles, a trip of the loop over them. -/
theorem trip3 (k : Fin (k0_t3_loop i wideEnd).trips) {acc : FVec Ideal S80x512 .f32 × FVec Ideal S64x512 .f32} {f : BufTy.Contents (Elt Ideal) arg13.view.ty}
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    (g : Good i x4 x5 x6 x7 x8 x9 x10 x11 x12 y13 (arg13.view.read (Elt Ideal) f) acc.1 acc.2 (wideAt i k.val)) :
    Good i x4 x5 x6 x7 x8 x9 x10 x11 x12 y13
      (arg13.view.read (Elt Ideal) (arg13.view.writes (Elt Ideal) f (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 wideEnd hw2 (harg4.unread x4) (harg5.unread x5) (harg9.unread x9) (harg10.unread x10) (harg11.unread x11) (harg12.unread x12) k acc f)))
      (tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 wideEnd hw2 (harg4.unread x4) (harg5.unread x5) (harg9.unread x9) (harg10.unread x10) (harg11.unread x11) (harg12.unread x12) k acc f).1
      (tripR_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 wideEnd hw2 (harg4.unread x4) (harg5.unread x5) (harg9.unread x9) (harg10.unread x10) (harg11.unread x11) (harg12.unread x12) k acc f).2 (wideAt i (k.val + 1)) := by
  have hk : k.val < (15 - (i 1).val / 2) / 2 := lt_of_lt_of_eq k.isLt (trips3 i)
  have hi : (i 1).val < 32 := (i 1).isLt
  unfold tripL_k0_t3 tripR_k0_t3 trip_k0_t3
  dsimp only
  have g1 := wideAtView (harg4 := harg4) (harg5 := harg5) (harg9 := harg9) (harg10 := harg10) (harg11 := harg11) (harg12 := harg12)
    (iq := k0_off15_inb i wideEnd hw2 k) (is := k0_off16_inb i wideEnd hw2 k) (ic := k0_off17_inb i wideEnd hw2 k) (ic' := k0_off17_inb i wideEnd hw2 k) (id := k0_off18_inb i wideEnd hw2 k)
    g (by unfold wideAt; omega) (by unfold wideAt; omega) h21 h23 h25 (off15_eq i k) (off17_eq i k) (off18_eq i k) (off16_eq i k) [] f rfl
  have g2 := wideAtView (harg4 := harg4) (harg5 := harg5) (harg9 := harg9) (harg10 := harg10) (harg11 := harg11) (harg12 := harg12)
    (iq := k0_off19_inb i wideEnd hw2 k) (is := k0_off20_inb i wideEnd hw2 k) (ic := k0_off21_inb i wideEnd hw2 k) (ic' := k0_off21_inb i wideEnd hw2 k) (id := k0_off22_inb i wideEnd hw2 k)
    g1 (by unfold wideAt; omega) (by unfold wideAt; omega) h21 h23 h25 (off19_eq i k) (off21_eq i k) (off22_eq i k) (off20_eq i k) [_] f rfl
  rw [show wideAt i k.val + 1024 + 1024 = wideAt i (k.val + 1) from by unfold wideAt; omega] at g2
  exact g2

/-- The loop over pairs of wide tiles. -/
theorem loop3
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    (g : Good i x4 x5 x6 x7 x8 x9 x10 x11 x12 y13 (arg13.view.read (Elt Ideal) G) init.1 init.2 (wideAt i 0)) :
    ∀ n, n ≤ (k0_t3_loop i wideEnd).trips → Good i x4 x5 x6 x7 x8 x9 x10 x11 x12 y13
      (arg13.view.read (Elt Ideal) (arg13.view.writes (Elt Ideal) G (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 wideEnd hw2 (harg4.unread x4) (harg5.unread x5) (harg9.unread x9) (harg10.unread x10) (harg11.unread x11) (harg12.unread x12) G init n).2))
      (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 wideEnd hw2 (harg4.unread x4) (harg5.unread x5) (harg9.unread x9) (harg10.unread x10) (harg11.unread x11) (harg12.unread x12) G init n).1.1
      (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 wideEnd hw2 (harg4.unread x4) (harg5.unread x5) (harg9.unread x9) (harg10.unread x10) (harg11.unread x11) (harg12.unread x12) G init n).1.2 (wideAt i n) := by
  intro n
  induction n with
  | zero => exact fun _ => g
  | succ n ih =>
    intro hn
    rw [st_k0_t3_succ (k := (⟨n, hn⟩ : Fin (k0_t3_loop i wideEnd).trips))]
    dsimp only
    rw [View.writes_append]
    exact trip3 (⟨n, hn⟩ : Fin (k0_t3_loop i wideEnd).trips) h21 h23 h25 (ih (Nat.le_of_lt hn))

/-- One narrow tile, the trip of the loop over them. -/
theorem trip1 (k : Fin (k0_t1_loop i (narrowEnd (i 1).val)).trips) {acc : FVec Ideal S80x512 .f32 × FVec Ideal S64x512 .f32} {f : BufTy.Contents (Elt Ideal) arg13.view.ty}
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    (g : Good i x4 x5 x6 x7 x8 x9 x10 x11 x12 y13 (arg13.view.read (Elt Ideal) f) acc.1 acc.2 (512 * (i 1).val + 512)) :
    Good i x4 x5 x6 x7 x8 x9 x10 x11 x12 y13
      (arg13.view.read (Elt Ideal) (arg13.view.writes (Elt Ideal) f (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 (narrowEnd (i 1).val) hw1 (harg4.unread x4) (harg5.unread x5) (harg9.unread x9) (harg10.unread x10) (harg11.unread x11) (harg12.unread x12) k acc f)))
      (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 (narrowEnd (i 1).val) hw1 (harg4.unread x4) (harg5.unread x5) (harg9.unread x9) (harg10.unread x10) (harg11.unread x11) (harg12.unread x12) k acc f).1
      (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 (narrowEnd (i 1).val) hw1 (harg4.unread x4) (harg5.unread x5) (harg9.unread x9) (harg10.unread x10) (harg11.unread x11) (harg12.unread x12) k acc f).2 (512 * (i 1).val + 1024) := by
  have hk : k.val < 1 - (i 1).val % 2 := lt_of_lt_of_eq k.isLt (trips1 i)
  have hi : (i 1).val < 32 := (i 1).isLt
  unfold tripL_k0_t1 tripR_k0_t1 trip_k0_t1
  dsimp only
  exact narrowAtView (harg4 := harg4) (harg5 := harg5) (harg9 := harg9) (harg10 := harg10) (harg11 := harg11) (harg12 := harg12)
    (iq := k0_off6_inb i (narrowEnd (i 1).val) hw1 k) (is := k0_off7_inb i (narrowEnd (i 1).val) hw1 k) (ic := k0_off8_inb i (narrowEnd (i 1).val) hw1 k) (ic' := k0_off8_inb i (narrowEnd (i 1).val) hw1 k) (id := k0_off9_inb i (narrowEnd (i 1).val) hw1 k)
    g (by omega) (by omega) h21 h23 h25 (off6_eq i k) (off8_eq i k) (off9_eq i k) (off7_eq i k) [] f rfl

/-- The loop over narrow tiles ends where the wide ones start. -/
theorem loop1
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    (g : Good i x4 x5 x6 x7 x8 x9 x10 x11 x12 y13 (arg13.view.read (Elt Ideal) G) init.1 init.2 (512 * (i 1).val + 512)) :
    Good i x4 x5 x6 x7 x8 x9 x10 x11 x12 y13
      (arg13.view.read (Elt Ideal) (arg13.view.writes (Elt Ideal) G (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 (narrowEnd (i 1).val) hw1 (harg4.unread x4) (harg5.unread x5) (harg9.unread x9) (harg10.unread x10) (harg11.unread x11) (harg12.unread x12) G init (k0_t1_loop i (narrowEnd (i 1).val)).trips).2))
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 (narrowEnd (i 1).val) hw1 (harg4.unread x4) (harg5.unread x5) (harg9.unread x9) (harg10.unread x10) (harg11.unread x11) (harg12.unread x12) G init (k0_t1_loop i (narrowEnd (i 1).val)).trips).1.1
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 (narrowEnd (i 1).val) hw1 (harg4.unread x4) (harg5.unread x5) (harg9.unread x9) (harg10.unread x10) (harg11.unread x11) (harg12.unread x12) G init (k0_t1_loop i (narrowEnd (i 1).val)).trips).1.2 (wideAt i 0) := by
  have ht := trips1 i
  rcases Nat.mod_two_eq_zero_or_one (i 1).val with h | h
  · have h1 : (k0_t1_loop i (narrowEnd (i 1).val)).trips = 1 := by omega
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 (narrowEnd (i 1).val) hw1 (harg4.unread x4) (harg5.unread x5) (harg9.unread x9) (harg10.unread x10) (harg11.unread x11) (harg12.unread x12) G init (⟨0, by omega⟩ : Fin (k0_t1_loop i (narrowEnd (i 1).val)).trips)
    rw [h1]
    refine Eq.mp (congrArg (fun s : (FVec Ideal S80x512 .f32 × FVec Ideal S64x512 .f32) × List (View.Piece (Elt Ideal) S128x16384 .f32) => Good i x4 x5 x6 x7 x8 x9 x10 x11 x12 y13
      (arg13.view.read (Elt Ideal) (arg13.view.writes (Elt Ideal) G s.2)) s.1.1 s.1.2 (wideAt i 0)) e.symm) ?_
    dsimp only
    rw [View.writes_append, show wideAt i 0 = 512 * (i 1).val + 1024 from by unfold wideAt; omega]
    exact trip1 _ h21 h23 h25 g
  · have h1 : (k0_t1_loop i (narrowEnd (i 1).val)).trips = 0 := by omega
    rw [h1, show wideAt i 0 = 512 * (i 1).val + 512 from by unfold wideAt; omega]
    exact g

end loops

end Cert.Proof.Foxb

end
-- ==== Proof.FoxbRun.lean ====
/-
  The gradient of the forgetting attention: what one grid point leaves, from the diagonal tile over the loops to the
  last wide tile.
-/
module

public import proofs.«01_k».proof.Proof.FoxbLoops

@[expose] public section

set_option maxRecDepth 16384

noncomputable section

namespace Cert.Proof.Foxb

open Cert.FoxbIdeal Cert.FoxbIdeal.Gen Idealize.ShloMosaic Idealize.ShloMosaic.TcCoe Idealize.SL.Sem
open Idealize.ShloMosaic.Tactic

section loops
variable {𝒱 : Variants} {c : Dev nD} {bd : Option 𝒱.V} {i : grid0.Coords}
variable {arg2 : Memref sig .tc .smem S8x32 .i32} {harg2 : arg2.IsWhole} {arg3 : Memref sig .tc .smem S8x32 .i32} {harg3 : arg3.IsWhole}
variable {arg4 : Memref sig .tc .vmem S16384x128 .bf16} {harg4 : arg4.IsWhole} {arg5 : Memref sig .tc .vmem S128x16384 .bf16} {harg5 : arg5.IsWhole}
variable {arg6 : Memref sig .tc .vmem S512x128 .bf16} {harg6 : arg6.IsWhole} {arg7 : Memref sig .tc .vmem S128x512 .bf16} {harg7 : arg7.IsWhole}
variable {arg8 : Memref sig .tc .vmem S512x128 .bf16} {harg8 : arg8.IsWhole} {arg9 : Memref sig .tc .vmem S16384x128 .bf16} {harg9 : arg9.IsWhole}
variable {arg10 : Memref sig .tc .vmem S128x16384 .bf16} {harg10 : arg10.IsWhole} {arg11 : Memref sig .tc .vmem S1x8x16384 .f32} {harg11 : arg11.IsWhole}
variable {arg12 : Memref sig .tc .vmem S1x8x16384 .f32} {harg12 : arg12.IsWhole} {arg13 : Memref sig .tc .vmem S128x16384 .f32} {harg13 : arg13.IsWhole}
variable {arg14 : Memref sig .tc .vmem S128x512 .f32} {harg14 : arg14.IsWhole} {arg15 : Memref sig .tc .vmem S64x512 .f32} {harg15 : arg15.IsWhole}
variable {arg0 arg1 v9 v27 c2 v79 v96 : BitVec 32} {v80 : BitVec 1} {v71 : FVec Ideal S80x512 .f32} {v78 : FVec Ideal S64x512 .f32}
variable {v21 v23 : FVec Ideal S512x128 .bf16} {v25 : FVec Ideal S80x512 .bf16}
variable {hw1 : k0_chk1 i (narrowEnd (i 1).val)} {hw2 : k0_chk2 i wideEnd}
variable {x4 : Vec Ideal S16384x128 .bf16} {x5 : Vec Ideal S128x16384 .bf16} {x6 : Vec Ideal S512x128 .bf16} {x7 : Vec Ideal S128x512 .bf16} {x8 : Vec Ideal S512x128 .bf16}
variable {x9 : Vec Ideal S16384x128 .bf16} {x10 : Vec Ideal S128x16384 .bf16} {x11 x12 : Vec Ideal S1x8x16384 .f32}
variable {y13 : Vec Ideal S128x16384 .f32} {G : BufTy.Contents (Elt Ideal) arg13.view.ty} {init : FVec Ideal S80x512 .f32 × FVec Ideal S64x512 .f32}

theorem after1 {v100 : BitVec 32} (hv : v100 = narrowEnd (i 1).val) {hw : k0_chk1 i v100} {L : List (View.Piece (Elt Ideal) S128x16384 .f32)} {n : ℕ} {r0 : FVec Ideal S80x512 .f32} {r1 : FVec Ideal S64x512 .f32} (hn : n = (k0_t1_loop i v100).trips)
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    (g : Good i x4 x5 x6 x7 x8 x9 x10 x11 x12 y13 (arg13.view.read (Elt Ideal) (arg13.view.writes (Elt Ideal) G L)) r0 r1 (512 * (i 1).val + 512)) :
    Good i x4 x5 x6 x7 x8 x9 x10 x11 x12 y13 (arg13.view.read (Elt Ideal) (arg13.view.writes (Elt Ideal) G ((st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 v100 hw (harg4.unread x4) (harg5.unread x5) (harg9.unread x9) (harg10.unread x10) (harg11.unread x11) (harg12.unread x12) (arg13.view.writes (Elt Ideal) G L) (r0, r1) n).2 ++ L)))
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 v100 hw (harg4.unread x4) (harg5.unread x5) (harg9.unread x9) (harg10.unread x10) (harg11.unread x11) (harg12.unread x12) (arg13.view.writes (Elt Ideal) G L) (r0, r1) n).1.1
      (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 v100 hw (harg4.unread x4) (harg5.unread x5) (harg9.unread x9) (harg10.unread x10) (harg11.unread x11) (harg12.unread x12) (arg13.view.writes (Elt Ideal) G L) (r0, r1) n).1.2 (wideAt i 0) := by
  subst hv
  subst hn
  rw [View.writes_append]
  exact loop1 h21 h23 h25 g

theorem after2 {v100 : BitVec 32} (hv : v100 = narrowEnd (i 1).val) {hw : k0_chk1 i v100} {L : List (View.Piece (Elt Ideal) S128x16384 .f32)} {e n : ℕ} {r0 : FVec Ideal S80x512 .f32} {r1 : FVec Ideal S64x512 .f32} (hn : n = (k0_t2_loop i v100).trips)
    (g : Good i x4 x5 x6 x7 x8 x9 x10 x11 x12 y13 (arg13.view.read (Elt Ideal) (arg13.view.writes (Elt Ideal) G L)) r0 r1 e) :
    Good i x4 x5 x6 x7 x8 x9 x10 x11 x12 y13 (arg13.view.read (Elt Ideal) (arg13.view.writes (Elt Ideal) G ((st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 v100 hw (harg4.unread x4) (harg5.unread x5) (harg9.unread x9) (harg10.unread x10) (harg11.unread x11) (harg12.unread x12) (arg13.view.writes (Elt Ideal) G L) (r0, r1) n).2 ++ L)))
      (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 v100 hw (harg4.unread x4) (harg5.unread x5) (harg9.unread x9) (harg10.unread x10) (harg11.unread x11) (harg12.unread x12) (arg13.view.writes (Elt Ideal) G L) (r0, r1) n).1.1
      (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 v100 hw (harg4.unread x4) (harg5.unread x5) (harg9.unread x9) (harg10.unread x10) (harg11.unread x11) (harg12.unread x12) (arg13.view.writes (Elt Ideal) G L) (r0, r1) n).1.2 e := by
  subst hv
  subst hn
  rw [View.writes_append]
  refine Eq.mp (congrArg (fun s : (FVec Ideal S80x512 .f32 × FVec Ideal S64x512 .f32) × List (View.Piece (Elt Ideal) S128x16384 .f32) => Good i x4 x5 x6 x7 x8 x9 x10 x11 x12 y13
      (arg13.view.read (Elt Ideal) (arg13.view.writes (Elt Ideal) (arg13.view.writes (Elt Ideal) G L) s.2)) s.1.1 s.1.2 e) (congrArg (st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2 v79 v80 (narrowEnd (i 1).val) hw (harg4.unread x4) (harg5.unread x5) (harg9.unread x9) (harg10.unread x10) (harg11.unread x11) (harg12.unread x12) (arg13.view.writes (Elt Ideal) G L) (r0, r1)) (trips2 i)).symm) g

theorem after3 {v110 : BitVec 32} (hv : v110 = wideEnd) {hw : k0_chk2 i v110} {L : List (View.Piece (Elt Ideal) S128x16384 .f32)} {e n : ℕ} {r0 : FVec Ideal S80x512 .f32} {r1 : FVec Ideal S64x512 .f32} (hn : n = (k0_t3_loop i v110).trips)
    (he : wideAt i ((15 - (i 1).val / 2) / 2) = e)
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    (g : Good i x4 x5 x6 x7 x8 x9 x10 x11 x12 y13 (arg13.view.read (Elt Ideal) (arg13.view.writes (Elt Ideal) G L)) r0 r1 (wideAt i 0)) :
    Good i x4 x5 x6 x7 x8 x9 x10 x11 x12 y13 (arg13.view.read (Elt Ideal) (arg13.view.writes (Elt Ideal) G ((st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 v110 hw (harg4.unread x4) (harg5.unread x5) (harg9.unread x9) (harg10.unread x10) (harg11.unread x11) (harg12.unread x12) (arg13.view.writes (Elt Ideal) G L) (r0, r1) n).2 ++ L)))
      (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 v110 hw (harg4.unread x4) (harg5.unread x5) (harg9.unread x9) (harg10.unread x10) (harg11.unread x11) (harg12.unread x12) (arg13.view.writes (Elt Ideal) G L) (r0, r1) n).1.1
      (st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 v110 hw (harg4.unread x4) (harg5.unread x5) (harg9.unread x9) (harg10.unread x10) (harg11.unread x11) (harg12.unread x12) (arg13.view.writes (Elt Ideal) G L) (r0, r1) n).1.2 e := by
  subst hv
  subst hn
  rw [View.writes_append]
  rw [← he, ← trips3 i]
  exact loop3 h21 h23 h25 g _ le_rfl

theorem after4 {v110 v134 : BitVec 32} (hv : v110 = wideEnd) {hw : k0_chk2 i v110} {L : List (View.Piece (Elt Ideal) S128x16384 .f32)} {e n : ℕ} {r0 : FVec Ideal S80x512 .f32} {r1 : FVec Ideal S64x512 .f32} (hn : n = (k0_t4_loop i v110).trips)
    (g : Good i x4 x5 x6 x7 x8 x9 x10 x11 x12 y13 (arg13.view.read (Elt Ideal) (arg13.view.writes (Elt Ideal) G L)) r0 r1 e) :
    Good i x4 x5 x6 x7 x8 x9 x10 x11 x12 y13 (arg13.view.read (Elt Ideal) (arg13.view.writes (Elt Ideal) G ((st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 v110 hw v134 (harg4.unread x4) (harg5.unread x5) (harg9.unread x9) (harg10.unread x10) (harg11.unread x11) (harg12.unread x12) (arg13.view.writes (Elt Ideal) G L) (r0, r1) n).2 ++ L)))
      (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 v110 hw v134 (harg4.unread x4) (harg5.unread x5) (harg9.unread x9) (harg10.unread x10) (harg11.unread x11) (harg12.unread x12) (arg13.view.writes (Elt Ideal) G L) (r0, r1) n).1.1
      (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 v110 hw v134 (harg4.unread x4) (harg5.unread x5) (harg9.unread x9) (harg10.unread x10) (harg11.unread x11) (harg12.unread x12) (arg13.view.writes (Elt Ideal) G L) (r0, r1) n).1.2 e := by
  subst hv
  subst hn
  rw [View.writes_append]
  refine Eq.mp (congrArg (fun s : (FVec Ideal S80x512 .f32 × FVec Ideal S64x512 .f32) × List (View.Piece (Elt Ideal) S128x16384 .f32) => Good i x4 x5 x6 x7 x8 x9 x10 x11 x12 y13
      (arg13.view.read (Elt Ideal) (arg13.view.writes (Elt Ideal) (arg13.view.writes (Elt Ideal) G L) s.2)) s.1.1 s.1.2 e) (congrArg (st_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 wideEnd hw v134 (harg4.unread x4) (harg5.unread x5) (harg9.unread x9) (harg10.unread x10) (harg11.unread x11) (harg12.unread x12) (arg13.view.writes (Elt Ideal) G L) (r0, r1)) (trips4 i)).symm) g

theorem ld_k (x : Vec Ideal S512x128 .bf16) (j : Fin 512) (l : Fin 128) :
    View.ld (Val := Elt Ideal) x (Rect.unit (s := S512x128) ![0, 0] S512x128.size inb_S512x128_S512x128_0_0) (ix2 j l) = x (ix2 j l) := by
  show x _ = x _
  congr 1
  funext a
  apply Fin.ext
  match a with
  | ⟨0, _⟩ => show 0 + 1 * j.val = j.val; omega
  | ⟨1, _⟩ => show 0 + 1 * l.val = l.val; omega

theorem ld_kt (x : Vec Ideal S128x512 .bf16) (r : Fin 80) (j : Fin 512) :
    View.ld (Val := Elt Ideal) x (Rect.unit (s := S128x512) ![0, 0] S80x512.size inb_S128x512_S80x512_0_0) (ix2 r j) = x (ix2 ⟨r.val, by omega⟩ j) := by
  show x _ = x _
  congr 1
  funext a
  apply Fin.ext
  match a with
  | ⟨0, _⟩ => show 0 + 1 * r.val = r.val; omega
  | ⟨1, _⟩ => show 0 + 1 * j.val = j.val; omega

theorem h21_of (j : Fin 512) (l : Fin 128) :
    k0_pay28 i (View.ld (Val := Elt Ideal) x8 (Rect.unit (s := S512x128) ![0, 0] S512x128.size inb_S512x128_S512x128_0_0)) (ix2 j l) = vm i x8 j l := by
  rw [pay28_apply]; unfold vm; rw [ld_k]

theorem h23_of (j : Fin 512) (l : Fin 128) :
    k0_pay29 (View.ld (Val := Elt Ideal) x6 (Rect.unit (s := S512x128) ![0, 0] S512x128.size inb_S512x128_S512x128_0_0)) (ix2 j l) = x6 (ix2 j l) := by
  rw [pay29_apply, ld_k]

theorem h25_of (r : Fin 80) (j : Fin 512) :
    k0_pay30 (View.ld (Val := Elt Ideal) x7 (Rect.unit (s := S128x512) ![0, 0] S80x512.size inb_S128x512_S80x512_0_0)) (ix2 r j) = x7 (ix2 ⟨r.val, by omega⟩ j) := by
  rw [pay30_apply, ld_kt]

/-- The diagonal tile, with what the body loads for it. -/
theorem diagAtView :
    Good i x4 x5 x6 x7 x8 x9 x10 x11 x12 y13
      (arg13.view.read (Elt Ideal) (arg13.view.writes (Elt Ideal) (harg13.unread y13) [⟨Rect.unit (s := S128x16384) (k0_off3 i) S80x512.size (k0_off3_inb i),
        k0_pay36 (k0_pay28 i (View.ld (Val := Elt Ideal) x8 (Rect.unit (s := S512x128) ![0, 0] S512x128.size inb_S512x128_S512x128_0_0)))
          (k0_pay29 (View.ld (Val := Elt Ideal) x6 (Rect.unit (s := S512x128) ![0, 0] S512x128.size inb_S512x128_S512x128_0_0)))
          (k0_pay30 (View.ld (Val := Elt Ideal) x7 (Rect.unit (s := S128x512) ![0, 0] S80x512.size inb_S128x512_S80x512_0_0)))
          (k0_pay33 (View.ld (Val := Elt Ideal) x4 (Rect.unit (s := S16384x128) (k0_off1 i) S512x128.size (k0_off1_inb i)))) (constant S512x512 .f32 0x00000000#32)
          (View.readAt (Elt Ideal) arg11.view (Rect.unit (s := S1x8x16384) (k0_off2 i) S1x1x512.size (k0_off2_inb i)).toLoadRect (harg11.unread x11))
          (View.readAt (Elt Ideal) arg9.view (Rect.unit (s := S16384x128) (k0_off1 i) S512x128.size (k0_off1_inb i)).toLoadRect (harg9.unread x9))
          (View.readAt (Elt Ideal) arg12.view (Rect.unit (s := S1x8x16384) (k0_off2 i) S1x1x512.size (k0_off2_inb i)).toLoadRect (harg12.unread x12))
          (View.readAt (Elt Ideal) arg13.view (Rect.unit (s := S128x16384) (k0_off3 i) S80x512.size (k0_off3_inb i)).toLoadRect (harg13.unread y13))⟩]))
      (k0_pay37 (k0_pay28 i (View.ld (Val := Elt Ideal) x8 (Rect.unit (s := S512x128) ![0, 0] S512x128.size inb_S512x128_S512x128_0_0)))
          (k0_pay29 (View.ld (Val := Elt Ideal) x6 (Rect.unit (s := S512x128) ![0, 0] S512x128.size inb_S512x128_S512x128_0_0))) k0_pay31
          (k0_pay33 (View.ld (Val := Elt Ideal) x4 (Rect.unit (s := S16384x128) (k0_off1 i) S512x128.size (k0_off1_inb i)))) (constant S512x512 .f32 0x00000000#32)
          (View.readAt (Elt Ideal) arg11.view (Rect.unit (s := S1x8x16384) (k0_off2 i) S1x1x512.size (k0_off2_inb i)).toLoadRect (harg11.unread x11))
          (View.readAt (Elt Ideal) arg9.view (Rect.unit (s := S16384x128) (k0_off1 i) S512x128.size (k0_off1_inb i)).toLoadRect (harg9.unread x9))
          (View.readAt (Elt Ideal) arg12.view (Rect.unit (s := S1x8x16384) (k0_off2 i) S1x1x512.size (k0_off2_inb i)).toLoadRect (harg12.unread x12))
          (View.readAt (Elt Ideal) arg5.view (Rect.unit (s := S128x16384) (k0_off3 i) S80x512.size (k0_off3_inb i)).toLoadRect (harg5.unread x5)))
      (k0_pay38 (k0_pay29 (View.ld (Val := Elt Ideal) x6 (Rect.unit (s := S512x128) ![0, 0] S512x128.size inb_S512x128_S512x128_0_0))) k0_pay32
          (k0_pay33 (View.ld (Val := Elt Ideal) x4 (Rect.unit (s := S16384x128) (k0_off1 i) S512x128.size (k0_off1_inb i)))) (constant S512x512 .f32 0x00000000#32)
          (View.readAt (Elt Ideal) arg11.view (Rect.unit (s := S1x8x16384) (k0_off2 i) S1x1x512.size (k0_off2_inb i)).toLoadRect (harg11.unread x11))
          (View.readAt (Elt Ideal) arg10.view (Rect.unit (s := S128x16384) (k0_off4 i) S64x512.size (k0_off4_inb i)).toLoadRect (harg10.unread x10)))
      (512 * (i 1).val + 512) := by
  have hi : (i 1).val < 32 := (i 1).isLt
  rw [View.read_writes_cons_put (Val := Elt Ideal) arg13.view (harg13.unread y13) (off := k0_off3 i) (off' := ![0, 512 * (i 1).val]) (k0_off3_inb i) _ [] (off3_eq i)]
  have hr : arg13.view.read (Elt Ideal) (arg13.view.writes (Elt Ideal) (harg13.unread y13) []) = y13 := harg13.read_unread y13
  rw [hr]
  refine tileDiag pay31_apply pay32_apply rfl (by omega) h21_of h23_of h25_of ?_ ?_ ?_ ?_ ?_ ?_ ?_
  · intro x l
    rw [pay33_apply]
    exact ld_rows x4 (k0_off1_inb i) (off1_eq i) x l
  · exact fun x => rd_row arg11 harg11 x11 _ (k0_off2_inb i) (off2_eq i) x
  · exact fun x l => rd_rows arg9 harg9 x9 (k0_off1_inb i) (off1_eq i) x l
  · exact fun x => rd_row arg12 harg12 x12 _ (k0_off2_inb i) (off2_eq i) x
  · intro r x
    refine (rd_acc arg13 (harg13.unread y13) (k0_off3_inb i) (off3_eq i) r x).trans ?_
    rw [harg13.read_unread]
  · intro r x
    refine (rd_cols arg5 harg5 x5 (k0_off3_inb i) (off3_eq i) r x).trans ?_
    exact congrArg (fun z => x5 (ix2 z (col (512 * (i 1).val + x.val)))) (Fin.ext (Nat.zero_add _))
  · exact fun d x => rd_cols arg10 harg10 x10 (k0_off4_inb i) (off4_eq i) d x

/-- What a run leaves: the pieces of the two blocks, and the accumulators once every query is done. -/
def Left (r : Σ' (_ : List (View.Piece (Elt Ideal) S128x512 .f32)) (_ : List (View.Piece (Elt Ideal) S64x512 .f32)), List (View.Piece (Elt Ideal) S128x16384 .f32))
    (arg13 : Memref sig .tc .vmem S128x16384 .f32) (harg13 : arg13.IsWhole) (i : grid0.Coords) (x4 : Vec Ideal S16384x128 .bf16) (x5 : Vec Ideal S128x16384 .bf16) (x6 : Vec Ideal S512x128 .bf16)
    (x7 : Vec Ideal S128x512 .bf16) (x8 : Vec Ideal S512x128 .bf16) (x9 : Vec Ideal S16384x128 .bf16) (x10 : Vec Ideal S128x16384 .bf16) (x11 x12 : Vec Ideal S1x8x16384 .f32) (y13 : Vec Ideal S128x16384 .f32) : Prop :=
  ∃ (A : FVec Ideal S80x512 .f32) (B : FVec Ideal S64x512 .f32),
    r.1 = [⟨Rect.unit (s := S128x512) ![80, 0] ![48, 512] inb_S128x512_S48x512_80_0, (k0_pay3 (F := Ideal))⟩, ⟨Rect.unit (s := S128x512) ![0, 0] ![80, 512] inb_S128x512_S80x512_0_0, A⟩]
    ∧ r.2.1 = [⟨Rect.unit (s := S64x512) ![0, 0] ![64, 512] inb_S64x512_S64x512_0_0, B⟩]
    ∧ Good i x4 x5 x6 x7 x8 x9 x10 x11 x12 y13 (arg13.view.read (Elt Ideal) (arg13.view.writes (Elt Ideal) (harg13.unread y13) r.2.2)) A B 16384

/-- The last wide tile, where the count of wide tiles is odd. -/
theorem lastAt {w : BitVec 32} (hw : w = wideEnd) (hb : 512 * (i 1).val + 512 ≤ 15360) {L : List (View.Piece (Elt Ideal) S128x16384 .f32)} {A : FVec Ideal S80x512 .f32} {B : FVec Ideal S64x512 .f32}
    {v159 v164 v170 v175 v182 v189 v195} {iq is ic id ic'}
    (h21 : ∀ j l, v21 (ix2 j l) = vm i x8 j l) (h23 : ∀ j l, v23 (ix2 j l) = x6 (ix2 j l))
    (h25 : ∀ (r : Fin 80) (j : Fin 512), v25 (ix2 r j) = x7 (ix2 ⟨r.val, by omega⟩ j))
    (e159 : v159 = View.readAt (Elt Ideal) arg4.view (Rect.unit (s := S16384x128) (k0_off31 w) S1024x128.size iq).toLoadRect (harg4.unread x4))
    (e164 : v164 = View.readAt (Elt Ideal) arg11.view (Rect.unit (s := S1x8x16384) (k0_off32 i w) S1x1x1024.size is).toLoadRect (harg11.unread x11))
    (e170 : v170 = View.readAt (Elt Ideal) arg9.view (Rect.unit (s := S16384x128) (k0_off31 w) S1024x128.size iq).toLoadRect (harg9.unread x9))
    (e175 : v175 = View.readAt (Elt Ideal) arg12.view (Rect.unit (s := S1x8x16384) (k0_off32 i w) S1x1x1024.size is).toLoadRect (harg12.unread x12))
    (e182 : v182 = View.readAt (Elt Ideal) arg13.view (Rect.unit (s := S128x16384) (k0_off33 w) S80x1024.size ic).toLoadRect (arg13.view.writes (Elt Ideal) G L))
    (e189 : v189 = View.readAt (Elt Ideal) arg5.view (Rect.unit (s := S128x16384) (k0_off33 w) S80x1024.size ic).toLoadRect (harg5.unread x5))
    (e195 : v195 = View.readAt (Elt Ideal) arg10.view (Rect.unit (s := S128x16384) (k0_off34 i w) S64x1024.size id).toLoadRect (harg10.unread x10))
    (g : Good i x4 x5 x6 x7 x8 x9 x10 x11 x12 y13 (arg13.view.read (Elt Ideal) (arg13.view.writes (Elt Ideal) G L)) A B 15360) :
    Good i x4 x5 x6 x7 x8 x9 x10 x11 x12 y13 (arg13.view.read (Elt Ideal) (arg13.view.writes (Elt Ideal) G (⟨Rect.unit (s := S128x16384) (k0_off33 w) S80x1024.size ic', k0_pay24 v21 v23 v25 v159 v164 v170 v175 v182⟩ :: L)))
      (k0_pay25 v21 v23 A v159 v164 v170 v175 v189) (k0_pay26 v23 B v159 v164 v195) 16384 := by
  have hi : (i 1).val < 32 := (i 1).isLt
  subst hw
  rw [pay24_eq, pay25_eq, pay26_eq, e159, e164, e170, e175, e182, e189, e195]
  exact wideAtView g (by omega) hb h21 h23 h25 off31_eq off33_eq (off34_eq i) (off32_eq i) L G rfl

end loops

end Cert.Proof.Foxb

end
-- ==== Proof.FoxbEnd.lean ====
/-
  The gradient of the forgetting attention: what one grid point leaves where the count of wide tiles is odd, and either way.
-/
module

public import proofs.«01_k».proof.Proof.FoxbRun

@[expose] public section

set_option maxRecDepth 16384

noncomputable section

namespace Cert.Proof.Foxb

open Cert.FoxbIdeal Cert.FoxbIdeal.Gen Idealize.ShloMosaic Idealize.ShloMosaic.TcCoe Idealize.SL.Sem
open Idealize.ShloMosaic.Tactic

section loops
variable {𝒱 : Variants} {c : Dev nD} {bd : Option 𝒱.V} {i : grid0.Coords}
variable {arg2 : Memref sig .tc .smem S8x32 .i32} {harg2 : arg2.IsWhole} {arg3 : Memref sig .tc .smem S8x32 .i32} {harg3 : arg3.IsWhole}
variable {arg4 : Memref sig .tc .vmem S16384x128 .bf16} {harg4 : arg4.IsWhole} {arg5 : Memref sig .tc .vmem S128x16384 .bf16} {harg5 : arg5.IsWhole}
variable {arg6 : Memref sig .tc .vmem S512x128 .bf16} {harg6 : arg6.IsWhole} {arg7 : Memref sig .tc .vmem S128x512 .bf16} {harg7 : arg7.IsWhole}
variable {arg8 : Memref sig .tc .vmem S512x128 .bf16} {harg8 : arg8.IsWhole} {arg9 : Memref sig .tc .vmem S16384x128 .bf16} {harg9 : arg9.IsWhole}
variable {arg10 : Memref sig .tc .vmem S128x16384 .bf16} {harg10 : arg10.IsWhole} {arg11 : Memref sig .tc .vmem S1x8x16384 .f32} {harg11 : arg11.IsWhole}
variable {arg12 : Memref sig .tc .vmem S1x8x16384 .f32} {harg12 : arg12.IsWhole} {arg13 : Memref sig .tc .vmem S128x16384 .f32} {harg13 : arg13.IsWhole}
variable {arg14 : Memref sig .tc .vmem S128x512 .f32} {harg14 : arg14.IsWhole} {arg15 : Memref sig .tc .vmem S64x512 .f32} {harg15 : arg15.IsWhole}
variable {arg0 arg1 v9 v27 c2 v79 v96 : BitVec 32} {v80 : BitVec 1} {v71 : FVec Ideal S80x512 .f32} {v78 : FVec Ideal S64x512 .f32}
variable {v21 v23 : FVec Ideal S512x128 .bf16} {v25 : FVec Ideal S80x512 .bf16}
variable {hw1 : k0_chk1 i (narrowEnd (i 1).val)} {hw2 : k0_chk2 i wideEnd}
variable {x4 : Vec Ideal S16384x128 .bf16} {x5 : Vec Ideal S128x16384 .bf16} {x6 : Vec Ideal S512x128 .bf16} {x7 : Vec Ideal S128x512 .bf16} {x8 : Vec Ideal S512x128 .bf16}
variable {x9 : Vec Ideal S16384x128 .bf16} {x10 : Vec Ideal S128x16384 .bf16} {x11 x12 : Vec Ideal S1x8x16384 .f32}
variable {y13 : Vec Ideal S128x16384 .f32} {G : BufTy.Contents (Elt Ideal) arg13.view.ty} {init : FVec Ideal S80x512 .f32 × FVec Ideal S64x512 .f32}

attribute [local irreducible] st_k0_t1 st_k0_t2 st_k0_t3 st_k0_t4

set_option maxHeartbeats 4000000 in
theorem runC_left (hc1 : ¬k0_cond2 i wideEnd = 1#1) :
    Left ⟨(runC (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13).1, (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13).2.1, (runC (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13).2.2.1⟩ arg13 harg13 i x4 x5 x6 x7 x8 x9 x10 x11 x12 y13 := by
  have hi : (i 1).val < 32 := (i 1).isLt
  have hodd := mt (odd_iff i).mpr hc1
  refine ⟨_, _, rfl, rfl, ?_⟩
  unfold runC
  dsimp only [runC.sl.r, runC.sl.r_1, runC.sl.r_4, runC.sl.r_5]
  refine after4 (word2 i arg3 harg3 _) rfl ?_
  refine after3 (word2 i arg3 harg3 _) rfl (by unfold wideAt; omega) h21_of h23_of h25_of ?_
  refine after2 (word1 i arg2 harg2 _) rfl ?_
  refine after1 (word1 i arg2 harg2 _) rfl h21_of h23_of h25_of ?_
  exact diagAtView

set_option maxHeartbeats 4000000 in
theorem runB_left (hc1 : k0_cond2 i wideEnd = 1#1) :
    Left ⟨(runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13).1, (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13).2.1, (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13).2.2.1⟩ arg13 harg13 i x4 x5 x6 x7 x8 x9 x10 x11 x12 y13 := by
  have hi : (i 1).val < 32 := (i 1).isLt
  have hodd := (odd_iff i).mp hc1
  refine ⟨_, _, rfl, rfl, ?_⟩
  unfold runB
  dsimp only [runB.sl.r, runB.sl.r_1, runB.sl.r_4, runB.sl.r_5, runB.sl.r_6, runB.sl.r_7, runB.sl.v182]
  refine lastAt (word2 i arg3 harg3 _) (by omega) h21_of h23_of h25_of rfl rfl rfl rfl rfl rfl rfl ?_
  refine after4 (word2 i arg3 harg3 _) rfl ?_
  refine after3 (word2 i arg3 harg3 _) rfl (by unfold wideAt; omega) h21_of h23_of h25_of ?_
  refine after2 (word1 i arg2 harg2 _) rfl ?_
  refine after1 (word1 i arg2 harg2 _) rfl h21_of h23_of h25_of ?_
  exact diagAtView

/-- Either way. -/
theorem run_left :
    Left ⟨(run (F := Ideal) c i arg2 harg2 arg3 harg3 arg4 harg4 arg5 harg5 arg6 harg6 arg7 harg7 arg8 harg8 arg9 harg9 arg10 harg10 arg11 harg11 arg12 harg12 arg13 harg13 arg14 harg14 arg15 harg15 x4 x5 x6 x7 x8 x9 x10 x11 x12 y13).1, (run (F := Ideal) c i arg2 harg2 arg3 harg3 arg4 harg4 arg5 harg5 arg6 harg6 arg7 harg7 arg8 harg8 arg9 harg9 arg10 harg10 arg11 harg11 arg12 harg12 arg13 harg13 arg14 harg14 arg15 harg15 x4 x5 x6 x7 x8 x9 x10 x11 x12 y13).2.1, (run (F := Ideal) c i arg2 harg2 arg3 harg3 arg4 harg4 arg5 harg5 arg6 harg6 arg7 harg7 arg8 harg8 arg9 harg9 arg10 harg10 arg11 harg11 arg12 harg12 arg13 harg13 arg14 harg14 arg15 harg15 x4 x5 x6 x7 x8 x9 x10 x11 x12 y13).2.2.1⟩ arg13 harg13 i x4 x5 x6 x7 x8 x9 x10 x11 x12 y13 := by
  by_cases hc1 : k0_cond2 i wideEnd = 1#1
  · rw [show run (F := Ideal) c i arg2 harg2 arg3 harg3 arg4 harg4 arg5 harg5 arg6 harg6 arg7 harg7 arg8 harg8 arg9 harg9 arg10 harg10 arg11 harg11 arg12 harg12 arg13 harg13 arg14 harg14 arg15 harg15 x4 x5 x6 x7 x8 x9 x10 x11 x12 y13 = runB (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13 from dif_pos hc1]
    exact runB_left hc1
  · rw [show run (F := Ideal) c i arg2 harg2 arg3 harg3 arg4 harg4 arg5 harg5 arg6 harg6 arg7 harg7 arg8 harg8 arg9 harg9 arg10 harg10 arg11 harg11 arg12 harg12 arg13 harg13 arg14 harg14 arg15 harg15 x4 x5 x6 x7 x8 x9 x10 x11 x12 y13 = runC (F := Ideal) c i arg2 harg2 arg3 harg3 arg4 harg4 arg5 harg5 arg6 harg6 arg7 harg7 arg8 harg8 arg9 harg9 arg10 harg10 arg11 harg11 arg12 harg12 arg13 harg13 arg14 harg14 arg15 harg15 hc1 x4 x5 x6 x7 x8 x9 x10 x11 x12 y13 from dif_neg hc1]
    exact runC_left hc1

end loops

end Cert.Proof.Foxb

end
-- ==== Proof.FoxbVal.lean ====
/-
  The gradient of the forgetting attention: what its grid points leave, each entry a sum over every key or every query of
  its head.
-/
module

public import proofs.«01_k».proof.Proof.FoxbEnd
public import proofs.«01_k».proof.Proof.FoxbBlk

@[expose] public section

set_option maxRecDepth 16384

noncomputable section

namespace Cert.Proof.Foxb

open Cert.FoxbIdeal Cert.FoxbIdeal.Gen Idealize.ShloMosaic Idealize.ShloMosaic.TcCoe Idealize.SL.Sem
open Idealize.ShloMosaic.Pipeline (Dat)

variable (m : (ℓ : Loc nD τ sig) → Buf (Elt Ideal) ℓ) (c : Dev nD)

section points
variable (t : Fin cfg0.N)

/-- What a point leaves. -/
theorem left_at (y13 : Vec Ideal S128x16384 .f32) :
    Left ⟨(runAt m c t y13).1, (runAt m c t y13).2.1, (runAt m c t y13).2.2.1⟩ (win0_11.stage (cfg0.slots t 11)) (hstage0_11 ((cfg0.slots t 11).cast nbuf0_11))
      (grid0.coords t) (iblk m c 2 t) (iblk m c 3 t) (iblk m c 4 t) (iblk m c 5 t) (iblk m c 6 t) (iblk m c 7 t) (iblk m c 8 t) (iblk m c 9 t) (iblk m c 10 t) y13 := by
  unfold runAt
  exact run_left

/-- What a point adds to the rows of queries. -/
def dqTerm (t : Fin cfg0.N) (y : S128x16384.Idx) : EReal :=
  if (y 0).val < 80 then ∑ j : Fin 512, aKt m c (ix2 (lane (hd t) (y 0)) (key (kb t) j)) * dG m c (hd t) (y 1) (key (kb t) j) else 0

theorem dqNext_apply (x13 : Vec Ideal S128x16384 .f32) (y : S128x16384.Idx) :
    dqNext m c t x13 y = startAt (grid0.coords t) x13 y + dqTerm m c t y := by
  obtain ⟨r, n, rfl⟩ : ∃ (r : Fin 128) (n : Fin 16384), y = ix2 r n := ⟨y 0, y 1, (ix2_eta y).symm⟩
  obtain ⟨A, B, -, -, g⟩ := left_at m c t (startAt (grid0.coords t) x13)
  refine (g.y r n).trans ?_
  congr 1
  show _ = if r.val < 80 then ∑ j : Fin 512, aKt m c (ix2 (lane (hd t) r) (key (kb t) j)) * dG m c (hd t) n (key (kb t) j) else 0
  by_cases hr : r.val < 80
  · rw [if_pos hr, if_pos ⟨hr, n.isLt⟩]
    exact Finset.sum_congr rfl fun j _ => congrArg₂ (· * ·) (blk5 m c t r j) (D_at m c t j n)
  · rw [if_neg hr, if_neg fun h => hr h.1]

theorem dq_zero (h : t.val % 32 = 0) (y : S128x16384.Idx) : dqAfter m c t y = 0 + dqTerm m c t y := by
  unfold dqAfter
  rw [dqNext_apply, startAt, if_pos ((first_iff t).mpr h)]
  congr 1
  unfold k0_pay27
  pointwise []

theorem dq_succ (h : ¬t.val % 32 = 0) (y : S128x16384.Idx) :
    dqAfter m c t y = dqAfter m c ⟨t.val - 1, Nat.lt_of_le_of_lt (Nat.sub_le _ _) t.isLt⟩ y + dqTerm m c t y := by
  rw [dqAfter, dqNext_apply, startAt, if_neg (mt (first_iff t).mp h)]
  congr 1
  obtain ⟨n, hn⟩ := t
  cases n with
  | zero => exact absurd rfl h
  | succ n => rfl

theorem dq_last (h : t.val % 32 = 31) (r : Fin 128) (n : Fin 16384) :
    dqAfter m c t (ix2 r n) = if r.val < 80 then ∑ J : Fin 16384, aKt m c (ix2 (lane (hd t) r) J) * dG m c (hd t) n J else 0 := by
  have e := Pipeline.eq_sum_fin_of_reset_step_apply_of_flush (fun n h => dqAfter m c ⟨n, h⟩) 32 (fun _ => (0 : EReal))
    (dqTerm m c) (fun t h i => dq_zero m c t h i) (fun t h i => dq_succ m c t h i) t h (ix2 r n)
  refine e.trans ?_
  rw [zero_add]
  have hp := lt256 t
  by_cases hr : r.val < 80
  · rw [if_pos hr, ← Fin.sum_mul_add_fin 32 512 fun J : Fin 16384 => aKt m c (ix2 (lane (hd t) r) J) * dG m c (hd t) n J]
    refine Finset.sum_congr rfl fun s _ => ?_
    refine (if_pos hr).trans (Finset.sum_congr rfl fun j _ => ?_)
    have eh : ∀ q : Fin cfg0.N, q.val = 32 * (t.val / 32) + s.val → hd q = hd t := fun q hq => Fin.ext (by show q.val / 32 = t.val / 32; omega)
    have ek : ∀ q : Fin cfg0.N, q.val = 32 * (t.val / 32) + s.val → kb q = s := fun q hq => Fin.ext (by show q.val % 32 = s.val; omega)
    rw [eh _ rfl, ek _ rfl]
    rw [show key s j = (⟨s.val * 512 + j.val, by omega⟩ : Fin 16384) from Fin.ext (by show 512 * s.val + j.val = _; dsimp only; omega)]
    rfl
  · rw [if_neg hr]
    exact Finset.sum_eq_zero fun s _ => if_neg hr

abbrev rTop := Rect.unit (s := S128x512) ![0, 0] ![80, 512] inb_S128x512_S80x512_0_0
abbrev rBot := Rect.unit (s := S128x512) ![80, 0] ![48, 512] inb_S128x512_S48x512_80_0

theorem not_bot (r : Fin 128) (j : Fin 512) (hr : r.val < 80) : (ix2 r j : S128x512.Idx) ∉ rBot.set := by
  rw [Rect.mem_set_unit]
  intro h
  have h' : (80 : ℕ) ≤ r.val := (h 0).1
  exact absurd hr (Nat.not_lt.mpr h')

theorem top_emb (r : Fin 128) (j : Fin 512) (hr : r.val < 80) : rTop.emb (ix2 ⟨r.val, hr⟩ j : S80x512.Idx) = (ix2 r j : S128x512.Idx) := by
  funext a
  apply Fin.ext
  match a with
  | ⟨0, _⟩ => show 0 + 1 * r.val = r.val; omega
  | ⟨1, _⟩ => show 0 + 1 * j.val = j.val; omega

theorem canon_rows (Z : FVec Ideal S48x512 .f32) (A : FVec Ideal S80x512 .f32) (r : Fin 128) (j : Fin 512) (hr : r.val < 80) :
    View.canon (Val := Elt Ideal) (s := S128x512) (e := .f32) [⟨rBot, Z⟩, ⟨rTop, A⟩] (ix2 r j) = A (ix2 ⟨r.val, hr⟩ j) := by
  have e1 := View.canon_cons_of_not_mem (Val := Elt Ideal) (s := S128x512) (e := .f32) ⟨rBot, Z⟩ [⟨rTop, A⟩] (y := ix2 r j) (not_bot r j hr)
  have e2 := View.canon_cons_emb (Val := Elt Ideal) (e := .f32) rTop A [] (ix2 ⟨r.val, hr⟩ j)
  exact e1.trans ((congrArg (View.canon (Val := Elt Ideal) (s := S128x512) (e := .f32) [⟨rTop, A⟩]) (top_emb r j hr)).symm.trans e2)

theorem dk_at (r : Fin 128) (j : Fin 512) (hr : r.val < 80) :
    dkAfter m c t (ix2 r j) = ∑ n : Fin 16384, aQt m c (ix2 (lane (hd t) r) n) * dG m c (hd t) n (key (kb t) j) := by
  unfold dkAfter
  obtain ⟨A, B, e1, -, g⟩ := left_at m c t (startAt (grid0.coords t) (dqBefore m c t.val t.isLt))
  dsimp only at e1
  rw [e1]
  refine (canon_rows _ A r j hr).trans ((g.a ⟨r.val, hr⟩ j).trans ?_)
  rw [Finset.sum_range]
  refine Finset.sum_congr rfl fun n _ => ?_
  rw [D_at, col_eq]
  exact congrArg (· * _) (blk3 m c t r n)

theorem dv_at (d : Fin 64) (j : Fin 512) :
    dvAfter m c t (ix2 d j) = ∑ n : Fin 16384, aOt m c (ix2 ⟨64 * (hd t).val + d.val, by omega⟩ n) * pG m c (hd t) n (key (kb t) j) := by
  unfold dvAfter
  obtain ⟨A, B, -, e1, g⟩ := left_at m c t (startAt (grid0.coords t) (dqBefore m c t.val t.isLt))
  dsimp only at e1
  rw [e1]
  have hi : (Rect.unit (s := S64x512) ![0, 0] ![64, 512] inb_S64x512_S64x512_0_0).emb (ix2 d j : S64x512.Idx) = (ix2 d j : S64x512.Idx) := by
    funext a
    apply Fin.ext
    match a with
    | ⟨0, _⟩ => show 0 + 1 * d.val = d.val; omega
    | ⟨1, _⟩ => show 0 + 1 * j.val = j.val; omega
  refine ((congrArg _ hi).symm.trans (View.canon_cons_emb (Val := Elt Ideal) (e := .f32) (Rect.unit (s := S64x512) ![0, 0] ![64, 512] inb_S64x512_S64x512_0_0) B [] (ix2 d j))).trans ((g.b d j).trans ?_)
  rw [Finset.sum_range]
  refine Finset.sum_congr rfl fun n _ => ?_
  have hx : half (hd t) ⟨64 * hh (grid0.coords t) + d.val, by have := hh_lt (grid0.coords t); omega⟩ = ⟨64 * (hd t).val + d.val, by omega⟩ :=
    Fin.ext (by show 128 * ((hd t).val / 2) + (64 * hh (grid0.coords t) + d.val) = 64 * (hd t).val + d.val; rw [hh_at t]; omega)
  rw [P_at, col_eq, ← hx]
  exact congrArg (· * _) (blk8 m c t _ n)

end points

end Cert.Proof.Foxb

end
-- ==== Proof.FoxbArr.lean ====
/-
  The gradient of the forgetting attention: the three arrays after the run, and the results the host lines take of them.
-/
module

public import proofs.«01_k».proof.Proof.FoxbVal

@[expose] public section

set_option maxRecDepth 16384

noncomputable section

namespace Cert.Proof.Foxb

open Cert.FoxbIdeal Cert.FoxbIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of head `h` of the queries' gradient. -/
def dqG (h : Fin 8) (r : Fin 128) (n : Fin 16384) : EReal := ∑ J : Fin 16384, aKt m c (ix2 (lane h r) J) * dG m c h n J
def dkG (h : Fin 8) (r : Fin 128) (J : Fin 16384) : EReal := ∑ n : Fin 16384, aQt m c (ix2 (lane h r) n) * dG m c h n J
def dvG (R : Fin 512) (J : Fin 16384) : EReal := ∑ n : Fin 16384, aOt m c (ix2 R n) * pG m c ⟨R.val / 64, by omega⟩ n J

theorem oemb11 (t : Fin cfg0.N) (y : S128x16384.Idx) (z : S1024x16384.Idx) (h0 : (z 0).val = win0_11.index t 0 * 128 + 1 * (y 0).val) (h1 : (z 1).val = win0_11.index t 1 * 16384 + 1 * (y 1).val) :
    (((cfg0.win 11).blk t).view.emb y : S1024x16384.Idx) = z := by
  funext a
  apply Fin.ext
  match a with
  | ⟨0, _⟩ => exact h0.symm
  | ⟨1, _⟩ => exact h1.symm

theorem mem_blk11 (t : Fin cfg0.N) (i : S1024x16384.Idx) (h0 : win0_11.index t 0 * 128 ≤ (i 0).val ∧ (i 0).val < win0_11.index t 0 * 128 + 128)
    (h1 : win0_11.index t 1 * 16384 ≤ (i 1).val ∧ (i 1).val < win0_11.index t 1 * 16384 + 16384) : i ∈ ((cfg0.win 11).blk t).view.set := by
  show i ∈ ((View.whole main_v95_0).slice (win0_11.rect t)).set
  rw [View.set_slice_whole, Rect.mem_set_unit]
  intro a
  match a with
  | ⟨0, _⟩ => exact h0
  | ⟨1, _⟩ => exact h1

theorem oemb12 (t : Fin cfg0.N) (y : S128x512.Idx) (z : S1024x16384.Idx) (h0 : (z 0).val = win0_12.index t 0 * 128 + 1 * (y 0).val) (h1 : (z 1).val = win0_12.index t 1 * 512 + 1 * (y 1).val) :
    (((cfg0.win 12).blk t).view.emb y : S1024x16384.Idx) = z := by
  funext a
  apply Fin.ext
  match a with
  | ⟨0, _⟩ => exact h0.symm
  | ⟨1, _⟩ => exact h1.symm

theorem mem_blk12 (t : Fin cfg0.N) (i : S1024x16384.Idx) (h0 : win0_12.index t 0 * 128 ≤ (i 0).val ∧ (i 0).val < win0_12.index t 0 * 128 + 128)
    (h1 : win0_12.index t 1 * 512 ≤ (i 1).val ∧ (i 1).val < win0_12.index t 1 * 512 + 512) : i ∈ ((cfg0.win 12).blk t).view.set := by
  show i ∈ ((View.whole main_v95_1).slice (win0_12.rect t)).set
  rw [View.set_slice_whole, Rect.mem_set_unit]
  intro a
  match a with
  | ⟨0, _⟩ => exact h0
  | ⟨1, _⟩ => exact h1

theorem oemb13 (t : Fin cfg0.N) (y : S64x512.Idx) (z : S512x16384.Idx) (h0 : (z 0).val = win0_13.index t 0 * 64 + 1 * (y 0).val) (h1 : (z 1).val = win0_13.index t 1 * 512 + 1 * (y 1).val) :
    (((cfg0.win 13).blk t).view.emb y : S512x16384.Idx) = z := by
  funext a
  apply Fin.ext
  match a with
  | ⟨0, _⟩ => exact h0.symm
  | ⟨1, _⟩ => exact h1.symm

theorem mem_blk13 (t : Fin cfg0.N) (i : S512x16384.Idx) (h0 : win0_13.index t 0 * 64 ≤ (i 0).val ∧ (i 0).val < win0_13.index t 0 * 64 + 64)
    (h1 : win0_13.index t 1 * 512 ≤ (i 1).val ∧ (i 1).val < win0_13.index t 1 * 512 + 512) : i ∈ ((cfg0.win 13).blk t).view.set := by
  show i ∈ ((View.whole main_v95_2).slice (win0_13.rect t)).set
  rw [View.set_slice_whole, Rect.mem_set_unit]
  intro a
  match a with
  | ⟨0, _⟩ => exact h0
  | ⟨1, _⟩ => exact h1

theorem point_lt {n : ℕ} (h : n < 256) : n < cfg0.N := lt_of_lt_of_eq h N_0.symm

theorem point11 (a b : ℕ) (ha : a < 1024) (hb : b < 16384) : ∃ t : Fin cfg0.N, (cfg0.win 11).flush t = true ∧ win0_11.index t 0 = a / 128 ∧ win0_11.index t 1 = 0 := by
  obtain ⟨t, ht⟩ : ∃ t : Fin cfg0.N, t.val = 32 * (a / 128) + 31 := ⟨⟨32 * (a / 128) + 31, point_lt (by omega)⟩, rfl⟩
  obtain ⟨e0, e1⟩ := idx11 t
  exact ⟨t, (flush0_11 t).mpr (by rw [ht]; omega), by rw [e0, ht]; omega, e1⟩

theorem covered11 (i : S1024x16384.Idx) : ∃ t : Fin cfg0.N, (cfg0.win 11).flush t = true ∧ i ∈ ((cfg0.win 11).blk t).view.set := by
  have ha : (i 0).val < 1024 := (i 0).isLt
  have hb : (i 1).val < 16384 := (i 1).isLt
  obtain ⟨t, hf, e0, e1⟩ := point11 (i 0).val (i 1).val ha hb
  refine ⟨t, hf, mem_blk11 t i ?_ ?_⟩
  · rw [e0]; generalize (i 0).val = a; omega
  · rw [e1]; generalize (i 1).val = b at hb; omega

theorem point12 (a b : ℕ) (ha : a < 1024) (hb : b < 16384) : ∃ t : Fin cfg0.N, (cfg0.win 12).flush t = true ∧ win0_12.index t 0 = a / 128 ∧ win0_12.index t 1 = b / 512 := by
  obtain ⟨t, ht⟩ : ∃ t : Fin cfg0.N, t.val = 32 * (a / 128) + b / 512 := ⟨⟨32 * (a / 128) + b / 512, point_lt (by omega)⟩, rfl⟩
  obtain ⟨e0, e1⟩ := idx12 t
  exact ⟨t, flush0_12 t, by rw [e0, ht]; omega, by rw [e1, ht]; omega⟩

theorem covered12 (i : S1024x16384.Idx) : ∃ t : Fin cfg0.N, (cfg0.win 12).flush t = true ∧ i ∈ ((cfg0.win 12).blk t).view.set := by
  have ha : (i 0).val < 1024 := (i 0).isLt
  have hb : (i 1).val < 16384 := (i 1).isLt
  obtain ⟨t, hf, e0, e1⟩ := point12 (i 0).val (i 1).val ha hb
  refine ⟨t, hf, mem_blk12 t i ?_ ?_⟩
  · rw [e0]; generalize (i 0).val = a; omega
  · rw [e1]; generalize (i 1).val = b at hb; omega

theorem point13 (a b : ℕ) (ha : a < 512) (hb : b < 16384) : ∃ t : Fin cfg0.N, (cfg0.win 13).flush t = true ∧ win0_13.index t 0 = a / 64 ∧ win0_13.index t 1 = b / 512 := by
  obtain ⟨t, ht⟩ : ∃ t : Fin cfg0.N, t.val = 32 * (a / 64) + b / 512 := ⟨⟨32 * (a / 64) + b / 512, point_lt (by omega)⟩, rfl⟩
  obtain ⟨e0, e1⟩ := idx13 t
  exact ⟨t, flush0_13 t, by rw [e0, ht]; omega, by rw [e1, ht]; omega⟩

theorem covered13 (i : S512x16384.Idx) : ∃ t : Fin cfg0.N, (cfg0.win 13).flush t = true ∧ i ∈ ((cfg0.win 13).blk t).view.set := by
  have ha : (i 0).val < 512 := (i 0).isLt
  have hb : (i 1).val < 16384 := (i 1).isLt
  obtain ⟨t, hf, e0, e1⟩ := point13 (i 0).val (i 1).val ha hb
  refine ⟨t, hf, mem_blk13 t i ?_ ?_⟩
  · rw [e0]; generalize (i 0).val = a; omega
  · rw [e1]; generalize (i 1).val = b at hb; omega

theorem arr11 (h : Fin 8) (r : Fin 128) (hr : r.val < 80) (n : Fin 16384) : ((dats m 0 c).arrAt 11 cfg0.N : FVec Ideal S1024x16384 .f32) (ix2 (lane h r) n) = dqG m c h r n := by
  have key : ∀ i : S1024x16384.Idx, ∀ (h : Fin 8) (r : Fin 128) (n : Fin 16384), r.val < 80 → i = ix2 (lane h r) n → ((dats m 0 c).arrAt 11 cfg0.N : FVec Ideal S1024x16384 .f32) i = dqG m c h r n := by
    intro i
    refine (dats m 0 c).arrAt_forall_of_cover 11 (fun i v => ∀ (h : Fin 8) (r : Fin 128) (n : Fin 16384), r.val < 80 → i = (ix2 (lane h r) n : S1024x16384.Idx) → v = dqG m c h r n) ?_ ?_ i
    · intro t hf y
      have ht : t.val % 32 = 31 := (flush0_11 t).mp hf
      obtain ⟨e0, e1⟩ := idx11 t
      obtain ⟨r', n', rfl⟩ : ∃ (r : Fin 128) (n : Fin 16384), y = ix2 r n := ⟨y 0, y 1, (ix2_eta y).symm⟩
      have he : (((cfg0.win 11).blk t).view.emb (ix2 r' n' : S128x16384.Idx) : S1024x16384.Idx) = ix2 (lane (hd t) r') n' :=
        oemb11 t _ _ (by rw [e0]; show 128 * (t.val / 32) + r'.val = t.val / 32 * 128 + 1 * r'.val; omega) (by rw [e1]; show n'.val = 0 * 16384 + 1 * n'.val; omega)
      intro h r n hr hi
      replace hi := he.symm.trans hi
      have h0 : 128 * (t.val / 32) + r'.val = 128 * h.val + r.val := congrArg (fun z : S1024x16384.Idx => (z 0).val) hi
      have h1 : n' = n := congrArg (fun z : S1024x16384.Idx => z 1) hi
      obtain rfl : r' = r := Fin.ext (by omega)
      obtain rfl : hd t = h := Fin.ext (by show t.val / 32 = h.val; omega)
      subst h1
      refine Eq.trans ?_ ((dq_last m c t ht r' n').trans (if_pos hr))
      show (cfg0.win 11).cut (grid0.coords t) ((dats m 0 c).after 11 t) (ix2 r' n' : S128x16384.Idx) = _
      rw [after_11]
      rfl
    · exact covered11
  exact key _ h r n hr rfl

theorem arr12 (h : Fin 8) (r : Fin 128) (hr : r.val < 80) (J : Fin 16384) : ((dats m 0 c).arrAt 12 cfg0.N : FVec Ideal S1024x16384 .f32) (ix2 (lane h r) J) = dkG m c h r J := by
  have key' : ∀ i : S1024x16384.Idx, ∀ (h : Fin 8) (r : Fin 128) (n : Fin 16384), r.val < 80 → i = ix2 (lane h r) n → ((dats m 0 c).arrAt 12 cfg0.N : FVec Ideal S1024x16384 .f32) i = dkG m c h r n := by
    intro i
    refine (dats m 0 c).arrAt_forall_of_cover 12 (fun i v => ∀ (h : Fin 8) (r : Fin 128) (n : Fin 16384), r.val < 80 → i = (ix2 (lane h r) n : S1024x16384.Idx) → v = dkG m c h r n) ?_ ?_ i
    · intro t _ y
      obtain ⟨e0, e1⟩ := idx12 t
      obtain ⟨r', j, rfl⟩ : ∃ (r : Fin 128) (n : Fin 512), y = ix2 r n := ⟨y 0, y 1, (ix2_eta y).symm⟩
      have he : (((cfg0.win 12).blk t).view.emb (ix2 r' j : S128x512.Idx) : S1024x16384.Idx) = ix2 (lane (hd t) r') (key (kb t) j) :=
        oemb12 t _ _ (by rw [e0]; show 128 * (t.val / 32) + r'.val = t.val / 32 * 128 + 1 * r'.val; omega) (by rw [e1]; show 512 * (t.val % 32) + j.val = t.val % 32 * 512 + 1 * j.val; omega)
      intro h r n hr hi
      replace hi := he.symm.trans hi
      have h0 : 128 * (t.val / 32) + r'.val = 128 * h.val + r.val := congrArg (fun z : S1024x16384.Idx => (z 0).val) hi
      have h1 : key (kb t) j = n := congrArg (fun z : S1024x16384.Idx => z 1) hi
      obtain rfl : r' = r := Fin.ext (by omega)
      obtain rfl : hd t = h := Fin.ext (by show t.val / 32 = h.val; omega)
      subst h1
      refine Eq.trans ?_ (dk_at m c t r' j hr)
      show (cfg0.win 12).cut (grid0.coords t) ((dats m 0 c).after 12 t) (ix2 r' j : S128x512.Idx) = _
      rw [after_12]
      rfl
    · exact covered12
  exact key' _ h r J hr rfl

theorem arr13 (R : Fin 512) (J : Fin 16384) : ((dats m 0 c).arrAt 13 cfg0.N : FVec Ideal S512x16384 .f32) (ix2 R J) = dvG m c R J := by
  have key' : ∀ i : S512x16384.Idx, ∀ (R : Fin 512) (n : Fin 16384), i = ix2 R n → ((dats m 0 c).arrAt 13 cfg0.N : FVec Ideal S512x16384 .f32) i = dvG m c R n := by
    intro i
    refine (dats m 0 c).arrAt_forall_of_cover 13 (fun i v => ∀ (R : Fin 512) (n : Fin 16384), i = (ix2 R n : S512x16384.Idx) → v = dvG m c R n) ?_ ?_ i
    · intro t _ y
      obtain ⟨e0, e1⟩ := idx13 t
      have hl := lt256 t
      obtain ⟨d, j, rfl⟩ : ∃ (r : Fin 64) (n : Fin 512), y = ix2 r n := ⟨y 0, y 1, (ix2_eta y).symm⟩
      have hb : 64 * (hd t).val + d.val < 512 := by have := (hd t).isLt; omega
      have he : (((cfg0.win 13).blk t).view.emb (ix2 d j : S64x512.Idx) : S512x16384.Idx) = ix2 ⟨64 * (hd t).val + d.val, hb⟩ (key (kb t) j) :=
        oemb13 t _ _ (by rw [e0]; show 64 * (t.val / 32) + d.val = t.val / 32 * 64 + 1 * d.val; omega) (by rw [e1]; show 512 * (t.val % 32) + j.val = t.val % 32 * 512 + 1 * j.val; omega)
      intro R n hi
      replace hi := he.symm.trans hi
      have h0 : (⟨64 * (hd t).val + d.val, hb⟩ : Fin 512) = R := congrArg (fun z : S512x16384.Idx => z 0) hi
      have h1 : key (kb t) j = n := congrArg (fun z : S512x16384.Idx => z 1) hi
      subst h0
      subst h1
      refine Eq.trans ?_ ((dv_at m c t d j).trans ?_)
      · show (cfg0.win 13).cut (grid0.coords t) ((dats m 0 c).after 13 t) (ix2 d j : S64x512.Idx) = _
        rw [after_13]
        rfl
      · unfold dvG
        have e : (⟨(64 * (hd t).val + d.val) / 64, by omega⟩ : Fin 8) = hd t := Fin.ext (by show (64 * (hd t).val + d.val) / 64 = (hd t).val; omega)
        exact Finset.sum_congr rfl fun n _ => congrArg (fun h => aOt m c (ix2 ⟨64 * (hd t).val + d.val, hb⟩ n) * pG m c h n (key (kb t) j)) e.symm
    · exact covered13
  exact key' _ R J rfl

/-! ### The host lines after the call -/

abbrev tail (b : Ref sig .tc) := Pipeline.afterTail₀ cfgs (dats m) 0 (V0 m) [hostOps1] c b

theorem inj0 : Function.Injective (Pipeline.arrRef spec0) := by decide

theorem at0 (w : Fin cfg0.W) : Pipeline.withArrays spec0 c (V0 m c) (fun w => (dats m 0 c).arrAt w cfg0.N) (Proc.devRef .tc (Pipeline.arrRef spec0 w)) = (dats m 0 c).arrAt w cfg0.N :=
  Pipeline.withArrays_arr spec0 inj0 c _ _ w

section slices
variable (x : FVec Ideal S1024x16384 .f32)

theorem heads_apply (h : Fin 8) (r : Fin 128) (n : Fin 16384) : shapeCast S8x128x16384 x shapeCasts_S1024x16384_S8x128x16384 (ix3 h r n) = x (ix2 (lane h r) n) := by
  pointwise []
  exact congrArg (fun z => x (ix2 z n)) (Fin.ext (by show _ = 128 * h.val + r.val; dsimp only; omega))

theorem first64 (y : FVec Ideal S8x128x16384 .f32) (h : Fin 8) (d : Fin 64) (n : Fin 16384) :
    extractStridedSlice S8x64x16384 ![0, 0, 0] y slices_S8x128x16384_S8x64x16384_0_0_0 (ix3 h d n) = y (ix3 h ⟨d.val, by omega⟩ n) := by
  pointwise []

theorem row64 (y : FVec Ideal S8x128x16384 .f32) (h : Fin 8) (n : Fin 16384) :
    shapeCast S8x16384 (extractStridedSlice S8x1x16384 ![0, 64, 0] y slices_S8x128x16384_S8x1x16384_0_64_0) shapeCasts_S8x1x16384_S8x16384 (ix2 h n) = y (ix3 h 64 n) := by
  pointwise []

theorem row67 (y : FVec Ideal S8x128x16384 .f32) (h : Fin 8) (n : Fin 16384) :
    shapeCast S8x16384 (extractStridedSlice S8x1x16384 ![0, 67, 0] y slices_S8x128x16384_S8x1x16384_0_67_0) shapeCasts_S8x1x16384_S8x16384 (ix2 h n) = y (ix3 h 67 n) := by
  pointwise []

end slices

def A11 : FVec Ideal S1024x16384 .f32 := (dats m 0 c).arrAt 11 cfg0.N
def A12 : FVec Ideal S1024x16384 .f32 := (dats m 0 c).arrAt 12 cfg0.N

theorem tail_v98 : tail m c main_v98 = (extractStridedSlice S8x64x16384 ![0, 0, 0] (shapeCast S8x128x16384 (A11 m c) shapeCasts_S1024x16384_S8x128x16384) slices_S8x128x16384_S8x64x16384_0_0_0 : FVec Ideal S8x64x16384 .f32) := by
  have e11 := at0 m c 11
  have e12 := at0 m c 12
  unfold tail Pipeline.afterTail₀ A11
  generalize Pipeline.withArrays spec0 c (V0 m c) (fun w => (dats m 0 c).arrAt w cfg0.N) = W at e11 e12 ⊢
  rw [← e11]
  dsimp only [hostOps1, List.flatten_cons, List.flatten_nil, List.append_nil, List.cons_append, List.nil_append]
  after_results
  rfl

theorem tail_v99 : tail m c main_v99 = (extractStridedSlice S8x64x16384 ![0, 0, 0] (shapeCast S8x128x16384 (A12 m c) shapeCasts_S1024x16384_S8x128x16384) slices_S8x128x16384_S8x64x16384_0_0_0 : FVec Ideal S8x64x16384 .f32) := by
  have e11 := at0 m c 11
  have e12 := at0 m c 12
  unfold tail Pipeline.afterTail₀ A12
  generalize Pipeline.withArrays spec0 c (V0 m c) (fun w => (dats m 0 c).arrAt w cfg0.N) = W at e11 e12 ⊢
  rw [← e12]
  dsimp only [hostOps1, List.flatten_cons, List.flatten_nil, List.append_nil, List.cons_append, List.nil_append]
  after_results
  rfl

theorem tail_v101 : tail m c main_v101 = (shapeCast S8x16384 (extractStridedSlice S8x1x16384 ![0, 64, 0] (shapeCast S8x128x16384 (A11 m c) shapeCasts_S1024x16384_S8x128x16384) slices_S8x128x16384_S8x1x16384_0_64_0) shapeCasts_S8x1x16384_S8x16384 : FVec Ideal S8x16384 .f32) := by
  have e11 := at0 m c 11
  have e12 := at0 m c 12
  unfold tail Pipeline.afterTail₀ A11
  generalize Pipeline.withArrays spec0 c (V0 m c) (fun w => (dats m 0 c).arrAt w cfg0.N) = W at e11 e12 ⊢
  rw [← e11]
  dsimp only [hostOps1, List.flatten_cons, List.flatten_nil, List.append_nil, List.cons_append, List.nil_append]
  after_results
  rfl

theorem tail_v103 : tail m c main_v103 = (shapeCast S8x16384 (extractStridedSlice S8x1x16384 ![0, 67, 0] (shapeCast S8x128x16384 (A12 m c) shapeCasts_S1024x16384_S8x128x16384) slices_S8x128x16384_S8x1x16384_0_67_0) shapeCasts_S8x1x16384_S8x16384 : FVec Ideal S8x16384 .f32) := by
  have e11 := at0 m c 11
  have e12 := at0 m c 12
  unfold tail Pipeline.afterTail₀ A12
  generalize Pipeline.withArrays spec0 c (V0 m c) (fun w => (dats m 0 c).arrAt w cfg0.N) = W at e11 e12 ⊢
  rw [← e12]
  dsimp only [hostOps1, List.flatten_cons, List.flatten_nil, List.append_nil, List.cons_append, List.nil_append]
  after_results
  rfl

end Cert.Proof.Foxb

end
-- ==== Proof.FoxbGrad.lean ====
/-
  The gradient of the forgetting attention: what the call returns, in terms of the arguments.
-/
module

public import proofs.«01_k».proof.Proof.FoxbRow
public import proofs.«01_k».proof.Proof.FoxbArr

@[expose] public section

set_option maxRecDepth 16384

noncomputable section

namespace Cert.Proof.Foxb

open Cert.FoxbIdeal Cert.FoxbIdeal.Gen Idealize.ShloMosaic Idealize.ShloMosaic.TcCoe Idealize.SL.Sem
open Cert.RealMath Cert.FoxMath

theorem sum128 (g : Fin 128 → EReal) :
    ∑ l, g l = (∑ d : Fin 64, g ⟨d.val, by omega⟩) + ∑ d : Fin 64, g ⟨64 + d.val, by omega⟩ :=
  Fin.sum_univ_add (a := 64) (b := 64) g

theorem sum64 (g : Fin 64 → EReal) (h : ∀ i : Fin 58, g ⟨6 + i.val, by omega⟩ = 0) :
    ∑ l, g l = g 0 + g 1 + g 2 + g 3 + g 4 + g 5 := by
  have e : ∑ i : Fin 58, g (Fin.natAdd 6 i) = 0 := Finset.sum_eq_zero fun i _ => h i
  rw [Fin.sum_univ_add (a := 6) (b := 58) g, e, add_zero, Fin.sum_univ_six]
  rfl

theorem sumLanes (G : Fin 128 → EReal) (h : ∀ i : Fin 58, G ⟨64 + (6 + i.val), by omega⟩ = 0) :
    ∑ l, G l = (∑ d : Fin 64, G ⟨d.val, by omega⟩)
      + (G ⟨64, by omega⟩ + G ⟨65, by omega⟩ + G ⟨66, by omega⟩ + G ⟨67, by omega⟩ + G ⟨68, by omega⟩ + G ⟨69, by omega⟩) := by
  rw [sum128, sum64 (fun d : Fin 64 => G ⟨64 + d.val, by omega⟩) h]
  rfl

variable (m : (ℓ : Loc nD τ sig) → Buf (Elt Ideal) ℓ) (c : Dev nD)

abbrev Real5 : Prop := Fin5 (xQ m c) (xK m c) (xV m c) (xF m c) (xO m c)

variable {m c}

theorem tr_at (x : FVec Ideal S16384x1024 .bf16) (l : Fin 1024) (n : Fin 16384) :
    transpose S1024x16384 [1, 0] x transposes_S16384x1024_S1024x16384_1_0 (ix2 l n) = x (ix2 n l) := by pointwise []
theorem trO_at (x : FVec Ideal S16384x512 .bf16) (l : Fin 512) (n : Fin 16384) :
    transpose S512x16384 [1, 0] x transposes_S16384x512_S512x16384_1_0 (ix2 l n) = x (ix2 n l) := by pointwise []

theorem aQ_at (n : Fin 16384) (h : Fin 8) (l : Fin 128) : aQ m c (ix2 n (lane h l)) = augQ (xQ m c) (xF m c) (ix4 0 h n l) := by
  unfold aQ; rw [host_v60]; exact packed_at _ n h l
theorem aK_at (n : Fin 16384) (h : Fin 8) (l : Fin 128) : aK m c (ix2 n (lane h l)) = augK (xK m c) (xF m c) (ix4 0 h n l) := by
  unfold aK; rw [host_v68]; exact packed_at _ n h l
theorem aQt_at (n : Fin 16384) (h : Fin 8) (l : Fin 128) : aQt m c (ix2 (lane h l) n) = augQ (xQ m c) (xF m c) (ix4 0 h n l) := by
  unfold aQt; rw [host_v77, tr_at]; exact packed_at _ n h l
theorem aKt_at (n : Fin 16384) (h : Fin 8) (l : Fin 128) : aKt m c (ix2 (lane h l) n) = augK (xK m c) (xF m c) (ix4 0 h n l) := by
  unfold aKt; rw [host_v78, tr_at]; exact packed_at _ n h l
theorem aV_at (J : Fin 16384) (h : Fin 8) (l : Fin 128) : aV m c (ix2 J (halfV h l)) = xV m c (ix3 0 J (half h l)) := by
  unfold aV; rw [host_v73]; exact values_at J h l
theorem aO_at (n : Fin 16384) (R : Fin 512) : aO m c (ix2 n R) = xO m c (ix3 0 n R) := by
  unfold aO; rw [host_v75]; exact outGrad_at n R
theorem aOt_at (n : Fin 16384) (R : Fin 512) : aOt m c (ix2 R n) = xO m c (ix3 0 n R) := by
  unfold aOt; rw [host_v79, trO_at]; exact outGrad_at n R
theorem aL_at (h : Fin 8) (n : Fin 16384) : aL m c (ix3 (pairOf h) (parOf h) n) = lse (xQ m c) (xK m c) (xF m c) (ix4 0 h n 0) := by
  unfold aL; rw [host_v81, rows8_at]; pointwise []
theorem aD_at (h : Fin 8) (n : Fin 16384) : aD m c (ix3 (pairOf h) (parOf h) n) = delta (xQ m c) (xK m c) (xV m c) (xF m c) (xO m c) (ix3 0 h n) := by
  unfold aD; rw [host_v83, rows8_at]

variable (H : Real5 m c)
include H

theorem part_at (i : S1x8x16384.Idx) : part1 (xF m c) i = xF m c i ∧ part2 (xF m c) i = 0 ∧ part3 (xF m c) i = 0 := by
  have p1 : part1 (xF m c) i = xF m c i := rfl
  have p2 : part2 (xF m c) i = xF m c i - xF m c i := rfl
  have p3 : part3 (xF m c) i = xF m c i - xF m c i - (xF m c i - xF m c i) := rfl
  have hz : xF m c i - xF m c i = 0 := by
    obtain ⟨f, hf⟩ := H.2.2.2.1 i
    rw [hf, ← EReal.coe_sub, sub_self]; rfl
  refine ⟨p1, p2.trans hz, p3.trans ?_⟩
  rw [hz]; simp

/-- The lanes of the keys. -/
theorem keyLane (h : Fin 8) (n : Fin 16384) (l : Fin 128) :
    aK m c (ix2 n (lane h l)) = if hl : l.val < 64 then xK m c (ix3 0 n (hcol h ⟨l.val, hl⟩)) else
      if l.val < 67 then 1 else if l.val = 67 then -xF m c (ix3 0 h n) else 0 := by
  rw [aK_at, augK_at, (part_at H _).1, (part_at H _).2.1, (part_at H _).2.2]
  simp only [heads_at]
  split_ifs <;> simp

theorem queryLane (h : Fin 8) (n : Fin 16384) (l : Fin 128) :
    aQ m c (ix2 n (lane h l)) = if hl : l.val < 64 then xQ m c (ix3 0 n (hcol h ⟨l.val, hl⟩)) * Ideal.ofBits .f32 0x3E000000#32 else
      if l.val = 64 then xF m c (ix3 0 h n) else if l.val < 67 then 0 else if l.val < 70 then 1 else 0 := by
  rw [aQ_at, augQ_at, (part_at H _).1, (part_at H _).2.1, (part_at H _).2.2]
  simp only [scaled_at]
  split_ifs <;> first | rfl | (exfalso; omega)

/-- The score the call computes on 128 lanes. -/
theorem score_at (h : Fin 8) (n J : Fin 16384) :
    ∑ l : Fin 128, aK m c (ix2 J (lane h l)) * aQ m c (ix2 n (lane h l)) = scR (xQ m c) (xK m c) (xF m c) h n J := by
  simp only [keyLane H, queryLane H]
  rw [sumLanes]
  · unfold scR
    have e : ∀ d : Fin 64, (if hl : d.val < 64 then xK m c (ix3 0 J (hcol h ⟨d.val, hl⟩)) else if d.val < 67 then 1 else if d.val = 67 then -xF m c (ix3 0 h J) else 0)
        * (if hl : d.val < 64 then xQ m c (ix3 0 n (hcol h ⟨d.val, hl⟩)) * Ideal.ofBits .f32 0x3E000000#32 else
      if d.val = 64 then xF m c (ix3 0 h n) else if d.val < 67 then 0 else if d.val < 70 then 1 else 0)
      = xQ m c (ix3 0 n (hcol h d)) * Ideal.ofBits .f32 0x3E000000#32 * xK m c (ix3 0 J (hcol h d)) := fun d => by
      rw [dif_pos d.isLt, dif_pos d.isLt, mul_comm]
    rw [Finset.sum_congr rfl fun d _ => e d, sub_eq_add_neg]
    refine Eq.trans (congrArg₂ (· + ·) rfl ?_) (add_assoc _ _ _).symm
    simp
  · intro i
    have h1 : ¬ 64 + (6 + i.val) < 64 := by omega
    have h2 : ¬ 64 + (6 + i.val) < 67 := by omega
    have h3 : ¬ 64 + (6 + i.val) = 67 := by omega
    rw [dif_neg h1, if_neg h2, if_neg h3, zero_mul]

/-- The product of the value with the output's gradient, over the lanes of the pair of heads. -/
theorem dv_lanes (h : Fin 8) (n J : Fin 16384) :
    ∑ l : Fin 128, (if l.val / 64 = h.val % 2 then aV m c (ix2 J (halfV h l)) else 0) * aO m c (ix2 n (half h l))
      = dvR (xV m c) (xO m c) h n J := by
  simp only [aV_at, aO_at]
  rw [sum128]
  unfold dvR
  have hd : ∀ d : Fin 64, d.val / 64 = 0 := fun d => by omega
  have hd' : ∀ d : Fin 64, (64 + d.val) / 64 = 1 := fun d => by omega
  rcases Nat.mod_two_eq_zero_or_one h.val with hp | hp
  · have e2 : ∑ d : Fin 64, (if (64 + d.val) / 64 = h.val % 2 then xV m c (ix3 0 J (half h ⟨64 + d.val, by omega⟩)) else 0) * xO m c (ix3 0 n (half h ⟨64 + d.val, by omega⟩)) = 0 :=
      Finset.sum_eq_zero fun d _ => by rw [hd', hp, if_neg (by decide), zero_mul]
    rw [e2, add_zero]
    refine Finset.sum_congr rfl fun d _ => ?_
    have : half h ⟨d.val, by omega⟩ = hcol h d := Fin.ext (by show 128 * (h.val / 2) + d.val = h.val * 64 + d.val; omega)
    rw [if_pos ((hd d).trans hp.symm), this]
  · have e2 : ∑ d : Fin 64, (if d.val / 64 = h.val % 2 then xV m c (ix3 0 J (half h ⟨d.val, by omega⟩)) else 0) * xO m c (ix3 0 n (half h ⟨d.val, by omega⟩)) = 0 :=
      Finset.sum_eq_zero fun d _ => by rw [hd, hp, if_neg (by decide), zero_mul]
    rw [e2, zero_add]
    refine Finset.sum_congr rfl fun d _ => ?_
    have : half h ⟨64 + d.val, by omega⟩ = hcol h d := Fin.ext (by show 128 * (h.val / 2) + (64 + d.val) = h.val * 64 + d.val; omega)
    rw [if_pos ((hd' d).trans hp.symm), this]

theorem pG_eq (h : Fin 8) (n J : Fin 16384) : pG m c h n J = prR (xQ m c) (xK m c) (xF m c) h n J := by
  unfold pG
  have e := exp_lse (mk := mkR n) (scR_real H h n) (rowMax_real H h n) (mkR_self n) J
  rw [score_at H, aL_at, lse_at]
  by_cases hj : J.val ≤ n.val
  · rw [if_pos hj]
    unfold sc at e
    rw [if_pos (show mkR n J from hj)] at e
    exact e
  · rw [if_neg hj]
    exact (pr_mask (mk := mkR n) (scR_real H h n) (rowMax_real H h n) (mkR_self n) hj).symm

omit H in
/-- The gradient the call returns, of the arguments' names. -/
abbrev dsM (m : (ℓ : Loc nD τ sig) → Buf (Elt Ideal) ℓ) (c : Dev nD) : Fin 8 → Fin 16384 → Fin 16384 → EReal :=
  dsR (xQ m c) (xK m c) (xV m c) (xF m c) (xO m c)

theorem dG_eq (h : Fin 8) (n J : Fin 16384) : dG m c h n J = dsM m c h n J := by
  unfold dG
  rw [pG_eq H, dv_lanes H, aD_at, delta_at H]
  rfl

theorem dq_at (h : Fin 8) (n : Fin 16384) (d : Fin 64) :
    dqG m c h ⟨d.val, by omega⟩ n = ∑ J : Fin 16384, xK m c (ix3 0 J (hcol h d)) * dsM m c h n J := by
  unfold dqG
  refine Finset.sum_congr rfl fun J _ => ?_
  rw [dG_eq H, aKt_at, ← aK_at, keyLane H, dif_pos d.isLt]

theorem dFq_at (h : Fin 8) (n : Fin 16384) : dqG m c h ⟨64, by omega⟩ n = ∑ J : Fin 16384, dsM m c h n J := by
  unfold dqG
  refine Finset.sum_congr rfl fun J _ => ?_
  rw [dG_eq H, aKt_at, ← aK_at, keyLane H, dif_neg (by decide), if_pos (by decide), one_mul]

theorem dk_at' (h : Fin 8) (J : Fin 16384) (d : Fin 64) :
    dkG m c h ⟨d.val, by omega⟩ J = ∑ n : Fin 16384, xQ m c (ix3 0 n (hcol h d)) * Ideal.ofBits .f32 0x3E000000#32 * dsM m c h n J := by
  unfold dkG
  refine Finset.sum_congr rfl fun n _ => ?_
  rw [dG_eq H, aQt_at, ← aQ_at, queryLane H, dif_pos d.isLt]

theorem dFk_at (h : Fin 8) (J : Fin 16384) : dkG m c h ⟨67, by omega⟩ J = ∑ n : Fin 16384, dsM m c h n J := by
  unfold dkG
  refine Finset.sum_congr rfl fun n _ => ?_
  rw [dG_eq H, aQt_at, ← aQ_at, queryLane H, dif_neg (by decide), if_neg (by decide), if_neg (by decide), if_pos (by decide), one_mul]

theorem dv_at' (R : Fin 512) (J : Fin 16384) :
    dvG m c R J = ∑ n : Fin 16384, xO m c (ix3 0 n R) * prR (xQ m c) (xK m c) (xF m c) ⟨R.val / 64, by omega⟩ n J := by
  unfold dvG
  refine Finset.sum_congr rfl fun n _ => ?_
  rw [pG_eq H, aOt_at]

end Cert.Proof.Foxb

end
-- ==== Proof.FoxbRefRow.lean ====
/-
  The gradient of the forgetting attention: the reference, row by row.
-/
module

public import proofs.«01_k».proof.Proof.FoxbRow
public import proofs.«01_k».proof.Proof.Gen.FoxbRefIdeal.Read
public import Idealize.ShloMosaic.Lib.Pointwise
public import Idealize.ShloMosaic.Lib.IdealHost
public import Idealize.ShloMosaic.Lib.WordCmp

@[expose] public section

set_option maxRecDepth 16384

noncomputable section

namespace Cert.Proof.FoxbRef

open Cert.FoxbRefIdeal Cert.FoxbRefIdeal.Gen Cert.FoxbRefIdeal.Read Idealize.ShloMosaic Idealize.ShloMosaic.TcCoe
open Cert.RealMath Cert.FoxMath
open Cert.Proof.Foxb (hcol mkR mkR_self scR scR_real prR prR_real dvR rowMax rowMax_real Fin5 dsR dvR_real)

variable (x0 x1 x2 : FVec Ideal S1x16384x512 .f32) (x3 : FVec Ideal S1x8x16384 .f32) (x4 : FVec Ideal S1x16384x512 .f32)

theorem v3_at (h : Fin 8) (n : Fin 16384) (d : Fin 64) :
    val_main_v3 (F := Ideal) x0 (ix4 0 h n d) = x0 (ix3 0 n (hcol h d)) * Ideal.ofBits .f32 0x3E000000#32 := by
  have e : val_main_v3 (F := Ideal) x0 (ix4 0 h n d) = x0 (ix3 0 n ⟨h.val * 64 + d.val, by omega⟩) * Ideal.ofBits .f32 0x3E000000#32 := by
    pointwise [val_main_v3, val_main_v1, val_main_v0, val_main_v2, val_main_cst]
  exact e

theorem v5_at (h : Fin 8) (n : Fin 16384) (d : Fin 64) : val_main_v5 (F := Ideal) x1 (ix4 0 h n d) = x1 (ix3 0 n (hcol h d)) := by
  have e : val_main_v5 (F := Ideal) x1 (ix4 0 h n d) = x1 (ix3 0 n ⟨h.val * 64 + d.val, by omega⟩) := by
    pointwise [val_main_v5, val_main_v4]
  exact e

theorem v7_at (h : Fin 8) (n : Fin 16384) (d : Fin 64) : val_main_v7 (F := Ideal) x2 (ix4 0 h n d) = x2 (ix3 0 n (hcol h d)) := by
  have e : val_main_v7 (F := Ideal) x2 (ix4 0 h n d) = x2 (ix3 0 n ⟨h.val * 64 + d.val, by omega⟩) := by
    pointwise [val_main_v7, val_main_v6]
  exact e

theorem v9_at (h : Fin 8) (n : Fin 16384) (d : Fin 64) : val_main_v9 (F := Ideal) x4 (ix4 0 h n d) = x4 (ix3 0 n (hcol h d)) := by
  have e : val_main_v9 (F := Ideal) x4 (ix4 0 h n d) = x4 (ix3 0 n ⟨h.val * 64 + d.val, by omega⟩) := by
    pointwise [val_main_v9, val_main_v8]
  exact e

theorem v24_at (h : Fin 8) (n j : Fin 16384) : val_main_v24 (F := Ideal) (ix4 0 h n j) = if mkR n j then 1#1 else 0#1 := by
  pointwise [val_main_v24, val_main_v23, val_main_v22, val_main_v21, val_main_v20, val_main_v19, val_main_v11]
  rw [WordCmp.cmpi_sle_ofNat (by omega) (by omega)]
  unfold mkR
  by_cases h : j.val ≤ n.val <;> simp [h]

theorem v18_at (h : Fin 8) (n j : Fin 16384) : val_main_v18 (F := Ideal) x0 x1 x3 (ix4 0 h n j) = scR x0 x1 x3 h n j := by
  have e : val_main_v18 (F := Ideal) x0 x1 x3 (ix4 0 h n j)
      = (∑ d : Fin 64, val_main_v3 (F := Ideal) x0 (ix4 0 h n d) * val_main_v5 (F := Ideal) x1 (ix4 0 h j d)) + x3 (ix3 0 h n) + -x3 (ix3 0 h j) := by
    pointwise [val_main_v18, val_main_v17, val_main_v16, val_main_v15, val_main_v14, val_main_v13, val_main_v12, val_main_v10]
  rw [e]
  simp only [v3_at, v5_at]
  rfl

theorem sel_at (x y : FVec Ideal S1x8x16384x16384 .f32) (h : Fin 8) (n j : Fin 16384) :
    select (val_main_v24 (F := Ideal)) x y (ix4 0 h n j) = if mkR n j then x (ix4 0 h n j) else y (ix4 0 h n j) := by
  show Scalar.select (val_main_v24 (F := Ideal) (ix4 0 h n j)) _ _ = _
  rw [v24_at]
  by_cases hh : mkR n j
  · rw [if_pos hh, if_pos hh]; rfl
  · rw [if_neg hh, if_neg hh]; rfl

theorem v26_at (h : Fin 8) (n j : Fin 16384) :
    val_main_v26 (F := Ideal) x0 x1 x3 (ix4 0 h n j) = sc (mkR n) (scR x0 x1 x3 h n) j := by
  unfold val_main_v26 sc
  have e : val_main_v25 (F := Ideal) (ix4 0 h n j) = Ideal.ofBits .f32 0xFF800000#32 := by pointwise [val_main_v25, val_main_cst_0]
  rw [sel_at, v18_at, e, neg_inf]

variable {x0 x1 x2 x3 x4} (H : Fin5 x0 x1 x2 x3 x4)

/-- The number the reference takes off a row. -/
def mR (x0 x1 : FVec Ideal S1x16384x512 .f32) (x3 : FVec Ideal S1x8x16384 .f32) (h : Fin 8) (n : Fin 16384) : EReal :=
  val_main_v35 (F := Ideal) x0 x1 x3 (ix3 0 h n)

include H in
theorem mR_real (h : Fin 8) (n : Fin 16384) : Rl (mR x0 x1 x3 h n) := by
  have e : mR x0 x1 x3 h n = max (Ideal.ofBits .f32 0xFF800000#32) (val_main_v28 (F := Ideal) x0 x1 x3 (ix3 0 h n)) := by
    unfold mR
    rw [val_main_v35_apply, val_main_v34_apply, val_main_cst_4_apply]
    rfl
  rw [e, neg_inf, max_eq_right bot_le]
  unfold val_main_v28
  refine reduce_max_real _ _ _ _ (fun i => ?_) (fun i => ?_) _ (ix4 0 h n n) ?_ ?_
  · rw [val_main_cst_2_apply]; exact neg_inf
  · obtain ⟨a, b, d, e, rfl⟩ : ∃ (a : Fin 1) (b : Fin 8) (d e : Fin 16384), i = ix4 a b d e := ⟨i 0, i 1, i 2, i 3, (ix4_eta i).symm⟩
    rw [Subsingleton.elim a 0, v26_at, sc]
    split_ifs
    · obtain ⟨r, hr⟩ := scR_real H b d e
      rw [hr]; exact EReal.coe_lt_top r
    · exact bot_lt_top
  · funext a; apply Fin.ext
    match a with
    | ⟨0, _⟩ => rfl
    | ⟨1, _⟩ => rfl
    | ⟨2, _⟩ => rfl
  · rw [v26_at, sc, if_pos (mkR_self n)]; exact scR_real H h n n

theorem v48_at (h : Fin 8) (n j : Fin 16384) :
    val_main_v48 (F := Ideal) x0 x1 x3 (ix4 0 h n j) = ex (mkR n) (scR x0 x1 x3 h n) (mR x0 x1 x3 h n) j := by
  have e : val_main_v48 (F := Ideal) x0 x1 x3 (ix4 0 h n j)
      = Ideal.exp (val_main_v26 (F := Ideal) x0 x1 x3 (ix4 0 h n j) - val_main_v35 (F := Ideal) x0 x1 x3 (ix3 0 h n)) := by
    pointwise [val_main_v48, val_main_v47, val_main_v46, val_main_v45]
  rw [e, v26_at]
  rfl

theorem v49_at (h : Fin 8) (n : Fin 16384) :
    val_main_v49 (F := Ideal) x0 x1 x3 (ix3 0 h n) = rs (mkR n) (scR x0 x1 x3 h n) (mR x0 x1 x3 h n) := by
  have e : val_main_v49 (F := Ideal) x0 x1 x3 (ix3 0 h n) = ∑ j : Fin 16384, val_main_v48 (F := Ideal) x0 x1 x3 (ix4 0 h n j) := by
    pointwise [val_main_v49, val_main_cst_10]
  rw [e]
  exact Finset.sum_congr rfl fun j _ => v48_at h n j

include H in
theorem v52_at (h : Fin 8) (n j : Fin 16384) :
    val_main_v52 (F := Ideal) x0 x1 x3 (ix4 0 h n j) = prR x0 x1 x3 h n j := by
  have e : val_main_v52 (F := Ideal) x0 x1 x3 (ix4 0 h n j)
      = Ideal.div (val_main_v48 (F := Ideal) x0 x1 x3 (ix4 0 h n j)) (val_main_v49 (F := Ideal) x0 x1 x3 (ix3 0 h n)) := by
    pointwise [val_main_v52, val_main_v51, val_main_v50]
  rw [e, v48_at, v49_at]
  exact pr_shift (mk := mkR n) (scR_real H h n) (mR_real H h n) (rowMax_real H h n) (mkR_self n) j

theorem v59_at (h : Fin 8) (n j : Fin 16384) : val_main_v59 (F := Ideal) x2 x4 (ix4 0 h n j) = dvR x2 x4 h n j := by
  have e : val_main_v59 (F := Ideal) x2 x4 (ix4 0 h n j)
      = ∑ d : Fin 64, val_main_v9 (F := Ideal) x4 (ix4 0 h n d) * val_main_v7 (F := Ideal) x2 (ix4 0 h j d) := by
    pointwise [val_main_v59]
  rw [e]
  simp only [v9_at, v7_at]
  exact Finset.sum_congr rfl fun d _ => mul_comm _ _

include H in
/-- The gradient at a score. -/
theorem v74_at (h : Fin 8) (n j : Fin 16384) : val_main_v74 (F := Ideal) x0 x1 x2 x3 x4 (ix4 0 h n j) = dsR x0 x1 x2 x3 x4 h n j := by
  have e72 : val_main_v72 (F := Ideal) x0 x1 x2 x3 x4 (ix4 0 h n j)
      = (Ideal.div (val_main_v59 (F := Ideal) x2 x4 (ix4 0 h n j)) (val_main_v49 (F := Ideal) x0 x1 x3 (ix3 0 h n))
          + val_main_v68 (F := Ideal) x0 x1 x2 x3 x4 (ix2 h n)) * val_main_v48 (F := Ideal) x0 x1 x3 (ix4 0 h n j) := by
    pointwise [val_main_v72, val_main_v71, val_main_v70, val_main_v69, val_main_v67, val_main_v66, val_main_v50]
  have e62 : ∀ k, val_main_v62 (F := Ideal) x0 x1 x2 x3 x4 (ix4 0 h n k)
      = val_main_v59 (F := Ideal) x2 x4 (ix4 0 h n k)
          * Ideal.div 1 (val_main_v49 (F := Ideal) x0 x1 x3 (ix3 0 h n) * val_main_v49 (F := Ideal) x0 x1 x3 (ix3 0 h n))
          * val_main_v48 (F := Ideal) x0 x1 x3 (ix4 0 h n k) := fun k => by
    pointwise [val_main_v62, val_main_v61, val_main_v60, val_main_v55, val_main_v54, val_main_v53, val_main_v50, val_main_cst_11]
  have e63 : val_main_v63 (F := Ideal) x0 x1 x2 x3 x4 (ix3 0 h n) = ∑ k : Fin 16384, val_main_v62 (F := Ideal) x0 x1 x2 x3 x4 (ix4 0 h n k) := by
    pointwise [val_main_v63, val_main_cst_12]
  have e68 : val_main_v68 (F := Ideal) x0 x1 x2 x3 x4 (ix2 h n) = -val_main_v63 (F := Ideal) x0 x1 x2 x3 x4 (ix3 0 h n) := by
    pointwise [val_main_v68, val_main_v65, val_main_v64, val_main_cst_13]
  have e73 : val_main_v73 (F := Ideal) (ix4 0 h n j) = 0 := by pointwise [val_main_v73, val_main_cst_14]
  unfold val_main_v74
  rw [sel_at, e72, e73, e68, e63, v48_at, v49_at, v59_at]
  simp only [e62, v48_at, v49_at, v59_at]
  have hp : ∀ k, pr (mkR n) (scR x0 x1 x3 h n) (mR x0 x1 x3 h n) k = prR x0 x1 x3 h n k := fun k =>
    pr_shift (mk := mkR n) (scR_real H h n) (mR_real H h n) (rowMax_real H h n) (mkR_self n) k
  refine (dsRef_eq (mk := mkR n) (s := scR x0 x1 x3 h n) (d := dvR x2 x4 h n) (scR_real H h n) (fun j => dvR_real H h n j) (mR_real H h n) (mkR_self n) j).trans ?_
  simp only [hp]
  rfl

/-! The results. -/

include H in
theorem v86_at (h : Fin 8) (d : Fin 64) (n : Fin 16384) :
    val_main_v86 (F := Ideal) x0 x1 x2 x3 x4 (ix3 h d n) = ∑ J : Fin 16384, x1 (ix3 0 J (hcol h d)) * dsR x0 x1 x2 x3 x4 h n J := by
  have e : val_main_v86 (F := Ideal) x0 x1 x2 x3 x4 (ix3 h d n)
      = ∑ J : Fin 16384, val_main_v74 (F := Ideal) x0 x1 x2 x3 x4 (ix4 0 h n J) * val_main_v5 (F := Ideal) x1 (ix4 0 h J d) := by
    pointwise [val_main_v86, val_main_v85, val_main_v84]
  rw [e]
  exact Finset.sum_congr rfl fun J _ => by rw [v74_at H, v5_at, mul_comm]

include H in
theorem v88_at (h : Fin 8) (d : Fin 64) (J : Fin 16384) :
    val_main_v88 (F := Ideal) x0 x1 x2 x3 x4 (ix3 h d J)
      = ∑ n : Fin 16384, x0 (ix3 0 n (hcol h d)) * Ideal.ofBits .f32 0x3E000000#32 * dsR x0 x1 x2 x3 x4 h n J := by
  have e : val_main_v88 (F := Ideal) x0 x1 x2 x3 x4 (ix3 h d J)
      = ∑ n : Fin 16384, val_main_v74 (F := Ideal) x0 x1 x2 x3 x4 (ix4 0 h n J) * val_main_v3 (F := Ideal) x0 (ix4 0 h n d) := by
    pointwise [val_main_v88, val_main_v87, val_main_v83]
  rw [e]
  exact Finset.sum_congr rfl fun n _ => by rw [v74_at H, v3_at, mul_comm]

include H in
theorem v91_at (R : Fin 512) (J : Fin 16384) :
    val_main_v91 (F := Ideal) x0 x1 x3 x4 (ix2 R J) = ∑ n : Fin 16384, x4 (ix3 0 n R) * prR x0 x1 x3 ⟨R.val / 64, by omega⟩ n J := by
  have e : val_main_v91 (F := Ideal) x0 x1 x3 x4 (ix2 R J)
      = ∑ n : Fin 16384, val_main_v9 (F := Ideal) x4 (ix4 0 ⟨R.val / 64, by omega⟩ n ⟨R.val % 64, by omega⟩)
          * val_main_v52 (F := Ideal) x0 x1 x3 (ix4 0 ⟨R.val / 64, by omega⟩ n J) := by
    pointwise [val_main_v91, val_main_v90, val_main_v89, val_main_v58, val_main_v57]
  rw [e]
  refine Finset.sum_congr rfl fun n _ => ?_
  rw [v52_at H, v9_at]
  have : hcol ⟨R.val / 64, by omega⟩ ⟨R.val % 64, by omega⟩ = R := Fin.ext (by show R.val / 64 * 64 + R.val % 64 = R.val; omega)
  rw [this]

include H in
theorem v92_at (h : Fin 8) (n : Fin 16384) :
    val_main_v92 (F := Ideal) x0 x1 x2 x3 x4 (ix2 h n) = ∑ J : Fin 16384, dsR x0 x1 x2 x3 x4 h n J := by
  have e : val_main_v92 (F := Ideal) x0 x1 x2 x3 x4 (ix2 h n) = ∑ J : Fin 16384, val_main_v74 (F := Ideal) x0 x1 x2 x3 x4 (ix4 0 h n J) := by
    pointwise [val_main_v92, val_main_v82, val_main_v81, val_main_v80, val_main_v79, val_main_cst_17, val_main_cst_18]
  rw [e]
  exact Finset.sum_congr rfl fun J _ => v74_at H h n J

include H in
theorem v93_at (h : Fin 8) (J : Fin 16384) :
    val_main_v93 (F := Ideal) x0 x1 x2 x3 x4 (ix2 h J) = ∑ n : Fin 16384, dsR x0 x1 x2 x3 x4 h n J := by
  have e : val_main_v93 (F := Ideal) x0 x1 x2 x3 x4 (ix2 h J) = ∑ n : Fin 16384, val_main_v74 (F := Ideal) x0 x1 x2 x3 x4 (ix4 0 h n J) := by
    pointwise [val_main_v93, val_main_v78, val_main_v77, val_main_v76, val_main_v75, val_main_cst_15, val_main_cst_16]
  rw [e]
  exact Finset.sum_congr rfl fun n _ => v74_at H h n J

end Cert.Proof.FoxbRef

end
-- ==== Proof.FoxbFinal.lean ====
/-
  The gradient of the forgetting attention: the arrays the kernel leaves are the reference's, where the arguments are numbers.
-/
module

public import proofs.«01_k».proof.Proof.FoxbGrad
public import proofs.«01_k».proof.Proof.FoxbRefRow

@[expose] public section

set_option maxRecDepth 16384

noncomputable section

namespace Cert.Proof.Foxb

open Cert.FoxbIdeal Cert.FoxbIdeal.Gen Idealize.ShloMosaic Idealize.ShloMosaic.TcCoe Idealize.SL.Sem
open Cert.FoxbRefIdeal.Read Cert.Proof.FoxbRef

variable {m : (ℓ : Loc nD τ sig) → Buf (Elt Ideal) ℓ} {c : Dev nD} (H : Real5 m c)
include H

theorem final98 : tail m c main_v98 = val_main_v86 (F := Ideal) (xQ m c) (xK m c) (xV m c) (xF m c) (xO m c) := by
  rw [tail_v98]
  refine funext fun i => ?_
  obtain ⟨h, d, n, rfl⟩ : ∃ (h : Fin 8) (d : Fin 64) (n : Fin 16384), i = ix3 h d n := ⟨i 0, i 1, i 2, (ix3_eta i).symm⟩
  rw [first64, heads_apply]
  exact ((arr11 m c h ⟨d.val, by omega⟩ (by show d.val < 80; omega) n).trans (dq_at H h n d)).trans (v86_at H h d n).symm

theorem final99 : tail m c main_v99 = val_main_v88 (F := Ideal) (xQ m c) (xK m c) (xV m c) (xF m c) (xO m c) := by
  rw [tail_v99]
  refine funext fun i => ?_
  obtain ⟨h, d, n, rfl⟩ : ∃ (h : Fin 8) (d : Fin 64) (n : Fin 16384), i = ix3 h d n := ⟨i 0, i 1, i 2, (ix3_eta i).symm⟩
  rw [first64, heads_apply]
  exact ((arr12 m c h ⟨d.val, by omega⟩ (by show d.val < 80; omega) n).trans (dk_at' H h n d)).trans (v88_at H h d n).symm

theorem final95 : ((dats m 0 c).arrAt 13 cfg0.N : FVec Ideal S512x16384 .f32) = val_main_v91 (F := Ideal) (xQ m c) (xK m c) (xF m c) (xO m c) := by
  refine funext fun i => ?_
  obtain ⟨R, J, rfl⟩ : ∃ (R : Fin 512) (J : Fin 16384), i = ix2 R J := ⟨i 0, i 1, (ix2_eta i).symm⟩
  exact ((arr13 m c R J).trans (dv_at' H R J)).trans (v91_at H R J).symm

theorem final101 : tail m c main_v101 = val_main_v92 (F := Ideal) (xQ m c) (xK m c) (xV m c) (xF m c) (xO m c) := by
  rw [tail_v101]
  refine funext fun i => ?_
  obtain ⟨h, n, rfl⟩ : ∃ (h : Fin 8) (n : Fin 16384), i = ix2 h n := ⟨i 0, i 1, (ix2_eta i).symm⟩
  rw [row64, heads_apply]
  exact ((arr11 m c h 64 (by decide) n).trans (dFq_at H h n)).trans (v92_at H h n).symm

theorem final103 : tail m c main_v103 = val_main_v93 (F := Ideal) (xQ m c) (xK m c) (xV m c) (xF m c) (xO m c) := by
  rw [tail_v103]
  refine funext fun i => ?_
  obtain ⟨h, n, rfl⟩ : ∃ (h : Fin 8) (n : Fin 16384), i = ix2 h n := ⟨i 0, i 1, (ix2_eta i).symm⟩
  rw [row67, heads_apply]
  exact ((arr12 m c h 67 (by decide) n).trans (dFk_at H h n)).trans (v93_at H h n).symm

omit H in
/-- What the whole program leaves, where the arguments are numbers. -/
theorem run_final (ρ : Dev nD → PrngReg) (H : ∀ c, Real5 m c) :
    θ_run defs (onTc (τ := τ) (main (F := Ideal))) ⟨m, fun _ => 0, ρ⟩ (fun r => ∀ c : Dev nD,
      r.2.mem ((c.tc : Thread nD τ).loc main_v98) = val_main_v86 (F := Ideal) (xQ m c) (xK m c) (xV m c) (xF m c) (xO m c)
      ∧ r.2.mem ((c.tc : Thread nD τ).loc main_v99) = val_main_v88 (F := Ideal) (xQ m c) (xK m c) (xV m c) (xF m c) (xO m c)
      ∧ r.2.mem ((c.tc : Thread nD τ).loc main_v95_2) = val_main_v91 (F := Ideal) (xQ m c) (xK m c) (xF m c) (xO m c)
      ∧ r.2.mem ((c.tc : Thread nD τ).loc main_v101) = val_main_v92 (F := Ideal) (xQ m c) (xK m c) (xV m c) (xF m c) (xO m c)
      ∧ r.2.mem ((c.tc : Thread nD τ).loc main_v103) = val_main_v93 (F := Ideal) (xQ m c) (xK m c) (xV m c) (xF m c) (xO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v98 (Pipeline.mem_restRefs_of main_v98 (by decide) (by decide))).trans (final98 (H c)),
      ((h c).2 main_v99 (Pipeline.mem_restRefs_of main_v99 (by decide) (by decide))).trans (final99 (H c)),
      ((h c).1 13).trans (final95 (H c)),
      ((h c).2 main_v101 (Pipeline.mem_restRefs_of main_v101 (by decide) (by decide))).trans (final101 (H c)),
      ((h c).2 main_v103 (Pipeline.mem_restRefs_of main_v103 (by decide) (by decide))).trans (final103 (H c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Proof.Foxb

end
-- ==== Proof.FoxbClaims.lean ====
/-
  The claims about the gradient of the forgetting attention: the frames, and the kernel's five results against the
  reference's, where the arguments are numbers.
-/
module

public import proofs.«01_k».proof.Defs
public import proofs.«01_k».proof.Proof.FoxbFinal
public import proofs.«01_k».proof.Proof.Gen.FoxbRefIdeal.Run
public import Idealize.ShloMosaic.Lib.Quiescent
public import proofs.«01_k».proof.Proof.Gen.Foxb

@[expose] public section

noncomputable section

namespace Cert.FoxbClaims

open Idealize.ShloMosaic Idealize.ShloMosaic.TcCoe Idealize.SL.Sem Cert.RealMath

local instance : Cert.Foxb.Facts := Cert.Foxb.Gen.facts
local instance : Cert.FoxbIdeal.Facts := Cert.FoxbIdeal.Gen.facts
local instance : Cert.FoxbRefIdeal.Facts := Cert.FoxbRefIdeal.Gen.facts

theorem pre : Cert.Pre_fox_finite.Facts := ⟨by decide, by decide⟩

local instance : Cert.Pre_fox_finite.Facts := pre

/-- The frame at exact numbers. -/
theorem frameIdeal : Cert.quiescent_FoxbIdeal := fun m g _ => Cert.Proof.Foxb.frame m g

/-- The kernel's text is one text in both programs, so its frame at the chip's numbers is the frame above. -/
theorem same : Cert.quiescent_Foxb = ∀ (m : (ℓ : Loc Cert.FoxbIdeal.nD Cert.FoxbIdeal.τ Cert.FoxbIdeal.sig) → Buf (Elt Bits) ℓ) (g : Dev Cert.FoxbIdeal.nD → PrngReg), Cert.Pre_Foxb m →
    θ_run (Cert.FoxbIdeal.defs (F := Bits)) (onTc (τ := Cert.FoxbIdeal.τ) (Cert.FoxbIdeal.main (F := Bits))) ⟨m, fun _ => 0, g⟩ (fun r => (∀ c : Dev Cert.FoxbIdeal.nD,
      r.2.mem ((c.tc : Thread Cert.FoxbIdeal.nD Cert.FoxbIdeal.τ).loc Cert.FoxbIdeal.main_arg0) = m ((c.tc : Thread Cert.FoxbIdeal.nD Cert.FoxbIdeal.τ).loc Cert.FoxbIdeal.main_arg0)
      ∧ r.2.mem ((c.tc : Thread Cert.FoxbIdeal.nD Cert.FoxbIdeal.τ).loc Cert.FoxbIdeal.main_arg1) = m ((c.tc : Thread Cert.FoxbIdeal.nD Cert.FoxbIdeal.τ).loc Cert.FoxbIdeal.main_arg1)
      ∧ r.2.mem ((c.tc : Thread Cert.FoxbIdeal.nD Cert.FoxbIdeal.τ).loc Cert.FoxbIdeal.main_arg2) = m ((c.tc : Thread Cert.FoxbIdeal.nD Cert.FoxbIdeal.τ).loc Cert.FoxbIdeal.main_arg2)
      ∧ r.2.mem ((c.tc : Thread Cert.FoxbIdeal.nD Cert.FoxbIdeal.τ).loc Cert.FoxbIdeal.main_arg3) = m ((c.tc : Thread Cert.FoxbIdeal.nD Cert.FoxbIdeal.τ).loc Cert.FoxbIdeal.main_arg3)
      ∧ r.2.mem ((c.tc : Thread Cert.FoxbIdeal.nD Cert.FoxbIdeal.τ).loc Cert.FoxbIdeal.main_arg4) = m ((c.tc : Thread Cert.FoxbIdeal.nD Cert.FoxbIdeal.τ).loc Cert.FoxbIdeal.main_arg4))
      ∧ r.2.sem = fun _ => 0) := by
  sl_kernel_rfl

theorem frame : Cert.quiescent_Foxb := same ▸ fun m g _ => Cert.Proof.Foxb.frame (F := Bits) m g

theorem frameRef : Cert.quiescent_FoxbRefIdeal := fun m g _ =>
  (θ_run Cert.FoxbRefIdeal.defs _ _).mono (fun r h => ⟨fun c => (h c).2.2.2.2.2, sem_eq_zero_of_no_sems (by decide) r.2⟩)
    (Cert.FoxbRefIdeal.Value.run m g)

theorem real5 (m : (ℓ : Loc Cert.FoxbIdeal.nD Cert.FoxbIdeal.τ Cert.FoxbIdeal.sig) → Buf (Elt Ideal) ℓ) (hpre : Cert.Pre_FoxbIdeal_fox_finite m)
    (c : Dev Cert.FoxbIdeal.nD) : Cert.Proof.Foxb.Real5 m c :=
  ⟨finite_of _ _ (hpre c).1, finite_of _ _ (hpre c).2.1, finite_of _ _ (hpre c).2.2.1, finite_of _ _ (hpre c).2.2.2.1, finite_of _ _ (hpre c).2.2.2.2⟩

open Cert.Proof.Foxb in
theorem value : Cert.algebraic_FoxbIdeal_FoxbRefIdeal_pre_fox_finite := fun m g m' g' hpre hagree =>
  ⟨fun c => Cert.FoxbRefIdeal.Read.val_main_v86 (F := Ideal) (xQ m c) (xK m c) (xV m c) (xF m c) (xO m c),
    fun c => Cert.FoxbRefIdeal.Read.val_main_v88 (F := Ideal) (xQ m c) (xK m c) (xV m c) (xF m c) (xO m c),
    fun c => Cert.FoxbRefIdeal.Read.val_main_v91 (F := Ideal) (xQ m c) (xK m c) (xF m c) (xO m c),
    fun c => Cert.FoxbRefIdeal.Read.val_main_v92 (F := Ideal) (xQ m c) (xK m c) (xV m c) (xF m c) (xO m c),
    fun c => Cert.FoxbRefIdeal.Read.val_main_v93 (F := Ideal) (xQ m c) (xK m c) (xV m c) (xF m c) (xO m c),
    run_final g (real5 m hpre),
    (θ_run Cert.FoxbRefIdeal.defs _ _).mono (fun _ h c => ⟨
        (h c).1.trans (by
          rw [Cert.FoxbRefIdeal.Read.val_main_v86_eq]
          rw [(hagree c).1, (hagree c).2.1, (hagree c).2.2.1, (hagree c).2.2.2.1, (hagree c).2.2.2.2]),
        (h c).2.1.trans (by
          rw [Cert.FoxbRefIdeal.Read.val_main_v88_eq]
          rw [(hagree c).1, (hagree c).2.1, (hagree c).2.2.1, (hagree c).2.2.2.1, (hagree c).2.2.2.2]),
        (h c).2.2.1.trans (by
          rw [Cert.FoxbRefIdeal.Read.val_main_v91_eq]
          rw [(hagree c).1, (hagree c).2.1, (hagree c).2.2.2.1, (hagree c).2.2.2.2]),
        (h c).2.2.2.1.trans (by
          rw [Cert.FoxbRefIdeal.Read.val_main_v92_eq]
          rw [(hagree c).1, (hagree c).2.1, (hagree c).2.2.1, (hagree c).2.2.2.1, (hagree c).2.2.2.2]),
        (h c).2.2.2.2.1.trans (by
          rw [Cert.FoxbRefIdeal.Read.val_main_v93_eq]
          rw [(hagree c).1, (hagree c).2.1, (hagree c).2.2.1, (hagree c).2.2.2.1, (hagree c).2.2.2.2]),
        (h c).2.2.2.2.2⟩)
      (Cert.FoxbRefIdeal.Value.run m' g')⟩

end Cert.FoxbClaims

end
-- ==== Proof.DmixHost.lean ====
/-
  The gradient of the first norm and of the shared projection: the projection's columns in the order the kernel takes them, with
  the columns of zeros between, and a sum over those columns as a sum over the projection's own.
-/
module

public import proofs.«01_k».proof.Proof.Gen.DmixIdeal.Value
public import proofs.«01_k».proof.Proof.DffnVal
public import Idealize.ShloMosaic.Lib.IdealHost

@[expose] public section

set_option maxRecDepth 16384

noncomputable section

namespace Cert.DmixIdeal.Hand

open Cert.DmixIdeal Cert.DmixIdeal.Gen Idealize.ShloMosaic Idealize.ShloMosaic.TcCoe Idealize.SL.Sem Cert.RealMath

/-- The projection's column at a packed one; 6680 where there is none. -/
def src (K : Nat) : Nat :=
  if K < 1024 then if K % 128 < 64 then 1552 + K / 128 * 64 + K % 128 else 6680
  else if K < 2048 then if K % 128 < 64 then 2064 + (K - 1024) / 128 * 64 + K % 128 else 6680
  else if K < 2560 then 2576 + (K - 2048)
  else if K < 3072 then 3096 + (K - 2560)
  else if K < 6144 then 3608 + (K - 3072)
  else if K < 7168 then K - 6144
  else if K < 7680 then 1024 + (K - 7168)
  else if K < 7696 then 1536 + (K - 7680)
  else if K < 7704 then 3088 + (K - 7696)
  else 6680

/-- The packed column of one of the projection's. -/
def dst (s : Nat) : Nat :=
  if s < 1024 then 6144 + s
  else if s < 1536 then 7168 + (s - 1024)
  else if s < 1552 then 7680 + (s - 1536)
  else if s < 2064 then (s - 1552) / 64 * 128 + (s - 1552) % 64
  else if s < 2576 then 1024 + (s - 2064) / 64 * 128 + (s - 2064) % 64
  else if s < 3088 then 2048 + (s - 2576)
  else if s < 3096 then 7696 + (s - 3088)
  else if s < 3608 then 2560 + (s - 3096)
  else 3072 + (s - 3608)

theorem dst_lt (s : Nat) (h : s < 6680) : dst s < 8192 := by
  unfold dst
  split_ifs <;> omega

theorem src_dst (s : Nat) (h : s < 6680) : src (dst s) = s := by
  rcases (by omega : s < 1024 ∨ (1024 ≤ s ∧ s < 1536) ∨ (1536 ≤ s ∧ s < 1552) ∨ (1552 ≤ s ∧ s < 2064) ∨ (2064 ≤ s ∧ s < 2576) ∨
    (2576 ≤ s ∧ s < 3088) ∨ (3088 ≤ s ∧ s < 3096) ∨ (3096 ≤ s ∧ s < 3608) ∨ 3608 ≤ s) with k | k | k | k | k | k | k | k | k
  all_goals simp (disch := omega) only [dst, if_pos, if_neg]
  all_goals simp (disch := omega) only [src, if_pos, if_neg]
  all_goals omega

theorem dst_src (K : Nat) (hK : K < 8192) (h : src K < 6680) : dst (src K) = K := by
  rcases (by omega : (K < 1024 ∧ K % 128 < 64) ∨ (K < 1024 ∧ 64 ≤ K % 128) ∨ (1024 ≤ K ∧ K < 2048 ∧ K % 128 < 64) ∨ (1024 ≤ K ∧ K < 2048 ∧ 64 ≤ K % 128) ∨
    (2048 ≤ K ∧ K < 2560) ∨ (2560 ≤ K ∧ K < 3072) ∨ (3072 ≤ K ∧ K < 6144) ∨ (6144 ≤ K ∧ K < 7168) ∨ (7168 ≤ K ∧ K < 7680) ∨ (7680 ≤ K ∧ K < 7696) ∨
    (7696 ≤ K ∧ K < 7704) ∨ 7704 ≤ K) with k | k | k | k | k | k | k | k | k | k | k | k
  all_goals simp (disch := omega) only [src, if_pos, if_neg] at h ⊢
  all_goals first
    | omega
    | (simp (disch := omega) only [dst, if_pos, if_neg]; omega)

/-- A row of the projection, packed. -/
def pk (f : Fin 6680 → EReal) (K : Fin 8192) : EReal := if h : src K.val < 6680 then f ⟨src K.val, h⟩ else 0

theorem pk_of (f : Fin 6680 → EReal) (K : Fin 8192) (s : Nat) (h : s < 6680) (e : src K.val = s) : pk f K = f ⟨s, h⟩ := by
  subst e
  exact dif_pos h

theorem pk_zero (f : Fin 6680 → EReal) (K : Fin 8192) (e : src K.val = 6680) : pk f K = 0 := by
  unfold pk
  rw [dif_neg (by omega)]

theorem pk_sum (f g : Fin 6680 → EReal) : ∑ K, pk f K * pk g K = ∑ s, f s * g s := by
  symm
  refine Finset.sum_of_injOn (fun s : Fin 6680 => (⟨dst s.val, dst_lt s.val s.isLt⟩ : Fin 8192)) ?_ (fun _ _ => Finset.mem_univ _) ?_ ?_
  · intro a _ b _ h
    have e : dst a.val = dst b.val := congrArg Fin.val h
    apply Fin.ext
    rw [← src_dst a.val a.isLt, e, src_dst b.val b.isLt]
  · intro K _ hK
    unfold pk
    split
    · rename_i h
      exact absurd ⟨⟨src K.val, h⟩, Finset.mem_coe.mpr (Finset.mem_univ _), Fin.ext (dst_src K.val K.isLt h)⟩ hK
    · exact zero_mul _
  · intro s _
    unfold pk
    have e := src_dst s.val s.isLt
    have h : src (dst s.val) < 6680 := by rw [e]; exact s.isLt
    simp only [dif_pos h]
    have es : (⟨src (dst s.val), h⟩ : Fin 6680) = s := Fin.ext e
    rw [es]

section packing
variable (w : FVec Ideal S1024x6680 .bf16) (d : FVec Ideal S16384x6680 .f32)

/-- Eight heads of 64 columns, each followed by 64 columns of zeros. -/
def headsW (x : FVec Ideal S1024x512 .bf16) : FVec Ideal S1024x1024 .bf16 :=
  shapeCast S1024x1024 (pad S1024x8x128 ![0, 0, 0] ![0, 0, 64] ![0, 0, 0] (shapeCast S1024x8x64 x shapeCasts_S1024x512_S1024x8x64)
    (sitofp .bf16 (constantI S_ 32 0#32) : FVec Ideal S_ .bf16) pads_S1024x8x64_S1024x8x128_000_000_0640 h_S_) shapeCasts_S1024x8x128_S1024x1024

def headsD (x : FVec Ideal S16384x512 .f32) : FVec Ideal S16384x1024 .f32 :=
  shapeCast S16384x1024 (pad S16384x8x128 ![0, 0, 0] ![0, 0, 64] ![0, 0, 0] (shapeCast S16384x8x64 x shapeCasts_S16384x512_S16384x8x64)
    (sitofp .f32 (constantI S_ 32 0#32) : FVec Ideal S_ .f32) pads_S16384x8x64_S16384x8x128_000_000_0640 h_S_) shapeCasts_S16384x8x128_S16384x1024

theorem sitofp_zero : (FloatOps.sitofp FTy.f32 (0#32 : BitVec 32) : Ideal .f32) = 0 := by
  show (((0#32 : BitVec 32).toInt : ℝ) : EReal) = 0
  norm_num

theorem sitofp_zero16 : (FloatOps.sitofp FTy.bf16 (0#32 : BitVec 32) : Ideal .bf16) = 0 := by
  show (((0#32 : BitVec 32).toInt : ℝ) : EReal) = 0
  norm_num

theorem headsW_apply (x : FVec Ideal S1024x512 .bf16) (j K : Fin 1024) :
    headsW x (ix2 j K) = if h : K.val % 128 < 64 then x (ix2 j ⟨K.val / 128 * 64 + K.val % 128, by omega⟩) else 0 := by
  pointwise [headsW]
  by_cases h : K.val % 128 < 64
  · rw [dif_pos ⟨by omega, h⟩, dif_pos h]
  · rw [dif_neg (fun e => h e.2), dif_neg h, sitofp_zero16]

theorem headsD_apply (x : FVec Ideal S16384x512 .f32) (j : Fin 16384) (K : Fin 1024) :
    headsD x (ix2 j K) = if h : K.val % 128 < 64 then x (ix2 j ⟨K.val / 128 * 64 + K.val % 128, by omega⟩) else 0 := by
  pointwise [headsD]
  by_cases h : K.val % 128 < 64
  · rw [dif_pos ⟨by omega, h⟩, dif_pos h]
  · rw [dif_neg (fun e => h e.2), dif_neg h, sitofp_zero]

def smallW : FVec Ideal S1024x640 .bf16 :=
  concatenate S1024x640 1 [⟨S1024x512, extractStridedSlice S1024x512 ![0, 1024] w slices_S1024x6680_S1024x512_0_1024⟩,
    ⟨S1024x128, concatenate S1024x128 1 [⟨S1024x16, extractStridedSlice S1024x16 ![0, 1536] w slices_S1024x6680_S1024x16_0_1536⟩,
      ⟨S1024x8, extractStridedSlice S1024x8 ![0, 3088] w slices_S1024x6680_S1024x8_0_3088⟩,
      ⟨S1024x104, broadcastInDim S1024x104 ![] bcast_S_S1024x104 (constant S_ .bf16 0x0000#16 : FVec Ideal S_ .bf16)⟩]
      concatenates_S1024x16_S1024x8_S1024x104_S1024x128_d1⟩] concatenates_S1024x512_S1024x128_S1024x640_d1

def packedW : FVec Ideal S1024x8192 .bf16 :=
  concatenate S1024x8192 1 [⟨S1024x1024, headsW (extractStridedSlice S1024x512 ![0, 1552] w slices_S1024x6680_S1024x512_0_1552)⟩,
    ⟨S1024x1024, headsW (extractStridedSlice S1024x512 ![0, 2064] w slices_S1024x6680_S1024x512_0_2064)⟩,
    ⟨S1024x512, extractStridedSlice S1024x512 ![0, 2576] w slices_S1024x6680_S1024x512_0_2576⟩,
    ⟨S1024x512, extractStridedSlice S1024x512 ![0, 3096] w slices_S1024x6680_S1024x512_0_3096⟩,
    ⟨S1024x3072, extractStridedSlice S1024x3072 ![0, 3608] w slices_S1024x6680_S1024x3072_0_3608⟩,
    ⟨S1024x1024, extractStridedSlice S1024x1024 ![0, 0] w slices_S1024x6680_S1024x1024_0_0⟩,
    ⟨S1024x640, smallW w⟩, ⟨S1024x384, broadcastInDim S1024x384 ![] bcast_S_S1024x384 (constant S_ .bf16 0x0000#16 : FVec Ideal S_ .bf16)⟩]
    concatenates_S1024x1024_S1024x1024_S1024x512_S1024x512_S1024x3072_S1024x1024_S1024x640_S1024x384_S1024x8192_d1

def smallD : FVec Ideal S16384x640 .f32 :=
  concatenate S16384x640 1 [⟨S16384x512, extractStridedSlice S16384x512 ![0, 1024] d slices_S16384x6680_S16384x512_0_1024⟩,
    ⟨S16384x128, concatenate S16384x128 1 [⟨S16384x16, extractStridedSlice S16384x16 ![0, 1536] d slices_S16384x6680_S16384x16_0_1536⟩,
      ⟨S16384x8, extractStridedSlice S16384x8 ![0, 3088] d slices_S16384x6680_S16384x8_0_3088⟩,
      ⟨S16384x104, broadcastInDim S16384x104 ![] bcast_S_S16384x104 (constant S_ .f32 0x00000000#32 : FVec Ideal S_ .f32)⟩]
      concatenates_S16384x16_S16384x8_S16384x104_S16384x128_d1⟩] concatenates_S16384x512_S16384x128_S16384x640_d1

def packedD : FVec Ideal S16384x8192 .f32 :=
  concatenate S16384x8192 1 [⟨S16384x1024, headsD (extractStridedSlice S16384x512 ![0, 1552] d slices_S16384x6680_S16384x512_0_1552)⟩,
    ⟨S16384x1024, headsD (extractStridedSlice S16384x512 ![0, 2064] d slices_S16384x6680_S16384x512_0_2064)⟩,
    ⟨S16384x512, extractStridedSlice S16384x512 ![0, 2576] d slices_S16384x6680_S16384x512_0_2576⟩,
    ⟨S16384x512, extractStridedSlice S16384x512 ![0, 3096] d slices_S16384x6680_S16384x512_0_3096⟩,
    ⟨S16384x3072, extractStridedSlice S16384x3072 ![0, 3608] d slices_S16384x6680_S16384x3072_0_3608⟩,
    ⟨S16384x1024, extractStridedSlice S16384x1024 ![0, 0] d slices_S16384x6680_S16384x1024_0_0⟩,
    ⟨S16384x640, smallD d⟩, ⟨S16384x384, broadcastInDim S16384x384 ![] bcast_S_S16384x384 (constant S_ .f32 0x00000000#32 : FVec Ideal S_ .f32)⟩]
    concatenates_S16384x1024_S16384x1024_S16384x512_S16384x512_S16384x3072_S16384x1024_S16384x640_S16384x384_S16384x8192_d1

set_option maxHeartbeats 1600000 in
theorem packedD_apply (j : Fin 16384) (K : Fin 8192) : packedD d (ix2 j K) = pk (fun s => d (ix2 j s)) K := by
  pointwise [packedD, smallD, headsD_apply]
  rcases (by omega : (K.val < 1024 ∧ K.val % 128 < 64) ∨ (K.val < 1024 ∧ 64 ≤ K.val % 128) ∨ (1024 ≤ K.val ∧ K.val < 2048 ∧ K.val % 128 < 64) ∨
    (1024 ≤ K.val ∧ K.val < 2048 ∧ 64 ≤ K.val % 128) ∨ (2048 ≤ K.val ∧ K.val < 2560) ∨ (2560 ≤ K.val ∧ K.val < 3072) ∨ (3072 ≤ K.val ∧ K.val < 6144) ∨
    (6144 ≤ K.val ∧ K.val < 7168) ∨ (7168 ≤ K.val ∧ K.val < 7680) ∨ (7680 ≤ K.val ∧ K.val < 7696) ∨ (7696 ≤ K.val ∧ K.val < 7704) ∨
    (7704 ≤ K.val ∧ K.val < 7808) ∨ 7808 ≤ K.val) with k | k | k | k | k | k | k | k | k | k | k | k | k
  all_goals simp (disch := omega) only [dif_pos, dif_neg]
  all_goals first
    | (refine (pk_of (fun s => d (ix2 j s)) K _ _ ?_).symm
       simp (disch := omega) only [src, if_pos, if_neg]
       done)
    | (refine (pk_of (fun s => d (ix2 j s)) K _ _ ?_).symm
       simp (disch := omega) only [src, if_pos, if_neg]
       omega)
    | (refine (pk_zero (fun s => d (ix2 j s)) K ?_).symm
       simp (disch := omega) only [src, if_pos, if_neg]
       done)

set_option maxHeartbeats 1600000 in
theorem packedW_apply (j : Fin 1024) (K : Fin 8192) : packedW w (ix2 j K) = pk (fun s => w (ix2 j s)) K := by
  pointwise [packedW, smallW, headsW_apply]
  rcases (by omega : (K.val < 1024 ∧ K.val % 128 < 64) ∨ (K.val < 1024 ∧ 64 ≤ K.val % 128) ∨ (1024 ≤ K.val ∧ K.val < 2048 ∧ K.val % 128 < 64) ∨
    (1024 ≤ K.val ∧ K.val < 2048 ∧ 64 ≤ K.val % 128) ∨ (2048 ≤ K.val ∧ K.val < 2560) ∨ (2560 ≤ K.val ∧ K.val < 3072) ∨ (3072 ≤ K.val ∧ K.val < 6144) ∨
    (6144 ≤ K.val ∧ K.val < 7168) ∨ (7168 ≤ K.val ∧ K.val < 7680) ∨ (7680 ≤ K.val ∧ K.val < 7696) ∨ (7696 ≤ K.val ∧ K.val < 7704) ∨
    (7704 ≤ K.val ∧ K.val < 7808) ∨ 7808 ≤ K.val) with k | k | k | k | k | k | k | k | k | k | k | k | k
  all_goals simp (disch := omega) only [dif_pos, dif_neg]
  all_goals first
    | (refine (pk_of (fun s => w (ix2 j s)) K _ _ ?_).symm
       simp (disch := omega) only [src, if_pos, if_neg]
       done)
    | (refine (pk_of (fun s => w (ix2 j s)) K _ _ ?_).symm
       simp (disch := omega) only [src, if_pos, if_neg]
       omega)
    | (refine (pk_zero (fun s => w (ix2 j s)) K ?_).symm
       simp (disch := omega) only [src, if_pos, if_neg]
       done)

end packing

end Cert.DmixIdeal.Hand
-- ==== Proof.DmixVal.lean ====
/-
  The gradient of the first norm and of the shared projection: what the points leave, by the mixer's own norm's chunks.
-/
module

public import proofs.«01_k».proof.Proof.DmixHost
public import proofs.«01_k».proof.Proof.DffnVal
public import Idealize.ShloMosaic.Lib.Claim
public import Idealize.ShloMosaic.Lib.Pipeline.ValueKit.Acc

@[expose] public section

set_option maxRecDepth 16384

noncomputable section

namespace Cert.DmixIdeal.Hand

open Cert.DmixIdeal Cert.DmixIdeal.Gen Idealize.ShloMosaic Idealize.ShloMosaic.TcCoe Idealize.SL.Sem Cert.RealMath
open Idealize.ShloMosaic.Pipeline (Dat)
open Cert.DffnIdeal.Hand (OB GB pieceO chainG lda memO)

/-- A point's part of the product. -/
def TA (a b : Vec Ideal S1024x2048 .bf16) (i : S1024x1024.Idx) : EReal := ∑ k : Fin 2048, a (ix2 (i 0) k) * b (ix2 (i 1) k)

section same
variable (u x d : Vec Ideal S256x1024 .f32) (g : Vec Ideal S1x1024 .f32) (y : S256x1024.Idx) (a : Vec Ideal S8x1024 .f32)
theorem p14 : k0_pay14 u x d g y = k0_pay7 u x d g y := rfl
theorem p19 : k0_pay19 u x d g y = k0_pay7 u x d g y := rfl
theorem p24 : k0_pay24 u x d g y = k0_pay7 u x d g y := rfl
theorem pay7_apply (r : Fin 256) (j : Fin 1024) : k0_pay7 u x d g (ix2 r j) = DffnIdeal.Gen.k0_pay9 u x d g (ix2 r j) := by
  rw [DffnIdeal.Hand.pay9_apply]
  have e : k0_pay7 u x d g (ix2 r j) = d (ix2 r j) + DffnIdeal.Gen.k0_pay7 x (ix2 r 0) * (u (ix2 r j) * g (ix2 0 j)
      - DffnIdeal.Gen.k0_pay8 x (ix2 r j) * Ideal.div (∑ k, u (ix2 r k) * g (ix2 0 k) * DffnIdeal.Gen.k0_pay8 x (ix2 r k)) cN) := by
    have e6 : k0_pay6 x = DffnIdeal.Gen.k0_pay8 x := rfl
    have e5 : k0_pay5 x = DffnIdeal.Gen.k0_pay7 x := rfl
    rw [← e6, ← e5]
    pointwise [k0_pay7, cN]
  rw [e, DffnIdeal.Hand.pay7_apply]
  simp only [DffnIdeal.Hand.pay8_apply]
  rfl
theorem q10 : k0_pay10 (k0_pay8 a) (k0_pay9 u x) = DffnIdeal.Gen.k0_pay12 u (DffnIdeal.Gen.k0_pay8 x) (DffnIdeal.Gen.k0_pay11 a) := rfl
theorem q15 : k0_pay15 u x a = DffnIdeal.Gen.k0_pay18 u (DffnIdeal.Gen.k0_pay15 x) a := rfl
theorem q20 : k0_pay20 u x a = DffnIdeal.Gen.k0_pay24 u (DffnIdeal.Gen.k0_pay21 x) a := rfl
theorem q25 : k0_pay25 u x a = DffnIdeal.Gen.k0_pay4 u (DffnIdeal.Gen.k0_pay27 x) a := rfl
end same

section pieces
variable (u x d : Vec Ideal S256x1024 .f32) (g : Vec Ideal S1x1024 .f32) (y : S256x1024.Idx)
theorem p7_piece : k0_pay7 u x d g y = DffnIdeal.Gen.k0_pay9 u x d g y := by
  obtain ⟨r, j, rfl⟩ : ∃ (r : Fin 256) (j : Fin 1024), y = ix2 r j := ⟨y 0, y 1, (ix2_eta y).symm⟩
  exact pay7_apply u x d g r j
theorem p14_piece : k0_pay14 u x d g y = DffnIdeal.Gen.k0_pay9 u x d g y := (p14 u x d g y).trans (p7_piece u x d g y)
theorem p19_piece : k0_pay19 u x d g y = DffnIdeal.Gen.k0_pay9 u x d g y := (p19 u x d g y).trans (p7_piece u x d g y)
theorem p24_piece : k0_pay24 u x d g y = DffnIdeal.Gen.k0_pay9 u x d g y := (p24 u x d g y).trans (p7_piece u x d g y)
end pieces

theorem readCov_whole (u : Vec Ideal S1024x1024 .f32) (v : View sig .tc .vmem S1024x1024 .f32) (inb : ∀ a, (![0, 0] : Fin 2 → Nat) a + S1024x1024.size a ≤ S1024x1024.size a) (r : Rect S1024x1024) :
    v.readCov (Val := Elt Ideal) [⟨Rect.unit ![0, 0] S1024x1024.size inb, u⟩] r.toLoadRect = View.ld u r := by
  rw [View.readCov_eq_canon', View.canon_cons_unit_lit inb u [] (by intro a; fin_cases a <;> rfl)]

theorem pay2_apply (s : Vec Ideal S1024x1024 .f32) (a b : Vec Ideal S1024x2048 .bf16) (r j : Fin 1024) :
    k0_pay2 s a b (ix2 r j) = s (ix2 r j) + ∑ k : Fin 2048, a (ix2 r k) * b (ix2 j k) := by
  pointwise [k0_pay2]

theorem zero_apply (s : Fin 8) (j : Fin 1024) : k0_pay3 (F := Ideal) (ix2 s j) = 0 := by
  pointwise [k0_pay3]

theorem pay1_apply (i : S1024x1024.Idx) : k0_pay1 (F := Ideal) i = 0 := by
  pointwise [k0_pay1]

/-! ### The run's contents -/

variable (m : (ℓ : Loc nD τ sig) → Buf (Elt Ideal) ℓ)

theorem unread_eq (X : Vec Ideal S1024x1024 .f32) :
    View.read (Elt Ideal) (View.whole cc0_scratch0) ((Memref.isWhole_whole cc0_scratch0).unread X) = X :=
  (Memref.isWhole_whole cc0_scratch0).read_unread X

section points
variable (c : Dev nD) (t : Fin cfg0.N)

/-- What the point before left. -/
abbrev pv := outsAt0 m c (t.val - 1) (Nat.lt_of_le_of_lt (Nat.sub_le _ _) t.isLt)

theorem acc_A (h0 : t.val % 4 = 0) (y : S1024x1024.Idx) : (outsAt0 m c t.val t.isLt).2.2 y = 0 + TA (iblk m c 0 t) (iblk m c 1 t) y := by
  obtain ⟨r, j, rfl⟩ : ∃ (r : Fin 1024) (j : Fin 1024), y = ix2 r j := ⟨y 0, y 1, (ix2_eta y).symm⟩
  rw [outsAt0_A m c t h0 (by omega)]
  dsimp only
  frame_out
  rw [pay2_apply, pay1_apply]
  rfl

theorem acc_S (h0 : ¬t.val % 4 = 0) : (outsAt0 m c t.val t.isLt).2.2 = k0_pay2 (pv m c t).2.2 (iblk m c 0 t) (iblk m c 1 t) := by
  by_cases h1 : t.val % 4 = 3
  · by_cases h2 : t.val < 4
    · rw [outsAt0_C m c t h0 h1 h2]
      dsimp only
      frame_out
      rw [unread_eq]
    · rw [outsAt0_D m c t h0 h1 h2]
      dsimp only
      frame_out
      rw [unread_eq]
  · rw [outsAt0_B m c t h0 h1]
    dsimp only
    frame_out
    rw [unread_eq]

theorem acc_B (h0 : ¬t.val % 4 = 0) (y : S1024x1024.Idx) : (outsAt0 m c t.val t.isLt).2.2 y = (pv m c t).2.2 y + TA (iblk m c 0 t) (iblk m c 1 t) y := by
  obtain ⟨r, j, rfl⟩ : ∃ (r : Fin 1024) (j : Fin 1024), y = ix2 r j := ⟨y 0, y 1, (ix2_eta y).symm⟩
  rw [acc_S m c t h0, pay2_apply]
  rfl

open List.Mem in
theorem out_O (h0 : ¬t.val % 4 = 0) (h1 : t.val % 4 = 3) (y : S1024x1024.Idx) :
    (outsAt0 m c t.val t.isLt).1 y = OB (outsAt0 m c t.val t.isLt).2.2 (iblk m c 2 t) (iblk m c 4 t) (iblk m c 3 t) y := by
  rw [acc_S m c t h0]
  by_cases h2 : t.val < 4
  all_goals
    first
    | rw [outsAt0_C m c t h0 h1 h2]
    | rw [outsAt0_D m c t h0 h1 h2]
    dsimp only
    frame_out
    dsimp only [pv]
    generalize (outsAt0 m c (t.val - 1) (Nat.lt_of_le_of_lt (Nat.sub_le _ _) t.isLt)) = X
    rw [unread_eq]
    rw [readCov_whole, readCov_whole, readCov_whole, readCov_whole]
    refine View.canon_apply_of_pieces (Val := Elt Ideal) (S := S1024x1024) (e := .f32) (OB (k0_pay2 X.2.2 (iblk m c 0 t) (iblk m c 1 t)) (iblk m c 2 t) (iblk m c 4 t) (iblk m c 3 t)) _ ?_ y ?_
    · intro p hp
      simp only [List.mem_cons, List.not_mem_nil, or_false] at hp
      rcases hp with rfl | rfl | rfl | rfl
      · exact fun y => (p24_piece _ _ _ _ y).trans (pieceO (k0_pay2 X.2.2 (iblk m c 0 t) (iblk m c 1 t)) (iblk m c 2 t) (iblk m c 4 t) (iblk m c 3 t) (o := 768) inb_S1024x1024_S256x1024_768_0 y)
      · exact fun y => (p19_piece _ _ _ _ y).trans (pieceO (k0_pay2 X.2.2 (iblk m c 0 t) (iblk m c 1 t)) (iblk m c 2 t) (iblk m c 4 t) (iblk m c 3 t) (o := 512) inb_S1024x1024_S256x1024_512_0 y)
      · exact fun y => (p14_piece _ _ _ _ y).trans (pieceO (k0_pay2 X.2.2 (iblk m c 0 t) (iblk m c 1 t)) (iblk m c 2 t) (iblk m c 4 t) (iblk m c 3 t) (o := 256) inb_S1024x1024_S256x1024_256_0 y)
      · exact fun y => (p7_piece _ _ _ _ y).trans (pieceO (k0_pay2 X.2.2 (iblk m c 0 t) (iblk m c 1 t)) (iblk m c 2 t) (iblk m c 4 t) (iblk m c 3 t) (o := 0) inb_S1024x1024_S256x1024_0_0 y)
    · have hy : (y 0).val < 1024 := (y 0).isLt
      have hc : (y 0).val < 256 ∨ (256 ≤ (y 0).val ∧ (y 0).val < 512) ∨ (512 ≤ (y 0).val ∧ (y 0).val < 768) ∨ 768 ≤ (y 0).val := by omega
      rcases hc with h | h | h | h
      · exact ⟨_, tail _ (tail _ (tail _ (head _))), memO (o := 0) inb_S1024x1024_S256x1024_0_0 y (by omega)⟩
      · exact ⟨_, tail _ (tail _ (head _)), memO (o := 256) inb_S1024x1024_S256x1024_256_0 y (by omega)⟩
      · exact ⟨_, tail _ (head _), memO (o := 512) inb_S1024x1024_S256x1024_512_0 y (by omega)⟩
      · exact ⟨_, head _, memO (o := 768) inb_S1024x1024_S256x1024_768_0 y (by omega)⟩

theorem dg_keep (h1 : ¬t.val % 4 = 3) : (outsAt0 m c t.val t.isLt).2.1 = (pv m c t).2.1 := by
  by_cases h0 : t.val % 4 = 0
  · rw [outsAt0_A m c t h0 h1]
    rfl
  · rw [outsAt0_B m c t h0 h1]
    rfl

theorem dg_C (h1 : t.val % 4 = 3) (h2 : t.val < 4) (s : Fin 8) (j : Fin 1024) :
    (outsAt0 m c t.val t.isLt).2.1 (ix2 s j) = 0 + ∑ q, GB (outsAt0 m c t.val t.isLt).2.2 (iblk m c 2 t) s j q := by
  rw [acc_S m c t (by omega), outsAt0_C m c t (by omega) h1 h2]
  dsimp only
  frame_out
  dsimp only [pv]
  generalize (outsAt0 m c (t.val - 1) (Nat.lt_of_le_of_lt (Nat.sub_le _ _) t.isLt)) = X
  rw [unread_eq]
  rw [readCov_whole, readCov_whole, readCov_whole, readCov_whole]
  have e : k0_pay3 (F := Ideal) (ix2 s j) = 0 := zero_apply s j
  rw [← e]
  exact chainG (k0_pay2 X.2.2 (iblk m c 0 t) (iblk m c 1 t)) (iblk m c 2 t) (k0_pay3 (F := Ideal)) s j

theorem dg_D (h1 : t.val % 4 = 3) (h2 : ¬t.val < 4) (s : Fin 8) (j : Fin 1024) :
    (outsAt0 m c t.val t.isLt).2.1 (ix2 s j) = (pv m c t).2.1 (ix2 s j) + ∑ q, GB (outsAt0 m c t.val t.isLt).2.2 (iblk m c 2 t) s j q := by
  rw [acc_S m c t (by omega), outsAt0_D m c t (by omega) h1 h2]
  dsimp only
  frame_out
  dsimp only [pv]
  generalize (outsAt0 m c (t.val - 1) (Nat.lt_of_le_of_lt (Nat.sub_le _ _) t.isLt)) = X
  rw [unread_eq]
  rw [readCov_whole, readCov_whole, readCov_whole, readCov_whole]
  exact chainG (k0_pay2 X.2.2 (iblk m c 0 t) (iblk m c 1 t)) (iblk m c 2 t) X.2.1 s j

end points

end Cert.DmixIdeal.Hand
-- ==== Proof.DmixArr.lean ====
/-
  The gradient of the first norm and of the shared projection: the two packed arrays the kernel is launched with.
-/
module

public import proofs.«01_k».proof.Proof.DmixHost

@[expose] public section

set_option maxRecDepth 16384

noncomputable section

namespace Cert.DmixIdeal.Hand

open Cert.DmixIdeal Cert.DmixIdeal.Gen Idealize.ShloMosaic Idealize.ShloMosaic.TcCoe Idealize.SL.Sem

section arrays
variable (m : (ℓ : Loc nD τ sig) → Buf (Elt Ideal) ℓ) (c : Dev nD)

set_option maxHeartbeats 2000000 in
theorem host_d : V m c main_v45 = packedD (shapeCast S16384x6680 (m ((c : Thread nD τ).loc main_arg0)) shapeCasts_S1x16384x6680_S16384x6680) := by
  dsimp only [V, hostOps0, hostOps0_1, hostOps0_2, hostOps0_3, hostOps0_4, hostOps0_5, hostOps0_6, hostOps0_7, hostOps0_8, List.flatten_cons, List.flatten_nil, List.cons_append, List.nil_append]
  after_results
  rfl

theorem host_w : V m c main_v23 = packedW (truncf .bf16 (shapeCast S1024x6680 (m ((c : Thread nD τ).loc main_arg1)) shapeCasts_S1x1024x6680_S1024x6680) bitsLt_bf16_f32) := by
  dsimp only [V, hostOps0, hostOps0_1, hostOps0_2, hostOps0_3, hostOps0_4, hostOps0_5, hostOps0_6, hostOps0_7, hostOps0_8, List.flatten_cons, List.flatten_nil, List.cons_append, List.nil_append]
  after_results
  rfl

end arrays

end Cert.DmixIdeal.Hand
-- ==== Proof.DmixRefRow.lean ====
/-
  The gradient of the first norm and of the shared projection: what the `jax.vjp` reference computes, element by element.
-/
module

public import proofs.«01_k».proof.Proof.Gen.DmixRefIdeal.Read
public import proofs.«01_k».proof.Proof.RmsMath
public import Idealize.ShloMosaic.Lib.Claim

@[expose] public section

set_option maxRecDepth 16384

noncomputable section

namespace Cert.DmixRefIdeal.Hand

open Cert.DmixRefIdeal Cert.DmixRefIdeal.Gen Cert.DmixRefIdeal.Read Idealize.ShloMosaic Idealize.ShloMosaic.TcCoe Cert.RealMath

variable (a : FVec Ideal S1x16384x6680 .f32) (w : FVec Ideal S1x1024x6680 .f32) (x : FVec Ideal S1x16384x1024 .f32) (g : FVec Ideal S1x1024 .f32)
  (d : FVec Ideal S1x16384x1024 .f32)

/-- A row of the norm's argument, the cotangent at the normed row, and with the gain. -/
def rx (R : Fin 16384) (k : Fin 1024) : EReal := x (ix3 0 R k)
def du (R : Fin 16384) (j : Fin 1024) : EReal := ∑ k : Fin 6680, a (ix3 0 R k) * w (ix3 0 j k)
def dw (R : Fin 16384) (j : Fin 1024) : EReal := du a w R j * g (ix2 0 j)

theorem v1_apply (R : Fin 16384) (k : Fin 1024) : val_main_v1 (F := Ideal) x (ix2 R k) = rx x R k := by
  pointwise [val_main_v1, rx]

theorem v20_apply (R : Fin 16384) (j : Fin 1024) : val_main_v20 (F := Ideal) a w (ix2 R j) = du a w R j := by
  pointwise [val_main_v20, val_main_v19, val_main_v2, du]

theorem v22_apply (R : Fin 16384) (j : Fin 1024) : val_main_v22 (F := Ideal) a w g (ix2 R j) = dw a w g R j := by
  have e : val_main_v22 (F := Ideal) a w g (ix2 R j) = val_main_v20 (F := Ideal) a w (ix2 R j) * g (ix2 0 j) := by
    pointwise [val_main_v22, val_main_v0]
  rw [e, v20_apply]
  rfl

theorem v9_apply (R : Fin 16384) : val_main_v9 (F := Ideal) x (ix2 R 0) = rmsV (rx x R) := by
  have e : val_main_v9 (F := Ideal) x (ix2 R 0)
      = Ideal.div (∑ k, val_main_v1 (F := Ideal) x (ix2 R k) * val_main_v1 (F := Ideal) x (ix2 R k)) cN + cE := by
    pointwise [val_main_v9, val_main_v8, val_main_v7, val_main_v6, val_main_v5, val_main_v4, val_main_v3, val_main_cst, val_main_cst_0, val_main_cst_1, cN, cE]
  rw [e]
  simp only [v1_apply]
  rfl

theorem v10_apply (R : Fin 16384) : val_main_v10 (F := Ideal) x (ix2 R 0) = rmsR (rx x R) := by
  have e : val_main_v10 (F := Ideal) x (ix2 R 0) = Ideal.rsqrt (val_main_v9 (F := Ideal) x (ix2 R 0)) := by
    pointwise [val_main_v10]
  rw [e, v9_apply]
  rfl

theorem v15_apply (R : Fin 16384) (j : Fin 1024) : val_main_v15 (F := Ideal) x (ix2 R j) = rmsX (rx x R) j := by
  have e : val_main_v15 (F := Ideal) x (ix2 R j) = val_main_v1 (F := Ideal) x (ix2 R j) * val_main_v10 (F := Ideal) x (ix2 R 0) := by
    pointwise [val_main_v15, val_main_v14]
  rw [e, v10_apply, v1_apply]
  rfl

theorem v33_apply (R : Fin 16384) (j : Fin 1024) : val_main_v33 (F := Ideal) a w x g (ix2 R j) = rmsU (rx x R) (dw a w g R) := by
  have e : val_main_v33 (F := Ideal) a w x g (ix2 R j)
      = Ideal.div ((∑ k, val_main_v1 (F := Ideal) x (ix2 R k) * val_main_v22 (F := Ideal) a w g (ix2 R k))
          * (cHalf * Ideal.div (val_main_v10 (F := Ideal) x (ix2 R 0)) (val_main_v9 (F := Ideal) x (ix2 R 0)))) cN := by
    pointwise [val_main_v33, val_main_v32, val_main_v31, val_main_v30, val_main_v29, val_main_v25, val_main_v24, val_main_v23, val_main_v13, val_main_v12,
      val_main_v11, val_main_cst_2, val_main_cst_3, val_main_cst_4, val_main_cst_5, cN, cHalf]
    exact Fin.sum_univ_one _
  rw [e, v10_apply, v9_apply]
  simp only [v1_apply, v22_apply]
  rfl

variable {a w x g}
variable (ha : ∀ i, Rl (a i)) (hw : ∀ i, Rl (w i)) (hx : ∀ i, Rl (x i)) (hg : ∀ i, Rl (g i))

include ha hw hg in
theorem dw_real (R : Fin 16384) (j : Fin 1024) : Rl (dw a w g R j) := by
  unfold dw du
  exact (Rl.sum fun i => (ha _).mul (hw _)).mul (hg _)

include ha hw hx hg

theorem v37_apply (R : Fin 16384) (j : Fin 1024) :
    val_main_v37 (F := Ideal) a w x g d (ix2 R j) = d (ix3 0 R j) + rmsG (rx x R) (dw a w g R) j := by
  have e : val_main_v37 (F := Ideal) a w x g d (ix2 R j)
      = d (ix3 0 R j) + val_main_v22 (F := Ideal) a w g (ix2 R j) * val_main_v10 (F := Ideal) x (ix2 R 0)
        + val_main_v1 (F := Ideal) x (ix2 R j) * val_main_v33 (F := Ideal) a w x g (ix2 R j)
        + val_main_v33 (F := Ideal) a w x g (ix2 R j) * val_main_v1 (F := Ideal) x (ix2 R j) := by
    pointwise [val_main_v37, val_main_v18, val_main_v36, val_main_v35, val_main_v34, val_main_v28, val_main_v27, val_main_v26]
  rw [e, v10_apply, v1_apply, v33_apply, v22_apply]
  exact rmsG_eq (x := rx x R) (w := dw a w g R) (fun k => hx (ix3 0 R k)) (fun k => dw_real ha hw hg R k) _ _

omit ha hw hx hg

variable (a w x)

/-- One row's part of the gain's gradient. -/
def tg (s : Fin 8) (j : Fin 1024) (q : Fin 2048) : EReal :=
  rmsX (rx x ⟨q.val * 8 + s.val, by omega⟩) j * du a w ⟨q.val * 8 + s.val, by omega⟩ j

theorem v39_apply (s : Fin 8) (j : Fin 1024) : val_main_v39 (F := Ideal) a w x (ix2 s j) = ∑ q, tg a w x s j q := by
  have e : val_main_v39 (F := Ideal) a w x (ix2 s j)
      = ∑ q : Fin 2048, val_main_v15 (F := Ideal) x (ix2 ⟨q.val * 8 + s.val, by omega⟩ j) * val_main_v20 (F := Ideal) a w (ix2 ⟨q.val * 8 + s.val, by omega⟩ j) := by
    pointwise [val_main_v39, val_main_v38, val_main_v21, val_main_cst_6]
  rw [e]
  simp only [v15_apply, v20_apply]
  rfl

end Cert.DmixRefIdeal.Hand
-- ==== Proof.DmixFinal.lean ====
/-
  The gradient of the first norm and of the shared projection: the blocks the points read, the accumulated product, and the three arrays
  after the run against the reference's.
-/
module

public import proofs.«01_k».proof.Proof.DmixVal
public import proofs.«01_k».proof.Proof.DmixArr
public import proofs.«01_k».proof.Proof.DmixRefRow
public import proofs.«01_k».proof.Proof.Gen.DmixIdeal.Value

@[expose] public section

set_option maxRecDepth 16384

noncomputable section

namespace Cert.DmixIdeal.Hand

open Cert.DmixIdeal Cert.DmixIdeal.Gen Idealize.ShloMosaic Idealize.ShloMosaic.TcCoe Idealize.SL.Sem Cert.RealMath
open Idealize.ShloMosaic.Pipeline (Dat)
open Cert.DffnIdeal.Hand (OB GB)
open Cert.DmixRefIdeal.Hand (rx du dw tg)
open Cert.DmixRefIdeal.Read

variable (m : (ℓ : Loc nD τ sig) → Buf (Elt Ideal) ℓ) (c : Dev nD)

/-- The arguments, as the reference takes them. -/
abbrev A0 : FVec Ideal S1x16384x6680 .f32 := m ((c : Thread nD τ).loc main_arg0)
abbrev A1 : FVec Ideal S1x1024x6680 .f32 := m ((c : Thread nD τ).loc main_arg1)
abbrev A2 : FVec Ideal S1x16384x1024 .f32 := m ((c : Thread nD τ).loc main_arg2)
abbrev A3 : FVec Ideal S1x1024 .f32 := m ((c : Thread nD τ).loc main_arg3)
abbrev A4 : FVec Ideal S1x16384x1024 .f32 := m ((c : Thread nD τ).loc main_arg4)

theorem dropD (x : FVec Ideal S1x16384x6680 .f32) (q : Fin 16384) (k : Fin 6680) :
    shapeCast S16384x6680 x shapeCasts_S1x16384x6680_S16384x6680 (ix2 q k) = x (ix3 0 q k) := by
  pointwise []

theorem dropW (x : FVec Ideal S1x1024x6680 .f32) (q : Fin 1024) (k : Fin 6680) :
    (truncf .bf16 (shapeCast S1024x6680 x shapeCasts_S1x1024x6680_S1024x6680) bitsLt_bf16_f32 : FVec Ideal S1024x6680 .bf16) (ix2 q k) = x (ix3 0 q k) := by
  pointwise []

theorem drop2 (x : FVec Ideal S1x16384x1024 .f32) (q : Fin 16384) (k : Fin 1024) :
    shapeCast S16384x1024 x shapeCasts_S1x16384x1024_S16384x1024 (ix2 q k) = x (ix3 0 q k) := by
  pointwise []

theorem V_d (q : Fin 16384) (k : Fin 8192) : V m c main_v45 (ix2 q k) = pk (fun s => A0 m c (ix3 0 q s)) k := by
  rw [host_d]
  refine (packedD_apply _ q k).trans (congrArg (pk · k) (funext fun s => ?_))
  exact dropD (A0 m c) q s

theorem V_w (q : Fin 1024) (k : Fin 8192) : V m c main_v23 (ix2 q k) = pk (fun s => A1 m c (ix3 0 q s)) k := by
  rw [host_w]
  refine (packedW_apply _ q k).trans (congrArg (pk · k) (funext fun s => ?_))
  exact dropW (A1 m c) q s

theorem V_x (q : Fin 16384) (k : Fin 1024) : V m c main_v46 (ix2 q k) = A2 m c (ix3 0 q k) := by
  have e : V m c main_v46 = (shapeCast S16384x1024 (A2 m c) shapeCasts_S1x16384x1024_S16384x1024 : FVec Ideal S16384x1024 .f32) := by
    dsimp only [V, hostOps0, hostOps0_1, hostOps0_2, hostOps0_3, hostOps0_4, hostOps0_5, hostOps0_6, hostOps0_7, hostOps0_8, List.flatten_cons, List.flatten_nil, List.cons_append, List.nil_append]
    after_results
    rfl
  rw [e]
  exact drop2 _ q k

theorem V_r (q : Fin 16384) (k : Fin 1024) : V m c main_v47 (ix2 q k) = A4 m c (ix3 0 q k) := by
  have e : V m c main_v47 = (shapeCast S16384x1024 (A4 m c) shapeCasts_S1x16384x1024_S16384x1024 : FVec Ideal S16384x1024 .f32) := by
    dsimp only [V, hostOps0, hostOps0_1, hostOps0_2, hostOps0_3, hostOps0_4, hostOps0_5, hostOps0_6, hostOps0_7, hostOps0_8, List.flatten_cons, List.flatten_nil, List.cons_append, List.nil_append]
    after_results
    rfl
  rw [e]
  exact drop2 _ q k

theorem idx_in : ∀ t : Fin cfg0.N, (win0_0.index t 0 = t.val / 4 ∧ win0_0.index t 1 = t.val % 4) ∧ (win0_1.index t 0 = 0 ∧ win0_1.index t 1 = t.val % 4)
    ∧ (win0_2.index t 0 = t.val / 4 ∧ win0_2.index t 1 = 0) ∧ (win0_3.index t 0 = 0 ∧ win0_3.index t 1 = 0) ∧ (win0_4.index t 0 = t.val / 4 ∧ win0_4.index t 1 = 0) :=
  (by decide +kernel : ∀ t : Fin grid0.N, (win0_0.index t 0 = t.val / 4 ∧ win0_0.index t 1 = t.val % 4) ∧ (win0_1.index t 0 = 0 ∧ win0_1.index t 1 = t.val % 4)
    ∧ (win0_2.index t 0 = t.val / 4 ∧ win0_2.index t 1 = 0) ∧ (win0_3.index t 0 = 0 ∧ win0_3.index t 1 = 0) ∧ (win0_4.index t 0 = t.val / 4 ∧ win0_4.index t 1 = 0))

theorem idx_out : ∀ t : Fin cfg0.N, (win0_5.index t 0 = t.val / 4 ∧ win0_5.index t 1 = 0) ∧ (win0_6.index t 0 = 0 ∧ win0_6.index t 1 = 0) :=
  (by decide +kernel : ∀ t : Fin grid0.N, (win0_5.index t 0 = t.val / 4 ∧ win0_5.index t 1 = 0) ∧ (win0_6.index t 0 = 0 ∧ win0_6.index t 1 = 0))

section blocks
variable (t : Fin cfg0.N)

theorem lt64 : t.val < 64 := lt_of_lt_of_eq t.isLt N_0

theorem a_blk (r : Fin 1024) (k : Fin 2048) (R : Fin 16384) (hR : R.val = t.val / 4 * 1024 + r.val) (K : Fin 8192) (hK : K.val = t.val % 4 * 2048 + k.val) :
    iblk m c 0 t (ix2 r k) = pk (fun s => A0 m c (ix3 0 R s)) K := by
  obtain ⟨⟨e0, e1⟩, -⟩ := idx_in t
  refine Eq.trans ?_ (V_d m c R K)
  show V m c main_v45 _ = V m c main_v45 _
  congr 1
  funext a
  apply Fin.ext
  match a with
  | ⟨0, _⟩ => show win0_0.index t 0 * 1024 + 1 * r.val = R.val; rw [e0]; omega
  | ⟨1, _⟩ => show win0_0.index t 1 * 2048 + 1 * k.val = K.val; rw [e1]; omega

theorem w_blk (j : Fin 1024) (k : Fin 2048) (K : Fin 8192) (hK : K.val = t.val % 4 * 2048 + k.val) : iblk m c 1 t (ix2 j k) = pk (fun s => A1 m c (ix3 0 j s)) K := by
  obtain ⟨-, ⟨e0, e1⟩, -⟩ := idx_in t
  refine Eq.trans ?_ (V_w m c j K)
  show V m c main_v23 _ = V m c main_v23 _
  congr 1
  funext a
  apply Fin.ext
  match a with
  | ⟨0, _⟩ => show win0_1.index t 0 * 1024 + 1 * j.val = j.val; rw [e0]; omega
  | ⟨1, _⟩ => show win0_1.index t 1 * 2048 + 1 * k.val = K.val; rw [e1]; omega

theorem x_blk (r k : Fin 1024) (R : Fin 16384) (hR : R.val = t.val / 4 * 1024 + r.val) : iblk m c 2 t (ix2 r k) = rx (A2 m c) R k := by
  obtain ⟨-, -, ⟨e0, e1⟩, -⟩ := idx_in t
  refine Eq.trans ?_ (V_x m c R k)
  show V m c main_v46 _ = V m c main_v46 _
  congr 1
  funext a
  apply Fin.ext
  match a with
  | ⟨0, _⟩ => show win0_2.index t 0 * 1024 + 1 * r.val = R.val; rw [e0]; omega
  | ⟨1, _⟩ => show win0_2.index t 1 * 1024 + 1 * k.val = k.val; rw [e1]; omega

theorem g_blk (k : Fin 1024) : iblk m c 3 t (ix2 0 k) = A3 m c (ix2 0 k) := by
  obtain ⟨-, -, -, ⟨e0, e1⟩, -⟩ := idx_in t
  refine Eq.trans ?_ (congrFun (V_main_arg3 m c) (ix2 0 k))
  show V m c main_arg3 _ = V m c main_arg3 _
  congr 1
  funext a
  apply Fin.ext
  match a with
  | ⟨0, _⟩ => show win0_3.index t 0 * 1 + 1 * 0 = 0; rw [e0]
  | ⟨1, _⟩ => show win0_3.index t 1 * 1024 + 1 * k.val = k.val; rw [e1]; omega

theorem d_blk (r k : Fin 1024) (R : Fin 16384) (hR : R.val = t.val / 4 * 1024 + r.val) : iblk m c 4 t (ix2 r k) = A4 m c (ix3 0 R k) := by
  obtain ⟨-, -, -, -, e0, e1⟩ := idx_in t
  refine Eq.trans ?_ (V_r m c R k)
  show V m c main_v47 _ = V m c main_v47 _
  congr 1
  funext a
  apply Fin.ext
  match a with
  | ⟨0, _⟩ => show win0_4.index t 0 * 1024 + 1 * r.val = R.val; rw [e0]; omega
  | ⟨1, _⟩ => show win0_4.index t 1 * 1024 + 1 * k.val = k.val; rw [e1]; omega

/-- The product accumulated over a row block's four points. -/
theorem acc_last (h1 : t.val % 4 = 3) (r j : Fin 1024) (R : Fin 16384) (hR : R.val = t.val / 4 * 1024 + r.val) :
    (outsAt0 m c t.val t.isLt).2.2 (ix2 r j) = du (A0 m c) (A1 m c) R j := by
  rw [Pipeline.eq_sum_fin_of_reset_step_apply_of_flush (fun n h => (outsAt0 m c n h).2.2) 4 (fun _ => (0 : EReal))
    (fun t i => TA (iblk m c 0 t) (iblk m c 1 t) i) (fun t h i => acc_A m c t h i) (fun t h i => acc_B m c t h i) t h1 (ix2 r j), zero_add]
  unfold du
  rw [← pk_sum (fun s => A0 m c (ix3 0 R s)) (fun s => A1 m c (ix3 0 j s))]
  rw [← Fin.sum_mul_add_fin 4 2048 fun K : Fin 8192 => pk (fun s => A0 m c (ix3 0 R s)) K * pk (fun s => A1 m c (ix3 0 j s)) K]
  refine Finset.sum_congr rfl fun s _ => Finset.sum_congr rfl fun k _ => ?_
  have ht := lt64 t
  exact congrArg₂ (· * ·) (a_blk m c _ r k R (by dsimp only; omega) ⟨s.val * 2048 + k.val, by omega⟩ (by dsimp only; omega))
    (w_blk m c _ j k ⟨s.val * 2048 + k.val, by omega⟩ (by dsimp only; omega))

theorem OB_blk (h1 : t.val % 4 = 3) (r j : Fin 1024) (R : Fin 16384) (hR : R.val = t.val / 4 * 1024 + r.val) :
    OB (outsAt0 m c t.val t.isLt).2.2 (iblk m c 2 t) (iblk m c 4 t) (iblk m c 3 t) (ix2 r j)
      = A4 m c (ix3 0 R j) + rmsG (rx (A2 m c) R) (dw (A0 m c) (A1 m c) (A3 m c) R) j := by
  exact congrArg₂ (· + ·) (d_blk m c t r j R hR) (congrArg₂ (fun a b => rmsG a b j) (funext fun k => x_blk m c t r k R hR)
    (funext fun k => congrArg₂ (· * ·) (acc_last m c t h1 r k R hR) (g_blk m c t k)))

/-- A row's part of the gain's gradient. -/
theorem GB_blk (h1 : t.val % 4 = 3) (s : Fin 8) (j : Fin 1024) (q : Fin 128) (Q : Fin 2048) (hQ : Q.val = t.val / 4 * 128 + q.val) :
    GB (outsAt0 m c t.val t.isLt).2.2 (iblk m c 2 t) s j q = tg (A0 m c) (A1 m c) (A2 m c) s j Q := by
  have ht := lt64 t
  unfold GB tg
  rw [mul_comm]
  exact congrArg₂ (· * ·) (congrArg (fun a => rmsX a j) (funext fun k => x_blk m c t _ k ⟨Q.val * 8 + s.val, by omega⟩ (by dsimp only; omega)))
    (acc_last m c t h1 _ j ⟨Q.val * 8 + s.val, by omega⟩ (by dsimp only; omega))

end blocks

theorem outs_congr {n n' : Nat} (e : n = n') (h : n < cfg0.N) (h' : n' < cfg0.N) : outsAt0 m c n h = outsAt0 m c n' h' := by
  subst e
  rfl

/-- The gain's gradient stays as it is until the row block's last point. -/
theorem dg_back (t : Fin cfg0.N) (h1 : t.val % 4 = 3) (h2 : ¬t.val < 4) (h' : t.val - 4 < cfg0.N) :
    (pv m c t).2.1 = (outsAt0 m c (t.val - 4) h').2.1 := by
  have ht := t.isLt
  rw [dg_keep m c ⟨t.val - 1, by omega⟩ (by dsimp only; omega)]
  dsimp only [pv]
  rw [dg_keep m c ⟨t.val - 1 - 1, by omega⟩ (by dsimp only; omega)]
  dsimp only [pv]
  rw [dg_keep m c ⟨t.val - 1 - 1 - 1, by omega⟩ (by dsimp only; omega)]
  dsimp only [pv]
  rw [outs_congr m c (n := t.val - 1 - 1 - 1 - 1) (n' := t.val - 4) (by omega) (by omega) h']

theorem pt_lt {n : Nat} (h : n < 16) : 4 * n + 3 < cfg0.N := by
  have e : cfg0.N = 64 := N_0
  omega

/-- The gain's gradient after row block `n`. -/
def dgAt (n : Nat) (h : n < 16) : Vec Ideal S8x1024 .f32 := (outsAt0 m c (4 * n + 3) (pt_lt h)).2.1

/-- What row block `n` adds to it. -/
def dgTerm (s : Fin 8) (j : Fin 1024) (n : Fin 16) : EReal := ∑ q : Fin 128, tg (A0 m c) (A1 m c) (A2 m c) s j ⟨n.val * 128 + q.val, by omega⟩

theorem dgAt_zero (h : 0 < 16) (s : Fin 8) (j : Fin 1024) : dgAt m c 0 h (ix2 s j) = 0 + dgTerm m c s j ⟨0, h⟩ := by
  refine (dg_C m c ⟨4 * 0 + 3, pt_lt h⟩ (by dsimp only) (by show 4 * 0 + 3 < 4; decide) s j).trans ?_
  exact congrArg (0 + ·) (Finset.sum_congr rfl fun q _ => GB_blk m c ⟨4 * 0 + 3, pt_lt h⟩ (by dsimp only) s j q _ (by dsimp only))

theorem dgAt_succ (n : Nat) (h : n + 1 < 16) (s : Fin 8) (j : Fin 1024) :
    dgAt m c (n + 1) h (ix2 s j) = dgAt m c n (by omega) (ix2 s j) + dgTerm m c s j ⟨n + 1, h⟩ := by
  have h4 : 4 * (n + 1) + 3 - 4 < cfg0.N := lt_of_le_of_lt (Nat.sub_le _ _) (pt_lt h)
  refine (dg_D m c ⟨4 * (n + 1) + 3, pt_lt h⟩ (by dsimp only; omega) (by dsimp only; omega) s j).trans ?_
  rw [dg_back m c ⟨4 * (n + 1) + 3, pt_lt h⟩ (by dsimp only; omega) (by dsimp only; omega) h4]
  refine congrArg₂ (· + ·) ?_ (Finset.sum_congr rfl fun q _ => GB_blk m c ⟨4 * (n + 1) + 3, pt_lt h⟩ (by dsimp only; omega) s j q _ (by dsimp only; omega))
  unfold dgAt
  rw [outs_congr m c (n := 4 * n + 3) (n' := 4 * (n + 1) + 3 - 4) (by omega) _ h4]

theorem dgAt_last (s : Fin 8) (j : Fin 1024) (h : 15 < 16) : dgAt m c 15 h (ix2 s j) = ∑ Q, tg (A0 m c) (A1 m c) (A2 m c) s j Q := by
  rw [← Fin.sum_mul_add_fin 16 128 fun Q : Fin 2048 => tg (A0 m c) (A1 m c) (A2 m c) s j Q]
  have e := Pipeline.eq_sum_fin_of_reset_step_apply_last (N := 16) (fun n h i => dgAt m c n h (ix2 s i)) 16 (fun _ => (0 : EReal))
    (fun n i => dgTerm m c s i n)
    (fun t h0 i => by
      obtain ⟨t, ht⟩ := t
      obtain rfl : t = 0 := by dsimp only at h0; omega
      exact dgAt_zero m c ht s i)
    (fun t h0 i => by
      obtain ⟨t, ht⟩ := t
      obtain ⟨n, rfl⟩ : ∃ n, t = n + 1 := ⟨t - 1, by dsimp only at h0; omega⟩
      exact dgAt_succ m c n ht s i) le_rfl 15 rfl j
  rw [zero_add] at e
  exact e

section final
variable (h0 : ∀ i, Rl (A0 m c i)) (h1 : ∀ i, Rl (A1 m c i)) (h2 : ∀ i, Rl (A2 m c i)) (h3 : ∀ i, Rl (A3 m c i))

theorem out_row (t : Fin cfg0.N) (r : Fin 1024) : ∃ R : Fin 16384, R.val = t.val / 4 * 1024 + r.val :=
  ⟨⟨_, by have := lt64 t; omega⟩, rfl⟩

include h0 h1 h2 h3

theorem final5 : (dats m 0 c).arrAt 5 cfg0.N = val_main_v37 (F := Ideal) (A0 m c) (A1 m c) (A2 m c) (A3 m c) (A4 m c) := by
  funext i
  refine (dats m 0 c).arrAt_forall_of_cover 5 (fun i v => v = val_main_v37 (F := Ideal) (A0 m c) (A1 m c) (A2 m c) (A3 m c) (A4 m c) i) ?_ ?_ i
  · intro t hf y
    have ht : t.val % 4 = 3 := (flush0_5 t).mp hf
    obtain ⟨r, q, rfl⟩ : ∃ (r : Fin 1024) (q : Fin 1024), y = ix2 r q := ⟨y 0, y 1, (ix2_eta y).symm⟩
    obtain ⟨⟨e0, e1⟩, -⟩ := idx_out t
    obtain ⟨R, hR⟩ := out_row t r
    have he : (((cfg0.win 5).blk t).view.emb (ix2 r q : S1024x1024.Idx) : S16384x1024.Idx) = ix2 R q := by
      funext a
      apply Fin.ext
      match a with
      | ⟨0, _⟩ => show win0_5.index t 0 * 1024 + 1 * r.val = R.val; rw [e0]; omega
      | ⟨1, _⟩ => show win0_5.index t 1 * 1024 + 1 * q.val = q.val; rw [e1]; omega
    show (dats m 0 c).flushed 5 t (ix2 r q : S1024x1024.Idx) = val_main_v37 (F := Ideal) _ _ _ _ _ (((cfg0.win 5).blk t).view.emb (ix2 r q : S1024x1024.Idx))
    rw [he, Value.flushed5, Cert.DmixRefIdeal.Hand.v37_apply _ h0 h1 h2 h3]
    exact (out_O m c t (by omega) ht (ix2 r q)).trans (OB_blk m c t ht r q R hR)
  · intro i
    exact (Value.covered_iff5 i).2 (by have a : (i 0).val < 16384 := (i 0).isLt; have b : (i 1).val < 1024 := (i 1).isLt; omega)

omit h0 h1 h2 h3 in
theorem final6 : (dats m 0 c).arrAt 6 cfg0.N = val_main_v39 (F := Ideal) (A0 m c) (A1 m c) (A2 m c) := by
  funext i
  refine (dats m 0 c).arrAt_forall_of_cover 6 (fun i v => v = val_main_v39 (F := Ideal) (A0 m c) (A1 m c) (A2 m c) i) ?_ ?_ i
  · intro t hf y
    have ht : t.val = 63 := by have := (flush0_6 t).mp hf; have := lt64 t; omega
    obtain ⟨s, q, rfl⟩ : ∃ (s : Fin 8) (q : Fin 1024), y = ix2 s q := ⟨y 0, y 1, (ix2_eta y).symm⟩
    obtain ⟨-, e0, e1⟩ := idx_out t
    have he : (((cfg0.win 6).blk t).view.emb (ix2 s q : S8x1024.Idx) : S8x1024.Idx) = ix2 s q := by
      funext a
      apply Fin.ext
      match a with
      | ⟨0, _⟩ => show win0_6.index t 0 * 8 + 1 * s.val = s.val; rw [e0]; omega
      | ⟨1, _⟩ => show win0_6.index t 1 * 1024 + 1 * q.val = q.val; rw [e1]; omega
    show (dats m 0 c).flushed 6 t (ix2 s q : S8x1024.Idx) = val_main_v39 (F := Ideal) _ _ _ (((cfg0.win 6).blk t).view.emb (ix2 s q : S8x1024.Idx))
    rw [he, Value.flushed6, Cert.DmixRefIdeal.Hand.v39_apply]
    rw [← dgAt_last m c s q (by decide)]
    unfold dgAt
    rw [outs_congr m c (n := 4 * 15 + 3) (n' := t.val) (by omega) _ t.isLt]
    rfl
  · intro i
    exact (Value.covered_iff6 i).2 (by have a : (i 0).val < 8 := (i 0).isLt; have b : (i 1).val < 1024 := (i 1).isLt; omega)

end final

end Cert.DmixIdeal.Hand
-- ==== Proof.DmixClaims.lean ====
/-
  The claims about the gradient of the first norm and of the shared projection: the frames, and the kernel's two results against the
  reference's, where the arguments are real numbers.
-/
module

public import proofs.«01_k».proof.Defs
public import proofs.«01_k».proof.Proof.DmixFinal
public import proofs.«01_k».proof.Proof.Gen.Dmix.Frame
public import Idealize.ShloMosaic.Lib.Quiescent

@[expose] public section

noncomputable section

namespace Cert.DmixClaims

open Idealize.ShloMosaic Idealize.ShloMosaic.TcCoe Idealize.SL.Sem Cert.RealMath
open Cert.DmixIdeal.Hand (A0 A1 A2 A3 A4)
open Cert.DmixRefIdeal.Read

local instance : Cert.Dmix.Facts := Cert.Dmix.Gen.facts
local instance : Cert.DmixIdeal.Facts := Cert.DmixIdeal.Gen.facts
local instance : Cert.DmixRefIdeal.Facts := Cert.DmixRefIdeal.Gen.facts

theorem pre : Cert.Pre_dmix_finite.Facts := ⟨by decide, by decide, by decide, by decide⟩

local instance : Cert.Pre_dmix_finite.Facts := pre

theorem frame : Cert.quiescent_Dmix := fun m g _ => Cert.Dmix.Gen.frame m g

theorem frameIdeal : Cert.quiescent_DmixIdeal := fun m g _ => Cert.DmixIdeal.Gen.frame m g

theorem frameRef : Cert.quiescent_DmixRefIdeal := fun m g _ =>
  (θ_run Cert.DmixRefIdeal.defs _ _).mono (fun r h => ⟨fun c => (h c).2.2, sem_eq_zero_of_no_sems (by decide) r.2⟩)
    (Cert.DmixRefIdeal.Value.run m g)

theorem value : Cert.algebraic_DmixIdeal_DmixRefIdeal_pre_dmix_finite := fun m g m' g' hpre hagree =>
  have h0 := fun c => finite_of _ _ (hpre c).1
  have h1 := fun c => finite_of _ _ (hpre c).2.1
  have h2 := fun c => finite_of _ _ (hpre c).2.2.1
  have h3 := fun c => finite_of _ _ (hpre c).2.2.2
  ⟨fun c => val_main_v37 (F := Ideal) (A0 m c) (A1 m c) (A2 m c) (A3 m c) (A4 m c),
    fun c => val_main_v39 (F := Ideal) (A0 m c) (A1 m c) (A2 m c),
    (θ_run Cert.DmixIdeal.defs _ _).mono (fun _ h c => ⟨(h c).1.trans (Cert.DmixIdeal.Hand.final5 m c (h0 c) (h1 c) (h2 c) (h3 c)),
        (h c).2.1.trans (Cert.DmixIdeal.Hand.final6 m c), (h c).2.2⟩)
      (Cert.DmixIdeal.Value.run_blocks m g),
    (θ_run Cert.DmixRefIdeal.defs _ _).mono (fun _ h c => ⟨(h c).1.trans (by
          rw [val_main_v37_eq]
          rw [(hagree c).1, (hagree c).2.1, (hagree c).2.2.1, (hagree c).2.2.2.1, (hagree c).2.2.2.2]),
        (h c).2.1.trans (by
          rw [val_main_v39_eq]
          rw [(hagree c).1, (hagree c).2.1, (hagree c).2.2.1]), (h c).2.2⟩)
      (Cert.DmixRefIdeal.Value.run m' g')⟩

end Cert.DmixClaims
-- ==== Proof.FdelVal.lean ====
/-
  What the forgetting attention's gradient needs of the cotangent: the kernel's three arrays, element by element, against the
  reference's. A row's sum with the output is taken two heads at a time by a product with a matrix of zeros and ones.
-/
module

public import proofs.«01_k».proof.Proof.Gen.FdelIdeal.Value
public import proofs.«01_k».proof.Proof.Gen.FdelRefIdeal.Run
public import proofs.«01_k».proof.Proof.Gen.FdelRefIdeal.Read
public import proofs.«01_k».proof.Proof.RealMath
public import Idealize.ShloMosaic.Lib.Pointwise
public import Idealize.ShloMosaic.Lib.IdealHost
public import Idealize.ShloMosaic.Lib.Claim
public import Idealize.ShloMosaic.Lib.Pipeline.ValueKit.Acc

@[expose] public section

set_option maxRecDepth 16384

noncomputable section

namespace Cert.FdelIdeal.Hand

open Cert.FdelIdeal Cert.FdelIdeal.Gen Idealize.ShloMosaic Idealize.ShloMosaic.TcCoe Idealize.SL.Sem Cert.RealMath
open Idealize.ShloMosaic.Pipeline (Dat)
open Cert.FdelRefIdeal.Read

/-! ### The body -/

/-- The matrix that picks the two heads of a group's 128 columns. -/
def pick (s : Fin 8) (l : Fin 128) : EReal := if l.val / 64 = s.val then 1 else 0

theorem word : ∀ (s : Fin 8) (l : Fin 128), IntOp.cmpi CmpIPredicate.eq (IntOp.shrsi ArithUnit.vector (BitVec.ofNat 32 l.val) 6#32) (BitVec.ofNat 32 s.val)
    = if l.val / 64 = s.val then 1#1 else 0#1 := by
  decide +kernel

theorem pay7_apply (s : Fin 8) (l : Fin 128) : k0_pay7 (F := Ideal) (ix2 s l) = pick s l := by
  pointwise [k0_pay7, pick]
  rw [word]
  split <;> rfl

section pays
variable (x y : Vec Ideal S512x512 .f32)

/-- The product of the two blocks, at an index. -/
def prod (i : S512x512.Idx) : EReal := x i * y i

/-- A group's row sums, for one of its eight rows. -/
def DB (i : S4x8x512.Idx) : EReal :=
  ∑ l : Fin 128, pick (i 1) l * (x (ix2 (i 2) ⟨(i 0).val * 128 + l.val, by have : (i 0).val < 4 := (i 0).isLt; omega⟩)
    * y (ix2 (i 2) ⟨(i 0).val * 128 + l.val, by have : (i 0).val < 4 := (i 0).isLt; omega⟩))

theorem pay6_apply (r k : Fin 512) : k0_pay6 x y (ix2 r k) = x (ix2 r k) * y (ix2 r k) := by
  pointwise [k0_pay6, k0_pay3]

theorem pay8_apply (s : Fin 8) (r : Fin 512) : k0_pay8 x y (ix3 0 s r) = DB x y (ix3 0 s r) := by
  have e : k0_pay8 x y (ix3 0 s r) = ∑ l : Fin 128, k0_pay7 (F := Ideal) (ix2 s l) * k0_pay6 x y (ix2 r ⟨0 * 128 + l.val, by omega⟩) := by
    pointwise [k0_pay8]
  rw [e]
  simp only [pay7_apply, pay6_apply]
  rfl

theorem pay9_apply (s : Fin 8) (r : Fin 512) : k0_pay9 x y (ix3 0 s r) = DB x y (ix3 1 s r) := by
  have e : k0_pay9 x y (ix3 0 s r) = ∑ l : Fin 128, k0_pay7 (F := Ideal) (ix2 s l) * k0_pay6 x y (ix2 r ⟨1 * 128 + l.val, by omega⟩) := by
    pointwise [k0_pay9]
  rw [e]
  simp only [pay7_apply, pay6_apply]
  rfl

theorem pay1_apply (s : Fin 8) (r : Fin 512) : k0_pay1 (k0_pay10 x y) (ix3 0 s r) = DB x y (ix3 2 s r) := by
  have e : k0_pay1 (k0_pay10 x y) (ix3 0 s r) = ∑ l : Fin 128, k0_pay7 (F := Ideal) (ix2 s l) * k0_pay6 x y (ix2 r ⟨2 * 128 + l.val, by omega⟩) := by
    pointwise [k0_pay1, k0_pay10]
  rw [e]
  simp only [pay7_apply, pay6_apply]
  rfl

theorem pay2_apply (s : Fin 8) (r : Fin 512) : k0_pay2 (k0_pay6 x y) (k0_pay7 (F := Ideal)) (ix3 0 s r) = DB x y (ix3 3 s r) := by
  have e : k0_pay2 (k0_pay6 x y) (k0_pay7 (F := Ideal)) (ix3 0 s r)
      = ∑ l : Fin 128, k0_pay7 (F := Ideal) (ix2 s l) * k0_pay6 x y (ix2 r ⟨3 * 128 + l.val, by omega⟩) := by
    pointwise [k0_pay2]
  rw [e]
  simp only [pay7_apply, pay6_apply]
  rfl

theorem ld_whole (u : Vec Ideal S512x512 .f32) : View.ld u r0_0 = u := by
  funext i
  show u _ = u _
  congr 1
  funext a
  apply Fin.ext
  match a with
  | ⟨0, _⟩ => show 0 + 1 * (i 0).val = (i 0).val; omega
  | ⟨1, _⟩ => show 0 + 1 * (i 1).val = (i 1).val; omega

theorem out4_apply (i : S4x8x512.Idx) : out0_4 x y i = DB x y i := by
  unfold out0_4
  rw [ld_whole, ld_whole]
  refine View.canon_apply_of_pieces (Val := Elt Ideal) (S := S4x8x512) (e := .f32) (DB x y) _ ?_ i (cover0_4 _ _ _ _ i)
  intro p hp
  simp only [List.mem_cons, List.not_mem_nil, or_false] at hp
  have he : ∀ (h : Fin 4) (i0 : ∀ a, (![h.val, 0, 0] : Fin 3 → Nat) a + S1x8x512.size a ≤ S4x8x512.size a) (s : Fin 8) (r : Fin 512),
      (Rect.unit (s := S4x8x512) ![h.val, 0, 0] S1x8x512.size i0).emb (ix3 0 s r) = ix3 h s r := by
    intro h i0 s r
    funext a
    apply Fin.ext
    match a with
    | ⟨0, _⟩ => show h.val + 1 * 0 = h.val; omega
    | ⟨1, _⟩ => show 0 + 1 * s.val = s.val; omega
    | ⟨2, _⟩ => show 0 + 1 * r.val = r.val; omega
  have hy : ∀ z : S1x8x512.Idx, ∃ (s : Fin 8) (r : Fin 512), z = ix3 0 s r := fun z =>
    ⟨z 1, z 2, by rw [← ix3_eta z]; congr 1; exact Subsingleton.elim (α := Fin 1) _ _⟩
  rcases hp with rfl | rfl | rfl | rfl
  all_goals
    intro z
    obtain ⟨s, r, rfl⟩ := hy z
  · exact (pay2_apply x y s r).trans (congrArg (DB x y) (he 3 inb_S4x8x512_S1x8x512_3_0_0 s r).symm)
  · exact (pay1_apply x y s r).trans (congrArg (DB x y) (he 2 inb_S4x8x512_S1x8x512_2_0_0 s r).symm)
  · exact (pay9_apply x y s r).trans (congrArg (DB x y) (he 1 inb_S4x8x512_S1x8x512_1_0_0 s r).symm)
  · exact (pay8_apply x y s r).trans (congrArg (DB x y) (he 0 inb_S4x8x512_S1x8x512_0_0_0 s r).symm)

theorem out2_apply (r k : Fin 512) : out0_2 x y (ix2 r k) = x (ix2 r k) := by
  unfold out0_2
  rw [ld_whole]
  refine (Value.canon2_eq x (ix2 r k)).trans ?_
  show x _ = x _
  congr 1
  funext a
  match a with
  | ⟨0, _⟩ => rfl
  | ⟨1, _⟩ => rfl

theorem out3_apply (r k : Fin 512) : out0_3 x y (ix2 k r) = x (ix2 r k) := by
  unfold out0_3
  rw [ld_whole]
  refine (Value.canon3_eq x (ix2 k r)).trans ?_
  show x _ = x _
  congr 1
  funext a
  match a with
  | ⟨0, _⟩ => rfl
  | ⟨1, _⟩ => rfl

end pays

/-! ### The reference -/

section ref
variable (d o : FVec Ideal S1x16384x512 .f32)

theorem v1_apply (R : Fin 16384) (k : Fin 512) : val_main_v1 (F := Ideal) d (ix2 R k) = d (ix3 0 R k) := by
  pointwise [val_main_v1, val_main_v0]

theorem v5_apply (R : Fin 16384) (k : Fin 512) : val_main_v5 (F := Ideal) d (ix2 k R) = d (ix3 0 R k) := by
  pointwise [val_main_v5, val_main_v1, val_main_v0]

theorem v7_apply (h : Fin 4) (s : Fin 2) (R : Fin 16384) :
    val_main_v7 (F := Ideal) d o (ix3 h s R)
      = ∑ k : Fin 64, d (ix3 0 R ⟨h.val * 128 + (s.val * 64 + k.val), by omega⟩) * o (ix3 0 R ⟨h.val * 128 + (s.val * 64 + k.val), by omega⟩) := by
  have e : val_main_v7 (F := Ideal) d o (ix3 h s R)
      = ∑ k : Fin 64, val_main_v2 (F := Ideal) d o (ix3 0 R ⟨h.val * 128 + (s.val * 64 + k.val), by omega⟩) := by
    pointwise [val_main_v7, val_main_v6, val_main_v4, val_main_v3, val_main_cst]
    exact Finset.sum_congr rfl fun k _ => by congr 2; apply Fin.ext; dsimp only; omega
  rw [e]
  rfl

theorem sitofp_zero : (FloatOps.sitofp FTy.f32 (0#32 : BitVec 32) : Ideal .f32) = 0 := by
  show (((0#32 : BitVec 32).toInt : ℝ) : EReal) = 0
  norm_num

theorem v8_apply (h : Fin 4) (s : Fin 8) (R : Fin 16384) :
    val_main_v8 (F := Ideal) d o (ix3 h s R) = if hs : s.val < 2 then val_main_v7 (F := Ideal) d o (ix3 h ⟨s.val, hs⟩ R) else 0 := by
  pointwise [val_main_v8, val_main_call0_v0, val_main_c]
  split
  · rfl
  · exact sitofp_zero

/-- The product with the matrix is the head's sum, and zero in the six rows below. -/
theorem pick_sum (f : Fin 128 → EReal) (s : Fin 8) :
    ∑ l : Fin 128, pick s l * f l = if hs : s.val < 2 then ∑ k : Fin 64, f ⟨s.val * 64 + k.val, by omega⟩ else 0 := by
  rw [← Fin.sum_mul_add_fin 2 64 fun l : Fin 128 => pick s l * f l]
  have e : ∀ (a : Fin 2) (k : Fin 64), pick s ⟨a.val * 64 + k.val, by omega⟩ = if a.val = s.val then 1 else 0 := by
    intro a k
    unfold pick
    rw [show (a.val * 64 + k.val) / 64 = a.val by omega]
  simp only [e, Fin.sum_univ_two]
  have hs := s.isLt
  rcases s with ⟨s, h⟩
  match s, h with
  | 0, _ => simp
  | 1, _ => simp
  | s + 2, _ =>
    have h0 : ¬ (0 : Nat) = s + 2 := by omega
    have h1 : ¬ (1 : Nat) = s + 2 := by omega
    simp

end ref

/-! ### The blocks and the arrays -/

variable (m : (ℓ : Loc nD τ sig) → Buf (Elt Ideal) ℓ) (c : Dev nD)

abbrev A0 : FVec Ideal S1x16384x512 .f32 := m ((c : Thread nD τ).loc main_arg0)
abbrev A1 : FVec Ideal S1x16384x512 .f32 := m ((c : Thread nD τ).loc main_arg1)

theorem drop_apply (x : FVec Ideal S1x16384x512 .f32) (q : Fin 16384) (k : Fin 512) :
    shapeCast S16384x512 x shapeCasts_S1x16384x512_S16384x512 (ix2 q k) = x (ix3 0 q k) := by
  pointwise []

theorem V_d (q : Fin 16384) (k : Fin 512) : V m c main_v0 (ix2 q k) = A0 m c (ix3 0 q k) := by
  have e : V m c main_v0 = (shapeCast S16384x512 (A0 m c) shapeCasts_S1x16384x512_S16384x512 : FVec Ideal S16384x512 .f32) := by
    dsimp only [V, hostOps0, List.flatten_cons, List.flatten_nil, List.cons_append, List.nil_append]
    after_results
    rfl
  rw [e]
  exact drop_apply _ q k

theorem V_o (q : Fin 16384) (k : Fin 512) : V m c main_v1 (ix2 q k) = A1 m c (ix3 0 q k) := by
  have e : V m c main_v1 = (shapeCast S16384x512 (A1 m c) shapeCasts_S1x16384x512_S16384x512 : FVec Ideal S16384x512 .f32) := by
    dsimp only [V, hostOps0, List.flatten_cons, List.flatten_nil, List.cons_append, List.nil_append]
    after_results
    rfl
  rw [e]
  exact drop_apply _ q k

theorem idx_all : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val)
    ∧ (win0_4.index t 0 = 0 ∧ win0_4.index t 1 = 0 ∧ win0_4.index t 2 = t.val) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val)
    ∧ (win0_4.index t 0 = 0 ∧ win0_4.index t 1 = 0 ∧ win0_4.index t 2 = t.val))

section blocks
variable (t : Fin cfg0.N)

theorem lt32 : t.val < 32 := lt_of_lt_of_eq t.isLt N_0

theorem d_blk (r k : Fin 512) (R : Fin 16384) (hR : R.val = t.val * 512 + r.val) : iblk m c 0 t (ix2 r k) = A0 m c (ix3 0 R k) := by
  obtain ⟨⟨e0, e1⟩, -⟩ := idx_all t
  refine Eq.trans ?_ (V_d m c R k)
  show V m c main_v0 _ = V m c main_v0 _
  congr 1
  funext a
  apply Fin.ext
  match a with
  | ⟨0, _⟩ => show win0_0.index t 0 * 512 + 1 * r.val = R.val; rw [e0]; omega
  | ⟨1, _⟩ => show win0_0.index t 1 * 512 + 1 * k.val = k.val; rw [e1]; omega

theorem o_blk (r k : Fin 512) (R : Fin 16384) (hR : R.val = t.val * 512 + r.val) : iblk m c 1 t (ix2 r k) = A1 m c (ix3 0 R k) := by
  obtain ⟨-, ⟨e0, e1⟩, -⟩ := idx_all t
  refine Eq.trans ?_ (V_o m c R k)
  show V m c main_v1 _ = V m c main_v1 _
  congr 1
  funext a
  apply Fin.ext
  match a with
  | ⟨0, _⟩ => show win0_1.index t 0 * 512 + 1 * r.val = R.val; rw [e0]; omega
  | ⟨1, _⟩ => show win0_1.index t 1 * 512 + 1 * k.val = k.val; rw [e1]; omega

end blocks

theorem row (t : Fin cfg0.N) (r : Fin 512) : ∃ R : Fin 16384, R.val = t.val * 512 + r.val := ⟨⟨_, by have := lt32 t; omega⟩, rfl⟩

theorem at_row (n : Nat) (h : n < 16384) : ∃ (t : Fin cfg0.N), t.val = n / 512 :=
  ⟨⟨n / 512, by have e : cfg0.N = 32 := N_0; omega⟩, rfl⟩

theorem final2 : (dats m 0 c).arrAt 2 cfg0.N = val_main_v1 (F := Ideal) (A0 m c) := by
  funext i
  refine (dats m 0 c).arrAt_forall_of_cover 2 (fun i v => v = val_main_v1 (F := Ideal) (A0 m c) i) ?_ ?_ i
  · intro t hf y
    obtain ⟨r, q, rfl⟩ : ∃ (r q : Fin 512), y = ix2 r q := ⟨y 0, y 1, (ix2_eta y).symm⟩
    obtain ⟨-, -, ⟨e0, e1⟩, -⟩ := idx_all t
    obtain ⟨R, hR⟩ := row t r
    have he : (((cfg0.win 2).blk t).view.emb (ix2 r q : S512x512.Idx) : S16384x512.Idx) = ix2 R q := by
      funext a
      apply Fin.ext
      match a with
      | ⟨0, _⟩ => show win0_2.index t 0 * 512 + 1 * r.val = R.val; rw [e0]; omega
      | ⟨1, _⟩ => show win0_2.index t 1 * 512 + 1 * q.val = q.val; rw [e1]; omega
    show (dats m 0 c).flushed 2 t (ix2 r q : S512x512.Idx) = val_main_v1 (F := Ideal) _ (((cfg0.win 2).blk t).view.emb (ix2 r q : S512x512.Idx))
    rw [he, Value.flushed2, v1_apply]
    exact (out2_apply _ _ r q).trans (d_blk m c t r q R hR)
  · intro i
    have h0 : (i 0).val < 16384 := (i 0).isLt
    have h1 : (i 1).val < 512 := (i 1).isLt
    obtain ⟨t, ht⟩ := at_row (i 0).val h0
    refine ⟨t, flush0_2 t, ?_⟩
    show i ∈ ((View.whole main_v2_0).slice (win0_2.rect t)).set
    rw [View.set_slice_whole, Rect.mem_set_unit]
    obtain ⟨-, -, ⟨e0, e1⟩, -⟩ := idx_all t
    intro a
    match a with
    | ⟨0, _⟩ => show win0_2.index t 0 * 512 ≤ (i 0 : Nat) ∧ (i 0 : Nat) < win0_2.index t 0 * 512 + 512; rw [e0]; omega
    | ⟨1, _⟩ => show win0_2.index t 1 * 512 ≤ (i 1 : Nat) ∧ (i 1 : Nat) < win0_2.index t 1 * 512 + 512; rw [e1]; omega

theorem final3 : (dats m 0 c).arrAt 3 cfg0.N = val_main_v5 (F := Ideal) (A0 m c) := by
  funext i
  refine (dats m 0 c).arrAt_forall_of_cover 3 (fun i v => v = val_main_v5 (F := Ideal) (A0 m c) i) ?_ ?_ i
  · intro t hf y
    obtain ⟨q, r, rfl⟩ : ∃ (q r : Fin 512), y = ix2 q r := ⟨y 0, y 1, (ix2_eta y).symm⟩
    obtain ⟨-, -, -, ⟨e0, e1⟩, -⟩ := idx_all t
    obtain ⟨R, hR⟩ := row t r
    have he : (((cfg0.win 3).blk t).view.emb (ix2 q r : S512x512.Idx) : S512x16384.Idx) = ix2 q R := by
      funext a
      apply Fin.ext
      match a with
      | ⟨0, _⟩ => show win0_3.index t 0 * 512 + 1 * q.val = q.val; rw [e0]; omega
      | ⟨1, _⟩ => show win0_3.index t 1 * 512 + 1 * r.val = R.val; rw [e1]; omega
    show (dats m 0 c).flushed 3 t (ix2 q r : S512x512.Idx) = val_main_v5 (F := Ideal) _ (((cfg0.win 3).blk t).view.emb (ix2 q r : S512x512.Idx))
    rw [he, Value.flushed3, v5_apply]
    exact (out3_apply _ _ r q).trans (d_blk m c t r q R hR)
  · intro i
    have h0 : (i 0).val < 512 := (i 0).isLt
    have h1 : (i 1).val < 16384 := (i 1).isLt
    obtain ⟨t, ht⟩ := at_row (i 1).val h1
    refine ⟨t, flush0_3 t, ?_⟩
    show i ∈ ((View.whole main_v2_1).slice (win0_3.rect t)).set
    rw [View.set_slice_whole, Rect.mem_set_unit]
    obtain ⟨-, -, -, ⟨e0, e1⟩, -⟩ := idx_all t
    intro a
    match a with
    | ⟨0, _⟩ => show win0_3.index t 0 * 512 ≤ (i 0 : Nat) ∧ (i 0 : Nat) < win0_3.index t 0 * 512 + 512; rw [e0]; omega
    | ⟨1, _⟩ => show win0_3.index t 1 * 512 ≤ (i 1 : Nat) ∧ (i 1 : Nat) < win0_3.index t 1 * 512 + 512; rw [e1]; omega

theorem final4 : (dats m 0 c).arrAt 4 cfg0.N = val_main_v8 (F := Ideal) (A0 m c) (A1 m c) := by
  funext i
  refine (dats m 0 c).arrAt_forall_of_cover 4 (fun i v => v = val_main_v8 (F := Ideal) (A0 m c) (A1 m c) i) ?_ ?_ i
  · intro t hf y
    obtain ⟨h, s, r, rfl⟩ : ∃ (h : Fin 4) (s : Fin 8) (r : Fin 512), y = ix3 h s r := ⟨y 0, y 1, y 2, (ix3_eta y).symm⟩
    obtain ⟨-, -, -, -, e0, e1, e2⟩ := idx_all t
    obtain ⟨R, hR⟩ := row t r
    have he : (((cfg0.win 4).blk t).view.emb (ix3 h s r : S4x8x512.Idx) : S4x8x16384.Idx) = ix3 h s R := by
      funext a
      apply Fin.ext
      match a with
      | ⟨0, _⟩ => show win0_4.index t 0 * 4 + 1 * h.val = h.val; rw [e0]; omega
      | ⟨1, _⟩ => show win0_4.index t 1 * 8 + 1 * s.val = s.val; rw [e1]; omega
      | ⟨2, _⟩ => show win0_4.index t 2 * 512 + 1 * r.val = R.val; rw [e2]; omega
    show (dats m 0 c).flushed 4 t (ix3 h s r : S4x8x512.Idx) = val_main_v8 (F := Ideal) _ _ (((cfg0.win 4).blk t).view.emb (ix3 h s r : S4x8x512.Idx))
    rw [he, Value.flushed4, v8_apply]
    refine (out4_apply _ _ (ix3 h s r)).trans ?_
    refine (pick_sum (fun l : Fin 128 => prod (iblk m c 0 t) (iblk m c 1 t) (ix2 r ⟨h.val * 128 + l.val, by omega⟩)) s).trans ?_
    split
    · rename_i hs
      rw [v7_apply]
      exact Finset.sum_congr rfl fun k _ => congrArg₂ (· * ·) (d_blk m c t r _ R hR) (o_blk m c t r _ R hR)
    · rfl
  · intro i
    have h0 : (i 0).val < 4 := (i 0).isLt
    have h1 : (i 1).val < 8 := (i 1).isLt
    have h2 : (i 2).val < 16384 := (i 2).isLt
    obtain ⟨t, ht⟩ := at_row (i 2).val h2
    refine ⟨t, flush0_4 t, ?_⟩
    show i ∈ ((View.whole main_v2_2).slice (win0_4.rect t)).set
    rw [View.set_slice_whole, Rect.mem_set_unit]
    obtain ⟨-, -, -, -, e0, e1, e2⟩ := idx_all t
    intro a
    match a with
    | ⟨0, _⟩ => show win0_4.index t 0 * 4 ≤ (i 0 : Nat) ∧ (i 0 : Nat) < win0_4.index t 0 * 4 + 4; rw [e0]; omega
    | ⟨1, _⟩ => show win0_4.index t 1 * 8 ≤ (i 1 : Nat) ∧ (i 1 : Nat) < win0_4.index t 1 * 8 + 8; rw [e1]; omega
    | ⟨2, _⟩ => show win0_4.index t 2 * 512 ≤ (i 2 : Nat) ∧ (i 2 : Nat) < win0_4.index t 2 * 512 + 512; rw [e2]; omega

end Cert.FdelIdeal.Hand
-- ==== Proof.FdelClaims.lean ====
/-
  The claims about what the forgetting attention's gradient needs of the cotangent: the frames, and the kernel's three results
  against the reference's.
-/
module

public import proofs.«01_k».proof.Defs
public import proofs.«01_k».proof.Proof.FdelVal
public import proofs.«01_k».proof.Proof.Gen.Fdel.Frame
public import Idealize.ShloMosaic.Lib.Quiescent

@[expose] public section

noncomputable section

namespace Cert.FdelClaims

open Idealize.ShloMosaic Idealize.ShloMosaic.TcCoe Idealize.SL.Sem
open Cert.FdelIdeal.Hand (A0 A1)
open Cert.FdelRefIdeal.Read

local instance : Cert.Fdel.Facts := Cert.Fdel.Gen.facts
local instance : Cert.FdelIdeal.Facts := Cert.FdelIdeal.Gen.facts
local instance : Cert.FdelRefIdeal.Facts := Cert.FdelRefIdeal.Gen.facts

theorem frame : Cert.quiescent_Fdel := fun m g _ => Cert.Fdel.Gen.frame m g

theorem frameIdeal : Cert.quiescent_FdelIdeal := fun m g _ => Cert.FdelIdeal.Gen.frame m g

theorem frameRef : Cert.quiescent_FdelRefIdeal := fun m g _ =>
  (θ_run Cert.FdelRefIdeal.defs _ _).mono (fun r h => ⟨fun c => (h c).2.2.2, sem_eq_zero_of_no_sems (by decide) r.2⟩)
    (Cert.FdelRefIdeal.Value.run m g)

theorem value : Cert.algebraic_FdelIdeal_FdelRefIdeal := fun m g m' g' _ hagree =>
  ⟨fun c => val_main_v1 (F := Ideal) (A0 m c), fun c => val_main_v5 (F := Ideal) (A0 m c), fun c => val_main_v8 (F := Ideal) (A0 m c) (A1 m c),
    (θ_run Cert.FdelIdeal.defs _ _).mono (fun _ h c => ⟨(h c).1.trans (Cert.FdelIdeal.Hand.final2 m c),
        (h c).2.1.trans (Cert.FdelIdeal.Hand.final3 m c), (h c).2.2.1.trans (Cert.FdelIdeal.Hand.final4 m c), (h c).2.2.2⟩)
      (Cert.FdelIdeal.Value.run_blocks m g),
    (θ_run Cert.FdelRefIdeal.defs _ _).mono (fun _ h c => ⟨(h c).1.trans (by
          rw [val_main_v1_eq]
          rw [(hagree c).1]),
        (h c).2.1.trans (by
          rw [val_main_v5_eq]
          rw [(hagree c).1]),
        (h c).2.2.1.trans (by
          rw [val_main_v8_eq]
          rw [(hagree c).1, (hagree c).2]), (h c).2.2.2⟩)
      (Cert.FdelRefIdeal.Value.run m' g')⟩

end Cert.FdelClaims
-- ==== Proof.LossMath.lean ====
/-
  The loss of a row and its gradient at the last norm's argument: the error, the cotangent the norm gets, and the two ways of
  scaling it.
-/
module

public import proofs.«01_k».proof.Proof.RmsMath

@[expose] public section

noncomputable section

namespace Cert.RealMath

open Idealize.ShloMosaic

def cInv : EReal := Ideal.ofBits .f32 0x3A800000#32
def cTwo : EReal := Ideal.ofBits .f32 0x40000000#32
def cPos : EReal := Ideal.ofBits .f32 0x3F000000#32
def cOne : EReal := Ideal.ofBits .f32 0x3F800000#32

/-- Half of one, divided by the width. -/
def cHN : EReal := Ideal.div (cPos * cOne) cN

theorem cInv_eq : cInv = ((1 / 1024 : ℝ) : EReal) := by
  unfold cInv
  rw [ofBits_f32_eq _ false 117 0 (by decide) (by decide) (by decide) (by decide) (by decide)]
  congr 1
  norm_num

theorem cTwo_eq : cTwo = ((2 : ℝ) : EReal) := by
  unfold cTwo
  rw [ofBits_f32_eq _ false 128 0 (by decide) (by decide) (by decide) (by decide) (by decide)]
  congr 1
  norm_num

theorem cPos_eq : cPos = ((1 / 2 : ℝ) : EReal) := by
  unfold cPos
  rw [ofBits_f32_eq _ false 126 0 (by decide) (by decide) (by decide) (by decide) (by decide)]
  congr 1
  norm_num

theorem cOne_eq : cOne = ((1 : ℝ) : EReal) := by
  unfold cOne
  rw [ofBits_f32_eq _ false 127 0 (by decide) (by decide) (by decide) (by decide) (by decide)]
  congr 1
  norm_num

theorem cHN_eq : cHN = ((1 / 2048 : ℝ) : EReal) := by
  unfold cHN
  rw [cPos_eq, cOne_eq, cN_eq, ← EReal.coe_mul, div_coe_coe _ _ (by norm_num)]
  congr 1
  norm_num

/-- The half, the two and the mean make the mean of one error. -/
theorem scale_eq (e : EReal) : cHN * (cTwo * e) = e * cInv := by
  rw [← mul_assoc, cHN_eq, cTwo_eq, cInv_eq, ← EReal.coe_mul, mul_comm e]
  congr 2
  norm_num

variable (h g t : Fin 1024 → EReal)

/-- The error at the normed row with the gain, and the cotangent there. -/
def lossE (j : Fin 1024) : EReal := rmsX h j * g j - t j
def lossD (j : Fin 1024) : EReal := lossE h g t j * cInv

/-- The gradient at the norm's argument. -/
def lossG (j : Fin 1024) : EReal := rmsG h (fun k => lossD h g t k * g k) j

variable {h g t}

theorem lossD_real (hh : ∀ k, Rl (h k)) (hg : ∀ k, Rl (g k)) (ht : ∀ k, Rl (t k)) (j : Fin 1024) : Rl (lossD h g t j) := by
  unfold lossD lossE rmsX
  rw [cInv_eq]
  exact ((((hh j).mul (rmsR_real hh)).mul (hg j)).sub (ht j)).mul (Rl.coe _)

end Cert.RealMath
-- ==== Proof.LossBody.lean ====
/-
  The loss and its gradient: the kernel's values on a chunk of rows, element by element, the same for every chunk.
-/
module

public import proofs.«01_k».proof.Proof.Gen.LossIdeal.Value
public import proofs.«01_k».proof.Proof.LossMath
public import Idealize.ShloMosaic.Lib.Pointwise
public import Idealize.ShloMosaic.Lib.IdealHost

@[expose] public section

set_option maxRecDepth 16384

noncomputable section

namespace Cert.LossIdeal.Hand

open Cert.LossIdeal Cert.LossIdeal.Gen Idealize.ShloMosaic Idealize.ShloMosaic.TcCoe Cert.RealMath

section pays
variable (g : Vec Ideal S1x1024 .f32) (h a t : Vec Ideal S256x1024 .f32) (l : Vec Ideal S8x1024 .f32)

/-- The norm's argument on a row of the chunk, with the gain's row and the target's. -/
def hc (r : Fin 256) (k : Fin 1024) : EReal := h (ix2 r k) + a (ix2 r k)
def gc (k : Fin 1024) : EReal := g (ix2 0 k)
def tc (r : Fin 256) (k : Fin 1024) : EReal := t (ix2 r k)

theorem pay8_apply (r : Fin 256) (j : Fin 1024) : k0_pay8 h a (ix2 r j) = hc h a r j := by
  pointwise [k0_pay8, hc]

theorem pay9_apply (r : Fin 256) : k0_pay9 h a (ix2 r 0) = rmsR (hc h a r) := by
  have e : k0_pay9 h a (ix2 r 0) = Ideal.rsqrt (Ideal.div (∑ k, k0_pay8 h a (ix2 r k) * k0_pay8 h a (ix2 r k)) cN + cE) := by
    pointwise [k0_pay9, cN, cE]
  rw [e]
  simp only [pay8_apply]
  rfl

theorem pay10_apply (r : Fin 256) (j : Fin 1024) : k0_pay10 h a (ix2 r j) = rmsX (hc h a r) j := by
  have e : k0_pay10 h a (ix2 r j) = k0_pay8 h a (ix2 r j) * k0_pay9 h a (ix2 r 0) := by
    pointwise [k0_pay10]
  rw [e, pay9_apply, pay8_apply]
  rfl

theorem pay11_apply (r : Fin 256) (j : Fin 1024) : k0_pay11 g h a t (ix2 r j) = lossE (hc h a r) (gc g) (tc t r) j := by
  have e : k0_pay11 g h a t (ix2 r j) = k0_pay10 h a (ix2 r j) * g (ix2 0 j) - t (ix2 r j) := by
    pointwise [k0_pay11, k0_pay7]
  rw [e, pay10_apply]
  rfl

theorem pay12_apply (r : Fin 256) (j : Fin 1024) : k0_pay12 g h a t (ix2 r j) = lossD (hc h a r) (gc g) (tc t r) j := by
  have e : k0_pay12 g h a t (ix2 r j) = k0_pay11 g h a t (ix2 r j) * cInv := by
    pointwise [k0_pay12, cInv]
  rw [e, pay11_apply]
  rfl

theorem pay13_apply (r : Fin 256) (j : Fin 1024) : k0_pay13 g h a t (ix2 r j) = lossG (hc h a r) (gc g) (tc t r) j := by
  have e : k0_pay13 g h a t (ix2 r j) = k0_pay9 h a (ix2 r 0) * (k0_pay12 g h a t (ix2 r j) * g (ix2 0 j)
      - k0_pay10 h a (ix2 r j) * Ideal.div (∑ k, k0_pay12 g h a t (ix2 r k) * g (ix2 0 k) * k0_pay10 h a (ix2 r k)) cN) := by
    pointwise [k0_pay13, k0_pay7, cN]
  rw [e, pay9_apply]
  simp only [pay12_apply, pay10_apply]
  rfl

theorem pay15_apply (s : Fin 8) (j : Fin 1024) : k0_pay15 (k0_pay11 g h a t) l (ix2 s j)
    = l (ix2 s j) + ∑ q : Fin 32, lossE (hc h a ⟨q.val * 8 + s.val, by omega⟩) (gc g) (tc t ⟨q.val * 8 + s.val, by omega⟩) j
        * lossE (hc h a ⟨q.val * 8 + s.val, by omega⟩) (gc g) (tc t ⟨q.val * 8 + s.val, by omega⟩) j := by
  have e : k0_pay15 (k0_pay11 g h a t) l (ix2 s j)
      = l (ix2 s j) + ∑ q : Fin 32, k0_pay11 g h a t (ix2 ⟨q.val * 8 + s.val, by omega⟩ j) * k0_pay11 g h a t (ix2 ⟨q.val * 8 + s.val, by omega⟩ j) := by
    pointwise [k0_pay15]
  rw [e]
  simp only [pay11_apply]

theorem pay16_apply (s : Fin 8) (j : Fin 1024) : k0_pay16 (k0_pay10 h a) (k0_pay12 g h a t) l (ix2 s j)
    = l (ix2 s j) + ∑ q : Fin 32, rmsX (hc h a ⟨q.val * 8 + s.val, by omega⟩) j
        * lossD (hc h a ⟨q.val * 8 + s.val, by omega⟩) (gc g) (tc t ⟨q.val * 8 + s.val, by omega⟩) j := by
  have e : k0_pay16 (k0_pay10 h a) (k0_pay12 g h a t) l (ix2 s j)
      = l (ix2 s j) + ∑ q : Fin 32, k0_pay12 g h a t (ix2 ⟨q.val * 8 + s.val, by omega⟩ j) * k0_pay10 h a (ix2 ⟨q.val * 8 + s.val, by omega⟩ j) := by
    pointwise [k0_pay16]
  rw [e]
  simp only [pay12_apply, pay10_apply, mul_comm]

/-! The later chunks take the same values. -/

theorem o2 : k0_pay23 (k0_pay7 g) (k0_pay18 h a) (k0_pay19 h a) (k0_pay20 (k0_pay7 g) h a t) k0_pay21 = k0_pay13 g h a t := rfl
theorem o3 : k0_pay33 (k0_pay7 g) (k0_pay27 h a) (k0_pay28 h a) t = k0_pay13 g h a t := rfl
theorem o4 : k0_pay42 (k0_pay7 g) h a t = k0_pay13 g h a t := rfl
theorem b1 (y : S256x1024.Idx) : (k0_pay14 g h a t y : EReal) = k0_pay13 g h a t y := rfl
theorem b2 (y : S256x1024.Idx) : (k0_pay24 (k0_pay7 g) (k0_pay18 h a) (k0_pay19 h a) (k0_pay20 (k0_pay7 g) h a t) k0_pay21 y : EReal) = k0_pay13 g h a t y := rfl
theorem b3 (y : S256x1024.Idx) : (k0_pay34 (k0_pay7 g) (k0_pay27 h a) (k0_pay28 h a) t y : EReal) = k0_pay13 g h a t y := rfl
theorem b4 (y : S256x1024.Idx) : (k0_pay43 (k0_pay7 g) h a t y : EReal) = k0_pay13 g h a t y := rfl
theorem l2 : k0_pay25 (k0_pay20 (k0_pay7 g) h a t) l = k0_pay15 (k0_pay11 g h a t) l := rfl
theorem l3 : k0_pay35 (k0_pay7 g) (k0_pay27 h a) (k0_pay28 h a) t l = k0_pay15 (k0_pay11 g h a t) l := rfl
theorem l4 : k0_pay3 (k0_pay40 (k0_pay7 g) h a t) l = k0_pay15 (k0_pay11 g h a t) l := rfl
theorem d2 : k0_pay26 (k0_pay19 h a) (k0_pay20 (k0_pay7 g) h a t) k0_pay21 l = k0_pay16 (k0_pay10 h a) (k0_pay12 g h a t) l := rfl
theorem d3 : k0_pay36 (k0_pay30 (k0_pay27 h a) (k0_pay28 h a)) (k0_pay32 (k0_pay7 g) (k0_pay27 h a) (k0_pay28 h a) t) l
    = k0_pay16 (k0_pay10 h a) (k0_pay12 g h a t) l := rfl
theorem d4 : k0_pay4 (k0_pay39 h a) (k0_pay41 (k0_pay7 g) h a t) l = k0_pay16 (k0_pay10 h a) (k0_pay12 g h a t) l := rfl

end pays

theorem pay1_apply (i : S1024x1024.Idx) : k0_pay1 (F := Ideal) i = 0 := by
  pointwise [k0_pay1]

theorem zeroL (i : S8x1024.Idx) : k0_pay5 (F := Ideal) i = 0 := by
  pointwise [k0_pay5]

theorem zeroD (i : S8x1024.Idx) : k0_pay6 (F := Ideal) i = 0 := by
  pointwise [k0_pay6]

theorem pay2_apply (s : Vec Ideal S1024x1024 .f32) (a b : Vec Ideal S1024x1024 .bf16) (r j : Fin 1024) :
    k0_pay2 s a b (ix2 r j) = s (ix2 r j) + ∑ k : Fin 1024, a (ix2 r k) * b (ix2 k j) := by
  pointwise [k0_pay2]

end Cert.LossIdeal.Hand
-- ==== Proof.LossVal.lean ====
/-
  The loss and its gradient: what the points leave, element by element.
-/
module

public import proofs.«01_k».proof.Proof.LossBody
public import proofs.«01_k».proof.Proof.DffnVal
public import Idealize.ShloMosaic.Lib.Claim
public import Idealize.ShloMosaic.Lib.Pipeline.ValueKit.Acc

@[expose] public section

set_option maxRecDepth 16384

noncomputable section

namespace Cert.LossIdeal.Hand

open Cert.LossIdeal Cert.LossIdeal.Gen Idealize.ShloMosaic Idealize.ShloMosaic.TcCoe Idealize.SL.Sem Cert.RealMath
open Idealize.ShloMosaic.Pipeline (Dat)
open Cert.DffnIdeal.Hand (lda ldr memO)

section block
variable (g : Vec Ideal S1x1024 .f32) (h a t : Vec Ideal S1024x1024 .f32)

/-- A point's part of the product. -/
def TA (x y : Vec Ideal S1024x1024 .bf16) (i : S1024x1024.Idx) : EReal := ∑ k : Fin 1024, x (ix2 (i 0) k) * y (ix2 k (i 1))

/-- A row of a block, the gradient on the block, and one row's part of the two sums. -/
def hb (r : Fin 1024) (k : Fin 1024) : EReal := h (ix2 r k) + a (ix2 r k)
def tb (r : Fin 1024) (k : Fin 1024) : EReal := t (ix2 r k)
def row8b (s : Fin 8) (q : Fin 128) : Fin 1024 := ⟨q.val * 8 + s.val, by omega⟩
def OB (i : S1024x1024.Idx) : EReal := lossG (hb h a (i 0)) (gc g) (tb t (i 0)) (i 1)
def LB (s : Fin 8) (j : Fin 1024) (q : Fin 128) : EReal :=
  lossE (hb h a (row8b s q)) (gc g) (tb t (row8b s q)) j * lossE (hb h a (row8b s q)) (gc g) (tb t (row8b s q)) j
def GB (s : Fin 8) (j : Fin 1024) (q : Fin 128) : EReal :=
  rmsX (hb h a (row8b s q)) j * lossD (hb h a (row8b s q)) (gc g) (tb t (row8b s q)) j

theorem readCov_whole (u : Vec Ideal S1024x1024 .f32) (v : View sig .tc .vmem S1024x1024 .f32) (inb : ∀ a, (![0, 0] : Fin 2 → Nat) a + S1024x1024.size a ≤ S1024x1024.size a)
    (r : Rect S1024x1024) : v.readCov (Val := Elt Ideal) [⟨Rect.unit ![0, 0] S1024x1024.size inb, u⟩] r.toLoadRect = View.ld u r := by
  rw [View.readCov_eq_canon', View.canon_cons_unit_lit inb u [] (by intro a; fin_cases a <;> rfl)]

variable {o : Nat} (i0 : ∀ a, (![o, 0] : Fin 2 → Nat) a + (![256, 1024] : Fin 2 → Nat) a ≤ S1024x1024.size a)

theorem hc_row (r : Fin 256) (R : Fin 1024) (hR : R.val = o + r.val) : hc (lda h i0) (lda a i0) r = hb h a R :=
  funext fun k => congrArg₂ (· + ·) (ldr h i0 r k R hR) (ldr a i0 r k R hR)

theorem tc_row (r : Fin 256) (R : Fin 1024) (hR : R.val = o + r.val) : tc (lda t i0) r = tb t R :=
  funext fun k => ldr t i0 r k R hR

theorem pieceO (y : S256x1024.Idx) : k0_pay13 g (lda h i0) (lda a i0) (lda t i0) y
    = OB g h a t ((Rect.unit (s := S1024x1024) ![o, 0] ![256, 1024] i0).emb y) := by
  obtain ⟨r, j, rfl⟩ : ∃ (r : Fin 256) (j : Fin 1024), y = ix2 r j := ⟨y 0, y 1, (ix2_eta y).symm⟩
  have h' := i0 0
  change o + 256 ≤ 1024 at h'
  have e : (Rect.unit (s := S1024x1024) ![o, 0] ![256, 1024] i0).emb (ix2 r j) = ix2 (⟨o + r.val, by omega⟩ : Fin 1024) j := by
    funext a
    apply Fin.ext
    match a with
    | ⟨0, _⟩ => show o + 1 * r.val = o + r.val; omega
    | ⟨1, _⟩ => show 0 + 1 * j.val = j.val; omega
  rw [pay13_apply, e, hc_row h a i0 r ⟨o + r.val, by omega⟩ rfl, tc_row t i0 r ⟨o + r.val, by omega⟩ rfl]
  rfl

theorem pieceL (l : Vec Ideal S8x1024 .f32) (n : Fin 4) (ho : o = n.val * 256) (s : Fin 8) (j : Fin 1024) :
    k0_pay15 (k0_pay11 g (lda h i0) (lda a i0) (lda t i0)) l (ix2 s j) = l (ix2 s j) + ∑ q : Fin 32, LB g h a t s j ⟨n.val * 32 + q.val, by omega⟩ := by
  rw [pay15_apply]
  congr 1
  refine Finset.sum_congr rfl fun q _ => ?_
  unfold LB
  rw [hc_row h a i0 _ (row8b s ⟨n.val * 32 + q.val, by omega⟩) (by dsimp only [row8b]; omega),
    tc_row t i0 _ (row8b s ⟨n.val * 32 + q.val, by omega⟩) (by dsimp only [row8b]; omega)]

theorem pieceG (l : Vec Ideal S8x1024 .f32) (n : Fin 4) (ho : o = n.val * 256) (s : Fin 8) (j : Fin 1024) :
    k0_pay16 (k0_pay10 (lda h i0) (lda a i0)) (k0_pay12 g (lda h i0) (lda a i0) (lda t i0)) l (ix2 s j)
      = l (ix2 s j) + ∑ q : Fin 32, GB g h a t s j ⟨n.val * 32 + q.val, by omega⟩ := by
  rw [pay16_apply]
  congr 1
  refine Finset.sum_congr rfl fun q _ => ?_
  unfold GB
  rw [hc_row h a i0 _ (row8b s ⟨n.val * 32 + q.val, by omega⟩) (by dsimp only [row8b]; omega),
    tc_row t i0 _ (row8b s ⟨n.val * 32 + q.val, by omega⟩) (by dsimp only [row8b]; omega)]

/-- One chunk's addition to a sum. -/
def stepL {o : Nat} (i0 : ∀ a, (![o, 0] : Fin 2 → Nat) a + (![256, 1024] : Fin 2 → Nat) a ≤ S1024x1024.size a) (l : Vec Ideal S8x1024 .f32) : Vec Ideal S8x1024 .f32 :=
  k0_pay15 (k0_pay11 g (lda h i0) (lda a i0) (lda t i0)) l
def stepG {o : Nat} (i0 : ∀ a, (![o, 0] : Fin 2 → Nat) a + (![256, 1024] : Fin 2 → Nat) a ≤ S1024x1024.size a) (l : Vec Ideal S8x1024 .f32) : Vec Ideal S8x1024 .f32 :=
  k0_pay16 (k0_pay10 (lda h i0) (lda a i0)) (k0_pay12 g (lda h i0) (lda a i0) (lda t i0)) l

abbrev R0 := inb_S1024x1024_S256x1024_0_0
abbrev R1 := inb_S1024x1024_S256x1024_256_0
abbrev R2 := inb_S1024x1024_S256x1024_512_0
abbrev R3 := inb_S1024x1024_S256x1024_768_0

theorem chainL (l : Vec Ideal S8x1024 .f32) (s : Fin 8) (j : Fin 1024) :
    stepL g h a t R3 (stepL g h a t R2 (stepL g h a t R1 (stepL g h a t R0 l))) (ix2 s j) = l (ix2 s j) + ∑ q, LB g h a t s j q := by
  unfold stepL
  rw [pieceL g h a t (o := 768) _ _ 3 rfl, pieceL g h a t (o := 512) _ _ 2 rfl, pieceL g h a t (o := 256) _ _ 1 rfl, pieceL g h a t (o := 0) _ _ 0 rfl,
    ← Fin.sum_mul_add_fin 4 32 (LB g h a t s j), Fin.sum_univ_four]
  simp only [add_assoc]

theorem chainG (l : Vec Ideal S8x1024 .f32) (s : Fin 8) (j : Fin 1024) :
    stepG g h a t R3 (stepG g h a t R2 (stepG g h a t R1 (stepG g h a t R0 l))) (ix2 s j) = l (ix2 s j) + ∑ q, GB g h a t s j q := by
  unfold stepG
  rw [pieceG g h a t (o := 768) _ _ 3 rfl, pieceG g h a t (o := 512) _ _ 2 rfl, pieceG g h a t (o := 256) _ _ 1 rfl, pieceG g h a t (o := 0) _ _ 0 rfl,
    ← Fin.sum_mul_add_fin 4 32 (GB g h a t s j), Fin.sum_univ_four]
  simp only [add_assoc]

end block

variable (m : (ℓ : Loc nD τ sig) → Buf (Elt Ideal) ℓ)

theorem unread_eq (X : Vec Ideal S1024x1024 .f32) :
    View.read (Elt Ideal) (View.whole cc0_scratch0) ((Memref.isWhole_whole cc0_scratch0).unread X) = X :=
  (Memref.isWhole_whole cc0_scratch0).read_unread X

section points
variable (c : Dev nD) (t : Fin cfg0.N)

/-- What the point before left. -/
abbrev pv := outsAt0 m c (t.val - 1) (Nat.lt_of_le_of_lt (Nat.sub_le _ _) t.isLt)

theorem acc_A (h0 : t.val % 4 = 0) (y : S1024x1024.Idx) : (outsAt0 m c t.val t.isLt).2.2.2.2 y = 0 + TA (iblk m c 0 t) (iblk m c 1 t) y := by
  obtain ⟨r, j, rfl⟩ : ∃ (r : Fin 1024) (j : Fin 1024), y = ix2 r j := ⟨y 0, y 1, (ix2_eta y).symm⟩
  rw [outsAt0_A m c t h0 (by omega)]
  dsimp only
  frame_out
  rw [pay2_apply, pay1_apply]
  rfl

theorem acc_S (h0 : ¬t.val % 4 = 0) : (outsAt0 m c t.val t.isLt).2.2.2.2 = k0_pay2 (pv m c t).2.2.2.2 (iblk m c 0 t) (iblk m c 1 t) := by
  by_cases h1 : t.val % 4 = 3
  · by_cases h2 : t.val < 4
    · rw [outsAt0_C m c t h0 h1 h2]
      dsimp only
      frame_out
      rw [unread_eq]
    · rw [outsAt0_D m c t h0 h1 h2]
      dsimp only
      frame_out
      rw [unread_eq]
  · rw [outsAt0_B m c t h0 h1]
    dsimp only
    frame_out
    rw [unread_eq]

theorem acc_B (h0 : ¬t.val % 4 = 0) (y : S1024x1024.Idx) : (outsAt0 m c t.val t.isLt).2.2.2.2 y = (pv m c t).2.2.2.2 y + TA (iblk m c 0 t) (iblk m c 1 t) y := by
  obtain ⟨r, j, rfl⟩ : ∃ (r : Fin 1024) (j : Fin 1024), y = ix2 r j := ⟨y 0, y 1, (ix2_eta y).symm⟩
  rw [acc_S m c t h0, pay2_apply]
  rfl

open List.Mem in
theorem out_O (h0 : ¬t.val % 4 = 0) (h1 : t.val % 4 = 3) (y : S1024x1024.Idx) :
    (outsAt0 m c t.val t.isLt).1 y = OB (iblk m c 3 t) (iblk m c 2 t) (outsAt0 m c t.val t.isLt).2.2.2.2 (iblk m c 4 t) y := by
  rw [acc_S m c t h0]
  by_cases h2 : t.val < 4
  all_goals
    first
    | rw [outsAt0_C m c t h0 h1 h2]
    | rw [outsAt0_D m c t h0 h1 h2]
    dsimp only
    frame_out
    dsimp only [pv]
    generalize (outsAt0 m c (t.val - 1) (Nat.lt_of_le_of_lt (Nat.sub_le _ _) t.isLt)) = X
    rw [unread_eq]
    rw [readCov_whole, readCov_whole, readCov_whole, readCov_whole]
    refine View.canon_apply_of_pieces (Val := Elt Ideal) (S := S1024x1024) (e := .f32) (OB (iblk m c 3 t) (iblk m c 2 t) (k0_pay2 X.2.2.2.2 (iblk m c 0 t) (iblk m c 1 t)) (iblk m c 4 t)) _ ?_ y ?_
    · intro p hp
      simp only [List.mem_cons, List.not_mem_nil, or_false] at hp
      rcases hp with rfl | rfl | rfl | rfl
      · exact fun y => (congrFun (o4 _ _ _ _) y).trans (pieceO (iblk m c 3 t) (iblk m c 2 t) (k0_pay2 X.2.2.2.2 (iblk m c 0 t) (iblk m c 1 t)) (iblk m c 4 t) (o := 768) inb_S1024x1024_S256x1024_768_0 y)
      · exact fun y => (congrFun (o3 _ _ _ _) y).trans (pieceO (iblk m c 3 t) (iblk m c 2 t) (k0_pay2 X.2.2.2.2 (iblk m c 0 t) (iblk m c 1 t)) (iblk m c 4 t) (o := 512) inb_S1024x1024_S256x1024_512_0 y)
      · exact fun y => (congrFun (o2 _ _ _ _) y).trans (pieceO (iblk m c 3 t) (iblk m c 2 t) (k0_pay2 X.2.2.2.2 (iblk m c 0 t) (iblk m c 1 t)) (iblk m c 4 t) (o := 256) inb_S1024x1024_S256x1024_256_0 y)
      · exact fun y => (pieceO (iblk m c 3 t) (iblk m c 2 t) (k0_pay2 X.2.2.2.2 (iblk m c 0 t) (iblk m c 1 t)) (iblk m c 4 t) (o := 0) inb_S1024x1024_S256x1024_0_0 y)
    · have hy : (y 0).val < 1024 := (y 0).isLt
      have hc : (y 0).val < 256 ∨ (256 ≤ (y 0).val ∧ (y 0).val < 512) ∨ (512 ≤ (y 0).val ∧ (y 0).val < 768) ∨ 768 ≤ (y 0).val := by omega
      rcases hc with h | h | h | h
      · exact ⟨_, tail _ (tail _ (tail _ (head _))), memO (o := 0) inb_S1024x1024_S256x1024_0_0 y (by omega)⟩
      · exact ⟨_, tail _ (tail _ (head _)), memO (o := 256) inb_S1024x1024_S256x1024_256_0 y (by omega)⟩
      · exact ⟨_, tail _ (head _), memO (o := 512) inb_S1024x1024_S256x1024_512_0 y (by omega)⟩
      · exact ⟨_, head _, memO (o := 768) inb_S1024x1024_S256x1024_768_0 y (by omega)⟩

open List.Mem in
theorem out_P (h0 : ¬t.val % 4 = 0) (h1 : t.val % 4 = 3) (y : S1024x1024.Idx) :
    (outsAt0 m c t.val t.isLt).2.1 y = OB (iblk m c 3 t) (iblk m c 2 t) (outsAt0 m c t.val t.isLt).2.2.2.2 (iblk m c 4 t) y := by
  rw [acc_S m c t h0]
  by_cases h2 : t.val < 4
  all_goals
    first
    | rw [outsAt0_C m c t h0 h1 h2]
    | rw [outsAt0_D m c t h0 h1 h2]
    dsimp only
    frame_out
    dsimp only [pv]
    generalize (outsAt0 m c (t.val - 1) (Nat.lt_of_le_of_lt (Nat.sub_le _ _) t.isLt)) = X
    rw [unread_eq]
    rw [readCov_whole, readCov_whole, readCov_whole, readCov_whole]
    refine View.canon_apply_of_pieces (Val := Elt Ideal) (S := S1024x1024) (e := .bf16) (OB (iblk m c 3 t) (iblk m c 2 t) (k0_pay2 X.2.2.2.2 (iblk m c 0 t) (iblk m c 1 t)) (iblk m c 4 t)) _ ?_ y ?_
    · intro p hp
      simp only [List.mem_cons, List.not_mem_nil, or_false] at hp
      rcases hp with rfl | rfl | rfl | rfl
      · exact fun y => (b4 _ _ _ _ y).trans (pieceO (iblk m c 3 t) (iblk m c 2 t) (k0_pay2 X.2.2.2.2 (iblk m c 0 t) (iblk m c 1 t)) (iblk m c 4 t) (o := 768) inb_S1024x1024_S256x1024_768_0 y)
      · exact fun y => (b3 _ _ _ _ y).trans (pieceO (iblk m c 3 t) (iblk m c 2 t) (k0_pay2 X.2.2.2.2 (iblk m c 0 t) (iblk m c 1 t)) (iblk m c 4 t) (o := 512) inb_S1024x1024_S256x1024_512_0 y)
      · exact fun y => (b2 _ _ _ _ y).trans (pieceO (iblk m c 3 t) (iblk m c 2 t) (k0_pay2 X.2.2.2.2 (iblk m c 0 t) (iblk m c 1 t)) (iblk m c 4 t) (o := 256) inb_S1024x1024_S256x1024_256_0 y)
      · exact fun y => (b1 _ _ _ _ y).trans (pieceO (iblk m c 3 t) (iblk m c 2 t) (k0_pay2 X.2.2.2.2 (iblk m c 0 t) (iblk m c 1 t)) (iblk m c 4 t) (o := 0) inb_S1024x1024_S256x1024_0_0 y)
    · have hy : (y 0).val < 1024 := (y 0).isLt
      have hc : (y 0).val < 256 ∨ (256 ≤ (y 0).val ∧ (y 0).val < 512) ∨ (512 ≤ (y 0).val ∧ (y 0).val < 768) ∨ 768 ≤ (y 0).val := by omega
      rcases hc with h | h | h | h
      · exact ⟨_, tail _ (tail _ (tail _ (head _))), memO (o := 0) inb_S1024x1024_S256x1024_0_0 y (by omega)⟩
      · exact ⟨_, tail _ (tail _ (head _)), memO (o := 256) inb_S1024x1024_S256x1024_256_0 y (by omega)⟩
      · exact ⟨_, tail _ (head _), memO (o := 512) inb_S1024x1024_S256x1024_512_0 y (by omega)⟩
      · exact ⟨_, head _, memO (o := 768) inb_S1024x1024_S256x1024_768_0 y (by omega)⟩

theorem ls_keep (h1 : ¬t.val % 4 = 3) : (outsAt0 m c t.val t.isLt).2.2.1 = (pv m c t).2.2.1 := by
  by_cases h0 : t.val % 4 = 0
  · rw [outsAt0_A m c t h0 h1]
    rfl
  · rw [outsAt0_B m c t h0 h1]
    rfl

theorem ls_C (h1 : t.val % 4 = 3) (h2 : t.val < 4) (s : Fin 8) (j : Fin 1024) :
    (outsAt0 m c t.val t.isLt).2.2.1 (ix2 s j) = 0 + ∑ q, LB (iblk m c 3 t) (iblk m c 2 t) (outsAt0 m c t.val t.isLt).2.2.2.2 (iblk m c 4 t) s j q := by
  rw [acc_S m c t (by omega), outsAt0_C m c t (by omega) h1 h2]
  dsimp only
  frame_out
  dsimp only [pv]
  generalize (outsAt0 m c (t.val - 1) (Nat.lt_of_le_of_lt (Nat.sub_le _ _) t.isLt)) = X
  rw [unread_eq]
  rw [readCov_whole, readCov_whole, readCov_whole, readCov_whole]
  rw [← zeroL (ix2 s j)]
  exact chainL (iblk m c 3 t) (iblk m c 2 t) (k0_pay2 X.2.2.2.2 (iblk m c 0 t) (iblk m c 1 t)) (iblk m c 4 t) (k0_pay5 (F := Ideal)) s j

theorem ls_D (h1 : t.val % 4 = 3) (h2 : ¬t.val < 4) (s : Fin 8) (j : Fin 1024) :
    (outsAt0 m c t.val t.isLt).2.2.1 (ix2 s j) = (pv m c t).2.2.1 (ix2 s j) + ∑ q, LB (iblk m c 3 t) (iblk m c 2 t) (outsAt0 m c t.val t.isLt).2.2.2.2 (iblk m c 4 t) s j q := by
  rw [acc_S m c t (by omega), outsAt0_D m c t (by omega) h1 h2]
  dsimp only
  frame_out
  dsimp only [pv]
  generalize (outsAt0 m c (t.val - 1) (Nat.lt_of_le_of_lt (Nat.sub_le _ _) t.isLt)) = X
  rw [unread_eq]
  rw [readCov_whole, readCov_whole, readCov_whole, readCov_whole]
  exact chainL (iblk m c 3 t) (iblk m c 2 t) (k0_pay2 X.2.2.2.2 (iblk m c 0 t) (iblk m c 1 t)) (iblk m c 4 t) X.2.2.1 s j

theorem dg_keep (h1 : ¬t.val % 4 = 3) : (outsAt0 m c t.val t.isLt).2.2.2.1 = (pv m c t).2.2.2.1 := by
  by_cases h0 : t.val % 4 = 0
  · rw [outsAt0_A m c t h0 h1]
    rfl
  · rw [outsAt0_B m c t h0 h1]
    rfl

theorem dg_C (h1 : t.val % 4 = 3) (h2 : t.val < 4) (s : Fin 8) (j : Fin 1024) :
    (outsAt0 m c t.val t.isLt).2.2.2.1 (ix2 s j) = 0 + ∑ q, GB (iblk m c 3 t) (iblk m c 2 t) (outsAt0 m c t.val t.isLt).2.2.2.2 (iblk m c 4 t) s j q := by
  rw [acc_S m c t (by omega), outsAt0_C m c t (by omega) h1 h2]
  dsimp only
  frame_out
  dsimp only [pv]
  generalize (outsAt0 m c (t.val - 1) (Nat.lt_of_le_of_lt (Nat.sub_le _ _) t.isLt)) = X
  rw [unread_eq]
  rw [readCov_whole, readCov_whole, readCov_whole, readCov_whole]
  rw [← zeroD (ix2 s j)]
  exact chainG (iblk m c 3 t) (iblk m c 2 t) (k0_pay2 X.2.2.2.2 (iblk m c 0 t) (iblk m c 1 t)) (iblk m c 4 t) (k0_pay6 (F := Ideal)) s j

theorem dg_D (h1 : t.val % 4 = 3) (h2 : ¬t.val < 4) (s : Fin 8) (j : Fin 1024) :
    (outsAt0 m c t.val t.isLt).2.2.2.1 (ix2 s j) = (pv m c t).2.2.2.1 (ix2 s j) + ∑ q, GB (iblk m c 3 t) (iblk m c 2 t) (outsAt0 m c t.val t.isLt).2.2.2.2 (iblk m c 4 t) s j q := by
  rw [acc_S m c t (by omega), outsAt0_D m c t (by omega) h1 h2]
  dsimp only
  frame_out
  dsimp only [pv]
  generalize (outsAt0 m c (t.val - 1) (Nat.lt_of_le_of_lt (Nat.sub_le _ _) t.isLt)) = X
  rw [unread_eq]
  rw [readCov_whole, readCov_whole, readCov_whole, readCov_whole]
  exact chainG (iblk m c 3 t) (iblk m c 2 t) (k0_pay2 X.2.2.2.2 (iblk m c 0 t) (iblk m c 1 t)) (iblk m c 4 t) X.2.2.2.1 s j

end points

end Cert.LossIdeal.Hand
-- ==== Proof.LossRefRow.lean ====
/-
  The loss and its gradient: what the `jax.vjp` reference computes, element by element.
-/
module

public import proofs.«01_k».proof.Proof.Gen.LossRefIdeal.Read
public import proofs.«01_k».proof.Proof.LossMath
public import Idealize.ShloMosaic.Lib.Pointwise
public import Idealize.ShloMosaic.Lib.IdealHost

@[expose] public section

set_option maxRecDepth 16384

noncomputable section

namespace Cert.LossRefIdeal.Hand

open Cert.LossRefIdeal Cert.LossRefIdeal.Read Idealize.ShloMosaic Idealize.ShloMosaic.TcCoe Cert.RealMath

variable (a : FVec Ideal S16384x4096 .bf16) (w : FVec Ideal S1x4096x1024 .f32) (x : FVec Ideal S1x16384x1024 .f32) (g : FVec Ideal S1024 .f32)
  (t : FVec Ideal S1x16384x1024 .f32)

/-- A row of the norm's argument, the gain, and the row's target. -/
def hr (R : Fin 16384) (k : Fin 1024) : EReal := x (ix3 0 R k) + ∑ s : Fin 4096, a (ix2 R s) * w (ix3 0 s k)
def gr (k : Fin 1024) : EReal := g (ix1 k)
def tr (R : Fin 16384) (k : Fin 1024) : EReal := t (ix3 0 R k)

theorem v7_apply (R : Fin 16384) (k : Fin 1024) : val_main_v7 (F := Ideal) a w x (ix2 R k) = hr a w x R k := by
  pointwise [val_main_v7, val_main_v6, val_main_v4, val_main_v3, val_main_v0, hr]

theorem v14_apply (R : Fin 16384) : val_main_v14 (F := Ideal) a w x (ix2 R 0) = rmsV (hr a w x R) := by
  have e : val_main_v14 (F := Ideal) a w x (ix2 R 0)
      = Ideal.div (∑ k, val_main_v7 (F := Ideal) a w x (ix2 R k) * val_main_v7 (F := Ideal) a w x (ix2 R k)) cN + cE := by
    pointwise [val_main_v14, val_main_v13, val_main_v12, val_main_v11, val_main_v10, val_main_v9, val_main_v8, val_main_cst_0, val_main_cst_1, val_main_cst_2, cN, cE]
  rw [e]
  simp only [v7_apply]
  rfl

theorem v15_apply (R : Fin 16384) : val_main_v15 (F := Ideal) a w x (ix2 R 0) = rmsR (hr a w x R) := by
  have e : val_main_v15 (F := Ideal) a w x (ix2 R 0) = Ideal.rsqrt (val_main_v14 (F := Ideal) a w x (ix2 R 0)) := by
    pointwise [val_main_v15]
  rw [e, v14_apply]
  rfl

theorem v20_apply (R : Fin 16384) (j : Fin 1024) : val_main_v20 (F := Ideal) a w x (ix2 R j) = rmsX (hr a w x R) j := by
  have e : val_main_v20 (F := Ideal) a w x (ix2 R j) = val_main_v7 (F := Ideal) a w x (ix2 R j) * val_main_v15 (F := Ideal) a w x (ix2 R 0) := by
    pointwise [val_main_v20, val_main_v19]
  rw [e, v15_apply, v7_apply]
  rfl

theorem v22_apply (R : Fin 16384) (j : Fin 1024) : val_main_v22 (F := Ideal) a w x g t (ix2 R j) = lossE (hr a w x R) (gr g) (tr t R) j := by
  have e : val_main_v22 (F := Ideal) a w x g t (ix2 R j) = val_main_v20 (F := Ideal) a w x (ix2 R j) * g (ix1 j) - t (ix3 0 R j) := by
    pointwise [val_main_v22, val_main_v21, val_main_v5, val_main_v1]
  rw [e, v20_apply]
  rfl

theorem v36_apply (R : Fin 16384) (j : Fin 1024) : val_main_v36 (F := Ideal) a w x g t (ix2 R j) = lossD (hr a w x R) (gr g) (tr t R) j := by
  have e : val_main_v36 (F := Ideal) a w x g t (ix2 R j) = cHN * (cTwo * val_main_v22 (F := Ideal) a w x g t (ix2 R j)) := by
    pointwise [val_main_v36, val_main_v35, val_main_v34, val_main_v33, val_main_v32, val_main_v31, val_main_v25, val_main_v24, val_main_v2, val_main_cst,
      val_main_cst_4, val_main_cst_8, val_main_cst_9, cHN, cPos, cOne, cN, cTwo]
  rw [e, v22_apply, scale_eq]
  rfl

theorem v38_apply (R : Fin 16384) (j : Fin 1024) : val_main_v38 (F := Ideal) a w x g t (ix2 R j) = lossD (hr a w x R) (gr g) (tr t R) j * gr g j := by
  have e : val_main_v38 (F := Ideal) a w x g t (ix2 R j) = val_main_v36 (F := Ideal) a w x g t (ix2 R j) * g (ix1 j) := by
    pointwise [val_main_v38, val_main_v1]
  rw [e, v36_apply]
  rfl

theorem v47_apply (R : Fin 16384) : val_main_v47 (F := Ideal) a w x g t (ix1 R) = rmsU (hr a w x R) (fun k => lossD (hr a w x R) (gr g) (tr t R) k * gr g k) := by
  have e : val_main_v47 (F := Ideal) a w x g t (ix1 R)
      = Ideal.div ((∑ k, val_main_v7 (F := Ideal) a w x (ix2 R k) * val_main_v38 (F := Ideal) a w x g t (ix2 R k))
          * (cHalf * Ideal.div (val_main_v15 (F := Ideal) a w x (ix2 R 0)) (val_main_v14 (F := Ideal) a w x (ix2 R 0)))) cN := by
    pointwise [val_main_v47, val_main_v46, val_main_v45, val_main_v44, val_main_v41, val_main_v40, val_main_v39, val_main_v18, val_main_v17, val_main_v16,
      val_main_cst_3, val_main_cst_10, val_main_cst_11, val_main_cst_12, cN, cHalf]
    exact Fin.sum_univ_one _
  rw [e, v15_apply, v14_apply]
  simp only [v7_apply, v38_apply]
  rfl

variable {a w x g t}
variable (ha : ∀ i, Rl (a i)) (hw : ∀ i, Rl (w i)) (hx : ∀ i, Rl (x i)) (hg : ∀ i, Rl (g i)) (ht : ∀ i, Rl (t i))

include ha hw hx in
theorem hr_real (R : Fin 16384) (k : Fin 1024) : Rl (hr a w x R k) := by
  unfold hr
  exact (hx _).add (Rl.sum fun i => (ha _).mul (hw _))

include ha hw hx hg ht in
theorem v52_apply (R : Fin 16384) (j : Fin 1024) : val_main_v52 (F := Ideal) a w x g t (ix2 R j) = lossG (hr a w x R) (gr g) (tr t R) j := by
  have e : val_main_v52 (F := Ideal) a w x g t (ix2 R j)
      = val_main_v38 (F := Ideal) a w x g t (ix2 R j) * val_main_v15 (F := Ideal) a w x (ix2 R 0)
        + val_main_v7 (F := Ideal) a w x (ix2 R j) * val_main_v47 (F := Ideal) a w x g t (ix1 R)
        + val_main_v47 (F := Ideal) a w x g t (ix1 R) * val_main_v7 (F := Ideal) a w x (ix2 R j) := by
    pointwise [val_main_v52, val_main_v51, val_main_v50, val_main_v49, val_main_v48, val_main_v43, val_main_v42]
  rw [e, v15_apply, v7_apply, v47_apply, v38_apply]
  have hh := hr_real ha hw hx R
  have h := rmsG_eq (x := hr a w x R) (w := fun k => lossD (hr a w x R) (gr g) (tr t R) k * gr g k) hh
    (fun k => (lossD_real hh (fun k => hg _) (fun k => ht _) k).mul (hg _)) 0 j
  rw [zero_add, zero_add] at h
  exact h

variable (a w x g t)

theorem copy_eq : val_main_v66 (F := Ideal) a w x = val_main_v20 (F := Ideal) a w x := rfl

/-- One row's part of the sums. -/
def row8 (s : Fin 8) (q : Fin 2048) : Fin 16384 := ⟨q.val * 8 + s.val, by omega⟩
def te (s : Fin 8) (j : Fin 1024) (q : Fin 2048) : EReal :=
  lossE (hr a w x (row8 s q)) (gr g) (tr t (row8 s q)) j * lossE (hr a w x (row8 s q)) (gr g) (tr t (row8 s q)) j
def td (s : Fin 8) (j : Fin 1024) (q : Fin 2048) : EReal :=
  rmsX (hr a w x (row8 s q)) j * lossD (hr a w x (row8 s q)) (gr g) (tr t (row8 s q)) j

theorem v71_apply (R : Fin 16384) (j : Fin 1024) : val_main_v71 (F := Ideal) a w x g t (ix2 R j) = lossE (hr a w x R) (gr g) (tr t R) j := by
  have e : val_main_v71 (F := Ideal) a w x g t (ix2 R j) = val_main_v66 (F := Ideal) a w x (ix2 R j) * g (ix1 j) - t (ix3 0 R j) := by
    pointwise [val_main_v71, val_main_v70, val_main_v69, val_main_v68, val_main_v67]
  rw [e, copy_eq, v20_apply]
  rfl

theorem v75_apply (s : Fin 8) (j : Fin 1024) : val_main_v75 (F := Ideal) a w x g t (ix2 s j) = ∑ q, te a w x g t s j q := by
  have e : val_main_v75 (F := Ideal) a w x g t (ix2 s j)
      = ∑ q : Fin 2048, val_main_v71 (F := Ideal) a w x g t (ix2 (row8 s q) j) * val_main_v71 (F := Ideal) a w x g t (ix2 (row8 s q) j) := by
    pointwise [val_main_v75, val_main_v74, val_main_v72, val_main_cst_16, row8]
  rw [e]
  simp only [v71_apply]
  rfl

theorem v77_apply (s : Fin 8) (j : Fin 1024) : val_main_v77 (F := Ideal) a w x g t (ix2 s j) = ∑ q, td a w x g t s j q := by
  have e : val_main_v77 (F := Ideal) a w x g t (ix2 s j)
      = ∑ q : Fin 2048, val_main_v20 (F := Ideal) a w x (ix2 (row8 s q) j) * val_main_v36 (F := Ideal) a w x g t (ix2 (row8 s q) j) := by
    pointwise [val_main_v77, val_main_v76, val_main_v37, val_main_cst_17, row8]
  rw [e]
  simp only [v20_apply, v36_apply]
  rfl

end Cert.LossRefIdeal.Hand
-- ==== Proof.LossFinal.lean ====
/-
  The loss and its gradient: the blocks the points read, the accumulated product, and the four arrays after the run against the
  reference's.
-/
module

public import proofs.«01_k».proof.Proof.LossVal
public import proofs.«01_k».proof.Proof.LossRefRow
public import proofs.«01_k».proof.Proof.Gen.LossIdeal.Value

@[expose] public section

set_option maxRecDepth 16384

noncomputable section

namespace Cert.LossIdeal.Hand

open Cert.LossIdeal Cert.LossIdeal.Gen Idealize.ShloMosaic Idealize.ShloMosaic.TcCoe Idealize.SL.Sem Cert.RealMath
open Idealize.ShloMosaic.Pipeline (Dat)
open Cert.LossRefIdeal.Hand (hr gr tr te td row8)
open Cert.LossRefIdeal.Read

variable (m : (ℓ : Loc nD τ sig) → Buf (Elt Ideal) ℓ) (c : Dev nD)

/-- The arguments, as the reference takes them. -/
abbrev A0 : FVec Ideal S16384x4096 .bf16 := m ((c : Thread nD τ).loc main_arg0)
abbrev A1 : FVec Ideal S1x4096x1024 .f32 := m ((c : Thread nD τ).loc main_arg1)
abbrev A2 : FVec Ideal S1x16384x1024 .f32 := m ((c : Thread nD τ).loc main_arg2)
abbrev A3 : FVec Ideal S1024 .f32 := m ((c : Thread nD τ).loc main_arg3)
abbrev A4 : FVec Ideal S1x16384x1024 .f32 := m ((c : Thread nD τ).loc main_arg4)

theorem drop1 (x : FVec Ideal S1x4096x1024 .f32) (q : Fin 4096) (k : Fin 1024) :
    shapeCast S4096x1024 x shapeCasts_S1x4096x1024_S4096x1024 (ix2 q k) = x (ix3 0 q k) := by
  pointwise []

theorem drop2 (x : FVec Ideal S1x16384x1024 .f32) (q : Fin 16384) (k : Fin 1024) :
    shapeCast S16384x1024 x shapeCasts_S1x16384x1024_S16384x1024 (ix2 q k) = x (ix3 0 q k) := by
  pointwise []

theorem add1 (x : FVec Ideal S1024 .f32) (k : Fin 1024) :
    shapeCast S1x1024 x shapeCasts_S1024_S1x1024 (ix2 0 k) = x (ix1 k) := by
  pointwise []

theorem V_w (q : Fin 4096) (k : Fin 1024) : V m c main_v1 (ix2 q k) = A1 m c (ix3 0 q k) := by
  have e : V m c main_v1 = (truncf .bf16 (shapeCast S4096x1024 (A1 m c) shapeCasts_S1x4096x1024_S4096x1024) bitsLt_bf16_f32 : FVec Ideal S4096x1024 .bf16) := by
    dsimp only [V, hostOps0, List.flatten_cons, List.flatten_nil, List.cons_append, List.nil_append]
    after_results
    rfl
  rw [e]
  exact drop1 _ q k

theorem V_x (q : Fin 16384) (k : Fin 1024) : V m c main_v2 (ix2 q k) = A2 m c (ix3 0 q k) := by
  have e : V m c main_v2 = (shapeCast S16384x1024 (A2 m c) shapeCasts_S1x16384x1024_S16384x1024 : FVec Ideal S16384x1024 .f32) := by
    dsimp only [V, hostOps0, List.flatten_cons, List.flatten_nil, List.cons_append, List.nil_append]
    after_results
    rfl
  rw [e]
  exact drop2 _ q k

theorem V_g (k : Fin 1024) : V m c main_v3 (ix2 0 k) = A3 m c (ix1 k) := by
  have e : V m c main_v3 = (shapeCast S1x1024 (A3 m c) shapeCasts_S1024_S1x1024 : FVec Ideal S1x1024 .f32) := by
    dsimp only [V, hostOps0, List.flatten_cons, List.flatten_nil, List.cons_append, List.nil_append]
    after_results
    rfl
  rw [e]
  exact add1 _ k

theorem V_t (q : Fin 16384) (k : Fin 1024) : V m c main_v4 (ix2 q k) = A4 m c (ix3 0 q k) := by
  have e : V m c main_v4 = (shapeCast S16384x1024 (A4 m c) shapeCasts_S1x16384x1024_S16384x1024 : FVec Ideal S16384x1024 .f32) := by
    dsimp only [V, hostOps0, List.flatten_cons, List.flatten_nil, List.cons_append, List.nil_append]
    after_results
    rfl
  rw [e]
  exact drop2 _ q k

theorem idx_in : ∀ t : Fin cfg0.N, (win0_0.index t 0 = t.val / 4 ∧ win0_0.index t 1 = t.val % 4) ∧ (win0_1.index t 0 = t.val % 4 ∧ win0_1.index t 1 = 0)
    ∧ (win0_2.index t 0 = t.val / 4 ∧ win0_2.index t 1 = 0) ∧ (win0_3.index t 0 = 0 ∧ win0_3.index t 1 = 0) ∧ (win0_4.index t 0 = t.val / 4 ∧ win0_4.index t 1 = 0) :=
  (by decide +kernel : ∀ t : Fin grid0.N, (win0_0.index t 0 = t.val / 4 ∧ win0_0.index t 1 = t.val % 4) ∧ (win0_1.index t 0 = t.val % 4 ∧ win0_1.index t 1 = 0)
    ∧ (win0_2.index t 0 = t.val / 4 ∧ win0_2.index t 1 = 0) ∧ (win0_3.index t 0 = 0 ∧ win0_3.index t 1 = 0) ∧ (win0_4.index t 0 = t.val / 4 ∧ win0_4.index t 1 = 0))

theorem idx_out : ∀ t : Fin cfg0.N, (win0_5.index t 0 = t.val / 4 ∧ win0_5.index t 1 = 0) ∧ (win0_6.index t 0 = t.val / 4 ∧ win0_6.index t 1 = 0)
    ∧ (win0_7.index t 0 = 0 ∧ win0_7.index t 1 = 0) ∧ (win0_8.index t 0 = 0 ∧ win0_8.index t 1 = 0) :=
  (by decide +kernel : ∀ t : Fin grid0.N, (win0_5.index t 0 = t.val / 4 ∧ win0_5.index t 1 = 0) ∧ (win0_6.index t 0 = t.val / 4 ∧ win0_6.index t 1 = 0)
    ∧ (win0_7.index t 0 = 0 ∧ win0_7.index t 1 = 0) ∧ (win0_8.index t 0 = 0 ∧ win0_8.index t 1 = 0))

section blocks
variable (t : Fin cfg0.N)

theorem lt64 : t.val < 64 := lt_of_lt_of_eq t.isLt N_0

theorem a_blk (r k : Fin 1024) (R : Fin 16384) (hR : R.val = t.val / 4 * 1024 + r.val) (K : Fin 4096) (hK : K.val = t.val % 4 * 1024 + k.val) :
    iblk m c 0 t (ix2 r k) = A0 m c (ix2 R K) := by
  obtain ⟨⟨e0, e1⟩, -⟩ := idx_in t
  refine Eq.trans ?_ (congrFun (V_main_arg0 m c) (ix2 R K))
  show V m c main_arg0 _ = V m c main_arg0 _
  congr 1
  funext a
  apply Fin.ext
  match a with
  | ⟨0, _⟩ => show win0_0.index t 0 * 1024 + 1 * r.val = R.val; rw [e0]; omega
  | ⟨1, _⟩ => show win0_0.index t 1 * 1024 + 1 * k.val = K.val; rw [e1]; omega

theorem w_blk (k j : Fin 1024) (K : Fin 4096) (hK : K.val = t.val % 4 * 1024 + k.val) : iblk m c 1 t (ix2 k j) = A1 m c (ix3 0 K j) := by
  obtain ⟨-, ⟨e0, e1⟩, -⟩ := idx_in t
  refine Eq.trans ?_ (V_w m c K j)
  show V m c main_v1 _ = V m c main_v1 _
  congr 1
  funext a
  apply Fin.ext
  match a with
  | ⟨0, _⟩ => show win0_1.index t 0 * 1024 + 1 * k.val = K.val; rw [e0]; omega
  | ⟨1, _⟩ => show win0_1.index t 1 * 1024 + 1 * j.val = j.val; rw [e1]; omega

theorem x_blk (r k : Fin 1024) (R : Fin 16384) (hR : R.val = t.val / 4 * 1024 + r.val) : iblk m c 2 t (ix2 r k) = A2 m c (ix3 0 R k) := by
  obtain ⟨-, -, ⟨e0, e1⟩, -⟩ := idx_in t
  refine Eq.trans ?_ (V_x m c R k)
  show V m c main_v2 _ = V m c main_v2 _
  congr 1
  funext a
  apply Fin.ext
  match a with
  | ⟨0, _⟩ => show win0_2.index t 0 * 1024 + 1 * r.val = R.val; rw [e0]; omega
  | ⟨1, _⟩ => show win0_2.index t 1 * 1024 + 1 * k.val = k.val; rw [e1]; omega

theorem g_blk (k : Fin 1024) : iblk m c 3 t (ix2 0 k) = A3 m c (ix1 k) := by
  obtain ⟨-, -, -, ⟨e0, e1⟩, -⟩ := idx_in t
  refine Eq.trans ?_ (V_g m c k)
  show V m c main_v3 _ = V m c main_v3 _
  congr 1
  funext a
  apply Fin.ext
  match a with
  | ⟨0, _⟩ => show win0_3.index t 0 * 1 + 1 * 0 = 0; rw [e0]
  | ⟨1, _⟩ => show win0_3.index t 1 * 1024 + 1 * k.val = k.val; rw [e1]; omega

theorem t_blk (r k : Fin 1024) (R : Fin 16384) (hR : R.val = t.val / 4 * 1024 + r.val) : iblk m c 4 t (ix2 r k) = tr (A4 m c) R k := by
  obtain ⟨-, -, -, -, e0, e1⟩ := idx_in t
  refine Eq.trans ?_ (V_t m c R k)
  show V m c main_v4 _ = V m c main_v4 _
  congr 1
  funext a
  apply Fin.ext
  match a with
  | ⟨0, _⟩ => show win0_4.index t 0 * 1024 + 1 * r.val = R.val; rw [e0]; omega
  | ⟨1, _⟩ => show win0_4.index t 1 * 1024 + 1 * k.val = k.val; rw [e1]; omega

/-- The product accumulated over a row block's four points. -/
theorem acc_last (h1 : t.val % 4 = 3) (r j : Fin 1024) (R : Fin 16384) (hR : R.val = t.val / 4 * 1024 + r.val) :
    (outsAt0 m c t.val t.isLt).2.2.2.2 (ix2 r j) = ∑ k : Fin 4096, A0 m c (ix2 R k) * A1 m c (ix3 0 k j) := by
  rw [Pipeline.eq_sum_fin_of_reset_step_apply_of_flush (fun n h => (outsAt0 m c n h).2.2.2.2) 4 (fun _ => (0 : EReal))
    (fun t i => TA (iblk m c 0 t) (iblk m c 1 t) i) (fun t h i => acc_A m c t h i) (fun t h i => acc_B m c t h i) t h1 (ix2 r j), zero_add]
  rw [← Fin.sum_mul_add_fin 4 1024 fun k : Fin 4096 => A0 m c (ix2 R k) * A1 m c (ix3 0 k j)]
  refine Finset.sum_congr rfl fun s _ => Finset.sum_congr rfl fun k _ => ?_
  have ht := lt64 t
  exact congrArg₂ (· * ·) (a_blk m c _ r k R (by dsimp only; omega) ⟨s.val * 1024 + k.val, by omega⟩ (by dsimp only; omega))
    (w_blk m c _ k j ⟨s.val * 1024 + k.val, by omega⟩ (by dsimp only; omega))

theorem hb_blk (h1 : t.val % 4 = 3) (r : Fin 1024) (R : Fin 16384) (hR : R.val = t.val / 4 * 1024 + r.val) :
    hb (iblk m c 2 t) (outsAt0 m c t.val t.isLt).2.2.2.2 r = hr (A0 m c) (A1 m c) (A2 m c) R :=
  funext fun k => congrArg₂ (· + ·) (x_blk m c t r k R hR) (acc_last m c t h1 r k R hR)

theorem gc_blk : gc (iblk m c 3 t) = gr (A3 m c) := funext fun k => g_blk m c t k

theorem tb_blk (r : Fin 1024) (R : Fin 16384) (hR : R.val = t.val / 4 * 1024 + r.val) : tb (iblk m c 4 t) r = tr (A4 m c) R :=
  funext fun k => t_blk m c t r k R hR

theorem OB_blk (h1 : t.val % 4 = 3) (r j : Fin 1024) (R : Fin 16384) (hR : R.val = t.val / 4 * 1024 + r.val) :
    OB (iblk m c 3 t) (iblk m c 2 t) (outsAt0 m c t.val t.isLt).2.2.2.2 (iblk m c 4 t) (ix2 r j)
      = lossG (hr (A0 m c) (A1 m c) (A2 m c) R) (gr (A3 m c)) (tr (A4 m c) R) j := by
  show lossG (hb (iblk m c 2 t) (outsAt0 m c t.val t.isLt).2.2.2.2 r) (gc (iblk m c 3 t)) (tb (iblk m c 4 t) r) j = _
  rw [hb_blk m c t h1 r R hR, gc_blk, tb_blk m c t r R hR]

theorem LB_blk (h1 : t.val % 4 = 3) (s : Fin 8) (j : Fin 1024) (q : Fin 128) (Q : Fin 2048) (hQ : Q.val = t.val / 4 * 128 + q.val) :
    LB (iblk m c 3 t) (iblk m c 2 t) (outsAt0 m c t.val t.isLt).2.2.2.2 (iblk m c 4 t) s j q = te (A0 m c) (A1 m c) (A2 m c) (A3 m c) (A4 m c) s j Q := by
  have e : (row8 s Q).val = t.val / 4 * 1024 + (row8b s q).val := by dsimp only [row8, row8b]; omega
  unfold LB te
  rw [hb_blk m c t h1 _ (row8 s Q) e, gc_blk, tb_blk m c t _ (row8 s Q) e]

theorem GB_blk (h1 : t.val % 4 = 3) (s : Fin 8) (j : Fin 1024) (q : Fin 128) (Q : Fin 2048) (hQ : Q.val = t.val / 4 * 128 + q.val) :
    GB (iblk m c 3 t) (iblk m c 2 t) (outsAt0 m c t.val t.isLt).2.2.2.2 (iblk m c 4 t) s j q = td (A0 m c) (A1 m c) (A2 m c) (A3 m c) (A4 m c) s j Q := by
  have e : (row8 s Q).val = t.val / 4 * 1024 + (row8b s q).val := by dsimp only [row8, row8b]; omega
  unfold GB td
  rw [hb_blk m c t h1 _ (row8 s Q) e, gc_blk, tb_blk m c t _ (row8 s Q) e]

end blocks

/-- A sum over the rows, kept until a row block's last point, is the whole sum at the last one. -/
theorem sum_rows (X : Nat → EReal) (T : Fin 2048 → EReal) (keep : ∀ n, n < 64 → ¬n % 4 = 3 → X n = X (n - 1))
    (first : ∀ (n : Nat) (h : n < 64), n % 4 = 3 → n < 4 → X n = 0 + ∑ q : Fin 128, T ⟨n / 4 * 128 + q.val, by omega⟩)
    (next : ∀ (n : Nat) (h : n < 64), n % 4 = 3 → ¬n < 4 → X n = X (n - 1) + ∑ q : Fin 128, T ⟨n / 4 * 128 + q.val, by omega⟩) :
    ∀ n, n = 63 → X n = ∑ Q, T Q := by
  rintro _ rfl
  rw [← Fin.sum_mul_add_fin 16 128 T]
  have e := Pipeline.eq_sum_fin_of_reset_step_apply_last (N := 16) (fun n _ (_ : Unit) => X (4 * n + 3)) 16 (fun _ => (0 : EReal))
    (fun (n : Fin 16) _ => ∑ q : Fin 128, T ⟨n.val * 128 + q.val, by omega⟩)
    (fun t h0 _ => by
      obtain ⟨t, ht⟩ := t
      obtain rfl : t = 0 := by dsimp only at h0; omega
      refine (first (4 * 0 + 3) (by omega) (by omega) (by omega)).trans (congrArg (0 + ·) (Finset.sum_congr rfl fun q _ => congrArg T (Fin.ext ?_)))
      dsimp only)
    (fun t h0 _ => by
      obtain ⟨t, ht⟩ := t
      obtain ⟨n, rfl⟩ : ∃ n, t = n + 1 := ⟨t - 1, by dsimp only at h0; omega⟩
      refine (next (4 * (n + 1) + 3) (by omega) (by omega) (by omega)).trans (congrArg₂ (· + ·) ?_ (Finset.sum_congr rfl fun q _ => congrArg T (Fin.ext ?_)))
      · rw [keep (4 * (n + 1) + 3 - 1) (by omega) (by omega), keep (4 * (n + 1) + 3 - 1 - 1) (by omega) (by omega),
          keep (4 * (n + 1) + 3 - 1 - 1 - 1) (by omega) (by omega)]
        exact congrArg X (by dsimp only; omega)
      · dsimp only
        omega) le_rfl 15 rfl ()
  rw [zero_add] at e
  exact e

theorem at_lt {n : Nat} (h : n < 64) : n < cfg0.N := lt_of_lt_of_eq h N_0.symm

theorem ls_last (t : Fin cfg0.N) (ht : t.val = 63) (s : Fin 8) (j : Fin 1024) :
    (outsAt0 m c t.val t.isLt).2.2.1 (ix2 s j) = ∑ Q, te (A0 m c) (A1 m c) (A2 m c) (A3 m c) (A4 m c) s j Q := by
  have d : ∀ n (h : n < 64), (if h : n < 64 then (outsAt0 m c n (at_lt h)).2.2.1 (ix2 s j) else 0) = (outsAt0 m c n (at_lt h)).2.2.1 (ix2 s j) :=
    fun n h => dif_pos h
  refine (d t.val (lt64 t)).symm.trans (sum_rows (fun n => if h : n < 64 then (outsAt0 m c n (at_lt h)).2.2.1 (ix2 s j) else 0) _ ?_ ?_ ?_ t.val ht)
  · intro n hn h1
    rw [d n hn, d (n - 1) (by omega)]
    exact congrFun (ls_keep m c ⟨n, at_lt hn⟩ h1) (ix2 s j)
  · intro n hn h1 h2
    rw [d n hn]
    exact (ls_C m c ⟨n, at_lt hn⟩ h1 h2 s j).trans
      (congrArg (0 + ·) (Finset.sum_congr rfl fun q _ => LB_blk m c ⟨n, at_lt hn⟩ h1 s j q _ rfl))
  · intro n hn h1 h2
    rw [d n hn, d (n - 1) (by omega)]
    exact (ls_D m c ⟨n, at_lt hn⟩ h1 h2 s j).trans
      (congrArg₂ (· + ·) rfl (Finset.sum_congr rfl fun q _ => LB_blk m c ⟨n, at_lt hn⟩ h1 s j q _ rfl))

theorem dg_last (t : Fin cfg0.N) (ht : t.val = 63) (s : Fin 8) (j : Fin 1024) :
    (outsAt0 m c t.val t.isLt).2.2.2.1 (ix2 s j) = ∑ Q, td (A0 m c) (A1 m c) (A2 m c) (A3 m c) (A4 m c) s j Q := by
  have d : ∀ n (h : n < 64), (if h : n < 64 then (outsAt0 m c n (at_lt h)).2.2.2.1 (ix2 s j) else 0) = (outsAt0 m c n (at_lt h)).2.2.2.1 (ix2 s j) :=
    fun n h => dif_pos h
  refine (d t.val (lt64 t)).symm.trans (sum_rows (fun n => if h : n < 64 then (outsAt0 m c n (at_lt h)).2.2.2.1 (ix2 s j) else 0) _ ?_ ?_ ?_ t.val ht)
  · intro n hn h1
    rw [d n hn, d (n - 1) (by omega)]
    exact congrFun (dg_keep m c ⟨n, at_lt hn⟩ h1) (ix2 s j)
  · intro n hn h1 h2
    rw [d n hn]
    exact (dg_C m c ⟨n, at_lt hn⟩ h1 h2 s j).trans
      (congrArg (0 + ·) (Finset.sum_congr rfl fun q _ => GB_blk m c ⟨n, at_lt hn⟩ h1 s j q _ rfl))
  · intro n hn h1 h2
    rw [d n hn, d (n - 1) (by omega)]
    exact (dg_D m c ⟨n, at_lt hn⟩ h1 h2 s j).trans
      (congrArg₂ (· + ·) rfl (Finset.sum_congr rfl fun q _ => GB_blk m c ⟨n, at_lt hn⟩ h1 s j q _ rfl))

section final
variable (h0 : ∀ i, Rl (A0 m c i)) (h1 : ∀ i, Rl (A1 m c i)) (h2 : ∀ i, Rl (A2 m c i)) (h3 : ∀ i, Rl (A3 m c i)) (h4 : ∀ i, Rl (A4 m c i))

theorem out_row (t : Fin cfg0.N) (r : Fin 1024) : ∃ R : Fin 16384, R.val = t.val / 4 * 1024 + r.val :=
  ⟨⟨_, by have := lt64 t; omega⟩, rfl⟩

include h0 h1 h2 h3 h4

theorem final5 : (dats m 0 c).arrAt 5 cfg0.N = val_main_v52 (F := Ideal) (A0 m c) (A1 m c) (A2 m c) (A3 m c) (A4 m c) := by
  funext i
  refine (dats m 0 c).arrAt_forall_of_cover 5 (fun i v => v = val_main_v52 (F := Ideal) (A0 m c) (A1 m c) (A2 m c) (A3 m c) (A4 m c) i) ?_ ?_ i
  · intro t hf y
    have ht : t.val % 4 = 3 := (flush0_5 t).mp hf
    obtain ⟨r, q, rfl⟩ : ∃ (r : Fin 1024) (q : Fin 1024), y = ix2 r q := ⟨y 0, y 1, (ix2_eta y).symm⟩
    obtain ⟨⟨e0, e1⟩, -⟩ := idx_out t
    obtain ⟨R, hR⟩ := out_row t r
    have he : (((cfg0.win 5).blk t).view.emb (ix2 r q : S1024x1024.Idx) : S16384x1024.Idx) = ix2 R q := by
      funext a
      apply Fin.ext
      match a with
      | ⟨0, _⟩ => show win0_5.index t 0 * 1024 + 1 * r.val = R.val; rw [e0]; omega
      | ⟨1, _⟩ => show win0_5.index t 1 * 1024 + 1 * q.val = q.val; rw [e1]; omega
    show (dats m 0 c).flushed 5 t (ix2 r q : S1024x1024.Idx) = val_main_v52 (F := Ideal) _ _ _ _ _ (((cfg0.win 5).blk t).view.emb (ix2 r q : S1024x1024.Idx))
    rw [he, Value.flushed5, Cert.LossRefIdeal.Hand.v52_apply h0 h1 h2 h3 h4]
    exact (out_O m c t (by omega) ht (ix2 r q)).trans (OB_blk m c t ht r q R hR)
  · intro i
    exact (Value.covered_iff5 i).2 (by have a : (i 0).val < 16384 := (i 0).isLt; have b : (i 1).val < 1024 := (i 1).isLt; omega)

theorem final6 : (dats m 0 c).arrAt 6 cfg0.N = val_main_v73 (F := Ideal) (A0 m c) (A1 m c) (A2 m c) (A3 m c) (A4 m c) := by
  funext i
  refine (dats m 0 c).arrAt_forall_of_cover 6 (fun i v => v = val_main_v73 (F := Ideal) (A0 m c) (A1 m c) (A2 m c) (A3 m c) (A4 m c) i) ?_ ?_ i
  · intro t hf y
    have ht : t.val % 4 = 3 := (flush0_6 t).mp hf
    obtain ⟨r, q, rfl⟩ : ∃ (r : Fin 1024) (q : Fin 1024), y = ix2 r q := ⟨y 0, y 1, (ix2_eta y).symm⟩
    obtain ⟨-, ⟨e0, e1⟩, -⟩ := idx_out t
    obtain ⟨R, hR⟩ := out_row t r
    have he : (((cfg0.win 6).blk t).view.emb (ix2 r q : S1024x1024.Idx) : S16384x1024.Idx) = ix2 R q := by
      funext a
      apply Fin.ext
      match a with
      | ⟨0, _⟩ => show win0_6.index t 0 * 1024 + 1 * r.val = R.val; rw [e0]; omega
      | ⟨1, _⟩ => show win0_6.index t 1 * 1024 + 1 * q.val = q.val; rw [e1]; omega
    show (dats m 0 c).flushed 6 t (ix2 r q : S1024x1024.Idx) = val_main_v73 (F := Ideal) _ _ _ _ _ (((cfg0.win 6).blk t).view.emb (ix2 r q : S1024x1024.Idx))
    rw [he, Value.flushed6]
    show _ = val_main_v52 (F := Ideal) (A0 m c) (A1 m c) (A2 m c) (A3 m c) (A4 m c) (ix2 R q)
    rw [Cert.LossRefIdeal.Hand.v52_apply h0 h1 h2 h3 h4]
    exact (out_P m c t (by omega) ht (ix2 r q)).trans (OB_blk m c t ht r q R hR)
  · intro i
    exact (Value.covered_iff6 i).2 (by have a : (i 0).val < 16384 := (i 0).isLt; have b : (i 1).val < 1024 := (i 1).isLt; omega)

omit h0 h1 h2 h3 h4 in
theorem final7 : (dats m 0 c).arrAt 7 cfg0.N = val_main_v75 (F := Ideal) (A0 m c) (A1 m c) (A2 m c) (A3 m c) (A4 m c) := by
  funext i
  refine (dats m 0 c).arrAt_forall_of_cover 7 (fun i v => v = val_main_v75 (F := Ideal) (A0 m c) (A1 m c) (A2 m c) (A3 m c) (A4 m c) i) ?_ ?_ i
  · intro t hf y
    have ht : t.val = 63 := by have := (flush0_7 t).mp hf; have := lt64 t; omega
    obtain ⟨s, q, rfl⟩ : ∃ (s : Fin 8) (q : Fin 1024), y = ix2 s q := ⟨y 0, y 1, (ix2_eta y).symm⟩
    obtain ⟨-, -, ⟨e0, e1⟩, -⟩ := idx_out t
    have he : (((cfg0.win 7).blk t).view.emb (ix2 s q : S8x1024.Idx) : S8x1024.Idx) = ix2 s q := by
      funext a
      apply Fin.ext
      match a with
      | ⟨0, _⟩ => show win0_7.index t 0 * 8 + 1 * s.val = s.val; rw [e0]; omega
      | ⟨1, _⟩ => show win0_7.index t 1 * 1024 + 1 * q.val = q.val; rw [e1]; omega
    show (dats m 0 c).flushed 7 t (ix2 s q : S8x1024.Idx) = val_main_v75 (F := Ideal) _ _ _ _ _ (((cfg0.win 7).blk t).view.emb (ix2 s q : S8x1024.Idx))
    rw [he, Value.flushed7, Cert.LossRefIdeal.Hand.v75_apply]
    exact ls_last m c t ht s q
  · intro i
    exact (Value.covered_iff7 i).2 (by have a : (i 0).val < 8 := (i 0).isLt; have b : (i 1).val < 1024 := (i 1).isLt; omega)

omit h0 h1 h2 h3 h4 in
theorem final8 : (dats m 0 c).arrAt 8 cfg0.N = val_main_v77 (F := Ideal) (A0 m c) (A1 m c) (A2 m c) (A3 m c) (A4 m c) := by
  funext i
  refine (dats m 0 c).arrAt_forall_of_cover 8 (fun i v => v = val_main_v77 (F := Ideal) (A0 m c) (A1 m c) (A2 m c) (A3 m c) (A4 m c) i) ?_ ?_ i
  · intro t hf y
    have ht : t.val = 63 := by have := (flush0_8 t).mp hf; have := lt64 t; omega
    obtain ⟨s, q, rfl⟩ : ∃ (s : Fin 8) (q : Fin 1024), y = ix2 s q := ⟨y 0, y 1, (ix2_eta y).symm⟩
    obtain ⟨-, -, -, e0, e1⟩ := idx_out t
    have he : (((cfg0.win 8).blk t).view.emb (ix2 s q : S8x1024.Idx) : S8x1024.Idx) = ix2 s q := by
      funext a
      apply Fin.ext
      match a with
      | ⟨0, _⟩ => show win0_8.index t 0 * 8 + 1 * s.val = s.val; rw [e0]; omega
      | ⟨1, _⟩ => show win0_8.index t 1 * 1024 + 1 * q.val = q.val; rw [e1]; omega
    show (dats m 0 c).flushed 8 t (ix2 s q : S8x1024.Idx) = val_main_v77 (F := Ideal) _ _ _ _ _ (((cfg0.win 8).blk t).view.emb (ix2 s q : S8x1024.Idx))
    rw [he, Value.flushed8, Cert.LossRefIdeal.Hand.v77_apply]
    exact dg_last m c t ht s q
  · intro i
    exact (Value.covered_iff8 i).2 (by have a : (i 0).val < 8 := (i 0).isLt; have b : (i 1).val < 1024 := (i 1).isLt; omega)

end final

end Cert.LossIdeal.Hand
-- ==== Proof.LossClaims.lean ====
/-
  The claims about the loss and its gradient through the last norm: the frames, and the kernel's four results against the
  reference's, where the arguments are real numbers.
-/
module

public import proofs.«01_k».proof.Defs
public import proofs.«01_k».proof.Proof.LossFinal
public import proofs.«01_k».proof.Proof.Gen.Loss.Frame
public import Idealize.ShloMosaic.Lib.Quiescent

@[expose] public section

noncomputable section

namespace Cert.LossClaims

open Idealize.ShloMosaic Idealize.ShloMosaic.TcCoe Idealize.SL.Sem Cert.RealMath
open Cert.LossIdeal.Hand (A0 A1 A2 A3 A4)
open Cert.LossRefIdeal.Read

local instance : Cert.Loss.Facts := Cert.Loss.Gen.facts
local instance : Cert.LossIdeal.Facts := Cert.LossIdeal.Gen.facts
local instance : Cert.LossRefIdeal.Facts := Cert.LossRefIdeal.Gen.facts

theorem pre : Cert.Pre_loss_finite.Facts := ⟨by decide, by decide, by decide, by decide, by decide⟩

local instance : Cert.Pre_loss_finite.Facts := pre

theorem frame : Cert.quiescent_Loss := fun m g _ => Cert.Loss.Gen.frame m g

theorem frameIdeal : Cert.quiescent_LossIdeal := fun m g _ => Cert.LossIdeal.Gen.frame m g

theorem frameRef : Cert.quiescent_LossRefIdeal := fun m g _ =>
  (θ_run Cert.LossRefIdeal.defs _ _).mono (fun r h => ⟨fun c => (h c).2.2.2.2, sem_eq_zero_of_no_sems (by decide) r.2⟩)
    (Cert.LossRefIdeal.Value.run m g)

theorem value : Cert.algebraic_LossIdeal_LossRefIdeal_pre_loss_finite := fun m g m' g' hpre hagree =>
  have h0 := fun c => finite_of_bf16 _ _ (hpre c).1
  have h1 := fun c => finite_of _ _ (hpre c).2.1
  have h2 := fun c => finite_of _ _ (hpre c).2.2.1
  have h3 := fun c => finite_of _ _ (hpre c).2.2.2.1
  have h4 := fun c => finite_of _ _ (hpre c).2.2.2.2
  ⟨fun c => val_main_v52 (F := Ideal) (A0 m c) (A1 m c) (A2 m c) (A3 m c) (A4 m c),
    fun c => val_main_v73 (F := Ideal) (A0 m c) (A1 m c) (A2 m c) (A3 m c) (A4 m c),
    fun c => val_main_v75 (F := Ideal) (A0 m c) (A1 m c) (A2 m c) (A3 m c) (A4 m c),
    fun c => val_main_v77 (F := Ideal) (A0 m c) (A1 m c) (A2 m c) (A3 m c) (A4 m c),
    (θ_run Cert.LossIdeal.defs _ _).mono (fun _ h c => ⟨(h c).1.trans (Cert.LossIdeal.Hand.final5 m c (h0 c) (h1 c) (h2 c) (h3 c) (h4 c)),
        (h c).2.1.trans (Cert.LossIdeal.Hand.final6 m c (h0 c) (h1 c) (h2 c) (h3 c) (h4 c)), (h c).2.2.1.trans (Cert.LossIdeal.Hand.final7 m c),
        (h c).2.2.2.1.trans (Cert.LossIdeal.Hand.final8 m c), (h c).2.2.2.2⟩)
      (Cert.LossIdeal.Value.run_blocks m g),
    (θ_run Cert.LossRefIdeal.defs _ _).mono (fun _ h c => ⟨(h c).1.trans (by
          rw [val_main_v52_eq]
          rw [(hagree c).1, (hagree c).2.1, (hagree c).2.2.1, (hagree c).2.2.2.1, (hagree c).2.2.2.2]),
        (h c).2.1.trans (by
          rw [val_main_v73_eq]
          rw [(hagree c).1, (hagree c).2.1, (hagree c).2.2.1, (hagree c).2.2.2.1, (hagree c).2.2.2.2]),
        (h c).2.2.1.trans (by
          rw [val_main_v75_eq]
          rw [(hagree c).1, (hagree c).2.1, (hagree c).2.2.1, (hagree c).2.2.2.1, (hagree c).2.2.2.2]),
        (h c).2.2.2.1.trans (by
          rw [val_main_v77_eq]
          rw [(hagree c).1, (hagree c).2.1, (hagree c).2.2.1, (hagree c).2.2.2.1, (hagree c).2.2.2.2]),
        (h c).2.2.2.2⟩)
      (Cert.LossRefIdeal.Value.run m' g')⟩

end Cert.LossClaims
-- ==== Proof.FoxgMath.lean ====
/-
  The forget gate's derivative, and the sum of a sequence from a place on: as one sum, as the window sum a reverse running sum
  is written with, and block by block with a carry.
-/
module

public import proofs.«01_k».proof.Proof.RealMath
public import Idealize.ShloMosaic.Lib.Pointwise
public import Idealize.ShloMosaic.Lib.IdealHost

@[expose] public section

noncomputable section

namespace Cert.RealMath

open Idealize.ShloMosaic

/-- The soft plus of a value, in the form that doesn't overflow. -/
def softp (u : EReal) : EReal := max u 0 + Ideal.log1p (Ideal.exp (-max u (-u)))

theorem softp_coe (u : ℝ) : softp (u : EReal) = ((Real.log (1 + Real.exp u) : ℝ) : EReal) := by
  have hm : max (u : EReal) (-(u : EReal)) = ((|u| : ℝ) : EReal) := by
    rw [← EReal.coe_neg]
    exact (EReal.coe_strictMono.monotone.map_max (a := u) (b := -u)).symm
  have hz : max (u : EReal) 0 = ((max u 0 : ℝ) : EReal) := (EReal.coe_strictMono.monotone.map_max (a := u) (b := 0)).symm
  have hp : ¬(1 + Real.exp (-|u|) ≤ 0) := by have := Real.exp_pos (-|u|); linarith
  have hl : Ideal.log1p ((Real.exp (-|u|) : ℝ) : EReal) = ((Real.log (1 + Real.exp (-|u|)) : ℝ) : EReal) := by
    show Ideal.log (1 + ((Real.exp (-|u|) : ℝ) : EReal)) = _
    rw [← EReal.coe_one, ← EReal.coe_add, Ideal.log_coe, if_neg hp]
  unfold softp
  rw [hm, hz, ← EReal.coe_neg, Ideal.exp_coe, hl, ← EReal.coe_add]
  congr 1
  rcases le_total 0 u with h | h
  · rw [abs_of_nonneg h, max_eq_left h]
    have e : 1 + Real.exp u = Real.exp u * (1 + Real.exp (-u)) := by
      rw [mul_add, mul_one, ← Real.exp_add, add_neg_cancel, Real.exp_zero, add_comm]
    rw [e, Real.log_mul (Real.exp_pos u).ne' (by have := Real.exp_pos (-u); linarith), Real.log_exp]
  · rw [abs_of_nonpos h, max_eq_right h, neg_neg, zero_add]

theorem exp_sub_softp (u : ℝ) : Ideal.exp ((u : EReal) - softp (u : EReal)) = Ideal.logistic (u : EReal) := by
  have hp : 0 < 1 + Real.exp u := by have := Real.exp_pos u; linarith
  rw [softp_coe, ← EReal.coe_sub, Ideal.exp_coe, Ideal.logistic_coe]
  congr 1
  rw [Real.exp_sub, Real.exp_log hp]
  have e : Real.exp u * (1 + Real.exp (-u)) = 1 + Real.exp u := by
    rw [mul_add, mul_one, ← Real.exp_add, add_neg_cancel, Real.exp_zero, add_comm]
  have hq : 0 < 1 + Real.exp (-u) := by have := Real.exp_pos (-u); linarith
  rw [div_eq_iff hp.ne', ← e, mul_comm (Real.exp u), inv_mul_cancel_left₀ hq.ne']

/-- The sum of a sequence from a place up to `N`. -/
def sufx (N : ℕ) (f : ℕ → EReal) (t : ℕ) : EReal := ∑ i ∈ Finset.Ico t N, f i

theorem sum_from (W : ℕ) (f : ℕ → EReal) (b s : ℕ) (hs : s ≤ W) :
    (∑ j : Fin W, if s ≤ j.val then f (b + j.val) else 0) = ∑ i ∈ Finset.Ico (b + s) (b + W), f i := by
  rw [Fin.sum_univ_eq_sum_range (fun j => if s ≤ j then f (b + j) else 0) W, ← Finset.sum_filter]
  have e : (Finset.range W).filter (fun j => s ≤ j) = Finset.Ico s W := by
    ext j; simp only [Finset.mem_filter, Finset.mem_range, Finset.mem_Ico]; omega
  rw [e, Finset.sum_Ico_eq_sum_range, Finset.sum_Ico_eq_sum_range, show b + W - (b + s) = W - s by omega]
  exact Finset.sum_congr rfl fun i _ => by rw [add_assoc]

/-- One block of the sum and the carry of the blocks after it. -/
theorem sufx_block (N W : ℕ) (f : ℕ → EReal) (b s : ℕ) (hs : s ≤ W) (hb : b + W ≤ N) :
    (∑ j : Fin W, if s ≤ j.val then f (b + j.val) else 0) + sufx N f (b + W) = sufx N f (b + s) := by
  rw [sum_from W f b s hs]
  exact Finset.sum_Ico_consecutive f (by omega) hb

theorem sufx_end (N : ℕ) (f : ℕ → EReal) : sufx N f N = 0 := by unfold sufx; rw [Finset.Ico_self, Finset.sum_empty]

theorem foldl_sum {ι : Type*} (F : ι → EReal) (l : List ι) (v : EReal) : l.foldl (fun r n => r + F n) v = v + (l.map F).sum := by
  induction l generalizing v with
  | nil => simp
  | cons a l ih => rw [List.foldl_cons, ih, List.map_cons, List.sum_cons, add_assoc]

/-- The window positions along the middle axis. -/
def midIdx (N : ℕ) : Fin N ≃ (⟨3, ![1, N, 1]⟩ : Shape).Idx where
  toFun i := ix3 (n0 := 1) (n1 := N) (n2 := 1) 0 i 0
  invFun p := p 1
  left_inv _ := rfl
  right_inv p := by
    funext a
    match a with
    | ⟨0, _⟩ => exact (Fin.ext (by have := (p 0).isLt; dsimp at this ⊢; omega))
    | ⟨1, _⟩ => rfl
    | ⟨2, _⟩ => exact (Fin.ext (by have := (p 2).isLt; dsimp at this ⊢; omega))

theorem window_sum {N P C : ℕ} (hP : P + 1 = N) (x : FVec Ideal ⟨3, ![1, N, C]⟩ .f32) (v : (⟨0, ![]⟩ : Shape).Idx → Ideal .f32) (hv : ∀ i, v i = (0 : EReal))
    (h : (⟨3, ![1, N, C]⟩ : Shape).ReduceWindows (![1, N, 1] : Fin 3 → Nat) ![1, 1, 1] ![0, 0, 0] ![0, P, 0] ⟨3, ![1, N, C]⟩) (hu : 0 < (⟨0, ![]⟩ : Shape).numel)
    (t : Fin N) (k : Fin C) :
    Host.reduceWindowAdd ![1, N, 1] ![1, 1, 1] ![0, 0, 0] ![0, P, 0] x v h hu (ix3 0 t k)
      = sufx N (fun i => if hi : i < N then x (ix3 0 ⟨i, hi⟩ k) else 0) t.val := by
  unfold Host.reduceWindowAdd
  rw [hv, Ideal.hostReduceWindowAdd_def]
  unfold Ideal.hostReduceWindowAdd Host.reduceWindow
  dsimp only
  refine (foldl_sum _ _ _).trans ?_
  rw [zero_add, ← Fin.sum_univ_def]
  have ht := t.isLt
  have hk := k.isLt
  let F : (⟨3, ![1, N, 1]⟩ : Shape).Idx → EReal := fun p => if hp : t.val + (p 1).val < N then x (ix3 0 ⟨t.val + (p 1).val, hp⟩ k) else 0
  refine (Finset.sum_congr rfl fun n _ => (?_ : _ = F ((⟨3, ![1, N, 1]⟩ : Shape).rowMajor.symm n))).trans ?_
  swap
  · rw [Equiv.sum_comp (⟨3, ![1, N, 1]⟩ : Shape).rowMajor.symm F, ← Equiv.sum_comp (midIdx N) F]
    have := sum_from N (fun i => if hi : i < N then x (ix3 0 ⟨i, hi⟩ k) else 0) t.val 0 (Nat.zero_le _)
    unfold sufx
    simp only [Nat.zero_le, if_true, add_zero] at this
    refine Eq.trans this ?_
    rw [← Finset.sum_Ico_consecutive _ (show t.val ≤ N by omega) (show N ≤ t.val + N by omega)]
    refine (congrArg _ (Finset.sum_eq_zero fun i hi => dif_neg ?_)).trans (add_zero _)
    have := (Finset.mem_Ico.mp hi).1
    omega
  · let p := (⟨3, ![1, N, 1]⟩ : Shape).rowMajor.symm n
    show _ = if hp : t.val + (p 1).val < N then x (ix3 0 ⟨t.val + (p 1).val, hp⟩ k) else 0
    have h0 : (p 0).val = 0 := by have := (p 0).isLt; dsimp at this; omega
    have h2 : (p 2).val = 0 := by have := (p 2).isLt; dsimp at this; omega
    split
    · next hin =>
      have h1 : t.val * 1 + (p 1).val - 0 < N := (hin 1).2
      rw [dif_pos (by omega)]
      refine congrArg x (funext fun a => Fin.ext ?_)
      match a with
      | ⟨0, _⟩ => show 0 * 1 + (p 0).val - 0 = 0; omega
      | ⟨1, _⟩ => show t.val * 1 + (p 1).val - 0 = t.val + (p 1).val; omega
      | ⟨2, _⟩ => show k.val * 1 + (p 2).val - 0 = k.val; omega
    · next hin =>
      rw [dif_neg fun hle => hin fun a => by
        match a with
        | ⟨0, _⟩ => show 0 ≤ 0 * 1 + (p 0).val ∧ 0 * 1 + (p 0).val - 0 < 1; omega
        | ⟨1, _⟩ => show 0 ≤ t.val * 1 + (p 1).val ∧ t.val * 1 + (p 1).val - 0 < N; omega
        | ⟨2, _⟩ => show 0 ≤ k.val * 1 + (p 2).val ∧ k.val * 1 + (p 2).val - 0 < C; omega]

end Cert.RealMath
-- ==== Proof.FoxgBody.lean ====
/-
  The gradient of the forgetting gate and of the columns packed with it: what the kernel's body stores in a block, element by
  element.
-/
module

public import proofs.«01_k».proof.Proof.Gen.FoxgIdeal.Value
public import proofs.«01_k».proof.Proof.FoxgMath
public import Idealize.ShloMosaic.Lib.WordCmp

@[expose] public section

set_option maxRecDepth 16384

noncomputable section

namespace Cert.FoxgIdeal.Hand

open Cert.FoxgIdeal Cert.FoxgIdeal.Gen Idealize.ShloMosaic Idealize.ShloMosaic.TcCoe Idealize.SL.Sem Cert.RealMath

theorem word_if (p : Prop) [Decidable p] : BitVec.ofBool (decide p) = if p then 1#1 else 0#1 := by
  by_cases h : p
  · rw [if_pos h, decide_eq_true h]; rfl
  · rw [if_neg h, decide_eq_false h]; rfl

theorem lanes64 (s : Fin 512) (l : Fin 128) : k0_pay2 (ix2 s l) = if l.val < 64 then 1#1 else 0#1 := by
  pointwise [k0_pay2]
  exact (WordCmp.cmpi_slt_ofNat (w := 32) (a := l.val) (b := 64) (by omega) (by omega)).trans (word_if _)

theorem low (s : Fin 512) (l : Fin 128) (a b : EReal) : (if k0_pay2 (ix2 s l) = 1#1 then a else b) = if l.val < 64 then a else b := by
  rw [lanes64]
  by_cases h : l.val < 64
  · rw [if_pos h, if_pos h, if_pos rfl]
  · rw [if_neg h, if_neg h, if_neg (by decide)]

/-- A head's columns of a block, kept where the lane is below 64: with the scale and without. -/
theorem scaled (x : Vec Ideal S128x512 .f32) (s : Fin 512) (l : Fin 128) :
    k0_pay3 x (ix2 s l) = if l.val < 64 then x (ix2 l s) * Ideal.ofBits .f32 0x3E000000#32 else (0 : EReal) := by
  rw [← low s l]
  pointwise [k0_pay3]
  rfl

theorem plain (x : Vec Ideal S128x512 .f32) (s : Fin 512) (l : Fin 128) :
    k0_pay4 x (ix2 s l) = if l.val < 64 then x (ix2 l s) else (0 : EReal) := by
  rw [← low s l]
  pointwise [k0_pay4]
  rfl

theorem turned (x : Vec Ideal S512x512 .f32) (s k : Fin 512) : k0_pay22 x (ix2 s k) = x (ix2 k s) := by
  pointwise [k0_pay22]

/-! ### The gate -/

theorem row_k : ∀ (h : Fin 8) (j : Fin 1024), IntOp.cmpi .eq (BitVec.ofNat 32 j.val) (IntOp.addi (IntOp.addi (IntOp.muli (128#32) (BitVec.ofNat 32 h.val)) 64#32) 3#32)
    = if j = ⟨128 * h.val + 67, by omega⟩ then 1#1 else 0#1 := by decide +kernel

theorem row_q : ∀ (h : Fin 8) (j : Fin 1024), IntOp.cmpi .eq (BitVec.ofNat 32 j.val) (IntOp.addi (IntOp.muli (128#32) (BitVec.ofNat 32 h.val)) 64#32)
    = if j = ⟨128 * h.val + 64, by omega⟩ then 1#1 else 0#1 := by decide +kernel

theorem sel_if (p : Prop) [Decidable p] (a b : EReal) : Scalar.select (if p then 1#1 else 0#1) a b = if p then a else b := by
  by_cases h : p
  · rw [if_pos h, if_pos h]; rfl
  · rw [if_neg h, if_neg h]; rfl

theorem pick (x : Vec Ideal S1024x512 .f32) (y : Vec Ideal S1024x512 .f32) (h : Fin 8) (s : Fin 512) :
    k0_pay23 x y (ix2 h s) = x (ix2 ⟨128 * h.val + 67, by omega⟩ s) - y (ix2 ⟨128 * h.val + 64, by omega⟩ s) := by
  pointwise [k0_pay23]
  simp only [row_k, row_q, sel_if, Finset.sum_ite_eq', Finset.mem_univ, if_true]

theorem later (v : FVec Ideal S8x512 .f32) (c : Vec Ideal S8x1 .f32) (h : Fin 8) (s : Fin 512) :
    k0_pay25 v k0_pay24 (Ideal.ofBits .f32 0x3F800000#32) (Ideal.ofBits .f32 0x00000000#32) c (ix2 h s)
      = (∑ j : Fin 512, if s.val ≤ j.val then 0 - v (ix2 h j) else 0) + c (ix2 h 0) := by
  pointwise [k0_pay25, k0_pay24]
  congr 1
  refine Finset.sum_congr rfl fun j _ => ?_
  rw [WordCmp.cmpi_sge_ofNat (by omega) (by omega), word_if]
  exact sel_if (s.val ≤ j.val) _ _

/-- A block's part of the gate's gradient at a row, head by head. -/
def D (x1 x0 : Vec Ideal S1024x512 .f32) (c : Vec Ideal S8x1 .f32) (s : Fin 512) (h : Fin 8) : EReal :=
  (∑ j : Fin 512, if s.val ≤ j.val then 0 - (x1 (ix2 ⟨128 * h.val + 67, by omega⟩ j) - x0 (ix2 ⟨128 * h.val + 64, by omega⟩ j)) else 0) + c (ix2 h 0)

variable (x1 x0 : Vec Ideal S1024x512 .f32) (c : Vec Ideal S8x1 .f32) (x3 : Vec Ideal S512x128 .f32) (x4 : Vec Ideal S1x128 .f32)

theorem suffix_apply (h : Fin 8) (s : Fin 512) :
    k0_pay25 (k0_pay23 x1 x0) k0_pay24 (Ideal.ofBits .f32 0x3F800000#32) (Ideal.ofBits .f32 0x00000000#32) c (ix2 h s) = D x1 x0 c s h := by
  rw [later]
  unfold D
  simp only [pick]

theorem carry_apply (h : Fin 8) (l : Fin 128) :
    k0_pay26 (k0_pay23 x1 x0) k0_pay24 (Ideal.ofBits .f32 0x3F800000#32) (Ideal.ofBits .f32 0x00000000#32) c (ix2 h l) = D x1 x0 c 0 h := by
  rw [← suffix_apply]
  pointwise [k0_pay26]

/-- The gate's gradient, on its lanes. -/
def G (s : Fin 512) (l : Fin 128) : EReal :=
  (if hl : 16 ≤ l.val ∧ l.val < 24 then D x1 x0 c s ⟨l.val - 16, by omega⟩ else 0) * Ideal.logistic (0 - (x3 (ix2 s l) + x4 (ix2 0 l)))

theorem gate_apply (s : Fin 512) (l : Fin 128) :
    k0_pay27 (k0_pay23 x1 x0) k0_pay24 (Ideal.ofBits .f32 0x3F800000#32) (Ideal.ofBits .f32 0x00000000#32) c x3 x4 (ix2 s l) = G x1 x0 c x3 x4 s l := by
  unfold G
  simp only [← suffix_apply]
  pointwise [k0_pay27]
  congr 1
  rcases (by omega : l.val < 16 ∨ (16 ≤ l.val ∧ l.val < 24) ∨ 24 ≤ l.val) with h | h | h
  · rw [dif_pos h, dif_neg (by omega)]
  · rw [dif_neg (by omega), dif_pos (by omega), dif_pos h]
  · rw [dif_neg (by omega), dif_neg (by omega), dif_neg (by omega)]

theorem groups_apply (r : Fin 8) (l : Fin 128) :
    k0_pay28 (k0_pay23 x1 x0) k0_pay24 (Ideal.ofBits .f32 0x3F800000#32) (Ideal.ofBits .f32 0x00000000#32) c x3 x4 (ix2 r l)
      = ∑ w : Fin 64, G x1 x0 c x3 x4 ⟨w.val * 8 + r.val, by omega⟩ l := by
  simp only [← gate_apply]
  pointwise [k0_pay28]

theorem added_apply (y : Vec Ideal S8x128 .f32) (r : Fin 8) (l : Fin 128) :
    k0_pay29 (k0_pay23 x1 x0) k0_pay24 (Ideal.ofBits .f32 0x3F800000#32) (Ideal.ofBits .f32 0x00000000#32) c x3 x4 y (ix2 r l)
      = y (ix2 r l) + ∑ w : Fin 64, G x1 x0 c x3 x4 ⟨w.val * 8 + r.val, by omega⟩ l := by
  rw [← groups_apply]
  pointwise [k0_pay29]

end Cert.FoxgIdeal.Hand
-- ==== Proof.FoxgHost.lean ====
/-
  The gradient of the forgetting gate and of the columns packed with it: the arrays the host prepares for the kernel, element by
  element, and the blocks of them a point reads.
-/
module

public import proofs.«01_k».proof.Proof.FoxgBody
public import Idealize.ShloMosaic.Lib.Claim
public import Idealize.ShloMosaic.Lib.Pipeline.ValueKit.Acc

@[expose] public section

set_option maxRecDepth 16384

noncomputable section

namespace Cert.FoxgIdeal.Hand

open Cert.FoxgIdeal Cert.FoxgIdeal.Gen Idealize.ShloMosaic Idealize.ShloMosaic.TcCoe Idealize.SL.Sem Cert.RealMath
open Idealize.ShloMosaic.Pipeline (Dat)

/-! ### The tall arrays -/

theorem rows_apply (x : FVec Ideal S8x128x16384 .f32) (h : Fin 8) (l : Fin 128) (R : Fin 16384) :
    shapeCast S1024x16384 x shapeCasts_S8x128x16384_S1024x16384 (ix2 ⟨128 * h.val + l.val, by omega⟩ R) = x (ix3 h l R) := by
  pointwise []

theorem head_apply (x : FVec Ideal S1x16384x8x64 .f32) (h : Fin 8) (d : Fin 64) (R : Fin 16384) :
    transpose S8x64x16384 [1, 2, 0] (shapeCast S16384x8x64 x shapeCasts_S1x16384x8x64_S16384x8x64) transposes_S16384x8x64_S8x64x16384_1_2_0 (ix3 h d R) = x (ix4 0 R h d) := by
  pointwise []

theorem line_apply (x : FVec Ideal S1x8x16384 .f32) (h : Fin 8) (R : Fin 16384) :
    broadcastInDim S8x1x16384 ![0, 2] bcast_S8x16384_S8x1x16384_0_2 (shapeCast S8x16384 x shapeCasts_S1x8x16384_S8x16384) (ix3 h 0 R) = x (ix3 0 h R) := by
  pointwise []

section cats
variable (a : FVec Ideal S8x64x16384 .f32) (g : FVec Ideal S8x1x16384 .f32) (h : Fin 8) (R : Fin 16384)

theorem cat0_head (b : FVec Ideal S8x0x16384 .f32) (d : FVec Ideal S8x63x16384 .f32) (l : Fin 128) (hl : l.val < 64) :
    concatenate S8x128x16384 1 [⟨S8x64x16384, a⟩, ⟨S8x0x16384, b⟩, ⟨S8x1x16384, g⟩, ⟨S8x63x16384, d⟩]
      concatenates_S8x64x16384_S8x0x16384_S8x1x16384_S8x63x16384_S8x128x16384_d1 (ix3 h l R) = a (ix3 h ⟨l.val, hl⟩ R) := by
  pointwise []
  rw [dif_pos hl]

theorem cat0_line (b : FVec Ideal S8x0x16384 .f32) (d : FVec Ideal S8x63x16384 .f32) (l : Fin 128) (hl : l.val = 64) :
    concatenate S8x128x16384 1 [⟨S8x64x16384, a⟩, ⟨S8x0x16384, b⟩, ⟨S8x1x16384, g⟩, ⟨S8x63x16384, d⟩]
      concatenates_S8x64x16384_S8x0x16384_S8x1x16384_S8x63x16384_S8x128x16384_d1 (ix3 h l R) = g (ix3 h 0 R) := by
  pointwise []
  rw [dif_neg (by omega), dif_neg (by omega), dif_pos (by omega)]
  congr 2
  exact Fin.ext (by dsimp only; omega)

theorem cat1_head (b : FVec Ideal S8x3x16384 .f32) (d : FVec Ideal S8x60x16384 .f32) (l : Fin 128) (hl : l.val < 64) :
    concatenate S8x128x16384 1 [⟨S8x64x16384, a⟩, ⟨S8x3x16384, b⟩, ⟨S8x1x16384, g⟩, ⟨S8x60x16384, d⟩]
      concatenates_S8x64x16384_S8x3x16384_S8x1x16384_S8x60x16384_S8x128x16384_d1 (ix3 h l R) = a (ix3 h ⟨l.val, hl⟩ R) := by
  pointwise []
  rw [dif_pos hl]

theorem cat1_line (b : FVec Ideal S8x3x16384 .f32) (d : FVec Ideal S8x60x16384 .f32) (l : Fin 128) (hl : l.val = 67) :
    concatenate S8x128x16384 1 [⟨S8x64x16384, a⟩, ⟨S8x3x16384, b⟩, ⟨S8x1x16384, g⟩, ⟨S8x60x16384, d⟩]
      concatenates_S8x64x16384_S8x3x16384_S8x1x16384_S8x60x16384_S8x128x16384_d1 (ix3 h l R) = g (ix3 h 0 R) := by
  pointwise []
  rw [dif_neg (by omega), dif_neg (by omega), dif_pos (by omega)]
  congr 2
  exact Fin.ext (by dsimp only; omega)

end cats

section host
variable (m : (ℓ : Loc nD τ sig) → Buf (Elt Ideal) ℓ) (c : Dev nD)

/-- The arguments, as the reference takes them. -/
abbrev A0 : FVec Ideal S1x16384x8x64 .f32 := m ((c : Thread nD τ).loc main_arg0)
abbrev A1 : FVec Ideal S1x16384x8x64 .f32 := m ((c : Thread nD τ).loc main_arg1)
abbrev A2 : FVec Ideal S1x16384x8x64 .f32 := m ((c : Thread nD τ).loc main_arg2)
abbrev A3 : FVec Ideal S1x8x16384 .f32 := m ((c : Thread nD τ).loc main_arg3)
abbrev A4 : FVec Ideal S1x8x16384 .f32 := m ((c : Thread nD τ).loc main_arg4)
abbrev A7 : FVec Ideal S1x16384x8 .f32 := m ((c : Thread nD τ).loc main_arg7)
abbrev A8 : FVec Ideal S1x8 .f32 := m ((c : Thread nD τ).loc main_arg8)
abbrev A9 : FVec Ideal S16384x8192 .bf16 := m ((c : Thread nD τ).loc main_arg9)

theorem V_q_eq : ∃ b d, V m c main_v13 = (shapeCast S1024x16384 (concatenate S8x128x16384 1
    [⟨S8x64x16384, transpose S8x64x16384 [1, 2, 0] (shapeCast S16384x8x64 (A0 m c) shapeCasts_S1x16384x8x64_S16384x8x64) transposes_S16384x8x64_S8x64x16384_1_2_0⟩,
      ⟨S8x0x16384, b⟩, ⟨S8x1x16384, broadcastInDim S8x1x16384 ![0, 2] bcast_S8x16384_S8x1x16384_0_2 (shapeCast S8x16384 (A3 m c) shapeCasts_S1x8x16384_S8x16384)⟩, ⟨S8x63x16384, d⟩]
      concatenates_S8x64x16384_S8x0x16384_S8x1x16384_S8x63x16384_S8x128x16384_d1) shapeCasts_S8x128x16384_S1024x16384 : FVec Ideal S1024x16384 .f32) := by
  dsimp only [V, hostOps0, hostOps0_1, hostOps0_2, List.flatten_cons, List.flatten_nil, List.cons_append, List.nil_append]
  after_results
  exact ⟨_, _, rfl⟩

theorem V_k_eq : ∃ b d, V m c main_v21 = (shapeCast S1024x16384 (concatenate S8x128x16384 1
    [⟨S8x64x16384, transpose S8x64x16384 [1, 2, 0] (shapeCast S16384x8x64 (A1 m c) shapeCasts_S1x16384x8x64_S16384x8x64) transposes_S16384x8x64_S8x64x16384_1_2_0⟩,
      ⟨S8x3x16384, b⟩, ⟨S8x1x16384, broadcastInDim S8x1x16384 ![0, 2] bcast_S8x16384_S8x1x16384_0_2 (shapeCast S8x16384 (A4 m c) shapeCasts_S1x8x16384_S8x16384)⟩, ⟨S8x60x16384, d⟩]
      concatenates_S8x64x16384_S8x3x16384_S8x1x16384_S8x60x16384_S8x128x16384_d1) shapeCasts_S8x128x16384_S1024x16384 : FVec Ideal S1024x16384 .f32) := by
  dsimp only [V, hostOps0, hostOps0_1, hostOps0_2, List.flatten_cons, List.flatten_nil, List.cons_append, List.nil_append]
  after_results
  exact ⟨_, _, rfl⟩

theorem V_q_head (h : Fin 8) (l : Fin 128) (hl : l.val < 64) (R : Fin 16384) : V m c main_v13 (ix2 ⟨128 * h.val + l.val, by omega⟩ R) = A0 m c (ix4 0 R h ⟨l.val, hl⟩) := by
  obtain ⟨b, d, e⟩ := V_q_eq m c
  rw [e]
  exact (rows_apply _ h l R).trans ((cat0_head _ _ h R b d l hl).trans (head_apply _ h _ R))

theorem V_q_line (h : Fin 8) (R : Fin 16384) : V m c main_v13 (ix2 ⟨128 * h.val + 64, by omega⟩ R) = A3 m c (ix3 0 h R) := by
  obtain ⟨b, d, e⟩ := V_q_eq m c
  rw [e]
  exact (rows_apply _ h ⟨64, by omega⟩ R).trans ((cat0_line _ _ h R b d ⟨64, by omega⟩ rfl).trans (line_apply _ h R))

theorem V_k_head (h : Fin 8) (l : Fin 128) (hl : l.val < 64) (R : Fin 16384) : V m c main_v21 (ix2 ⟨128 * h.val + l.val, by omega⟩ R) = A1 m c (ix4 0 R h ⟨l.val, hl⟩) := by
  obtain ⟨b, d, e⟩ := V_k_eq m c
  rw [e]
  exact (rows_apply _ h l R).trans ((cat1_head _ _ h R b d l hl).trans (head_apply _ h _ R))

theorem V_k_line (h : Fin 8) (R : Fin 16384) : V m c main_v21 (ix2 ⟨128 * h.val + 67, by omega⟩ R) = A4 m c (ix3 0 h R) := by
  obtain ⟨b, d, e⟩ := V_k_eq m c
  rw [e]
  exact (rows_apply _ h ⟨67, by omega⟩ R).trans ((cat1_line _ _ h R b d ⟨67, by omega⟩ rfl).trans (line_apply _ h R))

theorem vals_apply (x : FVec Ideal S1x16384x8x64 .f32) (k : Fin 512) (R : Fin 16384) :
    shapeCast S512x16384 (transpose S8x64x16384 [1, 2, 0] (shapeCast S16384x8x64 x shapeCasts_S1x16384x8x64_S16384x8x64) transposes_S16384x8x64_S8x64x16384_1_2_0)
      shapeCasts_S8x64x16384_S512x16384 (ix2 k R) = x (ix4 0 R ⟨k.val / 64, by omega⟩ ⟨k.val % 64, by omega⟩) := by
  pointwise []

theorem V_v (k : Fin 512) (R : Fin 16384) : V m c main_v24 (ix2 k R) = A2 m c (ix4 0 R ⟨k.val / 64, by omega⟩ ⟨k.val % 64, by omega⟩) := by
  have e : V m c main_v24 = (shapeCast S512x16384 (transpose S8x64x16384 [1, 2, 0] (shapeCast S16384x8x64 (A2 m c) shapeCasts_S1x16384x8x64_S16384x8x64) transposes_S16384x8x64_S8x64x16384_1_2_0)
      shapeCasts_S8x64x16384_S512x16384 : FVec Ideal S512x16384 .f32) := by
    dsimp only [V, hostOps0, hostOps0_1, hostOps0_2, List.flatten_cons, List.flatten_nil, List.cons_append, List.nil_append]
    after_results
    rfl
  rw [e]
  exact vals_apply _ k R

theorem cols_apply (a : FVec Ideal S16384x512 .f32) (b : FVec Ideal S16384x16 .f32) (x : FVec Ideal S1x16384x8 .f32) (d : FVec Ideal S16384x104 .f32) (R : Fin 16384) (h : Fin 8) :
    concatenate S16384x640 1 [⟨S16384x512, a⟩, ⟨S16384x16, b⟩, ⟨S16384x8, shapeCast S16384x8 x shapeCasts_S1x16384x8_S16384x8⟩, ⟨S16384x104, d⟩]
      concatenates_S16384x512_S16384x16_S16384x8_S16384x104_S16384x640_d1 (ix2 R ⟨528 + h.val, by omega⟩) = x (ix3 0 R h) := by
  pointwise []
  rw [dif_neg (by omega), dif_neg (by omega), dif_pos (by omega)]
  congr 2
  exact Fin.ext (by dsimp only; omega)

theorem V_ff (R : Fin 16384) (h : Fin 8) : V m c main_v4 (ix2 R ⟨528 + h.val, by omega⟩) = A7 m c (ix3 0 R h) := by
  have e : ∃ a b d, V m c main_v4 = (concatenate S16384x640 1 [⟨S16384x512, a⟩, ⟨S16384x16, b⟩, ⟨S16384x8, shapeCast S16384x8 (A7 m c) shapeCasts_S1x16384x8_S16384x8⟩, ⟨S16384x104, d⟩]
      concatenates_S16384x512_S16384x16_S16384x8_S16384x104_S16384x640_d1 : FVec Ideal S16384x640 .f32) := by
    dsimp only [V, hostOps0, hostOps0_1, hostOps0_2, List.flatten_cons, List.flatten_nil, List.cons_append, List.nil_append]
    after_results
    exact ⟨_, _, _, rfl⟩
  obtain ⟨a, b, d, e⟩ := e
  rw [e]
  exact cols_apply a b _ d R h

theorem pad_at (x : FVec Ideal S1x8 .f32) (v : FVec Ideal S_ .f32) (h : Fin 8) :
    pad S1x128 ![0, 16] ![0, 104] ![0, 0] x v pads_S1x8_S1x128_000_161040 h_S_ (ix2 0 ⟨16 + h.val, by omega⟩) = x (ix2 0 h) := by
  pointwise []

theorem V_b (h : Fin 8) : V m c main_v5 (ix2 0 ⟨16 + h.val, by omega⟩) = A8 m c (ix2 0 h) := by
  have e : ∃ v, V m c main_v5 = (pad S1x128 ![0, 16] ![0, 104] ![0, 0] (A8 m c) v pads_S1x8_S1x128_000_161040 h_S_ : FVec Ideal S1x128 .f32) := by
    dsimp only [V, hostOps0, hostOps0_1, hostOps0_2, List.flatten_cons, List.flatten_nil, List.cons_append, List.nil_append]
    after_results
    exact ⟨_, rfl⟩
  obtain ⟨v, e⟩ := e
  rw [e]
  exact pad_at _ v h

theorem V_out : V m c main_v25_0 = A9 m c := by
  dsimp only [V, hostOps0, hostOps0_1, hostOps0_2, List.flatten_cons, List.flatten_nil, List.cons_append, List.nil_append]
  after_results
  rfl

end host

end Cert.FoxgIdeal.Hand
-- ==== Proof.FoxgVal.lean ====
/-
  The gradient of the forgetting gate and of the columns packed with it: what each point of the kernel leaves.
-/
module

public import proofs.«01_k».proof.Proof.FoxgHost

@[expose] public section

set_option maxRecDepth 16384

noncomputable section

namespace Cert.FoxgIdeal.Hand

open Cert.FoxgIdeal Cert.FoxgIdeal.Gen Idealize.ShloMosaic Idealize.ShloMosaic.TcCoe Idealize.SL.Sem Cert.RealMath
open Idealize.ShloMosaic.Pipeline (Dat)

variable (m : (ℓ : Loc nD τ sig) → Buf (Elt Ideal) ℓ)

theorem unread_eq (X : Vec Ideal S8x128 .f32) :
    View.read (Elt Ideal) (View.whole cc0_scratch0) ((Memref.isWhole_whole cc0_scratch0).unread X) = X :=
  (Memref.isWhole_whole cc0_scratch0).read_unread X

theorem readCov_sub (u : Vec Ideal S8x128 .f32) (v : View sig .tc .vmem S8x128 .f32) (inb : ∀ a, (![0, 0] : Fin 2 → Nat) a + S8x128.size a ≤ S8x128.size a)
    (r : Rect S8x128) : v.readCov (Val := Elt Ideal) [⟨Rect.unit ![0, 0] S8x128.size inb, u⟩] r.toLoadRect = View.ld u r := by
  rw [View.readCov_eq_canon', View.canon_cons_unit_lit inb u [] (by intro a; fin_cases a <;> rfl)]

section piece
variable (x0 x1 : Vec Ideal S1024x512 .f32) (x2 : Vec Ideal S512x512 .f32)

/-- The packed columns of one block, row by row. -/
def P (s : Fin 512) (q : Fin 2560) : EReal :=
  if h0 : q.val < 1024 then
    if q.val % 128 < 64 then x0 (ix2 ⟨q.val, h0⟩ s) * Ideal.ofBits .f32 0x3E000000#32 else 0
  else if h1 : q.val < 2048 then
    if q.val % 128 < 64 then x1 (ix2 ⟨q.val - 1024, by omega⟩ s) else 0
  else x2 (ix2 ⟨q.val - 2048, by omega⟩ s)

theorem P_q (s : Fin 512) (q : Fin 2560) (k : Fin 1024) (hk : q.val = k.val) :
    P x0 x1 x2 s q = if k.val % 128 < 64 then x0 (ix2 k s) * Ideal.ofBits .f32 0x3E000000#32 else 0 := by
  obtain ⟨k, hk'⟩ := k
  subst hk
  unfold P
  rw [dif_pos hk']

theorem P_k (s : Fin 512) (q : Fin 2560) (k : Fin 1024) (hk : q.val = 1024 + k.val) :
    P x0 x1 x2 s q = if k.val % 128 < 64 then x1 (ix2 k s) else 0 := by
  unfold P
  rw [dif_neg (by omega), dif_pos (by omega), show q.val % 128 = k.val % 128 by omega,
    show (⟨q.val - 1024, by omega⟩ : Fin 1024) = k from Fin.ext (by dsimp only; omega)]

theorem P_v (s : Fin 512) (q : Fin 2560) (k : Fin 512) (hk : q.val = 2048 + k.val) : P x0 x1 x2 s q = x2 (ix2 k s) := by
  unfold P
  rw [dif_neg (by omega), dif_neg (by omega), show (⟨q.val - 2048, by omega⟩ : Fin 512) = k from Fin.ext (by dsimp only; omega)]

variable {o o' : Nat} (h8 : o % 128 = 0) (ho : o < 1024) (i0 : ∀ a, (![o, 0] : Fin 2 → Nat) a + (![128, 512] : Fin 2 → Nat) a ≤ S1024x512.size a)
  (i1 : ∀ a, (![0, o'] : Fin 2 → Nat) a + (![512, 128] : Fin 2 → Nat) a ≤ S512x2560.size a)

theorem rowOf (x : Vec Ideal S1024x512 .f32) (l : Fin 128) (s : Fin 512) (k : Fin 1024) (hk : k.val = o + l.val) :
    View.ld (Val := Elt Ideal) x (Rect.unit (s := S1024x512) ![o, 0] ![128, 512] i0) (ix2 l s) = x (ix2 k s) := by
  show x _ = x _
  congr 1
  funext a
  apply Fin.ext
  match a with
  | ⟨0, _⟩ => show o + 1 * l.val = k.val; omega
  | ⟨1, _⟩ => show 0 + 1 * s.val = s.val; omega

theorem at_row (s : Fin 512) (l : Fin 128) : (Rect.unit (s := S512x2560) ![0, o'] ![512, 128] i1).emb (ix2 s l) 0 = s :=
  Fin.ext (by show 0 + 1 * s.val = s.val; omega)

theorem at_col (s : Fin 512) (l : Fin 128) : ((Rect.unit (s := S512x2560) ![0, o'] ![512, 128] i1).emb (ix2 s l) 1).val = o' + l.val := by
  show o' + 1 * l.val = _
  omega

include h8 ho in
theorem pieceQ (e : o' = o) (x : S512x128.Idx) :
    k0_pay3 (View.ld (Val := Elt Ideal) x0 (Rect.unit (s := S1024x512) ![o, 0] ![128, 512] i0)) x
      = (fun i : S512x2560.Idx => P x0 x1 x2 (i 0) (i 1)) ((Rect.unit (s := S512x2560) ![0, o'] ![512, 128] i1).emb x) := by
  obtain ⟨s, l, rfl⟩ : ∃ (s : Fin 512) (l : Fin 128), x = ix2 s l := ⟨x 0, x 1, (ix2_eta x).symm⟩
  have hc := at_col i1 s l
  dsimp only
  rw [at_row, scaled, P_q x0 x1 x2 s _ ⟨o + l.val, by omega⟩ (hc.trans (by dsimp only; omega)), rowOf i0 x0 l s ⟨o + l.val, by omega⟩ rfl]
  dsimp only
  rw [show (o + l.val) % 128 = l.val by omega]

include h8 ho in
theorem pieceK (e : o' = 1024 + o) (x : S512x128.Idx) :
    k0_pay4 (View.ld (Val := Elt Ideal) x1 (Rect.unit (s := S1024x512) ![o, 0] ![128, 512] i0)) x
      = (fun i : S512x2560.Idx => P x0 x1 x2 (i 0) (i 1)) ((Rect.unit (s := S512x2560) ![0, o'] ![512, 128] i1).emb x) := by
  obtain ⟨s, l, rfl⟩ : ∃ (s : Fin 512) (l : Fin 128), x = ix2 s l := ⟨x 0, x 1, (ix2_eta x).symm⟩
  have hc := at_col i1 s l
  dsimp only
  rw [at_row, plain, P_k x0 x1 x2 s _ ⟨o + l.val, by omega⟩ (hc.trans (by dsimp only; omega)), rowOf i0 x1 l s ⟨o + l.val, by omega⟩ rfl]
  dsimp only
  rw [show (o + l.val) % 128 = l.val by omega]

theorem pieceV (x : S512x512.Idx) :
    k0_pay22 x2 x
      = (fun i : S512x2560.Idx => P x0 x1 x2 (i 0) (i 1)) ((Rect.unit (s := S512x2560) ![0, 2048] ![512, 512] inb_S512x2560_S512x512_0_2048).emb x) := by
  obtain ⟨s, l, rfl⟩ : ∃ (s : Fin 512) (l : Fin 512), x = ix2 s l := ⟨x 0, x 1, (ix2_eta x).symm⟩
  have hr : (Rect.unit (s := S512x2560) ![0, 2048] ![512, 512] inb_S512x2560_S512x512_0_2048).emb (ix2 s l) 0 = s := Fin.ext (by show 0 + 1 * s.val = s.val; omega)
  have hc : ((Rect.unit (s := S512x2560) ![0, 2048] ![512, 512] inb_S512x2560_S512x512_0_2048).emb (ix2 s l) 1).val = 2048 + l.val := by
    show 2048 + 1 * l.val = _
    omega
  dsimp only
  rw [hr, turned, P_v x0 x1 x2 s _ l hc]

end piece

section points
variable (c : Dev nD) (t : Fin cfg0.N)

abbrev pv := outsAt0 m c (t.val - 1) (Nat.lt_of_le_of_lt (Nat.sub_le _ _) t.isLt)

/-- The first column of what is carried. -/
def col (X : Vec Ideal S8x128 .f32) : Vec Ideal S8x1 .f32 := View.ld (Val := Elt Ideal) X (Rect.unit (s := S8x128) ![0, 0] S8x1.size inb_S8x128_S8x1_0_0)

theorem ps_A (h0 : t.val % 32 = 0) (s : Fin 512) (l : Fin 128) :
    (outsAt0 m c t.val t.isLt).2.1 (ix2 s l) = G (iblk m c 1 t) (iblk m c 0 t) (col (k0_pay1 (F := Ideal))) (iblk m c 3 t) (iblk m c 4 t) s l := by
  have ht : t.val < 32 := lt_of_lt_of_eq t.isLt N_0
  rw [outsAt0_A m c t h0 h0 (by omega)]
  dsimp only
  frame_out
  rw [← gate_apply]
  erw [readCov_sub]
  rfl

theorem carry_A (h0 : t.val % 32 = 0) (h : Fin 8) (l : Fin 128) :
    (outsAt0 m c t.val t.isLt).2.2.2 (ix2 h l) = D (iblk m c 1 t) (iblk m c 0 t) (col (k0_pay1 (F := Ideal))) 0 h := by
  have ht : t.val < 32 := lt_of_lt_of_eq t.isLt N_0
  rw [outsAt0_A m c t h0 h0 (by omega)]
  dsimp only
  frame_out
  rw [← carry_apply _ _ _ h l]
  erw [readCov_sub]
  rfl

theorem grp_A (h0 : t.val % 32 = 0) (r : Fin 8) (l : Fin 128) :
    (outsAt0 m c t.val t.isLt).2.2.1 (ix2 r l)
      = ∑ w : Fin 64, G (iblk m c 1 t) (iblk m c 0 t) (col (k0_pay1 (F := Ideal))) (iblk m c 3 t) (iblk m c 4 t) ⟨w.val * 8 + r.val, by omega⟩ l := by
  have ht : t.val < 32 := lt_of_lt_of_eq t.isLt N_0
  rw [outsAt0_A m c t h0 h0 (by omega)]
  dsimp only
  frame_out
  rw [← groups_apply]
  erw [readCov_sub]
  rfl

theorem ps_B (h0 : ¬t.val % 32 = 0) (s : Fin 512) (l : Fin 128) :
    (outsAt0 m c t.val t.isLt).2.1 (ix2 s l) = G (iblk m c 1 t) (iblk m c 0 t) (col (pv m c t).2.2.2) (iblk m c 3 t) (iblk m c 4 t) s l := by
  have ht : t.val < 32 := lt_of_lt_of_eq t.isLt N_0
  rw [outsAt0_B m c t h0 h0 (by omega)]
  dsimp only
  frame_out
  dsimp only [pv]
  generalize (outsAt0 m c (t.val - 1) (Nat.lt_of_le_of_lt (Nat.sub_le _ _) t.isLt)) = X
  rw [unread_eq, ← gate_apply]
  rfl

theorem carry_B (h0 : ¬t.val % 32 = 0) (h : Fin 8) (l : Fin 128) :
    (outsAt0 m c t.val t.isLt).2.2.2 (ix2 h l) = D (iblk m c 1 t) (iblk m c 0 t) (col (pv m c t).2.2.2) 0 h := by
  have ht : t.val < 32 := lt_of_lt_of_eq t.isLt N_0
  rw [outsAt0_B m c t h0 h0 (by omega)]
  dsimp only
  frame_out
  dsimp only [pv]
  generalize (outsAt0 m c (t.val - 1) (Nat.lt_of_le_of_lt (Nat.sub_le _ _) t.isLt)) = X
  rw [unread_eq, ← carry_apply _ _ _ h l]
  rfl

theorem grp_B (h0 : ¬t.val % 32 = 0) (r : Fin 8) (l : Fin 128) :
    (outsAt0 m c t.val t.isLt).2.2.1 (ix2 r l)
      = (pv m c t).2.2.1 (ix2 r l)
        + ∑ w : Fin 64, G (iblk m c 1 t) (iblk m c 0 t) (col (pv m c t).2.2.2) (iblk m c 3 t) (iblk m c 4 t) ⟨w.val * 8 + r.val, by omega⟩ l := by
  have ht : t.val < 32 := lt_of_lt_of_eq t.isLt N_0
  rw [outsAt0_B m c t h0 h0 (by omega)]
  dsimp only
  frame_out
  dsimp only [pv]
  generalize (outsAt0 m c (t.val - 1) (Nat.lt_of_le_of_lt (Nat.sub_le _ _) t.isLt)) = X
  rw [unread_eq, ← added_apply]
  rfl

theorem out_P (y : S512x2560.Idx) : (outsAt0 m c t.val t.isLt).1 y = P (iblk m c 0 t) (iblk m c 1 t) (iblk m c 2 t) (y 0) (y 1) := by
  have ht : t.val < 32 := lt_of_lt_of_eq t.isLt N_0
  by_cases h0 : t.val % 32 = 0
  all_goals
    first
    | rw [outsAt0_A m c t h0 h0 (by omega)]
    | rw [outsAt0_B m c t h0 h0 (by omega)]
    dsimp only
    frame_out
    refine View.canon_apply_of_pieces (Val := Elt Ideal) (S := S512x2560) (e := .bf16) (fun i => P (iblk m c 0 t) (iblk m c 1 t) (iblk m c 2 t) (i 0) (i 1)) _ ?_ y
      (View.cover_of_tiledBy _ ![512, 128] (by sl_kernel_rfl) y)
    intro p hp
    simp only [List.mem_cons, List.not_mem_nil, or_false] at hp
    rcases hp with rfl | hp
    · exact pieceV _ _ _
    rcases hp with rfl | hp
    · exact pieceK _ _ _ (o := 896) (o' := 1920) rfl (by omega) inb_S1024x512_S128x512_896_0 inb_S512x2560_S512x128_0_1920 rfl
    rcases hp with rfl | hp
    · exact pieceQ _ _ _ (o := 896) (o' := 896) rfl (by omega) inb_S1024x512_S128x512_896_0 inb_S512x2560_S512x128_0_896 rfl
    rcases hp with rfl | hp
    · exact pieceK _ _ _ (o := 768) (o' := 1792) rfl (by omega) inb_S1024x512_S128x512_768_0 inb_S512x2560_S512x128_0_1792 rfl
    rcases hp with rfl | hp
    · exact pieceQ _ _ _ (o := 768) (o' := 768) rfl (by omega) inb_S1024x512_S128x512_768_0 inb_S512x2560_S512x128_0_768 rfl
    rcases hp with rfl | hp
    · exact pieceK _ _ _ (o := 640) (o' := 1664) rfl (by omega) inb_S1024x512_S128x512_640_0 inb_S512x2560_S512x128_0_1664 rfl
    rcases hp with rfl | hp
    · exact pieceQ _ _ _ (o := 640) (o' := 640) rfl (by omega) inb_S1024x512_S128x512_640_0 inb_S512x2560_S512x128_0_640 rfl
    rcases hp with rfl | hp
    · exact pieceK _ _ _ (o := 512) (o' := 1536) rfl (by omega) inb_S1024x512_S128x512_512_0 inb_S512x2560_S512x128_0_1536 rfl
    rcases hp with rfl | hp
    · exact pieceQ _ _ _ (o := 512) (o' := 512) rfl (by omega) inb_S1024x512_S128x512_512_0 inb_S512x2560_S512x128_0_512 rfl
    rcases hp with rfl | hp
    · exact pieceK _ _ _ (o := 384) (o' := 1408) rfl (by omega) inb_S1024x512_S128x512_384_0 inb_S512x2560_S512x128_0_1408 rfl
    rcases hp with rfl | hp
    · exact pieceQ _ _ _ (o := 384) (o' := 384) rfl (by omega) inb_S1024x512_S128x512_384_0 inb_S512x2560_S512x128_0_384 rfl
    rcases hp with rfl | hp
    · exact pieceK _ _ _ (o := 256) (o' := 1280) rfl (by omega) inb_S1024x512_S128x512_256_0 inb_S512x2560_S512x128_0_1280 rfl
    rcases hp with rfl | hp
    · exact pieceQ _ _ _ (o := 256) (o' := 256) rfl (by omega) inb_S1024x512_S128x512_256_0 inb_S512x2560_S512x128_0_256 rfl
    rcases hp with rfl | hp
    · exact pieceK _ _ _ (o := 128) (o' := 1152) rfl (by omega) inb_S1024x512_S128x512_128_0 inb_S512x2560_S512x128_0_1152 rfl
    rcases hp with rfl | hp
    · exact pieceQ _ _ _ (o := 128) (o' := 128) rfl (by omega) inb_S1024x512_S128x512_128_0 inb_S512x2560_S512x128_0_128 rfl
    rcases hp with rfl | hp
    · exact pieceK _ _ _ (o := 0) (o' := 1024) rfl (by omega) inb_S1024x512_S128x512_0_0 inb_S512x2560_S512x128_0_1024 rfl
    subst hp
    exact pieceQ _ _ _ (o := 0) (o' := 0) rfl (by omega) inb_S1024x512_S128x512_0_0 inb_S512x2560_S512x128_0_0 rfl

end points
end Cert.FoxgIdeal.Hand
-- ==== Proof.FoxgRefRow.lean ====
/-
  The gradient of the forgetting gate and of the columns packed with it: what the `jax.vjp` reference computes, element by element.
-/
module

public import proofs.«01_k».proof.Proof.Gen.FoxgRefIdeal.Read
public import proofs.«01_k».proof.Proof.FoxgMath

@[expose] public section

set_option maxRecDepth 16384

noncomputable section

namespace Cert.FoxgRefIdeal.Hand

open Cert.FoxgRefIdeal Cert.FoxgRefIdeal.Read Idealize.ShloMosaic Idealize.ShloMosaic.TcCoe Cert.RealMath

variable (x0 x1 x2 : FVec Ideal S1x16384x8x64 .f32) (x3 x4 : FVec Ideal S1x8x16384 .f32) (x7 : FVec Ideal S1x16384x8 .f32) (x8 : FVec Ideal S1x8 .f32)
  (x9 : FVec Ideal S16384x8192 .bf16)

/-- The gate's argument with its sign turned, and the cotangent of the running sum. -/
def gu (t : Fin 16384) (h : Fin 8) : EReal := -(x7 (ix3 0 t h) + x8 (ix2 0 h))
def gd (h : Fin 8) (i : ℕ) : EReal := if hi : i < 16384 then x3 (ix3 0 h ⟨i, hi⟩) + -x4 (ix3 0 h ⟨i, hi⟩) else 0
/-- The gradient at the gate. -/
def gff (t : Fin 16384) (h : Fin 8) : EReal := sufx 16384 (gd x3 x4 h) t.val * Ideal.logistic (gu x7 x8 t h)

theorem v14_apply (t : Fin 16384) (h : Fin 8) : val_main_v14 (F := Ideal) x3 x4 (ix3 0 t h) = sufx 16384 (gd x3 x4 h) t.val := by
  unfold val_main_v14
  refine (window_sum (N := 16384) (P := 16383) (C := 8) rfl _ _ (fun i => ?_) _ _ t h).trans ?_
  · pointwise [val_main_call2_call0_v0, val_main_call2_call0_cst]
  · unfold sufx gd
    refine Finset.sum_congr rfl fun i hi => ?_
    have hi' := (Finset.mem_Ico.mp hi).2
    dsimp only
    rw [dif_pos hi', dif_pos hi']
    generalize (⟨i, hi'⟩ : Fin 16384) = j
    pointwise [val_main_v13, val_main_v10, val_main_v9]

theorem soft_apply (t : Fin 16384) (h : Fin 8) : val_main_call0_v1_0 (F := Ideal) x7 x8 (ix3 0 t h) = softp (gu x7 x8 t h) := by
  unfold softp gu
  pointwise [val_main_call0_v1_0, val_main_call0_call0_v4, val_main_call0_call0_v11, val_main_call0_call0_v10, val_main_call0_call0_v9, val_main_call0_call0_v8, val_main_call0_call0_v7, val_main_call0_call0_v3, val_main_call0_call0_v2, val_main_call0_call0_v1, val_main_call0_call0_v0, val_main_call0_call0_cst, val_main_call0_v0, val_main_v2, val_main_v1]
  rw [if_neg (not_not.mpr rfl)]
  rfl

theorem gate_apply (t : Fin 16384) (h : Fin 8) (h7 : ∀ i, Rl (x7 i)) (h8 : ∀ i, Rl (x8 i)) :
    val_main_v3_1 (F := Ideal) x7 x8 (ix3 0 t h) = Ideal.logistic (gu x7 x8 t h) := by
  have eu : val_main_call0_v0 (F := Ideal) x7 x8 (ix3 0 t h) = gu x7 x8 t h := by
    unfold gu
    pointwise [val_main_call0_v0, val_main_v2, val_main_v1]
  obtain ⟨u, hu⟩ : Rl (gu x7 x8 t h) := ((h7 _).add (h8 _)).neg
  have e : val_main_v3_1 (F := Ideal) x7 x8 (ix3 0 t h)
      = Ideal.exp ((if val_main_call0_v0 (F := Ideal) x7 x8 (ix3 0 t h) = Ideal.ofBits .f32 0x7F800000#32 then 0 else val_main_call0_v0 (F := Ideal) x7 x8 (ix3 0 t h))
        - (if val_main_call0_v1_0 (F := Ideal) x7 x8 (ix3 0 t h) = Ideal.ofBits .f32 0x7F800000#32 then 0 else val_main_call0_v1_0 (F := Ideal) x7 x8 (ix3 0 t h))) := by
    pointwise [val_main_v3_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3]
  rw [e, eu, soft_apply, hu, pos_inf, if_neg (EReal.coe_ne_top _), if_neg (by rw [softp_coe]; exact EReal.coe_ne_top _), exp_sub_softp]

theorem v15_apply (t : Fin 16384) (h : Fin 8) (h7 : ∀ i, Rl (x7 i)) (h8 : ∀ i, Rl (x8 i)) :
    val_main_v15 (F := Ideal) x3 x4 x7 x8 (ix3 0 t h) = gff x3 x4 x7 x8 t h := by
  have e : val_main_v15 (F := Ideal) x3 x4 x7 x8 (ix3 0 t h) = -(-val_main_v14 (F := Ideal) x3 x4 (ix3 0 t h) * val_main_v3_1 (F := Ideal) x7 x8 (ix3 0 t h)) := by
    pointwise [val_main_v15, val_main_call3_v1, val_main_call3_v0]
  rw [e, v14_apply, gate_apply x7 x8 t h h7 h8, EReal.neg_mul, neg_neg]
  rfl

theorem word_zero : (FloatOps.sitofp .f32 (0#32 : BitVec 32) : Ideal .f32) = (0 : EReal) := by
  show (((0#32 : BitVec 32).toInt : ℝ) : EReal) = 0
  rw [BitVec.toInt_zero, Int.cast_zero, EReal.coe_zero]

/-- The gate's gradient on its lanes. -/
def lane (y : Fin 8 → EReal) (l : Fin 128) : EReal := if hl : 16 ≤ l.val ∧ l.val < 24 then y ⟨l.val - 16, by omega⟩ else 0

theorem v29_apply (t : Fin 16384) (l : Fin 128) (h7 : ∀ i, Rl (x7 i)) (h8 : ∀ i, Rl (x8 i)) :
    val_main_v29 (F := Ideal) x3 x4 x7 x8 (ix2 t l) = lane (gff x3 x4 x7 x8 t) l := by
  have e : ∀ h, val_main_v28 (F := Ideal) x3 x4 x7 x8 (ix2 t h) = gff x3 x4 x7 x8 t h := fun h => by
    rw [← v15_apply x3 x4 x7 x8 t h h7 h8]
    pointwise [val_main_v28]
  unfold lane
  simp only [← e]
  pointwise [val_main_v29, val_main_call6_v0, val_main_c_3]
  rw [word_zero]
  by_cases hl : 16 ≤ l.val ∧ l.val < 24
  · rw [dif_pos hl, dif_pos (by omega)]
  · rw [dif_neg hl, dif_neg (by omega)]

theorem v33_apply (r : Fin 8) (l : Fin 128) (h7 : ∀ i, Rl (x7 i)) (h8 : ∀ i, Rl (x8 i)) :
    val_main_v33 (F := Ideal) x3 x4 x7 x8 (ix2 r l) = ∑ w : Fin 2048, lane (gff x3 x4 x7 x8 ⟨w.val * 8 + r.val, by omega⟩) l := by
  have e : ∀ w : Fin 2048, ∀ h, val_main_v31 (F := Ideal) x3 x4 x7 x8 (ix3 w r h) = gff x3 x4 x7 x8 ⟨w.val * 8 + r.val, by omega⟩ h := fun w h => by
    rw [← v15_apply x3 x4 x7 x8 _ h h7 h8]
    pointwise [val_main_v31, val_main_v30]
  have e2 : ∀ h, val_main_v32 (F := Ideal) x3 x4 x7 x8 (ix2 r h) = ∑ w : Fin 2048, gff x3 x4 x7 x8 ⟨w.val * 8 + r.val, by omega⟩ h := fun h => by
    simp only [← e]
    pointwise [val_main_v32, val_main_cst_4]
  by_cases hl : 16 ≤ l.val ∧ l.val < 24
  · unfold lane
    simp only [dif_pos hl]
    rw [← e2]
    pointwise [val_main_v33, val_main_call7_v0, val_main_c_5]
    rw [dif_pos (by omega)]
  · unfold lane
    simp only [dif_neg hl]
    rw [Finset.sum_const_zero]
    pointwise [val_main_v33, val_main_call7_v0, val_main_c_5]
    rw [word_zero, dif_neg (by omega)]

/-- The packed gradient of queries, keys and values, by column. -/
def packed (R : Fin 16384) (q : Fin 2560) : EReal :=
  if h0 : q.val < 1024 then
    if h1 : q.val % 128 < 64 then x0 (ix4 0 R ⟨q.val / 128, by omega⟩ ⟨q.val % 128, h1⟩) * Ideal.ofBits .f32 0x3E000000#32 else 0
  else if h0' : q.val < 2048 then
    if h1 : (q.val - 1024) % 128 < 64 then x1 (ix4 0 R ⟨(q.val - 1024) / 128, by omega⟩ ⟨(q.val - 1024) % 128, h1⟩) else 0
  else x2 (ix4 0 R ⟨(q.val - 2048) / 64, by omega⟩ ⟨(q.val - 2048) % 64, by omega⟩)

theorem v18_apply (R : Fin 16384) (q : Fin 1024) : val_main_v18 (F := Ideal) x0 (ix2 R q)
    = if h1 : q.val % 128 < 64 then x0 (ix4 0 R ⟨q.val / 128, by omega⟩ ⟨q.val % 128, h1⟩) * Ideal.ofBits .f32 0x3E000000#32 else 0 := by
  pointwise [val_main_v18, val_main_v17, val_main_v16, val_main_v12, val_main_v11, val_main_cst_1, val_main_call4_v0, val_main_c]
  rw [word_zero]
  by_cases hl : q.val % 128 < 64
  · rw [dif_pos hl, dif_pos (by omega)]
  · rw [dif_neg hl, dif_neg (by omega)]

theorem v21_apply (R : Fin 16384) (q : Fin 1024) : val_main_v21 (F := Ideal) x1 (ix2 R q)
    = if h1 : q.val % 128 < 64 then x1 (ix4 0 R ⟨q.val / 128, by omega⟩ ⟨q.val % 128, h1⟩) else 0 := by
  pointwise [val_main_v21, val_main_v20, val_main_v19, val_main_call5_v0, val_main_c_2]
  rw [word_zero]
  by_cases hl : q.val % 128 < 64
  · rw [dif_pos hl, dif_pos (by omega)]
  · rw [dif_neg hl, dif_neg (by omega)]

theorem v23_apply (R : Fin 16384) (q : Fin 512) : val_main_v23 (F := Ideal) x2 (ix2 R q) = x2 (ix4 0 R ⟨q.val / 64, by omega⟩ ⟨q.val % 64, by omega⟩) := by
  pointwise [val_main_v23, val_main_v22]

theorem v27_in (R : Fin 16384) (q : Fin 2560) : val_main_v27 (F := Ideal) x0 x1 x2 x9 (ix2 R ⟨q.val, by omega⟩) = packed x0 x1 x2 R q := by
  have e : val_main_v27 (F := Ideal) x0 x1 x2 x9 (ix2 R ⟨q.val, by omega⟩) = val_main_v24 (F := Ideal) x0 x1 x2 (ix2 R q) := by
    pointwise [val_main_v27, val_main_v25]
  have e2 : val_main_v24 (F := Ideal) x0 x1 x2 (ix2 R q) = if h0 : q.val < 1024 then val_main_v18 (F := Ideal) x0 (ix2 R ⟨q.val, h0⟩)
      else if h1 : q.val < 2048 then val_main_v21 (F := Ideal) x1 (ix2 R ⟨q.val - 1024, by omega⟩) else val_main_v23 (F := Ideal) x2 (ix2 R ⟨q.val - 2048, by omega⟩) := by
    pointwise [val_main_v24]
    by_cases h0 : q.val < 1024
    · rw [dif_pos h0, dif_pos h0]
    · rw [dif_neg h0, dif_neg h0]
      by_cases h1 : q.val < 2048
      · rw [dif_pos (by omega), dif_pos h1]
      · rw [dif_neg (by omega), dif_neg h1]
        congr 2
  rw [e, e2]
  unfold packed
  simp only [v18_apply, v21_apply, v23_apply]

theorem v27_out (R : Fin 16384) (q : Fin 8192) (hq : 2560 ≤ q.val) : val_main_v27 (F := Ideal) x0 x1 x2 x9 (ix2 R q) = x9 (ix2 R q) := by
  pointwise [val_main_v27, val_main_v26]
  rw [dif_neg (by omega)]
  congr 2
  exact Fin.ext (by dsimp only; omega)

end Cert.FoxgRefIdeal.Hand
-- ==== Proof.FoxgFinal.lean ====
/-
  The gradient of the forgetting gate and of the columns packed with it: the three arrays the kernel leaves are the reference's.
-/
module

public import proofs.«01_k».proof.Proof.FoxgVal
public import proofs.«01_k».proof.Proof.FoxgRefRow
public import Idealize.ShloMosaic.Lib.Pipeline.ClipFacts

@[expose] public section

set_option maxRecDepth 16384

noncomputable section

namespace Cert.FoxgIdeal.Hand

open Cert.FoxgIdeal Cert.FoxgIdeal.Gen Idealize.ShloMosaic Idealize.ShloMosaic.TcCoe Idealize.SL.Sem Cert.RealMath
open Idealize.ShloMosaic.Pipeline (Dat)
open Cert.FoxgRefIdeal.Read
open Cert.FoxgRefIdeal.Hand (gu gd gff lane packed v27_in v27_out v29_apply v33_apply)

variable (m : (ℓ : Loc nD τ sig) → Buf (Elt Ideal) ℓ)

theorem idx_in : ∀ t : Fin cfg0.N, (win0_0.index t 0 = 0 ∧ win0_0.index t 1 = 31 - t.val) ∧ (win0_1.index t 0 = 0 ∧ win0_1.index t 1 = 31 - t.val)
    ∧ (win0_2.index t 0 = 0 ∧ win0_2.index t 1 = 31 - t.val) ∧ (win0_3.index t 0 = 31 - t.val ∧ win0_3.index t 1 = 4) ∧ (win0_4.index t 0 = 0 ∧ win0_4.index t 1 = 0) :=
  (by decide +kernel : ∀ t : Fin grid0.N, (win0_0.index t 0 = 0 ∧ win0_0.index t 1 = 31 - t.val) ∧ (win0_1.index t 0 = 0 ∧ win0_1.index t 1 = 31 - t.val)
    ∧ (win0_2.index t 0 = 0 ∧ win0_2.index t 1 = 31 - t.val) ∧ (win0_3.index t 0 = 31 - t.val ∧ win0_3.index t 1 = 4) ∧ (win0_4.index t 0 = 0 ∧ win0_4.index t 1 = 0))

theorem idx_out : ∀ t : Fin cfg0.N, (win0_5.index t 0 = 31 - t.val ∧ win0_5.index t 1 = 0) ∧ (win0_6.index t 0 = 31 - t.val ∧ win0_6.index t 1 = 0)
    ∧ (win0_7.index t 0 = 0 ∧ win0_7.index t 1 = 0) :=
  (by decide +kernel : ∀ t : Fin grid0.N, (win0_5.index t 0 = 31 - t.val ∧ win0_5.index t 1 = 0) ∧ (win0_6.index t 0 = 31 - t.val ∧ win0_6.index t 1 = 0)
    ∧ (win0_7.index t 0 = 0 ∧ win0_7.index t 1 = 0))

section blocks
variable (c : Dev nD) (t : Fin cfg0.N)

theorem lt32 : t.val < 32 := lt_of_lt_of_eq t.isLt N_0

theorem q_blk (k : Fin 1024) (s : Fin 512) (R : Fin 16384) (hR : R.val = 512 * (31 - t.val) + s.val) : iblk m c 0 t (ix2 k s) = V m c main_v13 (ix2 k R) := by
  obtain ⟨⟨e0, e1⟩, -⟩ := idx_in t
  show V m c main_v13 _ = V m c main_v13 _
  congr 1
  funext a
  apply Fin.ext
  match a with
  | ⟨0, _⟩ => show win0_0.index t 0 * 1024 + 1 * k.val = k.val; rw [e0]; omega
  | ⟨1, _⟩ => show win0_0.index t 1 * 512 + 1 * s.val = R.val; rw [e1]; omega

theorem k_blk (k : Fin 1024) (s : Fin 512) (R : Fin 16384) (hR : R.val = 512 * (31 - t.val) + s.val) : iblk m c 1 t (ix2 k s) = V m c main_v21 (ix2 k R) := by
  obtain ⟨-, ⟨e0, e1⟩, -⟩ := idx_in t
  show V m c main_v21 _ = V m c main_v21 _
  congr 1
  funext a
  apply Fin.ext
  match a with
  | ⟨0, _⟩ => show win0_1.index t 0 * 1024 + 1 * k.val = k.val; rw [e0]; omega
  | ⟨1, _⟩ => show win0_1.index t 1 * 512 + 1 * s.val = R.val; rw [e1]; omega

theorem v_blk (k s : Fin 512) (R : Fin 16384) (hR : R.val = 512 * (31 - t.val) + s.val) : iblk m c 2 t (ix2 k s) = V m c main_v24 (ix2 k R) := by
  obtain ⟨-, -, ⟨e0, e1⟩, -⟩ := idx_in t
  show V m c main_v24 _ = V m c main_v24 _
  congr 1
  funext a
  apply Fin.ext
  match a with
  | ⟨0, _⟩ => show win0_2.index t 0 * 512 + 1 * k.val = k.val; rw [e0]; omega
  | ⟨1, _⟩ => show win0_2.index t 1 * 512 + 1 * s.val = R.val; rw [e1]; omega

theorem f_blk (s : Fin 512) (l : Fin 128) (R : Fin 16384) (hR : R.val = 512 * (31 - t.val) + s.val) :
    iblk m c 3 t (ix2 s l) = V m c main_v4 (ix2 R ⟨512 + l.val, by omega⟩) := by
  obtain ⟨-, -, -, ⟨e0, e1⟩, -⟩ := idx_in t
  show V m c main_v4 _ = V m c main_v4 _
  congr 1
  funext a
  apply Fin.ext
  match a with
  | ⟨0, _⟩ => show win0_3.index t 0 * 512 + 1 * s.val = R.val; rw [e0]; omega
  | ⟨1, _⟩ => show win0_3.index t 1 * 128 + 1 * l.val = 512 + l.val; rw [e1]; omega

theorem b_blk (l : Fin 128) : iblk m c 4 t (ix2 0 l) = V m c main_v5 (ix2 0 l) := by
  obtain ⟨-, -, -, -, e0, e1⟩ := idx_in t
  show V m c main_v5 _ = V m c main_v5 _
  congr 1
  funext a
  apply Fin.ext
  match a with
  | ⟨0, _⟩ => show win0_4.index t 0 * 1 + 1 * 0 = 0; rw [e0]
  | ⟨1, _⟩ => show win0_4.index t 1 * 128 + 1 * l.val = l.val; rw [e1]; omega

/-- The column carried into a point. -/
def cin : Vec Ideal S8x1 .f32 := if t.val % 32 = 0 then col (k0_pay1 (F := Ideal)) else col (pv m c t).2.2.2

theorem cin_A (h0 : t.val % 32 = 0) : cin m c t = col (k0_pay1 (F := Ideal)) := if_pos h0
theorem cin_B (h0 : ¬t.val % 32 = 0) : cin m c t = col (pv m c t).2.2.2 := if_neg h0

theorem ps_at (s : Fin 512) (l : Fin 128) :
    (outsAt0 m c t.val t.isLt).2.1 (ix2 s l) = G (iblk m c 1 t) (iblk m c 0 t) (cin m c t) (iblk m c 3 t) (iblk m c 4 t) s l := by
  by_cases h0 : t.val % 32 = 0
  · rw [cin_A m c t h0]; exact ps_A m c t h0 s l
  · rw [cin_B m c t h0]; exact ps_B m c t h0 s l

theorem carry_at (h : Fin 8) (l : Fin 128) :
    (outsAt0 m c t.val t.isLt).2.2.2 (ix2 h l) = D (iblk m c 1 t) (iblk m c 0 t) (cin m c t) 0 h := by
  by_cases h0 : t.val % 32 = 0
  · rw [cin_A m c t h0]; exact carry_A m c t h0 h l
  · rw [cin_B m c t h0]; exact carry_B m c t h0 h l

theorem col_apply (X : Vec Ideal S8x128 .f32) (h : Fin 8) : col X (ix2 h 0) = X (ix2 h 0) := by
  show X _ = X _
  congr 1
  funext a
  apply Fin.ext
  match a with
  | ⟨0, _⟩ => show 0 + 1 * h.val = h.val; omega
  | ⟨1, _⟩ => rfl

theorem zeros (h : Fin 8) (l : Fin 128) : k0_pay1 (F := Ideal) (ix2 h l) = (0 : EReal) := by
  pointwise [k0_pay1]

variable (h3 : ∀ i, Rl (A3 m c i)) (h4 : ∀ i, Rl (A4 m c i))
include h3 h4

theorem D_at (x : Vec Ideal S8x1 .f32) (s : Fin 512) (h : Fin 8) (hx : x (ix2 h 0) = sufx 16384 (gd (A3 m c) (A4 m c) h) (512 * (31 - t.val) + 512)) :
    D (iblk m c 1 t) (iblk m c 0 t) x s h = sufx 16384 (gd (A3 m c) (A4 m c) h) (512 * (31 - t.val) + s.val) := by
  have ht := lt32 t
  unfold D
  rw [hx, ← sufx_block 16384 512 (gd (A3 m c) (A4 m c) h) (512 * (31 - t.val)) s.val (by omega) (by omega)]
  congr 1
  refine Finset.sum_congr rfl fun j _ => ?_
  congr 1
  rw [k_blk m c t _ j ⟨512 * (31 - t.val) + j.val, by omega⟩ rfl, q_blk m c t _ j ⟨512 * (31 - t.val) + j.val, by omega⟩ rfl, V_k_line, V_q_line]
  unfold gd
  rw [dif_pos (by omega)]
  obtain ⟨a, ha⟩ := h3 (ix3 0 h ⟨512 * (31 - t.val) + j.val, by omega⟩)
  obtain ⟨b, hb⟩ := h4 (ix3 0 h ⟨512 * (31 - t.val) + j.val, by omega⟩)
  rw [ha, hb, ← EReal.coe_sub, ← EReal.coe_neg, ← EReal.coe_add, ← EReal.coe_zero, ← EReal.coe_sub]
  congr 1
  ring

omit t in
theorem cin_eq (h : Fin 8) : ∀ n, ∀ t : Fin cfg0.N, t.val = n →
    cin m c t (ix2 h 0) = sufx 16384 (gd (A3 m c) (A4 m c) h) (512 * (31 - t.val) + 512) := by
  intro n
  induction n with
  | zero =>
    intro t ht
    rw [cin_A m c t (by omega), col_apply, zeros, ht]
    exact (sufx_end 16384 _).symm
  | succ n ih =>
    intro t ht
    have h32 := lt32 t
    rw [cin_B m c t (by omega), col_apply]
    obtain ⟨t', ht'⟩ : ∃ t' : Fin cfg0.N, t' = ⟨t.val - 1, Nat.lt_of_le_of_lt (Nat.sub_le _ _) t.isLt⟩ := ⟨_, rfl⟩
    have hv : t'.val = t.val - 1 := by rw [ht']
    have e := carry_at m c t' h 0
    rw [D_at m c t' h3 h4 _ 0 h (ih t' (by omega))] at e
    rw [show 512 * (31 - t.val) + 512 = 512 * (31 - t'.val) + (0 : Fin 512).val by show _ = _ + 0; omega, ← e]
    subst ht'
    rfl

theorem G_at (s : Fin 512) (l : Fin 128) (R : Fin 16384) (hR : R.val = 512 * (31 - t.val) + s.val) :
    G (iblk m c 1 t) (iblk m c 0 t) (cin m c t) (iblk m c 3 t) (iblk m c 4 t) s l = lane (gff (A3 m c) (A4 m c) (A7 m c) (A8 m c) R) l := by
  unfold G lane
  by_cases hl : 16 ≤ l.val ∧ l.val < 24
  · rw [dif_pos hl, dif_pos hl, D_at m c t h3 h4 _ s _ (cin_eq m c h3 h4 _ t.val t rfl), f_blk m c t s l R hR, b_blk,
      show (⟨512 + l.val, by omega⟩ : Fin 640) = ⟨528 + (⟨l.val - 16, by omega⟩ : Fin 8).val, by dsimp only; omega⟩ from Fin.ext (by dsimp only; omega), V_ff]
    have vb : V m c main_v5 (ix2 0 l) = A8 m c (ix2 0 ⟨l.val - 16, by omega⟩) :=
      (congrArg (fun x : Fin 128 => V m c main_v5 (ix2 0 x)) (Fin.ext (by dsimp only; omega))).trans (V_b m c ⟨l.val - 16, by omega⟩)
    rw [vb]
    unfold gff gu
    rw [hR, zero_sub]
  · rw [dif_neg hl, dif_neg hl, zero_mul]

theorem grp_last (t : Fin cfg0.N) (ht : t.val + 1 = cfg0.N) (r : Fin 8) (l : Fin 128) :
    (outsAt0 m c t.val t.isLt).2.2.1 (ix2 r l)
      = ∑ w : Fin 2048, lane (gff (A3 m c) (A4 m c) (A7 m c) (A8 m c) ⟨w.val * 8 + r.val, by omega⟩) l := by
  have hterm : ∀ t : Fin cfg0.N, (∑ w : Fin 64, G (iblk m c 1 t) (iblk m c 0 t) (cin m c t) (iblk m c 3 t) (iblk m c 4 t) ⟨w.val * 8 + r.val, by omega⟩ l)
      = ∑ w : Fin 64, lane (gff (A3 m c) (A4 m c) (A7 m c) (A8 m c) ⟨512 * (31 - t.val) + (w.val * 8 + r.val), by omega⟩) l := fun t =>
    Finset.sum_congr rfl fun w _ => G_at m c t h3 h4 _ l _ rfl
  rw [Pipeline.eq_sum_fin_of_reset_step_apply_last (fun n h (_ : Unit) => (outsAt0 m c n h).2.2.1 (ix2 r l)) 32 (fun _ => (0 : EReal))
    (fun t _ => ∑ w : Fin 64, G (iblk m c 1 t) (iblk m c 0 t) (cin m c t) (iblk m c 3 t) (iblk m c 4 t) ⟨w.val * 8 + r.val, by omega⟩ l)
    (fun t h _ => by rw [cin_A m c t h, zero_add]; exact grp_A m c t h r l)
    (fun t h _ => by rw [cin_B m c t h]; exact grp_B m c t h r l) (le_of_eq N_0) t ht (), zero_add]
  simp only [hterm]
  rw [← Fin.sum_mul_add_fin 32 64 fun w : Fin 2048 => lane (gff (A3 m c) (A4 m c) (A7 m c) (A8 m c) ⟨w.val * 8 + r.val, by omega⟩) l,
    ← Equiv.sum_comp (Fin.revPerm (n := 32))]
  refine Finset.sum_congr rfl fun (t : Fin 32) _ => Finset.sum_congr rfl fun w _ => ?_
  congr 2
  refine Fin.ext ?_
  show 512 * (31 - t.val) + (w.val * 8 + r.val) = ((Fin.rev t).val * 64 + w.val) * 8 + r.val
  rw [Fin.val_rev]
  omega

end blocks

section final
variable (c : Dev nD)

theorem P_packed (t : Fin cfg0.N) (s : Fin 512) (q : Fin 2560) (R : Fin 16384) (hR : R.val = 512 * (31 - t.val) + s.val) :
    P (iblk m c 0 t) (iblk m c 1 t) (iblk m c 2 t) s q = packed (A0 m c) (A1 m c) (A2 m c) R q := by
  unfold packed
  by_cases h0 : q.val < 1024
  · rw [P_q _ _ _ s q ⟨q.val, h0⟩ rfl, dif_pos h0]
    by_cases h1 : q.val % 128 < 64
    · rw [if_pos h1, dif_pos h1, q_blk m c t _ s R hR,
        show (⟨q.val, h0⟩ : Fin 1024) = ⟨128 * (⟨q.val / 128, by omega⟩ : Fin 8).val + (⟨q.val % 128, by omega⟩ : Fin 128).val, by dsimp only; omega⟩ from
          Fin.ext (by dsimp only; omega), V_q_head m c _ _ h1]
    · rw [if_neg h1, dif_neg h1]
  · rw [dif_neg h0]
    by_cases h2 : q.val < 2048
    · rw [P_k _ _ _ s q ⟨q.val - 1024, by omega⟩ (by dsimp only; omega), dif_pos h2]
      by_cases h1 : (q.val - 1024) % 128 < 64
      · rw [if_pos h1, dif_pos h1, k_blk m c t _ s R hR,
          show (⟨q.val - 1024, by omega⟩ : Fin 1024) = ⟨128 * (⟨(q.val - 1024) / 128, by omega⟩ : Fin 8).val + (⟨(q.val - 1024) % 128, by omega⟩ : Fin 128).val, by dsimp only; omega⟩ from
            Fin.ext (by dsimp only; omega), V_k_head m c _ _ h1]
      · rw [if_neg h1, dif_neg h1]
    · rw [P_v _ _ _ s q ⟨q.val - 2048, by omega⟩ (by dsimp only; omega), dif_neg h2, v_blk m c t _ s R hR, V_v]

theorem cover5 (R : Fin 16384) (q : Fin 8192) (hq : q.val < 2560) (t : Fin cfg0.N) (ht : t.val = 31 - R.val / 512) :
    (ix2 R q : S16384x8192.Idx) ∈ ((cfg0.win 5).blk t).view.set := by
  show (ix2 R q : S16384x8192.Idx) ∈ ((View.whole main_v25_0).slice (win0_5.rect t)).set
  rw [View.set_slice_whole, Rect.mem_set_unit]
  obtain ⟨⟨e0, e1⟩, -⟩ := idx_out t
  intro a
  match a with
  | ⟨0, _⟩ =>
    show win0_5.index t 0 * 512 ≤ R.val ∧ R.val < win0_5.index t 0 * 512 + (Pipeline.Clip.of (win0_5.index t 0) 512 16384).extent 512
    rw [e0, Pipeline.Clip.extent_of_inb (by omega)]
    omega
  | ⟨1, _⟩ =>
    show win0_5.index t 1 * 2560 ≤ q.val ∧ q.val < win0_5.index t 1 * 2560 + (Pipeline.Clip.of (win0_5.index t 1) 2560 8192).extent 2560
    rw [e1, Pipeline.Clip.extent_of_inb (by omega)]
    omega

theorem off5 (R : Fin 16384) (q : Fin 8192) (hq : ¬q.val < 2560) (t : Fin cfg0.N) :
    (ix2 R q : S16384x8192.Idx) ∉ ((cfg0.win 5).blk t).view.set := by
  show (ix2 R q : S16384x8192.Idx) ∉ ((View.whole main_v25_0).slice (win0_5.rect t)).set
  rw [View.set_slice_whole, Rect.mem_set_unit]
  obtain ⟨⟨e0, e1⟩, -⟩ := idx_out t
  intro h
  have h' : win0_5.index t 1 * 2560 ≤ q.val ∧ q.val < win0_5.index t 1 * 2560 + (Pipeline.Clip.of (win0_5.index t 1) 2560 8192).extent 2560 := h 1
  rw [e1, Pipeline.Clip.extent_of_inb (by omega)] at h'
  omega

theorem final5 : (dats m 0 c).arrAt 5 cfg0.N = val_main_v27 (F := Ideal) (A0 m c) (A1 m c) (A2 m c) (A9 m c) := by
  funext i
  obtain ⟨R, q, rfl⟩ : ∃ (R : Fin 16384) (q : Fin 8192), i = ix2 R q := ⟨i 0, i 1, (ix2_eta i).symm⟩
  by_cases hq : q.val < 2560
  · obtain ⟨t, ht⟩ : ∃ t : Fin cfg0.N, t.val = 31 - R.val / 512 := ⟨⟨_, by have : cfg0.N = 32 := N_0; omega⟩, rfl⟩
    obtain ⟨y, -, hy⟩ := Finset.mem_map.mp (cover5 R q hq t ht)
    obtain ⟨⟨e0, e1⟩, -⟩ := idx_out t
    have y0 : win0_5.index t 0 * 512 + 1 * (y 0).val = R.val := congrArg (fun i : S16384x8192.Idx => (i 0).val) hy
    have y1 : win0_5.index t 1 * 2560 + 1 * (y 1).val = q.val := congrArg (fun i : S16384x8192.Idx => (i 1).val) hy
    rw [e0] at y0
    rw [e1] at y1
    have e := congrFun (Value.blocks5 m c t (flush0_5 t)) y
    rw [Value.flushed5] at e
    have e' : (dats m 0 c).arrAt 5 cfg0.N (((cfg0.win 5).blk t).view.emb y) = (outsAt0 m c t.val t.isLt).1 (ix2 ⟨(y 0).val, by omega⟩ ⟨(y 1).val, by omega⟩) := by
      refine Eq.trans e ?_
      refine congrArg (outsAt0 m c t.val t.isLt).1 (?_ : (cfg0.win 5).xinj (grid0.coords t) y = (ix2 ⟨(y 0).val, by omega⟩ ⟨(y 1).val, by omega⟩ : S512x2560.Idx))
      funext a
      apply Fin.ext
      match a with
      | ⟨0, _⟩ => rfl
      | ⟨1, _⟩ => rfl
    have hy' : ((cfg0.win 5).blk t).view.emb y = (ix2 R q : S16384x8192.Idx) := hy
    rw [hy', out_P] at e'
    refine e'.trans ?_
    refine (P_packed m c t ⟨(y 0).val, by omega⟩ ⟨(y 1).val, by omega⟩ R (by dsimp only; omega)).trans ?_
    rw [← v27_in _ _ _ (A9 m c)]
    congr 2
    exact Fin.ext (by dsimp only; omega)
  · rw [Value.entry5 m c _ fun t _ => off5 R q hq t, v27_out _ _ _ _ R q (by omega)]
    exact congrFun (V_out m c) _

variable (h3 : ∀ i, Rl (A3 m c i)) (h4 : ∀ i, Rl (A4 m c i)) (h7 : ∀ i, Rl (A7 m c i)) (h8 : ∀ i, Rl (A8 m c i))
include h3 h4 h7 h8

theorem final6 : (dats m 0 c).arrAt 6 cfg0.N = val_main_v29 (F := Ideal) (A3 m c) (A4 m c) (A7 m c) (A8 m c) := by
  funext i
  refine (dats m 0 c).arrAt_forall_of_cover 6 (fun i v => v = val_main_v29 (F := Ideal) (A3 m c) (A4 m c) (A7 m c) (A8 m c) i) ?_ ?_ i
  · intro t hf y
    have ht := lt32 t
    obtain ⟨s, l, rfl⟩ : ∃ (s : Fin 512) (l : Fin 128), y = ix2 s l := ⟨y 0, y 1, (ix2_eta y).symm⟩
    obtain ⟨-, ⟨e0, e1⟩, -⟩ := idx_out t
    obtain ⟨R, hR⟩ : ∃ R : Fin 16384, R.val = 512 * (31 - t.val) + s.val := ⟨⟨_, by omega⟩, rfl⟩
    have he : (((cfg0.win 6).blk t).view.emb (ix2 s l : S512x128.Idx) : S16384x128.Idx) = ix2 R l := by
      funext a
      apply Fin.ext
      match a with
      | ⟨0, _⟩ => show win0_6.index t 0 * 512 + 1 * s.val = R.val; rw [e0]; omega
      | ⟨1, _⟩ => show win0_6.index t 1 * 128 + 1 * l.val = l.val; rw [e1]; omega
    show (dats m 0 c).flushed 6 t (ix2 s l : S512x128.Idx) = val_main_v29 (F := Ideal) _ _ _ _ (((cfg0.win 6).blk t).view.emb (ix2 s l : S512x128.Idx))
    rw [he, Value.flushed6, v29_apply _ _ _ _ R l h7 h8]
    show (outsAt0 m c t.val t.isLt).2.1 (ix2 s l) = _
    rw [ps_at, G_at m c t h3 h4 s l R hR]
  · intro i
    have i0 : (i 0).val < 16384 := (i 0).isLt
    have i1 : (i 1).val < 128 := (i 1).isLt
    obtain ⟨t, ht⟩ : ∃ t : Fin cfg0.N, t.val = 31 - (i 0).val / 512 := ⟨⟨_, by have : cfg0.N = 32 := N_0; omega⟩, rfl⟩
    refine ⟨t, flush0_6 t, ?_⟩
    show i ∈ ((View.whole main_v25_1).slice (win0_6.rect t)).set
    rw [View.set_slice_whole, Rect.mem_set_unit]
    obtain ⟨-, ⟨e0, e1⟩, -⟩ := idx_out t
    intro a
    match a with
    | ⟨0, _⟩ => show win0_6.index t 0 * 512 ≤ (i 0).val ∧ (i 0).val < win0_6.index t 0 * 512 + 512; rw [e0]; omega
    | ⟨1, _⟩ => show win0_6.index t 1 * 128 ≤ (i 1).val ∧ (i 1).val < win0_6.index t 1 * 128 + 128; rw [e1]; omega

theorem final7 : (dats m 0 c).arrAt 7 cfg0.N = val_main_v33 (F := Ideal) (A3 m c) (A4 m c) (A7 m c) (A8 m c) := by
  funext i
  refine (dats m 0 c).arrAt_forall_of_cover 7 (fun i v => v = val_main_v33 (F := Ideal) (A3 m c) (A4 m c) (A7 m c) (A8 m c) i) ?_ ?_ i
  · intro t hf y
    have ht : t.val + 1 = cfg0.N := by have := (flush0_7 t).mp hf; have := lt32 t; have e : cfg0.N = 32 := N_0; omega
    obtain ⟨r, l, rfl⟩ : ∃ (r : Fin 8) (l : Fin 128), y = ix2 r l := ⟨y 0, y 1, (ix2_eta y).symm⟩
    obtain ⟨-, -, e0, e1⟩ := idx_out t
    have he : (((cfg0.win 7).blk t).view.emb (ix2 r l : S8x128.Idx) : S8x128.Idx) = ix2 r l := by
      funext a
      apply Fin.ext
      match a with
      | ⟨0, _⟩ => show win0_7.index t 0 * 8 + 1 * r.val = r.val; rw [e0]; omega
      | ⟨1, _⟩ => show win0_7.index t 1 * 128 + 1 * l.val = l.val; rw [e1]; omega
    show (dats m 0 c).flushed 7 t (ix2 r l : S8x128.Idx) = val_main_v33 (F := Ideal) _ _ _ _ (((cfg0.win 7).blk t).view.emb (ix2 r l : S8x128.Idx))
    rw [he, Value.flushed7, v33_apply _ _ _ _ r l h7 h8]
    exact grp_last m c h3 h4 t ht r l
  · intro i
    obtain ⟨t, ht⟩ : ∃ t : Fin cfg0.N, t.val = 31 := ⟨⟨31, by have : cfg0.N = 32 := N_0; omega⟩, rfl⟩
    refine ⟨t, (flush0_7 t).mpr (by omega), ?_⟩
    show i ∈ ((View.whole main_v25_2).slice (win0_7.rect t)).set
    rw [View.set_slice_whole, Rect.mem_set_unit]
    obtain ⟨-, -, e0, e1⟩ := idx_out t
    have i0 : (i 0).val < 8 := (i 0).isLt
    have i1 : (i 1).val < 128 := (i 1).isLt
    intro a
    match a with
    | ⟨0, _⟩ => show win0_7.index t 0 * 8 ≤ (i 0).val ∧ (i 0).val < win0_7.index t 0 * 8 + 8; rw [e0]; omega
    | ⟨1, _⟩ => show win0_7.index t 1 * 128 ≤ (i 1).val ∧ (i 1).val < win0_7.index t 1 * 128 + 128; rw [e1]; omega

end final
end Cert.FoxgIdeal.Hand
-- ==== Proof.FoxgClaims.lean ====
/-
  The claims about the gradient of the forgetting gate and of the columns it is packed into: the frames, and the kernel's three results against the
  reference's, where the arguments the gate reads are real numbers.
-/
module

public import proofs.«01_k».proof.Defs
public import proofs.«01_k».proof.Proof.Gen.Foxg.Frame
public import proofs.«01_k».proof.Proof.FoxgFinal
public import Idealize.ShloMosaic.Lib.Quiescent

@[expose] public section

noncomputable section

namespace Cert.FoxgClaims

open Idealize.ShloMosaic Idealize.ShloMosaic.TcCoe Idealize.SL.Sem Cert.RealMath
open Cert.FoxgIdeal.Hand (A0 A1 A2 A3 A4 A7 A8 A9)
open Cert.FoxgRefIdeal.Read

local instance : Cert.Foxg.Facts := Cert.Foxg.Gen.facts
local instance : Cert.FoxgIdeal.Facts := Cert.FoxgIdeal.Gen.facts
local instance : Cert.FoxgRefIdeal.Facts := Cert.FoxgRefIdeal.Gen.facts

theorem pre : Cert.Pre_foxg_finite.Facts := ⟨by decide, by decide, by decide⟩

local instance : Cert.Pre_foxg_finite.Facts := pre

theorem frame : Cert.quiescent_Foxg := fun m g _ => Cert.Foxg.Gen.frame m g

theorem frameIdeal : Cert.quiescent_FoxgIdeal := fun m g _ => Cert.FoxgIdeal.Gen.frame m g

theorem frameRef : Cert.quiescent_FoxgRefIdeal := fun m g _ =>
  (θ_run Cert.FoxgRefIdeal.defs _ _).mono (fun r h => ⟨fun c => (h c).2.2.2, sem_eq_zero_of_no_sems (by decide) r.2⟩)
    (Cert.FoxgRefIdeal.Value.run m g)

theorem value : Cert.algebraic_FoxgIdeal_FoxgRefIdeal_pre_foxg_finite := fun m g m' g' hpre hagree =>
  have h3 := fun c => finite_of _ _ (hpre c).1
  have h4 := fun c => finite_of _ _ (hpre c).2.1
  have h7 := fun c => finite_of _ _ (hpre c).2.2.1
  have h8 := fun c => finite_of _ _ (hpre c).2.2.2
  ⟨fun c => val_main_v27 (F := Ideal) (A0 m c) (A1 m c) (A2 m c) (A9 m c),
    fun c => val_main_v29 (F := Ideal) (A3 m c) (A4 m c) (A7 m c) (A8 m c),
    fun c => val_main_v33 (F := Ideal) (A3 m c) (A4 m c) (A7 m c) (A8 m c),
    (θ_run Cert.FoxgIdeal.defs _ _).mono (fun _ h c => ⟨(h c).1.trans (Cert.FoxgIdeal.Hand.final5 m c),
        (h c).2.1.trans (Cert.FoxgIdeal.Hand.final6 m c (h3 c) (h4 c) (h7 c) (h8 c)),
        (h c).2.2.1.trans (Cert.FoxgIdeal.Hand.final7 m c (h3 c) (h4 c) (h7 c) (h8 c)), (h c).2.2.2⟩)
      (Cert.FoxgIdeal.Value.run_blocks m g),
    (θ_run Cert.FoxgRefIdeal.defs _ _).mono (fun _ h c => ⟨(h c).1.trans (by
          rw [val_main_v27_eq]
          rw [(hagree c).1, (hagree c).2.1, (hagree c).2.2.1, (hagree c).2.2.2.2.2.2.2.2.2]),
        (h c).2.1.trans (by
          rw [val_main_v29_eq]
          rw [(hagree c).2.2.2.1, (hagree c).2.2.2.2.1, (hagree c).2.2.2.2.2.2.2.1, (hagree c).2.2.2.2.2.2.2.2.1]),
        (h c).2.2.1.trans (by
          rw [val_main_v33_eq]
          rw [(hagree c).2.2.2.1, (hagree c).2.2.2.2.1, (hagree c).2.2.2.2.2.2.2.1, (hagree c).2.2.2.2.2.2.2.2.1]),
        (h c).2.2.2⟩)
      (Cert.FoxgRefIdeal.Value.run m' g')⟩

end Cert.FoxgClaims
-- ==== Proof.MemkvVal.lean ====
/-
  The gradient of the memory tokens' norm and projection: the two arrays the kernel leaves, element by element, are the
  `jax.vjp` reference's. The weight's gradient is a sum over the 256 tokens, the gain's a sum over every eighth token of
  the normed token times the cotangent's row with the weight's.
-/
module

public import proofs.«01_k».proof.Proof.Gen.MemkvIdeal.Value
public import proofs.«01_k».proof.Proof.Gen.MemkvRefIdeal.Read
public import proofs.«01_k».proof.Proof.RmsMath
public import Idealize.ShloMosaic.Lib.Pointwise
public import Idealize.ShloMosaic.Lib.Claim

@[expose] public section

set_option maxRecDepth 16384

noncomputable section

namespace Cert.MemkvIdeal.Hand

open Cert.MemkvIdeal Cert.MemkvIdeal.Gen Idealize.ShloMosaic Idealize.ShloMosaic.TcCoe Idealize.SL.Sem Cert.RealMath
open Cert.MemkvRefIdeal.Read
open Idealize.ShloMosaic.Pipeline (Dat)

theorem hz : (![0, 0] : Fin 2 → Nat) = fun _ => 0 := funext fun a => by fin_cases a <;> rfl

/-- The token that row `s` of eight takes from its `q`-th group. -/
def row8 (s : Fin 8) (q : Fin 32) : Fin 256 := ⟨q.val * 8 + s.val, by omega⟩

section pays
variable (d x : Vec Ideal S256x1024 .f32) (n : Vec Ideal S256x1024 .bf16) (w : Vec Ideal S1024x1024 .bf16)

theorem pay2_apply (i j : Fin 1024) : k0_pay2 d n (ix2 i j) = ∑ k : Fin 256, n (ix2 k i) * d (ix2 k j) := by
  pointwise [k0_pay2, k0_pay1]

theorem pay3_apply (s : Fin 8) (j : Fin 1024) :
    k0_pay3 d x w (ix2 s j) = ∑ q, (∑ k : Fin 1024, d (ix2 (row8 s q) k) * w (ix2 j k)) * rmsX (fun k => x (ix2 (row8 s q) k)) j := by
  pointwise [k0_pay3, k0_pay1, rmsX, rmsR, rmsV, cN, cE, row8]

end pays

section ref
variable (x0 : FVec Ideal S1x256x1024 .f32) (x1 : FVec Ideal S1x1024 .f32) (x2 : FVec Ideal S1x1024x1024 .f32) (x3 : FVec Ideal S256x1024 .f32)

/-- The normed tokens. -/
theorem ref12_apply (r : Fin 256) (j : Fin 1024) : val_main_v12 (F := Ideal) x0 (ix2 r j) = rmsX (fun k => x0 (ix3 0 r k)) j := by
  pointwise [val_main_v12, val_main_v11, val_main_v10, val_main_v9, val_main_v8, val_main_v7, val_main_v6, val_main_v5, val_main_v4, val_main_v3, val_main_v2,
    val_main_cst, val_main_cst_0, val_main_cst_1, rmsX, rmsR, rmsV, cN, cE]

theorem ref19_apply (i j : Fin 1024) :
    val_main_v19 (F := Ideal) x0 x1 x3 (ix2 i j) = ∑ k : Fin 256, x3 (ix2 k j) * val_main_v13 (F := Ideal) x0 x1 (ix2 k i) := by
  pointwise [val_main_v19, val_main_v16, val_main_v15]

theorem ref21_apply (s : Fin 8) (j : Fin 1024) :
    val_main_v21 (F := Ideal) x0 x2 x3 (ix2 s j) = ∑ q, val_main_v12 (F := Ideal) x0 (ix2 (row8 s q) j) * ∑ k : Fin 1024, x3 (ix2 (row8 s q) k) * x2 (ix3 0 j k) := by
  pointwise [val_main_v21, val_main_v20, val_main_v18, val_main_v17, val_main_v1, val_main_cst_2, row8]

end ref

variable (m : (ℓ : Loc nD τ sig) → Buf (Elt Ideal) ℓ)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)

/-- The saved tokens as the region finds them: the reference's normed tokens with the gain. -/
theorem V_n (c : Dev nD) (r : Fin 256) (k : Fin 1024) : V m c main_v15 (ix2 r k) = val_main_v13 (F := Ideal) (A0 m c) (A1 m c) (ix2 r k) := by
  have e : V m c main_v15 = (truncf .bf16 (val_main_v13 (F := Ideal) (A0 m c) (A1 m c)) bitsLt_bf16_f32 : FVec Ideal S256x1024 .bf16) := by
    dsimp only [V, hostOps0]
    after_results
    rfl
  rw [e]
  rfl

theorem drop_w (x : FVec Ideal S1x1024x1024 .f32) (q k : Fin 1024) :
    shapeCast S1024x1024 x shapeCasts_S1x1024x1024_S1024x1024 (ix2 q k) = x (ix3 0 q k) := by
  pointwise []

theorem drop_x (x : FVec Ideal S1x256x1024 .f32) (q : Fin 256) (k : Fin 1024) :
    shapeCast S256x1024 x shapeCasts_S1x256x1024_S256x1024 (ix2 q k) = x (ix3 0 q k) := by
  pointwise []

theorem V_w (c : Dev nD) (q k : Fin 1024) : V m c main_v1 (ix2 q k) = A2 m c (ix3 0 q k) := by
  have e : V m c main_v1 = (truncf .bf16 (shapeCast S1024x1024 (A2 m c) shapeCasts_S1x1024x1024_S1024x1024) bitsLt_bf16_f32 : FVec Ideal S1024x1024 .bf16) := by
    dsimp only [V, hostOps0]
    after_results
    rfl
  rw [e]
  exact drop_w _ q k

theorem V_x (c : Dev nD) (q : Fin 256) (k : Fin 1024) : V m c main_v16 (ix2 q k) = A0 m c (ix3 0 q k) := by
  have e : V m c main_v16 = (shapeCast S256x1024 (A0 m c) shapeCasts_S1x256x1024_S256x1024 : FVec Ideal S256x1024 .f32) := by
    dsimp only [V, hostOps0]
    after_results
    rfl
  rw [e]
  exact drop_x _ q k

/-- Every window is its whole array, at the only point. -/
theorem idx_in : ∀ (t : Fin cfg0.N) (a : Fin 2), win0_0.index t a = 0 ∧ win0_2.index t a = 0 ∧ win0_3.index t a = 0 ∧ win0_4.index t a = 0
    ∧ win0_5.index t a = 0 ∧ win0_6.index t a = 0 :=
  (by decide +kernel : ∀ (t : Fin grid0.N) (a : Fin 2), win0_0.index t a = 0 ∧ win0_2.index t a = 0 ∧ win0_3.index t a = 0 ∧ win0_4.index t a = 0
    ∧ win0_5.index t a = 0 ∧ win0_6.index t a = 0)

section blocks
variable (c : Dev nD) (t : Fin cfg0.N)

theorem blk0 (r : Fin 256) (k : Fin 1024) : iblk m c 0 t (ix2 r k) = A0 m c (ix3 0 r k) := by
  rw [← V_x m c]
  show V m c main_v16 _ = V m c main_v16 _
  congr 1
  funext a
  apply Fin.ext
  match a with
  | ⟨0, _⟩ => show win0_0.index t 0 * 256 + 1 * r.val = r.val; rw [(idx_in t 0).1]; omega
  | ⟨1, _⟩ => show win0_0.index t 1 * 1024 + 1 * k.val = k.val; rw [(idx_in t 1).1]; omega

theorem blk2 (r : Fin 256) (k : Fin 1024) : iblk m c 2 t (ix2 r k) = val_main_v13 (F := Ideal) (A0 m c) (A1 m c) (ix2 r k) := by
  rw [← V_n m c]
  show V m c main_v15 _ = V m c main_v15 _
  congr 1
  funext a
  apply Fin.ext
  match a with
  | ⟨0, _⟩ => show win0_2.index t 0 * 256 + 1 * r.val = r.val; rw [(idx_in t 0).2.1]; omega
  | ⟨1, _⟩ => show win0_2.index t 1 * 1024 + 1 * k.val = k.val; rw [(idx_in t 1).2.1]; omega

theorem blk3 (r k : Fin 1024) : iblk m c 3 t (ix2 r k) = A2 m c (ix3 0 r k) := by
  rw [← V_w m c]
  show V m c main_v1 _ = V m c main_v1 _
  congr 1
  funext a
  apply Fin.ext
  match a with
  | ⟨0, _⟩ => show win0_3.index t 0 * 1024 + 1 * r.val = r.val; rw [(idx_in t 0).2.2.1]; omega
  | ⟨1, _⟩ => show win0_3.index t 1 * 1024 + 1 * k.val = k.val; rw [(idx_in t 1).2.2.1]; omega

theorem blk4 (r : Fin 256) (k : Fin 1024) : iblk m c 4 t (ix2 r k) = A3 m c (ix2 r k) := by
  unfold A3
  rw [← V_main_arg3 m c]
  show V m c main_arg3 _ = V m c main_arg3 _
  congr 1
  funext a
  apply Fin.ext
  match a with
  | ⟨0, _⟩ => show win0_4.index t 0 * 256 + 1 * r.val = r.val; rw [(idx_in t 0).2.2.2.1]; omega
  | ⟨1, _⟩ => show win0_4.index t 1 * 1024 + 1 * k.val = k.val; rw [(idx_in t 1).2.2.2.1]; omega

end blocks

theorem cover5 (i : S1024x1024.Idx) : ∃ t : Fin cfg0.N, (cfg0.win 5).flush t = true ∧ i ∈ ((cfg0.win 5).blk t).view.set := by
  have h0 : (i 0).val < 1024 := (i 0).isLt
  have h1 : (i 1).val < 1024 := (i 1).isLt
  have hN : cfg0.N = 1 := N_0
  obtain ⟨t, ht⟩ : ∃ t : Fin cfg0.N, t.val = 0 := ⟨⟨_, by omega⟩, rfl⟩
  refine ⟨t, flush0_5 t, ?_⟩
  show i ∈ ((View.whole main_v17_0).slice (win0_5.rect t)).set
  rw [View.set_slice_whole, Rect.mem_set_unit]
  intro a
  match a with
  | ⟨0, _⟩ => show win0_5.index t 0 * 1024 ≤ (i 0 : Nat) ∧ (i 0 : Nat) < win0_5.index t 0 * 1024 + 1024; rw [(idx_in t 0).2.2.2.2.1]; omega
  | ⟨1, _⟩ => show win0_5.index t 1 * 1024 ≤ (i 1 : Nat) ∧ (i 1 : Nat) < win0_5.index t 1 * 1024 + 1024; rw [(idx_in t 1).2.2.2.2.1]; omega

theorem cover6 (i : S8x1024.Idx) : ∃ t : Fin cfg0.N, (cfg0.win 6).flush t = true ∧ i ∈ ((cfg0.win 6).blk t).view.set := by
  have h0 : (i 0).val < 8 := (i 0).isLt
  have h1 : (i 1).val < 1024 := (i 1).isLt
  have hN : cfg0.N = 1 := N_0
  obtain ⟨t, ht⟩ : ∃ t : Fin cfg0.N, t.val = 0 := ⟨⟨_, by omega⟩, rfl⟩
  refine ⟨t, flush0_6 t, ?_⟩
  show i ∈ ((View.whole main_v17_1).slice (win0_6.rect t)).set
  rw [View.set_slice_whole, Rect.mem_set_unit]
  intro a
  match a with
  | ⟨0, _⟩ => show win0_6.index t 0 * 8 ≤ (i 0 : Nat) ∧ (i 0 : Nat) < win0_6.index t 0 * 8 + 8; rw [(idx_in t 0).2.2.2.2.2]; omega
  | ⟨1, _⟩ => show win0_6.index t 1 * 1024 ≤ (i 1 : Nat) ∧ (i 1 : Nat) < win0_6.index t 1 * 1024 + 1024; rw [(idx_in t 1).2.2.2.2.2]; omega

/-- The weight's gradient. -/
theorem final5 (c : Dev nD) : (dats m 0 c).arrAt 5 cfg0.N = val_main_v19 (F := Ideal) (A0 m c) (A1 m c) (A3 m c) := by
  funext i
  refine (dats m 0 c).arrAt_forall_of_cover 5 (fun i v => v = val_main_v19 (F := Ideal) (A0 m c) (A1 m c) (A3 m c) i) ?_ cover5 i
  intro t _ y
  obtain ⟨r, l, rfl⟩ : ∃ r l : Fin 1024, y = ix2 r l := ⟨y 0, y 1, (ix2_eta y).symm⟩
  have he : (((cfg0.win 5).blk t).view.emb (ix2 r l : S1024x1024.Idx) : S1024x1024.Idx) = ix2 r l := by
    funext a
    apply Fin.ext
    match a with
    | ⟨0, _⟩ => show win0_5.index t 0 * 1024 + 1 * r.val = r.val; rw [(idx_in t 0).2.2.2.2.1]; omega
    | ⟨1, _⟩ => show win0_5.index t 1 * 1024 + 1 * l.val = l.val; rw [(idx_in t 1).2.2.2.2.1]; omega
  show (dats m 0 c).flushed 5 t (ix2 r l : S1024x1024.Idx) = val_main_v19 (F := Ideal) _ _ _ (((cfg0.win 5).blk t).view.emb (ix2 r l : S1024x1024.Idx))
  rw [he, ref19_apply, Value.flushed5]
  show out0_5 (iblk m c 0 t) (iblk m c 1 t) (iblk m c 2 t) (iblk m c 3 t) (iblk m c 4 t) (ix2 r l) = _
  unfold out0_5
  rw [View.canon_unit_zero hz]
  simp only [View.ld_unit_zero (S := S256x1024) hz]
  rw [pay2_apply]
  refine Finset.sum_congr rfl fun k _ => ?_
  rw [blk2, blk4]
  exact mul_comm _ _

/-- The gain's gradient. -/
theorem final6 (c : Dev nD) : (dats m 0 c).arrAt 6 cfg0.N = val_main_v21 (F := Ideal) (A0 m c) (A2 m c) (A3 m c) := by
  funext i
  refine (dats m 0 c).arrAt_forall_of_cover 6 (fun i v => v = val_main_v21 (F := Ideal) (A0 m c) (A2 m c) (A3 m c) i) ?_ cover6 i
  intro t _ y
  obtain ⟨s, l, rfl⟩ : ∃ (s : Fin 8) (l : Fin 1024), y = ix2 s l := ⟨y 0, y 1, (ix2_eta y).symm⟩
  have he : (((cfg0.win 6).blk t).view.emb (ix2 s l : S8x1024.Idx) : S8x1024.Idx) = ix2 s l := by
    funext a
    apply Fin.ext
    match a with
    | ⟨0, _⟩ => show win0_6.index t 0 * 8 + 1 * s.val = s.val; rw [(idx_in t 0).2.2.2.2.2]; omega
    | ⟨1, _⟩ => show win0_6.index t 1 * 1024 + 1 * l.val = l.val; rw [(idx_in t 1).2.2.2.2.2]; omega
  show (dats m 0 c).flushed 6 t (ix2 s l : S8x1024.Idx) = val_main_v21 (F := Ideal) _ _ _ (((cfg0.win 6).blk t).view.emb (ix2 s l : S8x1024.Idx))
  rw [he, ref21_apply, Value.flushed6]
  show out0_6 (iblk m c 0 t) (iblk m c 1 t) (iblk m c 2 t) (iblk m c 3 t) (iblk m c 4 t) (ix2 s l) = _
  unfold out0_6
  rw [View.canon_unit_zero hz]
  simp only [View.ld_unit_zero (S := S256x1024) hz, View.ld_unit_zero (S := S1024x1024) hz]
  rw [pay3_apply]
  refine Finset.sum_congr rfl fun q _ => ?_
  rw [ref12_apply, mul_comm]
  refine congrArg₂ (· * ·) (congrArg (fun f => rmsX f l) (funext fun k => blk0 m c t _ k)) (Finset.sum_congr rfl fun k _ => ?_)
  rw [blk3, blk4]

end Cert.MemkvIdeal.Hand
-- ==== Proof.MemkvClaims.lean ====
/-
  The claims about the gradient of the memory tokens' norm and projection: the frames, and the kernel's two results against
  the reference's.
-/
module

public import proofs.«01_k».proof.Defs
public import proofs.«01_k».proof.Proof.MemkvVal
public import proofs.«01_k».proof.Proof.Gen.Memkv.Frame
public import proofs.«01_k».proof.Proof.Gen.MemkvRefIdeal.Run
public import Idealize.ShloMosaic.Lib.Quiescent

@[expose] public section

noncomputable section

namespace Cert.MemkvClaims

open Idealize.ShloMosaic Idealize.ShloMosaic.TcCoe Idealize.SL.Sem
open Cert.MemkvIdeal.Hand (A0 A1 A2 A3)
open Cert.MemkvRefIdeal.Read

local instance : Cert.Memkv.Facts := Cert.Memkv.Gen.facts
local instance : Cert.MemkvIdeal.Facts := Cert.MemkvIdeal.Gen.facts
local instance : Cert.MemkvRefIdeal.Facts := Cert.MemkvRefIdeal.Gen.facts

theorem frame : Cert.quiescent_Memkv := fun m g _ => Cert.Memkv.Gen.frame m g

theorem frameIdeal : Cert.quiescent_MemkvIdeal := fun m g _ => Cert.MemkvIdeal.Gen.frame m g

theorem frameRef : Cert.quiescent_MemkvRefIdeal := fun m g _ =>
  (θ_run Cert.MemkvRefIdeal.defs _ _).mono (fun r h => ⟨fun c => (h c).2.2, sem_eq_zero_of_no_sems (by decide) r.2⟩)
    (Cert.MemkvRefIdeal.Value.run m g)

theorem value : Cert.algebraic_MemkvIdeal_MemkvRefIdeal := fun m g m' g' _ hagree =>
  ⟨fun c => val_main_v19 (F := Ideal) (A0 m c) (A1 m c) (A3 m c), fun c => val_main_v21 (F := Ideal) (A0 m c) (A2 m c) (A3 m c),
    (θ_run Cert.MemkvIdeal.defs _ _).mono (fun _ h c => ⟨(h c).1.trans (Cert.MemkvIdeal.Hand.final5 m c),
        (h c).2.1.trans (Cert.MemkvIdeal.Hand.final6 m c), (h c).2.2⟩)
      (Cert.MemkvIdeal.Value.run_blocks m g),
    (θ_run Cert.MemkvRefIdeal.defs _ _).mono (fun _ h c => ⟨(h c).1.trans (by
          rw [val_main_v19_eq]
          rw [(hagree c).1, (hagree c).2.1, (hagree c).2.2.2]),
        (h c).2.1.trans (by
          rw [val_main_v21_eq]
          rw [(hagree c).1, (hagree c).2.2.1, (hagree c).2.2.2]), (h c).2.2⟩)
      (Cert.MemkvRefIdeal.Value.run m' g')⟩

end Cert.MemkvClaims
-- ==== Proof.MergeRef.lean ====
/-
  The gradient of the gated merge in the `jax.vjp` reference: each result element by element, of the three branches'
  outputs and projections, the gates' columns, the output projection and the cotangent.
-/
module

public import proofs.«01_k».proof.Proof.Gen.MergeRefIdeal.Read
public import Idealize.ShloMosaic.Lib.Pointwise

@[expose] public section

set_option maxRecDepth 16384

noncomputable section

namespace Cert.MergeRefIdeal.Hand

open Cert.MergeRefIdeal Cert.MergeRefIdeal.Gen Idealize.ShloMosaic Cert.MergeRefIdeal.Read

/-- The gate of branch `i`. -/
def sg (g : FVec Ideal S1x16384x3072 .f32) (i : Fin 3) (R : Fin 16384) (j : Fin 1024) : EReal :=
  Ideal.logistic (g (ix3 0 R ⟨i.val * 1024 + j.val, by omega⟩))

/-- The cotangent brought back through the output projection. -/
def dv (wo : FVec Ideal S1x1024x1024 .f32) (d : FVec Ideal S1x16384x1024 .f32) (R : Fin 16384) (j : Fin 1024) : EReal :=
  ∑ k : Fin 1024, d (ix3 0 R k) * wo (ix3 0 j k)

/-- A branch's output, projected. -/
def yv (o : FVec Ideal S1x16384x512 .f32) (w : FVec Ideal S1x512x1024 .f32) (R : Fin 16384) (j : Fin 1024) : EReal :=
  ∑ s : Fin 512, o (ix3 0 R s) * w (ix3 0 s j)

variable (o0 o1 o2 : FVec Ideal S1x16384x512 .f32) (w0 w1 w2 : FVec Ideal S1x512x1024 .f32) (g : FVec Ideal S1x16384x3072 .f32)
  (wo : FVec Ideal S1x1024x1024 .f32) (d : FVec Ideal S1x16384x1024 .f32)

theorem v1_apply (R : Fin 16384) (j : Fin 1024) : val_main_v1 (F := Ideal) o0 w0 (ix3 0 R j) = yv o0 w0 R j := by
  pointwise [val_main_v1, val_main_v0, yv]

theorem v3_apply (R : Fin 16384) (j : Fin 1024) : val_main_v3 (F := Ideal) o1 w1 (ix3 0 R j) = yv o1 w1 R j := v1_apply o1 w1 R j

theorem v5_apply (R : Fin 16384) (j : Fin 1024) : val_main_v5 (F := Ideal) o2 w2 (ix3 0 R j) = yv o2 w2 R j := v1_apply o2 w2 R j

theorem v29_apply (R : Fin 16384) (j : Fin 1024) : val_main_v29 (F := Ideal) wo d (ix3 0 R j) = dv wo d R j := by
  pointwise [val_main_v29, val_main_v6, dv]

theorem v13_apply (R : Fin 16384) (i : Fin 3) (j : Fin 1024) : val_main_v13 (F := Ideal) g (ix4 0 R i j) = sg g i R j := by
  pointwise [val_main_v13, val_main_v12, val_main_v11, val_main_v10, val_main_v9, val_main_v8, val_main_v7, val_main_cst, val_main_cst_0, sg, Ideal.logistic]

theorem v16_apply (R : Fin 16384) (i : Fin 3) (j : Fin 1024) : val_main_v16 (F := Ideal) g (ix4 0 R i j) = sg g i R j * (1 - sg g i R j) := by
  rw [← v13_apply]
  pointwise [val_main_v16, val_main_v15, val_main_v14, val_main_cst_1]

theorem v18_apply (R : Fin 16384) (j : Fin 1024) : val_main_v18 (F := Ideal) g (ix3 0 R j) = sg g 0 R j := by
  rw [← v13_apply]
  pointwise [val_main_v18, val_main_v17]

theorem v21_apply (R : Fin 16384) (j : Fin 1024) : val_main_v21 (F := Ideal) g (ix3 0 R j) = sg g 1 R j := by
  rw [← v13_apply]
  pointwise [val_main_v21, val_main_v20]

theorem v25_apply (R : Fin 16384) (j : Fin 1024) : val_main_v25 (F := Ideal) g (ix3 0 R j) = sg g 2 R j := by
  rw [← v13_apply]
  pointwise [val_main_v25, val_main_v24]

theorem v53_apply (R : Fin 16384) (j : Fin 1024) : val_main_v53 (F := Ideal) g wo d (ix2 R j) = sg g 0 R j * dv wo d R j := by
  rw [← v18_apply, ← v29_apply]
  pointwise [val_main_v53, val_main_v52, val_main_v39]

theorem v55_apply (R : Fin 16384) (j : Fin 1024) : val_main_v55 (F := Ideal) g wo d (ix2 R j) = sg g 1 R j * dv wo d R j := by
  rw [← v21_apply, ← v29_apply]
  pointwise [val_main_v55, val_main_v54, val_main_v34]

theorem v57_apply (R : Fin 16384) (j : Fin 1024) : val_main_v57 (F := Ideal) g wo d (ix2 R j) = sg g 2 R j * dv wo d R j := by
  rw [← v25_apply, ← v29_apply]
  pointwise [val_main_v57, val_main_v56, val_main_v30]

theorem v58_apply (R : Fin 16384) (s : Fin 512) :
    val_main_v58 (F := Ideal) w0 g wo d (ix2 R s) = ∑ j : Fin 1024, val_main_v53 (F := Ideal) g wo d (ix2 R j) * w0 (ix3 0 s j) := by
  pointwise [val_main_v58, val_main_v46, val_main_v0, val_main_v53, val_main_v52]

theorem v59_apply (R : Fin 16384) (s : Fin 512) :
    val_main_v59 (F := Ideal) w1 g wo d (ix2 R s) = ∑ j : Fin 1024, val_main_v55 (F := Ideal) g wo d (ix2 R j) * w1 (ix3 0 s j) := by
  pointwise [val_main_v59, val_main_v47, val_main_v2, val_main_v55, val_main_v54]

theorem v60_apply (R : Fin 16384) (s : Fin 512) :
    val_main_v60 (F := Ideal) w2 g wo d (ix2 R s) = ∑ j : Fin 1024, val_main_v57 (F := Ideal) g wo d (ix2 R j) * w2 (ix3 0 s j) := by
  pointwise [val_main_v60, val_main_v48, val_main_v4, val_main_v57, val_main_v56]

/-- The gates' cotangent before the gate's derivative: each branch adds into its own plane. -/
theorem v43_0 (R : Fin 16384) (j : Fin 1024) : val_main_v43 (F := Ideal) o0 o1 o2 w0 w1 w2 wo d (ix4 0 R 0 j) = dv wo d R j * yv o0 w0 R j := by
  rw [← v29_apply, ← v1_apply]
  pointwise [val_main_v43, val_main_v42, val_main_v41, val_main_v40, val_main_v38, val_main_v37, val_main_v33, val_main_cst_2, val_main_cst_3, val_main_cst_4]

theorem v43_1 (R : Fin 16384) (j : Fin 1024) : val_main_v43 (F := Ideal) o0 o1 o2 w0 w1 w2 wo d (ix4 0 R 1 j) = dv wo d R j * yv o1 w1 R j := by
  rw [← v29_apply, ← v3_apply]
  pointwise [val_main_v43, val_main_v42, val_main_v38, val_main_v37, val_main_v36, val_main_v35, val_main_v33, val_main_cst_2, val_main_cst_3, val_main_cst_4]

theorem v43_2 (R : Fin 16384) (j : Fin 1024) : val_main_v43 (F := Ideal) o0 o1 o2 w0 w1 w2 wo d (ix4 0 R 2 j) = dv wo d R j * yv o2 w2 R j := by
  rw [← v29_apply, ← v5_apply]
  pointwise [val_main_v43, val_main_v42, val_main_v38, val_main_v37, val_main_v33, val_main_v32, val_main_v31, val_main_cst_2, val_main_cst_3, val_main_cst_4]

theorem v51_apply (R : Fin 16384) (i : Fin 3) (j : Fin 1024) :
    val_main_v51 (F := Ideal) o0 o1 o2 w0 w1 w2 g wo d (ix2 R ⟨3072 + (i.val * 1024 + j.val), by omega⟩)
      = val_main_v43 (F := Ideal) o0 o1 o2 w0 w1 w2 wo d (ix4 0 R i j) * (sg g i R j * (1 - sg g i R j)) := by
  rw [← v16_apply]
  pointwise [val_main_v51, val_main_v50, val_main_v49, val_main_v45, val_main_v44]
  exact dif_pos (by omega)

end Cert.MergeRefIdeal.Hand
-- ==== Proof.MergeVal.lean ====
/-
  The gradient of the gated merge: the seven arrays the kernel leaves, element by element. A point of the grid takes 512
  rows; the three branches' gates are the thirds of a row of 3072 columns.
-/
module

public import proofs.«01_k».proof.Proof.Gen.MergeIdeal.Value
public import proofs.«01_k».proof.Proof.MergeRef
public import Idealize.ShloMosaic.Lib.Claim

@[expose] public section

set_option maxRecDepth 16384

noncomputable section

namespace Cert.MergeIdeal.Hand

open Cert.MergeIdeal Cert.MergeIdeal.Gen Idealize.ShloMosaic Idealize.ShloMosaic.TcCoe Idealize.SL.Sem
open Cert.MergeRefIdeal.Hand (sg dv yv)

theorem hz : (![0, 0] : Fin 2 → Nat) = fun _ => 0 := funext fun a => by fin_cases a <;> rfl

section pays
variable (a : Vec Ideal S512x1024 .bf16) (b : Vec Ideal S1024x1024 .bf16) (p w : Vec Ideal S512x1024 .bf16) (y : Vec Ideal S1x512x1024 .bf16)

theorem pay2_apply (r : Fin 512) (j : Fin 1024) : k0_pay2 a b (ix2 r j) = ∑ k : Fin 1024, a (ix2 r k) * b (ix2 j k) := by
  pointwise [k0_pay2]

theorem pay4_apply (r : Fin 512) (j : Fin 1024) : k0_pay4 a b p (ix2 r j) = k0_pay2 a b (ix2 r j) * Ideal.logistic (p (ix2 r j)) := by
  pointwise [k0_pay4, k0_pay3]

theorem pay5_apply (r s : Fin 512) : k0_pay5 a b p w (ix2 r s) = ∑ j : Fin 1024, k0_pay4 a b p (ix2 r j) * w (ix2 s j) := by
  pointwise [k0_pay5]

theorem pay6_apply (r : Fin 512) (j : Fin 1024) :
    k0_pay6 a b p y (ix2 r j) = k0_pay2 a b (ix2 r j) * y (ix3 0 r j) * (Ideal.logistic (p (ix2 r j)) * (1 - Ideal.logistic (p (ix2 r j)))) := by
  pointwise [k0_pay6, k0_pay3]

end pays

theorem ld_cols (x : Vec Ideal S512x3072 .bf16) (o : Nat) (h : ∀ a, ![0, o] a + S512x1024.size a ≤ S512x3072.size a) (r : Fin 512) (j : Fin 1024) (q : Fin 3072)
    (hq : q.val = o + j.val) : View.ld (Val := Elt Ideal) x (Rect.unit (s := S512x3072) ![0, o] S512x1024.size h) (ix2 r j) = x (ix2 r q) := by
  show x _ = x _
  congr 1
  funext a
  apply Fin.ext
  match a with
  | ⟨0, _⟩ => show 0 + 1 * r.val = r.val; omega
  | ⟨1, _⟩ => show o + 1 * j.val = q.val; omega

theorem ld_plane (x : Vec Ideal S3x512x1024 .bf16) (i : Fin 3) (o : Nat) (ho : i.val = o) (h : ∀ a, ![o, 0, 0] a + S1x512x1024.size a ≤ S3x512x1024.size a) (r : Fin 512) (j : Fin 1024) :
    View.ld (Val := Elt Ideal) x (Rect.unit (s := S3x512x1024) ![o, 0, 0] S1x512x1024.size h) (ix3 0 r j) = x (ix3 i r j) := by
  show x _ = x _
  congr 1
  funext a
  apply Fin.ext
  match a with
  | ⟨0, _⟩ => show o + 1 * 0 = i.val; omega
  | ⟨1, _⟩ => show 0 + 1 * r.val = r.val; omega
  | ⟨2, _⟩ => show 0 + 1 * j.val = j.val; omega

section host

/-- A branch's output, projected, as the host computes it. -/
def projY (o : FVec Ideal S1x16384x512 .f32) (w : FVec Ideal S1x512x1024 .f32) : FVec Ideal S1x16384x1024 .f32 :=
  broadcastInDim S1x16384x1024 ![1, 2] bcast_S16384x1024_S1x16384x1024_1_2
    (Host.dotGeneral dot_S16384x512_S512x1024_S16384x1024_1_0_0_1_n_n none (shapeCast S16384x512 o shapeCasts_S1x16384x512_S16384x512)
      (shapeCast S512x1024 w shapeCasts_S1x512x1024_S512x1024))

theorem projY_apply (o : FVec Ideal S1x16384x512 .f32) (w : FVec Ideal S1x512x1024 .f32) (R : Fin 16384) (j : Fin 1024) : projY o w (ix3 0 R j) = yv o w R j := by
  pointwise [projY, yv]

/-- The three projections, one plane each. -/
def planes (a b d : FVec Ideal S1x16384x1024 .f32) : FVec Ideal S3x16384x1024 .f32 :=
  concatenate S3x16384x1024 0 [⟨S1x16384x1024, a⟩, ⟨S1x16384x1024, b⟩, ⟨S1x16384x1024, d⟩] concatenates_S1x16384x1024_S1x16384x1024_S1x16384x1024_S3x16384x1024_d0

variable (a b d : FVec Ideal S1x16384x1024 .f32) (R : Fin 16384) (j : Fin 1024)

theorem planes_0 : planes a b d (ix3 0 R j) = a (ix3 0 R j) := by
  pointwise [planes]

theorem planes_1 : planes a b d (ix3 1 R j) = b (ix3 0 R j) := by
  pointwise [planes]

theorem planes_2 : planes a b d (ix3 2 R j) = d (ix3 0 R j) := by
  pointwise [planes]

theorem drop_g (x : FVec Ideal S1x16384x3072 .f32) (q : Fin 3072) : shapeCast S16384x3072 x shapeCasts_S1x16384x3072_S16384x3072 (ix2 R q) = x (ix3 0 R q) := by
  pointwise []

theorem drop_w (x : FVec Ideal S1x512x1024 .f32) (s : Fin 512) : shapeCast S512x1024 x shapeCasts_S1x512x1024_S512x1024 (ix2 s j) = x (ix3 0 s j) := by
  pointwise []

theorem drop_d (x : FVec Ideal S1x16384x1024 .f32) : shapeCast S16384x1024 x shapeCasts_S1x16384x1024_S16384x1024 (ix2 R j) = x (ix3 0 R j) := by
  pointwise []

theorem drop_o (x : FVec Ideal S1x1024x1024 .f32) (q : Fin 1024) : shapeCast S1024x1024 x shapeCasts_S1x1024x1024_S1024x1024 (ix2 q j) = x (ix3 0 q j) := by
  pointwise []

end host

variable (m : (ℓ : Loc nD τ sig) → Buf (Elt Ideal) ℓ) (c : Dev nD)

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)

theorem V_g (R : Fin 16384) (q : Fin 3072) : V m c main_v1 (ix2 R q) = A6 m c (ix3 0 R q) := by
  have e : V m c main_v1 = (truncf .bf16 (shapeCast S16384x3072 (A6 m c) shapeCasts_S1x16384x3072_S16384x3072) bitsLt_bf16_f32 : FVec Ideal S16384x3072 .bf16) := by
    dsimp only [V, hostOps0]
    after_results
    rfl
  rw [e]
  exact drop_g R _ q

theorem V_w0 (s : Fin 512) (j : Fin 1024) : V m c main_v3 (ix2 s j) = A3 m c (ix3 0 s j) := by
  have e : V m c main_v3 = (truncf .bf16 (shapeCast S512x1024 (A3 m c) shapeCasts_S1x512x1024_S512x1024) bitsLt_bf16_f32 : FVec Ideal S512x1024 .bf16) := by
    dsimp only [V, hostOps0]
    after_results
    rfl
  rw [e]
  exact drop_w j _ s

theorem V_w1 (s : Fin 512) (j : Fin 1024) : V m c main_v5 (ix2 s j) = A4 m c (ix3 0 s j) := by
  have e : V m c main_v5 = (truncf .bf16 (shapeCast S512x1024 (A4 m c) shapeCasts_S1x512x1024_S512x1024) bitsLt_bf16_f32 : FVec Ideal S512x1024 .bf16) := by
    dsimp only [V, hostOps0]
    after_results
    rfl
  rw [e]
  exact drop_w j _ s

theorem V_w2 (s : Fin 512) (j : Fin 1024) : V m c main_v7 (ix2 s j) = A5 m c (ix3 0 s j) := by
  have e : V m c main_v7 = (truncf .bf16 (shapeCast S512x1024 (A5 m c) shapeCasts_S1x512x1024_S512x1024) bitsLt_bf16_f32 : FVec Ideal S512x1024 .bf16) := by
    dsimp only [V, hostOps0]
    after_results
    rfl
  rw [e]
  exact drop_w j _ s

theorem V_d (R : Fin 16384) (k : Fin 1024) : V m c main_v23 (ix2 R k) = A8 m c (ix3 0 R k) := by
  have e : V m c main_v23 = (truncf .bf16 (shapeCast S16384x1024 (A8 m c) shapeCasts_S1x16384x1024_S16384x1024) bitsLt_bf16_f32 : FVec Ideal S16384x1024 .bf16) := by
    dsimp only [V, hostOps0]
    after_results
    rfl
  rw [e]
  exact drop_d R k _

theorem V_o (j k : Fin 1024) : V m c main_v25 (ix2 j k) = A7 m c (ix3 0 j k) := by
  have e : V m c main_v25 = (truncf .bf16 (shapeCast S1024x1024 (A7 m c) shapeCasts_S1x1024x1024_S1024x1024) bitsLt_bf16_f32 : FVec Ideal S1024x1024 .bf16) := by
    dsimp only [V, hostOps0]
    after_results
    rfl
  rw [e]
  exact drop_o k _ j

theorem V_y : V m c main_v21 = (truncf .bf16 (planes (projY (A0 m c) (A3 m c)) (projY (A1 m c) (A4 m c)) (projY (A2 m c) (A5 m c))) bitsLt_bf16_f32 : FVec Ideal S3x16384x1024 .bf16) := by
  dsimp only [V, hostOps0]
  after_results
  rfl

/-! ### The blocks a point reads -/

/-- The point that takes row `R`, and the row's place in its block. -/
def tp (R : Fin 16384) : Fin cfg0.N := ⟨R.val / 512, by have : cfg0.N = 32 := N_0; omega⟩
def rp (R : Fin 16384) : Fin 512 := ⟨R.val % 512, by omega⟩

theorem tp_rp (R : Fin 16384) : (tp R).val * 512 + 1 * (rp R).val = R.val := by
  show R.val / 512 * 512 + 1 * (R.val % 512) = R.val
  omega

theorem idx_in : ∀ t : Fin cfg0.N, (win0_0.index t 0 = t.val ∧ win0_0.index t 1 = 0) ∧ (∀ a, win0_1.index t a = 0) ∧ (win0_2.index t 0 = t.val ∧ win0_2.index t 1 = 0)
    ∧ (win0_3.index t 0 = 0 ∧ win0_3.index t 1 = t.val ∧ win0_3.index t 2 = 0) ∧ (∀ a, win0_4.index t a = 0) ∧ (∀ a, win0_5.index t a = 0) ∧ (∀ a, win0_6.index t a = 0) :=
  (by decide +kernel : ∀ t : Fin grid0.N, (win0_0.index t 0 = t.val ∧ win0_0.index t 1 = 0) ∧ (∀ a, win0_1.index t a = 0) ∧ (win0_2.index t 0 = t.val ∧ win0_2.index t 1 = 0)
    ∧ (win0_3.index t 0 = 0 ∧ win0_3.index t 1 = t.val ∧ win0_3.index t 2 = 0) ∧ (∀ a, win0_4.index t a = 0) ∧ (∀ a, win0_5.index t a = 0) ∧ (∀ a, win0_6.index t a = 0))

section blocks
variable (R : Fin 16384)

theorem blk0 (k : Fin 1024) : iblk m c 0 (tp R) (ix2 (rp R) k) = A8 m c (ix3 0 R k) := by
  rw [← V_d m c]
  show V m c main_v23 _ = V m c main_v23 _
  congr 1
  funext a
  apply Fin.ext
  match a with
  | ⟨0, _⟩ => show win0_0.index (tp R) 0 * 512 + 1 * (rp R).val = R.val; rw [(idx_in (tp R)).1.1, tp_rp]
  | ⟨1, _⟩ => show win0_0.index (tp R) 1 * 1024 + 1 * k.val = k.val; rw [(idx_in (tp R)).1.2]; omega

theorem blk1 (j k : Fin 1024) : iblk m c 1 (tp R) (ix2 j k) = A7 m c (ix3 0 j k) := by
  rw [← V_o m c]
  show V m c main_v25 _ = V m c main_v25 _
  congr 1
  funext a
  apply Fin.ext
  match a with
  | ⟨0, _⟩ => show win0_1.index (tp R) 0 * 1024 + 1 * j.val = j.val; rw [(idx_in (tp R)).2.1 0]; omega
  | ⟨1, _⟩ => show win0_1.index (tp R) 1 * 1024 + 1 * k.val = k.val; rw [(idx_in (tp R)).2.1 1]; omega

theorem blk2 (q : Fin 3072) : iblk m c 2 (tp R) (ix2 (rp R) q) = A6 m c (ix3 0 R q) := by
  rw [← V_g m c]
  show V m c main_v1 _ = V m c main_v1 _
  congr 1
  funext a
  apply Fin.ext
  match a with
  | ⟨0, _⟩ => show win0_2.index (tp R) 0 * 512 + 1 * (rp R).val = R.val; rw [(idx_in (tp R)).2.2.1.1, tp_rp]
  | ⟨1, _⟩ => show win0_2.index (tp R) 1 * 3072 + 1 * q.val = q.val; rw [(idx_in (tp R)).2.2.1.2]; omega

theorem blk3 (i : Fin 3) (j : Fin 1024) : iblk m c 3 (tp R) (ix3 i (rp R) j)
    = planes (projY (A0 m c) (A3 m c)) (projY (A1 m c) (A4 m c)) (projY (A2 m c) (A5 m c)) (ix3 i R j) := by
  refine Eq.trans ?_ (congrFun (V_y m c) (ix3 i R j))
  show V m c main_v21 _ = V m c main_v21 _
  congr 1
  funext a
  apply Fin.ext
  match a with
  | ⟨0, _⟩ => show win0_3.index (tp R) 0 * 3 + 1 * i.val = i.val; rw [(idx_in (tp R)).2.2.2.1.1]; omega
  | ⟨1, _⟩ => show win0_3.index (tp R) 1 * 512 + 1 * (rp R).val = R.val; rw [(idx_in (tp R)).2.2.2.1.2.1, tp_rp]
  | ⟨2, _⟩ => show win0_3.index (tp R) 2 * 1024 + 1 * j.val = j.val; rw [(idx_in (tp R)).2.2.2.1.2.2]; omega

theorem blk4 (s : Fin 512) (j : Fin 1024) : iblk m c 4 (tp R) (ix2 s j) = A3 m c (ix3 0 s j) := by
  rw [← V_w0 m c]
  show V m c main_v3 _ = V m c main_v3 _
  congr 1
  funext a
  apply Fin.ext
  match a with
  | ⟨0, _⟩ => show win0_4.index (tp R) 0 * 512 + 1 * s.val = s.val; rw [(idx_in (tp R)).2.2.2.2.1 0]; omega
  | ⟨1, _⟩ => show win0_4.index (tp R) 1 * 1024 + 1 * j.val = j.val; rw [(idx_in (tp R)).2.2.2.2.1 1]; omega

theorem blk5 (s : Fin 512) (j : Fin 1024) : iblk m c 5 (tp R) (ix2 s j) = A4 m c (ix3 0 s j) := by
  rw [← V_w1 m c]
  show V m c main_v5 _ = V m c main_v5 _
  congr 1
  funext a
  apply Fin.ext
  match a with
  | ⟨0, _⟩ => show win0_5.index (tp R) 0 * 512 + 1 * s.val = s.val; rw [(idx_in (tp R)).2.2.2.2.2.1 0]; omega
  | ⟨1, _⟩ => show win0_5.index (tp R) 1 * 1024 + 1 * j.val = j.val; rw [(idx_in (tp R)).2.2.2.2.2.1 1]; omega

theorem blk6 (s : Fin 512) (j : Fin 1024) : iblk m c 6 (tp R) (ix2 s j) = A5 m c (ix3 0 s j) := by
  rw [← V_w2 m c]
  show V m c main_v7 _ = V m c main_v7 _
  congr 1
  funext a
  apply Fin.ext
  match a with
  | ⟨0, _⟩ => show win0_6.index (tp R) 0 * 512 + 1 * s.val = s.val; rw [(idx_in (tp R)).2.2.2.2.2.2 0]; omega
  | ⟨1, _⟩ => show win0_6.index (tp R) 1 * 1024 + 1 * j.val = j.val; rw [(idx_in (tp R)).2.2.2.2.2.2 1]; omega

/-! ### What a point computes for a branch whose gate columns are `p` -/

theorem dv_block (j : Fin 1024) : k0_pay2 (iblk m c 0 (tp R)) (iblk m c 1 (tp R)) (ix2 (rp R) j) = dv (A7 m c) (A8 m c) R j := by
  rw [pay2_apply]
  exact Finset.sum_congr rfl fun k _ => by rw [blk0, blk1]

/-- The gate's columns of branch `i`, as the point reads them. -/
def IsGate (i : Fin 3) (p : Vec Ideal S512x1024 .bf16) : Prop := ∀ j : Fin 1024, Ideal.logistic (p (ix2 (rp R) j)) = sg (A6 m c) i R j

variable {R}

theorem dy_block {i : Fin 3} {p : Vec Ideal S512x1024 .bf16} (hp : IsGate m c R i p) (j : Fin 1024) :
    k0_pay4 (iblk m c 0 (tp R)) (iblk m c 1 (tp R)) p (ix2 (rp R) j) = sg (A6 m c) i R j * dv (A7 m c) (A8 m c) R j := by
  rw [pay4_apply, dv_block, hp, mul_comm]

theorem do_block {i : Fin 3} {p : Vec Ideal S512x1024 .bf16} (hp : IsGate m c R i p) (w : Vec Ideal S512x1024 .bf16) (s : Fin 512) :
    k0_pay5 (iblk m c 0 (tp R)) (iblk m c 1 (tp R)) p w (ix2 (rp R) s) = ∑ j : Fin 1024, sg (A6 m c) i R j * dv (A7 m c) (A8 m c) R j * w (ix2 s j) := by
  rw [pay5_apply]
  exact Finset.sum_congr rfl fun j _ => by rw [dy_block m c hp]

theorem dg_block {i : Fin 3} {p : Vec Ideal S512x1024 .bf16} (hp : IsGate m c R i p) (y : Vec Ideal S1x512x1024 .bf16) (j : Fin 1024) :
    k0_pay6 (iblk m c 0 (tp R)) (iblk m c 1 (tp R)) p y (ix2 (rp R) j)
      = dv (A7 m c) (A8 m c) R j * y (ix3 0 (rp R) j) * (sg (A6 m c) i R j * (1 - sg (A6 m c) i R j)) := by
  rw [pay6_apply, dv_block, hp]

variable (R)

theorem gate0 : IsGate m c R 0 (View.ld (iblk m c 2 (tp R)) r0_2) := fun j => by
  rw [ld_cols _ 0 _ (rp R) j ⟨(0 : Fin 3).val * 1024 + j.val, by have := j.isLt; simp; omega⟩ (by simp), blk2, sg]

theorem gate1 : IsGate m c R 1 (View.ld (iblk m c 2 (tp R)) r0_5) := fun j => by
  rw [ld_cols _ 1024 _ (rp R) j ⟨(1 : Fin 3).val * 1024 + j.val, by have := j.isLt; simp; omega⟩ (by simp), blk2, sg]

theorem gate2 : IsGate m c R 2 (View.ld (iblk m c 2 (tp R)) r0_7) := fun j => by
  rw [ld_cols _ 2048 _ (rp R) j ⟨(2 : Fin 3).val * 1024 + j.val, by have := j.isLt; simp; omega⟩ (by simp), blk2, sg]

theorem y_0 (j : Fin 1024) : View.ld (iblk m c 3 (tp R)) r0_4 (ix3 0 (rp R) j) = yv (A0 m c) (A3 m c) R j := by
  rw [ld_plane _ 0 0 rfl, blk3, planes_0, projY_apply]

theorem y_1 (j : Fin 1024) : View.ld (iblk m c 3 (tp R)) r0_6 (ix3 0 (rp R) j) = yv (A1 m c) (A4 m c) R j := by
  rw [ld_plane _ 1 1 rfl, blk3, planes_1, projY_apply]

theorem y_2 (j : Fin 1024) : View.ld (iblk m c 3 (tp R)) r0_8 (ix3 0 (rp R) j) = yv (A2 m c) (A5 m c) R j := by
  rw [ld_plane _ 2 2 rfl, blk3, planes_2, projY_apply]

end blocks

end Cert.MergeIdeal.Hand
-- ==== Proof.MergeFinal.lean ====
/-
  The gradient of the gated merge: the seven arrays the kernel leaves are the `jax.vjp` reference's, the packed one on the
  gates' columns. The kernel writes those 3072 of its 8192 columns.
-/
module

public import proofs.«01_k».proof.Proof.MergeVal
public import Idealize.ShloMosaic.Lib.Pipeline.ClipFacts

@[expose] public section

set_option maxRecDepth 16384

noncomputable section

namespace Cert.MergeIdeal.Hand

open Cert.MergeIdeal Cert.MergeIdeal.Gen Idealize.ShloMosaic Idealize.ShloMosaic.TcCoe Idealize.SL.Sem
open Cert.MergeRefIdeal.Hand Cert.MergeRefIdeal.Read

variable (m : (ℓ : Loc nD τ sig) → Buf (Elt Ideal) ℓ) (c : Dev nD)

theorem idx_out : ∀ t : Fin cfg0.N, (win0_7.index t 0 = t.val ∧ win0_8.index t 0 = t.val ∧ win0_9.index t 0 = t.val ∧ win0_10.index t 0 = t.val
    ∧ win0_11.index t 0 = t.val ∧ win0_12.index t 0 = t.val ∧ win0_13.index t 0 = t.val) ∧ (win0_7.index t 1 = 0 ∧ win0_8.index t 1 = 0 ∧ win0_9.index t 1 = 0
    ∧ win0_10.index t 1 = 0 ∧ win0_11.index t 1 = 0 ∧ win0_12.index t 1 = 0 ∧ win0_13.index t 1 = 1) :=
  (by decide +kernel : ∀ t : Fin grid0.N, (win0_7.index t 0 = t.val ∧ win0_8.index t 0 = t.val ∧ win0_9.index t 0 = t.val ∧ win0_10.index t 0 = t.val
    ∧ win0_11.index t 0 = t.val ∧ win0_12.index t 0 = t.val ∧ win0_13.index t 0 = t.val) ∧ (win0_7.index t 1 = 0 ∧ win0_8.index t 1 = 0 ∧ win0_9.index t 1 = 0
    ∧ win0_10.index t 1 = 0 ∧ win0_11.index t 1 = 0 ∧ win0_12.index t 1 = 0 ∧ win0_13.index t 1 = 1))

/-- A block's element, in its array: an index with the block's place on each axis. -/
theorem ix2_of {A B : Nat} (i : (⟨2, ![A, B]⟩ : Shape).Idx) (R : Fin A) (q : Fin B) (h0 : (i 0).val = R.val) (h1 : (i 1).val = q.val) : i = ix2 R q := by
  funext a
  apply Fin.ext
  match a with
  | ⟨0, _⟩ => exact h0
  | ⟨1, _⟩ => exact h1

/-- The first branch's gated cotangent. -/
theorem final7 : (dats m 0 c).arrAt 7 cfg0.N = val_main_v53 (F := Ideal) (A6 m c) (A7 m c) (A8 m c) := by
  funext i
  obtain ⟨R, j, rfl⟩ : ∃ (R : Fin 16384) (j : Fin 1024), i = ix2 R j := ⟨i 0, i 1, (ix2_eta i).symm⟩
  have he : (((cfg0.win 7).blk (tp R)).view.emb (ix2 (rp R) j : S512x1024.Idx) : S16384x1024.Idx) = ix2 R j := ix2_of _ R j
    (by show win0_7.index (tp R) 0 * 512 + 1 * (rp R).val = R.val; rw [(idx_out (tp R)).1.1, tp_rp])
    (by show win0_7.index (tp R) 1 * 1024 + 1 * j.val = j.val; rw [(idx_out (tp R)).2.1]; omega)
  have e := congrFun (Value.blocks7 m c (tp R) (flush0_7 (tp R))) (ix2 (rp R) j : S512x1024.Idx)
  rw [Value.flushed7] at e
  refine (congrArg ((dats m 0 c).arrAt 7 cfg0.N) he.symm).trans (e.trans ?_)
  show out0_7 (iblk m c 0 (tp R)) (iblk m c 1 (tp R)) (iblk m c 2 (tp R)) (iblk m c 3 (tp R)) (iblk m c 4 (tp R)) (iblk m c 5 (tp R)) (iblk m c 6 (tp R)) (ix2 (rp R) j) = _
  unfold out0_7
  rw [View.canon_unit_zero hz]
  simp only [View.ld_unit_zero (S := S512x1024) hz, View.ld_unit_zero (S := S1024x1024) hz]
  exact (dy_block m c (gate0 m c R) j).trans (v53_apply _ _ _ R j).symm

/-- The second branch's. -/
theorem final8 : (dats m 0 c).arrAt 8 cfg0.N = val_main_v55 (F := Ideal) (A6 m c) (A7 m c) (A8 m c) := by
  funext i
  obtain ⟨R, j, rfl⟩ : ∃ (R : Fin 16384) (j : Fin 1024), i = ix2 R j := ⟨i 0, i 1, (ix2_eta i).symm⟩
  have he : (((cfg0.win 8).blk (tp R)).view.emb (ix2 (rp R) j : S512x1024.Idx) : S16384x1024.Idx) = ix2 R j := ix2_of _ R j
    (by show win0_8.index (tp R) 0 * 512 + 1 * (rp R).val = R.val; rw [(idx_out (tp R)).1.2.1, tp_rp])
    (by show win0_8.index (tp R) 1 * 1024 + 1 * j.val = j.val; rw [(idx_out (tp R)).2.2.1]; omega)
  have e := congrFun (Value.blocks8 m c (tp R) (flush0_8 (tp R))) (ix2 (rp R) j : S512x1024.Idx)
  rw [Value.flushed8] at e
  refine (congrArg ((dats m 0 c).arrAt 8 cfg0.N) he.symm).trans (e.trans ?_)
  show out0_8 (iblk m c 0 (tp R)) (iblk m c 1 (tp R)) (iblk m c 2 (tp R)) (iblk m c 3 (tp R)) (iblk m c 4 (tp R)) (iblk m c 5 (tp R)) (iblk m c 6 (tp R)) (ix2 (rp R) j) = _
  unfold out0_8
  rw [View.canon_unit_zero hz]
  unfold k0_pay17
  simp only [View.ld_unit_zero (S := S512x1024) hz, View.ld_unit_zero (S := S1024x1024) hz]
  exact (dy_block m c (gate1 m c R) j).trans (v55_apply _ _ _ R j).symm

/-- The third branch's. -/
theorem final9 : (dats m 0 c).arrAt 9 cfg0.N = val_main_v57 (F := Ideal) (A6 m c) (A7 m c) (A8 m c) := by
  funext i
  obtain ⟨R, j, rfl⟩ : ∃ (R : Fin 16384) (j : Fin 1024), i = ix2 R j := ⟨i 0, i 1, (ix2_eta i).symm⟩
  have he : (((cfg0.win 9).blk (tp R)).view.emb (ix2 (rp R) j : S512x1024.Idx) : S16384x1024.Idx) = ix2 R j := ix2_of _ R j
    (by show win0_9.index (tp R) 0 * 512 + 1 * (rp R).val = R.val; rw [(idx_out (tp R)).1.2.2.1, tp_rp])
    (by show win0_9.index (tp R) 1 * 1024 + 1 * j.val = j.val; rw [(idx_out (tp R)).2.2.2.1]; omega)
  have e := congrFun (Value.blocks9 m c (tp R) (flush0_9 (tp R))) (ix2 (rp R) j : S512x1024.Idx)
  rw [Value.flushed9] at e
  refine (congrArg ((dats m 0 c).arrAt 9 cfg0.N) he.symm).trans (e.trans ?_)
  show out0_9 (iblk m c 0 (tp R)) (iblk m c 1 (tp R)) (iblk m c 2 (tp R)) (iblk m c 3 (tp R)) (iblk m c 4 (tp R)) (iblk m c 5 (tp R)) (iblk m c 6 (tp R)) (ix2 (rp R) j) = _
  unfold out0_9
  rw [View.canon_unit_zero hz]
  unfold k0_pay16
  simp only [View.ld_unit_zero (S := S512x1024) hz, View.ld_unit_zero (S := S1024x1024) hz]
  exact (dy_block m c (gate2 m c R) j).trans (v57_apply _ _ _ R j).symm

/-- The first branch's output cotangent. -/
theorem final10 : (dats m 0 c).arrAt 10 cfg0.N = val_main_v58 (F := Ideal) (A3 m c) (A6 m c) (A7 m c) (A8 m c) := by
  funext i
  obtain ⟨R, s, rfl⟩ : ∃ (R : Fin 16384) (s : Fin 512), i = ix2 R s := ⟨i 0, i 1, (ix2_eta i).symm⟩
  have he : (((cfg0.win 10).blk (tp R)).view.emb (ix2 (rp R) s : S512x512.Idx) : S16384x512.Idx) = ix2 R s := ix2_of _ R s
    (by show win0_10.index (tp R) 0 * 512 + 1 * (rp R).val = R.val; rw [(idx_out (tp R)).1.2.2.2.1, tp_rp])
    (by show win0_10.index (tp R) 1 * 512 + 1 * s.val = s.val; rw [(idx_out (tp R)).2.2.2.2.1]; omega)
  have e := congrFun (Value.blocks10 m c (tp R) (flush0_10 (tp R))) (ix2 (rp R) s : S512x512.Idx)
  rw [Value.flushed10] at e
  refine (congrArg ((dats m 0 c).arrAt 10 cfg0.N) he.symm).trans (e.trans ?_)
  show out0_10 (iblk m c 0 (tp R)) (iblk m c 1 (tp R)) (iblk m c 2 (tp R)) (iblk m c 3 (tp R)) (iblk m c 4 (tp R)) (iblk m c 5 (tp R)) (iblk m c 6 (tp R)) (ix2 (rp R) s) = _
  unfold out0_10
  rw [View.canon_unit_zero hz]
  simp only [View.ld_unit_zero (S := S512x1024) hz, View.ld_unit_zero (S := S1024x1024) hz]
  refine (do_block m c (gate0 m c R) _ s).trans (Eq.trans ?_ (v58_apply _ _ _ _ R s).symm)
  exact Finset.sum_congr rfl fun j _ => by rw [blk4, v53_apply]

/-- The second branch's. -/
theorem final11 : (dats m 0 c).arrAt 11 cfg0.N = val_main_v59 (F := Ideal) (A4 m c) (A6 m c) (A7 m c) (A8 m c) := by
  funext i
  obtain ⟨R, s, rfl⟩ : ∃ (R : Fin 16384) (s : Fin 512), i = ix2 R s := ⟨i 0, i 1, (ix2_eta i).symm⟩
  have he : (((cfg0.win 11).blk (tp R)).view.emb (ix2 (rp R) s : S512x512.Idx) : S16384x512.Idx) = ix2 R s := ix2_of _ R s
    (by show win0_11.index (tp R) 0 * 512 + 1 * (rp R).val = R.val; rw [(idx_out (tp R)).1.2.2.2.2.1, tp_rp])
    (by show win0_11.index (tp R) 1 * 512 + 1 * s.val = s.val; rw [(idx_out (tp R)).2.2.2.2.2.1]; omega)
  have e := congrFun (Value.blocks11 m c (tp R) (flush0_11 (tp R))) (ix2 (rp R) s : S512x512.Idx)
  rw [Value.flushed11] at e
  refine (congrArg ((dats m 0 c).arrAt 11 cfg0.N) he.symm).trans (e.trans ?_)
  show out0_11 (iblk m c 0 (tp R)) (iblk m c 1 (tp R)) (iblk m c 2 (tp R)) (iblk m c 3 (tp R)) (iblk m c 4 (tp R)) (iblk m c 5 (tp R)) (iblk m c 6 (tp R)) (ix2 (rp R) s) = _
  unfold out0_11
  rw [View.canon_unit_zero hz]
  unfold k0_pay17
  simp only [View.ld_unit_zero (S := S512x1024) hz, View.ld_unit_zero (S := S1024x1024) hz]
  refine (do_block m c (gate1 m c R) _ s).trans (Eq.trans ?_ (v59_apply _ _ _ _ R s).symm)
  exact Finset.sum_congr rfl fun j _ => by rw [blk5, v55_apply]

/-- The third branch's. -/
theorem final12 : (dats m 0 c).arrAt 12 cfg0.N = val_main_v60 (F := Ideal) (A5 m c) (A6 m c) (A7 m c) (A8 m c) := by
  funext i
  obtain ⟨R, s, rfl⟩ : ∃ (R : Fin 16384) (s : Fin 512), i = ix2 R s := ⟨i 0, i 1, (ix2_eta i).symm⟩
  have he : (((cfg0.win 12).blk (tp R)).view.emb (ix2 (rp R) s : S512x512.Idx) : S16384x512.Idx) = ix2 R s := ix2_of _ R s
    (by show win0_12.index (tp R) 0 * 512 + 1 * (rp R).val = R.val; rw [(idx_out (tp R)).1.2.2.2.2.2.1, tp_rp])
    (by show win0_12.index (tp R) 1 * 512 + 1 * s.val = s.val; rw [(idx_out (tp R)).2.2.2.2.2.2.1]; omega)
  have e := congrFun (Value.blocks12 m c (tp R) (flush0_12 (tp R))) (ix2 (rp R) s : S512x512.Idx)
  rw [Value.flushed12] at e
  refine (congrArg ((dats m 0 c).arrAt 12 cfg0.N) he.symm).trans (e.trans ?_)
  show out0_12 (iblk m c 0 (tp R)) (iblk m c 1 (tp R)) (iblk m c 2 (tp R)) (iblk m c 3 (tp R)) (iblk m c 4 (tp R)) (iblk m c 5 (tp R)) (iblk m c 6 (tp R)) (ix2 (rp R) s) = _
  unfold out0_12
  rw [View.canon_unit_zero hz]
  unfold k0_pay16
  simp only [View.ld_unit_zero (S := S512x1024) hz, View.ld_unit_zero (S := S1024x1024) hz]
  refine (do_block m c (gate2 m c R) _ s).trans (Eq.trans ?_ (v60_apply _ _ _ _ R s).symm)
  exact Finset.sum_congr rfl fun j _ => by rw [blk6, v57_apply]

/-- The gates' cotangent of branch `i`, by row and column. -/
def G (R : Fin 16384) (i : Fin 3) (j : Fin 1024) : EReal :=
  (match i with
    | 0 => dv (A7 m c) (A8 m c) R j * yv (A0 m c) (A3 m c) R j
    | 1 => dv (A7 m c) (A8 m c) R j * yv (A1 m c) (A4 m c) R j
    | 2 => dv (A7 m c) (A8 m c) R j * yv (A2 m c) (A5 m c) R j) * (sg (A6 m c) i R j * (1 - sg (A6 m c) i R j))

/-- Column `j` of gate `i` in the packed array. -/
abbrev gcol (i : Fin 3) (j : Fin 1024) : Fin 8192 := ⟨3072 + (i.val * 1024 + j.val), by omega⟩

/-- The reference's packed array on the gates' columns. -/
theorem ref_gate (R : Fin 16384) (i : Fin 3) (j : Fin 1024) :
    val_main_v51 (F := Ideal) (A0 m c) (A1 m c) (A2 m c) (A3 m c) (A4 m c) (A5 m c) (A6 m c) (A7 m c) (A8 m c) (ix2 R (gcol i j)) = G m c R i j := by
  rw [v51_apply]
  match i with
  | 0 => rw [v43_0]; rfl
  | 1 => rw [v43_1]; rfl
  | 2 => rw [v43_2]; rfl

/-- One of three blocks of columns. -/
def third (p0 p1 p2 : Vec Ideal S512x1024 .bf16) (i : Fin 3) : Vec Ideal S512x1024 .bf16 := match i with | 0 => p0 | 1 => p1 | 2 => p2

theorem third_at (p0 p1 p2 : Vec Ideal S512x1024 .bf16) (i : Fin 3) (x : S512x1024.Idx) (r : Fin 512) (k : Fin 3) (j : Fin 1024) (hk : k = i) (h0 : r.val = (x 0).val)
    (h1 : j.val = (x 1).val) : third p0 p1 p2 i x = third p0 p1 p2 k (ix2 r j) := by
  rw [hk, ← ix2_of x r j h0.symm h1.symm]

/-- A block written by its three thirds. -/
theorem canon3 (p0 p1 p2 : Vec Ideal S512x1024 .bf16) (r : Fin 512) (i : Fin 3) (j : Fin 1024) :
    View.canon (Val := Elt Ideal) (s := S512x3072) (e := .bf16) [⟨r0_7, p2⟩, ⟨r0_5, p1⟩, ⟨r0_2, p0⟩] (ix2 r ⟨i.val * 1024 + j.val, by omega⟩) = third p0 p1 p2 i (ix2 r j) := by
  have hb : ∀ y : S512x3072.Idx, (y 1).val < 3072 := fun y => (y 1).isLt
  refine (View.canon_apply_of_pieces (fun y => third p0 p1 p2 ⟨(y 1).val / 1024, by have := hb y; omega⟩ (ix2 ⟨(y 0).val, (y 0).isLt⟩ ⟨(y 1).val % 1024, by omega⟩)) _ ?_ _
    (cover0_13 _ _ _ _)).trans ?_
  · intro p hp
    simp only [List.mem_cons, List.not_mem_nil, or_false] at hp
    rcases hp with rfl | rfl | rfl
    · intro x
      have hx : (x 1).val < 1024 := (x 1).isLt
      have e0 : ((r0_7.emb x) 0).val = (x 0).val := by show 0 + 1 * (x 0).val = _; omega
      have e1 : ((r0_7.emb x) 1).val = 2048 + (x 1).val := by show 2048 + 1 * (x 1).val = _; omega
      exact third_at p0 p1 p2 2 x _ _ _ (Fin.ext (by show ((r0_7.emb x) 1).val / 1024 = 2; omega)) e0 (by show ((r0_7.emb x) 1).val % 1024 = _; omega)
    · intro x
      have hx : (x 1).val < 1024 := (x 1).isLt
      have e0 : ((r0_5.emb x) 0).val = (x 0).val := by show 0 + 1 * (x 0).val = _; omega
      have e1 : ((r0_5.emb x) 1).val = 1024 + (x 1).val := by show 1024 + 1 * (x 1).val = _; omega
      exact third_at p0 p1 p2 1 x _ _ _ (Fin.ext (by show ((r0_5.emb x) 1).val / 1024 = 1; omega)) e0 (by show ((r0_5.emb x) 1).val % 1024 = _; omega)
    · intro x
      have hx : (x 1).val < 1024 := (x 1).isLt
      have e0 : ((r0_2.emb x) 0).val = (x 0).val := by show 0 + 1 * (x 0).val = _; omega
      have e1 : ((r0_2.emb x) 1).val = (x 1).val := by show 0 + 1 * (x 1).val = _; omega
      exact third_at p0 p1 p2 0 x _ _ _ (Fin.ext (by show ((r0_2.emb x) 1).val / 1024 = 0; omega)) e0 (by show ((r0_2.emb x) 1).val % 1024 = _; omega)
  · exact (third_at p0 p1 p2 i (ix2 r j) _ _ _ (Fin.ext (by show (i.val * 1024 + j.val) / 1024 = i.val; omega)) rfl (by show (i.val * 1024 + j.val) % 1024 = j.val; omega)).symm

/-- The kernel's block of gate columns. -/
theorem out13_apply (R : Fin 16384) (i : Fin 3) (j : Fin 1024) :
    out0_13 (iblk m c 0 (tp R)) (iblk m c 1 (tp R)) (iblk m c 2 (tp R)) (iblk m c 3 (tp R)) (iblk m c 4 (tp R)) (iblk m c 5 (tp R)) (iblk m c 6 (tp R)) (ix2 (rp R) ⟨i.val * 1024 + j.val, by omega⟩) = G m c R i j := by
  unfold out0_13 k0_pay16
  simp only [View.ld_unit_zero (S := S512x1024) hz, View.ld_unit_zero (S := S1024x1024) hz]
  refine (canon3 _ _ _ (rp R) i j).trans ?_
  match i with
  | 0 => exact (dg_block m c (gate0 m c R) _ j).trans (by rw [y_0]; rfl)
  | 1 => exact (dg_block m c (gate1 m c R) _ j).trans (by rw [y_1]; rfl)
  | 2 => exact (dg_block m c (gate2 m c R) _ j).trans (by rw [y_2]; rfl)

theorem cover13 (R : Fin 16384) (k : Fin 3) (j : Fin 1024) : (ix2 R (gcol k j) : S16384x8192.Idx) ∈ ((cfg0.win 13).blk (tp R)).view.set := by
  show (ix2 R (gcol k j) : S16384x8192.Idx) ∈ ((View.whole main_v26_6).slice (win0_13.rect (tp R))).set
  rw [View.set_slice_whole, Rect.mem_set_unit]
  have hr := tp_rp R
  intro a
  match a with
  | ⟨0, _⟩ =>
    show win0_13.index (tp R) 0 * 512 ≤ R.val ∧ R.val < win0_13.index (tp R) 0 * 512 + (Pipeline.Clip.of (win0_13.index (tp R) 0) 512 16384).extent 512
    rw [(idx_out (tp R)).1.2.2.2.2.2.2, Pipeline.Clip.extent_of_inb (by omega)]
    omega
  | ⟨1, _⟩ =>
    show win0_13.index (tp R) 1 * 3072 ≤ 3072 + (k.val * 1024 + j.val) ∧ 3072 + (k.val * 1024 + j.val) < win0_13.index (tp R) 1 * 3072 + (Pipeline.Clip.of (win0_13.index (tp R) 1) 3072 8192).extent 3072
    rw [(idx_out (tp R)).2.2.2.2.2.2.2, Pipeline.Clip.extent_of_inb (by omega)]
    omega

/-- The packed array on the gates' columns. -/
theorem final13 (i : S16384x8192.Idx) (h0 : 3072 ≤ (i 1).val) (h1 : (i 1).val < 6144) : (dats m 0 c).arrAt 13 cfg0.N i
    = val_main_v51 (F := Ideal) (A0 m c) (A1 m c) (A2 m c) (A3 m c) (A4 m c) (A5 m c) (A6 m c) (A7 m c) (A8 m c) i := by
  obtain ⟨R, q, rfl⟩ : ∃ (R : Fin 16384) (q : Fin 8192), i = ix2 R q := ⟨i 0, i 1, (ix2_eta i).symm⟩
  change 3072 ≤ q.val at h0
  change q.val < 6144 at h1
  obtain ⟨k, j, rfl⟩ : ∃ (k : Fin 3) (j : Fin 1024), q = gcol k j :=
    ⟨⟨(q.val - 3072) / 1024, by omega⟩, ⟨(q.val - 3072) % 1024, by omega⟩, Fin.ext (by show q.val = 3072 + ((q.val - 3072) / 1024 * 1024 + (q.val - 3072) % 1024); omega)⟩
  rw [ref_gate]
  obtain ⟨y, -, hy⟩ := Finset.mem_map.mp (cover13 R k j)
  have y0 : win0_13.index (tp R) 0 * 512 + 1 * (y 0).val = R.val := congrArg (fun i : S16384x8192.Idx => (i 0).val) hy
  have y1 : win0_13.index (tp R) 1 * 3072 + 1 * (y 1).val = 3072 + (k.val * 1024 + j.val) := congrArg (fun i : S16384x8192.Idx => (i 1).val) hy
  rw [(idx_out (tp R)).1.2.2.2.2.2.2] at y0
  rw [(idx_out (tp R)).2.2.2.2.2.2.2] at y1
  have hr := tp_rp R
  have e := congrFun (Value.blocks13 m c (tp R) (flush0_13 (tp R))) y
  rw [Value.flushed13] at e
  have e' : (dats m 0 c).arrAt 13 cfg0.N (((cfg0.win 13).blk (tp R)).view.emb y) = out0_13 (iblk m c 0 (tp R)) (iblk m c 1 (tp R)) (iblk m c 2 (tp R)) (iblk m c 3 (tp R)) (iblk m c 4 (tp R)) (iblk m c 5 (tp R)) (iblk m c 6 (tp R)) (ix2 (rp R) ⟨k.val * 1024 + j.val, by omega⟩) := by
    refine Eq.trans e ?_
    refine congrArg (out0_13 (iblk m c 0 (tp R)) (iblk m c 1 (tp R)) (iblk m c 2 (tp R)) (iblk m c 3 (tp R)) (iblk m c 4 (tp R)) (iblk m c 5 (tp R)) (iblk m c 6 (tp R))) (ix2_of ((cfg0.win 13).xinj (grid0.coords (tp R)) y) _ _ ?_ ?_)
    · show (y 0).val = (rp R).val
      omega
    · show (y 1).val = k.val * 1024 + j.val
      omega
  have hy' : ((cfg0.win 13).blk (tp R)).view.emb y = (ix2 R (gcol k j) : S16384x8192.Idx) := hy
  rw [hy'] at e'
  exact e'.trans (out13_apply m c R k j)

end Cert.MergeIdeal.Hand
-- ==== Proof.MergeClaims.lean ====
/-
  The claims about the gradient of the gated merge: the frames, and the kernel's seven results against the reference's, the
  packed one on the gates' columns.
-/
module

public import proofs.«01_k».proof.Defs
public import proofs.«01_k».proof.Proof.MergeFinal
public import proofs.«01_k».proof.Proof.Gen.Merge.Frame
public import proofs.«01_k».proof.Proof.Gen.MergeRefIdeal.Run
public import Idealize.ShloMosaic.Lib.Quiescent

@[expose] public section

set_option maxRecDepth 16384

noncomputable section

namespace Cert.MergeClaims

open Idealize.ShloMosaic Idealize.ShloMosaic.TcCoe Idealize.SL.Sem
open Cert.MergeIdeal.Hand (A0 A1 A2 A3 A4 A5 A6 A7 A8)
open Cert.MergeRefIdeal.Read

local instance : Cert.Merge.Facts := Cert.Merge.Gen.facts
local instance : Cert.MergeIdeal.Facts := Cert.MergeIdeal.Gen.facts
local instance : Cert.MergeRefIdeal.Facts := Cert.MergeRefIdeal.Gen.facts

theorem facts : Cert.On_gate_columns.Facts where
  bcast_S_S16384x1024 := by decide
  bcast_S_S16384x512 := by decide
  bcast_S_S16384x8192 := by decide

local instance : Cert.On_gate_columns.Facts := facts

theorem frame : Cert.quiescent_Merge := fun m g _ => Cert.Merge.Gen.frame m g

theorem frameIdeal : Cert.quiescent_MergeIdeal := fun m g _ => Cert.MergeIdeal.Gen.frame m g

theorem frameRef : Cert.quiescent_MergeRefIdeal := fun m g _ =>
  (θ_run Cert.MergeRefIdeal.defs _ _).mono (fun r h => ⟨fun c => (h c).2.2.2.2.2.2.2, sem_eq_zero_of_no_sems (by decide) r.2⟩)
    (Cert.MergeRefIdeal.Value.run m g)

theorem gate_word : ∀ q : Fin 8192, IntOp.andi (IntOp.cmpi .sge (BitVec.ofNat 32 q.val) 3072#32) (IntOp.cmpi .slt (BitVec.ofNat 32 q.val) 6144#32) = 1#1 →
    3072 ≤ q.val ∧ q.val < 6144 := by
  decide +kernel

/-- The columns the claim is about: the three gates'. -/
theorem gate_column (i : (⟨2, ![16384, 8192]⟩ : Shape).Idx)
    (h : andi (cmpi .sge (iotaInDim (⟨2, ![16384, 8192]⟩ : Shape) 32 1) (broadcastInDim _ ![] facts.bcast_S_S16384x8192 (constantI Cert.On_gate_columns.S_ 32 3072#32)))
      (cmpi .slt (iotaInDim (⟨2, ![16384, 8192]⟩ : Shape) 32 1) (broadcastInDim _ ![] facts.bcast_S_S16384x8192 (constantI Cert.On_gate_columns.S_ 32 6144#32))) i = 1) :
    3072 ≤ (i 1).val ∧ (i 1).val < 6144 := by
  exact gate_word ⟨(i 1).val, (i 1).isLt⟩ h

theorem value : Cert.algebraic_MergeIdeal_MergeRefIdeal_on_gate_columns := fun m g m' g' _ hagree =>
  ⟨fun c => val_main_v53 (F := Ideal) (A6 m c) (A7 m c) (A8 m c), fun c => val_main_v55 (F := Ideal) (A6 m c) (A7 m c) (A8 m c),
    fun c => val_main_v57 (F := Ideal) (A6 m c) (A7 m c) (A8 m c), fun c => val_main_v58 (F := Ideal) (A3 m c) (A6 m c) (A7 m c) (A8 m c),
    fun c => val_main_v59 (F := Ideal) (A4 m c) (A6 m c) (A7 m c) (A8 m c), fun c => val_main_v60 (F := Ideal) (A5 m c) (A6 m c) (A7 m c) (A8 m c),
    fun c => val_main_v51 (F := Ideal) (A0 m c) (A1 m c) (A2 m c) (A3 m c) (A4 m c) (A5 m c) (A6 m c) (A7 m c) (A8 m c),
    (θ_run Cert.MergeIdeal.defs _ _).mono (fun _ h c => ⟨fun i _ => congrFun ((h c).1.trans (Cert.MergeIdeal.Hand.final7 m c)) i,
        fun i _ => congrFun ((h c).2.1.trans (Cert.MergeIdeal.Hand.final8 m c)) i,
        fun i _ => congrFun ((h c).2.2.1.trans (Cert.MergeIdeal.Hand.final9 m c)) i,
        fun i _ => congrFun ((h c).2.2.2.1.trans (Cert.MergeIdeal.Hand.final10 m c)) i,
        fun i _ => congrFun ((h c).2.2.2.2.1.trans (Cert.MergeIdeal.Hand.final11 m c)) i,
        fun i _ => congrFun ((h c).2.2.2.2.2.1.trans (Cert.MergeIdeal.Hand.final12 m c)) i,
        fun i hi => (congrFun (h c).2.2.2.2.2.2.1 i).trans (Cert.MergeIdeal.Hand.final13 m c i (gate_column i hi).1 (gate_column i hi).2),
        (h c).2.2.2.2.2.2.2⟩)
      (Cert.MergeIdeal.Value.run_blocks m g),
    (θ_run Cert.MergeRefIdeal.defs _ _).mono (fun _ h c => ⟨fun i _ => congrFun ((h c).1.trans (by
          rw [val_main_v53_eq]
          rw [(hagree c).2.2.2.2.2.2.1, (hagree c).2.2.2.2.2.2.2.1, (hagree c).2.2.2.2.2.2.2.2])) i,
        fun i _ => congrFun ((h c).2.1.trans (by
          rw [val_main_v55_eq]
          rw [(hagree c).2.2.2.2.2.2.1, (hagree c).2.2.2.2.2.2.2.1, (hagree c).2.2.2.2.2.2.2.2])) i,
        fun i _ => congrFun ((h c).2.2.1.trans (by
          rw [val_main_v57_eq]
          rw [(hagree c).2.2.2.2.2.2.1, (hagree c).2.2.2.2.2.2.2.1, (hagree c).2.2.2.2.2.2.2.2])) i,
        fun i _ => congrFun ((h c).2.2.2.1.trans (by
          rw [val_main_v58_eq]
          rw [(hagree c).2.2.2.1, (hagree c).2.2.2.2.2.2.1, (hagree c).2.2.2.2.2.2.2.1, (hagree c).2.2.2.2.2.2.2.2])) i,
        fun i _ => congrFun ((h c).2.2.2.2.1.trans (by
          rw [val_main_v59_eq]
          rw [(hagree c).2.2.2.2.1, (hagree c).2.2.2.2.2.2.1, (hagree c).2.2.2.2.2.2.2.1, (hagree c).2.2.2.2.2.2.2.2])) i,
        fun i _ => congrFun ((h c).2.2.2.2.2.1.trans (by
          rw [val_main_v60_eq]
          rw [(hagree c).2.2.2.2.2.1, (hagree c).2.2.2.2.2.2.1, (hagree c).2.2.2.2.2.2.2.1, (hagree c).2.2.2.2.2.2.2.2])) i,
        fun i _ => congrFun ((h c).2.2.2.2.2.2.1.trans (by
          rw [val_main_v51_eq]
          rw [(hagree c).1, (hagree c).2.1, (hagree c).2.2.1, (hagree c).2.2.2.1, (hagree c).2.2.2.2.1, (hagree c).2.2.2.2.2.1, (hagree c).2.2.2.2.2.2.1,
            (hagree c).2.2.2.2.2.2.2.1, (hagree c).2.2.2.2.2.2.2.2])) i,
        (h c).2.2.2.2.2.2.2⟩)
      (Cert.MergeRefIdeal.Value.run m' g')⟩

end Cert.MergeClaims
-- ==== Proof.lean ====
/-
  The claims of this certificate, program by program: each program's frames and values are proved in `Proof/<Name>Claims.lean`.
-/
module

public import proofs.«01_k».proof.Defs
public import proofs.«01_k».proof.Proof.DactClaims
public import proofs.«01_k».proof.Proof.XattClaims
public import proofs.«01_k».proof.Proof.DffnClaims
public import proofs.«01_k».proof.Proof.FoxbClaims
public import proofs.«01_k».proof.Proof.DmixClaims
public import proofs.«01_k».proof.Proof.FdelClaims
public import proofs.«01_k».proof.Proof.LossClaims
public import proofs.«01_k».proof.Proof.FoxgClaims
public import proofs.«01_k».proof.Proof.MemkvClaims
public import proofs.«01_k».proof.Proof.MergeClaims

@[expose] public section

noncomputable section

namespace Cert.Proof

theorem claim : Cert.Claim :=
  ⟨Cert.Dact.Gen.facts, Cert.DactIdeal.Gen.facts, Cert.DactRefIdeal.Gen.facts, Cert.Xatt.Gen.facts, Cert.XattIdeal.Gen.facts, Cert.XattRefIdeal.Gen.facts, Cert.Dffn.Gen.facts, Cert.DffnIdeal.Gen.facts, Cert.DffnRefIdeal.Gen.facts, Cert.Foxb.Gen.facts, Cert.FoxbIdeal.Gen.facts, Cert.FoxbRefIdeal.Gen.facts, Cert.Dmix.Gen.facts, Cert.DmixIdeal.Gen.facts, Cert.DmixRefIdeal.Gen.facts, Cert.Fdel.Gen.facts, Cert.FdelIdeal.Gen.facts, Cert.FdelRefIdeal.Gen.facts, Cert.Loss.Gen.facts, Cert.LossIdeal.Gen.facts, Cert.LossRefIdeal.Gen.facts, Cert.Foxg.Gen.facts, Cert.FoxgIdeal.Gen.facts, Cert.FoxgRefIdeal.Gen.facts, Cert.Memkv.Gen.facts, Cert.MemkvIdeal.Gen.facts, Cert.MemkvRefIdeal.Gen.facts, Cert.Merge.Gen.facts, Cert.MergeIdeal.Gen.facts, Cert.MergeRefIdeal.Gen.facts, Cert.XattClaims.pre, Cert.DffnClaims.pre, Cert.FoxbClaims.pre, Cert.DmixClaims.pre, Cert.LossClaims.pre, Cert.FoxgClaims.pre, Cert.MergeClaims.facts,
    Cert.DactClaims.frame,
    Cert.DactClaims.frameIdeal,
    Cert.DactClaims.frameRef,
    Cert.XattClaims.frame,
    Cert.XattClaims.frameIdeal,
    fun m g _ => Cert.XattClaims.frameIdeal m g trivial,
    Cert.XattClaims.frameRef,
    fun m g _ => Cert.XattClaims.frameRef m g trivial,
    Cert.DffnClaims.frame,
    Cert.DffnClaims.frameIdeal,
    fun m g _ => Cert.DffnClaims.frameIdeal m g trivial,
    Cert.DffnClaims.frameRef,
    fun m g _ => Cert.DffnClaims.frameRef m g trivial,
    Cert.FoxbClaims.frame,
    Cert.FoxbClaims.frameIdeal,
    fun m g _ => Cert.FoxbClaims.frameIdeal m g trivial,
    Cert.FoxbClaims.frameRef,
    fun m g _ => Cert.FoxbClaims.frameRef m g trivial,
    Cert.DmixClaims.frame,
    Cert.DmixClaims.frameIdeal,
    fun m g _ => Cert.DmixClaims.frameIdeal m g trivial,
    Cert.DmixClaims.frameRef,
    fun m g _ => Cert.DmixClaims.frameRef m g trivial,
    Cert.FdelClaims.frame,
    Cert.FdelClaims.frameIdeal,
    Cert.FdelClaims.frameRef,
    Cert.LossClaims.frame,
    Cert.LossClaims.frameIdeal,
    fun m g _ => Cert.LossClaims.frameIdeal m g trivial,
    Cert.LossClaims.frameRef,
    fun m g _ => Cert.LossClaims.frameRef m g trivial,
    Cert.FoxgClaims.frame,
    Cert.FoxgClaims.frameIdeal,
    fun m g _ => Cert.FoxgClaims.frameIdeal m g trivial,
    Cert.FoxgClaims.frameRef,
    fun m g _ => Cert.FoxgClaims.frameRef m g trivial,
    Cert.MemkvClaims.frame,
    Cert.MemkvClaims.frameIdeal,
    Cert.MemkvClaims.frameRef,
    Cert.MergeClaims.frame,
    Cert.MergeClaims.frameIdeal,
    Cert.MergeClaims.frameRef,
    trivial,
    Cert.DactClaims.value,
    trivial,
    Cert.XattClaims.value,
    trivial,
    Cert.DffnClaims.value,
    trivial,
    Cert.FoxbClaims.value,
    trivial,
    Cert.DmixClaims.value,
    trivial,
    Cert.FdelClaims.value,
    trivial,
    Cert.LossClaims.value,
    trivial,
    Cert.FoxgClaims.value,
    trivial,
    Cert.MemkvClaims.value,
    trivial,
    Cert.MergeClaims.value⟩

end Cert.Proof

end
